-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_qk [hPre_finite_qk : Cert.Pre_finite_qk.Facts] (m : (ℓ : Loc Cert.GqaIdeal.nD Cert.GqaIdeal.τ Cert.GqaIdeal.sig) → Buf (Elt Ideal) ℓ) : Prop :=
  ∀ c : Dev Cert.GqaIdeal.nD,
    (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).1 = (fun _ => 1#1)
    ∧ (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_qk [hPre_finite_qk : Cert.Pre_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).1 = (fun _ => 1#1)
    ∧ (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).2 = (fun _ => 1#1)

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValRefIdeal (m : (ℓ : Loc Cert.ValRefIdeal.nD Cert.ValRefIdeal.τ Cert.ValRefIdeal.sig) → Buf (Elt Ideal) ℓ) : Prop :=
  True

def Pre_Qry (m : (ℓ : Loc Cert.Qry.nD Cert.Qry.τ Cert.Qry.sig) → Buf (Elt Bits) ℓ) : Prop :=
  True

def Pre_QryIdeal (m : (ℓ : Loc Cert.QryIdeal.nD Cert.QryIdeal.τ Cert.QryIdeal.sig) → Buf (Elt Ideal) ℓ) : Prop :=
  True

def Pre_QryRefIdeal (m : (ℓ : Loc Cert.QryRefIdeal.nD Cert.QryRefIdeal.τ Cert.QryRefIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyRefIdeal (m : (ℓ : Loc Cert.KeyRefIdeal.nD Cert.KeyRefIdeal.τ Cert.KeyRefIdeal.sig) → Buf (Elt Ideal) ℓ) : Prop :=
  True

def Pre_ValA (m : (ℓ : Loc Cert.ValA.nD Cert.ValA.τ Cert.ValA.sig) → Buf (Elt Bits) ℓ) : Prop :=
  True

def Pre_ValAIdeal (m : (ℓ : Loc Cert.ValAIdeal.nD Cert.ValAIdeal.τ Cert.ValAIdeal.sig) → Buf (Elt Ideal) ℓ) : Prop :=
  True

def Pre_ValARefIdeal (m : (ℓ : Loc Cert.ValARefIdeal.nD Cert.ValARefIdeal.τ Cert.ValARefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_QryA (m : (ℓ : Loc Cert.QryA.nD Cert.QryA.τ Cert.QryA.sig) → Buf (Elt Bits) ℓ) : Prop :=
  True

def Pre_QryAIdeal (m : (ℓ : Loc Cert.QryAIdeal.nD Cert.QryAIdeal.τ Cert.QryAIdeal.sig) → Buf (Elt Ideal) ℓ) : Prop :=
  True

def Pre_QryARefIdeal (m : (ℓ : Loc Cert.QryARefIdeal.nD Cert.QryARefIdeal.τ Cert.QryARefIdeal.sig) → Buf (Elt Ideal) ℓ) : Prop :=
  True

def Pre_KeyA (m : (ℓ : Loc Cert.KeyA.nD Cert.KeyA.τ Cert.KeyA.sig) → Buf (Elt Bits) ℓ) : Prop :=
  True

def Pre_KeyAIdeal (m : (ℓ : Loc Cert.KeyAIdeal.nD Cert.KeyAIdeal.τ Cert.KeyAIdeal.sig) → Buf (Elt Ideal) ℓ) : Prop :=
  True

def Pre_KeyARefIdeal (m : (ℓ : Loc Cert.KeyARefIdeal.nD Cert.KeyARefIdeal.τ Cert.KeyARefIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_qk [hGqaIdeal : Cert.GqaIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_qk m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_qk [hGqaRefIdeal : Cert.GqaRefIdeal.Facts] [hPre_finite_qk : Cert.Pre_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2)
      ∧ r.2.mem ((c.tc : Thread Cert.OutCRefIdeal.nD Cert.OutCRefIdeal.τ).loc Cert.OutCRefIdeal.main_arg3) = m ((c.tc : Thread Cert.OutCRefIdeal.nD Cert.OutCRefIdeal.τ).loc Cert.OutCRefIdeal.main_arg3)
      ∧ r.2.mem ((c.tc : Thread Cert.OutCRefIdeal.nD Cert.OutCRefIdeal.τ).loc Cert.OutCRefIdeal.main_arg4) = m ((c.tc : Thread Cert.OutCRefIdeal.nD Cert.OutCRefIdeal.τ).loc Cert.OutCRefIdeal.main_arg4))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3)
      ∧ r.2.mem ((c.tc : Thread Cert.OutAb.nD Cert.OutAb.τ).loc Cert.OutAb.main_arg4) = m ((c.tc : Thread Cert.OutAb.nD Cert.OutAb.τ).loc Cert.OutAb.main_arg4)
      ∧ r.2.mem ((c.tc : Thread Cert.OutAb.nD Cert.OutAb.τ).loc Cert.OutAb.main_arg5) = m ((c.tc : Thread Cert.OutAb.nD Cert.OutAb.τ).loc Cert.OutAb.main_arg5))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
      ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
      ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3)
      ∧ r.2.mem ((c.tc : Thread Cert.OutAbRefIdeal.nD Cert.OutAbRefIdeal.τ).loc Cert.OutAbRefIdeal.main_arg4) = m ((c.tc : Thread Cert.OutAbRefIdeal.nD Cert.OutAbRefIdeal.τ).loc Cert.OutAbRefIdeal.main_arg4)
      ∧ r.2.mem ((c.tc : Thread Cert.OutAbRefIdeal.nD Cert.OutAbRefIdeal.τ).loc Cert.OutAbRefIdeal.main_arg5) = m ((c.tc : Thread Cert.OutAbRefIdeal.nD Cert.OutAbRefIdeal.τ).loc Cert.OutAbRefIdeal.main_arg5))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2)
      ∧ r.2.mem ((c.tc : Thread Cert.HyIn.nD Cert.HyIn.τ).loc Cert.HyIn.main_arg3) = m ((c.tc : Thread Cert.HyIn.nD Cert.HyIn.τ).loc Cert.HyIn.main_arg3))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1))
      ∧ r.2.sem = fun _ => 0)

def quiescent_Qry [hQry : Cert.Qry.Facts] : Prop :=
  ∀ (m : (ℓ : Loc Cert.Qry.nD Cert.Qry.τ Cert.Qry.sig) → Buf (Elt Bits) ℓ) (g : Dev Cert.Qry.nD → PrngReg), Pre_Qry m →
    θ_run (Cert.Qry.defs (F := Bits)) (onTc (τ := Cert.Qry.τ) (Cert.Qry.main (F := Bits))) ⟨m, fun _ => 0, g⟩ (fun r => (∀ c : Dev Cert.Qry.nD,
      r.2.mem ((c.tc : Thread Cert.Qry.nD Cert.Qry.τ).loc Cert.Qry.main_arg0) = m ((c.tc : Thread Cert.Qry.nD Cert.Qry.τ).loc Cert.Qry.main_arg0)
      ∧ r.2.mem ((c.tc : Thread Cert.Qry.nD Cert.Qry.τ).loc Cert.Qry.main_arg1) = m ((c.tc : Thread Cert.Qry.nD Cert.Qry.τ).loc Cert.Qry.main_arg1))
      ∧ r.2.sem = fun _ => 0)

def quiescent_QryIdeal [hQryIdeal : Cert.QryIdeal.Facts] : Prop :=
  ∀ (m : (ℓ : Loc Cert.QryIdeal.nD Cert.QryIdeal.τ Cert.QryIdeal.sig) → Buf (Elt Ideal) ℓ) (g : Dev Cert.QryIdeal.nD → PrngReg), Pre_QryIdeal m →
    θ_run (Cert.QryIdeal.defs (F := Ideal)) (onTc (τ := Cert.QryIdeal.τ) (Cert.QryIdeal.main (F := Ideal))) ⟨m, fun _ => 0, g⟩ (fun r => (∀ c : Dev Cert.QryIdeal.nD,
      r.2.mem ((c.tc : Thread Cert.QryIdeal.nD Cert.QryIdeal.τ).loc Cert.QryIdeal.main_arg0) = m ((c.tc : Thread Cert.QryIdeal.nD Cert.QryIdeal.τ).loc Cert.QryIdeal.main_arg0)
      ∧ r.2.mem ((c.tc : Thread Cert.QryIdeal.nD Cert.QryIdeal.τ).loc Cert.QryIdeal.main_arg1) = m ((c.tc : Thread Cert.QryIdeal.nD Cert.QryIdeal.τ).loc Cert.QryIdeal.main_arg1))
      ∧ r.2.sem = fun _ => 0)

def quiescent_QryRefIdeal [hQryRefIdeal : Cert.QryRefIdeal.Facts] : Prop :=
  ∀ (m : (ℓ : Loc Cert.QryRefIdeal.nD Cert.QryRefIdeal.τ Cert.QryRefIdeal.sig) → Buf (Elt Ideal) ℓ) (g : Dev Cert.QryRefIdeal.nD → PrngReg), Pre_QryRefIdeal m →
    θ_run (Cert.QryRefIdeal.defs (F := Ideal)) (onTc (τ := Cert.QryRefIdeal.τ) (Cert.QryRefIdeal.main (F := Ideal))) ⟨m, fun _ => 0, g⟩ (fun r => (∀ c : Dev Cert.QryRefIdeal.nD,
      r.2.mem ((c.tc : Thread Cert.QryRefIdeal.nD Cert.QryRefIdeal.τ).loc Cert.QryRefIdeal.main_arg0) = m ((c.tc : Thread Cert.QryRefIdeal.nD Cert.QryRefIdeal.τ).loc Cert.QryRefIdeal.main_arg0)
      ∧ r.2.mem ((c.tc : Thread Cert.QryRefIdeal.nD Cert.QryRefIdeal.τ).loc Cert.QryRefIdeal.main_arg1) = m ((c.tc : Thread Cert.QryRefIdeal.nD Cert.QryRefIdeal.τ).loc Cert.QryRefIdeal.main_arg1))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyRefIdeal [hKeyRefIdeal : Cert.KeyRefIdeal.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1))
      ∧ r.2.sem = fun _ => 0)

def quiescent_ValA [hValA : Cert.ValA.Facts] : Prop :=
  ∀ (m : (ℓ : Loc Cert.ValA.nD Cert.ValA.τ Cert.ValA.sig) → Buf (Elt Bits) ℓ) (g : Dev Cert.ValA.nD → PrngReg), Pre_ValA m →
    θ_run (Cert.ValA.defs (F := Bits)) (onTc (τ := Cert.ValA.τ) (Cert.ValA.main (F := Bits))) ⟨m, fun _ => 0, g⟩ (fun r => (∀ c : Dev Cert.ValA.nD,
      r.2.mem ((c.tc : Thread Cert.ValA.nD Cert.ValA.τ).loc Cert.ValA.main_arg0) = m ((c.tc : Thread Cert.ValA.nD Cert.ValA.τ).loc Cert.ValA.main_arg0)
      ∧ r.2.mem ((c.tc : Thread Cert.ValA.nD Cert.ValA.τ).loc Cert.ValA.main_arg1) = m ((c.tc : Thread Cert.ValA.nD Cert.ValA.τ).loc Cert.ValA.main_arg1))
      ∧ r.2.sem = fun _ => 0)

def quiescent_ValAIdeal [hValAIdeal : Cert.ValAIdeal.Facts] : Prop :=
  ∀ (m : (ℓ : Loc Cert.ValAIdeal.nD Cert.ValAIdeal.τ Cert.ValAIdeal.sig) → Buf (Elt Ideal) ℓ) (g : Dev Cert.ValAIdeal.nD → PrngReg), Pre_ValAIdeal m →
    θ_run (Cert.ValAIdeal.defs (F := Ideal)) (onTc (τ := Cert.ValAIdeal.τ) (Cert.ValAIdeal.main (F := Ideal))) ⟨m, fun _ => 0, g⟩ (fun r => (∀ c : Dev Cert.ValAIdeal.nD,
      r.2.mem ((c.tc : Thread Cert.ValAIdeal.nD Cert.ValAIdeal.τ).loc Cert.ValAIdeal.main_arg0) = m ((c.tc : Thread Cert.ValAIdeal.nD Cert.ValAIdeal.τ).loc Cert.ValAIdeal.main_arg0)
      ∧ r.2.mem ((c.tc : Thread Cert.ValAIdeal.nD Cert.ValAIdeal.τ).loc Cert.ValAIdeal.main_arg1) = m ((c.tc : Thread Cert.ValAIdeal.nD Cert.ValAIdeal.τ).loc Cert.ValAIdeal.main_arg1))
      ∧ r.2.sem = fun _ => 0)

def quiescent_ValARefIdeal [hValARefIdeal : Cert.ValARefIdeal.Facts] : Prop :=
  ∀ (m : (ℓ : Loc Cert.ValARefIdeal.nD Cert.ValARefIdeal.τ Cert.ValARefIdeal.sig) → Buf (Elt Ideal) ℓ) (g : Dev Cert.ValARefIdeal.nD → PrngReg), Pre_ValARefIdeal m →
    θ_run (Cert.ValARefIdeal.defs (F := Ideal)) (onTc (τ := Cert.ValARefIdeal.τ) (Cert.ValARefIdeal.main (F := Ideal))) ⟨m, fun _ => 0, g⟩ (fun r => (∀ c : Dev Cert.ValARefIdeal.nD,
      r.2.mem ((c.tc : Thread Cert.ValARefIdeal.nD Cert.ValARefIdeal.τ).loc Cert.ValARefIdeal.main_arg0) = m ((c.tc : Thread Cert.ValARefIdeal.nD Cert.ValARefIdeal.τ).loc Cert.ValARefIdeal.main_arg0)
      ∧ r.2.mem ((c.tc : Thread Cert.ValARefIdeal.nD Cert.ValARefIdeal.τ).loc Cert.ValARefIdeal.main_arg1) = m ((c.tc : Thread Cert.ValARefIdeal.nD Cert.ValARefIdeal.τ).loc Cert.ValARefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_QryA [hQryA : Cert.QryA.Facts] : Prop :=
  ∀ (m : (ℓ : Loc Cert.QryA.nD Cert.QryA.τ Cert.QryA.sig) → Buf (Elt Bits) ℓ) (g : Dev Cert.QryA.nD → PrngReg), Pre_QryA m →
    θ_run (Cert.QryA.defs (F := Bits)) (onTc (τ := Cert.QryA.τ) (Cert.QryA.main (F := Bits))) ⟨m, fun _ => 0, g⟩ (fun r => (∀ c : Dev Cert.QryA.nD,
      r.2.mem ((c.tc : Thread Cert.QryA.nD Cert.QryA.τ).loc Cert.QryA.main_arg0) = m ((c.tc : Thread Cert.QryA.nD Cert.QryA.τ).loc Cert.QryA.main_arg0)
      ∧ r.2.mem ((c.tc : Thread Cert.QryA.nD Cert.QryA.τ).loc Cert.QryA.main_arg1) = m ((c.tc : Thread Cert.QryA.nD Cert.QryA.τ).loc Cert.QryA.main_arg1)
      ∧ r.2.mem ((c.tc : Thread Cert.QryA.nD Cert.QryA.τ).loc Cert.QryA.main_arg2) = m ((c.tc : Thread Cert.QryA.nD Cert.QryA.τ).loc Cert.QryA.main_arg2))
      ∧ r.2.sem = fun _ => 0)

def quiescent_QryAIdeal [hQryAIdeal : Cert.QryAIdeal.Facts] : Prop :=
  ∀ (m : (ℓ : Loc Cert.QryAIdeal.nD Cert.QryAIdeal.τ Cert.QryAIdeal.sig) → Buf (Elt Ideal) ℓ) (g : Dev Cert.QryAIdeal.nD → PrngReg), Pre_QryAIdeal m →
    θ_run (Cert.QryAIdeal.defs (F := Ideal)) (onTc (τ := Cert.QryAIdeal.τ) (Cert.QryAIdeal.main (F := Ideal))) ⟨m, fun _ => 0, g⟩ (fun r => (∀ c : Dev Cert.QryAIdeal.nD,
      r.2.mem ((c.tc : Thread Cert.QryAIdeal.nD Cert.QryAIdeal.τ).loc Cert.QryAIdeal.main_arg0) = m ((c.tc : Thread Cert.QryAIdeal.nD Cert.QryAIdeal.τ).loc Cert.QryAIdeal.main_arg0)
      ∧ r.2.mem ((c.tc : Thread Cert.QryAIdeal.nD Cert.QryAIdeal.τ).loc Cert.QryAIdeal.main_arg1) = m ((c.tc : Thread Cert.QryAIdeal.nD Cert.QryAIdeal.τ).loc Cert.QryAIdeal.main_arg1)
      ∧ r.2.mem ((c.tc : Thread Cert.QryAIdeal.nD Cert.QryAIdeal.τ).loc Cert.QryAIdeal.main_arg2) = m ((c.tc : Thread Cert.QryAIdeal.nD Cert.QryAIdeal.τ).loc Cert.QryAIdeal.main_arg2))
      ∧ r.2.sem = fun _ => 0)

def quiescent_QryARefIdeal [hQryARefIdeal : Cert.QryARefIdeal.Facts] : Prop :=
  ∀ (m : (ℓ : Loc Cert.QryARefIdeal.nD Cert.QryARefIdeal.τ Cert.QryARefIdeal.sig) → Buf (Elt Ideal) ℓ) (g : Dev Cert.QryARefIdeal.nD → PrngReg), Pre_QryARefIdeal m →
    θ_run (Cert.QryARefIdeal.defs (F := Ideal)) (onTc (τ := Cert.QryARefIdeal.τ) (Cert.QryARefIdeal.main (F := Ideal))) ⟨m, fun _ => 0, g⟩ (fun r => (∀ c : Dev Cert.QryARefIdeal.nD,
      r.2.mem ((c.tc : Thread Cert.QryARefIdeal.nD Cert.QryARefIdeal.τ).loc Cert.QryARefIdeal.main_arg0) = m ((c.tc : Thread Cert.QryARefIdeal.nD Cert.QryARefIdeal.τ).loc Cert.QryARefIdeal.main_arg0)
      ∧ r.2.mem ((c.tc : Thread Cert.QryARefIdeal.nD Cert.QryARefIdeal.τ).loc Cert.QryARefIdeal.main_arg1) = m ((c.tc : Thread Cert.QryARefIdeal.nD Cert.QryARefIdeal.τ).loc Cert.QryARefIdeal.main_arg1)
      ∧ r.2.mem ((c.tc : Thread Cert.QryARefIdeal.nD Cert.QryARefIdeal.τ).loc Cert.QryARefIdeal.main_arg2) = m ((c.tc : Thread Cert.QryARefIdeal.nD Cert.QryARefIdeal.τ).loc Cert.QryARefIdeal.main_arg2))
      ∧ r.2.sem = fun _ => 0)

def quiescent_KeyA [hKeyA : Cert.KeyA.Facts] : Prop :=
  ∀ (m : (ℓ : Loc Cert.KeyA.nD Cert.KeyA.τ Cert.KeyA.sig) → Buf (Elt Bits) ℓ) (g : Dev Cert.KeyA.nD → PrngReg), Pre_KeyA m →
    θ_run (Cert.KeyA.defs (F := Bits)) (onTc (τ := Cert.KeyA.τ) (Cert.KeyA.main (F := Bits))) ⟨m, fun _ => 0, g⟩ (fun r => (∀ c : Dev Cert.KeyA.nD,
      r.2.mem ((c.tc : Thread Cert.KeyA.nD Cert.KeyA.τ).loc Cert.KeyA.main_arg0) = m ((c.tc : Thread Cert.KeyA.nD Cert.KeyA.τ).loc Cert.KeyA.main_arg0)
      ∧ r.2.mem ((c.tc : Thread Cert.KeyA.nD Cert.KeyA.τ).loc Cert.KeyA.main_arg1) = m ((c.tc : Thread Cert.KeyA.nD Cert.KeyA.τ).loc Cert.KeyA.main_arg1)
      ∧ r.2.mem ((c.tc : Thread Cert.KeyA.nD Cert.KeyA.τ).loc Cert.KeyA.main_arg2) = m ((c.tc : Thread Cert.KeyA.nD Cert.KeyA.τ).loc Cert.KeyA.main_arg2))
      ∧ r.2.sem = fun _ => 0)

def quiescent_KeyAIdeal [hKeyAIdeal : Cert.KeyAIdeal.Facts] : Prop :=
  ∀ (m : (ℓ : Loc Cert.KeyAIdeal.nD Cert.KeyAIdeal.τ Cert.KeyAIdeal.sig) → Buf (Elt Ideal) ℓ) (g : Dev Cert.KeyAIdeal.nD → PrngReg), Pre_KeyAIdeal m →
    θ_run (Cert.KeyAIdeal.defs (F := Ideal)) (onTc (τ := Cert.KeyAIdeal.τ) (Cert.KeyAIdeal.main (F := Ideal))) ⟨m, fun _ => 0, g⟩ (fun r => (∀ c : Dev Cert.KeyAIdeal.nD,
      r.2.mem ((c.tc : Thread Cert.KeyAIdeal.nD Cert.KeyAIdeal.τ).loc Cert.KeyAIdeal.main_arg0) = m ((c.tc : Thread Cert.KeyAIdeal.nD Cert.KeyAIdeal.τ).loc Cert.KeyAIdeal.main_arg0)
      ∧ r.2.mem ((c.tc : Thread Cert.KeyAIdeal.nD Cert.KeyAIdeal.τ).loc Cert.KeyAIdeal.main_arg1) = m ((c.tc : Thread Cert.KeyAIdeal.nD Cert.KeyAIdeal.τ).loc Cert.KeyAIdeal.main_arg1)
      ∧ r.2.mem ((c.tc : Thread Cert.KeyAIdeal.nD Cert.KeyAIdeal.τ).loc Cert.KeyAIdeal.main_arg2) = m ((c.tc : Thread Cert.KeyAIdeal.nD Cert.KeyAIdeal.τ).loc Cert.KeyAIdeal.main_arg2))
      ∧ r.2.sem = fun _ => 0)

def quiescent_KeyARefIdeal [hKeyARefIdeal : Cert.KeyARefIdeal.Facts] : Prop :=
  ∀ (m : (ℓ : Loc Cert.KeyARefIdeal.nD Cert.KeyARefIdeal.τ Cert.KeyARefIdeal.sig) → Buf (Elt Ideal) ℓ) (g : Dev Cert.KeyARefIdeal.nD → PrngReg), Pre_KeyARefIdeal m →
    θ_run (Cert.KeyARefIdeal.defs (F := Ideal)) (onTc (τ := Cert.KeyARefIdeal.τ) (Cert.KeyARefIdeal.main (F := Ideal))) ⟨m, fun _ => 0, g⟩ (fun r => (∀ c : Dev Cert.KeyARefIdeal.nD,
      r.2.mem ((c.tc : Thread Cert.KeyARefIdeal.nD Cert.KeyARefIdeal.τ).loc Cert.KeyARefIdeal.main_arg0) = m ((c.tc : Thread Cert.KeyARefIdeal.nD Cert.KeyARefIdeal.τ).loc Cert.KeyARefIdeal.main_arg0)
      ∧ r.2.mem ((c.tc : Thread Cert.KeyARefIdeal.nD Cert.KeyARefIdeal.τ).loc Cert.KeyARefIdeal.main_arg1) = m ((c.tc : Thread Cert.KeyARefIdeal.nD Cert.KeyARefIdeal.τ).loc Cert.KeyARefIdeal.main_arg1)
      ∧ r.2.mem ((c.tc : Thread Cert.KeyARefIdeal.nD Cert.KeyARefIdeal.τ).loc Cert.KeyARefIdeal.main_arg2) = m ((c.tc : Thread Cert.KeyARefIdeal.nD Cert.KeyARefIdeal.τ).loc Cert.KeyARefIdeal.main_arg2))
      ∧ r.2.sem = fun _ => 0)

def preserves_Diff_DiffIdeal : Prop :=
  True

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v1)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v1) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v69) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Gqa_GqaIdeal : Prop :=
  True

def algebraic_GqaIdeal_GqaRefIdeal_pre_finite_qk [hGqaIdeal : Cert.GqaIdeal.Facts] [hGqaRefIdeal : Cert.GqaRefIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_qk m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v28) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)
      ∧ m' ((c.tc : Thread Cert.OutCRefIdeal.nD Cert.OutCRefIdeal.τ).loc Cert.OutCRefIdeal.main_arg3) = m ((c.tc : Thread Cert.OutCIdeal.nD Cert.OutCIdeal.τ).loc Cert.OutCIdeal.main_arg3)
      ∧ m' ((c.tc : Thread Cert.OutCRefIdeal.nD Cert.OutCRefIdeal.τ).loc Cert.OutCRefIdeal.main_arg4) = m ((c.tc : Thread Cert.OutCIdeal.nD Cert.OutCIdeal.τ).loc Cert.OutCIdeal.main_arg4)) →
    ∃ (v0 : (c : Dev Cert.OutCIdeal.nD) → Buf (Elt Ideal) ((c.tc : Thread Cert.OutCIdeal.nD Cert.OutCIdeal.τ).loc Cert.OutCIdeal.main_v3)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v3) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v18) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2)
          ∧ r.2.mem ((c.tc : Thread Cert.OutCRefIdeal.nD Cert.OutCRefIdeal.τ).loc Cert.OutCRefIdeal.main_arg3) = m' ((c.tc : Thread Cert.OutCRefIdeal.nD Cert.OutCRefIdeal.τ).loc Cert.OutCRefIdeal.main_arg3)
          ∧ r.2.mem ((c.tc : Thread Cert.OutCRefIdeal.nD Cert.OutCRefIdeal.τ).loc Cert.OutCRefIdeal.main_arg4) = m' ((c.tc : Thread Cert.OutCRefIdeal.nD Cert.OutCRefIdeal.τ).loc Cert.OutCRefIdeal.main_arg4))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)
      ∧ m' ((c.tc : Thread Cert.OutAbRefIdeal.nD Cert.OutAbRefIdeal.τ).loc Cert.OutAbRefIdeal.main_arg4) = m ((c.tc : Thread Cert.OutAbIdeal.nD Cert.OutAbIdeal.τ).loc Cert.OutAbIdeal.main_arg4)
      ∧ m' ((c.tc : Thread Cert.OutAbRefIdeal.nD Cert.OutAbRefIdeal.τ).loc Cert.OutAbRefIdeal.main_arg5) = m ((c.tc : Thread Cert.OutAbIdeal.nD Cert.OutAbIdeal.τ).loc Cert.OutAbIdeal.main_arg5)) →
    ∃ (v0 : (c : Dev Cert.OutAbIdeal.nD) → Buf (Elt Ideal) ((c.tc : Thread Cert.OutAbIdeal.nD Cert.OutAbIdeal.τ).loc Cert.OutAbIdeal.main_v5)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v5) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
          ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
          ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v19) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3)
          ∧ r.2.mem ((c.tc : Thread Cert.OutAbRefIdeal.nD Cert.OutAbRefIdeal.τ).loc Cert.OutAbRefIdeal.main_arg4) = m' ((c.tc : Thread Cert.OutAbRefIdeal.nD Cert.OutAbRefIdeal.τ).loc Cert.OutAbRefIdeal.main_arg4)
          ∧ r.2.mem ((c.tc : Thread Cert.OutAbRefIdeal.nD Cert.OutAbRefIdeal.τ).loc Cert.OutAbRefIdeal.main_arg5) = m' ((c.tc : Thread Cert.OutAbRefIdeal.nD Cert.OutAbRefIdeal.τ).loc Cert.OutAbRefIdeal.main_arg5))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)
      ∧ m' ((c.tc : Thread Cert.HyInRefIdeal.nD Cert.HyInRefIdeal.τ).loc Cert.HyInRefIdeal.main_arg3) = m ((c.tc : Thread Cert.HyInIdeal.nD Cert.HyInIdeal.τ).loc Cert.HyInIdeal.main_arg3)) →
    ∃ (v0 : (c : Dev Cert.HyInIdeal.nD) → Buf (Elt Ideal) ((c.tc : Thread Cert.HyInIdeal.nD Cert.HyInIdeal.τ).loc Cert.HyInIdeal.main_v3)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v3) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
          ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v33) = v0 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2)
          ∧ r.2.mem ((c.tc : Thread Cert.HyInRefIdeal.nD Cert.HyInRefIdeal.τ).loc Cert.HyInRefIdeal.main_arg3) = m' ((c.tc : Thread Cert.HyInRefIdeal.nD Cert.HyInRefIdeal.τ).loc Cert.HyInRefIdeal.main_arg3))

def preserves_Val_ValIdeal : Prop :=
  True

def algebraic_ValIdeal_ValRefIdeal [hValIdeal : Cert.ValIdeal.Facts] [hValRefIdeal : Cert.ValRefIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)) →
    ∃ (v0 : (c : Dev Cert.ValIdeal.nD) → Buf (Elt Ideal) ((c.tc : Thread Cert.ValIdeal.nD Cert.ValIdeal.τ).loc Cert.ValIdeal.main_v4)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v4) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v4) = v0 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1))

def preserves_Qry_QryIdeal : Prop :=
  True

def algebraic_QryIdeal_QryRefIdeal [hQryIdeal : Cert.QryIdeal.Facts] [hQryRefIdeal : Cert.QryRefIdeal.Facts] : Prop :=
  ∀ (m : (ℓ : Loc Cert.QryIdeal.nD Cert.QryIdeal.τ Cert.QryIdeal.sig) → Buf (Elt Ideal) ℓ) (g : Dev Cert.QryIdeal.nD → PrngReg)
    (m' : (ℓ : Loc Cert.QryRefIdeal.nD Cert.QryRefIdeal.τ Cert.QryRefIdeal.sig) → Buf (Elt Ideal) ℓ) (g' : Dev Cert.QryRefIdeal.nD → PrngReg), Pre_QryIdeal m →
    (∀ c : Dev Cert.QryIdeal.nD,
      m' ((c.tc : Thread Cert.QryRefIdeal.nD Cert.QryRefIdeal.τ).loc Cert.QryRefIdeal.main_arg0) = m ((c.tc : Thread Cert.QryIdeal.nD Cert.QryIdeal.τ).loc Cert.QryIdeal.main_arg0)
      ∧ m' ((c.tc : Thread Cert.QryRefIdeal.nD Cert.QryRefIdeal.τ).loc Cert.QryRefIdeal.main_arg1) = m ((c.tc : Thread Cert.QryIdeal.nD Cert.QryIdeal.τ).loc Cert.QryIdeal.main_arg1)) →
    ∃ (v0 : (c : Dev Cert.QryIdeal.nD) → Buf (Elt Ideal) ((c.tc : Thread Cert.QryIdeal.nD Cert.QryIdeal.τ).loc Cert.QryIdeal.main_v55)),
      θ_run (Cert.QryIdeal.defs (F := Ideal)) (onTc (τ := Cert.QryIdeal.τ) (Cert.QryIdeal.main (F := Ideal))) ⟨m, fun _ => 0, g⟩ (fun r => ∀ c : Dev Cert.QryIdeal.nD,
          r.2.mem ((c.tc : Thread Cert.QryIdeal.nD Cert.QryIdeal.τ).loc Cert.QryIdeal.main_v55) = v0 c
          ∧ r.2.mem ((c.tc : Thread Cert.QryIdeal.nD Cert.QryIdeal.τ).loc Cert.QryIdeal.main_arg0) = m ((c.tc : Thread Cert.QryIdeal.nD Cert.QryIdeal.τ).loc Cert.QryIdeal.main_arg0)
          ∧ r.2.mem ((c.tc : Thread Cert.QryIdeal.nD Cert.QryIdeal.τ).loc Cert.QryIdeal.main_arg1) = m ((c.tc : Thread Cert.QryIdeal.nD Cert.QryIdeal.τ).loc Cert.QryIdeal.main_arg1))
      ∧ θ_run (Cert.QryRefIdeal.defs (F := Ideal)) (onTc (τ := Cert.QryRefIdeal.τ) (Cert.QryRefIdeal.main (F := Ideal))) ⟨m', fun _ => 0, g'⟩ (fun r => ∀ c : Dev Cert.QryRefIdeal.nD,
          r.2.mem ((c.tc : Thread Cert.QryRefIdeal.nD Cert.QryRefIdeal.τ).loc Cert.QryRefIdeal.main_v59) = v0 c
          ∧ r.2.mem ((c.tc : Thread Cert.QryRefIdeal.nD Cert.QryRefIdeal.τ).loc Cert.QryRefIdeal.main_arg0) = m' ((c.tc : Thread Cert.QryRefIdeal.nD Cert.QryRefIdeal.τ).loc Cert.QryRefIdeal.main_arg0)
          ∧ r.2.mem ((c.tc : Thread Cert.QryRefIdeal.nD Cert.QryRefIdeal.τ).loc Cert.QryRefIdeal.main_arg1) = m' ((c.tc : Thread Cert.QryRefIdeal.nD Cert.QryRefIdeal.τ).loc Cert.QryRefIdeal.main_arg1))

def preserves_Key_KeyIdeal : Prop :=
  True

def algebraic_KeyIdeal_KeyRefIdeal [hKeyIdeal : Cert.KeyIdeal.Facts] [hKeyRefIdeal : Cert.KeyRefIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyRefIdeal.nD Cert.KeyRefIdeal.τ Cert.KeyRefIdeal.sig) → Buf (Elt Ideal) ℓ) (g' : Dev Cert.KeyRefIdeal.nD → PrngReg), Pre_KeyIdeal m →
    (∀ c : Dev Cert.KeyIdeal.nD,
      m' ((c.tc : Thread Cert.KeyRefIdeal.nD Cert.KeyRefIdeal.τ).loc Cert.KeyRefIdeal.main_arg0) = m ((c.tc : Thread Cert.KeyIdeal.nD Cert.KeyIdeal.τ).loc Cert.KeyIdeal.main_arg0)
      ∧ m' ((c.tc : Thread Cert.KeyRefIdeal.nD Cert.KeyRefIdeal.τ).loc Cert.KeyRefIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v55)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v55) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyRefIdeal.defs (F := Ideal)) (onTc (τ := Cert.KeyRefIdeal.τ) (Cert.KeyRefIdeal.main (F := Ideal))) ⟨m', fun _ => 0, g'⟩ (fun r => ∀ c : Dev Cert.KeyRefIdeal.nD,
          r.2.mem ((c.tc : Thread Cert.KeyRefIdeal.nD Cert.KeyRefIdeal.τ).loc Cert.KeyRefIdeal.main_v58) = v0 c
          ∧ r.2.mem ((c.tc : Thread Cert.KeyRefIdeal.nD Cert.KeyRefIdeal.τ).loc Cert.KeyRefIdeal.main_arg0) = m' ((c.tc : Thread Cert.KeyRefIdeal.nD Cert.KeyRefIdeal.τ).loc Cert.KeyRefIdeal.main_arg0)
          ∧ r.2.mem ((c.tc : Thread Cert.KeyRefIdeal.nD Cert.KeyRefIdeal.τ).loc Cert.KeyRefIdeal.main_arg1) = m' ((c.tc : Thread Cert.KeyRefIdeal.nD Cert.KeyRefIdeal.τ).loc Cert.KeyRefIdeal.main_arg1))

def preserves_ValA_ValAIdeal : Prop :=
  True

def algebraic_ValAIdeal_ValARefIdeal [hValAIdeal : Cert.ValAIdeal.Facts] [hValARefIdeal : Cert.ValARefIdeal.Facts] : Prop :=
  ∀ (m : (ℓ : Loc Cert.ValAIdeal.nD Cert.ValAIdeal.τ Cert.ValAIdeal.sig) → Buf (Elt Ideal) ℓ) (g : Dev Cert.ValAIdeal.nD → PrngReg)
    (m' : (ℓ : Loc Cert.ValARefIdeal.nD Cert.ValARefIdeal.τ Cert.ValARefIdeal.sig) → Buf (Elt Ideal) ℓ) (g' : Dev Cert.ValARefIdeal.nD → PrngReg), Pre_ValAIdeal m →
    (∀ c : Dev Cert.ValAIdeal.nD,
      m' ((c.tc : Thread Cert.ValARefIdeal.nD Cert.ValARefIdeal.τ).loc Cert.ValARefIdeal.main_arg0) = m ((c.tc : Thread Cert.ValAIdeal.nD Cert.ValAIdeal.τ).loc Cert.ValAIdeal.main_arg0)
      ∧ m' ((c.tc : Thread Cert.ValARefIdeal.nD Cert.ValARefIdeal.τ).loc Cert.ValARefIdeal.main_arg1) = m ((c.tc : Thread Cert.ValAIdeal.nD Cert.ValAIdeal.τ).loc Cert.ValAIdeal.main_arg1)) →
    ∃ (v0 : (c : Dev Cert.ValAIdeal.nD) → Buf (Elt Ideal) ((c.tc : Thread Cert.ValAIdeal.nD Cert.ValAIdeal.τ).loc Cert.ValAIdeal.main_v4)),
      θ_run (Cert.ValAIdeal.defs (F := Ideal)) (onTc (τ := Cert.ValAIdeal.τ) (Cert.ValAIdeal.main (F := Ideal))) ⟨m, fun _ => 0, g⟩ (fun r => ∀ c : Dev Cert.ValAIdeal.nD,
          r.2.mem ((c.tc : Thread Cert.ValAIdeal.nD Cert.ValAIdeal.τ).loc Cert.ValAIdeal.main_v4) = v0 c
          ∧ r.2.mem ((c.tc : Thread Cert.ValAIdeal.nD Cert.ValAIdeal.τ).loc Cert.ValAIdeal.main_arg0) = m ((c.tc : Thread Cert.ValAIdeal.nD Cert.ValAIdeal.τ).loc Cert.ValAIdeal.main_arg0)
          ∧ r.2.mem ((c.tc : Thread Cert.ValAIdeal.nD Cert.ValAIdeal.τ).loc Cert.ValAIdeal.main_arg1) = m ((c.tc : Thread Cert.ValAIdeal.nD Cert.ValAIdeal.τ).loc Cert.ValAIdeal.main_arg1))
      ∧ θ_run (Cert.ValARefIdeal.defs (F := Ideal)) (onTc (τ := Cert.ValARefIdeal.τ) (Cert.ValARefIdeal.main (F := Ideal))) ⟨m', fun _ => 0, g'⟩ (fun r => ∀ c : Dev Cert.ValARefIdeal.nD,
          r.2.mem ((c.tc : Thread Cert.ValARefIdeal.nD Cert.ValARefIdeal.τ).loc Cert.ValARefIdeal.main_v4) = v0 c
          ∧ r.2.mem ((c.tc : Thread Cert.ValARefIdeal.nD Cert.ValARefIdeal.τ).loc Cert.ValARefIdeal.main_arg0) = m' ((c.tc : Thread Cert.ValARefIdeal.nD Cert.ValARefIdeal.τ).loc Cert.ValARefIdeal.main_arg0)
          ∧ r.2.mem ((c.tc : Thread Cert.ValARefIdeal.nD Cert.ValARefIdeal.τ).loc Cert.ValARefIdeal.main_arg1) = m' ((c.tc : Thread Cert.ValARefIdeal.nD Cert.ValARefIdeal.τ).loc Cert.ValARefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v21) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_QryA_QryAIdeal : Prop :=
  True

def algebraic_QryAIdeal_QryARefIdeal [hQryAIdeal : Cert.QryAIdeal.Facts] [hQryARefIdeal : Cert.QryARefIdeal.Facts] : Prop :=
  ∀ (m : (ℓ : Loc Cert.QryAIdeal.nD Cert.QryAIdeal.τ Cert.QryAIdeal.sig) → Buf (Elt Ideal) ℓ) (g : Dev Cert.QryAIdeal.nD → PrngReg)
    (m' : (ℓ : Loc Cert.QryARefIdeal.nD Cert.QryARefIdeal.τ Cert.QryARefIdeal.sig) → Buf (Elt Ideal) ℓ) (g' : Dev Cert.QryARefIdeal.nD → PrngReg), Pre_QryAIdeal m →
    (∀ c : Dev Cert.QryAIdeal.nD,
      m' ((c.tc : Thread Cert.QryARefIdeal.nD Cert.QryARefIdeal.τ).loc Cert.QryARefIdeal.main_arg0) = m ((c.tc : Thread Cert.QryAIdeal.nD Cert.QryAIdeal.τ).loc Cert.QryAIdeal.main_arg0)
      ∧ m' ((c.tc : Thread Cert.QryARefIdeal.nD Cert.QryARefIdeal.τ).loc Cert.QryARefIdeal.main_arg1) = m ((c.tc : Thread Cert.QryAIdeal.nD Cert.QryAIdeal.τ).loc Cert.QryAIdeal.main_arg1)
      ∧ m' ((c.tc : Thread Cert.QryARefIdeal.nD Cert.QryARefIdeal.τ).loc Cert.QryARefIdeal.main_arg2) = m ((c.tc : Thread Cert.QryAIdeal.nD Cert.QryAIdeal.τ).loc Cert.QryAIdeal.main_arg2)) →
    ∃ (v0 : (c : Dev Cert.QryAIdeal.nD) → Buf (Elt Ideal) ((c.tc : Thread Cert.QryAIdeal.nD Cert.QryAIdeal.τ).loc Cert.QryAIdeal.main_v70)),
      θ_run (Cert.QryAIdeal.defs (F := Ideal)) (onTc (τ := Cert.QryAIdeal.τ) (Cert.QryAIdeal.main (F := Ideal))) ⟨m, fun _ => 0, g⟩ (fun r => ∀ c : Dev Cert.QryAIdeal.nD,
          r.2.mem ((c.tc : Thread Cert.QryAIdeal.nD Cert.QryAIdeal.τ).loc Cert.QryAIdeal.main_v70) = v0 c
          ∧ r.2.mem ((c.tc : Thread Cert.QryAIdeal.nD Cert.QryAIdeal.τ).loc Cert.QryAIdeal.main_arg0) = m ((c.tc : Thread Cert.QryAIdeal.nD Cert.QryAIdeal.τ).loc Cert.QryAIdeal.main_arg0)
          ∧ r.2.mem ((c.tc : Thread Cert.QryAIdeal.nD Cert.QryAIdeal.τ).loc Cert.QryAIdeal.main_arg1) = m ((c.tc : Thread Cert.QryAIdeal.nD Cert.QryAIdeal.τ).loc Cert.QryAIdeal.main_arg1)
          ∧ r.2.mem ((c.tc : Thread Cert.QryAIdeal.nD Cert.QryAIdeal.τ).loc Cert.QryAIdeal.main_arg2) = m ((c.tc : Thread Cert.QryAIdeal.nD Cert.QryAIdeal.τ).loc Cert.QryAIdeal.main_arg2))
      ∧ θ_run (Cert.QryARefIdeal.defs (F := Ideal)) (onTc (τ := Cert.QryARefIdeal.τ) (Cert.QryARefIdeal.main (F := Ideal))) ⟨m', fun _ => 0, g'⟩ (fun r => ∀ c : Dev Cert.QryARefIdeal.nD,
          r.2.mem ((c.tc : Thread Cert.QryARefIdeal.nD Cert.QryARefIdeal.τ).loc Cert.QryARefIdeal.main_v74) = v0 c
          ∧ r.2.mem ((c.tc : Thread Cert.QryARefIdeal.nD Cert.QryARefIdeal.τ).loc Cert.QryARefIdeal.main_arg0) = m' ((c.tc : Thread Cert.QryARefIdeal.nD Cert.QryARefIdeal.τ).loc Cert.QryARefIdeal.main_arg0)
          ∧ r.2.mem ((c.tc : Thread Cert.QryARefIdeal.nD Cert.QryARefIdeal.τ).loc Cert.QryARefIdeal.main_arg1) = m' ((c.tc : Thread Cert.QryARefIdeal.nD Cert.QryARefIdeal.τ).loc Cert.QryARefIdeal.main_arg1)
          ∧ r.2.mem ((c.tc : Thread Cert.QryARefIdeal.nD Cert.QryARefIdeal.τ).loc Cert.QryARefIdeal.main_arg2) = m' ((c.tc : Thread Cert.QryARefIdeal.nD Cert.QryARefIdeal.τ).loc Cert.QryARefIdeal.main_arg2))

def preserves_KeyA_KeyAIdeal : Prop :=
  True

def algebraic_KeyAIdeal_KeyARefIdeal [hKeyAIdeal : Cert.KeyAIdeal.Facts] [hKeyARefIdeal : Cert.KeyARefIdeal.Facts] : Prop :=
  ∀ (m : (ℓ : Loc Cert.KeyAIdeal.nD Cert.KeyAIdeal.τ Cert.KeyAIdeal.sig) → Buf (Elt Ideal) ℓ) (g : Dev Cert.KeyAIdeal.nD → PrngReg)
    (m' : (ℓ : Loc Cert.KeyARefIdeal.nD Cert.KeyARefIdeal.τ Cert.KeyARefIdeal.sig) → Buf (Elt Ideal) ℓ) (g' : Dev Cert.KeyARefIdeal.nD → PrngReg), Pre_KeyAIdeal m →
    (∀ c : Dev Cert.KeyAIdeal.nD,
      m' ((c.tc : Thread Cert.KeyARefIdeal.nD Cert.KeyARefIdeal.τ).loc Cert.KeyARefIdeal.main_arg0) = m ((c.tc : Thread Cert.KeyAIdeal.nD Cert.KeyAIdeal.τ).loc Cert.KeyAIdeal.main_arg0)
      ∧ m' ((c.tc : Thread Cert.KeyARefIdeal.nD Cert.KeyARefIdeal.τ).loc Cert.KeyARefIdeal.main_arg1) = m ((c.tc : Thread Cert.KeyAIdeal.nD Cert.KeyAIdeal.τ).loc Cert.KeyAIdeal.main_arg1)
      ∧ m' ((c.tc : Thread Cert.KeyARefIdeal.nD Cert.KeyARefIdeal.τ).loc Cert.KeyARefIdeal.main_arg2) = m ((c.tc : Thread Cert.KeyAIdeal.nD Cert.KeyAIdeal.τ).loc Cert.KeyAIdeal.main_arg2)) →
    ∃ (v0 : (c : Dev Cert.KeyAIdeal.nD) → Buf (Elt Ideal) ((c.tc : Thread Cert.KeyAIdeal.nD Cert.KeyAIdeal.τ).loc Cert.KeyAIdeal.main_v68)),
      θ_run (Cert.KeyAIdeal.defs (F := Ideal)) (onTc (τ := Cert.KeyAIdeal.τ) (Cert.KeyAIdeal.main (F := Ideal))) ⟨m, fun _ => 0, g⟩ (fun r => ∀ c : Dev Cert.KeyAIdeal.nD,
          r.2.mem ((c.tc : Thread Cert.KeyAIdeal.nD Cert.KeyAIdeal.τ).loc Cert.KeyAIdeal.main_v68) = v0 c
          ∧ r.2.mem ((c.tc : Thread Cert.KeyAIdeal.nD Cert.KeyAIdeal.τ).loc Cert.KeyAIdeal.main_arg0) = m ((c.tc : Thread Cert.KeyAIdeal.nD Cert.KeyAIdeal.τ).loc Cert.KeyAIdeal.main_arg0)
          ∧ r.2.mem ((c.tc : Thread Cert.KeyAIdeal.nD Cert.KeyAIdeal.τ).loc Cert.KeyAIdeal.main_arg1) = m ((c.tc : Thread Cert.KeyAIdeal.nD Cert.KeyAIdeal.τ).loc Cert.KeyAIdeal.main_arg1)
          ∧ r.2.mem ((c.tc : Thread Cert.KeyAIdeal.nD Cert.KeyAIdeal.τ).loc Cert.KeyAIdeal.main_arg2) = m ((c.tc : Thread Cert.KeyAIdeal.nD Cert.KeyAIdeal.τ).loc Cert.KeyAIdeal.main_arg2))
      ∧ θ_run (Cert.KeyARefIdeal.defs (F := Ideal)) (onTc (τ := Cert.KeyARefIdeal.τ) (Cert.KeyARefIdeal.main (F := Ideal))) ⟨m', fun _ => 0, g'⟩ (fun r => ∀ c : Dev Cert.KeyARefIdeal.nD,
          r.2.mem ((c.tc : Thread Cert.KeyARefIdeal.nD Cert.KeyARefIdeal.τ).loc Cert.KeyARefIdeal.main_v73) = v0 c
          ∧ r.2.mem ((c.tc : Thread Cert.KeyARefIdeal.nD Cert.KeyARefIdeal.τ).loc Cert.KeyARefIdeal.main_arg0) = m' ((c.tc : Thread Cert.KeyARefIdeal.nD Cert.KeyARefIdeal.τ).loc Cert.KeyARefIdeal.main_arg0)
          ∧ r.2.mem ((c.tc : Thread Cert.KeyARefIdeal.nD Cert.KeyARefIdeal.τ).loc Cert.KeyARefIdeal.main_arg1) = m' ((c.tc : Thread Cert.KeyARefIdeal.nD Cert.KeyARefIdeal.τ).loc Cert.KeyARefIdeal.main_arg1)
          ∧ r.2.mem ((c.tc : Thread Cert.KeyARefIdeal.nD Cert.KeyARefIdeal.τ).loc Cert.KeyARefIdeal.main_arg2) = m' ((c.tc : Thread Cert.KeyARefIdeal.nD Cert.KeyARefIdeal.τ).loc Cert.KeyARefIdeal.main_arg2))

def Claim : Prop :=
  ∃ (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hGqa : Cert.Gqa.Facts) (hGqaIdeal : Cert.GqaIdeal.Facts) (hGqaRefIdeal : Cert.GqaRefIdeal.Facts) (hOutC : Cert.OutC.Facts) (hOutCIdeal : Cert.OutCIdeal.Facts) (hOutCRefIdeal : Cert.OutCRefIdeal.Facts) (hOutAb : Cert.OutAb.Facts) (hOutAbIdeal : Cert.OutAbIdeal.Facts) (hOutAbRefIdeal : Cert.OutAbRefIdeal.Facts) (hHyIn : Cert.HyIn.Facts) (hHyInIdeal : Cert.HyInIdeal.Facts) (hHyInRefIdeal : Cert.HyInRefIdeal.Facts) (hVal : Cert.Val.Facts) (hValIdeal : Cert.ValIdeal.Facts) (hValRefIdeal : Cert.ValRefIdeal.Facts) (hQry : Cert.Qry.Facts) (hQryIdeal : Cert.QryIdeal.Facts) (hQryRefIdeal : Cert.QryRefIdeal.Facts) (hKey : Cert.Key.Facts) (hKeyIdeal : Cert.KeyIdeal.Facts) (hKeyRefIdeal : Cert.KeyRefIdeal.Facts) (hValA : Cert.ValA.Facts) (hValAIdeal : Cert.ValAIdeal.Facts) (hValARefIdeal : Cert.ValARefIdeal.Facts) (hMod : Cert.Mod.Facts) (hModIdeal : Cert.ModIdeal.Facts) (hModRefIdeal : Cert.ModRefIdeal.Facts) (hQryA : Cert.QryA.Facts) (hQryAIdeal : Cert.QryAIdeal.Facts) (hQryARefIdeal : Cert.QryARefIdeal.Facts) (hKeyA : Cert.KeyA.Facts) (hKeyAIdeal : Cert.KeyAIdeal.Facts) (hKeyARefIdeal : Cert.KeyARefIdeal.Facts) (hPre_finite : Cert.Pre_finite.Facts) (hPre_finite_qk : Cert.Pre_finite_qk.Facts),
    quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Gqa (hGqa := hGqa)
    ∧ quiescent_GqaIdeal (hGqaIdeal := hGqaIdeal)
    ∧ quiescent_GqaIdeal_pre_finite_qk (hGqaIdeal := hGqaIdeal) (hPre_finite_qk := hPre_finite_qk)
    ∧ quiescent_GqaRefIdeal (hGqaRefIdeal := hGqaRefIdeal)
    ∧ quiescent_GqaRefIdeal_pre_finite_qk (hGqaRefIdeal := hGqaRefIdeal) (hPre_finite_qk := hPre_finite_qk)
    ∧ quiescent_OutC (hOutC := hOutC)
    ∧ quiescent_OutCIdeal (hOutCIdeal := hOutCIdeal)
    ∧ quiescent_OutCRefIdeal (hOutCRefIdeal := hOutCRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_HyIn (hHyIn := hHyIn)
    ∧ quiescent_HyInIdeal (hHyInIdeal := hHyInIdeal)
    ∧ quiescent_HyInRefIdeal (hHyInRefIdeal := hHyInRefIdeal)
    ∧ quiescent_Val (hVal := hVal)
    ∧ quiescent_ValIdeal (hValIdeal := hValIdeal)
    ∧ quiescent_ValRefIdeal (hValRefIdeal := hValRefIdeal)
    ∧ quiescent_Qry (hQry := hQry)
    ∧ quiescent_QryIdeal (hQryIdeal := hQryIdeal)
    ∧ quiescent_QryRefIdeal (hQryRefIdeal := hQryRefIdeal)
    ∧ quiescent_Key (hKey := hKey)
    ∧ quiescent_KeyIdeal (hKeyIdeal := hKeyIdeal)
    ∧ quiescent_KeyRefIdeal (hKeyRefIdeal := hKeyRefIdeal)
    ∧ quiescent_ValA (hValA := hValA)
    ∧ quiescent_ValAIdeal (hValAIdeal := hValAIdeal)
    ∧ quiescent_ValARefIdeal (hValARefIdeal := hValARefIdeal)
    ∧ quiescent_Mod (hMod := hMod)
    ∧ quiescent_ModIdeal (hModIdeal := hModIdeal)
    ∧ quiescent_ModRefIdeal (hModRefIdeal := hModRefIdeal)
    ∧ quiescent_QryA (hQryA := hQryA)
    ∧ quiescent_QryAIdeal (hQryAIdeal := hQryAIdeal)
    ∧ quiescent_QryARefIdeal (hQryARefIdeal := hQryARefIdeal)
    ∧ quiescent_KeyA (hKeyA := hKeyA)
    ∧ quiescent_KeyAIdeal (hKeyAIdeal := hKeyAIdeal)
    ∧ quiescent_KeyARefIdeal (hKeyARefIdeal := hKeyARefIdeal)
    ∧ preserves_Diff_DiffIdeal
    ∧ algebraic_DiffIdeal_DiffRefIdeal_pre_finite (hDiffIdeal := hDiffIdeal) (hDiffRefIdeal := hDiffRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Gqa_GqaIdeal
    ∧ algebraic_GqaIdeal_GqaRefIdeal_pre_finite_qk (hGqaIdeal := hGqaIdeal) (hGqaRefIdeal := hGqaRefIdeal) (hPre_finite_qk := hPre_finite_qk)
    ∧ preserves_OutC_OutCIdeal
    ∧ algebraic_OutCIdeal_OutCRefIdeal (hOutCIdeal := hOutCIdeal) (hOutCRefIdeal := hOutCRefIdeal)
    ∧ preserves_OutAb_OutAbIdeal
    ∧ algebraic_OutAbIdeal_OutAbRefIdeal (hOutAbIdeal := hOutAbIdeal) (hOutAbRefIdeal := hOutAbRefIdeal)
    ∧ preserves_HyIn_HyInIdeal
    ∧ algebraic_HyInIdeal_HyInRefIdeal (hHyInIdeal := hHyInIdeal) (hHyInRefIdeal := hHyInRefIdeal)
    ∧ preserves_Val_ValIdeal
    ∧ algebraic_ValIdeal_ValRefIdeal (hValIdeal := hValIdeal) (hValRefIdeal := hValRefIdeal)
    ∧ preserves_Qry_QryIdeal
    ∧ algebraic_QryIdeal_QryRefIdeal (hQryIdeal := hQryIdeal) (hQryRefIdeal := hQryRefIdeal)
    ∧ preserves_Key_KeyIdeal
    ∧ algebraic_KeyIdeal_KeyRefIdeal (hKeyIdeal := hKeyIdeal) (hKeyRefIdeal := hKeyRefIdeal)
    ∧ preserves_ValA_ValAIdeal
    ∧ algebraic_ValAIdeal_ValARefIdeal (hValAIdeal := hValAIdeal) (hValARefIdeal := hValARefIdeal)
    ∧ preserves_Mod_ModIdeal
    ∧ algebraic_ModIdeal_ModRefIdeal (hModIdeal := hModIdeal) (hModRefIdeal := hModRefIdeal)
    ∧ preserves_QryA_QryAIdeal
    ∧ algebraic_QryAIdeal_QryARefIdeal (hQryAIdeal := hQryAIdeal) (hQryARefIdeal := hQryARefIdeal)
    ∧ preserves_KeyA_KeyAIdeal
    ∧ algebraic_KeyAIdeal_KeyARefIdeal (hKeyAIdeal := hKeyAIdeal) (hKeyARefIdeal := hKeyARefIdeal)
-- ==== Pre_finite.lean ====
abbrev S2x8192x2048 : Shape := ⟨3, ![2, 8192, 2048]⟩
abbrev S2x8704x2048 : Shape := ⟨3, ![2, 8704, 2048]⟩
abbrev S4x64 : Shape := ⟨2, ![4, 64]⟩
abbrev S128 : Shape := ⟨1, ![128]⟩
abbrev S_ : Shape := ⟨0, ![]⟩
abbrev S2x8448x2048 : Shape := ⟨3, ![2, 8448, 2048]⟩

class Facts : Prop where
  bitsLt_bf16_f32 : FTy.bits .bf16 < FTy.bits .f32
  bcast_S_S2x8192x2048 : S_.BroadcastsInDim S2x8192x2048 (![] : Fin 0 → Fin S2x8192x2048.rank)
  slices_S2x8704x2048_S2x8448x2048_0_0_0 : S2x8704x2048.Slices ![0, 0, 0] S2x8448x2048
  bcast_S_S2x8448x2048 : S_.BroadcastsInDim S2x8448x2048 (![] : Fin 0 → Fin S2x8448x2048.rank)
  bcast_S_S4x64 : S_.BroadcastsInDim S4x64 (![] : Fin 0 → Fin S4x64.rank)

variable [Facts]

def fn {F : FTy → Type} [FloatOps F] (main_arg0 : FVec F S2x8192x2048 .bf16) (main_arg1 : FVec F S2x8704x2048 .bf16) (main_arg2 : FVec F S2x8704x2048 .bf16) (main_arg3 : FVec F S4x64 .f32) (main_arg4 : FVec F S128 .f32) : IVec S2x8192x2048 1 × IVec S2x8448x2048 1 × IVec S2x8448x2048 1 × IVec S4x64 1 :=
  let main_v0 : FVec F S2x8192x2048 .f32 := (extf .f32 · bitsLt_bf16_f32) main_arg0
  let main_v1 : FVec F S2x8192x2048 .f32 := Host.absf main_v0
  let main_cst : FVec F S_ .f32 := constant S_ .f32 0x7F800000#32
  let main_v2 : FVec F S2x8192x2048 .f32 := broadcastInDim S2x8192x2048 ![] bcast_S_S2x8192x2048 main_cst
  let main_v3 : IVec S2x8192x2048 1 := cmpf .olt main_v1 main_v2
  let main_v4 : FVec F S2x8448x2048 .bf16 := (extractStridedSlice S2x8448x2048 ![0, 0, 0] · slices_S2x8704x2048_S2x8448x2048_0_0_0) main_arg1
  let main_v5 : FVec F S2x8448x2048 .f32 := (extf .f32 · bitsLt_bf16_f32) main_v4
  let main_v6 : FVec F S2x8448x2048 .f32 := Host.absf main_v5
  let main_cst_0 : FVec F S_ .f32 := constant S_ .f32 0x7F800000#32
  let main_v7 : FVec F S2x8448x2048 .f32 := broadcastInDim S2x8448x2048 ![] bcast_S_S2x8448x2048 main_cst_0
  let main_v8 : IVec S2x8448x2048 1 := cmpf .olt main_v6 main_v7
  let main_v9 : FVec F S2x8448x2048 .bf16 := (extractStridedSlice S2x8448x2048 ![0, 0, 0] · slices_S2x8704x2048_S2x8448x2048_0_0_0) main_arg2
  let main_v10 : FVec F S2x8448x2048 .f32 := (extf .f32 · bitsLt_bf16_f32) main_v9
  let main_v11 : FVec F S2x8448x2048 .f32 := Host.absf main_v10
  let main_cst_1 : FVec F S_ .f32 := constant S_ .f32 0x7F800000#32
  let main_v12 : FVec F S2x8448x2048 .f32 := broadcastInDim S2x8448x2048 ![] bcast_S_S2x8448x2048 main_cst_1
  let main_v13 : IVec S2x8448x2048 1 := cmpf .olt main_v11 main_v12
  let main_v14 : FVec F S4x64 .f32 := Host.absf main_arg3
  let main_cst_2 : FVec F S_ .f32 := constant S_ .f32 0x7F800000#32
  let main_v15 : FVec F S4x64 .f32 := broadcastInDim S4x64 ![] bcast_S_S4x64 main_cst_2
  let main_v16 : IVec S4x64 1 := cmpf .olt main_v14 main_v15
  (main_v3, main_v8, main_v13, main_v16)
-- ==== Pre_finite_qk.lean ====
abbrev S2x8192x1024 : Shape := ⟨3, ![2, 8192, 1024]⟩
abbrev S2x8704x256 : Shape := ⟨3, ![2, 8704, 256]⟩
abbrev S_ : Shape := ⟨0, ![]⟩
abbrev S2x8448x256 : Shape := ⟨3, ![2, 8448, 256]⟩

class Facts : Prop where
  bitsLt_bf16_f32 : FTy.bits .bf16 < FTy.bits .f32
  bcast_S_S2x8192x1024 : S_.BroadcastsInDim S2x8192x1024 (![] : Fin 0 → Fin S2x8192x1024.rank)
  slices_S2x8704x256_S2x8448x256_0_0_0 : S2x8704x256.Slices ![0, 0, 0] S2x8448x256
  bcast_S_S2x8448x256 : S_.BroadcastsInDim S2x8448x256 (![] : Fin 0 → Fin S2x8448x256.rank)

variable [Facts]

def fn {F : FTy → Type} [FloatOps F] (main_arg0 : FVec F S2x8192x1024 .bf16) (main_arg1 : FVec F S2x8704x256 .bf16) (main_arg2 : FVec F S2x8704x256 .bf16) : IVec S2x8192x1024 1 × IVec S2x8448x256 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S2x8448x256 .bf16 := (extractStridedSlice S2x8448x256 ![0, 0, 0] · slices_S2x8704x256_S2x8448x256_0_0_0) main_arg1
  let main_v5 : FVec F S2x8448x256 .f32 := (extf .f32 · bitsLt_bf16_f32) main_v4
  let main_v6 : FVec F S2x8448x256 .f32 := Host.absf main_v5
  let main_cst_0 : FVec F S_ .f32 := constant S_ .f32 0x7F800000#32
  let main_v7 : FVec F S2x8448x256 .f32 := broadcastInDim S2x8448x256 ![] bcast_S_S2x8448x256 main_cst_0
  let main_v8 : IVec S2x8448x256 1 := cmpf .olt main_v6 main_v7
  (main_v3, main_v8)
-- ==== Diff.lean ====
abbrev S2x8192x2048 : Shape := ⟨3, ![2, 8192, 2048]⟩
abbrev S2x8704x2048 : Shape := ⟨3, ![2, 8704, 2048]⟩
abbrev S4x64 : Shape := ⟨2, ![4, 64]⟩
abbrev S128 : Shape := ⟨1, ![128]⟩
abbrev S1x128 : Shape := ⟨2, ![1, 128]⟩
abbrev S1x1024x128 : Shape := ⟨3, ![1, 1024, 128]⟩
abbrev S1x8448x128 : Shape := ⟨3, ![1, 8448, 128]⟩
abbrev S2048x128 : Shape := ⟨2, ![2048, 128]⟩
abbrev S1024x128 : Shape := ⟨2, ![1024, 128]⟩
abbrev S8448x128 : Shape := ⟨2, ![8448, 128]⟩
abbrev S8448x256 : Shape := ⟨2, ![8448, 256]⟩
abbrev S1x64 : Shape := ⟨2, ![1, 64]⟩
abbrev S1 : Shape := ⟨1, ![1]⟩
abbrev S1x1 : Shape := ⟨2, ![1, 1]⟩
abbrev S128x128 : Shape := ⟨2, ![128, 128]⟩
abbrev S128x8448 : Shape := ⟨2, ![128, 8448]⟩
abbrev S128x1 : Shape := ⟨2, ![128, 1]⟩
abbrev S128x256 : Shape := ⟨2, ![128, 256]⟩
abbrev S1x128x128 : Shape := ⟨3, ![1, 128, 128]⟩

abbrev nBuf : Space → Nat
  | .hbm => 7
  | .vmem => 11
  | .smem => 0
  | _ => 0

abbrev bufTy : (tb : Table) → Fin (tcTables nBuf tb) → BufTy
  | .hbm, ⟨0, _⟩ => ⟨S2x8192x2048, .bf16⟩
  | .hbm, ⟨1, _⟩ => ⟨S2x8704x2048, .bf16⟩
  | .hbm, ⟨2, _⟩ => ⟨S2x8704x2048, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S2x8192x2048, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S4x64, .f32⟩
  | .local _ .vmem, ⟨7, _⟩ => ⟨S1x128, .f32⟩
  | .local _ .vmem, ⟨8, _⟩ => ⟨S1x1024x128, .bf16⟩
  | .local _ .vmem, ⟨9, _⟩ => ⟨S1x1024x128, .bf16⟩
  | .local _ .vmem, ⟨10, _⟩ => ⟨S2048x128, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffRefIdeal.lean ====
abbrev S2x8192x2048 : Shape := ⟨3, ![2, 8192, 2048]⟩
abbrev S2x8704x2048 : Shape := ⟨3, ![2, 8704, 2048]⟩
abbrev S4x64 : Shape := ⟨2, ![4, 64]⟩
abbrev S128 : Shape := ⟨1, ![128]⟩
abbrev S16384x16x2x2x32 : Shape := ⟨5, ![16384, 16, 2, 2, 32]⟩
abbrev S16384x16x2x32x2 : Shape := ⟨5, ![16384, 16, 2, 32, 2]⟩
abbrev S2x8192x16x2x64 : Shape := ⟨5, ![2, 8192, 16, 2, 64]⟩
abbrev S2x8448x2048 : Shape := ⟨3, ![2, 8448, 2048]⟩
abbrev S16896x16x2x2x32 : Shape := ⟨5, ![16896, 16, 2, 2, 32]⟩
abbrev S16896x16x2x32x2 : Shape := ⟨5, ![16896, 16, 2, 32, 2]⟩
abbrev S2x8448x16x2x64 : Shape := ⟨5, ![2, 8448, 16, 2, 64]⟩
abbrev S2x8448x16x128 : Shape := ⟨4, ![2, 8448, 16, 128]⟩
abbrev S1x64 : Shape := ⟨2, ![1, 64]⟩
abbrev S64 : Shape := ⟨1, ![64]⟩
abbrev S_ : Shape := ⟨0, ![]⟩
abbrev S2x16x2x8192x8448 : Shape := ⟨5, ![2, 16, 2, 8192, 8448]⟩
abbrev S2x16x2x8192 : Shape := ⟨4, ![2, 16, 2, 8192]⟩
abbrev S2x16x2x8192x1 : Shape := ⟨5, ![2, 16, 2, 8192, 1]⟩
abbrev S2x16x1x8192x8448 : Shape := ⟨5, ![2, 16, 1, 8192, 8448]⟩
abbrev S2x16x8192x8448 : Shape := ⟨4, ![2, 16, 8192, 8448]⟩
abbrev S2x16x128x8192 : Shape := ⟨4, ![2, 16, 128, 8192]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8704x2048, .bf16⟩
  | .hbm, ⟨2, _⟩ => ⟨S2x8704x2048, .bf16⟩
  | .hbm, ⟨3, _⟩ => ⟨S4x64, .f32⟩
  | .hbm, ⟨4, _⟩ => ⟨S128, .f32⟩
  | .hbm, ⟨5, _⟩ => ⟨S2x8192x2048, .f32⟩
  | .hbm, ⟨6, _⟩ => ⟨S16384x16x2x2x32, .f32⟩
  | .hbm, ⟨7, _⟩ => ⟨S16384x16x2x32x2, .f32⟩
  | .hbm, ⟨8, _⟩ => ⟨S2x8192x16x2x64, .f32⟩
  | .hbm, ⟨9, _⟩ => ⟨S2x8448x2048, .bf16⟩
  | .hbm, ⟨10, _⟩ => ⟨S2x8448x2048, .f32⟩
  | .hbm, ⟨11, _⟩ => ⟨S16896x16x2x2x32, .f32⟩
  | .hbm, ⟨12, _⟩ => ⟨S16896x16x2x32x2, .f32⟩
  | .hbm, ⟨13, _⟩ => ⟨S2x8448x16x2x64, .f32⟩
  | .hbm, ⟨14, _⟩ => ⟨S2x8448x2048, .bf16⟩
  | .hbm, ⟨15, _⟩ => ⟨S2x8448x2048, .f32⟩
  | .hbm, ⟨16, _⟩ => ⟨S2x8448x16x128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x16x2x8192x8448, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x16x2x8192x8448, .f32⟩
  | .hbm, ⟨41, _⟩ => ⟨S2x16x2x8192x8448, .f32⟩
  | .hbm, ⟨42, _⟩ => ⟨S_, .f32⟩
  | .hbm, ⟨43, _⟩ => ⟨S2x16x2x8192, .f32⟩
  | .hbm, ⟨44, _⟩ => ⟨S_, .f32⟩
  | .hbm, ⟨45, _⟩ => ⟨S2x16x2x8192, .f32⟩
  | .hbm, ⟨46, _⟩ => ⟨S2x16x2x8192, .f32⟩
  | .hbm, ⟨47, _⟩ => ⟨S2x16x2x8192x1, .f32⟩
  | .hbm, ⟨48, _⟩ => ⟨S2x16x2x8192x8448, .f32⟩
  | .hbm, ⟨49, _⟩ => ⟨S2x16x2x8192x8448, .f32⟩
  | .hbm, ⟨50, _⟩ => ⟨S2x16x2x8192x8448, .f32⟩
  | .hbm, ⟨51, _⟩ => ⟨S_, .f32⟩
  | .hbm, ⟨52, _⟩ => ⟨S2x16x2x8192, .f32⟩
  | .hbm, ⟨53, _⟩ => ⟨S2x16x2x8192x1, .f32⟩
  | .hbm, ⟨54, _⟩ => ⟨S2x16x2x8192x8448, .f32⟩
  | .hbm, ⟨55, _⟩ => ⟨S2x16x2x8192x8448, .f32⟩
  | .hbm, ⟨56, _⟩ => ⟨S2x16x1x8192x8448, .f32⟩
  | .hbm, ⟨57, _⟩ => ⟨S2x16x8192x8448, .f32⟩
  | .hbm, ⟨58, _⟩ => ⟨S2x16x1x8192x8448, .f32⟩
  | .hbm, ⟨59, _⟩ => ⟨S2x16x8192x8448, .f32⟩
  | .hbm, ⟨60, _⟩ => ⟨S2x16x8192x8448, .f32⟩
  | .hbm, ⟨61, _⟩ => ⟨S2x16x8192x8448, .f32⟩
  | .hbm, ⟨62, _⟩ => ⟨S2x16x8192x8448, .f32⟩
  | .hbm, ⟨63, _⟩ => ⟨S2x16x128x8192, .f32⟩
  | .hbm, ⟨64, _⟩ => ⟨S2x8192x16x128, .f32⟩
  | .hbm, ⟨65, _⟩ => ⟨S2x8192x16x128, .f32⟩
  | .hbm, ⟨66, _⟩ => ⟨S_, .f32⟩
  | .hbm, ⟨67, _⟩ => ⟨S2x8192x16, .f32⟩
  | .hbm, ⟨68, _⟩ => ⟨S2x8192x16x1, .f32⟩
  | .hbm, ⟨69, _⟩ => ⟨S_, .f32⟩
  | .hbm, ⟨70, _⟩ => ⟨S2x8192x16x1, .f32⟩
  | .hbm, ⟨71, _⟩ => ⟨S2x8192x16x1, .f32⟩
  | .hbm, ⟨72, _⟩ => ⟨S_, .f32⟩
  | .hbm, ⟨73, _⟩ => ⟨S2x8192x16x1, .f32⟩
  | .hbm, ⟨74, _⟩ => ⟨S2x8192x16x1, .f32⟩
  | .hbm, ⟨75, _⟩ => ⟨S2x8192x16x1, .f32⟩
  | .hbm, ⟨76, _⟩ => ⟨S2x8192x16x128, .f32⟩
  | .hbm, ⟨77, _⟩ => ⟨S2x8192x16x128, .f32⟩
  | .hbm, ⟨78, _⟩ => ⟨S1x1x1x128, .f32⟩
  | .hbm, ⟨79, _⟩ => ⟨S2x8192x16x128, .f32⟩
  | .hbm, ⟨80, _⟩ => ⟨S2x8192x16x128, .f32⟩
  | .hbm, ⟨81, _⟩ => ⟨S_, .f32⟩
  | .hbm, ⟨82, _⟩ => ⟨S2x8192x16x128, .f32⟩
  | .hbm, ⟨83, _⟩ => ⟨S2x8192x16x128, .f32⟩
  | .hbm, ⟨84, _⟩ => ⟨S2x8192x2048, .f32⟩
  | .hbm, ⟨85, _⟩ => ⟨S2x8192x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Ffn.lean ====
abbrev S2x8192x2048 : Shape := ⟨3, ![2, 8192, 2048]⟩
abbrev S2048 : Shape := ⟨1, ![2048]⟩
abbrev S2x2048 : Shape := ⟨2, ![2, 2048]⟩
abbrev S2x2048x11264 : Shape := ⟨3, ![2, 2048, 11264]⟩
abbrev S3x11264 : Shape := ⟨2, ![3, 11264]⟩
abbrev S11264 : Shape := ⟨1, ![11264]⟩
abbrev S2x5632x2048 : Shape := ⟨3, ![2, 5632, 2048]⟩
abbrev S1x11264 : Shape := ⟨2, ![1, 11264]⟩
abbrev S1x2048 : Shape := ⟨2, ![1, 2048]⟩
abbrev S2x1x2048 : Shape := ⟨3, ![2, 1, 2048]⟩
abbrev S1x512x2048 : Shape := ⟨3, ![1, 512, 2048]⟩
abbrev S1x16x2048 : Shape := ⟨3, ![1, 16, 2048]⟩
abbrev S1x1x2048 : Shape := ⟨3, ![1, 1, 2048]⟩
abbrev S1x2048x512 : Shape := ⟨3, ![1, 2048, 512]⟩
abbrev S3x512 : Shape := ⟨2, ![3, 512]⟩
abbrev S1x512 : Shape := ⟨2, ![1, 512]⟩
abbrev S544x2048 : Shape := ⟨2, ![544, 2048]⟩
abbrev S512x2048 : Shape := ⟨2, ![512, 2048]⟩
abbrev S512 : Shape := ⟨1, ![512]⟩
abbrev S512x1 : Shape := ⟨2, ![512, 1]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S544x512 : Shape := ⟨2, ![544, 512]⟩
abbrev S544x128 : Shape := ⟨2, ![544, 128]⟩
abbrev S3x128 : Shape := ⟨2, ![3, 128]⟩
abbrev S1x128 : Shape := ⟨2, ![1, 128]⟩
abbrev S512x128 : Shape := ⟨2, ![512, 128]⟩
abbrev S512x512 : Shape := ⟨2, ![512, 512]⟩

abbrev nBuf : Space → Nat
  | .hbm => 17
  | .vmem => 31
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x2048x11264, .bf16⟩
  | .hbm, ⟨5, _⟩ => ⟨S3x11264, .f32⟩
  | .hbm, ⟨6, _⟩ => ⟨S11264, .f32⟩
  | .hbm, ⟨7, _⟩ => ⟨S2x5632x2048, .bf16⟩
  | .hbm, ⟨8, _⟩ => ⟨S2048, .f32⟩
  | .hbm, ⟨9, _⟩ => ⟨S2x2048, .f32⟩
  | .hbm, ⟨10, _⟩ => ⟨S1x11264, .f32⟩
  | .hbm, ⟨11, _⟩ => ⟨S1x2048, .f32⟩
  | .hbm, ⟨12, _⟩ => ⟨S2x1x2048, .f32⟩
  | .hbm, ⟨13, _⟩ => ⟨S2x1x2048, .f32⟩
  | .hbm, ⟨14, _⟩ => ⟨S1x2048, .f32⟩
  | .hbm, ⟨15, _⟩ => ⟨S2x1x2048, .f32⟩
  | .hbm, ⟨16, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S3x512, .f32⟩
  | .local _ .vmem, ⟨16, _⟩ => ⟨S3x512, .f32⟩
  | .local _ .vmem, ⟨17, _⟩ => ⟨S3x512, .f32⟩
  | .local _ .vmem, ⟨18, _⟩ => ⟨S3x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512x2048, .bf16⟩
  | .local _ .vmem, ⟨24, _⟩ => ⟨S1x512x2048, .bf16⟩
  | .local _ .vmem, ⟨25, _⟩ => ⟨S1x2048, .f32⟩
  | .local _ .vmem, ⟨26, _⟩ => ⟨S1x1x2048, .f32⟩
  | .local _ .vmem, ⟨27, _⟩ => ⟨S1x1x2048, .f32⟩
  | .local _ .vmem, ⟨28, _⟩ => ⟨S1x512x2048, .f32⟩
  | .local _ .vmem, ⟨29, _⟩ => ⟨S1x512x2048, .f32⟩
  | .local _ .vmem, ⟨30, _⟩ => ⟨S544x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨3, ![2, 16, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S1x512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== FfnRefIdeal.lean ====
abbrev S2x8192x2048 : Shape := ⟨3, ![2, 8192, 2048]⟩
abbrev S2048 : Shape := ⟨1, ![2048]⟩
abbrev S2x2048 : Shape := ⟨2, ![2, 2048]⟩
abbrev S2x2048x11264 : Shape := ⟨3, ![2, 2048, 11264]⟩
abbrev S3x11264 : Shape := ⟨2, ![3, 11264]⟩
abbrev S11264 : Shape := ⟨1, ![11264]⟩
abbrev S2x5632x2048 : Shape := ⟨3, ![2, 5632, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x8192x11264 : Shape := ⟨3, ![2, 8192, 11264]⟩
abbrev S2x8194x11264 : Shape := ⟨3, ![2, 8194, 11264]⟩
abbrev S1x11264 : Shape := ⟨2, ![1, 11264]⟩
abbrev S1x1x11264 : Shape := ⟨3, ![1, 1, 11264]⟩
abbrev S2x8192x5632 : Shape := ⟨3, ![2, 8192, 5632]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x2048x11264, .bf16⟩
  | .hbm, ⟨5, _⟩ => ⟨S3x11264, .f32⟩
  | .hbm, ⟨6, _⟩ => ⟨S11264, .f32⟩
  | .hbm, ⟨7, _⟩ => ⟨S2x5632x2048, .bf16⟩
  | .hbm, ⟨8, _⟩ => ⟨S2048, .f32⟩
  | .hbm, ⟨9, _⟩ => ⟨S2x2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x1x2048, .f32⟩
  | .hbm, ⟨33, _⟩ => ⟨S2x8192x2048, .f32⟩
  | .hbm, ⟨34, _⟩ => ⟨S2x8192x2048, .f32⟩
  | .hbm, ⟨35, _⟩ => ⟨S1x2048x11264, .bf16⟩
  | .hbm, ⟨36, _⟩ => ⟨S2048x11264, .bf16⟩
  | .hbm, ⟨37, _⟩ => ⟨S2048x11264, .f32⟩
  | .hbm, ⟨38, _⟩ => ⟨S1x5632x2048, .bf16⟩
  | .hbm, ⟨39, _⟩ => ⟨S5632x2048, .bf16⟩
  | .hbm, ⟨40, _⟩ => ⟨S5632x2048, .f32⟩
  | .hbm, ⟨41, _⟩ => ⟨S2x8192x11264, .f32⟩
  | .hbm, ⟨42, _⟩ => ⟨S_, .i32⟩
  | .hbm, ⟨43, _⟩ => ⟨S_, .f32⟩
  | .hbm, ⟨44, _⟩ => ⟨S2x8194x11264, .f32⟩
  | .hbm, ⟨45, _⟩ => ⟨S2x8192x11264, .f32⟩
  | .hbm, ⟨46, _⟩ => ⟨S1x11264, .f32⟩
  | .hbm, ⟨47, _⟩ => ⟨S11264, .f32⟩
  | .hbm, ⟨48, _⟩ => ⟨S1x1x11264, .f32⟩
  | .hbm, ⟨49, _⟩ => ⟨S2x8192x11264, .f32⟩
  | .hbm, ⟨50, _⟩ => ⟨S2x8192x11264, .f32⟩
  | .hbm, ⟨51, _⟩ => ⟨S2x8192x11264, .f32⟩
  | .hbm, ⟨52, _⟩ => ⟨S1x11264, .f32⟩
  | .hbm, ⟨53, _⟩ => ⟨S11264, .f32⟩
  | .hbm, ⟨54, _⟩ => ⟨S1x1x11264, .f32⟩
  | .hbm, ⟨55, _⟩ => ⟨S2x8192x11264, .f32⟩
  | .hbm, ⟨56, _⟩ => ⟨S2x8192x11264, .f32⟩
  | .hbm, ⟨57, _⟩ => ⟨S2x8192x11264, .f32⟩
  | .hbm, ⟨58, _⟩ => ⟨S2x8192x11264, .f32⟩
  | .hbm, ⟨59, _⟩ => ⟨S1x11264, .f32⟩
  | .hbm, ⟨60, _⟩ => ⟨S11264, .f32⟩
  | .hbm, ⟨61, _⟩ => ⟨S1x1x11264, .f32⟩
  | .hbm, ⟨62, _⟩ => ⟨S2x8192x11264, .f32⟩
  | .hbm, ⟨63, _⟩ => ⟨S2x8192x11264, .f32⟩
  | .hbm, ⟨64, _⟩ => ⟨S2x8192x11264, .f32⟩
  | .hbm, ⟨65, _⟩ => ⟨S1x1x11264, .f32⟩
  | .hbm, ⟨66, _⟩ => ⟨S2x8192x11264, .f32⟩
  | .hbm, ⟨67, _⟩ => ⟨S2x8192x11264, .f32⟩
  | .hbm, ⟨68, _⟩ => ⟨S2x8192x5632, .f32⟩
  | .hbm, ⟨69, _⟩ => ⟨S2x8192x5632, .f32⟩
  | .hbm, ⟨70, _⟩ => ⟨S2x8192x5632, .f32⟩
  | .hbm, ⟨71, _⟩ => ⟨S2x8192x5632, .f32⟩
  | .hbm, ⟨72, _⟩ => ⟨S_, .f32⟩
  | .hbm, ⟨73, _⟩ => ⟨S2x8192x5632, .f32⟩
  | .hbm, ⟨74, _⟩ => ⟨S2x8192x5632, .f32⟩
  | .hbm, ⟨75, _⟩ => ⟨S_, .f32⟩
  | .hbm, ⟨76, _⟩ => ⟨S2x8192x5632, .f32⟩
  | .hbm, ⟨77, _⟩ => ⟨S2x8192x5632, .f32⟩
  | .hbm, ⟨78, _⟩ => ⟨S2x8192x5632, .f32⟩
  | .hbm, ⟨79, _⟩ => ⟨S2x8192x5632, .f32⟩
  | .hbm, ⟨80, _⟩ => ⟨S2x8192x2048, .f32⟩
  | .hbm, ⟨81, _⟩ => ⟨S2x1x2048, .f32⟩
  | .hbm, ⟨82, _⟩ => ⟨S2x8192x2048, .f32⟩
  | .hbm, ⟨83, _⟩ => ⟨S_, .f32⟩
  | .hbm, ⟨84, _⟩ => ⟨S2x8192, .f32⟩
  | .hbm, ⟨85, _⟩ => ⟨S2x8192x1, .f32⟩
  | .hbm, ⟨86, _⟩ => ⟨S_, .f32⟩
  | .hbm, ⟨87, _⟩ => ⟨S2x8192x1, .f32⟩
  | .hbm, ⟨88, _⟩ => ⟨S2x8192x1, .f32⟩
  | .hbm, ⟨89, _⟩ => ⟨S_, .f32⟩
  | .hbm, ⟨90, _⟩ => ⟨S2x8192x1, .f32⟩
  | .hbm, ⟨91, _⟩ => ⟨S2x8192x1, .f32⟩
  | .hbm, ⟨92, _⟩ => ⟨S2x8192x1, .f32⟩
  | .hbm, ⟨93, _⟩ => ⟨S2x8192x2048, .f32⟩
  | .hbm, ⟨94, _⟩ => ⟨S2x8192x2048, .f32⟩
  | .hbm, ⟨95, _⟩ => ⟨S1x1x2048, .f32⟩
  | .hbm, ⟨96, _⟩ => ⟨S2x8192x2048, .f32⟩
  | .hbm, ⟨97, _⟩ => ⟨S2x8192x2048, .f32⟩
  | .hbm, ⟨98, _⟩ => ⟨S2x8192x2048, .f32⟩
  | .hbm, ⟨99, _⟩ => ⟨S2x8192x2048, .f32⟩
  | .hbm, ⟨100, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_3 : Ref sig .tc := ⟨.hbm, 83, rfl⟩
abbrev main_v59 : Ref sig .tc := ⟨.hbm, 84, rfl⟩
abbrev main_v60 : Ref sig .tc := ⟨.hbm, 85, rfl⟩
abbrev main_cst_4 : Ref sig .tc := ⟨.hbm, 86, rfl⟩
abbrev main_v61 : Ref sig .tc := ⟨.hbm, 87, rfl⟩
abbrev main_v62 : Ref sig .tc := ⟨.hbm, 88, rfl⟩
abbrev main_cst_5 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Gqa.lean ====
abbrev S2x8192x1024 : Shape := ⟨3, ![2, 8192, 1024]⟩
abbrev S2x8704x256 : Shape := ⟨3, ![2, 8704, 256]⟩
abbrev S1x512x512 : Shape := ⟨3, ![1, 512, 512]⟩
abbrev S1x8448x128 : Shape := ⟨3, ![1, 8448, 128]⟩
abbrev S2048x128 : Shape := ⟨2, ![2048, 128]⟩
abbrev S512x512 : Shape := ⟨2, ![512, 512]⟩
abbrev S512x128 : Shape := ⟨2, ![512, 128]⟩
abbrev S8448x128 : Shape := ⟨2, ![8448, 128]⟩
abbrev S8448x256 : Shape := ⟨2, ![8448, 256]⟩
abbrev S128x128 : Shape := ⟨2, ![128, 128]⟩
abbrev S128x8448 : Shape := ⟨2, ![128, 8448]⟩
abbrev S128 : Shape := ⟨1, ![128]⟩
abbrev S128x1 : Shape := ⟨2, ![128, 1]⟩
abbrev S128x256 : Shape := ⟨2, ![128, 256]⟩
abbrev S1x128x128 : Shape := ⟨3, ![1, 128, 128]⟩

abbrev nBuf : Space → Nat
  | .hbm => 4
  | .vmem => 9
  | .smem => 0
  | _ => 0

abbrev bufTy : (tb : Table) → Fin (tcTables nBuf tb) → BufTy
  | .hbm, ⟨0, _⟩ => ⟨S2x8192x1024, .bf16⟩
  | .hbm, ⟨1, _⟩ => ⟨S2x8704x256, .bf16⟩
  | .hbm, ⟨2, _⟩ => ⟨S2x8704x256, .bf16⟩
  | .hbm, ⟨3, _⟩ => ⟨S2x8192x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x512x512, .bf16⟩
  | .local _ .vmem, ⟨7, _⟩ => ⟨S1x512x512, .bf16⟩
  | .local _ .vmem, ⟨8, _⟩ => ⟨S2048x128, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S2x8192x1024 : Shape := ⟨3, ![2, 8192, 1024]⟩
abbrev S2x8704x256 : Shape := ⟨3, ![2, 8704, 256]⟩
abbrev S2x8192x2x4x128 : Shape := ⟨5, ![2, 8192, 2, 4, 128]⟩
abbrev S2x8448x256 : Shape := ⟨3, ![2, 8448, 256]⟩
abbrev S2x8448x2x128 : Shape := ⟨4, ![2, 8448, 2, 128]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8704x256, .bf16⟩
  | .hbm, ⟨2, _⟩ => ⟨S2x8704x256, .bf16⟩
  | .hbm, ⟨3, _⟩ => ⟨S2x8192x1024, .f32⟩
  | .hbm, ⟨4, _⟩ => ⟨S2x8192x2x4x128, .f32⟩
  | .hbm, ⟨5, _⟩ => ⟨S2x8448x256, .bf16⟩
  | .hbm, ⟨6, _⟩ => ⟨S2x8448x256, .f32⟩
  | .hbm, ⟨7, _⟩ => ⟨S2x8448x2x128, .f32⟩
  | .hbm, ⟨8, _⟩ => ⟨S2x8448x256, .bf16⟩
  | .hbm, ⟨9, _⟩ => ⟨S2x8448x256, .f32⟩
  | .hbm, ⟨10, _⟩ => ⟨S2x8448x2x128, .f32⟩
  | .hbm, ⟨11, _⟩ => ⟨S2x2x8448x8192x4, .f32⟩
  | .hbm, ⟨12, _⟩ => ⟨S2x2x4x8192x8448, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x2x4x8192x8448, .f32⟩
  | .hbm, ⟨17, _⟩ => ⟨S2x2x4x8192x8448, .f32⟩
  | .hbm, ⟨18, _⟩ => ⟨S_, .f32⟩
  | .hbm, ⟨19, _⟩ => ⟨S2x2x4x8192, .f32⟩
  | .hbm, ⟨20, _⟩ => ⟨S_, .f32⟩
  | .hbm, ⟨21, _⟩ => ⟨S2x2x4x8192, .f32⟩
  | .hbm, ⟨22, _⟩ => ⟨S2x2x4x8192, .f32⟩
  | .hbm, ⟨23, _⟩ => ⟨S2x2x4x8192x1, .f32⟩
  | .hbm, ⟨24, _⟩ => ⟨S2x2x4x8192x8448, .f32⟩
  | .hbm, ⟨25, _⟩ => ⟨S2x2x4x8192x8448, .f32⟩
  | .hbm, ⟨26, _⟩ => ⟨S2x2x4x8192x8448, .f32⟩
  | .hbm, ⟨27, _⟩ => ⟨S_, .f32⟩
  | .hbm, ⟨28, _⟩ => ⟨S2x2x4x8192, .f32⟩
  | .hbm, ⟨29, _⟩ => ⟨S2x2x4x8192x1, .f32⟩
  | .hbm, ⟨30, _⟩ => ⟨S2x2x4x8192x8448, .f32⟩
  | .hbm, ⟨31, _⟩ => ⟨S2x2x4x8192x8448, .f32⟩
  | .hbm, ⟨32, _⟩ => ⟨S2x2x128x4x8192, .f32⟩
  | .hbm, ⟨33, _⟩ => ⟨S2x8192x2x4x128, .f32⟩
  | .hbm, ⟨34, _⟩ => ⟨S2x8192x1024, .f32⟩
  | .hbm, ⟨35, _⟩ => ⟨S2x8192x1024, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== OutC.lean ====
abbrev S2x8192x2048 : Shape := ⟨3, ![2, 8192, 2048]⟩
abbrev S2048x2048 : Shape := ⟨2, ![2048, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S2x2048, .f32⟩
  | .hbm, ⟨5, _⟩ => ⟨S2048x2048, .bf16⟩
  | .hbm, ⟨6, _⟩ => ⟨S1x2048, .f32⟩
  | .hbm, ⟨7, _⟩ => ⟨S2x1x2048, .f32⟩
  | .hbm, ⟨8, _⟩ => ⟨S2x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x512x2048, .f32⟩
  | .local _ .vmem, ⟨9, _⟩ => ⟨S1x512x2048, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutCRefIdeal.lean ====
abbrev S2x8192x2048 : Shape := ⟨3, ![2, 8192, 2048]⟩
abbrev S2048x2048 : Shape := ⟨2, ![2048, 2048]⟩
abbrev S2048 : Shape := ⟨1, ![2048]⟩
abbrev S2x2048 : Shape := ⟨2, ![2, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S2x2048, .f32⟩
  | .hbm, ⟨5, _⟩ => ⟨S2x8192x2048, .f32⟩
  | .hbm, ⟨6, _⟩ => ⟨S2x8192x2048, .f32⟩
  | .hbm, ⟨7, _⟩ => ⟨S2x1x2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutAb.lean ====
abbrev S2x8192x1024 : Shape := ⟨3, ![2, 8192, 1024]⟩
abbrev S2048x2048 : Shape := ⟨2, ![2048, 2048]⟩
abbrev S2x8192x2048 : Shape := ⟨3, ![2, 8192, 2048]⟩
abbrev S2048 : Shape := ⟨1, ![2048]⟩
abbrev S2x2048 : Shape := ⟨2, ![2, 2048]⟩
abbrev S1024x2048 : Shape := ⟨2, ![1024, 2048]⟩
abbrev S1x2048 : Shape := ⟨2, ![1, 2048]⟩
abbrev S2x1x2048 : Shape := ⟨3, ![2, 1, 2048]⟩
abbrev S1x512x1024 : Shape := ⟨3, ![1, 512, 1024]⟩
abbrev S1x512x2048 : Shape := ⟨3, ![1, 512, 2048]⟩
abbrev S1x1x2048 : Shape := ⟨3, ![1, 1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2048x2048, .f32⟩
  | .hbm, ⟨3, _⟩ => ⟨S2x8192x2048, .f32⟩
  | .hbm, ⟨4, _⟩ => ⟨S2048, .f32⟩
  | .hbm, ⟨5, _⟩ => ⟨S2x2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S2x1x2048, .f32⟩
  | .hbm, ⟨11, _⟩ => ⟨S2x8192x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x512x2048, .f32⟩
  | .local _ .vmem, ⟨12, _⟩ => ⟨S1x512x2048, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutAbRefIdeal.lean ====
abbrev S2x8192x1024 : Shape := ⟨3, ![2, 8192, 1024]⟩
abbrev S2048x2048 : Shape := ⟨2, ![2048, 2048]⟩
abbrev S2x8192x2048 : Shape := ⟨3, ![2, 8192, 2048]⟩
abbrev S2048 : Shape := ⟨1, ![2048]⟩
abbrev S2x2048 : Shape := ⟨2, ![2, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2048x2048, .f32⟩
  | .hbm, ⟨3, _⟩ => ⟨S2x8192x2048, .f32⟩
  | .hbm, ⟨4, _⟩ => ⟨S2048, .f32⟩
  | .hbm, ⟨5, _⟩ => ⟨S2x2048, .f32⟩
  | .hbm, ⟨6, _⟩ => ⟨S2x8192x1024, .f32⟩
  | .hbm, ⟨7, _⟩ => ⟨S2x8192x2048, .f32⟩
  | .hbm, ⟨8, _⟩ => ⟨S2x8192x2048, .f32⟩
  | .hbm, ⟨9, _⟩ => ⟨S2x1x2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== HyIn.lean ====
abbrev S2x8192x2048 : Shape := ⟨3, ![2, 8192, 2048]⟩
abbrev S2048x4608 : Shape := ⟨2, ![2048, 4608]⟩
abbrev S3x3072 : Shape := ⟨2, ![3, 3072]⟩
abbrev S3072 : Shape := ⟨1, ![3072]⟩
abbrev S2048x3072 : Shape := ⟨2, ![2048, 3072]⟩
abbrev S1x3072 : Shape := ⟨2, ![1, 3072]⟩
abbrev S3x2x8192x1024 : Shape := ⟨4, ![3, 2, 8192, 1024]⟩
abbrev S1x512x2048 : Shape := ⟨3, ![1, 512, 2048]⟩
abbrev S1x16x2048 : Shape := ⟨3, ![1, 16, 2048]⟩
abbrev S2048x1024 : Shape := ⟨2, ![2048, 1024]⟩
abbrev S3x1024 : Shape := ⟨2, ![3, 1024]⟩
abbrev S1x1024 : Shape := ⟨2, ![1, 1024]⟩
abbrev S1x1x512x1024 : Shape := ⟨4, ![1, 1, 512, 1024]⟩
abbrev S16x2048 : Shape := ⟨2, ![16, 2048]⟩
abbrev S512x2048 : Shape := ⟨2, ![512, 2048]⟩
abbrev S544x2048 : Shape := ⟨2, ![544, 2048]⟩
abbrev S544x1024 : Shape := ⟨2, ![544, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S3x3072, .f32⟩
  | .hbm, ⟨3, _⟩ => ⟨S3072, .f32⟩
  | .hbm, ⟨4, _⟩ => ⟨S2048x3072, .f32⟩
  | .hbm, ⟨5, _⟩ => ⟨S2048x3072, .bf16⟩
  | .hbm, ⟨6, _⟩ => ⟨S1x3072, .f32⟩
  | .hbm, ⟨7, _⟩ => ⟨S3x2x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S2048x1024, .bf16⟩
  | .local _ .vmem, ⟨7, _⟩ => ⟨S2048x1024, .bf16⟩
  | .local _ .vmem, ⟨8, _⟩ => ⟨S3x1024, .f32⟩
  | .local _ .vmem, ⟨9, _⟩ => ⟨S3x1024, .f32⟩
  | .local _ .vmem, ⟨10, _⟩ => ⟨S1x1024, .f32⟩
  | .local _ .vmem, ⟨11, _⟩ => ⟨S1x1024, .f32⟩
  | .local _ .vmem, ⟨12, _⟩ => ⟨S1x1x512x1024, .f32⟩
  | .local _ .vmem, ⟨13, _⟩ => ⟨S1x1x512x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![3, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg1.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, arg2.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== HyInRefIdeal.lean ====
abbrev S2x8192x2048 : Shape := ⟨3, ![2, 8192, 2048]⟩
abbrev S2048x4608 : Shape := ⟨2, ![2048, 4608]⟩
abbrev S3x3072 : Shape := ⟨2, ![3, 3072]⟩
abbrev S3072 : Shape := ⟨1, ![3072]⟩
abbrev S2048x3072 : Shape := ⟨2, ![2048, 3072]⟩
abbrev S2x8192x3072 : Shape := ⟨3, ![2, 8192, 3072]⟩
abbrev S_ : Shape := ⟨0, ![]⟩
abbrev S2x8194x3072 : Shape := ⟨3, ![2, 8194, 3072]⟩
abbrev S1x3072 : Shape := ⟨2, ![1, 3072]⟩
abbrev S1x1x3072 : Shape := ⟨3, ![1, 1, 3072]⟩
abbrev S2x8192x1024 : Shape := ⟨3, ![2, 8192, 1024]⟩
abbrev S1x2x8192x1024 : Shape := ⟨4, ![1, 2, 8192, 1024]⟩
abbrev S3x2x8192x1024 : Shape := ⟨4, ![3, 2, 8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S3x3072, .f32⟩
  | .hbm, ⟨3, _⟩ => ⟨S3072, .f32⟩
  | .hbm, ⟨4, _⟩ => ⟨S2x8192x2048, .f32⟩
  | .hbm, ⟨5, _⟩ => ⟨S2048x3072, .f32⟩
  | .hbm, ⟨6, _⟩ => ⟨S2x8192x3072, .f32⟩
  | .hbm, ⟨7, _⟩ => ⟨S_, .i32⟩
  | .hbm, ⟨8, _⟩ => ⟨S_, .f32⟩
  | .hbm, ⟨9, _⟩ => ⟨S2x8194x3072, .f32⟩
  | .hbm, ⟨10, _⟩ => ⟨S2x8192x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S2x8192x3072, .f32⟩
  | .hbm, ⟨15, _⟩ => ⟨S2x8192x3072, .f32⟩
  | .hbm, ⟨16, _⟩ => ⟨S2x8192x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S2x8192x3072, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S2x8192x3072, .f32⟩
  | .hbm, ⟨28, _⟩ => ⟨S2x8192x3072, .f32⟩
  | .hbm, ⟨29, _⟩ => ⟨S2x8192x3072, .f32⟩
  | .hbm, ⟨30, _⟩ => ⟨S1x1x3072, .f32⟩
  | .hbm, ⟨31, _⟩ => ⟨S2x8192x3072, .f32⟩
  | .hbm, ⟨32, _⟩ => ⟨S2x8192x3072, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S1x2x8192x1024, .f32⟩
  | .hbm, ⟨37, _⟩ => ⟨S1x2x8192x1024, .f32⟩
  | .hbm, ⟨38, _⟩ => ⟨S1x2x8192x1024, .f32⟩
  | .hbm, ⟨39, _⟩ => ⟨S3x2x8192x1024, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Val.lean ====
abbrev S2x8192x2048 : Shape := ⟨3, ![2, 8192, 2048]⟩
abbrev S2048x6144 : Shape := ⟨2, ![2048, 6144]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S2x8704x2048 : Shape := ⟨3, ![2, 8704, 2048]⟩
abbrev S1x512x2048 : Shape := ⟨3, ![1, 512, 2048]⟩
abbrev S512x2048 : Shape := ⟨2, ![512, 2048]⟩
abbrev S512x128 : Shape := ⟨2, ![512, 128]⟩
abbrev S1x128 : Shape := ⟨2, ![1, 128]⟩
abbrev S1x512x128 : Shape := ⟨3, ![1, 512, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x8192x2048, .bf16⟩
  | .hbm, ⟨1, _⟩ => ⟨S2048x6144, .f32⟩
  | .hbm, ⟨2, _⟩ => ⟨S2048x2048, .f32⟩
  | .hbm, ⟨3, _⟩ => ⟨S2048x2048, .bf16⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S2x8704x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x2048, .f32⟩
  | .local _ .vmem, ⟨4, _⟩ => ⟨S1x512x2048, .bf16⟩
  | .local _ .vmem, ⟨5, _⟩ => ⟨S1x512x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 17, 1], ![false, false, false]⟩

def k0_cond1 (i : grid0.Coords) : BitVec 1 :=
  let arg1 : BitVec 32 := BitVec.ofNat 32 (i 1).val
  let c16_i32 : BitVec 32 := 16#32
  let v0 : BitVec 1 := Scalar.cmpi .sge arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .slt arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ValRefIdeal.lean ====
abbrev S2x8192x2048 : Shape := ⟨3, ![2, 8192, 2048]⟩
abbrev S2048x6144 : Shape := ⟨2, ![2048, 6144]⟩
abbrev S2048x2048 : Shape := ⟨2, ![2048, 2048]⟩
abbrev S_ : Shape := ⟨0, ![]⟩
abbrev S2x8704x2048 : Shape := ⟨3, ![2, 8704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x6144, .f32⟩
  | .hbm, ⟨2, _⟩ => ⟨S2x8192x2048, .f32⟩
  | .hbm, ⟨3, _⟩ => ⟨S2048x2048, .f32⟩
  | .hbm, ⟨4, _⟩ => ⟨S2x8192x2048, .f32⟩
  | .hbm, ⟨5, _⟩ => ⟨S_, .i32⟩
  | .hbm, ⟨6, _⟩ => ⟨S_, .f32⟩
  | .hbm, ⟨7, _⟩ => ⟨S2x8704x2048, .f32⟩
  | .hbm, ⟨8, _⟩ => ⟨S2x8704x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Qry.lean ====
abbrev S2x8192x2048 : Shape := ⟨3, ![2, 8192, 2048]⟩
abbrev S2048x6144 : Shape := ⟨2, ![2048, 6144]⟩
abbrev S2048x2048 : Shape := ⟨2, ![2048, 2048]⟩
abbrev S2048x16x2x32x2 : Shape := ⟨5, ![2048, 16, 2, 32, 2]⟩
abbrev S2048x16x2x32x1 : Shape := ⟨5, ![2048, 16, 2, 32, 1]⟩
abbrev S2048x16x2x32 : Shape := ⟨4, ![2048, 16, 2, 32]⟩
abbrev S2048x16x64 : Shape := ⟨3, ![2048, 16, 64]⟩
abbrev S2048x16x128 : Shape := ⟨3, ![2048, 16, 128]⟩
abbrev S_ : Shape := ⟨0, ![]⟩
abbrev S2048 : Shape := ⟨1, ![2048]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S1x8192x2x32 : Shape := ⟨4, ![1, 8192, 2, 32]⟩
abbrev S8192x64 : Shape := ⟨2, ![8192, 64]⟩
abbrev S8192x128 : Shape := ⟨2, ![8192, 128]⟩
abbrev S1x2048 : Shape := ⟨2, ![1, 2048]⟩
abbrev S1x512x2048 : Shape := ⟨3, ![1, 512, 2048]⟩
abbrev S512x128 : Shape := ⟨2, ![512, 128]⟩
abbrev S512x2048 : Shape := ⟨2, ![512, 2048]⟩
abbrev S1x128 : Shape := ⟨2, ![1, 128]⟩
abbrev S1x512x128 : Shape := ⟨3, ![1, 512, 128]⟩

abbrev nBuf : Space → Nat
  | .hbm => 63
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S2048x6144, .f32⟩
  | .hbm, ⟨2, _⟩ => ⟨S2048x2048, .f32⟩
  | .hbm, ⟨3, _⟩ => ⟨S2048x16x2x32x2, .f32⟩
  | .hbm, ⟨4, _⟩ => ⟨S2048x16x2x32x1, .f32⟩
  | .hbm, ⟨5, _⟩ => ⟨S2048x16x2x32, .f32⟩
  | .hbm, ⟨6, _⟩ => ⟨S2048x16x64, .f32⟩
  | .hbm, ⟨7, _⟩ => ⟨S2048x16x2x32x1, .f32⟩
  | .hbm, ⟨8, _⟩ => ⟨S2048x16x2x32, .f32⟩
  | .hbm, ⟨9, _⟩ => ⟨S2048x16x64, .f32⟩
  | .hbm, ⟨10, _⟩ => ⟨S2048x16x128, .f32⟩
  | .hbm, ⟨11, _⟩ => ⟨S2048x2048, .f32⟩
  | .hbm, ⟨12, _⟩ => ⟨S2048x2048, .bf16⟩
  | .hbm, ⟨13, _⟩ => ⟨S_, .f32⟩
  | .hbm, ⟨14, _⟩ => ⟨S2048, .f32⟩
  | .hbm, ⟨15, _⟩ => ⟨S128, .i32⟩
  | .hbm, ⟨16, _⟩ => ⟨S128x1, .i32⟩
  | .hbm, ⟨17, _⟩ => ⟨S128x64, .i32⟩
  | .hbm, ⟨18, _⟩ => ⟨S8192, .i32⟩
  | .hbm, ⟨19, _⟩ => ⟨S64, .i32⟩
  | .hbm, ⟨20, _⟩ => ⟨S1x64, .i32⟩
  | .hbm, ⟨21, _⟩ => ⟨S128x64, .i32⟩
  | .hbm, ⟨22, _⟩ => ⟨S8192, .i32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S8192, .f32⟩
  | .hbm, ⟨38, _⟩ => ⟨S8192x1, .f32⟩
  | .hbm, ⟨39, _⟩ => ⟨S1x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192, .f32⟩
  | .hbm, ⟨44, _⟩ => ⟨S8192x1, .f32⟩
  | .hbm, ⟨45, _⟩ => ⟨S1x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S1x8192x1x32, .f32⟩
  | .hbm, ⟨53, _⟩ => ⟨S1x8192x2x32, .f32⟩
  | .hbm, ⟨54, _⟩ => ⟨S8192x64, .f32⟩
  | .hbm, ⟨55, _⟩ => ⟨S1x8192x1x32, .f32⟩
  | .hbm, ⟨56, _⟩ => ⟨S1x8192x2x32, .f32⟩
  | .hbm, ⟨57, _⟩ => ⟨S8192x64, .f32⟩
  | .hbm, ⟨58, _⟩ => ⟨S8192x128, .f32⟩
  | .hbm, ⟨59, _⟩ => ⟨S8192x64, .f32⟩
  | .hbm, ⟨60, _⟩ => ⟨S8192x128, .f32⟩
  | .hbm, ⟨61, _⟩ => ⟨S1x2048, .f32⟩
  | .hbm, ⟨62, _⟩ => ⟨S2x8192x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x2048, .bf16⟩
  | .local _ .vmem, ⟨9, _⟩ => ⟨S1x512x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== QryRefIdeal.lean ====
abbrev S2x8192x2048 : Shape := ⟨3, ![2, 8192, 2048]⟩
abbrev S2048x6144 : Shape := ⟨2, ![2048, 6144]⟩
abbrev S2048x2048 : Shape := ⟨2, ![2048, 2048]⟩
abbrev S2x8192x32x64 : Shape := ⟨4, ![2, 8192, 32, 64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S2x8192x32x32 : Shape := ⟨4, ![2, 8192, 32, 32]⟩
abbrev S2x8192x32x32x1 : Shape := ⟨5, ![2, 8192, 32, 32, 1]⟩
abbrev S2x8192x32x32x2 : Shape := ⟨5, ![2, 8192, 32, 32, 2]⟩
abbrev S16384x16x2x32x2 : Shape := ⟨5, ![16384, 16, 2, 32, 2]⟩
abbrev S16384x16x2x2x32 : Shape := ⟨5, ![16384, 16, 2, 2, 32]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x6144, .f32⟩
  | .hbm, ⟨2, _⟩ => ⟨S2x8192x2048, .f32⟩
  | .hbm, ⟨3, _⟩ => ⟨S2048x2048, .f32⟩
  | .hbm, ⟨4, _⟩ => ⟨S2x8192x2048, .f32⟩
  | .hbm, ⟨5, _⟩ => ⟨S2x8192x32x64, .f32⟩
  | .hbm, ⟨6, _⟩ => ⟨S128, .i32⟩
  | .hbm, ⟨7, _⟩ => ⟨S128x1, .i32⟩
  | .hbm, ⟨8, _⟩ => ⟨S128x64, .i32⟩
  | .hbm, ⟨9, _⟩ => ⟨S8192, .i32⟩
  | .hbm, ⟨10, _⟩ => ⟨S64, .i32⟩
  | .hbm, ⟨11, _⟩ => ⟨S1x64, .i32⟩
  | .hbm, ⟨12, _⟩ => ⟨S128x64, .i32⟩
  | .hbm, ⟨13, _⟩ => ⟨S8192, .i32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S8192, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192, .f32⟩
  | .hbm, ⟨35, _⟩ => ⟨S8192x1, .f32⟩
  | .hbm, ⟨36, _⟩ => ⟨S1x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S1x8192x1x32, .f32⟩
  | .hbm, ⟨44, _⟩ => ⟨S1x8192x1x32, .f32⟩
  | .hbm, ⟨45, _⟩ => ⟨S2x8192x32x32, .f32⟩
  | .hbm, ⟨46, _⟩ => ⟨S2x8192x32x32, .f32⟩
  | .hbm, ⟨47, _⟩ => ⟨S2x8192x32x32, .f32⟩
  | .hbm, ⟨48, _⟩ => ⟨S2x8192x32x32, .f32⟩
  | .hbm, ⟨49, _⟩ => ⟨S2x8192x32x32, .f32⟩
  | .hbm, ⟨50, _⟩ => ⟨S2x8192x32x32, .f32⟩
  | .hbm, ⟨51, _⟩ => ⟨S2x8192x32x32, .f32⟩
  | .hbm, ⟨52, _⟩ => ⟨S2x8192x32x32, .f32⟩
  | .hbm, ⟨53, _⟩ => ⟨S2x8192x32x32, .f32⟩
  | .hbm, ⟨54, _⟩ => ⟨S2x8192x32x32, .f32⟩
  | .hbm, ⟨55, _⟩ => ⟨S2x8192x32x32, .f32⟩
  | .hbm, ⟨56, _⟩ => ⟨S2x8192x32x32, .f32⟩
  | .hbm, ⟨57, _⟩ => ⟨S2x8192x32x32x1, .f32⟩
  | .hbm, ⟨58, _⟩ => ⟨S2x8192x32x32x1, .f32⟩
  | .hbm, ⟨59, _⟩ => ⟨S2x8192x32x32x2, .f32⟩
  | .hbm, ⟨60, _⟩ => ⟨S_, .f32⟩
  | .hbm, ⟨61, _⟩ => ⟨S2x8192x32x32x2, .f32⟩
  | .hbm, ⟨62, _⟩ => ⟨S2x8192x32x32x2, .f32⟩
  | .hbm, ⟨63, _⟩ => ⟨S16384x16x2x32x2, .f32⟩
  | .hbm, ⟨64, _⟩ => ⟨S16384x16x2x2x32, .f32⟩
  | .hbm, ⟨65, _⟩ => ⟨S2x8192x2048, .f32⟩
  | .hbm, ⟨66, _⟩ => ⟨S2x8192x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_3 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]
-- ==== Key.lean ====
abbrev S2x8192x2048 : Shape := ⟨3, ![2, 8192, 2048]⟩
abbrev S2048x6144 : Shape := ⟨2, ![2048, 6144]⟩
abbrev S2048x2048 : Shape := ⟨2, ![2048, 2048]⟩
abbrev S2048x16x2x32x2 : Shape := ⟨5, ![2048, 16, 2, 32, 2]⟩
abbrev S2048x16x2x32x1 : Shape := ⟨5, ![2048, 16, 2, 32, 1]⟩
abbrev S2048x16x2x32 : Shape := ⟨4, ![2048, 16, 2, 32]⟩
abbrev S2048x16x64 : Shape := ⟨3, ![2048, 16, 64]⟩
abbrev S2048x16x128 : Shape := ⟨3, ![2048, 16, 128]⟩
abbrev S_ : Shape := ⟨0, ![]⟩
abbrev S2048 : Shape := ⟨1, ![2048]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S1x8192x2x32 : Shape := ⟨4, ![1, 8192, 2, 32]⟩
abbrev S8192x64 : Shape := ⟨2, ![8192, 64]⟩
abbrev S8192x128 : Shape := ⟨2, ![8192, 128]⟩
abbrev S1x2048 : Shape := ⟨2, ![1, 2048]⟩
abbrev S2x8704x2048 : Shape := ⟨3, ![2, 8704, 2048]⟩
abbrev S1x512x2048 : Shape := ⟨3, ![1, 512, 2048]⟩
abbrev S512x128 : Shape := ⟨2, ![512, 128]⟩
abbrev S512x2048 : Shape := ⟨2, ![512, 2048]⟩
abbrev S1x128 : Shape := ⟨2, ![1, 128]⟩
abbrev S1x512x128 : Shape := ⟨3, ![1, 512, 128]⟩

abbrev nBuf : Space → Nat
  | .hbm => 63
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S2048x6144, .f32⟩
  | .hbm, ⟨2, _⟩ => ⟨S2048x2048, .f32⟩
  | .hbm, ⟨3, _⟩ => ⟨S2048x16x2x32x2, .f32⟩
  | .hbm, ⟨4, _⟩ => ⟨S2048x16x2x32x1, .f32⟩
  | .hbm, ⟨5, _⟩ => ⟨S2048x16x2x32, .f32⟩
  | .hbm, ⟨6, _⟩ => ⟨S2048x16x64, .f32⟩
  | .hbm, ⟨7, _⟩ => ⟨S2048x16x2x32x1, .f32⟩
  | .hbm, ⟨8, _⟩ => ⟨S2048x16x2x32, .f32⟩
  | .hbm, ⟨9, _⟩ => ⟨S2048x16x64, .f32⟩
  | .hbm, ⟨10, _⟩ => ⟨S2048x16x128, .f32⟩
  | .hbm, ⟨11, _⟩ => ⟨S2048x2048, .f32⟩
  | .hbm, ⟨12, _⟩ => ⟨S2048x2048, .bf16⟩
  | .hbm, ⟨13, _⟩ => ⟨S_, .f32⟩
  | .hbm, ⟨14, _⟩ => ⟨S2048, .f32⟩
  | .hbm, ⟨15, _⟩ => ⟨S128, .i32⟩
  | .hbm, ⟨16, _⟩ => ⟨S128x1, .i32⟩
  | .hbm, ⟨17, _⟩ => ⟨S128x64, .i32⟩
  | .hbm, ⟨18, _⟩ => ⟨S8192, .i32⟩
  | .hbm, ⟨19, _⟩ => ⟨S64, .i32⟩
  | .hbm, ⟨20, _⟩ => ⟨S1x64, .i32⟩
  | .hbm, ⟨21, _⟩ => ⟨S128x64, .i32⟩
  | .hbm, ⟨22, _⟩ => ⟨S8192, .i32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S8192, .f32⟩
  | .hbm, ⟨38, _⟩ => ⟨S8192x1, .f32⟩
  | .hbm, ⟨39, _⟩ => ⟨S1x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192, .f32⟩
  | .hbm, ⟨44, _⟩ => ⟨S8192x1, .f32⟩
  | .hbm, ⟨45, _⟩ => ⟨S1x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S1x8192x1x32, .f32⟩
  | .hbm, ⟨53, _⟩ => ⟨S1x8192x2x32, .f32⟩
  | .hbm, ⟨54, _⟩ => ⟨S8192x64, .f32⟩
  | .hbm, ⟨55, _⟩ => ⟨S1x8192x1x32, .f32⟩
  | .hbm, ⟨56, _⟩ => ⟨S1x8192x2x32, .f32⟩
  | .hbm, ⟨57, _⟩ => ⟨S8192x64, .f32⟩
  | .hbm, ⟨58, _⟩ => ⟨S8192x128, .f32⟩
  | .hbm, ⟨59, _⟩ => ⟨S8192x64, .f32⟩
  | .hbm, ⟨60, _⟩ => ⟨S8192x128, .f32⟩
  | .hbm, ⟨61, _⟩ => ⟨S1x2048, .f32⟩
  | .hbm, ⟨62, _⟩ => ⟨S2x8704x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x2048, .bf16⟩
  | .local _ .vmem, ⟨9, _⟩ => ⟨S1x512x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 17, 1], ![false, false, false]⟩

def k0_cond1 (i : grid0.Coords) : BitVec 1 :=
  let arg1 : BitVec 32 := BitVec.ofNat 32 (i 1).val
  let c16_i32 : BitVec 32 := 16#32
  let v0 : BitVec 1 := Scalar.cmpi .sge arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .slt arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KeyRefIdeal.lean ====
abbrev S2x8192x2048 : Shape := ⟨3, ![2, 8192, 2048]⟩
abbrev S2048x6144 : Shape := ⟨2, ![2048, 6144]⟩
abbrev S2048x2048 : Shape := ⟨2, ![2048, 2048]⟩
abbrev S2x8192x32x64 : Shape := ⟨4, ![2, 8192, 32, 64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S2x8192x32x32 : Shape := ⟨4, ![2, 8192, 32, 32]⟩
abbrev S2x8192x32x32x1 : Shape := ⟨5, ![2, 8192, 32, 32, 1]⟩
abbrev S2x8192x32x32x2 : Shape := ⟨5, ![2, 8192, 32, 32, 2]⟩
abbrev S16384x16x2x32x2 : Shape := ⟨5, ![16384, 16, 2, 32, 2]⟩
abbrev S16384x16x2x2x32 : Shape := ⟨5, ![16384, 16, 2, 2, 32]⟩
abbrev S2x8704x2048 : Shape := ⟨3, ![2, 8704, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x6144, .f32⟩
  | .hbm, ⟨2, _⟩ => ⟨S2x8192x2048, .f32⟩
  | .hbm, ⟨3, _⟩ => ⟨S2048x2048, .f32⟩
  | .hbm, ⟨4, _⟩ => ⟨S2x8192x2048, .f32⟩
  | .hbm, ⟨5, _⟩ => ⟨S2x8192x32x64, .f32⟩
  | .hbm, ⟨6, _⟩ => ⟨S128, .i32⟩
  | .hbm, ⟨7, _⟩ => ⟨S128x1, .i32⟩
  | .hbm, ⟨8, _⟩ => ⟨S128x64, .i32⟩
  | .hbm, ⟨9, _⟩ => ⟨S8192, .i32⟩
  | .hbm, ⟨10, _⟩ => ⟨S64, .i32⟩
  | .hbm, ⟨11, _⟩ => ⟨S1x64, .i32⟩
  | .hbm, ⟨12, _⟩ => ⟨S128x64, .i32⟩
  | .hbm, ⟨13, _⟩ => ⟨S8192, .i32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S8192, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192, .f32⟩
  | .hbm, ⟨35, _⟩ => ⟨S8192x1, .f32⟩
  | .hbm, ⟨36, _⟩ => ⟨S1x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S1x8192x1x32, .f32⟩
  | .hbm, ⟨44, _⟩ => ⟨S1x8192x1x32, .f32⟩
  | .hbm, ⟨45, _⟩ => ⟨S2x8192x32x32, .f32⟩
  | .hbm, ⟨46, _⟩ => ⟨S2x8192x32x32, .f32⟩
  | .hbm, ⟨47, _⟩ => ⟨S2x8192x32x32, .f32⟩
  | .hbm, ⟨48, _⟩ => ⟨S2x8192x32x32, .f32⟩
  | .hbm, ⟨49, _⟩ => ⟨S2x8192x32x32, .f32⟩
  | .hbm, ⟨50, _⟩ => ⟨S2x8192x32x32, .f32⟩
  | .hbm, ⟨51, _⟩ => ⟨S2x8192x32x32, .f32⟩
  | .hbm, ⟨52, _⟩ => ⟨S2x8192x32x32, .f32⟩
  | .hbm, ⟨53, _⟩ => ⟨S2x8192x32x32, .f32⟩
  | .hbm, ⟨54, _⟩ => ⟨S2x8192x32x32, .f32⟩
  | .hbm, ⟨55, _⟩ => ⟨S2x8192x32x32, .f32⟩
  | .hbm, ⟨56, _⟩ => ⟨S2x8192x32x32, .f32⟩
  | .hbm, ⟨57, _⟩ => ⟨S2x8192x32x32x1, .f32⟩
  | .hbm, ⟨58, _⟩ => ⟨S2x8192x32x32x1, .f32⟩
  | .hbm, ⟨59, _⟩ => ⟨S2x8192x32x32x2, .f32⟩
  | .hbm, ⟨60, _⟩ => ⟨S16384x16x2x32x2, .f32⟩
  | .hbm, ⟨61, _⟩ => ⟨S16384x16x2x2x32, .f32⟩
  | .hbm, ⟨62, _⟩ => ⟨S2x8192x2048, .f32⟩
  | .hbm, ⟨63, _⟩ => ⟨S_, .i32⟩
  | .hbm, ⟨64, _⟩ => ⟨S_, .f32⟩
  | .hbm, ⟨65, _⟩ => ⟨S2x8704x2048, .f32⟩
  | .hbm, ⟨66, _⟩ => ⟨S2x8704x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_c : Ref sig .tc := ⟨.hbm, 63, rfl⟩
abbrev main_call0_v0 : Ref sig .tc := ⟨.hbm, 64, rfl⟩
abbrev main_v57 : Ref sig .tc := ⟨.hbm, 65, rfl⟩
abbrev main_v58 : Ref sig .tc := ⟨.hbm, 66, rfl⟩

abbrev nD : Nat := 1
abbrev τ : Topo := Topo.v7x

variable {F : FTy → Type} [FloatOps F]
-- ==== ValA.lean ====
abbrev S2x8192x2048 : Shape := ⟨3, ![2, 8192, 2048]⟩
abbrev S2048x4608 : Shape := ⟨2, ![2048, 4608]⟩
abbrev S2048x256 : Shape := ⟨2, ![2048, 256]⟩
abbrev S_ : Shape := ⟨0, ![]⟩
abbrev S256 : Shape := ⟨1, ![256]⟩
abbrev S1x256 : Shape := ⟨2, ![1, 256]⟩
abbrev S2x8704x256 : Shape := ⟨3, ![2, 8704, 256]⟩
abbrev S1x512x2048 : Shape := ⟨3, ![1, 512, 2048]⟩
abbrev S1x512x256 : Shape := ⟨3, ![1, 512, 256]⟩
abbrev S512x256 : Shape := ⟨2, ![512, 256]⟩
abbrev S512x2048 : Shape := ⟨2, ![512, 2048]⟩
abbrev S512x128 : Shape := ⟨2, ![512, 128]⟩
abbrev S1x128 : Shape := ⟨2, ![1, 128]⟩
abbrev S1x512x128 : Shape := ⟨3, ![1, 512, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S2048x256, .f32⟩
  | .hbm, ⟨3, _⟩ => ⟨S2048x256, .bf16⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S2x8704x256, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x256, .bf16⟩
  | .local _ .vmem, ⟨3, _⟩ => ⟨S1x256, .f32⟩
  | .local _ .vmem, ⟨4, _⟩ => ⟨S1x512x256, .bf16⟩
  | .local _ .vmem, ⟨5, _⟩ => ⟨S1x512x256, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 17, 1], ![false, false, false]⟩

def k0_cond1 (i : grid0.Coords) : BitVec 1 :=
  let arg1 : BitVec 32 := BitVec.ofNat 32 (i 1).val
  let c16_i32 : BitVec 32 := 16#32
  let v0 : BitVec 1 := Scalar.cmpi .sge arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .slt arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ValARefIdeal.lean ====
abbrev S2x8192x2048 : Shape := ⟨3, ![2, 8192, 2048]⟩
abbrev S2048x4608 : Shape := ⟨2, ![2048, 4608]⟩
abbrev S2048x256 : Shape := ⟨2, ![2048, 256]⟩
abbrev S2x8192x256 : Shape := ⟨3, ![2, 8192, 256]⟩
abbrev S_ : Shape := ⟨0, ![]⟩
abbrev S2x8704x256 : Shape := ⟨3, ![2, 8704, 256]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S2x8192x2048, .f32⟩
  | .hbm, ⟨3, _⟩ => ⟨S2048x256, .f32⟩
  | .hbm, ⟨4, _⟩ => ⟨S2x8192x256, .f32⟩
  | .hbm, ⟨5, _⟩ => ⟨S_, .i32⟩
  | .hbm, ⟨6, _⟩ => ⟨S_, .f32⟩
  | .hbm, ⟨7, _⟩ => ⟨S2x8704x256, .f32⟩
  | .hbm, ⟨8, _⟩ => ⟨S2x8704x256, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mod.lean ====
abbrev S2x8192x2048 : Shape := ⟨3, ![2, 8192, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2x1x2048, .f32⟩
  | .hbm, ⟨6, _⟩ => ⟨S2x1x2048, .f32⟩
  | .hbm, ⟨7, _⟩ => ⟨S2x8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ModRefIdeal.lean ====
abbrev S2x8192x2048 : Shape := ⟨3, ![2, 8192, 2048]⟩
abbrev S2048 : Shape := ⟨1, ![2048]⟩
abbrev S2x2048 : Shape := ⟨2, ![2, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x8192x2048, .f32⟩
  | .hbm, ⟨25, _⟩ => ⟨S2x8192x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== QryA.lean ====
abbrev S2x8192x2048 : Shape := ⟨3, ![2, 8192, 2048]⟩
abbrev S2048x4608 : Shape := ⟨2, ![2048, 4608]⟩
abbrev S2x128 : Shape := ⟨2, ![2, 128]⟩
abbrev S2048x1024 : Shape := ⟨2, ![2048, 1024]⟩
abbrev S2048x8x1x64x2 : Shape := ⟨5, ![2048, 8, 1, 64, 2]⟩
abbrev S2048x8x1x64x1 : Shape := ⟨5, ![2048, 8, 1, 64, 1]⟩
abbrev S2048x8x1x64 : Shape := ⟨4, ![2048, 8, 1, 64]⟩
abbrev S2048x8x64 : Shape := ⟨3, ![2048, 8, 64]⟩
abbrev S2048x8x128 : Shape := ⟨3, ![2048, 8, 128]⟩
abbrev S1x128 : Shape := ⟨2, ![1, 128]⟩
abbrev S128 : Shape := ⟨1, ![128]⟩
abbrev S1x1x64x2 : Shape := ⟨4, ![1, 1, 64, 2]⟩
abbrev S1x1x64x1 : Shape := ⟨4, ![1, 1, 64, 1]⟩
abbrev S1x1x64 : Shape := ⟨3, ![1, 1, 64]⟩
abbrev S1x64 : Shape := ⟨2, ![1, 64]⟩
abbrev S_ : Shape := ⟨0, ![]⟩
abbrev S8x128 : Shape := ⟨2, ![8, 128]⟩
abbrev S1024 : Shape := ⟨1, ![1024]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S8192x128 : Shape := ⟨2, ![8192, 128]⟩
abbrev S1x1024 : Shape := ⟨2, ![1, 1024]⟩
abbrev S2x8192x1024 : Shape := ⟨3, ![2, 8192, 1024]⟩
abbrev S1x512x2048 : Shape := ⟨3, ![1, 512, 2048]⟩
abbrev S512x128 : Shape := ⟨2, ![512, 128]⟩
abbrev S1x512x1024 : Shape := ⟨3, ![1, 512, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1x512x128 : Shape := ⟨3, ![1, 512, 128]⟩

abbrev nBuf : Space → Nat
  | .hbm => 79
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S2x128, .f32⟩
  | .hbm, ⟨3, _⟩ => ⟨S2048x1024, .f32⟩
  | .hbm, ⟨4, _⟩ => ⟨S2048x8x1x64x2, .f32⟩
  | .hbm, ⟨5, _⟩ => ⟨S2048x8x1x64x1, .f32⟩
  | .hbm, ⟨6, _⟩ => ⟨S2048x8x1x64, .f32⟩
  | .hbm, ⟨7, _⟩ => ⟨S2048x8x64, .f32⟩
  | .hbm, ⟨8, _⟩ => ⟨S2048x8x1x64x1, .f32⟩
  | .hbm, ⟨9, _⟩ => ⟨S2048x8x1x64, .f32⟩
  | .hbm, ⟨10, _⟩ => ⟨S2048x8x64, .f32⟩
  | .hbm, ⟨11, _⟩ => ⟨S2048x8x128, .f32⟩
  | .hbm, ⟨12, _⟩ => ⟨S2048x1024, .f32⟩
  | .hbm, ⟨13, _⟩ => ⟨S2048x1024, .bf16⟩
  | .hbm, ⟨14, _⟩ => ⟨S1x128, .f32⟩
  | .hbm, ⟨15, _⟩ => ⟨S128, .f32⟩
  | .hbm, ⟨16, _⟩ => ⟨S1x1x64x2, .f32⟩
  | .hbm, ⟨17, _⟩ => ⟨S1x1x64x1, .f32⟩
  | .hbm, ⟨18, _⟩ => ⟨S1x1x64, .f32⟩
  | .hbm, ⟨19, _⟩ => ⟨S1x64, .f32⟩
  | .hbm, ⟨20, _⟩ => ⟨S1x1x64x1, .f32⟩
  | .hbm, ⟨21, _⟩ => ⟨S1x1x64, .f32⟩
  | .hbm, ⟨22, _⟩ => ⟨S1x64, .f32⟩
  | .hbm, ⟨23, _⟩ => ⟨S1x128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S8x128, .f32⟩
  | .hbm, ⟨30, _⟩ => ⟨S1024, .f32⟩
  | .hbm, ⟨31, _⟩ => ⟨S128, .i32⟩
  | .hbm, ⟨32, _⟩ => ⟨S128x1, .i32⟩
  | .hbm, ⟨33, _⟩ => ⟨S128x64, .i32⟩
  | .hbm, ⟨34, _⟩ => ⟨S8192, .i32⟩
  | .hbm, ⟨35, _⟩ => ⟨S64, .i32⟩
  | .hbm, ⟨36, _⟩ => ⟨S1x64, .i32⟩
  | .hbm, ⟨37, _⟩ => ⟨S128x64, .i32⟩
  | .hbm, ⟨38, _⟩ => ⟨S8192, .i32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S8192, .f32⟩
  | .hbm, ⟨54, _⟩ => ⟨S8192x1, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192, .f32⟩
  | .hbm, ⟨60, _⟩ => ⟨S8192x1, .f32⟩
  | .hbm, ⟨61, _⟩ => ⟨S1x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S1x8192x1x64, .f32⟩
  | .hbm, ⟨69, _⟩ => ⟨S1x8192x1x64, .f32⟩
  | .hbm, ⟨70, _⟩ => ⟨S8192x64, .f32⟩
  | .hbm, ⟨71, _⟩ => ⟨S1x8192x1x64, .f32⟩
  | .hbm, ⟨72, _⟩ => ⟨S1x8192x1x64, .f32⟩
  | .hbm, ⟨73, _⟩ => ⟨S8192x64, .f32⟩
  | .hbm, ⟨74, _⟩ => ⟨S8192x128, .f32⟩
  | .hbm, ⟨75, _⟩ => ⟨S8192x64, .f32⟩
  | .hbm, ⟨76, _⟩ => ⟨S8192x128, .f32⟩
  | .hbm, ⟨77, _⟩ => ⟨S1x1024, .f32⟩
  | .hbm, ⟨78, _⟩ => ⟨S2x8192x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x1024, .bf16⟩
  | .local _ .vmem, ⟨9, _⟩ => ⟨S1x512x1024, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== QryARefIdeal.lean ====
abbrev S2x8192x2048 : Shape := ⟨3, ![2, 8192, 2048]⟩
abbrev S2048x4608 : Shape := ⟨2, ![2048, 4608]⟩
abbrev S2x128 : Shape := ⟨2, ![2, 128]⟩
abbrev S2048x1024 : Shape := ⟨2, ![2048, 1024]⟩
abbrev S2x8192x1024 : Shape := ⟨3, ![2, 8192, 1024]⟩
abbrev S2x8192x8x128 : Shape := ⟨4, ![2, 8192, 8, 128]⟩
abbrev S1x128 : Shape := ⟨2, ![1, 128]⟩
abbrev S128 : Shape := ⟨1, ![128]⟩
abbrev S_ : Shape := ⟨0, ![]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S2x8192x8x64 : Shape := ⟨4, ![2, 8192, 8, 64]⟩
abbrev S2x8192x8x64x1 : Shape := ⟨5, ![2, 8192, 8, 64, 1]⟩
abbrev S2x8192x8x64x2 : Shape := ⟨5, ![2, 8192, 8, 64, 2]⟩
abbrev S16384x8x64x2 : Shape := ⟨4, ![16384, 8, 64, 2]⟩
abbrev S16384x8x2x64 : Shape := ⟨4, ![16384, 8, 2, 64]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S2x128, .f32⟩
  | .hbm, ⟨3, _⟩ => ⟨S2x8192x2048, .f32⟩
  | .hbm, ⟨4, _⟩ => ⟨S2048x1024, .f32⟩
  | .hbm, ⟨5, _⟩ => ⟨S2x8192x1024, .f32⟩
  | .hbm, ⟨6, _⟩ => ⟨S2x8192x8x128, .f32⟩
  | .hbm, ⟨7, _⟩ => ⟨S1x128, .f32⟩
  | .hbm, ⟨8, _⟩ => ⟨S128, .f32⟩
  | .hbm, ⟨9, _⟩ => ⟨S2x8192x8x128, .f32⟩
  | .hbm, ⟨10, _⟩ => ⟨S_, .f32⟩
  | .hbm, ⟨11, _⟩ => ⟨S2x8192x8, .f32⟩
  | .hbm, ⟨12, _⟩ => ⟨S2x8192x8x1, .f32⟩
  | .hbm, ⟨13, _⟩ => ⟨S_, .f32⟩
  | .hbm, ⟨14, _⟩ => ⟨S2x8192x8x1, .f32⟩
  | .hbm, ⟨15, _⟩ => ⟨S2x8192x8x1, .f32⟩
  | .hbm, ⟨16, _⟩ => ⟨S_, .f32⟩
  | .hbm, ⟨17, _⟩ => ⟨S2x8192x8x1, .f32⟩
  | .hbm, ⟨18, _⟩ => ⟨S2x8192x8x1, .f32⟩
  | .hbm, ⟨19, _⟩ => ⟨S2x8192x8x1, .f32⟩
  | .hbm, ⟨20, _⟩ => ⟨S2x8192x8x128, .f32⟩
  | .hbm, ⟨21, _⟩ => ⟨S2x8192x8x128, .f32⟩
  | .hbm, ⟨22, _⟩ => ⟨S1x1x1x128, .f32⟩
  | .hbm, ⟨23, _⟩ => ⟨S2x8192x8x128, .f32⟩
  | .hbm, ⟨24, _⟩ => ⟨S2x8192x8x128, .f32⟩
  | .hbm, ⟨25, _⟩ => ⟨S128, .i32⟩
  | .hbm, ⟨26, _⟩ => ⟨S128x1, .i32⟩
  | .hbm, ⟨27, _⟩ => ⟨S128x64, .i32⟩
  | .hbm, ⟨28, _⟩ => ⟨S8192, .i32⟩
  | .hbm, ⟨29, _⟩ => ⟨S64, .i32⟩
  | .hbm, ⟨30, _⟩ => ⟨S1x64, .i32⟩
  | .hbm, ⟨31, _⟩ => ⟨S128x64, .i32⟩
  | .hbm, ⟨32, _⟩ => ⟨S8192, .i32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S8192, .f32⟩
  | .hbm, ⟨48, _⟩ => ⟨S8192x1, .f32⟩
  | .hbm, ⟨49, _⟩ => ⟨S1x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192, .f32⟩
  | .hbm, ⟨54, _⟩ => ⟨S8192x1, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S1x8192x1x64, .f32⟩
  | .hbm, ⟨63, _⟩ => ⟨S1x8192x1x64, .f32⟩
  | .hbm, ⟨64, _⟩ => ⟨S2x8192x8x64, .f32⟩
  | .hbm, ⟨65, _⟩ => ⟨S2x8192x8x64, .f32⟩
  | .hbm, ⟨66, _⟩ => ⟨S2x8192x8x64, .f32⟩
  | .hbm, ⟨67, _⟩ => ⟨S2x8192x8x64, .f32⟩
  | .hbm, ⟨68, _⟩ => ⟨S2x8192x8x64, .f32⟩
  | .hbm, ⟨69, _⟩ => ⟨S2x8192x8x64, .f32⟩
  | .hbm, ⟨70, _⟩ => ⟨S2x8192x8x64, .f32⟩
  | .hbm, ⟨71, _⟩ => ⟨S2x8192x8x64, .f32⟩
  | .hbm, ⟨72, _⟩ => ⟨S2x8192x8x64, .f32⟩
  | .hbm, ⟨73, _⟩ => ⟨S2x8192x8x64, .f32⟩
  | .hbm, ⟨74, _⟩ => ⟨S2x8192x8x64, .f32⟩
  | .hbm, ⟨75, _⟩ => ⟨S2x8192x8x64, .f32⟩
  | .hbm, ⟨76, _⟩ => ⟨S2x8192x8x64x1, .f32⟩
  | .hbm, ⟨77, _⟩ => ⟨S2x8192x8x64x1, .f32⟩
  | .hbm, ⟨78, _⟩ => ⟨S2x8192x8x64x2, .f32⟩
  | .hbm, ⟨79, _⟩ => ⟨S_, .f32⟩
  | .hbm, ⟨80, _⟩ => ⟨S2x8192x8x64x2, .f32⟩
  | .hbm, ⟨81, _⟩ => ⟨S2x8192x8x64x2, .f32⟩
  | .hbm, ⟨82, _⟩ => ⟨S16384x8x64x2, .f32⟩
  | .hbm, ⟨83, _⟩ => ⟨S16384x8x2x64, .f32⟩
  | .hbm, ⟨84, _⟩ => ⟨S2x8192x1024, .f32⟩
  | .hbm, ⟨85, _⟩ => ⟨S2x8192x1024, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_6 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩

abbrev nD : Nat := 1
abbrev τ : Topo := Topo.v7x

variable {F : FTy → Type} [FloatOps F]
-- ==== KeyA.lean ====
abbrev S2x8192x2048 : Shape := ⟨3, ![2, 8192, 2048]⟩
abbrev S2048x4608 : Shape := ⟨2, ![2048, 4608]⟩
abbrev S2x128 : Shape := ⟨2, ![2, 128]⟩
abbrev S2048x256 : Shape := ⟨2, ![2048, 256]⟩
abbrev S2048x2x1x64x2 : Shape := ⟨5, ![2048, 2, 1, 64, 2]⟩
abbrev S2048x2x1x64x1 : Shape := ⟨5, ![2048, 2, 1, 64, 1]⟩
abbrev S2048x2x1x64 : Shape := ⟨4, ![2048, 2, 1, 64]⟩
abbrev S2048x2x64 : Shape := ⟨3, ![2048, 2, 64]⟩
abbrev S2048x2x128 : Shape := ⟨3, ![2048, 2, 128]⟩
abbrev S1x128 : Shape := ⟨2, ![1, 128]⟩
abbrev S128 : Shape := ⟨1, ![128]⟩
abbrev S1x1x64x2 : Shape := ⟨4, ![1, 1, 64, 2]⟩
abbrev S1x1x64x1 : Shape := ⟨4, ![1, 1, 64, 1]⟩
abbrev S1x1x64 : Shape := ⟨3, ![1, 1, 64]⟩
abbrev S1x64 : Shape := ⟨2, ![1, 64]⟩
abbrev S256 : Shape := ⟨1, ![256]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S8192x128 : Shape := ⟨2, ![8192, 128]⟩
abbrev S1x256 : Shape := ⟨2, ![1, 256]⟩
abbrev S2x8704x256 : Shape := ⟨3, ![2, 8704, 256]⟩
abbrev S1x512x2048 : Shape := ⟨3, ![1, 512, 2048]⟩
abbrev S512x128 : Shape := ⟨2, ![512, 128]⟩
abbrev S1x512x256 : Shape := ⟨3, ![1, 512, 256]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1x512x128 : Shape := ⟨3, ![1, 512, 128]⟩

abbrev nBuf : Space → Nat
  | .hbm => 76
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S2x128, .f32⟩
  | .hbm, ⟨3, _⟩ => ⟨S2048x256, .f32⟩
  | .hbm, ⟨4, _⟩ => ⟨S2048x2x1x64x2, .f32⟩
  | .hbm, ⟨5, _⟩ => ⟨S2048x2x1x64x1, .f32⟩
  | .hbm, ⟨6, _⟩ => ⟨S2048x2x1x64, .f32⟩
  | .hbm, ⟨7, _⟩ => ⟨S2048x2x64, .f32⟩
  | .hbm, ⟨8, _⟩ => ⟨S2048x2x1x64x1, .f32⟩
  | .hbm, ⟨9, _⟩ => ⟨S2048x2x1x64, .f32⟩
  | .hbm, ⟨10, _⟩ => ⟨S2048x2x64, .f32⟩
  | .hbm, ⟨11, _⟩ => ⟨S2048x2x128, .f32⟩
  | .hbm, ⟨12, _⟩ => ⟨S2048x256, .f32⟩
  | .hbm, ⟨13, _⟩ => ⟨S2048x256, .bf16⟩
  | .hbm, ⟨14, _⟩ => ⟨S1x128, .f32⟩
  | .hbm, ⟨15, _⟩ => ⟨S128, .f32⟩
  | .hbm, ⟨16, _⟩ => ⟨S1x1x64x2, .f32⟩
  | .hbm, ⟨17, _⟩ => ⟨S1x1x64x1, .f32⟩
  | .hbm, ⟨18, _⟩ => ⟨S1x1x64, .f32⟩
  | .hbm, ⟨19, _⟩ => ⟨S1x64, .f32⟩
  | .hbm, ⟨20, _⟩ => ⟨S1x1x64x1, .f32⟩
  | .hbm, ⟨21, _⟩ => ⟨S1x1x64, .f32⟩
  | .hbm, ⟨22, _⟩ => ⟨S1x64, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S2x128, .f32⟩
  | .hbm, ⟨27, _⟩ => ⟨S256, .f32⟩
  | .hbm, ⟨28, _⟩ => ⟨S128, .i32⟩
  | .hbm, ⟨29, _⟩ => ⟨S128x1, .i32⟩
  | .hbm, ⟨30, _⟩ => ⟨S128x64, .i32⟩
  | .hbm, ⟨31, _⟩ => ⟨S8192, .i32⟩
  | .hbm, ⟨32, _⟩ => ⟨S64, .i32⟩
  | .hbm, ⟨33, _⟩ => ⟨S1x64, .i32⟩
  | .hbm, ⟨34, _⟩ => ⟨S128x64, .i32⟩
  | .hbm, ⟨35, _⟩ => ⟨S8192, .i32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S8192, .f32⟩
  | .hbm, ⟨51, _⟩ => ⟨S8192x1, .f32⟩
  | .hbm, ⟨52, _⟩ => ⟨S1x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S8192, .f32⟩
  | .hbm, ⟨57, _⟩ => ⟨S8192x1, .f32⟩
  | .hbm, ⟨58, _⟩ => ⟨S1x32, .f32⟩
  | .hbm, ⟨59, _⟩ => ⟨S8192x32, .f32⟩
  | .hbm, ⟨60, _⟩ => ⟨S8192x32, .f32⟩
  | .hbm, ⟨61, _⟩ => ⟨S8192x32, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S1x8192x1x64, .f32⟩
  | .hbm, ⟨66, _⟩ => ⟨S1x8192x1x64, .f32⟩
  | .hbm, ⟨67, _⟩ => ⟨S8192x64, .f32⟩
  | .hbm, ⟨68, _⟩ => ⟨S1x8192x1x64, .f32⟩
  | .hbm, ⟨69, _⟩ => ⟨S1x8192x1x64, .f32⟩
  | .hbm, ⟨70, _⟩ => ⟨S8192x64, .f32⟩
  | .hbm, ⟨71, _⟩ => ⟨S8192x128, .f32⟩
  | .hbm, ⟨72, _⟩ => ⟨S8192x64, .f32⟩
  | .hbm, ⟨73, _⟩ => ⟨S8192x128, .f32⟩
  | .hbm, ⟨74, _⟩ => ⟨S1x256, .f32⟩
  | .hbm, ⟨75, _⟩ => ⟨S2x8704x256, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x256, .bf16⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x256, .bf16⟩
  | .local _ .vmem, ⟨9, _⟩ => ⟨S1x512x256, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst : Ref sig .tc := ⟨.hbm, 37, rfl⟩
abbrev main_v34 : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 17, 1], ![false, false, false]⟩

def k0_cond1 (i : grid0.Coords) : BitVec 1 :=
  let arg1 : BitVec 32 := BitVec.ofNat 32 (i 1).val
  let c16_i32 : BitVec 32 := 16#32
  let v0 : BitVec 1 := Scalar.cmpi .sge arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .slt arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KeyARefIdeal.lean ====
abbrev S2x8192x2048 : Shape := ⟨3, ![2, 8192, 2048]⟩
abbrev S2048x4608 : Shape := ⟨2, ![2048, 4608]⟩
abbrev S2x128 : Shape := ⟨2, ![2, 128]⟩
abbrev S2048x256 : Shape := ⟨2, ![2048, 256]⟩
abbrev S2x8192x256 : Shape := ⟨3, ![2, 8192, 256]⟩
abbrev S2x8192x2x128 : Shape := ⟨4, ![2, 8192, 2, 128]⟩
abbrev S1x128 : Shape := ⟨2, ![1, 128]⟩
abbrev S128 : Shape := ⟨1, ![128]⟩
abbrev S_ : Shape := ⟨0, ![]⟩
abbrev S2x8192x2 : Shape := ⟨3, ![2, 8192, 2]⟩
abbrev S2x8192x2x1 : Shape := ⟨4, ![2, 8192, 2, 1]⟩
abbrev S1x1x1x128 : Shape := ⟨4, ![1, 1, 1, 128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S2x8192x2x64 : Shape := ⟨4, ![2, 8192, 2, 64]⟩
abbrev S2x8192x2x64x1 : Shape := ⟨5, ![2, 8192, 2, 64, 1]⟩
abbrev S2x8192x2x64x2 : Shape := ⟨5, ![2, 8192, 2, 64, 2]⟩
abbrev S16384x2x64x2 : Shape := ⟨4, ![16384, 2, 64, 2]⟩
abbrev S16384x2x2x64 : Shape := ⟨4, ![16384, 2, 2, 64]⟩
abbrev S2x8704x256 : Shape := ⟨3, ![2, 8704, 256]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x4608, .f32⟩
  | .hbm, ⟨2, _⟩ => ⟨S2x128, .f32⟩
  | .hbm, ⟨3, _⟩ => ⟨S2x8192x2048, .f32⟩
  | .hbm, ⟨4, _⟩ => ⟨S2048x256, .f32⟩
  | .hbm, ⟨5, _⟩ => ⟨S2x8192x256, .f32⟩
  | .hbm, ⟨6, _⟩ => ⟨S2x8192x2x128, .f32⟩
  | .hbm, ⟨7, _⟩ => ⟨S1x128, .f32⟩
  | .hbm, ⟨8, _⟩ => ⟨S128, .f32⟩
  | .hbm, ⟨9, _⟩ => ⟨S2x8192x2x128, .f32⟩
  | .hbm, ⟨10, _⟩ => ⟨S_, .f32⟩
  | .hbm, ⟨11, _⟩ => ⟨S2x8192x2, .f32⟩
  | .hbm, ⟨12, _⟩ => ⟨S2x8192x2x1, .f32⟩
  | .hbm, ⟨13, _⟩ => ⟨S_, .f32⟩
  | .hbm, ⟨14, _⟩ => ⟨S2x8192x2x1, .f32⟩
  | .hbm, ⟨15, _⟩ => ⟨S2x8192x2x1, .f32⟩
  | .hbm, ⟨16, _⟩ => ⟨S_, .f32⟩
  | .hbm, ⟨17, _⟩ => ⟨S2x8192x2x1, .f32⟩
  | .hbm, ⟨18, _⟩ => ⟨S2x8192x2x1, .f32⟩
  | .hbm, ⟨19, _⟩ => ⟨S2x8192x2x1, .f32⟩
  | .hbm, ⟨20, _⟩ => ⟨S2x8192x2x128, .f32⟩
  | .hbm, ⟨21, _⟩ => ⟨S2x8192x2x128, .f32⟩
  | .hbm, ⟨22, _⟩ => ⟨S1x1x1x128, .f32⟩
  | .hbm, ⟨23, _⟩ => ⟨S2x8192x2x128, .f32⟩
  | .hbm, ⟨24, _⟩ => ⟨S2x8192x2x128, .f32⟩
  | .hbm, ⟨25, _⟩ => ⟨S128, .i32⟩
  | .hbm, ⟨26, _⟩ => ⟨S128x1, .i32⟩
  | .hbm, ⟨27, _⟩ => ⟨S128x64, .i32⟩
  | .hbm, ⟨28, _⟩ => ⟨S8192, .i32⟩
  | .hbm, ⟨29, _⟩ => ⟨S64, .i32⟩
  | .hbm, ⟨30, _⟩ => ⟨S1x64, .i32⟩
  | .hbm, ⟨31, _⟩ => ⟨S128x64, .i32⟩
  | .hbm, ⟨32, _⟩ => ⟨S8192, .i32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S8192, .f32⟩
  | .hbm, ⟨48, _⟩ => ⟨S8192x1, .f32⟩
  | .hbm, ⟨49, _⟩ => ⟨S1x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192, .f32⟩
  | .hbm, ⟨54, _⟩ => ⟨S8192x1, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S1x8192x1x64, .f32⟩
  | .hbm, ⟨63, _⟩ => ⟨S1x8192x1x64, .f32⟩
  | .hbm, ⟨64, _⟩ => ⟨S2x8192x2x64, .f32⟩
  | .hbm, ⟨65, _⟩ => ⟨S2x8192x2x64, .f32⟩
  | .hbm, ⟨66, _⟩ => ⟨S2x8192x2x64, .f32⟩
  | .hbm, ⟨67, _⟩ => ⟨S2x8192x2x64, .f32⟩
  | .hbm, ⟨68, _⟩ => ⟨S2x8192x2x64, .f32⟩
  | .hbm, ⟨69, _⟩ => ⟨S2x8192x2x64, .f32⟩
  | .hbm, ⟨70, _⟩ => ⟨S2x8192x2x64, .f32⟩
  | .hbm, ⟨71, _⟩ => ⟨S2x8192x2x64, .f32⟩
  | .hbm, ⟨72, _⟩ => ⟨S2x8192x2x64, .f32⟩
  | .hbm, ⟨73, _⟩ => ⟨S2x8192x2x64, .f32⟩
  | .hbm, ⟨74, _⟩ => ⟨S2x8192x2x64, .f32⟩
  | .hbm, ⟨75, _⟩ => ⟨S2x8192x2x64, .f32⟩
  | .hbm, ⟨76, _⟩ => ⟨S2x8192x2x64x1, .f32⟩
  | .hbm, ⟨77, _⟩ => ⟨S2x8192x2x64x1, .f32⟩
  | .hbm, ⟨78, _⟩ => ⟨S2x8192x2x64x2, .f32⟩
  | .hbm, ⟨79, _⟩ => ⟨S16384x2x64x2, .f32⟩
  | .hbm, ⟨80, _⟩ => ⟨S16384x2x2x64, .f32⟩
  | .hbm, ⟨81, _⟩ => ⟨S2x8192x256, .f32⟩
  | .hbm, ⟨82, _⟩ => ⟨S_, .i32⟩
  | .hbm, ⟨83, _⟩ => ⟨S_, .f32⟩
  | .hbm, ⟨84, _⟩ => ⟨S2x8704x256, .f32⟩
  | .hbm, ⟨85, _⟩ => ⟨S2x8704x256, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_c : Ref sig .tc := ⟨.hbm, 82, rfl⟩
abbrev main_call0_v0 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Proof.Soft.lean ====
module

public import Idealize.ShloMosaic.PureOps.Ideal
public import Idealize.ShloMosaic.Lib.ValueIdx
public import Idealize.ShloMosaic.Lib.Pointwise
public import Idealize.ShloMosaic.Lib.IdealHost

/-! Softmax over real scores on the extended reals: in base two with the division last, and in base e with the division first. -/

@[expose] public section

noncomputable section

namespace Cert.Soft

open Idealize.ShloMosaic

variable {ι : Type} [Fintype ι]

/-- The greatest of the scores of one query row, and of the value that the reduction starts from. -/
def top (s : ι → EReal) : EReal := Finset.fold max (Ideal.ofBits FTy.f32 0xFF800000#32) s Finset.univ

/-- One softmax row in base two applied to one column of values: the weighted sum over the sum of the weights. -/
def soft (s v : ι → EReal) : EReal :=
  Ideal.div (∑ n, Ideal.exp2 (s n - top s) * v n) (∑ n, Ideal.exp2 (s n - top s))

/-- The factor that turns base-two scores to base-e scores: the logarithm of two. -/
def ln2 : EReal := Ideal.log (Ideal.ofBits FTy.f32 0x40000000#32)

/-- One entry of the softmax of scaled scores in base e. -/
def prob (s : ι → EReal) (n : ι) : EReal :=
  Ideal.div (Ideal.exp (s n * ln2 - max (Ideal.ofBits FTy.f32 0xFF800000#32) (top fun n => s n * ln2)))
    (Ideal.ofBits FTy.f32 0x00000000#32 + ∑ k, Ideal.exp (s k * ln2 - max (Ideal.ofBits FTy.f32 0xFF800000#32) (top fun n => s n * ln2)))

/-- The row of the key array that holds key `n`: the array has more rows than there are keys. -/
def keyRow (n : Fin 8448) : Fin 8704 := ⟨n.val, by have := n.isLt; omega⟩

theorem lit_bot : Ideal.ofBits FTy.f32 0xFF800000#32 = ⊥ := by
  simp [Ideal.ofBits, Ideal.ieee, -EReal.coe_mul]

theorem lit_zero : Ideal.ofBits FTy.f32 0x00000000#32 = 0 := by
  simp [Ideal.ofBits, Ideal.ieee, -EReal.coe_mul]

theorem lit_two : Ideal.ofBits FTy.f32 0x40000000#32 = ((2 : ℝ) : EReal) := by
  simp [Ideal.ofBits, Ideal.ieee, -EReal.coe_mul]; norm_num

theorem ln2_eq : ln2 = ((Real.log 2 : ℝ) : EReal) := by
  rw [ln2, lit_two, Ideal.log_coe, if_neg (by norm_num)]

/-- The greatest of finitely many reals, at least one, is a real. -/
theorem top_real [Nonempty ι] (s : ι → ℝ) : ∃ M : ℝ, top (fun n => (s n : EReal)) = (M : EReal) := by
  classical
  unfold top
  rw [lit_bot]
  have h : ∀ (A : Finset ι), (∃ M : ℝ, Finset.fold max (⊥ : EReal) (fun n => (s n : EReal)) A = (M : EReal)) ∨ (A = ∅) := by
    intro A
    induction A using Finset.induction_on with
    | empty => exact .inr rfl
    | insert a A ha ih =>
      left
      rw [Finset.fold_insert ha]
      rcases ih with ⟨M, hM⟩ | rfl
      · exact ⟨max (s a) M, by rw [hM]; exact (EReal.coe_strictMono.monotone.map_max (a := s a) (b := M)).symm⟩
      · exact ⟨s a, by simp⟩
  rcases h Finset.univ with h | h
  · exact h
  · exact absurd h (Finset.univ_nonempty.ne_empty)

theorem coe_sum (A : Finset ι) (f : ι → ℝ) : ((∑ n ∈ A, f n : ℝ) : EReal) = ∑ n ∈ A, (f n : EReal) := by
  classical
  induction A using Finset.induction_on with
  | empty => simp
  | insert a A ha ih => rw [Finset.sum_insert ha, Finset.sum_insert ha, EReal.coe_add, ih]

/-- A nonnegative real factor goes into a sum of extended reals. -/
theorem sum_mul_real (A : Finset ι) (f : ι → EReal) (c : ℝ) (hc : 0 ≤ c) : (∑ n ∈ A, f n) * (c : EReal) = ∑ n ∈ A, f n * (c : EReal) := by
  classical
  induction A using Finset.induction_on with
  | empty => simp
  | insert a A ha ih =>
    rw [Finset.sum_insert ha, Finset.sum_insert ha, ← ih, mul_comm, mul_comm _ (c : EReal), mul_comm _ (c : EReal)]
    exact EReal.left_distrib_of_nonneg_of_ne_top (by exact_mod_cast hc) (EReal.coe_ne_top _) _ _

/-- Of real scores both softmaxes have the same real, nonnegative weights. -/
theorem soft_prob [Nonempty ι] (s : ι → ℝ) : ∃ p : ι → ℝ, (∀ n, prob (fun n => (s n : EReal)) n = (p n : EReal))
    ∧ ∀ v : ι → EReal, soft (fun n => (s n : EReal)) v = ∑ n, (p n : EReal) * v n := by
  obtain ⟨M, hM⟩ := top_real s
  obtain ⟨M', hM'⟩ := top_real fun n => s n * Real.log 2
  have hw : ∀ n, Ideal.exp2 ((s n : EReal) - top (fun n => (s n : EReal))) = ((Real.exp (s n * Real.log 2 - M * Real.log 2) : ℝ) : EReal) := by
    intro n
    rw [hM, ← EReal.coe_sub, Ideal.exp2_coe]
    congr 1
    show (2 : ℝ) ^ (s n - M) = _
    rw [Real.rpow_def_of_pos (by norm_num)]
    congr 1; ring
  have he : ∀ n, Ideal.exp ((s n : EReal) * ln2 - max (Ideal.ofBits FTy.f32 0xFF800000#32) (top fun n => (s n : EReal) * ln2))
      = ((Real.exp (s n * Real.log 2 - M') : ℝ) : EReal) := by
    intro n
    have e : (fun n => (s n : EReal) * ln2) = fun n => ((s n * Real.log 2 : ℝ) : EReal) := by
      funext n; rw [ln2_eq, EReal.coe_mul]
    rw [e, hM', lit_bot, max_eq_right bot_le, ln2_eq, ← EReal.coe_mul, ← EReal.coe_sub, Ideal.exp_coe]
  have hW : 0 < ∑ n, Real.exp (s n * Real.log 2 - M * Real.log 2) := Finset.sum_pos (fun _ _ => Real.exp_pos _) Finset.univ_nonempty
  have hE : 0 < ∑ n, Real.exp (s n * Real.log 2 - M') := Finset.sum_pos (fun _ _ => Real.exp_pos _) Finset.univ_nonempty
  refine ⟨fun n => Real.exp (s n * Real.log 2 - M * Real.log 2) / ∑ n, Real.exp (s n * Real.log 2 - M * Real.log 2), fun n => ?_, fun v => ?_⟩
  · unfold prob
    simp only [he]
    rw [lit_zero, zero_add, ← coe_sum, Ideal.div_coe hE.ne', ← EReal.coe_mul]
    congr 1
    have hr : ∀ n, Real.exp (s n * Real.log 2 - M') = Real.exp (M * Real.log 2 - M') * Real.exp (s n * Real.log 2 - M * Real.log 2) := by
      intro n; rw [← Real.exp_add]; congr 1; ring
    simp only [hr, ← Finset.mul_sum]
    have := (Real.exp_pos (M * Real.log 2 - M')).ne'
    field_simp
  · unfold soft
    simp only [hw]
    rw [← coe_sum, Ideal.div_coe hW.ne', sum_mul_real _ _ _ (by positivity)]
    refine Finset.sum_congr rfl fun n _ => ?_
    rw [mul_right_comm, ← EReal.coe_mul, mul_one_div]

/-- Of real scores and real values the difference of two softmax rows is the sum with the difference of the weights. -/
theorem soft_sub [Nonempty ι] (s1 s2 v : ι → ℝ) (lam : ℝ) :
    soft (fun n => (s1 n : EReal)) (fun n => (v n : EReal)) - (lam : EReal) * soft (fun n => (s2 n : EReal)) (fun n => (v n : EReal))
      = ∑ n, (v n : EReal) * (prob (fun n => (s1 n : EReal)) n - (lam : EReal) * prob (fun n => (s2 n : EReal)) n) := by
  obtain ⟨p1, h1, k1⟩ := soft_prob s1
  obtain ⟨p2, h2, k2⟩ := soft_prob s2
  simp only [h1, h2, k1, k2, ← EReal.coe_mul, ← EReal.coe_sub, ← coe_sum]
  congr 1
  rw [Finset.mul_sum, ← Finset.sum_sub_distrib]
  exact Finset.sum_congr rfl fun n _ => by ring

/-- An extended real of finite absolute value is a real. -/
theorem real_of_abs_lt (x : EReal) (h : x ≠ ⊥) (h' : x ≠ ⊤) : ∃ r : ℝ, x = (r : EReal) :=
  ⟨x.toReal, (EReal.coe_toReal h' h).symm⟩

end Cert.Soft
end
-- ==== Proof.DiffBlock.lean ====
module

public import proofs.«01_k».proof.Proof.Gen.DiffIdeal.Value
public import proofs.«01_k».proof.Proof.Soft
public import Idealize.ShloMosaic.PureOps.Ideal
public import Idealize.ShloMosaic.Lib.ValueIdx
public import Idealize.ShloMosaic.Lib.Pointwise
public import Idealize.ShloMosaic.Lib.IdealHost

/-! The differential attention's block: what one grid point leaves in its output block, read at an index. -/

@[expose] public section

set_option maxRecDepth 16384

noncomputable section

namespace Cert.DiffBlock

open Cert.DiffIdeal Cert.DiffIdeal.Gen Idealize.ShloMosaic Idealize.ShloMosaic.TcCoe Idealize.SL.Sem
open Cert.Soft

/-- One output row from its two rows of scores: the difference of the two softmax rows, RMS-normalised and scaled. -/
def outRow (s1 s2 : Fin 8448 → EReal) (v : Fin 8448 → Fin 128 → EReal) (lam : EReal) (g : Fin 128 → EReal) (d : Fin 128) : EReal :=
  (soft s1 (v · d) - lam * soft s2 (v · d))
    * Ideal.rsqrt (Ideal.div (∑ e, (soft s1 (v · e) - lam * soft s2 (v · e)) * (soft s1 (v · e) - lam * soft s2 (v · e)))
        (Ideal.ofBits FTy.f32 0x43000000#32) + Ideal.ofBits FTy.f32 0x358637BD#32)
    * g d * Ideal.ofBits FTy.f32 0x3F24FD5C#32

/-- The mixing factor from its four vectors. -/
def lamOf (x3 : Vec Ideal S4x64 .f32) : EReal :=
  Ideal.exp (∑ l : Fin 64, x3 (ix2 0 l) * x3 (ix2 1 l)) - Ideal.exp (∑ l : Fin 64, x3 (ix2 2 l) * x3 (ix2 3 l))
    + Ideal.ofBits FTy.f32 0x3EB60549#32

/-- The query block's entry where the lane belongs to the map, zero elsewhere; the first map is `mm = 0`. -/
def pick (mm : ℕ) (l : Fin 128) (x : EReal) : EReal := if (l.val / 32) % 2 = mm then x else 0

/-- The value stored for the first 128 rows, as a function of the two query tiles. -/
def tile (x1 x2 : Vec Ideal S1x8448x128 .bf16) (x3 : Vec Ideal S4x64 .f32) (x4 : Vec Ideal S1x128 .f32)
    (q1 q2 : Vec Ideal S128x128 .bf16) : FVec Ideal S1x128x128 .bf16 :=
  k0_pay14 (k0_pay13 (k0_pay9 x1) (k0_pay10 x2) (k0_pay11 x3) (k0_pay12 x1 q1) q2 x4)

/-- It, read at an index. -/
theorem tile_apply (x1 x2 : Vec Ideal S1x8448x128 .bf16) (x3 : Vec Ideal S4x64 .f32) (x4 : Vec Ideal S1x128 .f32)
    (q1 q2 : Vec Ideal S128x128 .bf16) (a : Fin 1) (r d : Fin 128) :
    tile x1 x2 x3 x4 q1 q2 (ix3 a r d)
      = outRow (fun n => ∑ l, q1 (ix2 r l) * x1 (ix3 0 n l)) (fun n => ∑ l, q2 (ix2 r l) * x1 (ix3 0 n l))
          (fun n e => x2 (ix3 0 n e)) (lamOf x3) (fun e => x4 (ix2 0 e)) d := by
  pointwise [tile, k0_pay14, k0_pay13, k0_pay12, k0_pay9, k0_pay10, k0_pay11, outRow, soft, top, lamOf, add_zero]
  rfl

/-- The lane mask at a lane. -/
theorem mask_apply (r : Fin 1024) (l : Fin 128) :
    k0_pay6 (2#32) k0_pay3 k0_pay4 k0_pay5 (ix2 r l) = if (l.val / 32) % 2 = 0 then 1#1 else 0#1 := by
  pointwise [k0_pay3, k0_pay4, k0_pay5, k0_pay6]
  revert l
  decide +kernel

theorem pay7_apply (x0 : Vec Ideal S1x1024x128 .bf16) (r : Fin 1024) (l : Fin 128) :
    k0_pay7 (k0_pay1 x0) k0_pay2 (2#32) k0_pay3 k0_pay4 k0_pay5 (ix2 r l) = pick 0 l (x0 (ix3 0 r l)) := by
  have h := mask_apply r l
  pointwise [k0_pay7, k0_pay1, k0_pay2, h]
  unfold pick
  split_ifs <;> rfl

theorem pay8_apply (x0 : Vec Ideal S1x1024x128 .bf16) (r : Fin 1024) (l : Fin 128) :
    k0_pay8 (k0_pay1 x0) k0_pay2 (2#32) k0_pay3 k0_pay4 k0_pay5 (ix2 r l) = pick 1 l (x0 (ix3 0 r l)) := by
  have h := mask_apply r l
  pointwise [k0_pay8, k0_pay1, k0_pay2, h]
  unfold pick
  have : (l.val / 32) % 2 = 1 ↔ ¬ (l.val / 32) % 2 = 0 := by omega
  rw [if_congr this rfl rfl]
  split_ifs <;> rfl

/-- The masked queries the body keeps: map 0's in the first 1024 rows, map 1's in the others. -/
def masked (x0 : Vec Ideal S1x1024x128 .bf16) : Vec Ideal S2048x128 .bf16 :=
  fun y => if (y 0).val < 1024 then pick 0 (y 1) (x0 (ix3 0 (⟨(y 0).val % 1024, Nat.mod_lt _ (by decide)⟩ : Fin 1024) (y 1)))
    else pick 1 (y 1) (x0 (ix3 0 (⟨(y 0).val % 1024, Nat.mod_lt _ (by decide)⟩ : Fin 1024) (y 1)))

theorem masked_low (x0 : Vec Ideal S1x1024x128 .bf16) (y : S2048x128.Idx) (r : Fin 1024) (l : Fin 128)
    (h0 : (y 0).val = r.val) (h1 : (y 1).val = l.val) : masked x0 y = pick 0 l (x0 (ix3 0 r l)) := by
  have e1 : y 1 = l := Fin.ext h1
  have e0 : (⟨(y 0).val % 1024, Nat.mod_lt _ (by decide)⟩ : Fin 1024) = r := Fin.ext (by have := r.isLt; show (y 0).val % 1024 = _; omega)
  unfold masked
  rw [if_pos (by have := r.isLt; omega), e0, e1]

theorem masked_high (x0 : Vec Ideal S1x1024x128 .bf16) (y : S2048x128.Idx) (r : Fin 1024) (l : Fin 128)
    (h0 : (y 0).val = 1024 + r.val) (h1 : (y 1).val = l.val) : masked x0 y = pick 1 l (x0 (ix3 0 r l)) := by
  have e1 : y 1 = l := Fin.ext h1
  have e0 : (⟨(y 0).val % 1024, Nat.mod_lt _ (by decide)⟩ : Fin 1024) = r := Fin.ext (by have := r.isLt; show (y 0).val % 1024 = _; omega)
  unfold masked
  rw [if_neg (by omega), e0, e1]

/-- The two stores together leave the masked queries. -/
theorem canon_masked (x0 : Vec Ideal S1x1024x128 .bf16) :
    View.canon (Val := Elt Ideal) (e := .bf16)
      [⟨Rect.unit (s := S2048x128) ![1024, 0] ![1024, 128] inb_S2048x128_S1024x128_1024_0,
          k0_pay8 (k0_pay1 x0) k0_pay2 (2#32) k0_pay3 k0_pay4 k0_pay5⟩,
        ⟨Rect.unit (s := S2048x128) ![0, 0] ![1024, 128] inb_S2048x128_S1024x128_0_0,
          k0_pay7 (k0_pay1 x0) k0_pay2 (2#32) k0_pay3 k0_pay4 k0_pay5⟩] = masked x0 := by
  funext y
  refine View.canon_apply_of_pieces (Val := Elt Ideal) (e := .bf16) (masked x0) _ ?_ y ?_
  · simp only [List.forall_mem_cons, List.not_mem_nil, false_imp_iff, implies_true, and_true]
    refine ⟨fun x => ?_, fun x => ?_⟩
    · show k0_pay8 (k0_pay1 x0) k0_pay2 (2#32) k0_pay3 k0_pay4 k0_pay5 x = _
      have e : x = ix2 (x 0) (x 1) := (ix2_eta x).symm
      refine Eq.trans ((congrArg _ e).trans (pay8_apply x0 (x 0) (x 1))) (masked_high x0 _ (x 0) (x 1) ?_ ?_).symm
      · exact congrArg (1024 + ·) (Nat.one_mul _)
      · exact (Nat.zero_add _).trans (Nat.one_mul _)
    · show k0_pay7 (k0_pay1 x0) k0_pay2 (2#32) k0_pay3 k0_pay4 k0_pay5 x = _
      have e : x = ix2 (x 0) (x 1) := (ix2_eta x).symm
      refine Eq.trans ((congrArg _ e).trans (pay7_apply x0 (x 0) (x 1))) (masked_low x0 _ (x 0) (x 1) ?_ ?_).symm
      · exact (Nat.zero_add _).trans (Nat.one_mul _)
      · exact (Nat.zero_add _).trans (Nat.one_mul _)
  · have h0 : (y 0).val < 2048 := (y 0).isLt
    have h1 : (y 1).val < 128 := (y 1).isLt
    by_cases h : (y 0).val < 1024
    · refine ⟨_, .tail _ (.head _), ?_⟩
      rw [Rect.mem_set_unit]
      intro a
      fin_cases a
      · exact ⟨Nat.zero_le _, by show (y 0).val < 0 + 1024; omega⟩
      · exact ⟨Nat.zero_le _, by show (y 1).val < 0 + 128; omega⟩
    · refine ⟨_, .head _, ?_⟩
      rw [Rect.mem_set_unit]
      intro a
      fin_cases a
      · exact ⟨by show 1024 ≤ (y 0).val; omega, by show (y 0).val < 1024 + 1024; omega⟩
      · exact ⟨Nat.zero_le _, by show (y 1).val < 0 + 128; omega⟩

variable (m : (ℓ : Loc nD τ sig) → Buf (Elt Ideal) ℓ)

/-- The block that the body leaves, from the blocks it reads. -/
def block (x0 : Vec Ideal S1x1024x128 .bf16) (x1 x2 : Vec Ideal S1x8448x128 .bf16) (x3 : Vec Ideal S4x64 .f32)
    (x4 : Vec Ideal S1x128 .f32) : FVec Ideal S1x1024x128 .bf16 := fun y =>
  outRow (fun n => ∑ l, pick 0 l (x0 (ix3 0 (y 1) l)) * x1 (ix3 0 n l)) (fun n => ∑ l, pick 1 l (x0 (ix3 0 (y 1) l)) * x1 (ix3 0 n l))
    (fun n e => x2 (ix3 0 n e)) (lamOf x3) (fun e => x4 (ix2 0 e)) (y 2)

theorem tile_masked (x0 : Vec Ideal S1x1024x128 .bf16) (x1 x2 : Vec Ideal S1x8448x128 .bf16) (x3 : Vec Ideal S4x64 .f32)
    (x4 : Vec Ideal S1x128 .f32) (o : ℕ) (h0 h1 h2) (x) :
    tile x1 x2 x3 x4 (fun j => masked x0 ((Rect.unit (s := S2048x128) ![o, 0] ![128, 128] h0).idx j))
        (fun j => masked x0 ((Rect.unit (s := S2048x128) ![1024 + o, 0] ![128, 128] h1).idx j)) x
      = block x0 x1 x2 x3 x4 ((Rect.unit (s := S1x1024x128) ![0, o, 0] ![1, 128, 128] h2).emb x) := by
  have e : x = ix3 (x 0) (x 1) (x 2) := (ix3_eta x).symm
  have ho : o + 128 ≤ 1024 := h2 1
  have hx1 : (x 1).val < 128 := (x 1).isLt
  have hr : o + (x 1).val < 1024 := by omega
  have e1 : (Rect.unit (s := S1x1024x128) ![0, o, 0] ![1, 128, 128] h2).emb x 1 = ⟨o + (x 1).val, hr⟩ :=
    Fin.ext (congrArg (o + ·) (Nat.one_mul _))
  have e2 : (Rect.unit (s := S1x1024x128) ![0, o, 0] ![1, 128, 128] h2).emb x 2 = x 2 :=
    Fin.ext ((Nat.zero_add _).trans (Nat.one_mul _))
  unfold block
  rw [e1, e2]
  refine (congrArg _ e).trans ((tile_apply x1 x2 x3 x4 _ _ (x 0) (x 1) (x 2)).trans ?_)
  have q1 : ∀ l : Fin 128, masked x0 ((Rect.unit (s := S2048x128) ![o, 0] ![128, 128] h0).idx (ix2 (x 1) l)) = pick 0 l (x0 (ix3 0 ⟨o + (x 1).val, hr⟩ l)) :=
    fun l => masked_low x0 _ ⟨o + (x 1).val, hr⟩ l (congrArg (o + ·) (Nat.one_mul _)) ((Nat.zero_add _).trans (Nat.one_mul _))
  have q2 : ∀ l : Fin 128, masked x0 ((Rect.unit (s := S2048x128) ![1024 + o, 0] ![128, 128] h1).idx (ix2 (x 1) l)) = pick 1 l (x0 (ix3 0 ⟨o + (x 1).val, hr⟩ l)) :=
    fun l => masked_high x0 _ ⟨o + (x 1).val, hr⟩ l ((congrArg (1024 + o + ·) (Nat.one_mul _)).trans (Nat.add_assoc _ _ _)) ((Nat.zero_add _).trans (Nat.one_mul _))
  simp only [q1, q2]
  rfl

theorem outsAt_eq (c : Dev nD) (t : Fin cfg0.N) :
    outsAt0 m c t = block (iblk m c 0 t) (X0_1 m c t) (X0_2 m c t) (iblk m c 3 t) (iblk m c 4 t) := by
  unfold outsAt0 out0_A_5
  rw [View.read_writes_eq_canon _ _ _ (cover0_A_5 c (grid0.coords t) _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.readCov_eq_canon', View.ld_unit_zero (Val := Elt Ideal) (S := S1x1024x128) (e := .bf16) (off := ![0,0,0]) (funext fun a => by fin_cases a <;> rfl), View.ld_unit_zero (Val := Elt Ideal) (S := S1x8448x128) (e := .bf16) (off := ![0,0,0]) (funext fun a => by fin_cases a <;> rfl), View.ld_unit_zero (Val := Elt Ideal) (S := S4x64) (off := ![0,0]) (funext fun a => by fin_cases a <;> rfl), View.ld_unit_zero (Val := Elt Ideal) (S := S1x128) (off := ![0,0]) (funext fun a => by fin_cases a <;> rfl)]
  generalize iblk m c 0 t = x0
  generalize X0_1 m c t = x1
  generalize X0_2 m c t = x2
  generalize iblk m c 3 t = x3
  generalize iblk m c 4 t = x4
  rw [canon_masked x0]
  funext y
  refine View.canon_apply_of_pieces (Val := Elt Ideal) (e := .bf16) (block x0 x1 x2 x3 x4) _ ?_ y ?_
  · simp only [List.forall_mem_cons, List.not_mem_nil, false_imp_iff, implies_true, and_true]
    exact ⟨fun x => tile_masked x0 x1 x2 x3 x4 896 _ _ _ x, fun x => tile_masked x0 x1 x2 x3 x4 768 _ _ _ x,
      fun x => tile_masked x0 x1 x2 x3 x4 640 _ _ _ x, fun x => tile_masked x0 x1 x2 x3 x4 512 _ _ _ x,
      fun x => tile_masked x0 x1 x2 x3 x4 384 _ _ _ x, fun x => tile_masked x0 x1 x2 x3 x4 256 _ _ _ x,
      fun x => tile_masked x0 x1 x2 x3 x4 128 _ _ _ x, fun x => tile_masked x0 x1 x2 x3 x4 0 _ _ _ x⟩
  · have hy0 : (y 0).val < 1 := (y 0).isLt
    have hy1 : (y 1).val < 1024 := (y 1).isLt
    have hy2 : (y 2).val < 128 := (y 2).isLt
    have key : ∀ (o : ℕ) (h : ∀ a, (![0, o, 0] : Fin 3 → ℕ) a + (![1, 128, 128] : Fin 3 → ℕ) a ≤ S1x1024x128.size a), o ≤ (y 1).val → (y 1).val < o + 128 →
        y ∈ (Rect.unit (s := S1x1024x128) ![0, o, 0] ![1, 128, 128] h).set := by
      intro o h l1 l2
      rw [Rect.mem_set_unit]
      intro a
      fin_cases a
      · exact ⟨Nat.zero_le _, by show (y 0).val < 0 + 1; omega⟩
      · exact ⟨l1, l2⟩
      · exact ⟨Nat.zero_le _, by show (y 2).val < 0 + 128; omega⟩
    rcases (by omega : (y 1).val < 128 ∨ 128 ≤ (y 1).val ∧ (y 1).val < 256 ∨ 256 ≤ (y 1).val ∧ (y 1).val < 384 ∨ 384 ≤ (y 1).val ∧ (y 1).val < 512
        ∨ 512 ≤ (y 1).val ∧ (y 1).val < 640 ∨ 640 ≤ (y 1).val ∧ (y 1).val < 768 ∨ 768 ≤ (y 1).val ∧ (y 1).val < 896 ∨ 896 ≤ (y 1).val) with h | h | h | h | h | h | h | h
    · exact ⟨_, .tail _ (.tail _ (.tail _ (.tail _ (.tail _ (.tail _ (.tail _ (.head _))))))), key 0 inb_S1x1024x128_S1x128x128_0_0_0 (by omega) (by omega)⟩
    · exact ⟨_, .tail _ (.tail _ (.tail _ (.tail _ (.tail _ (.tail _ (.head _)))))), key 128 inb_S1x1024x128_S1x128x128_0_128_0 (by omega) (by omega)⟩
    · exact ⟨_, .tail _ (.tail _ (.tail _ (.tail _ (.tail _ (.head _))))), key 256 inb_S1x1024x128_S1x128x128_0_256_0 (by omega) (by omega)⟩
    · exact ⟨_, .tail _ (.tail _ (.tail _ (.tail _ (.head _)))), key 384 inb_S1x1024x128_S1x128x128_0_384_0 (by omega) (by omega)⟩
    · exact ⟨_, .tail _ (.tail _ (.tail _ (.head _))), key 512 inb_S1x1024x128_S1x128x128_0_512_0 (by omega) (by omega)⟩
    · exact ⟨_, .tail _ (.tail _ (.head _)), key 640 inb_S1x1024x128_S1x128x128_0_640_0 (by omega) (by omega)⟩
    · exact ⟨_, .tail _ (.head _), key 768 inb_S1x1024x128_S1x128x128_0_768_0 (by omega) (by omega)⟩
    · exact ⟨_, .head _, key 896 inb_S1x1024x128_S1x128x128_0_896_0 (by omega) (by omega)⟩

end Cert.DiffBlock
end
-- ==== Proof.DiffKernel.lean ====
module

public import proofs.«01_k».proof.Proof.DiffBlock
public import Idealize.ShloMosaic.Lib.Pipeline.Value
public import Idealize.ShloMosaic.Lib.StableHlo.Run

/-! The differential attention's result array after the run, as one function of the argument arrays. -/

@[expose] public section

set_option maxRecDepth 16384

noncomputable section

namespace Cert.DiffKernel

open Cert.DiffIdeal Cert.DiffIdeal.Gen Idealize.ShloMosaic Idealize.ShloMosaic.TcCoe Idealize.SL.Sem
open Cert.Soft Cert.DiffBlock
open Idealize.ShloMosaic.Pipeline (Dat)

/-- Lane `l` of head `h` in a row of 2048 channels. -/
def lane (h : Fin 16) (l : Fin 128) : Fin 2048 := ⟨h.val * 128 + l.val, by have := h.isLt; have := l.isLt; omega⟩

/-- The scores of one query row in one of the two maps: the dot products over the lanes that belong to the map. -/
def score (mm : ℕ) (q : Vec Ideal S2x8192x2048 .bf16) (k : Vec Ideal S2x8704x2048 .bf16) (b : Fin 2) (r : Fin 8192) (h : Fin 16)
    (n : Fin 8448) : EReal :=
  ∑ l : Fin 128, pick mm l (q (ix3 b r (lane h l))) * k (ix3 b (keyRow n) (lane h l))

/-- The result as the kernel computes it, at row `r`, head `h`, lane `d` of batch `b`. -/
def att (q : Vec Ideal S2x8192x2048 .bf16) (k v : Vec Ideal S2x8704x2048 .bf16) (lv : Vec Ideal S4x64 .f32) (g : Fin 128 → EReal)
    (b : Fin 2) (r : Fin 8192) (h : Fin 16) (d : Fin 128) : EReal :=
  outRow (score 0 q k b r h) (score 1 q k b r h) (fun n e => v (ix3 b (keyRow n) (lane h e))) (lamOf lv) g d

/-- Head and lane of a channel. -/
def headOf (ch : Fin 2048) : Fin 16 := ⟨ch.val / 128, by have := ch.isLt; omega⟩
def laneOf (ch : Fin 2048) : Fin 128 := ⟨ch.val % 128, Nat.mod_lt _ (by decide)⟩

variable (m : (ℓ : Loc nD τ sig) → Buf (Elt Ideal) ℓ)

/-- The whole result array. -/
def arr (c : Dev nD) : Buf (Elt Ideal) ((c : Thread nD τ).loc main_v1) :=
  fun i => att (m ((c : Thread nD τ).loc main_arg0)) (m ((c : Thread nD τ).loc main_arg1)) (m ((c : Thread nD τ).loc main_arg2))
    (m ((c : Thread nD τ).loc main_arg3)) (fun e => m ((c : Thread nD τ).loc main_arg4) (ix1 e)) (i 0) (i 1) (headOf (i 2)) (laneOf (i 2))

theorem lt_N (t : Fin cfg0.N) : t.val < 256 := t.isLt

def batchAt (t : Fin cfg0.N) : Fin 2 := ⟨t.val / 128, by have := lt_N t; omega⟩
def headAt (t : Fin cfg0.N) : Fin 16 := ⟨t.val / 8 % 16, Nat.mod_lt _ (by decide)⟩
def rowAt (t : Fin cfg0.N) (r : Fin 1024) : Fin 8192 := ⟨t.val % 8 * 1024 + r.val, by have := r.isLt; omega⟩

theorem index_q : ∀ t : Fin grid0.N, win0_0.index t = ![t.val / 128, t.val % 8, t.val / 8 % 16] := by decide +kernel
theorem index_k : ∀ t : Fin grid0.N, win0_1.index t = ![t.val / 128, 0, t.val / 8 % 16] := by decide +kernel
theorem index_v : ∀ t : Fin grid0.N, win0_2.index t = ![t.val / 128, 0, t.val / 8 % 16] := by decide +kernel
theorem index_o : ∀ t : Fin grid0.N, win0_5.index t = ![t.val / 128, t.val % 8, t.val / 8 % 16] := by decide +kernel
theorem index_l : ∀ t : Fin grid0.N, win0_3.index t = ![0, 0] := by decide +kernel
theorem index_g : ∀ t : Fin grid0.N, win0_4.index t = ![0, 0] := by decide +kernel

theorem q_read (c : Dev nD) (t : Fin cfg0.N) (r : Fin 1024) (l : Fin 128) :
    iblk m c 0 t (ix3 (0 : Fin 1) r l) = m ((c : Thread nD τ).loc main_arg0) (ix3 (batchAt t) (rowAt t r) (lane (headAt t) l)) := by
  have e := index_q t
  show V m c main_arg0 (((cfg0.win 0).blk t).view.emb (ix3 (0 : Fin 1) r l)) = _
  rw [V_main_arg0]
  refine congrArg _ (funext fun a => Fin.ext ?_)
  show win0_0.index t a * win0_0.size a + 1 * (ix3 (0 : Fin 1) r l a).val = _
  rw [e]
  fin_cases a
  · show t.val / 128 * 1 + 1 * 0 = t.val / 128; omega
  · show t.val % 8 * 1024 + 1 * r.val = t.val % 8 * 1024 + r.val; omega
  · show t.val / 8 % 16 * 128 + 1 * l.val = t.val / 8 % 16 * 128 + l.val; omega

theorem k_read (c : Dev nD) (t : Fin cfg0.N) (n : Fin 8448) (l : Fin 128) :
    X0_1 m c t (ix3 (0 : Fin 1) n l) = m ((c : Thread nD τ).loc main_arg1) (ix3 (batchAt t) (keyRow n) (lane (headAt t) l)) := by
  have e := index_k t
  unfold X0_1 Idealize.ShloMosaic.Pipeline.Window.fill
  rw [dif_pos (moved0_1 t (ix3 (0 : Fin 1) n l))]
  show V m c main_arg1 (((cfg0.win 1).blk t).view.emb _) = _
  rw [V_main_arg1]
  refine congrArg _ (funext fun a => Fin.ext ?_)
  show win0_1.index t a * win0_1.size a + 1 * (ix3 (0 : Fin 1) n l a).val = _
  rw [e]
  fin_cases a
  · show t.val / 128 * 1 + 1 * 0 = t.val / 128; omega
  · show 0 * 8448 + 1 * n.val = n.val; omega
  · show t.val / 8 % 16 * 128 + 1 * l.val = t.val / 8 % 16 * 128 + l.val; omega

theorem v_read (c : Dev nD) (t : Fin cfg0.N) (n : Fin 8448) (l : Fin 128) :
    X0_2 m c t (ix3 (0 : Fin 1) n l) = m ((c : Thread nD τ).loc main_arg2) (ix3 (batchAt t) (keyRow n) (lane (headAt t) l)) := by
  have e := index_v t
  unfold X0_2 Idealize.ShloMosaic.Pipeline.Window.fill
  rw [dif_pos (moved0_2 t (ix3 (0 : Fin 1) n l))]
  show V m c main_arg2 (((cfg0.win 2).blk t).view.emb _) = _
  rw [V_main_arg2]
  refine congrArg _ (funext fun a => Fin.ext ?_)
  show win0_2.index t a * win0_2.size a + 1 * (ix3 (0 : Fin 1) n l a).val = _
  rw [e]
  fin_cases a
  · show t.val / 128 * 1 + 1 * 0 = t.val / 128; omega
  · show 0 * 8448 + 1 * n.val = n.val; omega
  · show t.val / 8 % 16 * 128 + 1 * l.val = t.val / 8 % 16 * 128 + l.val; omega

theorem l_read (c : Dev nD) (t : Fin cfg0.N) : iblk m c 3 t = m ((c : Thread nD τ).loc main_arg3) := by
  have e := index_l t
  funext x
  show V m c main_arg3 (((cfg0.win 3).blk t).view.emb x) = _
  rw [V_main_arg3]
  refine congrArg _ (funext fun a => Fin.ext ?_)
  show win0_3.index t a * win0_3.size a + 1 * (x a).val = _
  rw [e]
  fin_cases a
  · show 0 * 4 + 1 * (x 0).val = (x 0).val; omega
  · show 0 * 64 + 1 * (x 1).val = (x 1).val; omega

/-- The normalisation's weights reach the region as one row. -/
theorem V_main_v0 (c : Dev nD) : V m c main_v0 = shapeCast S1x128 (m ((c : Thread nD τ).loc main_arg4)) shapeCasts_S128_S1x128 := by
  show StableHlo.after hostOps0 _ _ = _
  after_results
  rfl

theorem g_read (c : Dev nD) (t : Fin cfg0.N) (e : Fin 128) :
    iblk m c 4 t (ix2 (0 : Fin 1) e) = m ((c : Thread nD τ).loc main_arg4) (ix1 e) := by
  have he := index_g t
  show V m c main_v0 (((cfg0.win 4).blk t).view.emb (ix2 (0 : Fin 1) e)) = _
  have h1 : ((cfg0.win 4).blk t).view.emb (ix2 (0 : Fin 1) e) = ix2 (0 : Fin 1) e := by
    refine funext fun a => Fin.ext ?_
    show win0_4.index t a * win0_4.size a + 1 * (ix2 (0 : Fin 1) e a).val = _
    rw [he]
    fin_cases a
    · rfl
    · show 0 * 128 + 1 * e.val = e.val; omega
  rw [h1, V_main_v0, shapeCast_apply _ _ _ (ix1 e) (by rw [Shape.rowMajor_val_one, Shape.rowMajor_val_two]; show e.val = 0 * 128 + e.val; omega)]

theorem flushed_eq (c : Dev nD) (t : Fin cfg0.N) :
    (dats m 0 c).flushed 5 t = ((cfg0.win 5).blk t).view.read (Elt Ideal) (arr m c) := by
  rw [Cert.DiffIdeal.Value.flushed5, outsAt_eq]
  funext x
  obtain ⟨a, r, d, rfl⟩ : ∃ (a : Fin 1) (r : Fin 1024) (d : Fin 128), x = ix3 a r d := ⟨x 0, x 1, x 2, (ix3_eta x).symm⟩
  show block _ _ _ _ _ (ix3 a r d) = arr m c (((cfg0.win 5).blk t).view.emb (ix3 a r d))
  have e := index_o t
  have e0 : ((cfg0.win 5).blk t).view.emb (ix3 a r d) 0 = batchAt t := by
    refine Fin.ext ?_
    show win0_5.index t 0 * win0_5.size 0 + 1 * a.val = _
    rw [e]
    have : a.val < 1 := a.isLt
    show t.val / 128 * 1 + 1 * a.val = t.val / 128; omega
  have e1 : ((cfg0.win 5).blk t).view.emb (ix3 a r d) 1 = rowAt t r := by
    refine Fin.ext ?_
    show win0_5.index t 1 * win0_5.size 1 + 1 * r.val = _
    rw [e]
    show t.val % 8 * 1024 + 1 * r.val = t.val % 8 * 1024 + r.val; omega
  have e2 : (((cfg0.win 5).blk t).view.emb (ix3 a r d) 2).val = t.val / 8 % 16 * 128 + d.val := by
    show win0_5.index t 2 * win0_5.size 2 + 1 * d.val = _
    rw [e]
    show t.val / 8 % 16 * 128 + 1 * d.val = _; omega
  have hx2 : d.val < 128 := d.isLt
  have e3 : headOf (((cfg0.win 5).blk t).view.emb (ix3 a r d) 2) = headAt t := Fin.ext (by
    show (((cfg0.win 5).blk t).view.emb (ix3 a r d) 2).val / 128 = t.val / 8 % 16; omega)
  have e4 : laneOf (((cfg0.win 5).blk t).view.emb (ix3 a r d) 2) = d := Fin.ext (by
    show (((cfg0.win 5).blk t).view.emb (ix3 a r d) 2).val % 128 = d.val; omega)
  unfold arr att
  rw [e0, e1, e3, e4]
  show outRow (fun n => ∑ l, pick 0 l (iblk m c 0 t (ix3 (0 : Fin 1) r l)) * X0_1 m c t (ix3 (0 : Fin 1) n l)) (fun n => ∑ l, pick 1 l (iblk m c 0 t (ix3 (0 : Fin 1) r l)) * X0_1 m c t (ix3 (0 : Fin 1) n l))
    (fun n e => X0_2 m c t (ix3 (0 : Fin 1) n e)) (lamOf (iblk m c 3 t)) (fun e => iblk m c 4 t (ix2 (0 : Fin 1) e)) d = _
  unfold score
  simp only [ix3_1, q_read, k_read, v_read, l_read, g_read]

theorem mem_blk (t : Fin cfg0.N) (i : S2x8192x2048.Idx) :
    i ∈ ((cfg0.win 5).blk t).view.set ↔ t.val / 128 = (i 0).val ∧ t.val % 8 = (i 1).val / 1024 ∧ t.val / 8 % 16 = (i 2).val / 128 := by
  show i ∈ ((View.whole main_v1).slice (win0_5.rect t)).set ↔ _
  rw [View.set_slice_whole, Rect.mem_set_unit]
  have e := index_o t
  have h0 : (i 0).val < 2 := (i 0).isLt
  have h1 : (i 1).val < 8192 := (i 1).isLt
  have h2 : (i 2).val < 2048 := (i 2).isLt
  have key : (∀ a : Fin 3, (![t.val / 128 * 1, t.val % 8 * 1024, t.val / 8 % 16 * 128] : Fin 3 → ℕ) a ≤ (i a).val
      ∧ (i a).val < (![t.val / 128 * 1, t.val % 8 * 1024, t.val / 8 % 16 * 128] : Fin 3 → ℕ) a + (![1, 1024, 128] : Fin 3 → ℕ) a)
      ↔ t.val / 128 = (i 0).val ∧ t.val % 8 = (i 1).val / 1024 ∧ t.val / 8 % 16 = (i 2).val / 128 := by
    constructor
    · intro h
      have k0 : t.val / 128 * 1 ≤ (i 0).val ∧ (i 0).val < t.val / 128 * 1 + 1 := h 0
      have k1 : t.val % 8 * 1024 ≤ (i 1).val ∧ (i 1).val < t.val % 8 * 1024 + 1024 := h 1
      have k2 : t.val / 8 % 16 * 128 ≤ (i 2).val ∧ (i 2).val < t.val / 8 % 16 * 128 + 128 := h 2
      omega
    · intro h a
      fin_cases a
      · show t.val / 128 * 1 ≤ (i 0).val ∧ (i 0).val < t.val / 128 * 1 + 1; omega
      · show t.val % 8 * 1024 ≤ (i 1).val ∧ (i 1).val < t.val % 8 * 1024 + 1024; omega
      · show t.val / 8 % 16 * 128 ≤ (i 2).val ∧ (i 2).val < t.val / 8 % 16 * 128 + 128; omega
  rw [← key]
  refine forall_congr' fun a => ?_
  have o : win0_5.index t a * win0_5.size a = (![t.val / 128 * 1, t.val % 8 * 1024, t.val / 8 % 16 * 128] : Fin 3 → ℕ) a := by
    rw [e]; fin_cases a <;> rfl
  have z : win0_5.xsize (grid0.coords t) a = (![1, 1024, 128] : Fin 3 → ℕ) a := by fin_cases a <;> rfl
  show (win0_5.index t a * win0_5.size a ≤ (i a).val ∧ (i a).val < win0_5.index t a * win0_5.size a + win0_5.xsize (grid0.coords t) a) ↔ _
  rw [o, z]

theorem cover (i : S2x8192x2048.Idx) : ∃ t : Fin cfg0.N, (cfg0.win 5).flush t = true ∧ i ∈ ((cfg0.win 5).blk t).view.set := by
  have h0 : (i 0).val < 2 := (i 0).isLt
  have h1 : (i 1).val < 8192 := (i 1).isLt
  have h2 : (i 2).val < 2048 := (i 2).isLt
  have hN : cfg0.N = 256 := rfl
  refine ⟨⟨(i 0).val * 128 + (i 2).val / 128 * 8 + (i 1).val / 1024, by omega⟩, flush0_5 _, ?_⟩
  rw [mem_blk]
  dsimp only
  omega

/-- After the run the result array holds the attention of the arguments. -/
theorem final (c : Dev nD) : (dats m 0 c).arrAt 5 cfg0.N = arr m c :=
  (dats m 0 c).arrAt_eq_of_cover 5 (arr m c) (fun t _ => flushed_eq m c t) cover

end Cert.DiffKernel
end
-- ==== Proof.DiffRef.lean ====
module

public import proofs.«01_k».proof.Proof.Gen.DiffRefIdeal.Read
public import proofs.«01_k».proof.Proof.Soft
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The differential attention's reference, read at an index. -/

@[expose] public section

set_option maxRecDepth 16384

noncomputable section

namespace Cert.DiffRef

open Cert.DiffRefIdeal Cert.DiffRefIdeal.Read Idealize.ShloMosaic
open Cert.Soft

/-- The channel that holds component `l` of map `mm` of head `h`: the components of the two maps are interleaved. -/
def chan (h : Fin 16) (mm : Fin 2) (l : Fin 64) : Fin 2048 :=
  ⟨h.val * 128 + l.val % 2 * 64 + mm.val * 32 + l.val / 2, by have := h.isLt; have := mm.isLt; have := l.isLt; omega⟩

/-- Channel `e` of head `h`. -/
def lane (h : Fin 16) (l : Fin 128) : Fin 2048 := ⟨h.val * 128 + l.val, by have := h.isLt; have := l.isLt; omega⟩

theorem q_at (x0 : FVec Ideal S2x8192x2048 .bf16) (b : Fin 2) (r : Fin 8192) (h : Fin 16) (mm : Fin 2) (l : Fin 64) :
    val_main_v3 (F := Ideal) x0 (ix5 b r h mm l) = x0 (ix3 b r (chan h mm l)) := by
  have hb := b.isLt
  have hr := r.isLt
  have hh := h.isLt
  have hm := mm.isLt
  have hl := l.isLt
  have e3 : idx_main_v3 (ix5 b r h mm l) = ix5 (⟨b.val * 8192 + r.val, by omega⟩ : Fin 16384) h mm (⟨l.val / 2, by omega⟩ : Fin 32) (⟨l.val % 2, by omega⟩ : Fin 2) := by
    refine funext fun a => Fin.ext ?_
    fin_cases a
    · show ((((b.val * 8192 + r.val) * 16 + h.val) * 2 + mm.val) * 64 + l.val) / 2048 = b.val * 8192 + r.val; omega
    · show ((((b.val * 8192 + r.val) * 16 + h.val) * 2 + mm.val) * 64 + l.val) / 128 % 16 = h.val; omega
    · show ((((b.val * 8192 + r.val) * 16 + h.val) * 2 + mm.val) * 64 + l.val) / 64 % 2 = mm.val; omega
    · show ((((b.val * 8192 + r.val) * 16 + h.val) * 2 + mm.val) * 64 + l.val) / 2 % 32 = l.val / 2; omega
    · show ((((b.val * 8192 + r.val) * 16 + h.val) * 2 + mm.val) * 64 + l.val) % 2 = l.val % 2; omega
  rw [val_main_v3_apply, e3, val_main_v2_apply, val_main_v1_apply, val_main_v0_apply]
  refine congrArg x0 (funext fun a => Fin.ext ?_)
  fin_cases a
  · show (((((b.val * 8192 + r.val) * 16 + h.val) * 2 + l.val % 2) * 2 + mm.val) * 32 + l.val / 2) / 16777216 = b.val; omega
  · show (((((b.val * 8192 + r.val) * 16 + h.val) * 2 + l.val % 2) * 2 + mm.val) * 32 + l.val / 2) / 2048 % 8192 = r.val; rw [show ((((b.val * 8192 + r.val) * 16 + h.val) * 2 + l.val % 2) * 2 + mm.val) * 32 + l.val / 2 = (b.val * 8192 + r.val) * 2048 + (h.val * 128 + l.val % 2 * 64 + mm.val * 32 + l.val / 2) by omega]; have hw : h.val * 128 + l.val % 2 * 64 + mm.val * 32 + l.val / 2 < 2048 := (chan h mm l).isLt; generalize h.val * 128 + l.val % 2 * 64 + mm.val * 32 + l.val / 2 = w at hw ⊢; omega
  · show (((((b.val * 8192 + r.val) * 16 + h.val) * 2 + l.val % 2) * 2 + mm.val) * 32 + l.val / 2) % 2048 = h.val * 128 + l.val % 2 * 64 + mm.val * 32 + l.val / 2; omega

theorem k_at (x1 : FVec Ideal S2x8704x2048 .bf16) (b : Fin 2) (r : Fin 8448) (h : Fin 16) (mm : Fin 2) (l : Fin 64) :
    val_main_v8 (F := Ideal) x1 (ix5 b r h mm l) = x1 (ix3 b (keyRow r) (chan h mm l)) := by
  have hb := b.isLt
  have hr := r.isLt
  have hh := h.isLt
  have hm := mm.isLt
  have hl := l.isLt
  have e3 : idx_main_v8 (ix5 b r h mm l) = ix5 (⟨b.val * 8448 + r.val, by omega⟩ : Fin 16896) h mm (⟨l.val / 2, by omega⟩ : Fin 32) (⟨l.val % 2, by omega⟩ : Fin 2) := by
    refine funext fun a => Fin.ext ?_
    fin_cases a
    · show ((((b.val * 8448 + r.val) * 16 + h.val) * 2 + mm.val) * 64 + l.val) / 2048 = b.val * 8448 + r.val; omega
    · show ((((b.val * 8448 + r.val) * 16 + h.val) * 2 + mm.val) * 64 + l.val) / 128 % 16 = h.val; omega
    · show ((((b.val * 8448 + r.val) * 16 + h.val) * 2 + mm.val) * 64 + l.val) / 64 % 2 = mm.val; omega
    · show ((((b.val * 8448 + r.val) * 16 + h.val) * 2 + mm.val) * 64 + l.val) / 2 % 32 = l.val / 2; omega
    · show ((((b.val * 8448 + r.val) * 16 + h.val) * 2 + mm.val) * 64 + l.val) % 2 = l.val % 2; omega
  rw [val_main_v8_apply, e3, val_main_v7_apply, val_main_v6_apply, val_main_v5_apply, val_main_v4_apply]
  refine congrArg x1 (funext fun a => Fin.ext ?_)
  fin_cases a
  · show (((((b.val * 8448 + r.val) * 16 + h.val) * 2 + l.val % 2) * 2 + mm.val) * 32 + l.val / 2) / 17301504 = b.val; omega
  · show (((((b.val * 8448 + r.val) * 16 + h.val) * 2 + l.val % 2) * 2 + mm.val) * 32 + l.val / 2) / 2048 % 8448 = r.val; rw [show ((((b.val * 8448 + r.val) * 16 + h.val) * 2 + l.val % 2) * 2 + mm.val) * 32 + l.val / 2 = (b.val * 8448 + r.val) * 2048 + (h.val * 128 + l.val % 2 * 64 + mm.val * 32 + l.val / 2) by omega]; have hw : h.val * 128 + l.val % 2 * 64 + mm.val * 32 + l.val / 2 < 2048 := (chan h mm l).isLt; generalize h.val * 128 + l.val % 2 * 64 + mm.val * 32 + l.val / 2 = w at hw ⊢; omega
  · show (((((b.val * 8448 + r.val) * 16 + h.val) * 2 + l.val % 2) * 2 + mm.val) * 32 + l.val / 2) % 2048 = h.val * 128 + l.val % 2 * 64 + mm.val * 32 + l.val / 2; omega

theorem v_at (x2 : FVec Ideal S2x8704x2048 .bf16) (b : Fin 2) (n : Fin 8448) (h : Fin 16) (e : Fin 128) :
    val_main_v11 (F := Ideal) x2 (ix4 b n h e) = x2 (ix3 b (keyRow n) (lane h e)) := by
  have hb := b.isLt
  have hr := n.isLt
  have hh := h.isLt
  have hl := e.isLt
  rw [val_main_v11_apply, val_main_v10_apply, val_main_v9_apply]
  refine congrArg x2 (funext fun a => Fin.ext ?_)
  fin_cases a
  · show (((b.val * 8448 + n.val) * 16 + h.val) * 128 + e.val) / 17301504 = b.val; omega
  · show (((b.val * 8448 + n.val) * 16 + h.val) * 128 + e.val) / 2048 % 8448 = n.val; omega
  · show (((b.val * 8448 + n.val) * 16 + h.val) * 128 + e.val) % 2048 = h.val * 128 + e.val; omega

/-- The scores of one query row in map `mm`, before the change of base. -/
def score (x0 : FVec Ideal S2x8192x2048 .bf16) (x1 : FVec Ideal S2x8704x2048 .bf16) (b : Fin 2) (h : Fin 16) (mm : Fin 2) (r : Fin 8192)
    (n : Fin 8448) : EReal := ∑ l : Fin 64, x0 (ix3 b r (chan h mm l)) * x1 (ix3 b (keyRow n) (chan h mm l))

theorem s_at (x0 : FVec Ideal S2x8192x2048 .bf16) (x1 : FVec Ideal S2x8704x2048 .bf16) (b : Fin 2) (h : Fin 16) (mm : Fin 2) (r : Fin 8192)
    (n : Fin 8448) : val_main_v32 (F := Ideal) x0 x1 (ix5 b h mm r n) = score x0 x1 b h mm r n * ln2 := by
  rw [val_main_v32_apply, val_main_v28_apply, val_main_v31_apply]
  have e : ∀ l : Fin 64, (val_main_v3 (F := Ideal) x0) (lidx_main_v28 (ix5 b h mm r n) l) * (val_main_v8 (F := Ideal) x1) (ridx_main_v28 (ix5 b h mm r n) l)
      = x0 (ix3 b r (chan h mm l)) * x1 (ix3 b (keyRow n) (chan h mm l)) := by
    intro l
    rw [← q_at x0, ← k_at x1]
    congr 2
    · exact funext fun a => Fin.ext (by fin_cases a <;> rfl)
    · exact funext fun a => Fin.ext (by fin_cases a <;> rfl)
  rw [Finset.sum_congr rfl fun l _ => e l]
  rfl

theorem top_at (x0 : FVec Ideal S2x8192x2048 .bf16) (x1 : FVec Ideal S2x8704x2048 .bf16) (b : Fin 2) (h : Fin 16) (mm : Fin 2) (r : Fin 8192) :
    val_main_v33 (F := Ideal) x0 x1 (ix4 b h mm r) = top fun n => score x0 x1 b h mm r n * ln2 := by
  unfold val_main_v33
  refine (congrFun (hostReduce_maximumf_eq_multiReduction (F := Ideal) (s := S2x16x2x8192x8448) (t := S2x16x2x8192) (u := S_) (φ := .f32) (axes := [4])
    (val_main_v32 (F := Ideal) x0 x1) 0xFF800000#32 Gen.reducesTo_S2x16x2x8192x8448_S2x16x2x8192_d4 Gen.h_S_ (by decide) (.inl rfl) rfl) (ix4 b h mm r)).trans ?_
  pointwise [top]
  simp only [s_at]

theorem prob_at (x0 : FVec Ideal S2x8192x2048 .bf16) (x1 : FVec Ideal S2x8704x2048 .bf16) (b : Fin 2) (h : Fin 16) (mm : Fin 2) (r : Fin 8192)
    (n : Fin 8448) : val_main_v43 (F := Ideal) x0 x1 (ix5 b h mm r n) = prob (score x0 x1 b h mm r) n := by
  have e35 : ∀ n, val_main_v37 (F := Ideal) x0 x1 (ix5 b h mm r n) = max (Ideal.ofBits FTy.f32 0xFF800000#32) (top fun n => score x0 x1 b h mm r n * ln2) := by
    intro n
    rw [val_main_v37_apply, val_main_v36_apply, val_main_v35_apply, val_main_v34_apply, ← top_at]
    have : idx_main_v36 (idx_main_v37 (ix5 b h mm r n)) = ix4 b h mm r := funext fun a => Fin.ext (by fin_cases a <;> rfl)
    rw [this]
    rfl
  have e37 : ∀ n, val_main_v39 (F := Ideal) x0 x1 (ix5 b h mm r n) = Ideal.exp (score x0 x1 b h mm r n * ln2 - max (Ideal.ofBits FTy.f32 0xFF800000#32) (top fun n => score x0 x1 b h mm r n * ln2)) := by
    intro n
    rw [val_main_v39_apply, val_main_v38_apply, e35, s_at]
    rfl
  rw [val_main_v43_apply, val_main_v42_apply, val_main_v41_apply, val_main_v40_apply, e37]
  have e : ∀ k : Fin 8448, idx_main_v40 (idx_main_v41 (idx_main_v42 (ix5 b h mm r n))) k = ix5 b h mm r k := fun k => funext fun a => Fin.ext (by fin_cases a <;> rfl)
  simp only [e, e37]
  rfl

/-- The mixing factor from its four vectors. -/
def lamOf (x3 : FVec Ideal S4x64 .f32) : EReal :=
  Ideal.exp (∑ l : Fin 64, x3 (ix2 0 l) * x3 (ix2 1 l)) - Ideal.exp (∑ l : Fin 64, x3 (ix2 2 l) * x3 (ix2 3 l))
    + Ideal.ofBits FTy.f32 0x3EB60549#32

theorem lam_at (x3 : FVec Ideal S4x64 .f32) (i : S_.Idx) : val_main_v27 (F := Ideal) x3 i = lamOf x3 := by
  pointwise [val_main_v27, val_main_v26, val_main_v25, val_main_v24, val_main_v23, val_main_v22, val_main_v21, val_main_v20, val_main_v19, val_main_v18, val_main_v17,
    val_main_v16, val_main_v15, val_main_v14, val_main_v13, val_main_v12, val_main_cst, val_main_cst_0, val_main_cst_1, lamOf]

/-- The mixed attention of one row at one lane of a head. -/
def mixed (x0 : FVec Ideal S2x8192x2048 .bf16) (x1 x2 : FVec Ideal S2x8704x2048 .bf16) (x3 : FVec Ideal S4x64 .f32)
    (b : Fin 2) (r : Fin 8192) (h : Fin 16) (e : Fin 128) : EReal :=
  ∑ n : Fin 8448, x2 (ix3 b (keyRow n) (lane h e)) * (prob (score x0 x1 b h 0 r) n - lamOf x3 * prob (score x0 x1 b h 1 r) n)

theorem mixed_at (x0 : FVec Ideal S2x8192x2048 .bf16) (x1 x2 : FVec Ideal S2x8704x2048 .bf16) (x3 : FVec Ideal S4x64 .f32)
    (b : Fin 2) (r : Fin 8192) (h : Fin 16) (e : Fin 128) :
    val_main_v52 (F := Ideal) x0 x1 x2 x3 (ix4 b r h e) = mixed x0 x1 x2 x3 b r h e := by
  rw [val_main_v52_apply, val_main_v51_apply]
  refine Finset.sum_congr rfl fun n _ => ?_
  have e1 : lidx_main_v51 (idx_main_v52 (ix4 b r h e)) n = ix4 b n h e := funext fun a => Fin.ext (by fin_cases a <;> rfl)
  have e2 : ridx_main_v51 (idx_main_v52 (ix4 b r h e)) n = ix4 b h r n := funext fun a => Fin.ext (by fin_cases a <;> rfl)
  have hb := b.isLt
  have hr := r.isLt
  have hh := h.isLt
  have hn := n.isLt
  have e3 : idx_main_v44 (idx_main_v45 (ix4 b h r n)) = ix5 b h 0 r n := by
    refine funext fun a => Fin.ext ?_
    fin_cases a
    · show (((b.val * 16 + h.val) * 8192 + r.val) * 8448 + n.val) / 1107296256 = b.val; omega
    · show (((b.val * 16 + h.val) * 8192 + r.val) * 8448 + n.val) / 69206016 % 16 = h.val; omega
    · rfl
    · show (((b.val * 16 + h.val) * 8192 + r.val) * 8448 + n.val) / 8448 % 8192 = r.val; omega
    · show (((b.val * 16 + h.val) * 8192 + r.val) * 8448 + n.val) % 8448 = n.val; omega
  have e4 : idx_main_v46 (idx_main_v47 (ix4 b h r n)) = ix5 b h 1 r n := by
    refine funext fun a => Fin.ext ?_
    fin_cases a
    · show (((b.val * 16 + h.val) * 8192 + r.val) * 8448 + n.val) / 1107296256 = b.val; omega
    · show (((b.val * 16 + h.val) * 8192 + r.val) * 8448 + n.val) / 69206016 % 16 = h.val; omega
    · rfl
    · show (((b.val * 16 + h.val) * 8192 + r.val) * 8448 + n.val) / 8448 % 8192 = r.val; omega
    · show (((b.val * 16 + h.val) * 8192 + r.val) * 8448 + n.val) % 8448 = n.val; omega
  rw [e1, e2, v_at, val_main_v50_apply, val_main_v49_apply, val_main_v48_apply, val_main_v45_apply, val_main_v44_apply, val_main_v47_apply, val_main_v46_apply, e3, e4, prob_at, prob_at, lam_at]
  rfl

/-- The reference's result at row `r`, head `h`, lane `d` of batch `b`. -/
def att (x0 : FVec Ideal S2x8192x2048 .bf16) (x1 x2 : FVec Ideal S2x8704x2048 .bf16) (x3 : FVec Ideal S4x64 .f32) (x4 : FVec Ideal S128 .f32)
    (b : Fin 2) (r : Fin 8192) (h : Fin 16) (d : Fin 128) : EReal :=
  mixed x0 x1 x2 x3 b r h d
    * Ideal.rsqrt (Ideal.div (∑ e, mixed x0 x1 x2 x3 b r h e * mixed x0 x1 x2 x3 b r h e)
        (Ideal.ofBits FTy.f32 0x43000000#32) + Ideal.ofBits FTy.f32 0x358637BD#32)
    * x4 (ix1 d) * Ideal.ofBits FTy.f32 0x3F24FD5C#32

theorem att_at (x0 : FVec Ideal S2x8192x2048 .bf16) (x1 x2 : FVec Ideal S2x8704x2048 .bf16) (x3 : FVec Ideal S4x64 .f32) (x4 : FVec Ideal S128 .f32)
    (b : Fin 2) (r : Fin 8192) (h : Fin 16) (d : Fin 128) :
    val_main_v67 (F := Ideal) x0 x1 x2 x3 x4 (ix4 b r h d) = att x0 x1 x2 x3 x4 b r h d := by
  rw [val_main_v67_apply, val_main_v66_apply, val_main_v65_apply, val_main_v64_apply, val_main_v63_apply, val_main_v62_apply, val_main_v61_apply,
    val_main_v60_apply, val_main_v59_apply, val_main_v58_apply, val_main_v57_apply, val_main_v56_apply, val_main_v55_apply, val_main_v54_apply, mixed_at]
  have e : ∀ k : Fin 128, val_main_v53 (F := Ideal) x0 x1 x2 x3 (idx_main_v54 (idx_main_v55 (idx_main_v61 (ix4 b r h d))) k)
      = mixed x0 x1 x2 x3 b r h k * mixed x0 x1 x2 x3 b r h k := by
    intro k
    have : idx_main_v54 (idx_main_v55 (idx_main_v61 (ix4 b r h d))) k = ix4 b r h k := funext fun a => Fin.ext (by fin_cases a <;> rfl)
    rw [this, val_main_v53_apply, mixed_at]
    rfl
  have e4 : idx_main_v63 (idx_main_v64 (ix4 b r h d)) = ix1 d := funext fun a => Fin.ext (by fin_cases a; rfl)
  rw [Finset.sum_congr rfl fun k _ => e k, e4]
  have z : val_main_cst_6 (F := Ideal) (Shape.Idx.first Cert.DiffRefIdeal.Gen.h_S_) = 0 := lit_zero
  rw [z, zero_add]
  rfl

/-- Head and lane of a channel. -/
def headOf (ch : Fin 2048) : Fin 16 := ⟨ch.val / 128, by have := ch.isLt; omega⟩
def laneOf (ch : Fin 2048) : Fin 128 := ⟨ch.val % 128, Nat.mod_lt _ (by decide)⟩

theorem result_at (x0 : FVec Ideal S2x8192x2048 .bf16) (x1 x2 : FVec Ideal S2x8704x2048 .bf16) (x3 : FVec Ideal S4x64 .f32) (x4 : FVec Ideal S128 .f32)
    (b : Fin 2) (r : Fin 8192) (ch : Fin 2048) :
    val_main_v69 (F := Ideal) x0 x1 x2 x3 x4 (ix3 b r ch) = att x0 x1 x2 x3 x4 b r (headOf ch) (laneOf ch) := by
  have hb := b.isLt
  have hr := r.isLt
  have hc := ch.isLt
  have e : idx_main_v68 (ix3 b r ch) = ix4 b r (headOf ch) (laneOf ch) := by
    refine funext fun a => Fin.ext ?_
    fin_cases a
    · show ((b.val * 8192 + r.val) * 2048 + ch.val) / 16777216 = b.val; omega
    · show ((b.val * 8192 + r.val) * 2048 + ch.val) / 2048 % 8192 = r.val; omega
    · show ((b.val * 8192 + r.val) * 2048 + ch.val) / 128 % 16 = ch.val / 128; omega
    · show ((b.val * 8192 + r.val) * 2048 + ch.val) % 128 = ch.val % 128; omega
  rw [val_main_v69_apply, val_main_v68_apply, e, att_at]
  rfl

end Cert.DiffRef
end
-- ==== Proof.DiffClaim.lean ====
module

public import proofs.«01_k».proof.Defs
public import proofs.«01_k».proof.Proof.DiffKernel
public import proofs.«01_k».proof.Proof.DiffRef
public import proofs.«01_k».proof.Proof.Gen.Diff.Frame
public import Idealize.ShloMosaic.Lib.Quiescent

/-! The claims about the differential attention: of real arguments the kernel and the reference end with the same result. -/

@[expose] public section

set_option maxRecDepth 16384

noncomputable section

namespace Cert.DiffClaim

open Idealize.ShloMosaic Idealize.ShloMosaic.TcCoe Idealize.SL.Sem
open Cert.Soft

abbrev Q : Shape := ⟨3, ![2, 8192, 2048]⟩
abbrev K : Shape := ⟨3, ![2, 8704, 2048]⟩
abbrev L : Shape := ⟨2, ![4, 64]⟩

/-- The side conditions of the precondition's operations. -/
instance preFacts : Cert.Pre_finite.Facts where
  bitsLt_bf16_f32 := by decide
  bcast_S_S2x8192x2048 := by decide
  slices_S2x8704x2048_S2x8448x2048_0_0_0 := by decide
  bcast_S_S2x8448x2048 := by decide
  bcast_S_S4x64 := by decide

/-- A comparison of the absolute value with infinity that holds makes the value a real. -/
theorem real_of_cmp (x : EReal) (h : Ideal.cmp .olt (FloatOps.absf (F := Ideal) (φ := .f32) x) (Ideal.ofBits FTy.f32 0x7F800000#32) = 1#1) :
    ∃ r : ℝ, x = (r : EReal) := by
  have hi : Ideal.ofBits FTy.f32 0x7F800000#32 = ⊤ := by simp [Ideal.ofBits, Ideal.ieee, -EReal.coe_mul]
  rw [hi] at h
  induction x using EReal.rec with
  | coe r => exact ⟨r, rfl⟩
  | bot => exact absurd h (by show ¬ Ideal.cmp .olt (max (⊥ : EReal) (-⊥)) ⊤ = 1#1; simp [Ideal.cmp])
  | top => exact absurd h (by show ¬ Ideal.cmp .olt (max (⊤ : EReal) (-⊤)) ⊤ = 1#1; simp [Ideal.cmp])

/-- The rows that hold keys are the first ones. -/
theorem kept (k : FVec Ideal K .bf16) (b : Fin 2) (n : Fin 8448) (ch : Fin 2048)
    (h : ∃ r : ℝ, extractStridedSlice Cert.Pre_finite.S2x8448x2048 ![0, 0, 0] k preFacts.slices_S2x8704x2048_S2x8448x2048_0_0_0 (ix3 b n ch) = (r : EReal)) :
    ∃ r : ℝ, k (ix3 b (keyRow n) ch) = (r : EReal) := by
  rwa [extractStridedSlice_apply ![0, 0, 0] k preFacts.slices_S2x8704x2048_S2x8448x2048_0_0_0 (ix3 b n ch) (ix3 b (keyRow n) ch)
    (fun a => by fin_cases a <;> exact (Nat.zero_add _).symm)] at h

/-- What the precondition says: queries, keys, values and the mixing vectors are reals. -/
theorem pre_real (q : FVec Ideal Q .bf16) (k v : FVec Ideal K .bf16) (lv : FVec Ideal L .f32) (g : FVec Ideal ⟨1, ![128]⟩ .f32)
    (h0 : (Cert.Pre_finite.fn (F := Ideal) q k v lv g).1 = fun _ => 1#1)
    (h1 : (Cert.Pre_finite.fn (F := Ideal) q k v lv g).2.1 = fun _ => 1#1)
    (h2 : (Cert.Pre_finite.fn (F := Ideal) q k v lv g).2.2.1 = fun _ => 1#1)
    (h3 : (Cert.Pre_finite.fn (F := Ideal) q k v lv g).2.2.2 = fun _ => 1#1) :
    (∀ i, ∃ r : ℝ, q i = (r : EReal)) ∧ (∀ (b : Fin 2) (n : Fin 8448) (ch : Fin 2048), ∃ r : ℝ, k (ix3 b (keyRow n) ch) = (r : EReal)) ∧ (∀ (b : Fin 2) (n : Fin 8448) (ch : Fin 2048), ∃ r : ℝ, v (ix3 b (keyRow n) ch) = (r : EReal)) ∧ (∀ i, ∃ r : ℝ, lv i = (r : EReal)) :=
  ⟨fun i => real_of_cmp _ (congrFun h0 i), fun b n ch => kept _ b n ch (real_of_cmp _ (congrFun h1 (ix3 b n ch))), fun b n ch => kept _ b n ch (real_of_cmp _ (congrFun h2 (ix3 b n ch))), fun i => real_of_cmp _ (congrFun h3 i)⟩

/-- The lane within a head that holds component `l` of map `mm`. -/
def place (mm : Fin 2) (l : Fin 64) : Fin 128 := ⟨l.val % 2 * 64 + mm.val * 32 + l.val / 2, by have := mm.isLt; have := l.isLt; omega⟩

theorem place_inj (mm : Fin 2) : Function.Injective (place mm) := by
  intro a b h
  have h' : a.val % 2 * 64 + mm.val * 32 + a.val / 2 = b.val % 2 * 64 + mm.val * 32 + b.val / 2 := congrArg Fin.val h
  have ha := a.isLt
  have hb := b.isLt
  exact Fin.ext (by omega)

/-- The lanes that belong to no component of the map are those that the kernel's mask clears. -/
theorem place_iff (mm : Fin 2) (l : Fin 128) : (l.val / 32) % 2 = mm.val ↔ ∃ e, place mm e = l := by
  revert mm l
  decide +kernel

/-- The kernel's masked dot product over 128 lanes is the reference's over the map's 64 components. -/
theorem score_eq (mm : Fin 2) (q : FVec Ideal Q .bf16) (k : FVec Ideal K .bf16) (b : Fin 2) (r : Fin 8192) (h : Fin 16) (n : Fin 8448) :
    Cert.DiffKernel.score mm.val q k b r h n = Cert.DiffRef.score q k b h mm r n := by
  unfold Cert.DiffKernel.score Cert.DiffRef.score
  symm
  refine Finset.sum_of_injOn (place mm) ((place_inj mm).injOn) (fun _ _ => Finset.mem_coe.mpr (Finset.mem_univ _)) ?_ ?_
  · intro l _ hl
    have : ¬ (l.val / 32) % 2 = mm.val := fun hh => hl (by
      obtain ⟨e, he⟩ := (place_iff mm l).mp hh
      exact ⟨e, Finset.mem_coe.mpr (Finset.mem_univ _), he⟩)
    unfold Cert.DiffBlock.pick
    rw [if_neg this, zero_mul]
  · intro l _
    have hp : ((place mm l).val / 32) % 2 = mm.val := (place_iff mm _).mpr ⟨l, rfl⟩
    have hc : Cert.DiffKernel.lane h (place mm l) = Cert.DiffRef.chan h mm l := Fin.ext (by
      show h.val * 128 + (l.val % 2 * 64 + mm.val * 32 + l.val / 2) = h.val * 128 + l.val % 2 * 64 + mm.val * 32 + l.val / 2; omega)
    unfold Cert.DiffBlock.pick
    rw [if_pos hp, hc]

/-- A sum of products of reals is a real. -/
theorem real_dot {ι : Type} [Fintype ι] (f g : ι → EReal) (hf : ∀ i, ∃ r : ℝ, f i = (r : EReal)) (hg : ∀ i, ∃ r : ℝ, g i = (r : EReal)) :
    ∃ r : ℝ, ∑ i, f i * g i = (r : EReal) := by
  choose a ha using hf
  choose c hc using hg
  refine ⟨∑ i, a i * c i, ?_⟩
  rw [Cert.Soft.coe_sum]
  exact Finset.sum_congr rfl fun i _ => by rw [ha, hc, EReal.coe_mul]

theorem lam_lit : ∃ r : ℝ, Ideal.ofBits FTy.f32 0x3EB60549#32 = (r : EReal) := by
  refine ⟨(11928905 : ℝ) / 2 ^ 25, ?_⟩
  simp [Ideal.ofBits, Ideal.ieee, -EReal.coe_mul]
  norm_num

theorem lam_real (lv : FVec Ideal L .f32) (h : ∀ i, ∃ r : ℝ, lv i = (r : EReal)) : ∃ r : ℝ, Cert.DiffRef.lamOf lv = (r : EReal) := by
  obtain ⟨a, ha⟩ := real_dot (fun l : Fin 64 => lv (ix2 0 l)) (fun l : Fin 64 => lv (ix2 1 l)) (fun _ => h _) (fun _ => h _)
  obtain ⟨b, hb⟩ := real_dot (fun l : Fin 64 => lv (ix2 2 l)) (fun l : Fin 64 => lv (ix2 3 l)) (fun _ => h _) (fun _ => h _)
  obtain ⟨z, hz⟩ := lam_lit
  refine ⟨Real.exp a - Real.exp b + z, ?_⟩
  unfold Cert.DiffRef.lamOf
  rw [ha, hb, hz, Ideal.exp_coe, Ideal.exp_coe, EReal.coe_add, EReal.coe_sub]

/-- Of real arguments the two texts give one function of row, head and lane. -/
theorem att_eq (q : FVec Ideal Q .bf16) (k v : FVec Ideal K .bf16) (lv : FVec Ideal L .f32) (g : FVec Ideal ⟨1, ![128]⟩ .f32)
    (hq : ∀ i, ∃ r : ℝ, q i = (r : EReal)) (hk : ∀ (b : Fin 2) (n : Fin 8448) (ch : Fin 2048), ∃ r : ℝ, k (ix3 b (keyRow n) ch) = (r : EReal)) (hv : ∀ (b : Fin 2) (n : Fin 8448) (ch : Fin 2048), ∃ r : ℝ, v (ix3 b (keyRow n) ch) = (r : EReal)) (hl : ∀ i, ∃ r : ℝ, lv i = (r : EReal))
    (b : Fin 2) (r : Fin 8192) (h : Fin 16) (d : Fin 128) :
    Cert.DiffKernel.att q k v lv (fun e => g (ix1 e)) b r h d = Cert.DiffRef.att q k v lv g b r h d := by
  have s0 : Cert.DiffKernel.score 0 q k b r h = Cert.DiffRef.score q k b h 0 r := funext fun n => score_eq 0 q k b r h n
  have s1 : Cert.DiffKernel.score 1 q k b r h = Cert.DiffRef.score q k b h 1 r := funext fun n => score_eq 1 q k b r h n
  have r0 : ∀ n, ∃ x : ℝ, Cert.DiffRef.score q k b h 0 r n = (x : EReal) := fun n => real_dot _ _ (fun _ => hq _) (fun _ => hk _ _ _)
  have r1 : ∀ n, ∃ x : ℝ, Cert.DiffRef.score q k b h 1 r n = (x : EReal) := fun n => real_dot _ _ (fun _ => hq _) (fun _ => hk _ _ _)
  choose a0 e0 using r0
  choose a1 e1 using r1
  obtain ⟨z, hz⟩ := lam_real lv hl
  have key : ∀ e : Fin 128, soft (Cert.DiffRef.score q k b h 0 r) (fun n => v (ix3 b (keyRow n) (Cert.DiffRef.lane h e)))
      - Cert.DiffRef.lamOf lv * soft (Cert.DiffRef.score q k b h 1 r) (fun n => v (ix3 b (keyRow n) (Cert.DiffRef.lane h e)))
      = Cert.DiffRef.mixed q k v lv b r h e := by
    intro e
    choose w hw using fun n : Fin 8448 => hv b n (Cert.DiffRef.lane h e)
    unfold Cert.DiffRef.mixed
    rw [funext e0, funext e1, hz]
    simp only [hw]
    exact soft_sub a0 a1 w z
  unfold Cert.DiffKernel.att Cert.DiffBlock.outRow Cert.DiffRef.att
  rw [s0, s1]
  have key' : ∀ e : Fin 128, soft (Cert.DiffRef.score q k b h 0 r) (fun n => v (ix3 b (keyRow n) (Cert.DiffKernel.lane h e)))
      - Cert.DiffBlock.lamOf lv * soft (Cert.DiffRef.score q k b h 1 r) (fun n => v (ix3 b (keyRow n) (Cert.DiffKernel.lane h e)))
      = Cert.DiffRef.mixed q k v lv b r h e := key
  simp only [key']

/-- The kernel's and the reference's results agree on every memory that meets the precondition. -/
theorem algebraic : Cert.algebraic_DiffIdeal_DiffRefIdeal_pre_finite := by
  intro m ρ m' ρ' hpre hagree
  refine ⟨fun c => Cert.DiffKernel.arr m c, ?_, ?_⟩
  · exact (θ_run Cert.DiffIdeal.defs _ _).mono (fun _ h c => ⟨(h c).1.trans (Cert.DiffKernel.final m c), (h c).2⟩)
      (Cert.DiffIdeal.Value.run_blocks (F := Ideal) m ρ)
  · refine (θ_run Cert.DiffRefIdeal.defs _ _).mono (fun _ h c => ⟨(h c).1.trans ?_, (h c).2⟩)
      (Cert.DiffRefIdeal.Value.run (F := Ideal) m' ρ')
    obtain ⟨h0, h1, h2, h3, h4⟩ := hagree c
    obtain ⟨p0, p1, p2, p3⟩ := hpre c
    obtain ⟨hq, hk, hv, hl⟩ := pre_real _ _ _ _ _ p0 p1 p2 p3
    rw [Cert.DiffRefIdeal.Read.val_main_v69_eq, h0, h1, h2, h3, h4]
    funext i
    have e : i = ix3 (i 0) (i 1) (i 2) := (ix3_eta i).symm
    refine (congrArg _ e).trans ((Cert.DiffRef.result_at _ _ _ _ _ (i 0) (i 1) (i 2)).trans ?_)
    exact (att_eq _ _ _ _ _ hq hk hv hl (i 0) (i 1) _ _).symm

end Cert.DiffClaim
end
-- ==== Proof.FfnPieces.lean ====
module

public import proofs.«01_k».proof.Proof.Gen.FfnIdeal.Skeleton
public import Idealize.ShloMosaic.PureOps.Ideal
public import Idealize.ShloMosaic.Lib.ValueIdx
public import Idealize.ShloMosaic.Lib.Pointwise
public import Idealize.ShloMosaic.Lib.IdealHost

/-! The feed-forward call's stored values read at an index: the normalised rows, the gated activations of a chunk of
channels, the running sum of the products with the down-projection, and the closing residual. -/

@[expose] public section

set_option maxRecDepth 16384

noncomputable section

namespace Cert.FfnPieces

open Cert.FfnIdeal Cert.FfnIdeal.Gen Idealize.ShloMosaic Idealize.ShloMosaic.TcCoe Idealize.SL.Sem

/-- A row divided by its root mean square, times weights. -/
def rms (x g : Fin 2048 → EReal) (d : Fin 2048) : EReal :=
  x d * Ideal.rsqrt (Ideal.div (∑ e, x e * x e) (Ideal.ofBits FTy.f32 0x45000000#32) + Ideal.ofBits FTy.f32 0x358637BD#32) * g d

/-- A normalised, scaled and shifted row. -/
def norm (x g sc sh : Fin 2048 → EReal) (d : Fin 2048) : EReal :=
  rms x g d * (1 + sc d) + sh d

/-- Three neighbouring rows weighted, and a bias; row `r` of the tile is row `r + 16` with the halo. -/
def conv (u : Fin 544 → EReal) (cw : Fin 3 → EReal) (cb : EReal) (r : Fin 512) : EReal :=
  cw 0 * u ⟨r.val + 15, by have := r.isLt; omega⟩ + cw 1 * u ⟨r.val + 16, by have := r.isLt; omega⟩
    + cw 2 * u ⟨r.val + 17, by have := r.isLt; omega⟩ + cb

/-- The gate: the second value times its sigmoid, times the first. -/
def gated (a g : EReal) : EReal := a * (g * Ideal.logistic g)

/-- One column of the activations from the two products, the filters' columns and the biases. -/
def col (U G : FVec Ideal S544x512 .f32) (ca cg : Vec Ideal S3x128 .f32) (ba bg : Vec Ideal S1x128 .f32) (r : Fin 512) (l : Fin 128) (f : Fin 512) : EReal :=
  gated (conv (fun n => U (ix2 n f)) (fun j => ca (ix2 j l)) (ba (ix2 0 l)) r) (conv (fun n => G (ix2 n f)) (fun j => cg (ix2 j l)) (bg (ix2 0 l)) r)

theorem up_apply (hx : Vec Ideal S544x2048 .bf16) (w : Vec Ideal S1x2048x512 .bf16) (r : Fin 544) (f : Fin 512) :
    k0_pay12 hx w (ix2 r f) = ∑ d, hx (ix2 r d) * w (ix3 0 d f) := by
  pointwise [k0_pay12, add_zero]

theorem up_apply' (hx : Vec Ideal S544x2048 .bf16) (w : Vec Ideal S1x2048x512 .bf16) (r : Fin 544) (f : Fin 512) :
    k0_pay13 hx w (ix2 r f) = ∑ d, hx (ix2 r d) * w (ix3 0 d f) := by
  pointwise [k0_pay13, add_zero]

theorem row_before (r : ℕ) (h : r < 512) : (16 + r + 544 - 1) % 544 = r + 15 := by omega
theorem row_at (r : ℕ) : 16 + r = r + 16 := Nat.add_comm _ _
theorem row_after (r : ℕ) (h : r < 512) : (16 + r + 544 - 543) % 544 = r + 17 := by omega

theorem piece0 (hx : Vec Ideal S544x2048 .bf16) (wa wg : Vec Ideal S1x2048x512 .bf16) (ca cg : Vec Ideal S3x128 .f32) (ba bg : Vec Ideal S1x128 .f32) (r : Fin 512) (l : Fin 128) :
    k0_pay17 (k0_pay14 hx wa ca ba) (k0_pay15 hx wg) cg (k0_pay16 bg) (ix2 r l) = col (k0_pay12 hx wa) (k0_pay13 hx wg) ca cg ba bg r l ⟨l.val, by have := l.isLt; omega⟩ := by
  have h1 := row_before r.val r.isLt
  have h3 := row_after r.val r.isLt
  pointwise [k0_pay17, k0_pay14, k0_pay15, k0_pay16]
  simp only [h1, h3]
  simp only [row_at]
  rfl

theorem piece1 (U G : FVec Ideal S544x512 .f32) (ca cg : Vec Ideal S3x128 .f32) (ba bg : Vec Ideal S1x128 .f32) (r : Fin 512) (l : Fin 128) :
    k0_pay23 (k0_pay18 U ca ba) (k0_pay19 G) cg (k0_pay20 bg) (k0_pay21 G) (k0_pay22 G) (ix2 r l) = col U G ca cg ba bg r l ⟨128 + l.val, by have := l.isLt; omega⟩ := by
  have h1 := row_before r.val r.isLt
  have h3 := row_after r.val r.isLt
  pointwise [k0_pay23, k0_pay18, k0_pay19, k0_pay20, k0_pay21, k0_pay22]
  simp only [h1, h3]
  simp only [row_at]
  rfl

theorem piece2 (U G : FVec Ideal S544x512 .f32) (ca cg : Vec Ideal S3x128 .f32) (ba bg : Vec Ideal S1x128 .f32) (r : Fin 512) (l : Fin 128) :
    k0_pay30 (k0_pay24 U ca ba) (k0_pay25 G) cg (k0_pay26 bg) (k0_pay27 G) (k0_pay28 G cg) (k0_pay29 cg) (ix2 r l) = col U G ca cg ba bg r l ⟨256 + l.val, by have := l.isLt; omega⟩ := by
  have h1 := row_before r.val r.isLt
  have h3 := row_after r.val r.isLt
  pointwise [k0_pay30, k0_pay24, k0_pay25, k0_pay26, k0_pay27, k0_pay28, k0_pay29]
  simp only [h1, h3]
  simp only [row_at]
  rfl

/-- Four quarters side by side. -/
theorem joined (act : Fin 512 → EReal) (p0 p1 p2 p3 : Fin 128 → EReal)
    (a0 : ∀ l : Fin 128, p0 l = act ⟨l.val, by have := l.isLt; omega⟩)
    (a1 : ∀ l : Fin 128, p1 l = act ⟨128 + l.val, by have := l.isLt; omega⟩)
    (a2 : ∀ l : Fin 128, p2 l = act ⟨256 + l.val, by have := l.isLt; omega⟩)
    (a3 : ∀ l : Fin 128, p3 l = act ⟨384 + l.val, by have := l.isLt; omega⟩) (x : Fin 512) :
    (if h : x.val < 128 then p0 ⟨x.val, h⟩ else if h : x.val - 128 < 128 then p1 ⟨x.val - 128, h⟩
      else if h : x.val - 128 - 128 < 128 then p2 ⟨x.val - 128 - 128, h⟩ else p3 ⟨x.val - 128 - 128 - 128, by have := x.isLt; omega⟩) = act x := by
  have hx := x.isLt
  by_cases b0 : x.val < 128
  · rw [dif_pos b0]
    exact a0 ⟨x.val, b0⟩
  rw [dif_neg b0]
  by_cases b1 : x.val - 128 < 128
  · rw [dif_pos b1]
    exact (a1 _).trans (congrArg act (Fin.ext (Nat.add_sub_of_le (by omega))))
  rw [dif_neg b1]
  by_cases b2 : x.val - 128 - 128 < 128
  · rw [dif_pos b2]
    refine (a2 _).trans (congrArg act (Fin.ext ?_))
    show 256 + (x.val - 128 - 128) = x.val
    omega
  rw [dif_neg b2]
  refine (a3 _).trans (congrArg act (Fin.ext ?_))
  show 384 + (x.val - 128 - 128 - 128) = x.val
  omega

set_option maxHeartbeats 1000000 in
/-- The last quarter of the channels, computed where the four quarters are joined. -/
theorem step_apply (p0 p1 p2 : FVec Ideal S512x128 .bf16) (U G : FVec Ideal S544x512 .f32) (ca cg : Vec Ideal S3x128 .f32) (ba bg : Vec Ideal S1x128 .f32)
    (acc : Vec Ideal S1x512x2048 .f32) (wd : Vec Ideal S1x512x2048 .bf16) (r : Fin 512) (d : Fin 2048) (act : Fin 512 → EReal)
    (a0 : ∀ l : Fin 128, p0 (ix2 r l) = act ⟨l.val, by have := l.isLt; omega⟩)
    (a1 : ∀ l : Fin 128, p1 (ix2 r l) = act ⟨128 + l.val, by have := l.isLt; omega⟩)
    (a2 : ∀ l : Fin 128, p2 (ix2 r l) = act ⟨256 + l.val, by have := l.isLt; omega⟩)
    (a3 : ∀ l : Fin 128, col U G ca cg ba bg r l ⟨384 + l.val, by have := l.isLt; omega⟩ = act ⟨384 + l.val, by have := l.isLt; omega⟩) :
    k0_pay1 p0 p1 p2 (k0_pay31 U ca ba) (k0_pay33 bg) (k0_pay34 G) (k0_pay35 G cg) (k0_pay36 cg) acc wd (ix3 0 r d)
      = acc (ix3 0 r d) + ∑ f : Fin 512, act f * wd (ix3 0 f d) := by
  have h1 := row_before r.val r.isLt
  have h3 := row_after r.val r.isLt
  pointwise [k0_pay1, k0_pay31, k0_pay32, k0_pay33, k0_pay34, k0_pay35, k0_pay36, add_zero]
  simp only [h1, h3]
  simp only [row_at]
  refine congrArg (acc (ix3 0 r d) + ·) (Finset.sum_congr rfl fun x _ => congrArg (· * wd (ix3 0 x d)) ?_)
  exact joined act (fun l => p0 (ix2 r l)) (fun l => p1 (ix2 r l)) (fun l => p2 (ix2 r l)) (fun l => col U G ca cg ba bg r l ⟨384 + l.val, by have := l.isLt; omega⟩) a0 a1 a2 a3 x

theorem close_apply (x : Vec Ideal S1x512x2048 .f32) (gate : Vec Ideal S1x1x2048 .f32) (y : Vec Ideal S1x512x2048 .f32) (g : Vec Ideal S1x2048 .f32) (r : Fin 512) (d : Fin 2048) :
    k0_pay2 x gate y g (ix3 0 r d) = x (ix3 0 r d) + gate (ix3 0 0 d) * rms (fun e => y (ix3 0 r e)) (fun e => g (ix2 0 e)) d := by
  pointwise [k0_pay2, rms, add_zero]

theorem zero_apply (r : Fin 512) (d : Fin 2048) : (k0_pay11 (F := Ideal)) (ix3 0 r d) = 0 := by
  pointwise [k0_pay11]

theorem main_apply (x : Vec Ideal S1x512x2048 .f32) (g : Vec Ideal S1x2048 .f32) (sc sh : Vec Ideal S1x1x2048 .f32) (r : Fin 512) (d : Fin 2048) :
    k0_pay3 x g sc sh (ix2 r d) = norm (fun e => x (ix3 0 r e)) (fun e => g (ix2 0 e)) (fun e => sc (ix3 0 0 e)) (fun e => sh (ix3 0 0 e)) d := by
  pointwise [k0_pay3, norm, rms, add_zero]

theorem before_apply (b : BitVec 1) (x : Vec Ideal S1x16x2048 .f32) (g : Vec Ideal S1x2048 .f32) (sc sh : Vec Ideal S1x1x2048 .f32) (r : Fin 16) (d : Fin 2048) :
    k0_pay6 k0_pay4 b (k0_pay5 x) g sc sh (ix2 r d)
      = if b = 1#1 then norm (fun e => x (ix3 0 r e)) (fun e => g (ix2 0 e)) (fun e => sc (ix3 0 0 e)) (fun e => sh (ix3 0 0 e)) d else 0 := by
  pointwise [k0_pay6, k0_pay4, k0_pay5, norm, rms, add_zero]
  rfl

theorem after_apply (b : BitVec 1) (x : Vec Ideal S1x16x2048 .f32) (g : Vec Ideal S1x2048 .f32) (sc sh : Vec Ideal S1x1x2048 .f32) (r : Fin 16) (d : Fin 2048) :
    k0_pay10 k0_pay4 b (k0_pay7 x) (k0_pay8 g) (k0_pay9 x) (Scalar.ofBits .f32 0x358637BD#32) sc sh (ix2 r d)
      = if b = 1#1 then norm (fun e => x (ix3 0 r e)) (fun e => g (ix2 0 e)) (fun e => sc (ix3 0 0 e)) (fun e => sh (ix3 0 0 e)) d else 0 := by
  pointwise [k0_pay10, k0_pay4, k0_pay7, k0_pay8, k0_pay9, norm, rms, add_zero]
  rfl

end Cert.FfnPieces
end
-- ==== Proof.FfnBlock.lean ====
module

public import proofs.«01_k».proof.Proof.Gen.FfnIdeal.Value
public import proofs.«01_k».proof.Proof.FfnPieces
public import Idealize.ShloMosaic.Lib.Pipeline.ValueKit.Tiles

/-! What each grid point of the feed-forward call leaves: the rows with their halo in the scratch, and the running sum. -/

@[expose] public section

set_option maxRecDepth 16384

noncomputable section

namespace Cert.FfnBlock

open Cert.FfnIdeal Cert.FfnIdeal.Gen Cert.FfnPieces Idealize.ShloMosaic Idealize.ShloMosaic.TcCoe Idealize.SL.Sem

/-- The normalised rows with the sixteen before and after them, zero where a flag says there are none. -/
def rows (x0 : Vec Ideal S1x512x2048 .f32) (x1 x2 : Vec Ideal S1x16x2048 .f32) (g : Vec Ideal S1x2048 .f32) (sc sh : Vec Ideal S1x1x2048 .f32)
    (p q : BitVec 1) : Vec Ideal S544x2048 .bf16 := fun y =>
  if (y 0).val < 16 then
    (if p = 1#1 then norm (fun e => x1 (ix3 0 (⟨(y 0).val % 16, Nat.mod_lt _ (by decide)⟩ : Fin 16) e)) (fun e => g (ix2 0 e)) (fun e => sc (ix3 0 0 e)) (fun e => sh (ix3 0 0 e)) (y 1) else 0)
  else if (y 0).val < 528 then
    norm (fun e => x0 (ix3 0 (⟨((y 0).val - 16) % 512, Nat.mod_lt _ (by decide)⟩ : Fin 512) e)) (fun e => g (ix2 0 e)) (fun e => sc (ix3 0 0 e)) (fun e => sh (ix3 0 0 e)) (y 1)
  else
    (if q = 1#1 then norm (fun e => x2 (ix3 0 (⟨(y 0).val % 16, Nat.mod_lt _ (by decide)⟩ : Fin 16) e)) (fun e => g (ix2 0 e)) (fun e => sc (ix3 0 0 e)) (fun e => sh (ix3 0 0 e)) (y 1) else 0)

/-- The gated activation of a row and a channel of the chunk. -/
def act (hx : Vec Ideal S544x2048 .bf16) (wa wg : Vec Ideal S1x2048x512 .bf16) (ca cg : Vec Ideal S3x512 .f32) (ba bg : Vec Ideal S1x512 .f32) (r f : Fin 512) : EReal :=
  gated (conv (fun n => ∑ d, hx (ix2 n d) * wa (ix3 0 d f)) (fun j => ca (ix2 j f)) (ba (ix2 0 f)) r)
    (conv (fun n => ∑ d, hx (ix2 n d) * wg (ix3 0 d f)) (fun j => cg (ix2 j f)) (bg (ix2 0 f)) r)

/-- The running sum after a chunk. -/
def step (acc : Vec Ideal S1x512x2048 .f32) (hx : Vec Ideal S544x2048 .bf16) (wa wg : Vec Ideal S1x2048x512 .bf16) (ca cg : Vec Ideal S3x512 .f32) (ba bg : Vec Ideal S1x512 .f32)
    (wd : Vec Ideal S1x512x2048 .bf16) : Vec Ideal S1x512x2048 .f32 := fun y =>
  acc y + ∑ f : Fin 512, act hx wa wg ca cg ba bg (y 1) f * wd (ix3 0 f (y 2))

/-- The stored running sum, from the blocks and the rows in the scratch. -/
def chunk (acc : Vec Ideal S1x512x2048 .f32) (hx : Vec Ideal S544x2048 .bf16) (wa wg : Vec Ideal S1x2048x512 .bf16) (ca cg : Vec Ideal S3x512 .f32) (ba bg : Vec Ideal S1x512 .f32)
    (wd : Vec Ideal S1x512x2048 .bf16) : FVec Ideal S1x512x2048 .f32 :=
  k0_pay1 (k0_pay17 (k0_pay14 hx wa (View.ld (Val := Elt Ideal) (e' := .f32) ca (Rect.unit (s := S3x512) ![0, 0] ![3, 128] inb_S3x512_S3x128_0_0)) (View.ld (Val := Elt Ideal) (e' := .f32) ba (Rect.unit (s := S1x512) ![0, 0] ![1, 128] inb_S1x512_S1x128_0_0))) (k0_pay15 hx wg) (View.ld (Val := Elt Ideal) (e' := .f32) cg (Rect.unit (s := S3x512) ![0, 0] ![3, 128] inb_S3x512_S3x128_0_0)) (k0_pay16 (View.ld (Val := Elt Ideal) (e' := .f32) bg (Rect.unit (s := S1x512) ![0, 0] ![1, 128] inb_S1x512_S1x128_0_0))))
    (k0_pay23 (k0_pay18 (k0_pay12 hx wa) (View.ld (Val := Elt Ideal) (e' := .f32) ca (Rect.unit (s := S3x512) ![0, 128] ![3, 128] inb_S3x512_S3x128_0_128)) (View.ld (Val := Elt Ideal) (e' := .f32) ba (Rect.unit (s := S1x512) ![0, 128] ![1, 128] inb_S1x512_S1x128_0_128))) (k0_pay19 (k0_pay13 hx wg)) (View.ld (Val := Elt Ideal) (e' := .f32) cg (Rect.unit (s := S3x512) ![0, 128] ![3, 128] inb_S3x512_S3x128_0_128)) (k0_pay20 (View.ld (Val := Elt Ideal) (e' := .f32) bg (Rect.unit (s := S1x512) ![0, 128] ![1, 128] inb_S1x512_S1x128_0_128))) (k0_pay21 (k0_pay13 hx wg)) (k0_pay22 (k0_pay13 hx wg)))
    (k0_pay30 (k0_pay24 (k0_pay12 hx wa) (View.ld (Val := Elt Ideal) (e' := .f32) ca (Rect.unit (s := S3x512) ![0, 256] ![3, 128] inb_S3x512_S3x128_0_256)) (View.ld (Val := Elt Ideal) (e' := .f32) ba (Rect.unit (s := S1x512) ![0, 256] ![1, 128] inb_S1x512_S1x128_0_256))) (k0_pay25 (k0_pay13 hx wg)) (View.ld (Val := Elt Ideal) (e' := .f32) cg (Rect.unit (s := S3x512) ![0, 256] ![3, 128] inb_S3x512_S3x128_0_256)) (k0_pay26 (View.ld (Val := Elt Ideal) (e' := .f32) bg (Rect.unit (s := S1x512) ![0, 256] ![1, 128] inb_S1x512_S1x128_0_256))) (k0_pay27 (k0_pay13 hx wg)) (k0_pay28 (k0_pay13 hx wg) (View.ld (Val := Elt Ideal) (e' := .f32) cg (Rect.unit (s := S3x512) ![0, 256] ![3, 128] inb_S3x512_S3x128_0_256))) (k0_pay29 (View.ld (Val := Elt Ideal) (e' := .f32) cg (Rect.unit (s := S3x512) ![0, 256] ![3, 128] inb_S3x512_S3x128_0_256))))
    (k0_pay31 (k0_pay12 hx wa) (View.ld (Val := Elt Ideal) (e' := .f32) ca (Rect.unit (s := S3x512) ![0, 384] ![3, 128] inb_S3x512_S3x128_0_384)) (View.ld (Val := Elt Ideal) (e' := .f32) ba (Rect.unit (s := S1x512) ![0, 384] ![1, 128] inb_S1x512_S1x128_0_384))) (k0_pay33 (View.ld (Val := Elt Ideal) (e' := .f32) bg (Rect.unit (s := S1x512) ![0, 384] ![1, 128] inb_S1x512_S1x128_0_384))) (k0_pay34 (k0_pay13 hx wg)) (k0_pay35 (k0_pay13 hx wg) (View.ld (Val := Elt Ideal) (e' := .f32) cg (Rect.unit (s := S3x512) ![0, 384] ![3, 128] inb_S3x512_S3x128_0_384))) (k0_pay36 (View.ld (Val := Elt Ideal) (e' := .f32) cg (Rect.unit (s := S3x512) ![0, 384] ![3, 128] inb_S3x512_S3x128_0_384)))
    acc wd

theorem filter_at (X : Vec Ideal S3x512 .f32) (o : ℕ) (h) (j : Fin 3) (l : Fin 128) (f : Fin 512) (hf : f.val = o + l.val) :
    View.ld (Val := Elt Ideal) (e' := .f32) X (Rect.unit (s := S3x512) ![0, o] ![3, 128] h) (ix2 j l) = X (ix2 j f) :=
  View.ld_unit_apply_of X _ _ h (ix2 j l) (ix2 j f) fun a => by
    fin_cases a
    · exact (Nat.zero_add _).symm
    · exact hf

theorem bias_at (X : Vec Ideal S1x512 .f32) (o : ℕ) (h) (j : Fin 1) (l : Fin 128) (f : Fin 512) (hf : f.val = o + l.val) :
    View.ld (Val := Elt Ideal) (e' := .f32) X (Rect.unit (s := S1x512) ![0, o] ![1, 128] h) (ix2 j l) = X (ix2 j f) :=
  View.ld_unit_apply_of X _ _ h (ix2 j l) (ix2 j f) fun a => by
    fin_cases a
    · exact (Nat.zero_add _).symm
    · exact hf

/-- A quarter's column is the activation at the channel. -/
theorem col_at (hx : Vec Ideal S544x2048 .bf16) (wa wg : Vec Ideal S1x2048x512 .bf16) (ca cg : Vec Ideal S3x512 .f32) (ba bg : Vec Ideal S1x512 .f32)
    (o : ℕ) (h) (h') (r : Fin 512) (l : Fin 128) (f : Fin 512) (hf : f.val = o + l.val) :
    col (k0_pay12 hx wa) (k0_pay13 hx wg) (View.ld (Val := Elt Ideal) (e' := .f32) ca (Rect.unit (s := S3x512) ![0, o] ![3, 128] h)) (View.ld (Val := Elt Ideal) (e' := .f32) cg (Rect.unit (s := S3x512) ![0, o] ![3, 128] h))
        (View.ld (Val := Elt Ideal) (e' := .f32) ba (Rect.unit (s := S1x512) ![0, o] ![1, 128] h')) (View.ld (Val := Elt Ideal) (e' := .f32) bg (Rect.unit (s := S1x512) ![0, o] ![1, 128] h')) r l f
      = act hx wa wg ca cg ba bg r f := by
  unfold col act
  simp only [up_apply, up_apply']
  exact congrArg₂ gated
    (congrArg₂ (fun cw cb => conv (fun n => ∑ d, hx (ix2 n d) * wa (ix3 0 d f)) cw cb r) (funext fun j => filter_at ca o h j l f hf) (bias_at ba o h' 0 l f hf))
    (congrArg₂ (fun cw cb => conv (fun n => ∑ d, hx (ix2 n d) * wg (ix3 0 d f)) cw cb r) (funext fun j => filter_at cg o h j l f hf) (bias_at bg o h' 0 l f hf))

theorem chunk_eq (acc : Vec Ideal S1x512x2048 .f32) (hx : Vec Ideal S544x2048 .bf16) (wa wg : Vec Ideal S1x2048x512 .bf16) (ca cg : Vec Ideal S3x512 .f32) (ba bg : Vec Ideal S1x512 .f32)
    (wd : Vec Ideal S1x512x2048 .bf16) :
    chunk acc hx wa wg ca cg ba bg wd = step acc hx wa wg ca cg ba bg wd := by
  funext y
  have e : y = ix3 (0 : Fin 1) (y 1 : Fin 512) (y 2 : Fin 2048) := by
    refine (ix3_eta y).symm.trans ?_
    have : y 0 = (0 : Fin 1) := Fin.ext (by have : (y 0).val < 1 := (y 0).isLt; show (y 0).val = 0; omega)
    rw [this]
    rfl
  unfold chunk step
  refine (congrArg _ e).trans ((step_apply _ _ _ (k0_pay12 hx wa) (k0_pay13 hx wg) _ _ _ _ acc wd (y 1) (y 2) (fun f => act hx wa wg ca cg ba bg (y 1) f) (fun l => ?_) (fun l => ?_) (fun l => ?_) (fun l => ?_)).trans ?_)
  · exact (piece0 hx wa wg _ _ _ _ (y 1) l).trans (col_at hx wa wg ca cg ba bg 0 _ _ (y 1) l _ (Nat.zero_add _).symm)
  · exact (piece1 _ _ _ _ _ _ (y 1) l).trans (col_at hx wa wg ca cg ba bg 128 _ _ (y 1) l _ rfl)
  · exact (piece2 _ _ _ _ _ _ (y 1) l).trans (col_at hx wa wg ca cg ba bg 256 _ _ (y 1) l _ rfl)
  · exact col_at hx wa wg ca cg ba bg 384 _ _ (y 1) l _ rfl
  · exact congrArg (· + _) (congrArg acc e.symm)

theorem zeros3 : (![0, 0, 0] : Fin 3 → ℕ) = fun _ => 0 := funext fun a => by fin_cases a <;> rfl
theorem zeros2 : (![0, 0] : Fin 2 → ℕ) = fun _ => 0 := funext fun a => by fin_cases a <;> rfl

variable (m : (ℓ : Loc nD τ sig) → Buf (Elt Ideal) ℓ)

set_option maxHeartbeats 1600000 in
theorem out_B (c : Dev nD) (t : Fin cfg0.N) (h0 : ¬t.val % 11 = 0) (h1 : ¬t.val % 11 = 10) :
    outsAt0 m c t.val t.isLt = (step (outsAt0 m c (t.val - 1) (Nat.lt_of_le_of_lt (Nat.sub_le _ _) t.isLt)).1 (outsAt0 m c (t.val - 1) (Nat.lt_of_le_of_lt (Nat.sub_le _ _) t.isLt)).2
      (iblk m c 6 t) (iblk m c 7 t) (iblk m c 8 t) (iblk m c 9 t) (iblk m c 10 t) (iblk m c 11 t) (iblk m c 12 t), (outsAt0 m c (t.val - 1) (Nat.lt_of_le_of_lt (Nat.sub_le _ _) t.isLt)).2) := by
  rw [outsAt0_B m c t h0 h1]
  generalize (outsAt0 m c (t.val - 1) (Nat.lt_of_le_of_lt (Nat.sub_le _ _) t.isLt)).1 = acc
  generalize (outsAt0 m c (t.val - 1) (Nat.lt_of_le_of_lt (Nat.sub_le _ _) t.isLt)).2 = hx
  refine Prod.ext ?_ rfl
  dsimp only
  unfold out0_B_15
  rw [View.read_writes_eq_canon _ _ _ (cover0_B_15 c (grid0.coords t) _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_6 t).read_unread, (hs0_7 t).read_unread, (hs0_8 t).read_unread, (hs0_9 t).read_unread, (hs0_10 t).read_unread, (hs0_11 t).read_unread, (hs0_12 t).read_unread, (hs0_15 t).read_unread, (Memref.isWhole_whole _).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  simp only [View.ld_unit_zero (Val := Elt Ideal) (S := S544x2048) (e := .bf16) (off := ![0,0]) zeros2, View.ld_unit_zero (Val := Elt Ideal) (S := S1x2048x512) (e := .bf16) (off := ![0,0,0]) zeros3, View.ld_unit_zero (Val := Elt Ideal) (S := S1x512x2048) (e := .f32) (off := ![0,0,0]) zeros3, View.ld_unit_zero (Val := Elt Ideal) (S := S1x512x2048) (e := .bf16) (off := ![0,0,0]) zeros3, View.ld_unit_zero (Val := Elt Ideal) (S := S1x16x2048) (e := .f32) (off := ![0,0,0]) zeros3, View.ld_unit_zero (Val := Elt Ideal) (S := S1x2048) (e := .f32) (off := ![0,0]) zeros2, View.ld_unit_zero (Val := Elt Ideal) (S := S1x1x2048) (e := .f32) (off := ![0,0,0]) zeros3]
  exact (View.canon_unit_zero (Val := Elt Ideal) (S := S1x512x2048) (e := .f32) zeros3 _ _).trans (chunk_eq acc hx x6 x7 x8 x9 x10 x11 x12)

/-- The closing residual of a tile. -/
def close (x : Vec Ideal S1x512x2048 .f32) (gate : Vec Ideal S1x1x2048 .f32) (y : Vec Ideal S1x512x2048 .f32) (g : Vec Ideal S1x2048 .f32) : Vec Ideal S1x512x2048 .f32 := fun i =>
  x i + gate (ix3 0 0 (i 2)) * rms (fun e => y (ix3 0 (i 1) e)) (fun e => g (ix2 0 e)) (i 2)

theorem close_eq (x : Vec Ideal S1x512x2048 .f32) (gate : Vec Ideal S1x1x2048 .f32) (y : Vec Ideal S1x512x2048 .f32) (g : Vec Ideal S1x2048 .f32) :
    k0_pay2 x gate y g = close x gate y g := by
  funext i
  have e : i = ix3 (0 : Fin 1) (i 1 : Fin 512) (i 2 : Fin 2048) := by
    refine (ix3_eta i).symm.trans ?_
    have : i 0 = (0 : Fin 1) := Fin.ext (by have : (i 0).val < 1 := (i 0).isLt; show (i 0).val = 0; omega)
    rw [this]
    rfl
  unfold close
  exact (congrArg _ e).trans ((close_apply x gate y g (i 1) (i 2)).trans (congrArg (· + _) (congrArg x e.symm)))

set_option maxHeartbeats 1600000 in
theorem out_C (c : Dev nD) (t : Fin cfg0.N) (h0 : ¬t.val % 11 = 0) (h1 : t.val % 11 = 10) :
    (outsAt0 m c t.val t.isLt).1 = close (iblk m c 0 t) (iblk m c 14 t) (step (outsAt0 m c (t.val - 1) (Nat.lt_of_le_of_lt (Nat.sub_le _ _) t.isLt)).1 (outsAt0 m c (t.val - 1) (Nat.lt_of_le_of_lt (Nat.sub_le _ _) t.isLt)).2
      (iblk m c 6 t) (iblk m c 7 t) (iblk m c 8 t) (iblk m c 9 t) (iblk m c 10 t) (iblk m c 11 t) (iblk m c 12 t)) (iblk m c 13 t) := by
  rw [outsAt0_C m c t h0 h1]
  generalize (outsAt0 m c (t.val - 1) (Nat.lt_of_le_of_lt (Nat.sub_le _ _) t.isLt)).1 = acc
  generalize (outsAt0 m c (t.val - 1) (Nat.lt_of_le_of_lt (Nat.sub_le _ _) t.isLt)).2 = hx
  dsimp only
  unfold out0_C_15
  rw [View.read_writes_eq_canon _ _ _ (cover0_C_15 c (grid0.coords t) _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (Memref.isWhole_whole _).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  simp only [View.readCov_eq_canon', View.ld_unit_zero (Val := Elt Ideal) (S := S544x2048) (e := .bf16) (off := ![0,0]) zeros2, View.ld_unit_zero (Val := Elt Ideal) (S := S1x2048x512) (e := .bf16) (off := ![0,0,0]) zeros3, View.ld_unit_zero (Val := Elt Ideal) (S := S1x512x2048) (e := .f32) (off := ![0,0,0]) zeros3, View.ld_unit_zero (Val := Elt Ideal) (S := S1x512x2048) (e := .bf16) (off := ![0,0,0]) zeros3, View.ld_unit_zero (Val := Elt Ideal) (S := S1x16x2048) (e := .f32) (off := ![0,0,0]) zeros3, View.ld_unit_zero (Val := Elt Ideal) (S := S1x2048) (e := .f32) (off := ![0,0]) zeros2, View.ld_unit_zero (Val := Elt Ideal) (S := S1x1x2048) (e := .f32) (off := ![0,0,0]) zeros3]
  refine (View.canon_cons_unit_zero (Val := Elt Ideal) (S := S1x512x2048) (e := .f32) zeros3 _ _ _).trans ?_
  refine (close_eq _ _ _ _).trans (congrArg (fun y => close x0 x14 y x13) ?_)
  refine (View.ld_unit_zero (Val := Elt Ideal) (S := S1x512x2048) (e := .f32) (off := ![0,0,0]) zeros3 _ _).trans ?_
  exact (View.canon_unit_zero (Val := Elt Ideal) (S := S1x512x2048) (e := .f32) zeros3 _ _).trans (chunk_eq acc hx x6 x7 x8 x9 x10 x11 x12)

/-- The three stores into the scratch, read back. -/
def filled (x0 : Vec Ideal S1x512x2048 .f32) (x1 x2 : Vec Ideal S1x16x2048 .f32) (x3 : Vec Ideal S1x2048 .f32) (x4 x5 : Vec Ideal S1x1x2048 .f32)
    (p q : BitVec 1) : Vec Ideal S544x2048 .bf16 :=
  View.canon (Val := Elt Ideal) (e := .bf16)
    [⟨Rect.unit (s := S544x2048) ![528, 0] ![16, 2048] inb_S544x2048_S16x2048_528_0,
        k0_pay10 k0_pay4 q (k0_pay7 x2) (k0_pay8 x3) (k0_pay9 x2) (Scalar.ofBits .f32 0x358637BD#32) x4 x5⟩,
      ⟨Rect.unit (s := S544x2048) ![0, 0] ![16, 2048] inb_S544x2048_S16x2048_0_0, k0_pay6 k0_pay4 p (k0_pay5 x1) x3 x4 x5⟩,
      ⟨Rect.unit (s := S544x2048) ![16, 0] ![512, 2048] inb_S544x2048_S512x2048_16_0, k0_pay3 x0 x3 x4 x5⟩]

theorem rows_before (x0 x1 x2 x3 x4 x5 p q) (y : S544x2048.Idx) (r : Fin 16) (d : Fin 2048) (h0 : (y 0).val = r.val) (h1 : (y 1).val = d.val) :
    rows x0 x1 x2 x3 x4 x5 p q y = if p = 1#1 then norm (fun e => x1 (ix3 0 r e)) (fun e => x3 (ix2 0 e)) (fun e => x4 (ix3 0 0 e)) (fun e => x5 (ix3 0 0 e)) d else 0 := by
  have e1 : y 1 = d := Fin.ext h1
  have e0 : (⟨(y 0).val % 16, Nat.mod_lt _ (by decide)⟩ : Fin 16) = r := Fin.ext (by have := r.isLt; show (y 0).val % 16 = _; omega)
  unfold rows
  rw [if_pos (by have := r.isLt; omega), e0, e1]

theorem rows_main (x0 x1 x2 x3 x4 x5 p q) (y : S544x2048.Idx) (r : Fin 512) (d : Fin 2048) (h0 : (y 0).val = 16 + r.val) (h1 : (y 1).val = d.val) :
    rows x0 x1 x2 x3 x4 x5 p q y = norm (fun e => x0 (ix3 0 r e)) (fun e => x3 (ix2 0 e)) (fun e => x4 (ix3 0 0 e)) (fun e => x5 (ix3 0 0 e)) d := by
  have e1 : y 1 = d := Fin.ext h1
  have e0 : (⟨((y 0).val - 16) % 512, Nat.mod_lt _ (by decide)⟩ : Fin 512) = r := Fin.ext (by have := r.isLt; show ((y 0).val - 16) % 512 = _; omega)
  unfold rows
  rw [if_neg (by omega), if_pos (by have := r.isLt; omega), e0, e1]

theorem rows_after (x0 x1 x2 x3 x4 x5 p q) (y : S544x2048.Idx) (r : Fin 16) (d : Fin 2048) (h0 : (y 0).val = 528 + r.val) (h1 : (y 1).val = d.val) :
    rows x0 x1 x2 x3 x4 x5 p q y = if q = 1#1 then norm (fun e => x2 (ix3 0 r e)) (fun e => x3 (ix2 0 e)) (fun e => x4 (ix3 0 0 e)) (fun e => x5 (ix3 0 0 e)) d else 0 := by
  have e1 : y 1 = d := Fin.ext h1
  have e0 : (⟨(y 0).val % 16, Nat.mod_lt _ (by decide)⟩ : Fin 16) = r := Fin.ext (by have := r.isLt; show (y 0).val % 16 = _; omega)
  unfold rows
  rw [if_neg (by omega), if_neg (by omega), e0, e1]

theorem filled_eq (x0 : Vec Ideal S1x512x2048 .f32) (x1 x2 : Vec Ideal S1x16x2048 .f32) (x3 : Vec Ideal S1x2048 .f32) (x4 x5 : Vec Ideal S1x1x2048 .f32)
    (p q : BitVec 1) : filled x0 x1 x2 x3 x4 x5 p q = rows x0 x1 x2 x3 x4 x5 p q := by
  funext y
  refine View.canon_apply_of_pieces (Val := Elt Ideal) (e := .bf16) (rows x0 x1 x2 x3 x4 x5 p q) _ ?_ y ?_
  · simp only [List.forall_mem_cons, List.not_mem_nil, false_imp_iff, implies_true, and_true]
    refine ⟨fun x => ?_, fun x => ?_, fun x => ?_⟩
    · show k0_pay10 k0_pay4 q (k0_pay7 x2) (k0_pay8 x3) (k0_pay9 x2) (Scalar.ofBits .f32 0x358637BD#32) x4 x5 x = _
      have e : x = ix2 (x 0) (x 1) := (ix2_eta x).symm
      refine Eq.trans ((congrArg _ e).trans (after_apply q x2 x3 x4 x5 (x 0) (x 1))) (rows_after x0 x1 x2 x3 x4 x5 p q _ (x 0) (x 1) ?_ ?_).symm
      · exact congrArg (528 + ·) (Nat.one_mul _)
      · exact (Nat.zero_add _).trans (Nat.one_mul _)
    · show k0_pay6 k0_pay4 p (k0_pay5 x1) x3 x4 x5 x = _
      have e : x = ix2 (x 0) (x 1) := (ix2_eta x).symm
      refine Eq.trans ((congrArg _ e).trans (before_apply p x1 x3 x4 x5 (x 0) (x 1))) (rows_before x0 x1 x2 x3 x4 x5 p q _ (x 0) (x 1) ?_ ?_).symm
      · exact (Nat.zero_add _).trans (Nat.one_mul _)
      · exact (Nat.zero_add _).trans (Nat.one_mul _)
    · show k0_pay3 x0 x3 x4 x5 x = _
      have e : x = ix2 (x 0) (x 1) := (ix2_eta x).symm
      refine Eq.trans ((congrArg _ e).trans (main_apply x0 x3 x4 x5 (x 0) (x 1))) (rows_main x0 x1 x2 x3 x4 x5 p q _ (x 0) (x 1) ?_ ?_).symm
      · exact congrArg (16 + ·) (Nat.one_mul _)
      · exact (Nat.zero_add _).trans (Nat.one_mul _)
  · have h0 : (y 0).val < 544 := (y 0).isLt
    have h1 : (y 1).val < 2048 := (y 1).isLt
    rcases (by omega : 528 ≤ (y 0).val ∨ (y 0).val < 16 ∨ 16 ≤ (y 0).val ∧ (y 0).val < 528) with h | h | h
    · refine ⟨_, .head _, ?_⟩
      rw [Rect.mem_set_unit]
      intro a
      fin_cases a
      · exact ⟨h, by show (y 0).val < 528 + 16; omega⟩
      · exact ⟨Nat.zero_le _, by show (y 1).val < 0 + 2048; omega⟩
    · refine ⟨_, .tail _ (.head _), ?_⟩
      rw [Rect.mem_set_unit]
      intro a
      fin_cases a
      · exact ⟨Nat.zero_le _, by show (y 0).val < 0 + 16; omega⟩
      · exact ⟨Nat.zero_le _, by show (y 1).val < 0 + 2048; omega⟩
    · refine ⟨_, .tail _ (.tail _ (.head _)), ?_⟩
      rw [Rect.mem_set_unit]
      intro a
      fin_cases a
      · exact ⟨h.1, by show (y 0).val < 16 + 512; omega⟩
      · exact ⟨Nat.zero_le _, by show (y 1).val < 0 + 2048; omega⟩

/-- There are rows before the tile. -/
def hasBefore (t : Fin cfg0.N) : BitVec 1 := Scalar.cmpi .sgt (BitVec.ofNat 32 (grid0.coords t 1).val) 0#32
/-- There are rows after the tile. -/
def hasAfter (t : Fin cfg0.N) : BitVec 1 := Scalar.cmpi .slt (BitVec.ofNat 32 (grid0.coords t 1).val) 15#32

/-- The rows in the scratch that a tile's first point leaves. -/
def rowsAt (c : Dev nD) (t : Fin cfg0.N) : Vec Ideal S544x2048 .bf16 :=
  rows (iblk m c 0 t) (iblk m c 1 t) (iblk m c 2 t) (iblk m c 3 t) (iblk m c 4 t) (iblk m c 5 t) (hasBefore t) (hasAfter t)

set_option maxHeartbeats 1600000 in
theorem out_A (c : Dev nD) (t : Fin cfg0.N) (h0 : t.val % 11 = 0) (h1 : ¬t.val % 11 = 10) :
    (outsAt0 m c t.val t.isLt).1 = step (k0_pay11 (F := Ideal)) (rowsAt m c t) (iblk m c 6 t) (iblk m c 7 t) (iblk m c 8 t) (iblk m c 9 t) (iblk m c 10 t) (iblk m c 11 t) (iblk m c 12 t) := by
  rw [outsAt0_A m c t h0 h1]
  dsimp only
  unfold out0_A_15
  rw [View.read_writes_eq_canon _ _ _ (cover0_A_15 c (grid0.coords t) _ _ _ _ _ _ _ _ _ _ _ _ _ _ _ _ _ _ _ _ _ _ _ _ _ _ _ _ _ _ _ _ _ _ _ _ _ _ _ _ _ _ _ _ _ _ _ _ _ _ _)]
  unfold kernelRun0_A rowsAt
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (Memref.isWhole_whole _).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  simp only [View.readCov_eq_canon', View.ld_unit_zero (Val := Elt Ideal) (S := S544x2048) (e := .bf16) (off := ![0,0]) zeros2, View.ld_unit_zero (Val := Elt Ideal) (S := S1x2048x512) (e := .bf16) (off := ![0,0,0]) zeros3, View.ld_unit_zero (Val := Elt Ideal) (S := S1x512x2048) (e := .f32) (off := ![0,0,0]) zeros3, View.ld_unit_zero (Val := Elt Ideal) (S := S1x512x2048) (e := .bf16) (off := ![0,0,0]) zeros3, View.ld_unit_zero (Val := Elt Ideal) (S := S1x16x2048) (e := .f32) (off := ![0,0,0]) zeros3, View.ld_unit_zero (Val := Elt Ideal) (S := S1x2048) (e := .f32) (off := ![0,0]) zeros2, View.ld_unit_zero (Val := Elt Ideal) (S := S1x1x2048) (e := .f32) (off := ![0,0,0]) zeros3]
  refine (View.canon_cons_unit_zero (Val := Elt Ideal) (S := S1x512x2048) (e := .f32) zeros3 _ _ _).trans ?_
  refine Eq.trans ?_ (chunk_eq (k0_pay11 (F := Ideal)) (rows x0 x1 x2 x3 x4 x5 (hasBefore t) (hasAfter t)) x6 x7 x8 x9 x10 x11 x12)
  have hR : (fun j => filled x0 x1 x2 x3 x4 x5 (hasBefore t) (hasAfter t) ((Rect.unit (s := S544x2048) ![0, 0] ![544, 2048] inb_S544x2048_S544x2048_0_0).idx j))
      = rows x0 x1 x2 x3 x4 x5 (hasBefore t) (hasAfter t) := by
    rw [filled_eq]
    exact View.ld_unit_zero (Val := Elt Ideal) (S := S544x2048) (e := .bf16) (off := ![0,0]) zeros2 _ _
  have hA : (fun j => View.canon (Val := Elt Ideal) (e := .f32) [⟨Rect.unit (s := S1x512x2048) ![0, 0, 0] ![1, 512, 2048] inb_S1x512x2048_S1x512x2048_0_0_0, k0_pay11 (F := Ideal)⟩]
      ((Rect.unit (s := S1x512x2048) ![0, 0, 0] ![1, 512, 2048] inb_S1x512x2048_S1x512x2048_0_0_0).idx j)) = k0_pay11 (F := Ideal) :=
    (View.ld_unit_zero (Val := Elt Ideal) (S := S1x512x2048) (e := .f32) (off := ![0,0,0]) zeros3 _ _).trans
      (View.canon_unit_zero (Val := Elt Ideal) (S := S1x512x2048) (e := .f32) zeros3 _ _)
  refine Eq.trans ?_ (congrArg₂ (fun a h => chunk a h x6 x7 x8 x9 x10 x11 x12) hA hR)
  rfl

set_option maxHeartbeats 1600000 in
theorem rows_A (c : Dev nD) (t : Fin cfg0.N) (h0 : t.val % 11 = 0) (h1 : ¬t.val % 11 = 10) :
    (outsAt0 m c t.val t.isLt).2 = rowsAt m c t := by
  rw [outsAt0_A m c t h0 h1]
  dsimp only
  unfold sout0_A_0
  rw [View.read_writes_eq_canon _ _ _ (scover0_A_0 c (grid0.coords t) _ _ _ _ _ _ _ _ _ _ _ _ _ _ _ _ _ _ _ _ _ _ _ _ _ _ _ _ _ _ _ _ _ _ _ _ _ _ _ _ _ _ _ _ _ _ _ _ _ _ _)]
  unfold kernelRun0_A rowsAt
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (Memref.isWhole_whole _).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  simp only [View.ld_unit_zero (Val := Elt Ideal) (S := S544x2048) (e := .bf16) (off := ![0,0]) zeros2, View.ld_unit_zero (Val := Elt Ideal) (S := S1x2048x512) (e := .bf16) (off := ![0,0,0]) zeros3, View.ld_unit_zero (Val := Elt Ideal) (S := S1x512x2048) (e := .f32) (off := ![0,0,0]) zeros3, View.ld_unit_zero (Val := Elt Ideal) (S := S1x512x2048) (e := .bf16) (off := ![0,0,0]) zeros3, View.ld_unit_zero (Val := Elt Ideal) (S := S1x16x2048) (e := .f32) (off := ![0,0,0]) zeros3, View.ld_unit_zero (Val := Elt Ideal) (S := S1x2048) (e := .f32) (off := ![0,0]) zeros2, View.ld_unit_zero (Val := Elt Ideal) (S := S1x1x2048) (e := .f32) (off := ![0,0,0]) zeros3]
  exact filled_eq x0 x1 x2 x3 x4 x5 (hasBefore t) (hasAfter t)

end Cert.FfnBlock
end
-- ==== Proof.FfnKernel.lean ====
module

public import proofs.«01_k».proof.Proof.FfnBlock
public import Idealize.ShloMosaic.Lib.Pipeline.Value
public import Idealize.ShloMosaic.Lib.StableHlo.Run

/-! The feed-forward call's result array after the run, as one function of the argument arrays. -/

@[expose] public section

set_option maxRecDepth 16384

noncomputable section

namespace Cert.FfnKernel

open Cert.FfnIdeal Cert.FfnIdeal.Gen Idealize.ShloMosaic Idealize.ShloMosaic.TcCoe Idealize.SL.Sem
open Cert.FfnPieces Cert.FfnBlock
open Idealize.ShloMosaic.Pipeline (Dat)

/-- The normalised rows of a batch with sixteen zero rows before and after them. -/
def ext (x : Vec Ideal S2x8192x2048 .f32) (gn : Vec Ideal S2048 .f32) (sc sh : Vec Ideal S2x2048 .f32) (b : Fin 2) (k : ℕ) (d : Fin 2048) : EReal :=
  if h : 16 ≤ k ∧ k < 8208 then
    norm (fun e => x (ix3 b (⟨k - 16, by omega⟩ : Fin 8192) e)) (fun e => gn (ix1 e)) (fun e => sc (ix2 b e)) (fun e => sh (ix2 b e)) d
  else 0

/-- The up-projection and the convolution of a row, at one of the two halves' channels. -/
def mixed (x : Vec Ideal S2x8192x2048 .f32) (gn : Vec Ideal S2048 .f32) (sc sh : Vec Ideal S2x2048 .f32) (w : Vec Ideal S2x2048x11264 .bf16)
    (cw : Vec Ideal S3x11264 .f32) (cb : Vec Ideal S11264 .f32) (b : Fin 2) (n : ℕ) (f : Fin 11264) : EReal :=
  cw (ix2 0 f) * (∑ d, ext x gn sc sh b (n + 15) d * w (ix3 1 d f)) + cw (ix2 1 f) * (∑ d, ext x gn sc sh b (n + 16) d * w (ix3 1 d f))
    + cw (ix2 2 f) * (∑ d, ext x gn sc sh b (n + 17) d * w (ix3 1 d f)) + cb (ix1 f)

/-- The channel of the first half, and its partner in the second. -/
def first (f : Fin 5632) : Fin 11264 := ⟨f.val, by have := f.isLt; omega⟩
def second (f : Fin 5632) : Fin 11264 := ⟨5632 + f.val, by have := f.isLt; omega⟩

/-- The gated activation of a row and a channel. -/
def active (x : Vec Ideal S2x8192x2048 .f32) (gn : Vec Ideal S2048 .f32) (sc sh : Vec Ideal S2x2048 .f32) (w : Vec Ideal S2x2048x11264 .bf16)
    (cw : Vec Ideal S3x11264 .f32) (cb : Vec Ideal S11264 .f32) (b : Fin 2) (n : ℕ) (f : Fin 5632) : EReal :=
  gated (mixed x gn sc sh w cw cb b n (first f)) (mixed x gn sc sh w cw cb b n (second f))

/-- The down-projection of a row. -/
def down (x : Vec Ideal S2x8192x2048 .f32) (gn : Vec Ideal S2048 .f32) (sc sh : Vec Ideal S2x2048 .f32) (w : Vec Ideal S2x2048x11264 .bf16)
    (cw : Vec Ideal S3x11264 .f32) (cb : Vec Ideal S11264 .f32) (wd : Vec Ideal S2x5632x2048 .bf16) (b : Fin 2) (n : ℕ) (d : Fin 2048) : EReal :=
  ∑ f : Fin 5632, active x gn sc sh w cw cb b n f * wd (ix3 1 f d)

/-- The result as the kernel computes it. -/
def result (x : Vec Ideal S2x8192x2048 .f32) (gn : Vec Ideal S2048 .f32) (sc sh : Vec Ideal S2x2048 .f32) (w : Vec Ideal S2x2048x11264 .bf16)
    (cw : Vec Ideal S3x11264 .f32) (cb : Vec Ideal S11264 .f32) (wd : Vec Ideal S2x5632x2048 .bf16) (g3 : Vec Ideal S2048 .f32) (gate : Vec Ideal S2x2048 .f32)
    (b : Fin 2) (n : Fin 8192) (d : Fin 2048) : EReal :=
  x (ix3 b n d) + gate (ix2 b d) * rms (down x gn sc sh w cw cb wd b n.val) (fun e => g3 (ix1 e)) d

/-- Channel `l` of chunk `j`. -/
def chan (j : ℕ) (l : Fin 512) : Fin 5632 := ⟨(j * 512 + l.val) % 5632, Nat.mod_lt _ (by decide)⟩

/-- A sum over all channels, chunk by chunk. -/
theorem sum_chunks (g : Fin 5632 → EReal) : ∑ j ∈ Finset.range 11, ∑ l : Fin 512, g (chan j l) = ∑ f, g f := by
  rw [Finset.sum_range (fun j => ∑ l : Fin 512, g (chan j l)), ← Equiv.sum_comp (finProdFinEquiv (m := 11) (n := 512)) g, Fintype.sum_prod_type]
  refine Finset.sum_congr rfl fun j _ => Finset.sum_congr rfl fun l _ => congrArg g (Fin.ext ?_)
  have := j.isLt
  have := l.isLt
  show (j.val * 512 + l.val) % 5632 = l.val + 512 * j.val
  omega

variable (m : (ℓ : Loc nD τ sig) → Buf (Elt Ideal) ℓ)

theorem lt_N (t : Fin cfg0.N) : t.val < 352 := t.isLt

def batchAt (t : Fin cfg0.N) : Fin 2 := ⟨t.val / 176, by have := lt_N t; omega⟩
def tileAt (t : Fin cfg0.N) : ℕ := t.val / 11 % 16
def chunkAt (t : Fin cfg0.N) : ℕ := t.val % 11

theorem before_eq : ∀ t : Fin cfg0.N, hasBefore t = if t.val / 11 % 16 = 0 then 0#1 else 1#1 := by decide +kernel
theorem after_eq : ∀ t : Fin cfg0.N, hasAfter t = if t.val / 11 % 16 = 15 then 0#1 else 1#1 := by decide +kernel

theorem index_0 : ∀ t : Fin grid0.N, win0_0.index t = ![t.val / 176, t.val / 11 % 16, 0] := by decide +kernel
theorem index_1 : ∀ t : Fin grid0.N, win0_1.index t = ![t.val / 176, t.val / 11 % 16 * 32 - 1, 0] := by decide +kernel
theorem index_2 : ∀ t : Fin grid0.N, win0_2.index t = ![t.val / 176, min ((t.val / 11 % 16 + 1) * 32) 511, 0] := by decide +kernel
theorem index_3 : ∀ t : Fin grid0.N, win0_3.index t = ![0, 0] := by decide +kernel
theorem index_4 : ∀ t : Fin grid0.N, win0_4.index t = ![t.val / 176, 0, 0] := by decide +kernel
theorem index_5 : ∀ t : Fin grid0.N, win0_5.index t = ![t.val / 176, 0, 0] := by decide +kernel
theorem index_6 : ∀ t : Fin grid0.N, win0_6.index t = ![1, 0, t.val % 11] := by decide +kernel
theorem index_7 : ∀ t : Fin grid0.N, win0_7.index t = ![1, 0, 11 + t.val % 11] := by decide +kernel
theorem index_8 : ∀ t : Fin grid0.N, win0_8.index t = ![0, t.val % 11] := by decide +kernel
theorem index_9 : ∀ t : Fin grid0.N, win0_9.index t = ![0, 11 + t.val % 11] := by decide +kernel
theorem index_10 : ∀ t : Fin grid0.N, win0_10.index t = ![0, t.val % 11] := by decide +kernel
theorem index_11 : ∀ t : Fin grid0.N, win0_11.index t = ![0, 11 + t.val % 11] := by decide +kernel
theorem index_12 : ∀ t : Fin grid0.N, win0_12.index t = ![1, t.val % 11, 0] := by decide +kernel
theorem index_13 : ∀ t : Fin grid0.N, win0_13.index t = ![0, 0] := by decide +kernel
theorem index_14 : ∀ t : Fin grid0.N, win0_14.index t = ![t.val / 176, 0, 0] := by decide +kernel
theorem index_15 : ∀ t : Fin grid0.N, win0_15.index t = ![t.val / 176, t.val / 11 % 16, 0] := by decide +kernel

theorem V_v0 (c : Dev nD) : V m c main_v0 = shapeCast S1x11264 (m ((c : Thread nD τ).loc main_arg6)) shapeCasts_S11264_S1x11264 := by
  show StableHlo.after hostOps0 _ _ = _
  after_results
  rfl
theorem V_v1 (c : Dev nD) : V m c main_v1 = shapeCast S1x2048 (m ((c : Thread nD τ).loc main_arg1)) shapeCasts_S2048_S1x2048 := by
  show StableHlo.after hostOps0 _ _ = _
  after_results
  rfl
theorem V_v2 (c : Dev nD) : V m c main_v2 = shapeCast S2x1x2048 (m ((c : Thread nD τ).loc main_arg2)) shapeCasts_S2x2048_S2x1x2048 := by
  show StableHlo.after hostOps0 _ _ = _
  after_results
  rfl
theorem V_v3 (c : Dev nD) : V m c main_v3 = shapeCast S2x1x2048 (m ((c : Thread nD τ).loc main_arg3)) shapeCasts_S2x2048_S2x1x2048 := by
  show StableHlo.after hostOps0 _ _ = _
  after_results
  rfl
theorem V_v4 (c : Dev nD) : V m c main_v4 = shapeCast S1x2048 (m ((c : Thread nD τ).loc main_arg8)) shapeCasts_S2048_S1x2048 := by
  show StableHlo.after hostOps0 _ _ = _
  after_results
  rfl
theorem V_v5 (c : Dev nD) : V m c main_v5 = shapeCast S2x1x2048 (m ((c : Thread nD τ).loc main_arg9)) shapeCasts_S2x2048_S2x1x2048 := by
  show StableHlo.after hostOps0 _ _ = _
  after_results
  rfl

/-- A row of the tile, of the sixteen before it and of the sixteen after it. -/
def mainRow (t : Fin cfg0.N) (r : Fin 512) : Fin 8192 := ⟨t.val / 11 % 16 * 512 + r.val, by have := r.isLt; omega⟩
def beforeRow (t : Fin cfg0.N) (r : Fin 16) : Fin 8192 := ⟨(t.val / 11 % 16 * 32 - 1) * 16 + r.val, by have := r.isLt; omega⟩
def afterRow (t : Fin cfg0.N) (r : Fin 16) : Fin 8192 := ⟨min ((t.val / 11 % 16 + 1) * 32) 511 * 16 + r.val, by have := r.isLt; omega⟩

theorem read0 (c : Dev nD) (t : Fin cfg0.N) (r : Fin 512) (d : Fin 2048) :
    iblk m c 0 t (ix3 (0 : Fin 1) r d) = m ((c : Thread nD τ).loc main_arg0) (ix3 (batchAt t) (mainRow t r) d) := by
  have e := index_0 t
  have hN := lt_N t
  have h : ((cfg0.win 0).blk t).view.emb (ix3 (0 : Fin 1) r d) = (ix3 (batchAt t) (mainRow t r) d) := by
    refine funext fun a => Fin.ext ?_
    show win0_0.index t a * win0_0.size a + 1 * ((ix3 (0 : Fin 1) r d) a).val = _
    rw [e]
    fin_cases a
    · show (t.val / 176) * 1 + 1 * 0 = t.val / 176; omega
    · show (t.val / 11 % 16) * 512 + 1 * r.val = t.val / 11 % 16 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (r : Fin 16) (d : Fin 2048) :
    iblk m c 1 t (ix3 (0 : Fin 1) r d) = m ((c : Thread nD τ).loc main_arg0) (ix3 (batchAt t) (beforeRow t r) d) := by
  have e := index_1 t
  have hN := lt_N t
  have h : ((cfg0.win 1).blk t).view.emb (ix3 (0 : Fin 1) r d) = (ix3 (batchAt t) (beforeRow t r) d) := by
    refine funext fun a => Fin.ext ?_
    show win0_1.index t a * win0_1.size a + 1 * ((ix3 (0 : Fin 1) r d) a).val = _
    rw [e]
    fin_cases a
    · show (t.val / 176) * 1 + 1 * 0 = t.val / 176; omega
    · show (t.val / 11 % 16 * 32 - 1) * 16 + 1 * r.val = (t.val / 11 % 16 * 32 - 1) * 16 + r.val; omega
    · show (0) * 2048 + 1 * d.val = d.val; omega
  show V m c main_arg0 (((cfg0.win 1).blk t).view.emb (ix3 (0 : Fin 1) r d)) = _
  rw [h, V_main_arg0]

theorem read2 (c : Dev nD) (t : Fin cfg0.N) (r : Fin 16) (d : Fin 2048) :
    iblk m c 2 t (ix3 (0 : Fin 1) r d) = m ((c : Thread nD τ).loc main_arg0) (ix3 (batchAt t) (afterRow t r) d) := by
  have e := index_2 t
  have hN := lt_N t
  have h : ((cfg0.win 2).blk t).view.emb (ix3 (0 : Fin 1) r d) = (ix3 (batchAt t) (afterRow t r) d) := by
    refine funext fun a => Fin.ext ?_
    show win0_2.index t a * win0_2.size a + 1 * ((ix3 (0 : Fin 1) r d) a).val = _
    rw [e]
    fin_cases a
    · show (t.val / 176) * 1 + 1 * 0 = t.val / 176; omega
    · show (min ((t.val / 11 % 16 + 1) * 32) 511) * 16 + 1 * r.val = min ((t.val / 11 % 16 + 1) * 32) 511 * 16 + r.val; omega
    · show (0) * 2048 + 1 * d.val = d.val; omega
  show V m c main_arg0 (((cfg0.win 2).blk t).view.emb (ix3 (0 : Fin 1) r d)) = _
  rw [h, V_main_arg0]

theorem read3 (c : Dev nD) (t : Fin cfg0.N) (d : Fin 2048) :
    iblk m c 3 t (ix2 (0 : Fin 1) d) = m ((c : Thread nD τ).loc main_arg1) (ix1 d) := by
  have e := index_3 t
  have hN := lt_N t
  have h : ((cfg0.win 3).blk t).view.emb (ix2 (0 : Fin 1) d) = (ix2 (0 : Fin 1) d) := by
    refine funext fun a => Fin.ext ?_
    show win0_3.index t a * win0_3.size a + 1 * ((ix2 (0 : Fin 1) d) a).val = _
    rw [e]
    fin_cases a
    · show (0) * 1 + 1 * 0 = 0; omega
    · show (0) * 2048 + 1 * d.val = d.val; omega
  show V m c main_v1 (((cfg0.win 3).blk t).view.emb (ix2 (0 : Fin 1) d)) = _
  rw [h, V_v1, shapeCast_apply _ _ _ (ix1 d) (by rw [Shape.rowMajor_val_one, Shape.rowMajor_val_two]; show d.val = 0 * 2048 + d.val; omega)]

theorem read4 (c : Dev nD) (t : Fin cfg0.N) (d : Fin 2048) :
    iblk m c 4 t (ix3 (0 : Fin 1) (0 : Fin 1) d) = m ((c : Thread nD τ).loc main_arg2) (ix2 (batchAt t) d) := by
  have e := index_4 t
  have hN := lt_N t
  have h : ((cfg0.win 4).blk t).view.emb (ix3 (0 : Fin 1) (0 : Fin 1) d) = (ix3 (batchAt t) (0 : Fin 1) d) := by
    refine funext fun a => Fin.ext ?_
    show win0_4.index t a * win0_4.size a + 1 * ((ix3 (0 : Fin 1) (0 : Fin 1) d) a).val = _
    rw [e]
    fin_cases a
    · show (t.val / 176) * 1 + 1 * 0 = t.val / 176; omega
    · show (0) * 1 + 1 * 0 = 0; omega
    · show (0) * 2048 + 1 * d.val = d.val; omega
  show V m c main_v2 (((cfg0.win 4).blk t).view.emb (ix3 (0 : Fin 1) (0 : Fin 1) d)) = _
  rw [h, V_v2, shapeCast_apply _ _ _ (ix2 (batchAt t) d) (by rw [Shape.rowMajor_val_two, Shape.rowMajor_val_three]; show t.val / 176 * 2048 + d.val = (t.val / 176 * 1 + 0) * 2048 + d.val; omega)]

theorem read5 (c : Dev nD) (t : Fin cfg0.N) (d : Fin 2048) :
    iblk m c 5 t (ix3 (0 : Fin 1) (0 : Fin 1) d) = m ((c : Thread nD τ).loc main_arg3) (ix2 (batchAt t) d) := by
  have e := index_5 t
  have hN := lt_N t
  have h : ((cfg0.win 5).blk t).view.emb (ix3 (0 : Fin 1) (0 : Fin 1) d) = (ix3 (batchAt t) (0 : Fin 1) d) := by
    refine funext fun a => Fin.ext ?_
    show win0_5.index t a * win0_5.size a + 1 * ((ix3 (0 : Fin 1) (0 : Fin 1) d) a).val = _
    rw [e]
    fin_cases a
    · show (t.val / 176) * 1 + 1 * 0 = t.val / 176; omega
    · show (0) * 1 + 1 * 0 = 0; omega
    · show (0) * 2048 + 1 * d.val = d.val; omega
  show V m c main_v3 (((cfg0.win 5).blk t).view.emb (ix3 (0 : Fin 1) (0 : Fin 1) d)) = _
  rw [h, V_v3, shapeCast_apply _ _ _ (ix2 (batchAt t) d) (by rw [Shape.rowMajor_val_two, Shape.rowMajor_val_three]; show t.val / 176 * 2048 + d.val = (t.val / 176 * 1 + 0) * 2048 + d.val; omega)]

theorem read6 (c : Dev nD) (t : Fin cfg0.N) (d : Fin 2048) (f : Fin 512) :
    iblk m c 6 t (ix3 (0 : Fin 1) d f) = m ((c : Thread nD τ).loc main_arg4) (ix3 (1 : Fin 2) d (first (chan (t.val % 11) f))) := by
  have e := index_6 t
  have hN := lt_N t
  have h : ((cfg0.win 6).blk t).view.emb (ix3 (0 : Fin 1) d f) = (ix3 (1 : Fin 2) d (first (chan (t.val % 11) f))) := by
    refine funext fun a => Fin.ext ?_
    show win0_6.index t a * win0_6.size a + 1 * ((ix3 (0 : Fin 1) d f) a).val = _
    rw [e]
    fin_cases a
    · show (1) * 1 + 1 * 0 = 1; omega
    · show (0) * 2048 + 1 * d.val = d.val; omega
    · show (t.val % 11) * 512 + 1 * f.val = (t.val % 11 * 512 + f.val) % 5632; omega
  show V m c main_arg4 (((cfg0.win 6).blk t).view.emb (ix3 (0 : Fin 1) d f)) = _
  rw [h, V_main_arg4]

theorem read7 (c : Dev nD) (t : Fin cfg0.N) (d : Fin 2048) (f : Fin 512) :
    iblk m c 7 t (ix3 (0 : Fin 1) d f) = m ((c : Thread nD τ).loc main_arg4) (ix3 (1 : Fin 2) d (second (chan (t.val % 11) f))) := by
  have e := index_7 t
  have hN := lt_N t
  have h : ((cfg0.win 7).blk t).view.emb (ix3 (0 : Fin 1) d f) = (ix3 (1 : Fin 2) d (second (chan (t.val % 11) f))) := by
    refine funext fun a => Fin.ext ?_
    show win0_7.index t a * win0_7.size a + 1 * ((ix3 (0 : Fin 1) d f) a).val = _
    rw [e]
    fin_cases a
    · show (1) * 1 + 1 * 0 = 1; omega
    · show (0) * 2048 + 1 * d.val = d.val; omega
    · show (11 + t.val % 11) * 512 + 1 * f.val = 5632 + (t.val % 11 * 512 + f.val) % 5632; omega
  show V m c main_arg4 (((cfg0.win 7).blk t).view.emb (ix3 (0 : Fin 1) d f)) = _
  rw [h, V_main_arg4]

theorem read8 (c : Dev nD) (t : Fin cfg0.N) (j : Fin 3) (f : Fin 512) :
    iblk m c 8 t (ix2 j f) = m ((c : Thread nD τ).loc main_arg5) (ix2 j (first (chan (t.val % 11) f))) := by
  have e := index_8 t
  have hN := lt_N t
  have h : ((cfg0.win 8).blk t).view.emb (ix2 j f) = (ix2 j (first (chan (t.val % 11) f))) := by
    refine funext fun a => Fin.ext ?_
    show win0_8.index t a * win0_8.size a + 1 * ((ix2 j f) a).val = _
    rw [e]
    fin_cases a
    · show (0) * 3 + 1 * j.val = j.val; omega
    · show (t.val % 11) * 512 + 1 * f.val = (t.val % 11 * 512 + f.val) % 5632; omega
  show V m c main_arg5 (((cfg0.win 8).blk t).view.emb (ix2 j f)) = _
  rw [h, V_main_arg5]

theorem read9 (c : Dev nD) (t : Fin cfg0.N) (j : Fin 3) (f : Fin 512) :
    iblk m c 9 t (ix2 j f) = m ((c : Thread nD τ).loc main_arg5) (ix2 j (second (chan (t.val % 11) f))) := by
  have e := index_9 t
  have hN := lt_N t
  have h : ((cfg0.win 9).blk t).view.emb (ix2 j f) = (ix2 j (second (chan (t.val % 11) f))) := by
    refine funext fun a => Fin.ext ?_
    show win0_9.index t a * win0_9.size a + 1 * ((ix2 j f) a).val = _
    rw [e]
    fin_cases a
    · show (0) * 3 + 1 * j.val = j.val; omega
    · show (11 + t.val % 11) * 512 + 1 * f.val = 5632 + (t.val % 11 * 512 + f.val) % 5632; omega
  show V m c main_arg5 (((cfg0.win 9).blk t).view.emb (ix2 j f)) = _
  rw [h, V_main_arg5]

theorem read10 (c : Dev nD) (t : Fin cfg0.N) (f : Fin 512) :
    iblk m c 10 t (ix2 (0 : Fin 1) f) = m ((c : Thread nD τ).loc main_arg6) (ix1 (first (chan (t.val % 11) f))) := by
  have e := index_10 t
  have hN := lt_N t
  have h : ((cfg0.win 10).blk t).view.emb (ix2 (0 : Fin 1) f) = (ix2 (0 : Fin 1) (first (chan (t.val % 11) f))) := by
    refine funext fun a => Fin.ext ?_
    show win0_10.index t a * win0_10.size a + 1 * ((ix2 (0 : Fin 1) f) a).val = _
    rw [e]
    fin_cases a
    · show (0) * 1 + 1 * 0 = 0; omega
    · show (t.val % 11) * 512 + 1 * f.val = (t.val % 11 * 512 + f.val) % 5632; omega
  show V m c main_v0 (((cfg0.win 10).blk t).view.emb (ix2 (0 : Fin 1) f)) = _
  rw [h, V_v0, shapeCast_apply _ _ _ (ix1 (first (chan (t.val % 11) f))) (by rw [Shape.rowMajor_val_one, Shape.rowMajor_val_two]; show (t.val % 11 * 512 + f.val) % 5632 = 0 * 11264 + (t.val % 11 * 512 + f.val) % 5632; omega)]

theorem read11 (c : Dev nD) (t : Fin cfg0.N) (f : Fin 512) :
    iblk m c 11 t (ix2 (0 : Fin 1) f) = m ((c : Thread nD τ).loc main_arg6) (ix1 (second (chan (t.val % 11) f))) := by
  have e := index_11 t
  have hN := lt_N t
  have h : ((cfg0.win 11).blk t).view.emb (ix2 (0 : Fin 1) f) = (ix2 (0 : Fin 1) (second (chan (t.val % 11) f))) := by
    refine funext fun a => Fin.ext ?_
    show win0_11.index t a * win0_11.size a + 1 * ((ix2 (0 : Fin 1) f) a).val = _
    rw [e]
    fin_cases a
    · show (0) * 1 + 1 * 0 = 0; omega
    · show (11 + t.val % 11) * 512 + 1 * f.val = 5632 + (t.val % 11 * 512 + f.val) % 5632; omega
  show V m c main_v0 (((cfg0.win 11).blk t).view.emb (ix2 (0 : Fin 1) f)) = _
  rw [h, V_v0, shapeCast_apply _ _ _ (ix1 (second (chan (t.val % 11) f))) (by rw [Shape.rowMajor_val_one, Shape.rowMajor_val_two]; show 5632 + (t.val % 11 * 512 + f.val) % 5632 = 0 * 11264 + (5632 + (t.val % 11 * 512 + f.val) % 5632); omega)]

theorem read12 (c : Dev nD) (t : Fin cfg0.N) (f : Fin 512) (d : Fin 2048) :
    iblk m c 12 t (ix3 (0 : Fin 1) f d) = m ((c : Thread nD τ).loc main_arg7) (ix3 (1 : Fin 2) (chan (t.val % 11) f) d) := by
  have e := index_12 t
  have hN := lt_N t
  have h : ((cfg0.win 12).blk t).view.emb (ix3 (0 : Fin 1) f d) = (ix3 (1 : Fin 2) (chan (t.val % 11) f) d) := by
    refine funext fun a => Fin.ext ?_
    show win0_12.index t a * win0_12.size a + 1 * ((ix3 (0 : Fin 1) f d) a).val = _
    rw [e]
    fin_cases a
    · show (1) * 1 + 1 * 0 = 1; omega
    · show (t.val % 11) * 512 + 1 * f.val = (t.val % 11 * 512 + f.val) % 5632; omega
    · show (0) * 2048 + 1 * d.val = d.val; omega
  show V m c main_arg7 (((cfg0.win 12).blk t).view.emb (ix3 (0 : Fin 1) f d)) = _
  rw [h, V_main_arg7]

theorem read13 (c : Dev nD) (t : Fin cfg0.N) (d : Fin 2048) :
    iblk m c 13 t (ix2 (0 : Fin 1) d) = m ((c : Thread nD τ).loc main_arg8) (ix1 d) := by
  have e := index_13 t
  have hN := lt_N t
  have h : ((cfg0.win 13).blk t).view.emb (ix2 (0 : Fin 1) d) = (ix2 (0 : Fin 1) d) := by
    refine funext fun a => Fin.ext ?_
    show win0_13.index t a * win0_13.size a + 1 * ((ix2 (0 : Fin 1) d) a).val = _
    rw [e]
    fin_cases a
    · show (0) * 1 + 1 * 0 = 0; omega
    · show (0) * 2048 + 1 * d.val = d.val; omega
  show V m c main_v4 (((cfg0.win 13).blk t).view.emb (ix2 (0 : Fin 1) d)) = _
  rw [h, V_v4, shapeCast_apply _ _ _ (ix1 d) (by rw [Shape.rowMajor_val_one, Shape.rowMajor_val_two]; show d.val = 0 * 2048 + d.val; omega)]

theorem read14 (c : Dev nD) (t : Fin cfg0.N) (d : Fin 2048) :
    iblk m c 14 t (ix3 (0 : Fin 1) (0 : Fin 1) d) = m ((c : Thread nD τ).loc main_arg9) (ix2 (batchAt t) d) := by
  have e := index_14 t
  have hN := lt_N t
  have h : ((cfg0.win 14).blk t).view.emb (ix3 (0 : Fin 1) (0 : Fin 1) d) = (ix3 (batchAt t) (0 : Fin 1) d) := by
    refine funext fun a => Fin.ext ?_
    show win0_14.index t a * win0_14.size a + 1 * ((ix3 (0 : Fin 1) (0 : Fin 1) d) a).val = _
    rw [e]
    fin_cases a
    · show (t.val / 176) * 1 + 1 * 0 = t.val / 176; omega
    · show (0) * 1 + 1 * 0 = 0; omega
    · show (0) * 2048 + 1 * d.val = d.val; omega
  show V m c main_v5 (((cfg0.win 14).blk t).view.emb (ix3 (0 : Fin 1) (0 : Fin 1) d)) = _
  rw [h, V_v5, shapeCast_apply _ _ _ (ix2 (batchAt t) d) (by rw [Shape.rowMajor_val_two, Shape.rowMajor_val_three]; show t.val / 176 * 2048 + d.val = (t.val / 176 * 1 + 0) * 2048 + d.val; omega)]

/-- The rows a tile's first point leaves in the scratch. -/
def scratch (c : Dev nD) (t : Fin cfg0.N) : Vec Ideal S544x2048 .bf16 := fun y =>
  ext (m ((c : Thread nD τ).loc main_arg0)) (m ((c : Thread nD τ).loc main_arg1)) (m ((c : Thread nD τ).loc main_arg2)) (m ((c : Thread nD τ).loc main_arg3)) (batchAt t) (tileAt t * 512 + (y 0).val) (y 1)

theorem scratch_eq (c : Dev nD) (t : Fin cfg0.N) : rowsAt m c t = scratch m c t := by
  funext y
  obtain ⟨s, d, rfl⟩ : ∃ (s : Fin 544) (d : Fin 2048), y = ix2 s d := ⟨y 0, y 1, (ix2_eta y).symm⟩
  have hs := s.isLt
  have hd := d.isLt
  have hN := lt_N t
  unfold rowsAt
  show _ = ext (m ((c : Thread nD τ).loc main_arg0)) (m ((c : Thread nD τ).loc main_arg1)) (m ((c : Thread nD τ).loc main_arg2)) (m ((c : Thread nD τ).loc main_arg3)) (batchAt t) (t.val / 11 % 16 * 512 + s.val) d
  unfold ext
  rcases (by omega : s.val < 16 ∨ (16 ≤ s.val ∧ s.val < 528) ∨ 528 ≤ s.val) with h | h | h
  · rw [rows_before _ _ _ _ _ _ _ _ (ix2 s d) (⟨s.val, h⟩ : Fin 16) d rfl rfl, before_eq]
    simp only [read1, read3, read4, read5]
    by_cases hi : t.val / 11 % 16 = 0
    · rw [if_pos hi, if_neg (by decide), dif_neg (by omega)]
    · rw [if_neg hi, if_pos rfl, dif_pos (by omega)]
      have e : beforeRow t (⟨s.val, h⟩ : Fin 16) = (⟨t.val / 11 % 16 * 512 + s.val - 16, by omega⟩ : Fin 8192) := Fin.ext (by
        show (t.val / 11 % 16 * 32 - 1) * 16 + s.val = t.val / 11 % 16 * 512 + s.val - 16; omega)
      rw [e]
  · rw [rows_main _ _ _ _ _ _ _ _ (ix2 s d) (⟨s.val - 16, by omega⟩ : Fin 512) d (by show s.val = 16 + (s.val - 16); omega) rfl]
    simp only [read0, read3, read4, read5]
    rw [dif_pos (by omega)]
    have e : mainRow t (⟨s.val - 16, by omega⟩ : Fin 512) = (⟨t.val / 11 % 16 * 512 + s.val - 16, by omega⟩ : Fin 8192) := Fin.ext (by
      show t.val / 11 % 16 * 512 + (s.val - 16) = t.val / 11 % 16 * 512 + s.val - 16; omega)
    rw [e]
  · rw [rows_after _ _ _ _ _ _ _ _ (ix2 s d) (⟨s.val - 528, by omega⟩ : Fin 16) d (by show s.val = 528 + (s.val - 528); omega) rfl, after_eq]
    simp only [read2, read3, read4, read5]
    by_cases hi : t.val / 11 % 16 = 15
    · rw [if_pos hi, if_neg (by decide), dif_neg (by omega)]
    · rw [if_neg hi, if_pos rfl, dif_pos (by omega)]
      have e : afterRow t (⟨s.val - 528, by omega⟩ : Fin 16) = (⟨t.val / 11 % 16 * 512 + s.val - 16, by omega⟩ : Fin 8192) := Fin.ext (by
        show min ((t.val / 11 % 16 + 1) * 32) 511 * 16 + (s.val - 528) = t.val / 11 % 16 * 512 + s.val - 16; omega)
      rw [e]

/-- A point's chunk of the activation, from the arguments. -/
theorem act_eq (c : Dev nD) (t : Fin cfg0.N) (r f : Fin 512) :
    act (scratch m c t) (iblk m c 6 t) (iblk m c 7 t) (iblk m c 8 t) (iblk m c 9 t) (iblk m c 10 t) (iblk m c 11 t) r f
      = active (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batchAt t) (tileAt t * 512 + r.val) (chan (t.val % 11) f) := by
  unfold act active
  simp only [read6, read7, read8, read9, read10, read11]
  rfl

/-- The contribution of chunk `j` to a row of the down-projection. -/
def part (c : Dev nD) (b : Fin 2) (n j : ℕ) (d : Fin 2048) : EReal :=
  ∑ f : Fin 512, active (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b n (chan j f) * (m ((c : Thread nD τ).loc main_arg7)) (ix3 1 (chan j f) d)

/-- The running sum after a point. -/
def running (c : Dev nD) (t : Fin cfg0.N) : Vec Ideal S1x512x2048 .f32 := fun y =>
  ∑ j ∈ Finset.range (t.val % 11 + 1), part m c (batchAt t) (tileAt t * 512 + (y 1).val) j (y 2)

theorem step_eq (c : Dev nD) (t : Fin cfg0.N) (acc : Vec Ideal S1x512x2048 .f32) :
    step acc (scratch m c t) (iblk m c 6 t) (iblk m c 7 t) (iblk m c 8 t) (iblk m c 9 t) (iblk m c 10 t) (iblk m c 11 t) (iblk m c 12 t)
      = fun y => acc y + part m c (batchAt t) (tileAt t * 512 + (y 1).val) (t.val % 11) (y 2) := by
  funext y
  refine congrArg (acc y + ·) (Finset.sum_congr rfl fun f _ => ?_)
  exact congrArg₂ (· * ·) (act_eq m c t (y 1) f) (read12 m c t f (y 2))

theorem step_running (c : Dev nD) (t s : Fin cfg0.N) (hs : s.val + 1 = t.val) (h0 : ¬t.val % 11 = 0) :
    step (running m c s) (scratch m c s) (iblk m c 6 t) (iblk m c 7 t) (iblk m c 8 t) (iblk m c 9 t) (iblk m c 10 t) (iblk m c 11 t) (iblk m c 12 t)
      = running m c t ∧ scratch m c s = scratch m c t := by
  have eb : batchAt s = batchAt t := Fin.ext (by show s.val / 176 = t.val / 176; omega)
  have et : tileAt s = tileAt t := by show s.val / 11 % 16 = t.val / 11 % 16; omega
  have es : scratch m c s = scratch m c t := by unfold scratch; rw [eb, et]
  refine ⟨?_, es⟩
  rw [es, step_eq]
  funext y
  unfold running
  rw [eb, et, show s.val % 11 + 1 = t.val % 11 by omega, Finset.sum_range_succ]

theorem first_state (c : Dev nD) (t : Fin cfg0.N) (h0 : t.val % 11 = 0) (h1 : ¬t.val % 11 = 10) :
    outsAt0 m c t.val t.isLt = (running m c t, scratch m c t) := by
  refine Prod.ext ?_ ((rows_A m c t h0 h1).trans (scratch_eq m c t))
  rw [out_A m c t h0 h1, scratch_eq, step_eq]
  funext y
  obtain ⟨a, r, d, rfl⟩ : ∃ (a : Fin 1) (r : Fin 512) (d : Fin 2048), y = ix3 a r d := ⟨y 0, y 1, y 2, (ix3_eta y).symm⟩
  have ha : a = (0 : Fin 1) := Fin.ext (by have := a.isLt; show a.val = 0; omega)
  subst ha
  unfold running
  rw [h0]
  refine ((congrArg (· + _) (zero_apply r d)).trans (zero_add _)).trans ?_
  show part m c (batchAt t) (tileAt t * 512 + r.val) 0 d = ∑ j ∈ Finset.range (0 + 1), part m c (batchAt t) (tileAt t * 512 + r.val) j d
  rw [zero_add, Finset.sum_range_one]

/-- What every point but a tile's last leaves: the running sum and the rows. -/
theorem state (c : Dev nD) : ∀ (n : ℕ) (h : n < cfg0.N), ¬n % 11 = 10 →
    outsAt0 m c n h = (running m c ⟨n, h⟩, scratch m c ⟨n, h⟩) := by
  intro n
  induction n with
  | zero =>
    intro h h1
    exact first_state m c ⟨0, h⟩ rfl h1
  | succ n ih =>
    intro h h1
    by_cases h0 : (n + 1) % 11 = 0
    · exact first_state m c ⟨n + 1, h⟩ h0 h1
    · have hb := out_B m c ⟨n + 1, h⟩ h0 h1
      have hp := ih (Nat.lt_of_succ_lt h) (by omega)
      have hr := step_running m c ⟨n + 1, h⟩ ⟨n, Nat.lt_of_succ_lt h⟩ rfl h0
      refine hb.trans ?_
      simp only [Nat.add_sub_cancel]
      rw [hp]
      exact Prod.ext hr.1 hr.2

/-- The whole running sum is the down-projection. -/
theorem running_last (c : Dev nD) (t : Fin cfg0.N) (h : t.val % 11 = 10) (r : Fin 512) (d : Fin 2048) :
    running m c t (ix3 0 r d) = down (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batchAt t) (tileAt t * 512 + r.val) d := by
  unfold running
  rw [h]
  exact sum_chunks (fun f => active (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batchAt t) (tileAt t * 512 + r.val) f * (m ((c : Thread nD τ).loc main_arg7)) (ix3 1 f d))

/-- The result array. -/
def arr (c : Dev nD) : Vec Ideal S2x8192x2048 .f32 := fun i =>
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2)

theorem flushed_eq (c : Dev nD) (t : Fin cfg0.N) (h : t.val % 11 = 10) :
    (dats m 0 c).flushed 15 t = ((cfg0.win 15).blk t).view.read (Elt Ideal) (arr m c) := by
  have hN := lt_N t
  have h0 : ¬t.val % 11 = 0 := by omega
  have hc := out_C m c t h0 h
  have hr := step_running m c t ⟨t.val - 1, by omega⟩ (by show t.val - 1 + 1 = t.val; omega) h0
  rw [state m c (t.val - 1) (Nat.lt_of_le_of_lt (Nat.sub_le _ _) t.isLt) (by omega)] at hc
  have hc' := hc.trans (congrArg (fun z => close (iblk m c 0 t) (iblk m c 14 t) z (iblk m c 13 t)) hr.1)
  rw [Cert.FfnIdeal.Value.flushed15, hc']
  funext x
  obtain ⟨a, r, d, rfl⟩ : ∃ (a : Fin 1) (r : Fin 512) (d : Fin 2048), x = ix3 a r d := ⟨x 0, x 1, x 2, (ix3_eta x).symm⟩
  have ha : a = (0 : Fin 1) := Fin.ext (by have := a.isLt; show a.val = 0; omega)
  subst ha
  show close _ _ _ _ (ix3 (0 : Fin 1) r d) = arr m c (((cfg0.win 15).blk t).view.emb (ix3 (0 : Fin 1) r d))
  have e := index_15 t
  have e0 : ((cfg0.win 15).blk t).view.emb (ix3 (0 : Fin 1) r d) 0 = batchAt t := by
    refine Fin.ext ?_
    show win0_15.index t 0 * win0_15.size 0 + 1 * 0 = _
    rw [e]
    show t.val / 176 * 1 + 1 * 0 = t.val / 176; omega
  have e1 : ((cfg0.win 15).blk t).view.emb (ix3 (0 : Fin 1) r d) 1 = mainRow t r := by
    refine Fin.ext ?_
    show win0_15.index t 1 * win0_15.size 1 + 1 * r.val = _
    rw [e]
    show t.val / 11 % 16 * 512 + 1 * r.val = t.val / 11 % 16 * 512 + r.val; omega
  have e2 : ((cfg0.win 15).blk t).view.emb (ix3 (0 : Fin 1) r d) 2 = d := by
    refine Fin.ext ?_
    show win0_15.index t 2 * win0_15.size 2 + 1 * d.val = _
    rw [e]
    show 0 * 2048 + 1 * d.val = d.val; omega
  unfold arr
  rw [e0, e1, e2]
  exact congrArg₂ (· + ·) (read0 m c t r d) (congrArg₂ (· * ·) (read14 m c t d)
    (congrArg₂ (fun u w => rms u w d) (funext fun e => running_last m c t h r e) (funext fun e => read13 m c t e)))

theorem mem_blk (t : Fin cfg0.N) (i : S2x8192x2048.Idx) :
    i ∈ ((cfg0.win 15).blk t).view.set ↔ t.val / 176 = (i 0).val ∧ t.val / 11 % 16 = (i 1).val / 512 := by
  show i ∈ ((View.whole main_v6).slice (win0_15.rect t)).set ↔ _
  rw [View.set_slice_whole, Rect.mem_set_unit]
  have e := index_15 t
  have h0 : (i 0).val < 2 := (i 0).isLt
  have h1 : (i 1).val < 8192 := (i 1).isLt
  have h2 : (i 2).val < 2048 := (i 2).isLt
  have key : (∀ a : Fin 3, (![t.val / 176 * 1, t.val / 11 % 16 * 512, 0 * 2048] : Fin 3 → ℕ) a ≤ (i a).val
      ∧ (i a).val < (![t.val / 176 * 1, t.val / 11 % 16 * 512, 0 * 2048] : Fin 3 → ℕ) a + (![1, 512, 2048] : Fin 3 → ℕ) a)
      ↔ t.val / 176 = (i 0).val ∧ t.val / 11 % 16 = (i 1).val / 512 := by
    constructor
    · intro h
      have k0 : t.val / 176 * 1 ≤ (i 0).val ∧ (i 0).val < t.val / 176 * 1 + 1 := h 0
      have k1 : t.val / 11 % 16 * 512 ≤ (i 1).val ∧ (i 1).val < t.val / 11 % 16 * 512 + 512 := h 1
      omega
    · intro h a
      fin_cases a
      · show t.val / 176 * 1 ≤ (i 0).val ∧ (i 0).val < t.val / 176 * 1 + 1; omega
      · show t.val / 11 % 16 * 512 ≤ (i 1).val ∧ (i 1).val < t.val / 11 % 16 * 512 + 512; omega
      · show 0 * 2048 ≤ (i 2).val ∧ (i 2).val < 0 * 2048 + 2048; omega
  rw [← key]
  refine forall_congr' fun a => ?_
  have o : win0_15.index t a * win0_15.size a = (![t.val / 176 * 1, t.val / 11 % 16 * 512, 0 * 2048] : Fin 3 → ℕ) a := by
    rw [e]; fin_cases a <;> rfl
  have z : win0_15.xsize (grid0.coords t) a = (![1, 512, 2048] : Fin 3 → ℕ) a := by fin_cases a <;> rfl
  show (win0_15.index t a * win0_15.size a ≤ (i a).val ∧ (i a).val < win0_15.index t a * win0_15.size a + win0_15.xsize (grid0.coords t) a) ↔ _
  rw [o, z]

theorem cover (i : S2x8192x2048.Idx) : ∃ t : Fin cfg0.N, (cfg0.win 15).flush t = true ∧ i ∈ ((cfg0.win 15).blk t).view.set := by
  have h0 : (i 0).val < 2 := (i 0).isLt
  have h1 : (i 1).val < 8192 := (i 1).isLt
  have hN : cfg0.N = 352 := rfl
  refine ⟨⟨(i 0).val * 176 + (i 1).val / 512 * 11 + 10, by omega⟩, (flush0_15 _).2 (by dsimp only; omega), ?_⟩
  rw [mem_blk]
  dsimp only
  omega

/-- After the run the result array holds the feed-forward block of the arguments. -/
theorem final (c : Dev nD) : (dats m 0 c).arrAt 15 cfg0.N = arr m c :=
  (dats m 0 c).arrAt_eq_of_cover 15 (arr m c) (fun t hf => flushed_eq m c t ((flush0_15 t).1 hf)) cover

end Cert.FfnKernel
end
-- ==== Proof.FfnRef.lean ====
module

public import proofs.«01_k».proof.Proof.Gen.FfnRefIdeal.Read
public import proofs.«01_k».proof.Proof.FfnKernel
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The feed-forward reference, read at an index. -/

@[expose] public section

set_option maxRecDepth 16384

noncomputable section

namespace Cert.FfnRef

open Cert.FfnRefIdeal Cert.FfnRefIdeal.Gen Cert.FfnRefIdeal.Read Idealize.ShloMosaic
open Cert.FfnPieces
open Cert.FfnKernel (ext mixed first second active down result)

theorem norm_at (x0 : FVec Ideal S2x8192x2048 .f32) (x1 : FVec Ideal S2048 .f32) (x2 x3 : FVec Ideal S2x2048 .f32) (b : Fin 2) (n : Fin 8192) (d : Fin 2048) :
    val_main_v20 (F := Ideal) x0 x1 x2 x3 (ix3 b n d)
      = norm (fun e => x0 (ix3 b n e)) (fun e => x1 (ix1 e)) (fun e => x2 (ix2 b e)) (fun e => x3 (ix2 b e)) d := by
  unfold FfnPieces.norm rms
  pointwise [val_main_v20, val_main_v19, val_main_v18, val_main_v17, val_main_v16, val_main_v15, val_main_v14, val_main_cst_2, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

theorem up_at (x0 : FVec Ideal S2x8192x2048 .f32) (x1 : FVec Ideal S2048 .f32) (x2 x3 : FVec Ideal S2x2048 .f32) (x4 : FVec Ideal S2x2048x11264 .bf16) (b : Fin 2) (n : Fin 8192) (f : Fin 11264) :
    val_main_v27 (F := Ideal) x0 x1 x2 x3 x4 (ix3 b n f)
      = ∑ d, norm (fun e => x0 (ix3 b n e)) (fun e => x1 (ix1 e)) (fun e => x2 (ix2 b e)) (fun e => x3 (ix2 b e)) d * x4 (ix3 1 d f) := by
  have hf := f.isLt
  rw [val_main_v27_apply]
  refine Finset.sum_congr rfl fun d _ => ?_
  have hd := d.isLt
  refine congrArg₂ (· * ·) (Eq.trans (congrArg _ ?_) (norm_at x0 x1 x2 x3 b n d)) ?_
  · exact funext fun a => Fin.ext (by fin_cases a <;> rfl)
  · rw [val_main_v23_apply, val_main_v22_apply, val_main_v21_apply]
    refine congrArg x4 (funext fun a => Fin.ext ?_)
    fin_cases a
    · rfl
    · show (d.val * 11264 + f.val) / 11264 % 2048 = d.val; omega
    · show (d.val * 11264 + f.val) % 11264 = f.val; omega

theorem padded_at (x0 : FVec Ideal S2x8192x2048 .f32) (x1 : FVec Ideal S2048 .f32) (x2 x3 : FVec Ideal S2x2048 .f32) (x4 : FVec Ideal S2x2048x11264 .bf16) (b : Fin 2) (n : Fin 8194) (f : Fin 11264) :
    val_main_v28 (F := Ideal) x0 x1 x2 x3 x4 (ix3 b n f) = ∑ d, ext x0 x1 x2 x3 b (n.val + 15) d * x4 (ix3 1 d f) := by
  have hn := n.isLt
  unfold val_main_v28
  by_cases h : 1 ≤ n.val ∧ n.val < 8193
  · refine (pad_apply_of_inside _ _ _ _ _ pads_S2x8192x11264_S2x8194x11264_000_110_000 h_S_ (ix3 b n f) (ix3 b (⟨n.val - 1, by omega⟩ : Fin 8192) f) ?_).trans ?_
    · intro a
      fin_cases a
      · show b.val = 0 + b.val * (0 + 1); omega
      · show n.val = 1 + (n.val - 1) * (0 + 1); omega
      · show f.val = 0 + f.val * (0 + 1); omega
    · rw [up_at]
      refine Finset.sum_congr rfl fun d _ => ?_
      unfold ext
      rw [dif_pos (by omega)]
      have e : (⟨n.val - 1, by omega⟩ : Fin 8192) = (⟨n.val + 15 - 16, by omega⟩ : Fin 8192) := Fin.ext (by show n.val - 1 = n.val + 15 - 16; omega)
      rw [e]
  · refine (pad_apply_of_not_inside _ _ _ _ _ pads_S2x8192x11264_S2x8194x11264_000_110_000 h_S_ (ix3 b n f) (1 : Fin 3) ?_).trans ?_
    · show ¬(1 ≤ n.val ∧ (n.val - 1) % (0 + 1) = 0 ∧ (n.val - 1) / (0 + 1) < 8192)
      omega
    · refine Eq.trans ?_ (Finset.sum_eq_zero fun d _ => ?_).symm
      · exact sitofp_zero (φ := .f32)
      · unfold ext
        rw [dif_neg (by omega)]
        exact zero_mul _

theorem mixed_at (x0 : FVec Ideal S2x8192x2048 .f32) (x1 : FVec Ideal S2048 .f32) (x2 x3 : FVec Ideal S2x2048 .f32) (x4 : FVec Ideal S2x2048x11264 .bf16) (x5 : FVec Ideal S3x11264 .f32) (x6 : FVec Ideal S11264 .f32) (b : Fin 2) (n : Fin 8192) (f : Fin 11264) :
    val_main_v51 (F := Ideal) x0 x1 x2 x3 x4 x5 x6 (ix3 b n f) = mixed x0 x1 x2 x3 x4 x5 x6 b n.val f := by
  have hn := n.isLt
  have hf := f.isLt
  have e0 : idx_main_v29 (ix3 b n f) = ix3 b (⟨n.val, by omega⟩ : Fin 8194) f := funext fun a => Fin.ext (by fin_cases a <;> rfl)
  have e1 : idx_main_v35 (ix3 b n f) = ix3 b (⟨1 + n.val, by omega⟩ : Fin 8194) f := funext fun a => Fin.ext (by fin_cases a <;> rfl)
  have e2 : idx_main_v42 (ix3 b n f) = ix3 b (⟨2 + n.val, by omega⟩ : Fin 8194) f := funext fun a => Fin.ext (by fin_cases a <;> rfl)
  have w0 : val_main_v33 (F := Ideal) x5 (ix3 b n f) = x5 (ix2 0 f) := by
    rw [val_main_v33_apply, val_main_v32_apply, val_main_v31_apply, val_main_v30_apply]
    refine congrArg x5 (funext fun a => Fin.ext ?_)
    fin_cases a
    · rfl
    · show f.val % 11264 = f.val; omega
  have w1 : val_main_v39 (F := Ideal) x5 (ix3 b n f) = x5 (ix2 1 f) := by
    rw [val_main_v39_apply, val_main_v38_apply, val_main_v37_apply, val_main_v36_apply]
    refine congrArg x5 (funext fun a => Fin.ext ?_)
    fin_cases a
    · rfl
    · show f.val % 11264 = f.val; omega
  have w2 : val_main_v46 (F := Ideal) x5 (ix3 b n f) = x5 (ix2 2 f) := by
    rw [val_main_v46_apply, val_main_v45_apply, val_main_v44_apply, val_main_v43_apply]
    refine congrArg x5 (funext fun a => Fin.ext ?_)
    fin_cases a
    · rfl
    · show f.val % 11264 = f.val; omega
  have w3 : val_main_v50 (F := Ideal) x6 (ix3 b n f) = x6 (ix1 f) := by
    rw [val_main_v50_apply, val_main_v49_apply]
    exact congrArg x6 (funext fun a => Fin.ext (by fin_cases a; rfl))
  rw [val_main_v51_apply, val_main_v48_apply, val_main_v41_apply, val_main_v34_apply, val_main_v40_apply, val_main_v47_apply,
    val_main_v29_apply, val_main_v35_apply, val_main_v42_apply, e0, e1, e2, padded_at, padded_at, padded_at, w0, w1, w2, w3]
  unfold mixed
  have k0 : ∀ (c : EReal) (u v w : EReal) (p q r : EReal), u * p + v * q + w * r + c = p * u + q * v + r * w + c := by
    intro c u v w p q r
    rw [mul_comm u, mul_comm v, mul_comm w]
  have a1 : 1 + n.val + 15 = n.val + 16 := by omega
  have a2 : 2 + n.val + 15 = n.val + 17 := by omega
  dsimp only
  rw [a1, a2]
  exact k0 _ _ _ _ _ _ _

theorem one_lit : Ideal.ofBits FTy.f32 0x3F800000#32 = 1 := by
  simp [Ideal.ofBits, Ideal.ieee, -EReal.coe_mul]
  norm_num

theorem active_at (x0 : FVec Ideal S2x8192x2048 .f32) (x1 : FVec Ideal S2048 .f32) (x2 x3 : FVec Ideal S2x2048 .f32) (x4 : FVec Ideal S2x2048x11264 .bf16) (x5 : FVec Ideal S3x11264 .f32) (x6 : FVec Ideal S11264 .f32) (b : Fin 2) (n : Fin 8192) (f : Fin 5632) :
    val_main_v55 (F := Ideal) x0 x1 x2 x3 x4 x5 x6 (ix3 b n f) = active x0 x1 x2 x3 x4 x5 x6 b n.val f := by
  have e0 : idx_main_v52 (ix3 b n f) = ix3 b n (first f) := funext fun a => Fin.ext (by fin_cases a <;> rfl)
  have e1 : idx_main_v53 (ix3 b n f) = ix3 b n (second f) := funext fun a => Fin.ext (by fin_cases a <;> rfl)
  have g : val_main_v53 (F := Ideal) x0 x1 x2 x3 x4 x5 x6 (ix3 b n f) = mixed x0 x1 x2 x3 x4 x5 x6 b n.val (second f) := by
    rw [val_main_v53_apply, e1, mixed_at]
  rw [val_main_v55_apply, val_main_v52_apply, e0, mixed_at, val_main_v54_apply, val_main_call1_v5_apply, val_main_call1_v4_apply, val_main_call1_cst_0_apply,
    val_main_call1_v3_apply, val_main_call1_v2_apply, val_main_call1_cst_apply, val_main_call1_v1_apply, val_main_call1_v0_apply, g]
  unfold active gated
  generalize mixed x0 x1 x2 x3 x4 x5 x6 b n.val (second f) = z
  refine congrArg (_ * ·) (congrArg (z * ·) ?_)
  show Ideal.div (Ideal.ofBits FTy.f32 0x3F800000#32) (Ideal.ofBits FTy.f32 0x3F800000#32 + Ideal.exp (-z)) = Ideal.logistic z
  rw [one_lit]
  rfl

theorem down_at (x0 : FVec Ideal S2x8192x2048 .f32) (x1 : FVec Ideal S2048 .f32) (x2 x3 : FVec Ideal S2x2048 .f32) (x4 : FVec Ideal S2x2048x11264 .bf16) (x5 : FVec Ideal S3x11264 .f32) (x6 : FVec Ideal S11264 .f32) (x7 : FVec Ideal S2x5632x2048 .bf16) (b : Fin 2) (n : Fin 8192) (d : Fin 2048) :
    val_main_v56 (F := Ideal) x0 x1 x2 x3 x4 x5 x6 x7 (ix3 b n d) = down x0 x1 x2 x3 x4 x5 x6 x7 b n.val d := by
  have hd := d.isLt
  rw [val_main_v56_apply]
  unfold down
  refine Finset.sum_congr rfl fun f _ => ?_
  have hf := f.isLt
  refine congrArg₂ (· * ·) (Eq.trans (congrArg _ ?_) (active_at x0 x1 x2 x3 x4 x5 x6 b n f)) ?_
  · exact funext fun a => Fin.ext (by fin_cases a <;> rfl)
  · rw [val_main_v26_apply, val_main_v25_apply, val_main_v24_apply]
    refine congrArg x7 (funext fun a => Fin.ext ?_)
    fin_cases a
    · rfl
    · show (f.val * 2048 + d.val) / 2048 % 5632 = f.val; omega
    · show (f.val * 2048 + d.val) % 2048 = d.val; omega

theorem result_at (x0 : FVec Ideal S2x8192x2048 .f32) (x1 : FVec Ideal S2048 .f32) (x2 x3 : FVec Ideal S2x2048 .f32) (x4 : FVec Ideal S2x2048x11264 .bf16) (x5 : FVec Ideal S3x11264 .f32) (x6 : FVec Ideal S11264 .f32) (x7 : FVec Ideal S2x5632x2048 .bf16) (x8 : FVec Ideal S2048 .f32) (x9 : FVec Ideal S2x2048 .f32)
    (b : Fin 2) (n : Fin 8192) (d : Fin 2048) :
    val_main_v73 (F := Ideal) x0 x1 x2 x3 x4 x5 x6 x7 x8 x9 (ix3 b n d) = result x0 x1 x2 x3 x4 x5 x6 x7 x8 x9 b n d := by
  unfold result rms
  simp only [← down_at x0 x1 x2 x3 x4 x5 x6 x7 b n]
  unfold val_main_v73 val_main_v72 val_main_v71 val_main_v70 val_main_v67 val_main_v66 val_main_v65 val_main_v64 val_main_v62 val_main_v60 val_main_v59 val_main_v58
  generalize val_main_v56 (F := Ideal) x0 x1 x2 x3 x4 x5 x6 x7 = y
  pointwise [val_main_v57, val_main_v69, val_main_v68, val_main_v63, val_main_cst_5, val_main_v61, val_main_cst_4, val_main_cst_3]

end Cert.FfnRef
end
-- ==== Proof.FfnClaim.lean ====
module

public import proofs.«01_k».proof.Defs
public import proofs.«01_k».proof.Proof.FfnKernel
public import proofs.«01_k».proof.Proof.FfnRef
public import proofs.«01_k».proof.Proof.Gen.Ffn.Frame
public import Idealize.ShloMosaic.Lib.Quiescent

/-! The claim about the feed-forward block: the kernel and the reference end with the same result. -/

@[expose] public section

set_option maxRecDepth 16384

noncomputable section

namespace Cert.FfnClaim

open Idealize.ShloMosaic Idealize.ShloMosaic.TcCoe Idealize.SL.Sem

/-- The kernel's and the reference's results agree on every memory. -/
theorem algebraic : Cert.algebraic_FfnIdeal_FfnRefIdeal := by
  intro m ρ m' ρ' _ hagree
  refine ⟨fun c => Cert.FfnKernel.arr m c, ?_, ?_⟩
  · exact (θ_run Cert.FfnIdeal.defs _ _).mono (fun _ h c => ⟨(h c).1.trans (Cert.FfnKernel.final m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    obtain ⟨h0, h1, h2, h3, h4, h5, h6, h7, h8, h9⟩ := hagree c
    rw [Cert.FfnRefIdeal.Read.val_main_v73_eq, h0, h1, h2, h3, h4, h5, h6, h7, h8, h9]
    funext i
    have e : i = ix3 (i 0) (i 1) (i 2) := (ix3_eta i).symm
    exact (congrArg _ e).trans (Cert.FfnRef.result_at _ _ _ _ _ _ _ _ _ _ (i 0) (i 1) (i 2))

end Cert.FfnClaim
end
-- ==== Proof.GqaBlock.lean ====
module

public import proofs.«01_k».proof.Proof.Gen.GqaIdeal.Value
public import proofs.«01_k».proof.Proof.Soft
public import Idealize.ShloMosaic.PureOps.Ideal
public import Idealize.ShloMosaic.Lib.ValueIdx
public import Idealize.ShloMosaic.Lib.Pointwise
public import Idealize.ShloMosaic.Lib.IdealHost

/-! The grouped-query attention's block: what one grid point leaves in its output block, read at an index. -/

@[expose] public section

set_option maxRecDepth 16384

noncomputable section

namespace Cert.GqaBlock

open Cert.GqaIdeal Cert.GqaIdeal.Gen Idealize.ShloMosaic Idealize.ShloMosaic.TcCoe Idealize.SL.Sem
open Cert.Soft

/-- The value stored for 128 rows of one query head, as a function of its query tile. -/
def tile (x1 x2 : Vec Ideal S1x8448x128 .bf16) (q : Vec Ideal S128x128 .bf16) : FVec Ideal S1x128x128 .bf16 :=
  k0_pay12 (k0_pay8 x1) (k0_pay9 x2) q

/-- It, read at an index. -/
theorem tile_apply (x1 x2 : Vec Ideal S1x8448x128 .bf16) (q : Vec Ideal S128x128 .bf16) (a : Fin 1) (r d : Fin 128) :
    tile x1 x2 q (ix3 a r d) = soft (fun n => ∑ l, q (ix2 r l) * x1 (ix3 0 n l)) (fun n => x2 (ix3 0 n d)) := by
  pointwise [tile, k0_pay12, k0_pay8, k0_pay9, soft, top, add_zero]
  rfl

/-- The queries of head `g` of the group, one below the other in the scratch. -/
def stacked (x0 : Vec Ideal S1x512x512 .bf16) : Vec Ideal S2048x128 .bf16 :=
  fun y => x0 (ix3 0 (⟨(y 0).val % 512, Nat.mod_lt _ (by decide)⟩ : Fin 512) (⟨((y 0).val / 512 * 128 + (y 1).val) % 512, Nat.mod_lt _ (by decide)⟩ : Fin 512))

theorem stacked_at (x0 : Vec Ideal S1x512x512 .bf16) (y : S2048x128.Idx) (g : ℕ) (hg : g < 4) (r : Fin 512) (l : Fin 512)
    (h0 : (y 0).val = g * 512 + r.val) (h1 : g * 128 + (y 1).val = l.val) : stacked x0 y = x0 (ix3 0 r l) := by
  have e0 : (⟨(y 0).val % 512, Nat.mod_lt _ (by decide)⟩ : Fin 512) = r := Fin.ext (by have := r.isLt; show (y 0).val % 512 = _; omega)
  have e1 : (⟨((y 0).val / 512 * 128 + (y 1).val) % 512, Nat.mod_lt _ (by decide)⟩ : Fin 512) = l := Fin.ext (by
    have := r.isLt
    have := l.isLt
    have : (y 0).val / 512 = g := by omega
    show ((y 0).val / 512 * 128 + (y 1).val) % 512 = l.val
    omega)
  unfold stacked
  rw [e0, e1]

theorem head0_apply (x0 : Vec Ideal S1x512x512 .bf16) (r : Fin 512) (l : Fin 128) :
    k0_pay4 x0 (ix2 r l) = x0 (ix3 0 r (⟨0 * 128 + l.val, by have := l.isLt; omega⟩ : Fin 512)) := by
  pointwise [k0_pay4, k0_pay3]
theorem head1_apply (x0 : Vec Ideal S1x512x512 .bf16) (r : Fin 512) (l : Fin 128) :
    k0_pay5 x0 (ix2 r l) = x0 (ix3 0 r (⟨1 * 128 + l.val, by have := l.isLt; omega⟩ : Fin 512)) := by
  pointwise [k0_pay5, k0_pay3]
theorem head2_apply (x0 : Vec Ideal S1x512x512 .bf16) (r : Fin 512) (l : Fin 128) :
    k0_pay6 x0 (ix2 r l) = x0 (ix3 0 r (⟨2 * 128 + l.val, by have := l.isLt; omega⟩ : Fin 512)) := by
  pointwise [k0_pay6, k0_pay3]
theorem head3_apply (x0 : Vec Ideal S1x512x512 .bf16) (r : Fin 512) (l : Fin 128) :
    k0_pay7 x0 (ix2 r l) = x0 (ix3 0 r (⟨3 * 128 + l.val, by have := l.isLt; omega⟩ : Fin 512)) := by
  pointwise [k0_pay7, k0_pay3]

/-- The four stores together leave the stacked queries. -/
theorem canon_stacked (x0 : Vec Ideal S1x512x512 .bf16) :
    View.canon (Val := Elt Ideal) (e := .bf16)
      [⟨Rect.unit (s := S2048x128) ![1536, 0] ![512, 128] inb_S2048x128_S512x128_1536_0, k0_pay7 x0⟩,
        ⟨Rect.unit (s := S2048x128) ![1024, 0] ![512, 128] inb_S2048x128_S512x128_1024_0, k0_pay6 x0⟩,
        ⟨Rect.unit (s := S2048x128) ![512, 0] ![512, 128] inb_S2048x128_S512x128_512_0, k0_pay5 x0⟩,
        ⟨Rect.unit (s := S2048x128) ![0, 0] ![512, 128] inb_S2048x128_S512x128_0_0, k0_pay4 x0⟩] = stacked x0 := by
  funext y
  refine View.canon_apply_of_pieces (Val := Elt Ideal) (e := .bf16) (stacked x0) _ ?_ y ?_
  · simp only [List.forall_mem_cons, List.not_mem_nil, false_imp_iff, implies_true, and_true]
    refine ⟨fun x => ?_, fun x => ?_, fun x => ?_, fun x => ?_⟩
    · show k0_pay7 x0 x = _
      have e : x = ix2 (x 0) (x 1) := (ix2_eta x).symm
      refine Eq.trans ((congrArg _ e).trans (head3_apply x0 (x 0) (x 1))) (stacked_at x0 _ 3 (by decide) (x 0) _ ?_ ?_).symm
      · show 1536 + 1 * (x 0).val = 3 * 512 + (x 0).val; omega
      · show 3 * 128 + (0 + 1 * (x 1).val) = 3 * 128 + (x 1).val; omega
    · show k0_pay6 x0 x = _
      have e : x = ix2 (x 0) (x 1) := (ix2_eta x).symm
      refine Eq.trans ((congrArg _ e).trans (head2_apply x0 (x 0) (x 1))) (stacked_at x0 _ 2 (by decide) (x 0) _ ?_ ?_).symm
      · show 1024 + 1 * (x 0).val = 2 * 512 + (x 0).val; omega
      · show 2 * 128 + (0 + 1 * (x 1).val) = 2 * 128 + (x 1).val; omega
    · show k0_pay5 x0 x = _
      have e : x = ix2 (x 0) (x 1) := (ix2_eta x).symm
      refine Eq.trans ((congrArg _ e).trans (head1_apply x0 (x 0) (x 1))) (stacked_at x0 _ 1 (by decide) (x 0) _ ?_ ?_).symm
      · show 512 + 1 * (x 0).val = 1 * 512 + (x 0).val; omega
      · show 1 * 128 + (0 + 1 * (x 1).val) = 1 * 128 + (x 1).val; omega
    · show k0_pay4 x0 x = _
      have e : x = ix2 (x 0) (x 1) := (ix2_eta x).symm
      refine Eq.trans ((congrArg _ e).trans (head0_apply x0 (x 0) (x 1))) (stacked_at x0 _ 0 (by decide) (x 0) _ ?_ ?_).symm
      · show 0 + 1 * (x 0).val = 0 * 512 + (x 0).val; omega
      · show 0 * 128 + (0 + 1 * (x 1).val) = 0 * 128 + (x 1).val; omega
  · have h0 : (y 0).val < 2048 := (y 0).isLt
    have h1 : (y 1).val < 128 := (y 1).isLt
    have key : ∀ (o : ℕ) (h : ∀ a, (![o, 0] : Fin 2 → ℕ) a + (![512, 128] : Fin 2 → ℕ) a ≤ S2048x128.size a), o ≤ (y 0).val → (y 0).val < o + 512 →
        y ∈ (Rect.unit (s := S2048x128) ![o, 0] ![512, 128] h).set := by
      intro o h l1 l2
      rw [Rect.mem_set_unit]
      intro a
      fin_cases a
      · exact ⟨l1, l2⟩
      · exact ⟨Nat.zero_le _, by show (y 1).val < 0 + 128; omega⟩
    rcases (by omega : (y 0).val < 512 ∨ 512 ≤ (y 0).val ∧ (y 0).val < 1024 ∨ 1024 ≤ (y 0).val ∧ (y 0).val < 1536 ∨ 1536 ≤ (y 0).val) with h | h | h | h
    · exact ⟨_, .tail _ (.tail _ (.tail _ (.head _))), key 0 inb_S2048x128_S512x128_0_0 (by omega) (by omega)⟩
    · exact ⟨_, .tail _ (.tail _ (.head _)), key 512 inb_S2048x128_S512x128_512_0 (by omega) (by omega)⟩
    · exact ⟨_, .tail _ (.head _), key 1024 inb_S2048x128_S512x128_1024_0 (by omega) (by omega)⟩
    · exact ⟨_, .head _, key 1536 inb_S2048x128_S512x128_1536_0 (by omega) (by omega)⟩

variable (m : (ℓ : Loc nD τ sig) → Buf (Elt Ideal) ℓ)

/-- The block that the body leaves, from the blocks it reads: channel `c` belongs to head `c / 128` of the group. -/
def block (x0 : Vec Ideal S1x512x512 .bf16) (x1 x2 : Vec Ideal S1x8448x128 .bf16) : FVec Ideal S1x512x512 .bf16 := fun y =>
  soft (fun n => ∑ l : Fin 128, x0 (ix3 0 (y 1) (⟨((y 2).val / 128 * 128 + l.val) % 512, Nat.mod_lt _ (by decide)⟩ : Fin 512)) * x1 (ix3 0 n l))
    (fun n => x2 (ix3 0 n (⟨(y 2).val % 128, Nat.mod_lt _ (by decide)⟩ : Fin 128)))

theorem tile_stacked (x0 : Vec Ideal S1x512x512 .bf16) (x1 x2 : Vec Ideal S1x8448x128 .bf16) (g o so gc : ℕ) (hg : g < 4) (hso : so = g * 512 + o) (hgc : gc = g * 128) (h0 h1) (x) :
    tile x1 x2 (fun j => stacked x0 ((Rect.unit (s := S2048x128) ![so, 0] ![128, 128] h0).idx j)) x
      = block x0 x1 x2 ((Rect.unit (s := S1x512x512) ![0, o, gc] ![1, 128, 128] h1).emb x) := by
  subst hso hgc
  have e : x = ix3 (x 0) (x 1) (x 2) := (ix3_eta x).symm
  have ho : o + 128 ≤ 512 := h1 1
  have hx1 : (x 1).val < 128 := (x 1).isLt
  have hx2 : (x 2).val < 128 := (x 2).isLt
  have hr : o + (x 1).val < 512 := by omega
  have e1 : (Rect.unit (s := S1x512x512) ![0, o, g * 128] ![1, 128, 128] h1).emb x 1 = ⟨o + (x 1).val, hr⟩ :=
    Fin.ext (congrArg (o + ·) (Nat.one_mul _))
  have e2 : ((Rect.unit (s := S1x512x512) ![0, o, g * 128] ![1, 128, 128] h1).emb x 2).val = g * 128 + (x 2).val :=
    congrArg (g * 128 + ·) (Nat.one_mul _)
  have e3 : (⟨((Rect.unit (s := S1x512x512) ![0, o, g * 128] ![1, 128, 128] h1).emb x 2).val % 128, Nat.mod_lt _ (by decide)⟩ : Fin 128) = x 2 :=
    Fin.ext (by show ((Rect.unit (s := S1x512x512) ![0, o, g * 128] ![1, 128, 128] h1).emb x 2).val % 128 = (x 2).val; omega)
  have q1 : ∀ l : Fin 128, stacked x0 ((Rect.unit (s := S2048x128) ![g * 512 + o, 0] ![128, 128] h0).idx (ix2 (x 1) l))
      = x0 (ix3 0 ((Rect.unit (s := S1x512x512) ![0, o, g * 128] ![1, 128, 128] h1).emb x 1) (⟨(((Rect.unit (s := S1x512x512) ![0, o, g * 128] ![1, 128, 128] h1).emb x 2).val / 128 * 128 + l.val) % 512, Nat.mod_lt _ (by decide)⟩ : Fin 512)) := by
    intro l
    have hl := l.isLt
    rw [e1]
    refine stacked_at x0 _ g hg ⟨o + (x 1).val, hr⟩ _ ?_ ?_
    · show g * 512 + o + 1 * (x 1).val = g * 512 + (o + (x 1).val); omega
    · show g * 128 + (0 + 1 * l.val) = (((Rect.unit (s := S1x512x512) ![0, o, g * 128] ![1, 128, 128] h1).emb x 2).val / 128 * 128 + l.val) % 512
      omega
  unfold block
  rw [e3]
  refine (congrArg _ e).trans ((tile_apply x1 x2 _ (x 0) (x 1) (x 2)).trans ?_)
  simp only [q1]

set_option maxHeartbeats 3200000 in
theorem outsAt_eq (c : Dev nD) (t : Fin cfg0.N) :
    outsAt0 m c t = block (iblk m c 0 t) (X0_1 m c t) (X0_2 m c t) := by
  unfold outsAt0 out0_A_3
  rw [View.read_writes_eq_canon _ _ _ (cover0_A_3 c (grid0.coords t) _ _ _ _ _ _ _ _ _ _ _ _ _)]
  unfold kernelRun0_A
  dsimp only
  sl_unfold_words
  simp only [View.readAt_eq_ld, (hs0_0 t).read_unread, (hs0_1 t).read_unread, (hs0_2 t).read_unread]
  simp only [View.readCov_eq_canon', View.ld_unit_zero (Val := Elt Ideal) (S := S1x512x512) (e := .bf16) (off := ![0,0,0]) (funext fun a => by fin_cases a <;> rfl), View.ld_unit_zero (Val := Elt Ideal) (S := S1x8448x128) (e := .bf16) (off := ![0,0,0]) (funext fun a => by fin_cases a <;> rfl)]
  generalize iblk m c 0 t = x0
  generalize X0_1 m c t = x1
  generalize X0_2 m c t = x2
  rw [canon_stacked x0]
  funext y
  refine View.canon_apply_of_pieces (Val := Elt Ideal) (e := .bf16) (block x0 x1 x2) _ ?_ y ?_
  · simp only [List.forall_mem_cons, List.not_mem_nil, false_imp_iff, implies_true, and_true]
    exact ⟨fun x => tile_stacked x0 x1 x2 3 384 1920 384 (by decide) rfl rfl _ _ x,
      fun x => tile_stacked x0 x1 x2 3 256 1792 384 (by decide) rfl rfl _ _ x,
      fun x => tile_stacked x0 x1 x2 3 128 1664 384 (by decide) rfl rfl _ _ x,
      fun x => tile_stacked x0 x1 x2 3 0 1536 384 (by decide) rfl rfl _ _ x,
      fun x => tile_stacked x0 x1 x2 2 384 1408 256 (by decide) rfl rfl _ _ x,
      fun x => tile_stacked x0 x1 x2 2 256 1280 256 (by decide) rfl rfl _ _ x,
      fun x => tile_stacked x0 x1 x2 2 128 1152 256 (by decide) rfl rfl _ _ x,
      fun x => tile_stacked x0 x1 x2 2 0 1024 256 (by decide) rfl rfl _ _ x,
      fun x => tile_stacked x0 x1 x2 1 384 896 128 (by decide) rfl rfl _ _ x,
      fun x => tile_stacked x0 x1 x2 1 256 768 128 (by decide) rfl rfl _ _ x,
      fun x => tile_stacked x0 x1 x2 1 128 640 128 (by decide) rfl rfl _ _ x,
      fun x => tile_stacked x0 x1 x2 1 0 512 128 (by decide) rfl rfl _ _ x,
      fun x => tile_stacked x0 x1 x2 0 384 384 0 (by decide) rfl rfl _ _ x,
      fun x => tile_stacked x0 x1 x2 0 256 256 0 (by decide) rfl rfl _ _ x,
      fun x => tile_stacked x0 x1 x2 0 128 128 0 (by decide) rfl rfl _ _ x,
      fun x => tile_stacked x0 x1 x2 0 0 0 0 (by decide) rfl rfl _ _ x⟩
  · have hy0 : (y 0).val < 1 := (y 0).isLt
    have hy1 : (y 1).val < 512 := (y 1).isLt
    have hy2 : (y 2).val < 512 := (y 2).isLt
    have key : ∀ (o g : ℕ) (h : ∀ a, (![0, o, g] : Fin 3 → ℕ) a + (![1, 128, 128] : Fin 3 → ℕ) a ≤ S1x512x512.size a), o ≤ (y 1).val ∧ (y 1).val < o + 128 → g ≤ (y 2).val ∧ (y 2).val < g + 128 →
        y ∈ (Rect.unit (s := S1x512x512) ![0, o, g] ![1, 128, 128] h).set := by
      intro o g h l1 l2
      rw [Rect.mem_set_unit]
      intro a
      fin_cases a
      · exact ⟨Nat.zero_le _, by show (y 0).val < 0 + 1; omega⟩
      · exact l1
      · exact l2
    have a1 : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) := by omega
    have a2 : (0 ≤ (y 2).val ∧ (y 2).val < 0 + 128) ∨ (128 ≤ (y 2).val ∧ (y 2).val < 128 + 128) ∨ (256 ≤ (y 2).val ∧ (y 2).val < 256 + 128) ∨ (384 ≤ (y 2).val ∧ (y 2).val < 384 + 128) := by omega
    rcases a2 with hg | hg | hg | hg
    · rcases a1 with hr | hr | hr | hr
      · exact ⟨_, .tail _ (.tail _ (.tail _ (.tail _ (.tail _ (.tail _ (.tail _ (.tail _ (.tail _ (.tail _ (.tail _ (.tail _ (.tail _ (.tail _ (.tail _ (.head _))))))))))))))), key 0 0 inb_S1x512x512_S1x128x128_0_0_0 hr hg⟩
      · exact ⟨_, .tail _ (.tail _ (.tail _ (.tail _ (.tail _ (.tail _ (.tail _ (.tail _ (.tail _ (.tail _ (.tail _ (.tail _ (.tail _ (.tail _ (.head _)))))))))))))), key 128 0 inb_S1x512x512_S1x128x128_0_128_0 hr hg⟩
      · exact ⟨_, .tail _ (.tail _ (.tail _ (.tail _ (.tail _ (.tail _ (.tail _ (.tail _ (.tail _ (.tail _ (.tail _ (.tail _ (.tail _ (.head _))))))))))))), key 256 0 inb_S1x512x512_S1x128x128_0_256_0 hr hg⟩
      · exact ⟨_, .tail _ (.tail _ (.tail _ (.tail _ (.tail _ (.tail _ (.tail _ (.tail _ (.tail _ (.tail _ (.tail _ (.tail _ (.head _)))))))))))), key 384 0 inb_S1x512x512_S1x128x128_0_384_0 hr hg⟩
    · rcases a1 with hr | hr | hr | hr
      · exact ⟨_, .tail _ (.tail _ (.tail _ (.tail _ (.tail _ (.tail _ (.tail _ (.tail _ (.tail _ (.tail _ (.tail _ (.head _))))))))))), key 0 128 inb_S1x512x512_S1x128x128_0_0_128 hr hg⟩
      · exact ⟨_, .tail _ (.tail _ (.tail _ (.tail _ (.tail _ (.tail _ (.tail _ (.tail _ (.tail _ (.tail _ (.head _)))))))))), key 128 128 inb_S1x512x512_S1x128x128_0_128_128 hr hg⟩
      · exact ⟨_, .tail _ (.tail _ (.tail _ (.tail _ (.tail _ (.tail _ (.tail _ (.tail _ (.tail _ (.head _))))))))), key 256 128 inb_S1x512x512_S1x128x128_0_256_128 hr hg⟩
      · exact ⟨_, .tail _ (.tail _ (.tail _ (.tail _ (.tail _ (.tail _ (.tail _ (.tail _ (.head _)))))))), key 384 128 inb_S1x512x512_S1x128x128_0_384_128 hr hg⟩
    · rcases a1 with hr | hr | hr | hr
      · exact ⟨_, .tail _ (.tail _ (.tail _ (.tail _ (.tail _ (.tail _ (.tail _ (.head _))))))), key 0 256 inb_S1x512x512_S1x128x128_0_0_256 hr hg⟩
      · exact ⟨_, .tail _ (.tail _ (.tail _ (.tail _ (.tail _ (.tail _ (.head _)))))), key 128 256 inb_S1x512x512_S1x128x128_0_128_256 hr hg⟩
      · exact ⟨_, .tail _ (.tail _ (.tail _ (.tail _ (.tail _ (.head _))))), key 256 256 inb_S1x512x512_S1x128x128_0_256_256 hr hg⟩
      · exact ⟨_, .tail _ (.tail _ (.tail _ (.tail _ (.head _)))), key 384 256 inb_S1x512x512_S1x128x128_0_384_256 hr hg⟩
    · rcases a1 with hr | hr | hr | hr
      · exact ⟨_, .tail _ (.tail _ (.tail _ (.head _))), key 0 384 inb_S1x512x512_S1x128x128_0_0_384 hr hg⟩
      · exact ⟨_, .tail _ (.tail _ (.head _)), key 128 384 inb_S1x512x512_S1x128x128_0_128_384 hr hg⟩
      · exact ⟨_, .tail _ (.head _), key 256 384 inb_S1x512x512_S1x128x128_0_256_384 hr hg⟩
      · exact ⟨_, .head _, key 384 384 inb_S1x512x512_S1x128x128_0_384_384 hr hg⟩

end Cert.GqaBlock
end
-- ==== Proof.GqaKernel.lean ====
module

public import proofs.«01_k».proof.Proof.GqaBlock
public import Idealize.ShloMosaic.Lib.Pipeline.Value
public import Idealize.ShloMosaic.Lib.StableHlo.Run

/-! The grouped-query attention's result array after the run, as one function of the argument arrays. -/

@[expose] public section

set_option maxRecDepth 16384

noncomputable section

namespace Cert.GqaKernel

open Cert.GqaIdeal Cert.GqaIdeal.Gen Idealize.ShloMosaic Idealize.ShloMosaic.TcCoe Idealize.SL.Sem
open Cert.Soft Cert.GqaBlock
open Idealize.ShloMosaic.Pipeline (Dat)

/-- Lane `l` of query head `h`, and of the key head `j`. -/
def qlane (h : Fin 8) (l : Fin 128) : Fin 1024 := ⟨h.val * 128 + l.val, by have := h.isLt; have := l.isLt; omega⟩
def klane (j : Fin 2) (l : Fin 128) : Fin 256 := ⟨j.val * 128 + l.val, by have := j.isLt; have := l.isLt; omega⟩

/-- The key head that a query head reads. -/
def keyOf (h : Fin 8) : Fin 2 := ⟨h.val / 4, by have := h.isLt; omega⟩

/-- The scores of one query row in one head. -/
def score (q : Vec Ideal S2x8192x1024 .bf16) (k : Vec Ideal S2x8704x256 .bf16) (b : Fin 2) (r : Fin 8192) (h : Fin 8) (n : Fin 8448) : EReal :=
  ∑ l : Fin 128, q (ix3 b r (qlane h l)) * k (ix3 b (keyRow n) (klane (keyOf h) l))

/-- The result as the kernel computes it, at row `r`, head `h`, lane `d` of batch `b`. -/
def att (q : Vec Ideal S2x8192x1024 .bf16) (k v : Vec Ideal S2x8704x256 .bf16) (b : Fin 2) (r : Fin 8192) (h : Fin 8) (d : Fin 128) : EReal :=
  soft (score q k b r h) (fun n => v (ix3 b (keyRow n) (klane (keyOf h) d)))

/-- Head and lane of a channel. -/
def headOf (ch : Fin 1024) : Fin 8 := ⟨ch.val / 128, by have := ch.isLt; omega⟩
def laneOf (ch : Fin 1024) : Fin 128 := ⟨ch.val % 128, Nat.mod_lt _ (by decide)⟩

variable (m : (ℓ : Loc nD τ sig) → Buf (Elt Ideal) ℓ)

/-- The whole result array. -/
def arr (c : Dev nD) : Buf (Elt Ideal) ((c : Thread nD τ).loc main_v0) :=
  fun i => att (m ((c : Thread nD τ).loc main_arg0)) (m ((c : Thread nD τ).loc main_arg1)) (m ((c : Thread nD τ).loc main_arg2))
    (i 0) (i 1) (headOf (i 2)) (laneOf (i 2))

theorem lt_N (t : Fin cfg0.N) : t.val < 64 := t.isLt

def batchAt (t : Fin cfg0.N) : Fin 2 := ⟨t.val / 32, by have := lt_N t; omega⟩
def keyAt (t : Fin cfg0.N) : Fin 2 := ⟨t.val / 16 % 2, Nat.mod_lt _ (by decide)⟩
def rowAt (t : Fin cfg0.N) (r : Fin 512) : Fin 8192 := ⟨t.val % 16 * 512 + r.val, by have := r.isLt; omega⟩
def chanAt (t : Fin cfg0.N) (l : Fin 512) : Fin 1024 := ⟨t.val / 16 % 2 * 512 + l.val, by have := l.isLt; omega⟩

theorem index_q : ∀ t : Fin grid0.N, win0_0.index t = ![t.val / 32, t.val % 16, t.val / 16 % 2] := by decide +kernel
theorem index_k : ∀ t : Fin grid0.N, win0_1.index t = ![t.val / 32, 0, t.val / 16 % 2] := by decide +kernel
theorem index_v : ∀ t : Fin grid0.N, win0_2.index t = ![t.val / 32, 0, t.val / 16 % 2] := by decide +kernel
theorem index_o : ∀ t : Fin grid0.N, win0_3.index t = ![t.val / 32, t.val % 16, t.val / 16 % 2] := by decide +kernel

theorem q_read (c : Dev nD) (t : Fin cfg0.N) (r : Fin 512) (l : Fin 512) :
    iblk m c 0 t (ix3 (0 : Fin 1) r l) = m ((c : Thread nD τ).loc main_arg0) (ix3 (batchAt t) (rowAt t r) (chanAt t l)) := by
  have e := index_q t
  show V m c main_arg0 (((cfg0.win 0).blk t).view.emb (ix3 (0 : Fin 1) r l)) = _
  rw [V_main_arg0]
  refine congrArg _ (funext fun a => Fin.ext ?_)
  show win0_0.index t a * win0_0.size a + 1 * (ix3 (0 : Fin 1) r l a).val = _
  rw [e]
  fin_cases a
  · show t.val / 32 * 1 + 1 * 0 = t.val / 32; omega
  · show t.val % 16 * 512 + 1 * r.val = t.val % 16 * 512 + r.val; omega
  · show t.val / 16 % 2 * 512 + 1 * l.val = t.val / 16 % 2 * 512 + l.val; omega

theorem k_read (c : Dev nD) (t : Fin cfg0.N) (n : Fin 8448) (l : Fin 128) :
    X0_1 m c t (ix3 (0 : Fin 1) n l) = m ((c : Thread nD τ).loc main_arg1) (ix3 (batchAt t) (keyRow n) (klane (keyAt t) l)) := by
  have e := index_k t
  unfold X0_1 Idealize.ShloMosaic.Pipeline.Window.fill
  rw [dif_pos (moved0_1 t (ix3 (0 : Fin 1) n l))]
  show V m c main_arg1 (((cfg0.win 1).blk t).view.emb _) = _
  rw [V_main_arg1]
  refine congrArg _ (funext fun a => Fin.ext ?_)
  show win0_1.index t a * win0_1.size a + 1 * (ix3 (0 : Fin 1) n l a).val = _
  rw [e]
  fin_cases a
  · show t.val / 32 * 1 + 1 * 0 = t.val / 32; omega
  · show 0 * 8448 + 1 * n.val = n.val; omega
  · show t.val / 16 % 2 * 128 + 1 * l.val = t.val / 16 % 2 * 128 + l.val; omega

theorem v_read (c : Dev nD) (t : Fin cfg0.N) (n : Fin 8448) (l : Fin 128) :
    X0_2 m c t (ix3 (0 : Fin 1) n l) = m ((c : Thread nD τ).loc main_arg2) (ix3 (batchAt t) (keyRow n) (klane (keyAt t) l)) := by
  have e := index_v t
  unfold X0_2 Idealize.ShloMosaic.Pipeline.Window.fill
  rw [dif_pos (moved0_2 t (ix3 (0 : Fin 1) n l))]
  show V m c main_arg2 (((cfg0.win 2).blk t).view.emb _) = _
  rw [V_main_arg2]
  refine congrArg _ (funext fun a => Fin.ext ?_)
  show win0_2.index t a * win0_2.size a + 1 * (ix3 (0 : Fin 1) n l a).val = _
  rw [e]
  fin_cases a
  · show t.val / 32 * 1 + 1 * 0 = t.val / 32; omega
  · show 0 * 8448 + 1 * n.val = n.val; omega
  · show t.val / 16 % 2 * 128 + 1 * l.val = t.val / 16 % 2 * 128 + l.val; omega

theorem block_at (x0 : Vec Ideal S1x512x512 .bf16) (x1 x2 : Vec Ideal S1x8448x128 .bf16) (a : Fin 1) (r d : Fin 512) :
    block x0 x1 x2 (ix3 a r d) = soft (fun n => ∑ l : Fin 128, x0 (ix3 (0 : Fin 1) r (⟨(d.val / 128 * 128 + l.val) % 512, Nat.mod_lt _ (by decide)⟩ : Fin 512)) * x1 (ix3 (0 : Fin 1) n l))
      (fun n => x2 (ix3 (0 : Fin 1) n (⟨d.val % 128, Nat.mod_lt _ (by decide)⟩ : Fin 128))) := rfl

theorem flushed_eq (c : Dev nD) (t : Fin cfg0.N) :
    (dats m 0 c).flushed 3 t = ((cfg0.win 3).blk t).view.read (Elt Ideal) (arr m c) := by
  rw [Cert.GqaIdeal.Value.flushed3, outsAt_eq]
  funext x
  obtain ⟨a, r, d, rfl⟩ : ∃ (a : Fin 1) (r : Fin 512) (d : Fin 512), x = ix3 a r d := ⟨x 0, x 1, x 2, (ix3_eta x).symm⟩
  show block _ _ _ (ix3 a r d) = arr m c (((cfg0.win 3).blk t).view.emb (ix3 a r d))
  have e := index_o t
  have ha : a.val < 1 := a.isLt
  have hd : d.val < 512 := d.isLt
  have e0 : ((cfg0.win 3).blk t).view.emb (ix3 a r d) 0 = batchAt t := by
    refine Fin.ext ?_
    show win0_3.index t 0 * win0_3.size 0 + 1 * a.val = _
    rw [e]
    show t.val / 32 * 1 + 1 * a.val = t.val / 32; omega
  have e1 : ((cfg0.win 3).blk t).view.emb (ix3 a r d) 1 = rowAt t r := by
    refine Fin.ext ?_
    show win0_3.index t 1 * win0_3.size 1 + 1 * r.val = _
    rw [e]
    show t.val % 16 * 512 + 1 * r.val = t.val % 16 * 512 + r.val; omega
  have e2 : ((cfg0.win 3).blk t).view.emb (ix3 a r d) 2 = chanAt t d := by
    refine Fin.ext ?_
    show win0_3.index t 2 * win0_3.size 2 + 1 * d.val = _
    rw [e]
    show t.val / 16 % 2 * 512 + 1 * d.val = t.val / 16 % 2 * 512 + d.val; omega
  have ek : keyOf (headOf (chanAt t d)) = keyAt t := Fin.ext (by
    show (t.val / 16 % 2 * 512 + d.val) / 128 / 4 = t.val / 16 % 2; omega)
  have el : laneOf (chanAt t d) = (⟨d.val % 128, Nat.mod_lt _ (by decide)⟩ : Fin 128) := Fin.ext (by
    show (t.val / 16 % 2 * 512 + d.val) % 128 = d.val % 128; omega)
  have ec : ∀ l : Fin 128, qlane (headOf (chanAt t d)) l = chanAt t (⟨(d.val / 128 * 128 + l.val) % 512, Nat.mod_lt _ (by decide)⟩ : Fin 512) := fun l => Fin.ext (by
    have := l.isLt
    show (t.val / 16 % 2 * 512 + d.val) / 128 * 128 + l.val = t.val / 16 % 2 * 512 + (d.val / 128 * 128 + l.val) % 512; omega)
  have ea : arr m c (((cfg0.win 3).blk t).view.emb (ix3 a r d)) = att (m ((c : Thread nD τ).loc main_arg0)) (m ((c : Thread nD τ).loc main_arg1)) (m ((c : Thread nD τ).loc main_arg2))
      (batchAt t) (rowAt t r) (headOf (chanAt t d)) (laneOf (chanAt t d)) := by
    unfold arr
    rw [e0, e1, e2]
  rw [ea]
  unfold att score
  rw [ek, el, block_at]
  refine congrArg₂ soft (funext fun n => Finset.sum_congr rfl fun l _ => ?_) (funext fun n => v_read m c t n _)
  rw [ec]
  exact congrArg₂ (· * ·) (q_read m c t r _) (k_read m c t n l)

theorem mem_blk (t : Fin cfg0.N) (i : S2x8192x1024.Idx) :
    i ∈ ((cfg0.win 3).blk t).view.set ↔ t.val / 32 = (i 0).val ∧ t.val % 16 = (i 1).val / 512 ∧ t.val / 16 % 2 = (i 2).val / 512 := by
  show i ∈ ((View.whole main_v0).slice (win0_3.rect t)).set ↔ _
  rw [View.set_slice_whole, Rect.mem_set_unit]
  have e := index_o t
  have h0 : (i 0).val < 2 := (i 0).isLt
  have h1 : (i 1).val < 8192 := (i 1).isLt
  have h2 : (i 2).val < 1024 := (i 2).isLt
  have key : (∀ a : Fin 3, (![t.val / 32 * 1, t.val % 16 * 512, t.val / 16 % 2 * 512] : Fin 3 → ℕ) a ≤ (i a).val
      ∧ (i a).val < (![t.val / 32 * 1, t.val % 16 * 512, t.val / 16 % 2 * 512] : Fin 3 → ℕ) a + (![1, 512, 512] : Fin 3 → ℕ) a)
      ↔ t.val / 32 = (i 0).val ∧ t.val % 16 = (i 1).val / 512 ∧ t.val / 16 % 2 = (i 2).val / 512 := by
    constructor
    · intro h
      have k0 : t.val / 32 * 1 ≤ (i 0).val ∧ (i 0).val < t.val / 32 * 1 + 1 := h 0
      have k1 : t.val % 16 * 512 ≤ (i 1).val ∧ (i 1).val < t.val % 16 * 512 + 512 := h 1
      have k2 : t.val / 16 % 2 * 512 ≤ (i 2).val ∧ (i 2).val < t.val / 16 % 2 * 512 + 512 := h 2
      omega
    · intro h a
      fin_cases a
      · show t.val / 32 * 1 ≤ (i 0).val ∧ (i 0).val < t.val / 32 * 1 + 1; omega
      · show t.val % 16 * 512 ≤ (i 1).val ∧ (i 1).val < t.val % 16 * 512 + 512; omega
      · show t.val / 16 % 2 * 512 ≤ (i 2).val ∧ (i 2).val < t.val / 16 % 2 * 512 + 512; omega
  rw [← key]
  refine forall_congr' fun a => ?_
  have o : win0_3.index t a * win0_3.size a = (![t.val / 32 * 1, t.val % 16 * 512, t.val / 16 % 2 * 512] : Fin 3 → ℕ) a := by
    rw [e]; fin_cases a <;> rfl
  have z : win0_3.xsize (grid0.coords t) a = (![1, 512, 512] : Fin 3 → ℕ) a := by fin_cases a <;> rfl
  show (win0_3.index t a * win0_3.size a ≤ (i a).val ∧ (i a).val < win0_3.index t a * win0_3.size a + win0_3.xsize (grid0.coords t) a) ↔ _
  rw [o, z]

theorem cover (i : S2x8192x1024.Idx) : ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 1024 := (i 2).isLt
  have hN : cfg0.N = 64 := rfl
  refine ⟨⟨(i 0).val * 32 + (i 2).val / 512 * 16 + (i 1).val / 512, by omega⟩, flush0_3 _, ?_⟩
  rw [mem_blk]
  dsimp only
  omega

/-- After the run the result array holds the attention of the arguments. -/
theorem final (c : Dev nD) : (dats m 0 c).arrAt 3 cfg0.N = arr m c :=
  (dats m 0 c).arrAt_eq_of_cover 3 (arr m c) (fun t _ => flushed_eq m c t) cover

end Cert.GqaKernel
end
-- ==== Proof.GqaRef.lean ====
module

public import proofs.«01_k».proof.Proof.Gen.GqaRefIdeal.Read
public import proofs.«01_k».proof.Proof.Soft
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The grouped-query attention's reference, read at an index. -/

@[expose] public section

set_option maxRecDepth 16384

noncomputable section

namespace Cert.GqaRef

open Cert.GqaRefIdeal Cert.GqaRefIdeal.Read Idealize.ShloMosaic
open Cert.Soft

/-- Lane `l` of the query head `g` of group `j`, and of key head `j`. -/
def qlane (j : Fin 2) (g : Fin 4) (l : Fin 128) : Fin 1024 := ⟨(j.val * 4 + g.val) * 128 + l.val, by have := j.isLt; have := g.isLt; have := l.isLt; omega⟩
def klane (j : Fin 2) (l : Fin 128) : Fin 256 := ⟨j.val * 128 + l.val, by have := j.isLt; have := l.isLt; omega⟩

theorem q_at (x0 : FVec Ideal S2x8192x1024 .bf16) (b : Fin 2) (r : Fin 8192) (j : Fin 2) (g : Fin 4) (l : Fin 128) :
    val_main_v1 (F := Ideal) x0 (ix5 b r j g l) = x0 (ix3 b r (qlane j g l)) := by
  have hb := b.isLt
  have hr := r.isLt
  have hj := j.isLt
  have hg := g.isLt
  have hl := l.isLt
  rw [val_main_v1_apply, val_main_v0_apply]
  refine congrArg x0 (funext fun a => Fin.ext ?_)
  fin_cases a
  · show ((((b.val * 8192 + r.val) * 2 + j.val) * 4 + g.val) * 128 + l.val) / 8388608 = b.val; omega
  · show ((((b.val * 8192 + r.val) * 2 + j.val) * 4 + g.val) * 128 + l.val) / 1024 % 8192 = r.val; omega
  · show ((((b.val * 8192 + r.val) * 2 + j.val) * 4 + g.val) * 128 + l.val) % 1024 = (j.val * 4 + g.val) * 128 + l.val; omega

theorem k_at (x1 : FVec Ideal S2x8704x256 .bf16) (b : Fin 2) (n : Fin 8448) (j : Fin 2) (l : Fin 128) :
    val_main_v4 (F := Ideal) x1 (ix4 b n j l) = x1 (ix3 b (keyRow n) (klane j l)) := by
  have hb := b.isLt
  have hr := n.isLt
  have hj := j.isLt
  have hl := l.isLt
  rw [val_main_v4_apply, val_main_v3_apply, val_main_v2_apply]
  refine congrArg x1 (funext fun a => Fin.ext ?_)
  fin_cases a
  · show (((b.val * 8448 + n.val) * 2 + j.val) * 128 + l.val) / 2162688 = b.val; omega
  · show (((b.val * 8448 + n.val) * 2 + j.val) * 128 + l.val) / 256 % 8448 = n.val; omega
  · show (((b.val * 8448 + n.val) * 2 + j.val) * 128 + l.val) % 256 = j.val * 128 + l.val; omega

theorem v_at (x2 : FVec Ideal S2x8704x256 .bf16) (b : Fin 2) (n : Fin 8448) (j : Fin 2) (l : Fin 128) :
    val_main_v7 (F := Ideal) x2 (ix4 b n j l) = x2 (ix3 b (keyRow n) (klane j l)) := by
  have hb := b.isLt
  have hr := n.isLt
  have hj := j.isLt
  have hl := l.isLt
  rw [val_main_v7_apply, val_main_v6_apply, val_main_v5_apply]
  refine congrArg x2 (funext fun a => Fin.ext ?_)
  fin_cases a
  · show (((b.val * 8448 + n.val) * 2 + j.val) * 128 + l.val) / 2162688 = b.val; omega
  · show (((b.val * 8448 + n.val) * 2 + j.val) * 128 + l.val) / 256 % 8448 = n.val; omega
  · show (((b.val * 8448 + n.val) * 2 + j.val) * 128 + l.val) % 256 = j.val * 128 + l.val; omega

/-- The scores of one query row, in base two. -/
def score (x0 : FVec Ideal S2x8192x1024 .bf16) (x1 : FVec Ideal S2x8704x256 .bf16) (b : Fin 2) (j : Fin 2) (g : Fin 4) (r : Fin 8192) (n : Fin 8448) : EReal :=
  ∑ l : Fin 128, x0 (ix3 b r (qlane j g l)) * x1 (ix3 b (keyRow n) (klane j l))

theorem s_at (x0 : FVec Ideal S2x8192x1024 .bf16) (x1 : FVec Ideal S2x8704x256 .bf16) (b : Fin 2) (j : Fin 2) (g : Fin 4) (r : Fin 8192)
    (n : Fin 8448) : val_main_v13 (F := Ideal) x0 x1 (ix5 b j g r n) = score x0 x1 b j g r n * ln2 := by
  rw [val_main_v13_apply, val_main_v9_apply, val_main_v8_apply]
  have e : ∀ l : Fin 128, (val_main_v4 (F := Ideal) x1) (lidx_main_v8 (idx_main_v9 (ix5 b j g r n)) l) * (val_main_v1 (F := Ideal) x0) (ridx_main_v8 (idx_main_v9 (ix5 b j g r n)) l)
      = x0 (ix3 b r (qlane j g l)) * x1 (ix3 b (keyRow n) (klane j l)) := by
    intro l
    rw [← q_at x0, ← k_at x1, mul_comm]
    congr 2
    · exact funext fun a => Fin.ext (by fin_cases a <;> rfl)
    · exact funext fun a => Fin.ext (by fin_cases a <;> rfl)
  rw [Finset.sum_congr rfl fun l _ => e l]
  rfl

theorem top_at (x0 : FVec Ideal S2x8192x1024 .bf16) (x1 : FVec Ideal S2x8704x256 .bf16) (b : Fin 2) (j : Fin 2) (g : Fin 4) (r : Fin 8192) :
    val_main_v14 (F := Ideal) x0 x1 (ix4 b j g r) = top fun n => score x0 x1 b j g r n * ln2 := by
  unfold val_main_v14
  refine (congrFun (hostReduce_maximumf_eq_multiReduction (F := Ideal) (s := S2x2x4x8192x8448) (t := S2x2x4x8192) (u := S_) (φ := .f32) (axes := [4])
    (val_main_v13 (F := Ideal) x0 x1) 0xFF800000#32 Gen.reducesTo_S2x2x4x8192x8448_S2x2x4x8192_d4 Gen.h_S_ (by decide) (.inl rfl) rfl) (ix4 b j g r)).trans ?_
  pointwise [top]
  simp only [s_at]

theorem prob_at (x0 : FVec Ideal S2x8192x1024 .bf16) (x1 : FVec Ideal S2x8704x256 .bf16) (b : Fin 2) (j : Fin 2) (g : Fin 4) (r : Fin 8192)
    (n : Fin 8448) : val_main_v24 (F := Ideal) x0 x1 (ix5 b j g r n) = prob (score x0 x1 b j g r) n := by
  have e16 : ∀ n, val_main_v18 (F := Ideal) x0 x1 (ix5 b j g r n) = max (Ideal.ofBits FTy.f32 0xFF800000#32) (top fun n => score x0 x1 b j g r n * ln2) := by
    intro n
    rw [val_main_v18_apply, val_main_v17_apply, val_main_v16_apply, val_main_v15_apply, ← top_at]
    have : idx_main_v17 (idx_main_v18 (ix5 b j g r n)) = ix4 b j g r := funext fun a => Fin.ext (by fin_cases a <;> rfl)
    rw [this]
    rfl
  have e18 : ∀ n, val_main_v20 (F := Ideal) x0 x1 (ix5 b j g r n) = Ideal.exp (score x0 x1 b j g r n * ln2 - max (Ideal.ofBits FTy.f32 0xFF800000#32) (top fun n => score x0 x1 b j g r n * ln2)) := by
    intro n
    rw [val_main_v20_apply, val_main_v19_apply, e16, s_at]
    rfl
  rw [val_main_v24_apply, val_main_v23_apply, val_main_v22_apply, val_main_v21_apply, e18]
  have e : ∀ k : Fin 8448, idx_main_v21 (idx_main_v22 (idx_main_v23 (ix5 b j g r n))) k = ix5 b j g r k := fun k => funext fun a => Fin.ext (by fin_cases a <;> rfl)
  simp only [e, e18]
  rfl

/-- The reference's result at row `r`, head `g` of group `j`, lane `d` of batch `b`. -/
def att (x0 : FVec Ideal S2x8192x1024 .bf16) (x1 x2 : FVec Ideal S2x8704x256 .bf16) (b : Fin 2) (r : Fin 8192) (j : Fin 2) (g : Fin 4) (d : Fin 128) : EReal :=
  ∑ n : Fin 8448, prob (score x0 x1 b j g r) n * x2 (ix3 b (keyRow n) (klane j d))

theorem att_at (x0 : FVec Ideal S2x8192x1024 .bf16) (x1 x2 : FVec Ideal S2x8704x256 .bf16) (b : Fin 2) (r : Fin 8192) (j : Fin 2) (g : Fin 4) (d : Fin 128) :
    val_main_v26 (F := Ideal) x0 x1 x2 (ix5 b r j g d) = att x0 x1 x2 b r j g d := by
  rw [val_main_v26_apply, val_main_v25_apply]
  refine Finset.sum_congr rfl fun n _ => ?_
  have e1 : lidx_main_v25 (idx_main_v26 (ix5 b r j g d)) n = ix4 b n j d := funext fun a => Fin.ext (by fin_cases a <;> rfl)
  have e2 : ridx_main_v25 (idx_main_v26 (ix5 b r j g d)) n = ix5 b j g r n := funext fun a => Fin.ext (by fin_cases a <;> rfl)
  rw [e1, e2, v_at, prob_at]
  exact mul_comm _ _

/-- Group, head within it and lane of a channel. -/
def groupOf (ch : Fin 1024) : Fin 2 := ⟨ch.val / 512, by have := ch.isLt; omega⟩
def headOf (ch : Fin 1024) : Fin 4 := ⟨ch.val / 128 % 4, Nat.mod_lt _ (by decide)⟩
def laneOf (ch : Fin 1024) : Fin 128 := ⟨ch.val % 128, Nat.mod_lt _ (by decide)⟩

theorem result_at (x0 : FVec Ideal S2x8192x1024 .bf16) (x1 x2 : FVec Ideal S2x8704x256 .bf16) (b : Fin 2) (r : Fin 8192) (ch : Fin 1024) :
    val_main_v28 (F := Ideal) x0 x1 x2 (ix3 b r ch) = att x0 x1 x2 b r (groupOf ch) (headOf ch) (laneOf ch) := by
  have hb := b.isLt
  have hr := r.isLt
  have hc := ch.isLt
  have e : idx_main_v27 (ix3 b r ch) = ix5 b r (groupOf ch) (headOf ch) (laneOf ch) := by
    refine funext fun a => Fin.ext ?_
    fin_cases a
    · show ((b.val * 8192 + r.val) * 1024 + ch.val) / 8388608 = b.val; omega
    · show ((b.val * 8192 + r.val) * 1024 + ch.val) / 1024 % 8192 = r.val; omega
    · show ((b.val * 8192 + r.val) * 1024 + ch.val) / 512 % 2 = ch.val / 512; omega
    · show ((b.val * 8192 + r.val) * 1024 + ch.val) / 128 % 4 = ch.val / 128 % 4; omega
    · show ((b.val * 8192 + r.val) * 1024 + ch.val) % 128 = ch.val % 128; omega
  rw [val_main_v28_apply, val_main_v27_apply, e, att_at]
  rfl

end Cert.GqaRef
end
-- ==== Proof.GqaClaim.lean ====
module

public import proofs.«01_k».proof.Defs
public import proofs.«01_k».proof.Proof.DiffClaim
public import proofs.«01_k».proof.Proof.GqaKernel
public import proofs.«01_k».proof.Proof.GqaRef
public import proofs.«01_k».proof.Proof.Gen.Gqa.Frame
public import Idealize.ShloMosaic.Lib.Quiescent

/-! The value claim of the grouped-query attention: of real queries and keys the kernel and the reference end with the same result. -/

@[expose] public section

set_option maxRecDepth 16384

noncomputable section

namespace Cert.GqaClaim

open Idealize.ShloMosaic Idealize.ShloMosaic.TcCoe Idealize.SL.Sem
open Cert.Soft

abbrev Q : Shape := ⟨3, ![2, 8192, 1024]⟩
abbrev K : Shape := ⟨3, ![2, 8704, 256]⟩

/-- The side conditions of the precondition's operations. -/
instance preFacts : Cert.Pre_finite_qk.Facts where
  bitsLt_bf16_f32 := by decide
  bcast_S_S2x8192x1024 := by decide
  slices_S2x8704x256_S2x8448x256_0_0_0 := by decide
  bcast_S_S2x8448x256 := by decide

/-- The rows that hold keys are the first ones. -/
theorem kept (k : FVec Ideal K .bf16) (b : Fin 2) (n : Fin 8448) (ch : Fin 256)
    (h : ∃ r : ℝ, extractStridedSlice Cert.Pre_finite_qk.S2x8448x256 ![0, 0, 0] k preFacts.slices_S2x8704x256_S2x8448x256_0_0_0 (ix3 b n ch) = (r : EReal)) :
    ∃ r : ℝ, k (ix3 b (keyRow n) ch) = (r : EReal) := by
  rwa [extractStridedSlice_apply ![0, 0, 0] k preFacts.slices_S2x8704x256_S2x8448x256_0_0_0 (ix3 b n ch) (ix3 b (keyRow n) ch)
    (fun a => by fin_cases a <;> exact (Nat.zero_add _).symm)] at h

/-- What the precondition says: queries and keys are reals. -/
theorem pre_real (q : FVec Ideal Q .bf16) (k v : FVec Ideal K .bf16)
    (h0 : (Cert.Pre_finite_qk.fn (F := Ideal) q k v).1 = fun _ => 1#1)
    (h1 : (Cert.Pre_finite_qk.fn (F := Ideal) q k v).2 = fun _ => 1#1) :
    (∀ i, ∃ r : ℝ, q i = (r : EReal)) ∧ (∀ (b : Fin 2) (n : Fin 8448) (ch : Fin 256), ∃ r : ℝ, k (ix3 b (keyRow n) ch) = (r : EReal)) :=
  ⟨fun i => Cert.DiffClaim.real_of_cmp _ (congrFun h0 i), fun b n ch => kept _ b n ch (Cert.DiffClaim.real_of_cmp _ (congrFun h1 (ix3 b n ch)))⟩

/-- The channel's head and lane in the two texts are the same. -/
theorem score_eq (q : FVec Ideal Q .bf16) (k : FVec Ideal K .bf16) (b : Fin 2) (r : Fin 8192) (ch : Fin 1024) :
    Cert.GqaKernel.score q k b r (Cert.GqaKernel.headOf ch) = Cert.GqaRef.score q k b (Cert.GqaRef.groupOf ch) (Cert.GqaRef.headOf ch) r := by
  funext n
  unfold Cert.GqaKernel.score Cert.GqaRef.score
  refine Finset.sum_congr rfl fun l _ => ?_
  have e1 : Cert.GqaKernel.qlane (Cert.GqaKernel.headOf ch) l = Cert.GqaRef.qlane (Cert.GqaRef.groupOf ch) (Cert.GqaRef.headOf ch) l := Fin.ext (by
    show ch.val / 128 * 128 + l.val = (ch.val / 512 * 4 + ch.val / 128 % 4) * 128 + l.val; omega)
  have e2 : Cert.GqaKernel.klane (Cert.GqaKernel.keyOf (Cert.GqaKernel.headOf ch)) l = Cert.GqaRef.klane (Cert.GqaRef.groupOf ch) l := Fin.ext (by
    show ch.val / 128 / 4 * 128 + l.val = ch.val / 512 * 128 + l.val; omega)
  rw [e1, e2]

/-- Of real queries and keys the two texts give one function of row and channel. -/
theorem att_eq (q : FVec Ideal Q .bf16) (k v : FVec Ideal K .bf16)
    (hq : ∀ i, ∃ r : ℝ, q i = (r : EReal)) (hk : ∀ (b : Fin 2) (n : Fin 8448) (ch : Fin 256), ∃ r : ℝ, k (ix3 b (keyRow n) ch) = (r : EReal)) (b : Fin 2) (r : Fin 8192) (ch : Fin 1024) :
    Cert.GqaKernel.att q k v b r (Cert.GqaKernel.headOf ch) (Cert.GqaKernel.laneOf ch)
      = Cert.GqaRef.att q k v b r (Cert.GqaRef.groupOf ch) (Cert.GqaRef.headOf ch) (Cert.GqaRef.laneOf ch) := by
  have hs : ∀ n, ∃ x : ℝ, Cert.GqaRef.score q k b (Cert.GqaRef.groupOf ch) (Cert.GqaRef.headOf ch) r n = (x : EReal) := fun n => Cert.DiffClaim.real_dot _ _ (fun _ => hq _) (fun _ => hk _ _ _)
  choose a ha using hs
  obtain ⟨p, hp, hsoft⟩ := soft_prob a
  have e2 : Cert.GqaKernel.klane (Cert.GqaKernel.keyOf (Cert.GqaKernel.headOf ch)) (Cert.GqaKernel.laneOf ch) = Cert.GqaRef.klane (Cert.GqaRef.groupOf ch) (Cert.GqaRef.laneOf ch) := Fin.ext (by
    show ch.val / 128 / 4 * 128 + ch.val % 128 = ch.val / 512 * 128 + ch.val % 128; omega)
  unfold Cert.GqaKernel.att Cert.GqaRef.att
  rw [score_eq, e2, funext ha, hsoft]
  exact Finset.sum_congr rfl fun n _ => by rw [hp]

/-- The kernel's and the reference's results agree on every memory that meets the precondition. -/
theorem algebraic : Cert.algebraic_GqaIdeal_GqaRefIdeal_pre_finite_qk := by
  intro m ρ m' ρ' hpre hagree
  refine ⟨fun c => Cert.GqaKernel.arr m c, ?_, ?_⟩
  · exact (θ_run Cert.GqaIdeal.defs _ _).mono (fun _ h c => ⟨(h c).1.trans (Cert.GqaKernel.final m c), (h c).2⟩)
      (Cert.GqaIdeal.Value.run_blocks (F := Ideal) m ρ)
  · refine (θ_run Cert.GqaRefIdeal.defs _ _).mono (fun _ h c => ⟨(h c).1.trans ?_, (h c).2⟩)
      (Cert.GqaRefIdeal.Value.run (F := Ideal) m' ρ')
    obtain ⟨h0, h1, h2⟩ := hagree c
    obtain ⟨p0, p1⟩ := hpre c
    obtain ⟨hq, hk⟩ := pre_real _ _ _ p0 p1
    rw [Cert.GqaRefIdeal.Read.val_main_v28_eq, h0, h1, h2]
    funext i
    have e : i = ix3 (i 0) (i 1) (i 2) := (ix3_eta i).symm
    refine (congrArg _ e).trans ((Cert.GqaRef.result_at _ _ _ (i 0) (i 1) (i 2)).trans ?_)
    exact (att_eq _ _ _ hq hk (i 0) (i 1) (i 2)).symm

end Cert.GqaClaim
end
-- ==== Proof.OutCKernel.lean ====
module

public import proofs.«01_k».proof.Proof.Gen.OutCIdeal.Frame
public import proofs.«01_k».proof.Proof.Gen.OutCIdeal.Value
public import Idealize.ShloMosaic.PureOps.Ideal
public import Idealize.ShloMosaic.Lib.ValueIdx
public import Idealize.ShloMosaic.Lib.Pointwise
public import Idealize.ShloMosaic.Lib.IdealHost
public import Idealize.ShloMosaic.Lib.Pipeline.Value
public import Idealize.ShloMosaic.Lib.StableHlo.Run

/-! The differential attention's out-projection: the call's result array after the run, as one function of the argument arrays. -/

@[expose] public section

set_option maxRecDepth 16384

noncomputable section

namespace Cert.OutCKernel

open Cert.OutCIdeal Cert.OutCIdeal.Gen Idealize.ShloMosaic Idealize.ShloMosaic.TcCoe Idealize.SL.Sem
open Idealize.ShloMosaic.Pipeline (Dat)

/-- A row divided by its root mean square, times weights. -/
def rms (x g : Fin 2048 → EReal) (d : Fin 2048) : EReal :=
  x d * Ideal.rsqrt (Ideal.div (∑ e, x e * x e) (Ideal.ofBits FTy.f32 0x45000000#32) + Ideal.ofBits FTy.f32 0x358637BD#32) * g d

/-- The result: the input plus the gated, normalised product with the weights. -/
def result (o : Vec Ideal S2x8192x2048 .bf16) (w : Vec Ideal S2048x2048 .f32) (x : Vec Ideal S2x8192x2048 .f32) (g : Vec Ideal S2048 .f32) (gate : Vec Ideal S2x2048 .f32)
    (b : Fin 2) (n : Fin 8192) (d : Fin 2048) : EReal :=
  x (ix3 b n d) + gate (ix2 b d) * rms (fun e => ∑ k : Fin 2048, o (ix3 b n k) * w (ix2 k e)) (fun e => g (ix1 e)) d

theorem pay_apply (o : Vec Ideal S1x512x2048 .bf16) (w : Vec Ideal S2048x2048 .bf16) (x : Vec Ideal S1x512x2048 .f32) (gate : Vec Ideal S1x1x2048 .f32) (g : Vec Ideal S1x2048 .f32) (r : Fin 512) (d : Fin 2048) :
    k0_pay1 o w x gate g (ix3 0 r d)
      = x (ix3 0 r d) + gate (ix3 0 0 d) * rms (fun e => ∑ k : Fin 2048, o (ix3 0 r k) * w (ix2 k e)) (fun e => g (ix2 0 e)) d := by
  pointwise [k0_pay1, rms, add_zero]

theorem zeros2 : (![0, 0] : Fin 2 → ℕ) = fun _ => 0 := funext fun a => by fin_cases a <;> rfl
theorem zeros3 : (![0, 0, 0] : Fin 3 → ℕ) = fun _ => 0 := funext fun a => by fin_cases a <;> rfl

theorem out_apply (o : Vec Ideal S1x512x2048 .bf16) (w : Vec Ideal S2048x2048 .bf16) (x : Vec Ideal S1x512x2048 .f32) (g : Vec Ideal S1x2048 .f32) (gate : Vec Ideal S1x1x2048 .f32) (r : Fin 512) (d : Fin 2048) :
    out0_5 o w x g gate (ix3 0 r d)
      = x (ix3 0 r d) + gate (ix3 0 0 d) * rms (fun e => ∑ k : Fin 2048, o (ix3 0 r k) * w (ix2 k e)) (fun e => g (ix2 0 e)) d := by
  unfold out0_5
  simp only [View.ld_unit_zero (Val := Elt Ideal) (S := S1x512x2048) (e := .bf16) (off := ![0,0,0]) zeros3, View.ld_unit_zero (Val := Elt Ideal) (S := S1x512x2048) (e := .f32) (off := ![0,0,0]) zeros3, View.ld_unit_zero (Val := Elt Ideal) (S := S2048x2048) (e := .bf16) (off := ![0,0]) zeros2, View.ld_unit_zero (Val := Elt Ideal) (S := S1x2048) (e := .f32) (off := ![0,0]) zeros2, View.ld_unit_zero (Val := Elt Ideal) (S := S1x1x2048) (e := .f32) (off := ![0,0,0]) zeros3]
  exact (congrFun (View.canon_unit_zero (Val := Elt Ideal) (S := S1x512x2048) (e := .f32) zeros3 _ _) _).trans (pay_apply o w x gate g r d)

variable (m : (ℓ : Loc nD τ sig) → Buf (Elt Ideal) ℓ)

theorem lt_N (t : Fin cfg0.N) : t.val < 32 := t.isLt

def batchAt (t : Fin cfg0.N) : Fin 2 := ⟨t.val / 16, by have := lt_N t; omega⟩
def rowAt (t : Fin cfg0.N) (r : Fin 512) : Fin 8192 := ⟨t.val % 16 * 512 + r.val, by have := r.isLt; omega⟩

theorem index_0 : ∀ t : Fin grid0.N, win0_0.index t = ![t.val / 16, t.val % 16, 0] := by decide +kernel
theorem index_1 : ∀ t : Fin grid0.N, win0_1.index t = ![0, 0] := by decide +kernel
theorem index_2 : ∀ t : Fin grid0.N, win0_2.index t = ![t.val / 16, t.val % 16, 0] := by decide +kernel
theorem index_3 : ∀ t : Fin grid0.N, win0_3.index t = ![0, 0] := by decide +kernel
theorem index_4 : ∀ t : Fin grid0.N, win0_4.index t = ![t.val / 16, 0, 0] := by decide +kernel
theorem index_5 : ∀ t : Fin grid0.N, win0_5.index t = ![t.val / 16, t.val % 16, 0] := by decide +kernel

theorem V_v0 (c : Dev nD) : V m c main_v0 = (truncf .bf16 (m ((c : Thread nD τ).loc main_arg1)) bitsLt_bf16_f32 : FVec Ideal S2048x2048 .bf16) := by
  show StableHlo.after hostOps0 _ _ = _
  after_results
theorem V_v1 (c : Dev nD) : V m c main_v1 = shapeCast S1x2048 (m ((c : Thread nD τ).loc main_arg3)) shapeCasts_S2048_S1x2048 := by
  show StableHlo.after hostOps0 _ _ = _
  after_results
  rfl
theorem V_v2 (c : Dev nD) : V m c main_v2 = shapeCast S2x1x2048 (m ((c : Thread nD τ).loc main_arg4)) shapeCasts_S2x2048_S2x1x2048 := by
  show StableHlo.after hostOps0 _ _ = _
  after_results
  rfl

theorem read0 (c : Dev nD) (t : Fin cfg0.N) (r : Fin 512) (d : Fin 2048) :
    iblk m c 0 t (ix3 (0 : Fin 1) r d) = (m ((c : Thread nD τ).loc main_arg0)) (ix3 (batchAt t) (rowAt t r) d) := by
  have e := index_0 t
  have hN := lt_N t
  have h : ((cfg0.win 0).blk t).view.emb (ix3 (0 : Fin 1) r d) = (ix3 (batchAt t) (rowAt t r) d) := by
    refine funext fun a => Fin.ext ?_
    show win0_0.index t a * win0_0.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 2048 + 1 * d.val = d.val; omega
  show V m c main_arg0 (((cfg0.win 0).blk t).view.emb (ix3 (0 : Fin 1) r d)) = _
  rw [h, V_main_arg0]

theorem read2 (c : Dev nD) (t : Fin cfg0.N) (r : Fin 512) (d : Fin 2048) :
    iblk m c 2 t (ix3 (0 : Fin 1) r d) = (m ((c : Thread nD τ).loc main_arg2)) (ix3 (batchAt t) (rowAt t r) d) := by
  have e := index_2 t
  have hN := lt_N t
  have h : ((cfg0.win 2).blk t).view.emb (ix3 (0 : Fin 1) r d) = (ix3 (batchAt t) (rowAt t r) d) := by
    refine funext fun a => Fin.ext ?_
    show win0_2.index t a * win0_2.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 2048 + 1 * d.val = d.val; omega
  show V m c main_arg2 (((cfg0.win 2).blk t).view.emb (ix3 (0 : Fin 1) r d)) = _
  rw [h, V_main_arg2]

theorem read1 (c : Dev nD) (t : Fin cfg0.N) (k d : Fin 2048) :
    iblk m c 1 t (ix2 k d) = (m ((c : Thread nD τ).loc main_arg1)) (ix2 k d) := by
  have e := index_1 t
  have hN := lt_N t
  have h : ((cfg0.win 1).blk t).view.emb (ix2 k d) = (ix2 k d) := by
    refine funext fun a => Fin.ext ?_
    show win0_1.index t a * win0_1.size a + 1 * ((ix2 k d) a).val = _
    rw [e]
    fin_cases a
    · show (0) * 2048 + 1 * k.val = k.val; omega
    · show (0) * 2048 + 1 * d.val = d.val; omega
  show V m c main_v0 (((cfg0.win 1).blk t).view.emb (ix2 k d)) = _
  rw [h, V_v0]
  rfl

theorem read3 (c : Dev nD) (t : Fin cfg0.N) (d : Fin 2048) :
    iblk m c 3 t (ix2 (0 : Fin 1) d) = (m ((c : Thread nD τ).loc main_arg3)) (ix1 d) := by
  have e := index_3 t
  have hN := lt_N t
  have h : ((cfg0.win 3).blk t).view.emb (ix2 (0 : Fin 1) d) = (ix2 (0 : Fin 1) d) := by
    refine funext fun a => Fin.ext ?_
    show win0_3.index t a * win0_3.size a + 1 * ((ix2 (0 : Fin 1) d) a).val = _
    rw [e]
    fin_cases a
    · show (0) * 1 + 1 * 0 = 0; omega
    · show (0) * 2048 + 1 * d.val = d.val; omega
  show V m c main_v1 (((cfg0.win 3).blk t).view.emb (ix2 (0 : Fin 1) d)) = _
  rw [h, V_v1, shapeCast_apply _ _ _ (ix1 d) (by rw [Shape.rowMajor_val_one, Shape.rowMajor_val_two]; show d.val = 0 * 2048 + d.val; omega)]

theorem read4 (c : Dev nD) (t : Fin cfg0.N) (d : Fin 2048) :
    iblk m c 4 t (ix3 (0 : Fin 1) (0 : Fin 1) d) = (m ((c : Thread nD τ).loc main_arg4)) (ix2 (batchAt t) d) := by
  have e := index_4 t
  have hN := lt_N t
  have h : ((cfg0.win 4).blk t).view.emb (ix3 (0 : Fin 1) (0 : Fin 1) d) = (ix3 (batchAt t) (0 : Fin 1) d) := by
    refine funext fun a => Fin.ext ?_
    show win0_4.index t a * win0_4.size a + 1 * ((ix3 (0 : Fin 1) (0 : Fin 1) d) a).val = _
    rw [e]
    fin_cases a
    · show (t.val / 16) * 1 + 1 * 0 = t.val / 16; omega
    · show (0) * 1 + 1 * 0 = 0; omega
    · show (0) * 2048 + 1 * d.val = d.val; omega
  show V m c main_v2 (((cfg0.win 4).blk t).view.emb (ix3 (0 : Fin 1) (0 : Fin 1) d)) = _
  rw [h, V_v2, shapeCast_apply _ _ _ (ix2 (batchAt t) d) (by rw [Shape.rowMajor_val_two, Shape.rowMajor_val_three]; show t.val / 16 * 2048 + d.val = (t.val / 16 * 1 + 0) * 2048 + d.val; omega)]

/-- The result array. -/
def arr (c : Dev nD) : Vec Ideal S2x8192x2048 .f32 := fun i => result (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem flushed_eq (c : Dev nD) (t : Fin cfg0.N) :
    (dats m 0 c).flushed 5 t = ((cfg0.win 5).blk t).view.read (Elt Ideal) (arr m c) := by
  have hN := lt_N t
  rw [Cert.OutCIdeal.Value.flushed5]
  funext x
  obtain ⟨a, r, d, rfl⟩ : ∃ (a : Fin 1) (r : Fin 512) (d : Fin 2048), x = ix3 a r d := ⟨x 0, x 1, x 2, (ix3_eta x).symm⟩
  have ha : a = (0 : Fin 1) := Fin.ext (by have := a.isLt; show a.val = 0; omega)
  subst ha
  show out0_5 _ _ _ _ _ (ix3 (0 : Fin 1) r d) = arr m c (((cfg0.win 5).blk t).view.emb (ix3 (0 : Fin 1) r d))
  have e := index_5 t
  have e0 : ((cfg0.win 5).blk t).view.emb (ix3 (0 : Fin 1) r d) = ix3 (batchAt t) (rowAt t r) d := by
    refine funext fun a => Fin.ext ?_
    show win0_5.index t a * win0_5.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show 0 * 2048 + 1 * d.val = d.val; omega
  rw [e0]
  refine (out_apply _ _ _ _ _ r d).trans ?_
  exact congrArg₂ (· + ·) (read2 m c t r d) (congrArg₂ (· * ·) (read4 m c t d)
    (congrArg₂ (fun u w => rms u w d) (funext fun e => Finset.sum_congr rfl fun k _ => congrArg₂ (· * ·) (read0 m c t r k) (read1 m c t k e)) (funext fun e => read3 m c t e)))

theorem mem_blk (t : Fin cfg0.N) (i : S2x8192x2048.Idx) :
    i ∈ ((cfg0.win 5).blk t).view.set ↔ t.val / 16 = (i 0).val ∧ t.val % 16 = (i 1).val / 512 := by
  show i ∈ ((View.whole main_v3).slice (win0_5.rect t)).set ↔ _
  rw [View.set_slice_whole, Rect.mem_set_unit]
  have e := index_5 t
  have hN := lt_N t
  have h0 : (i 0).val < 2 := (i 0).isLt
  have h1 : (i 1).val < 8192 := (i 1).isLt
  have h2 : (i 2).val < 2048 := (i 2).isLt
  have key : (∀ a : Fin 3, (![(t.val / 16) * 1, (t.val % 16) * 512, (0) * 2048] : Fin 3 → ℕ) a ≤ (i a).val
      ∧ (i a).val < (![(t.val / 16) * 1, (t.val % 16) * 512, (0) * 2048] : Fin 3 → ℕ) a + (![1, 512, 2048] : Fin 3 → ℕ) a)
      ↔ t.val / 16 = (i 0).val ∧ t.val % 16 = (i 1).val / 512 := by
    constructor
    · intro h
      have k0 : (t.val / 16) * 1 ≤ (i 0).val ∧ (i 0).val < (t.val / 16) * 1 + 1 := h 0
      have k1 : (t.val % 16) * 512 ≤ (i 1).val ∧ (i 1).val < (t.val % 16) * 512 + 512 := h 1
      have k2 : (0) * 2048 ≤ (i 2).val ∧ (i 2).val < (0) * 2048 + 2048 := h 2
      omega
    · intro h a
      fin_cases a
      · show (t.val / 16) * 1 ≤ (i 0).val ∧ (i 0).val < (t.val / 16) * 1 + 1; omega
      · show (t.val % 16) * 512 ≤ (i 1).val ∧ (i 1).val < (t.val % 16) * 512 + 512; omega
      · show (0) * 2048 ≤ (i 2).val ∧ (i 2).val < (0) * 2048 + 2048; omega
  rw [← key]
  refine forall_congr' fun a => ?_
  have o : win0_5.index t a * win0_5.size a = (![(t.val / 16) * 1, (t.val % 16) * 512, (0) * 2048] : Fin 3 → ℕ) a := by
    rw [e]; fin_cases a <;> rfl
  have z : win0_5.xsize (grid0.coords t) a = (![1, 512, 2048] : Fin 3 → ℕ) a := by fin_cases a <;> rfl
  show (win0_5.index t a * win0_5.size a ≤ (i a).val ∧ (i a).val < win0_5.index t a * win0_5.size a + win0_5.xsize (grid0.coords t) a) ↔ _
  rw [o, z]

theorem cover (i : S2x8192x2048.Idx) : ∃ t : Fin cfg0.N, (cfg0.win 5).flush t = true ∧ i ∈ ((cfg0.win 5).blk t).view.set := by
  have h0 : (i 0).val < 2 := (i 0).isLt
  have h1 : (i 1).val < 8192 := (i 1).isLt
  have hN : cfg0.N = 32 := rfl
  refine ⟨⟨(i 0).val * 16 + (i 1).val / 512, by omega⟩, flush0_5 _, ?_⟩
  rw [mem_blk]
  dsimp only
  omega

/-- After the run the result array holds the out-projection of the arguments. -/
theorem final (c : Dev nD) : (dats m 0 c).arrAt 5 cfg0.N = arr m c :=
  (dats m 0 c).arrAt_eq_of_cover 5 (arr m c) (fun t _ => flushed_eq m c t) cover

end Cert.OutCKernel
end
-- ==== Proof.OutCRef.lean ====
module

public import proofs.«01_k».proof.Proof.Gen.OutCRefIdeal.Read
public import proofs.«01_k».proof.Proof.OutCKernel
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The out-projection's reference, read at an index. -/

@[expose] public section

set_option maxRecDepth 16384

noncomputable section

namespace Cert.OutCRef

open Cert.OutCRefIdeal Cert.OutCRefIdeal.Gen Cert.OutCRefIdeal.Read Idealize.ShloMosaic
open Cert.OutCKernel (rms result)

theorem product_at (x0 : FVec Ideal S2x8192x2048 .bf16) (x1 : FVec Ideal S2048x2048 .f32) (b : Fin 2) (n : Fin 8192) (d : Fin 2048) :
    val_main_v1 (F := Ideal) x0 x1 (ix3 b n d) = ∑ k : Fin 2048, x0 (ix3 b n k) * x1 (ix2 k d) := by
  rw [val_main_v1_apply]
  refine Finset.sum_congr rfl fun k _ => congrArg₂ (· * ·) ?_ ?_
  · rw [val_main_v0_apply]
    exact congrArg x0 (funext fun a => Fin.ext (by fin_cases a <;> rfl))
  · exact congrArg x1 (funext fun a => Fin.ext (by fin_cases a <;> rfl))

theorem result_at (x0 : FVec Ideal S2x8192x2048 .bf16) (x1 : FVec Ideal S2048x2048 .f32) (x2 : FVec Ideal S2x8192x2048 .f32) (x3 : FVec Ideal S2048 .f32) (x4 : FVec Ideal S2x2048 .f32) (b : Fin 2) (n : Fin 8192) (d : Fin 2048) :
    val_main_v18 (F := Ideal) x0 x1 x2 x3 x4 (ix3 b n d) = result x0 x1 x2 x3 x4 b n d := by
  unfold result rms
  simp only [← product_at x0 x1 b n]
  unfold val_main_v18 val_main_v17 val_main_v15 val_main_v12 val_main_v11 val_main_v10 val_main_v9 val_main_v7 val_main_v5 val_main_v4 val_main_v3
  generalize val_main_v1 (F := Ideal) x0 x1 = y
  pointwise [val_main_v16, val_main_v14, val_main_v13, val_main_v8, val_main_cst_1, val_main_v6, val_main_cst_0, val_main_cst, val_main_v2]

end Cert.OutCRef
end
-- ==== Proof.OutCClaim.lean ====
module

public import proofs.«01_k».proof.Defs
public import proofs.«01_k».proof.Proof.OutCKernel
public import proofs.«01_k».proof.Proof.OutCRef
public import proofs.«01_k».proof.Proof.Gen.OutC.Frame
public import Idealize.ShloMosaic.Lib.Quiescent

/-! The claim about the differential attention's out-projection: the kernel and the reference end with the same result. -/

@[expose] public section

set_option maxRecDepth 16384

noncomputable section

namespace Cert.OutCClaim

open Idealize.ShloMosaic Idealize.ShloMosaic.TcCoe Idealize.SL.Sem

/-- The kernel's and the reference's results agree on every memory. -/
theorem algebraic : Cert.algebraic_OutCIdeal_OutCRefIdeal := by
  intro m ρ m' ρ' _ hagree
  refine ⟨fun c => Cert.OutCKernel.arr m c, ?_, ?_⟩
  · exact (θ_run Cert.OutCIdeal.defs _ _).mono (fun _ h c => ⟨(h c).1.trans (Cert.OutCKernel.final m c), (h c).2⟩)
      (Cert.OutCIdeal.Value.run_blocks (F := Ideal) m ρ)
  · refine (θ_run Cert.OutCRefIdeal.defs _ _).mono (fun _ h c => ⟨(h c).1.trans ?_, (h c).2⟩)
      (Cert.OutCRefIdeal.Value.run (F := Ideal) m' ρ')
    obtain ⟨h0, h1, h2, h3, h4⟩ := hagree c
    rw [Cert.OutCRefIdeal.Read.val_main_v18_eq, h0, h1, h2, h3, h4]
    funext i
    have e : i = ix3 (i 0) (i 1) (i 2) := (ix3_eta i).symm
    exact (congrArg _ e).trans (Cert.OutCRef.result_at _ _ _ _ _ (i 0) (i 1) (i 2))

end Cert.OutCClaim
end
-- ==== Proof.OutAbKernel.lean ====
module

public import proofs.«01_k».proof.Proof.Gen.OutAbIdeal.Frame
public import proofs.«01_k».proof.Proof.Gen.OutAbIdeal.Value
public import Idealize.ShloMosaic.PureOps.Ideal
public import Idealize.ShloMosaic.Lib.ValueIdx
public import Idealize.ShloMosaic.Lib.Pointwise
public import Idealize.ShloMosaic.Lib.IdealHost
public import Idealize.ShloMosaic.Lib.Pipeline.Value
public import Idealize.ShloMosaic.Lib.StableHlo.Run

/-! The latent stream's out-projection of the attention's and the Hyena operator's results: the call's result array after the run,
as one function of the argument arrays. -/

@[expose] public section

set_option maxRecDepth 16384

noncomputable section

namespace Cert.OutAbKernel

open Cert.OutAbIdeal Cert.OutAbIdeal.Gen Idealize.ShloMosaic Idealize.ShloMosaic.TcCoe Idealize.SL.Sem
open Idealize.ShloMosaic.Pipeline (Dat)

/-- A row divided by its root mean square, times weights. -/
def rms (x g : Fin 2048 → EReal) (d : Fin 2048) : EReal :=
  x d * Ideal.rsqrt (Ideal.div (∑ e, x e * x e) (Ideal.ofBits FTy.f32 0x45000000#32) + Ideal.ofBits FTy.f32 0x358637BD#32) * g d

/-- A row of the weights' first half, and of the second. -/
def low (k : Fin 1024) : Fin 2048 := ⟨k.val, by have := k.isLt; omega⟩
def high (k : Fin 1024) : Fin 2048 := ⟨1024 + k.val, by have := k.isLt; omega⟩

/-- The two products of a row, added. -/
def product (o : Vec Ideal S2x8192x1024 .bf16) (y : Vec Ideal S2x8192x1024 .f32) (w : Vec Ideal S2048x2048 .f32) (b : Fin 2) (n : Fin 8192) (d : Fin 2048) : EReal :=
  (∑ k : Fin 1024, o (ix3 b n k) * w (ix2 (low k) d)) + ∑ k : Fin 1024, y (ix3 b n k) * w (ix2 (high k) d)

/-- The result: the input plus the gated, normalised product with the weights. -/
def result (o : Vec Ideal S2x8192x1024 .bf16) (y : Vec Ideal S2x8192x1024 .f32) (w : Vec Ideal S2048x2048 .f32) (x : Vec Ideal S2x8192x2048 .f32) (g : Vec Ideal S2048 .f32) (gate : Vec Ideal S2x2048 .f32)
    (b : Fin 2) (n : Fin 8192) (d : Fin 2048) : EReal :=
  x (ix3 b n d) + gate (ix2 b d) * rms (product o y w b n) (fun e => g (ix1 e)) d

theorem pay_apply (o : Vec Ideal S1x512x1024 .bf16) (y : Vec Ideal S1x512x1024 .f32) (w v : Vec Ideal S1024x2048 .bf16) (x : Vec Ideal S1x512x2048 .f32) (gate : Vec Ideal S1x1x2048 .f32) (g : Vec Ideal S1x2048 .f32) (r : Fin 512) (d : Fin 2048) :
    k0_pay1 (k0_pay2 o w y v x gate g) (ix3 0 r d)
      = x (ix3 0 r d) + gate (ix3 0 0 d) * rms (fun e => (∑ k : Fin 1024, o (ix3 0 r k) * w (ix2 k e)) + ∑ k : Fin 1024, y (ix3 0 r k) * v (ix2 k e)) (fun e => g (ix2 0 e)) d := by
  pointwise [k0_pay1, k0_pay2, rms, add_zero]

theorem zeros2 : (![0, 0] : Fin 2 → ℕ) = fun _ => 0 := funext fun a => by fin_cases a <;> rfl
theorem zeros3 : (![0, 0, 0] : Fin 3 → ℕ) = fun _ => 0 := funext fun a => by fin_cases a <;> rfl

theorem out_apply (o : Vec Ideal S1x512x1024 .bf16) (y : Vec Ideal S1x512x1024 .f32) (w v : Vec Ideal S1024x2048 .bf16) (x : Vec Ideal S1x512x2048 .f32) (g : Vec Ideal S1x2048 .f32) (gate : Vec Ideal S1x1x2048 .f32) (r : Fin 512) (d : Fin 2048) :
    out0_7 o y w v x g gate (ix3 0 r d)
      = x (ix3 0 r d) + gate (ix3 0 0 d) * rms (fun e => (∑ k : Fin 1024, o (ix3 0 r k) * w (ix2 k e)) + ∑ k : Fin 1024, y (ix3 0 r k) * v (ix2 k e)) (fun e => g (ix2 0 e)) d := by
  unfold out0_7
  simp only [View.ld_unit_zero (Val := Elt Ideal) (S := S1x512x1024) (e := .bf16) (off := ![0,0,0]) zeros3, View.ld_unit_zero (Val := Elt Ideal) (S := S1x512x1024) (e := .f32) (off := ![0,0,0]) zeros3, View.ld_unit_zero (Val := Elt Ideal) (S := S1x512x2048) (e := .f32) (off := ![0,0,0]) zeros3, View.ld_unit_zero (Val := Elt Ideal) (S := S1024x2048) (e := .bf16) (off := ![0,0]) zeros2, View.ld_unit_zero (Val := Elt Ideal) (S := S1x2048) (e := .f32) (off := ![0,0]) zeros2, View.ld_unit_zero (Val := Elt Ideal) (S := S1x1x2048) (e := .f32) (off := ![0,0,0]) zeros3]
  exact (congrFun (View.canon_unit_zero (Val := Elt Ideal) (S := S1x512x2048) (e := .f32) zeros3 _ _) _).trans (pay_apply o y w v x gate g r d)

variable (m : (ℓ : Loc nD τ sig) → Buf (Elt Ideal) ℓ)

theorem lt_N (t : Fin cfg0.N) : t.val < 32 := t.isLt

def batchAt (t : Fin cfg0.N) : Fin 2 := ⟨t.val / 16, by have := lt_N t; omega⟩
def rowAt (t : Fin cfg0.N) (r : Fin 512) : Fin 8192 := ⟨t.val % 16 * 512 + r.val, by have := r.isLt; omega⟩

theorem index_0 : ∀ t : Fin grid0.N, win0_0.index t = ![t.val / 16, t.val % 16, 0] := by decide +kernel
theorem index_1 : ∀ t : Fin grid0.N, win0_1.index t = ![t.val / 16, t.val % 16, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![t.val / 16, t.val % 16, 0] := by decide +kernel
theorem index_5 : ∀ t : Fin grid0.N, win0_5.index t = ![0, 0] := by decide +kernel
theorem index_6 : ∀ t : Fin grid0.N, win0_6.index t = ![t.val / 16, 0, 0] := by decide +kernel
theorem index_7 : ∀ t : Fin grid0.N, win0_7.index t = ![t.val / 16, t.val % 16, 0] := by decide +kernel

theorem V_v1 (c : Dev nD) : V m c main_v1 = extractStridedSlice S1024x2048 ![0, 0] (truncf .bf16 (m ((c : Thread nD τ).loc main_arg2)) bitsLt_bf16_f32 : FVec Ideal S2048x2048 .bf16) slices_S2048x2048_S1024x2048_0_0 := by
  show StableHlo.after hostOps0 _ _ = _
  after_results
theorem V_v2 (c : Dev nD) : V m c main_v2 = extractStridedSlice S1024x2048 ![1024, 0] (truncf .bf16 (m ((c : Thread nD τ).loc main_arg2)) bitsLt_bf16_f32 : FVec Ideal S2048x2048 .bf16) slices_S2048x2048_S1024x2048_1024_0 := by
  show StableHlo.after hostOps0 _ _ = _
  after_results
theorem V_v3 (c : Dev nD) : V m c main_v3 = shapeCast S1x2048 (m ((c : Thread nD τ).loc main_arg4)) shapeCasts_S2048_S1x2048 := by
  show StableHlo.after hostOps0 _ _ = _
  after_results
  rfl
theorem V_v4 (c : Dev nD) : V m c main_v4 = shapeCast S2x1x2048 (m ((c : Thread nD τ).loc main_arg5)) shapeCasts_S2x2048_S2x1x2048 := by
  show StableHlo.after hostOps0 _ _ = _
  after_results
  rfl

theorem read0 (c : Dev nD) (t : Fin cfg0.N) (r : Fin 512) (d : Fin 1024) :
    iblk m c 0 t (ix3 (0 : Fin 1) r d) = (m ((c : Thread nD τ).loc main_arg0)) (ix3 (batchAt t) (rowAt t r) d) := by
  have e := index_0 t
  have hN := lt_N t
  have h : ((cfg0.win 0).blk t).view.emb (ix3 (0 : Fin 1) r d) = (ix3 (batchAt t) (rowAt t r) d) := by
    refine funext fun a => Fin.ext ?_
    show win0_0.index t a * win0_0.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 1024 + 1 * d.val = d.val; omega
  show V m c main_arg0 (((cfg0.win 0).blk t).view.emb (ix3 (0 : Fin 1) r d)) = _
  rw [h, V_main_arg0]

theorem read1 (c : Dev nD) (t : Fin cfg0.N) (r : Fin 512) (d : Fin 1024) :
    iblk m c 1 t (ix3 (0 : Fin 1) r d) = (m ((c : Thread nD τ).loc main_arg1)) (ix3 (batchAt t) (rowAt t r) d) := by
  have e := index_1 t
  have hN := lt_N t
  have h : ((cfg0.win 1).blk t).view.emb (ix3 (0 : Fin 1) r d) = (ix3 (batchAt t) (rowAt t r) d) := by
    refine funext fun a => Fin.ext ?_
    show win0_1.index t a * win0_1.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 1024 + 1 * d.val = d.val; omega
  show V m c main_arg1 (((cfg0.win 1).blk t).view.emb (ix3 (0 : Fin 1) r d)) = _
  rw [h, V_main_arg1]

theorem read4 (c : Dev nD) (t : Fin cfg0.N) (r : Fin 512) (d : Fin 2048) :
    iblk m c 4 t (ix3 (0 : Fin 1) r d) = (m ((c : Thread nD τ).loc main_arg3)) (ix3 (batchAt t) (rowAt t r) d) := by
  have e := index_4 t
  have hN := lt_N t
  have h : ((cfg0.win 4).blk t).view.emb (ix3 (0 : Fin 1) r d) = (ix3 (batchAt t) (rowAt t r) d) := by
    refine funext fun a => Fin.ext ?_
    show win0_4.index t a * win0_4.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 2048 + 1 * d.val = d.val; omega
  show V m c main_arg3 (((cfg0.win 4).blk t).view.emb (ix3 (0 : Fin 1) r d)) = _
  rw [h, V_main_arg3]

theorem read2 (c : Dev nD) (t : Fin cfg0.N) (k : Fin 1024) (d : Fin 2048) :
    iblk m c 2 t (ix2 k d) = (m ((c : Thread nD τ).loc main_arg2)) (ix2 (low k) d) := by
  have e := index_2 t
  have hN := lt_N t
  have h : ((cfg0.win 2).blk t).view.emb (ix2 k d) = (ix2 k d) := by
    refine funext fun a => Fin.ext ?_
    show win0_2.index t a * win0_2.size a + 1 * ((ix2 k d) a).val = _
    rw [e]
    fin_cases a
    · show (0) * 1024 + 1 * k.val = k.val; omega
    · show (0) * 2048 + 1 * d.val = d.val; omega
  show V m c main_v1 (((cfg0.win 2).blk t).view.emb (ix2 k d)) = _
  rw [h, V_v1]
  show (m ((c : Thread nD τ).loc main_arg2)) _ = _
  refine congrArg _ (funext fun a => Fin.ext ?_)
  fin_cases a
  · show 0 + k.val = k.val; omega
  · show 0 + d.val = d.val; omega

theorem read3 (c : Dev nD) (t : Fin cfg0.N) (k : Fin 1024) (d : Fin 2048) :
    iblk m c 3 t (ix2 k d) = (m ((c : Thread nD τ).loc main_arg2)) (ix2 (high k) d) := by
  have e := index_3 t
  have hN := lt_N t
  have h : ((cfg0.win 3).blk t).view.emb (ix2 k d) = (ix2 k d) := by
    refine funext fun a => Fin.ext ?_
    show win0_3.index t a * win0_3.size a + 1 * ((ix2 k d) a).val = _
    rw [e]
    fin_cases a
    · show (0) * 1024 + 1 * k.val = k.val; omega
    · show (0) * 2048 + 1 * d.val = d.val; omega
  show V m c main_v2 (((cfg0.win 3).blk t).view.emb (ix2 k d)) = _
  rw [h, V_v2]
  show (m ((c : Thread nD τ).loc main_arg2)) _ = _
  refine congrArg _ (funext fun a => Fin.ext ?_)
  fin_cases a
  · show 1024 + k.val = 1024 + k.val; rfl
  · show 0 + d.val = d.val; omega

theorem read5 (c : Dev nD) (t : Fin cfg0.N) (d : Fin 2048) :
    iblk m c 5 t (ix2 (0 : Fin 1) d) = (m ((c : Thread nD τ).loc main_arg4)) (ix1 d) := by
  have e := index_5 t
  have hN := lt_N t
  have h : ((cfg0.win 5).blk t).view.emb (ix2 (0 : Fin 1) d) = (ix2 (0 : Fin 1) d) := by
    refine funext fun a => Fin.ext ?_
    show win0_5.index t a * win0_5.size a + 1 * ((ix2 (0 : Fin 1) d) a).val = _
    rw [e]
    fin_cases a
    · show (0) * 1 + 1 * 0 = 0; omega
    · show (0) * 2048 + 1 * d.val = d.val; omega
  show V m c main_v3 (((cfg0.win 5).blk t).view.emb (ix2 (0 : Fin 1) d)) = _
  rw [h, V_v3, shapeCast_apply _ _ _ (ix1 d) (by rw [Shape.rowMajor_val_one, Shape.rowMajor_val_two]; show d.val = 0 * 2048 + d.val; omega)]

theorem read6 (c : Dev nD) (t : Fin cfg0.N) (d : Fin 2048) :
    iblk m c 6 t (ix3 (0 : Fin 1) (0 : Fin 1) d) = (m ((c : Thread nD τ).loc main_arg5)) (ix2 (batchAt t) d) := by
  have e := index_6 t
  have hN := lt_N t
  have h : ((cfg0.win 6).blk t).view.emb (ix3 (0 : Fin 1) (0 : Fin 1) d) = (ix3 (batchAt t) (0 : Fin 1) d) := by
    refine funext fun a => Fin.ext ?_
    show win0_6.index t a * win0_6.size a + 1 * ((ix3 (0 : Fin 1) (0 : Fin 1) d) a).val = _
    rw [e]
    fin_cases a
    · show (t.val / 16) * 1 + 1 * 0 = t.val / 16; omega
    · show (0) * 1 + 1 * 0 = 0; omega
    · show (0) * 2048 + 1 * d.val = d.val; omega
  show V m c main_v4 (((cfg0.win 6).blk t).view.emb (ix3 (0 : Fin 1) (0 : Fin 1) d)) = _
  rw [h, V_v4, shapeCast_apply _ _ _ (ix2 (batchAt t) d) (by rw [Shape.rowMajor_val_two, Shape.rowMajor_val_three]; show t.val / 16 * 2048 + d.val = (t.val / 16 * 1 + 0) * 2048 + d.val; omega)]

/-- The result array. -/
def arr (c : Dev nD) : Vec Ideal S2x8192x2048 .f32 := fun i => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2)

theorem flushed_eq (c : Dev nD) (t : Fin cfg0.N) :
    (dats m 0 c).flushed 7 t = ((cfg0.win 7).blk t).view.read (Elt Ideal) (arr m c) := by
  have hN := lt_N t
  rw [Cert.OutAbIdeal.Value.flushed7]
  funext x
  obtain ⟨a, r, d, rfl⟩ : ∃ (a : Fin 1) (r : Fin 512) (d : Fin 2048), x = ix3 a r d := ⟨x 0, x 1, x 2, (ix3_eta x).symm⟩
  have ha : a = (0 : Fin 1) := Fin.ext (by have := a.isLt; show a.val = 0; omega)
  subst ha
  show out0_7 _ _ _ _ _ _ _ (ix3 (0 : Fin 1) r d) = arr m c (((cfg0.win 7).blk t).view.emb (ix3 (0 : Fin 1) r d))
  have e := index_7 t
  have e0 : ((cfg0.win 7).blk t).view.emb (ix3 (0 : Fin 1) r d) = ix3 (batchAt t) (rowAt t r) d := by
    refine funext fun a => Fin.ext ?_
    show win0_7.index t a * win0_7.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show 0 * 2048 + 1 * d.val = d.val; omega
  rw [e0]
  refine (out_apply _ _ _ _ _ _ _ r d).trans ?_
  exact congrArg₂ (· + ·) (read4 m c t r d) (congrArg₂ (· * ·) (read6 m c t d)
    (congrArg₂ (fun u w => rms u w d) (funext fun e => congrArg₂ (· + ·)
      (Finset.sum_congr rfl fun k _ => congrArg₂ (· * ·) (read0 m c t r k) (read2 m c t k e))
      (Finset.sum_congr rfl fun k _ => congrArg₂ (· * ·) (read1 m c t r k) (read3 m c t k e))) (funext fun e => read5 m c t e)))

theorem mem_blk (t : Fin cfg0.N) (i : S2x8192x2048.Idx) :
    i ∈ ((cfg0.win 7).blk t).view.set ↔ t.val / 16 = (i 0).val ∧ t.val % 16 = (i 1).val / 512 := by
  show i ∈ ((View.whole main_v5).slice (win0_7.rect t)).set ↔ _
  rw [View.set_slice_whole, Rect.mem_set_unit]
  have e := index_7 t
  have hN := lt_N t
  have h0 : (i 0).val < 2 := (i 0).isLt
  have h1 : (i 1).val < 8192 := (i 1).isLt
  have h2 : (i 2).val < 2048 := (i 2).isLt
  have key : (∀ a : Fin 3, (![(t.val / 16) * 1, (t.val % 16) * 512, (0) * 2048] : Fin 3 → ℕ) a ≤ (i a).val
      ∧ (i a).val < (![(t.val / 16) * 1, (t.val % 16) * 512, (0) * 2048] : Fin 3 → ℕ) a + (![1, 512, 2048] : Fin 3 → ℕ) a)
      ↔ t.val / 16 = (i 0).val ∧ t.val % 16 = (i 1).val / 512 := by
    constructor
    · intro h
      have k0 : (t.val / 16) * 1 ≤ (i 0).val ∧ (i 0).val < (t.val / 16) * 1 + 1 := h 0
      have k1 : (t.val % 16) * 512 ≤ (i 1).val ∧ (i 1).val < (t.val % 16) * 512 + 512 := h 1
      have k2 : (0) * 2048 ≤ (i 2).val ∧ (i 2).val < (0) * 2048 + 2048 := h 2
      omega
    · intro h a
      fin_cases a
      · show (t.val / 16) * 1 ≤ (i 0).val ∧ (i 0).val < (t.val / 16) * 1 + 1; omega
      · show (t.val % 16) * 512 ≤ (i 1).val ∧ (i 1).val < (t.val % 16) * 512 + 512; omega
      · show (0) * 2048 ≤ (i 2).val ∧ (i 2).val < (0) * 2048 + 2048; omega
  rw [← key]
  refine forall_congr' fun a => ?_
  have o : win0_7.index t a * win0_7.size a = (![(t.val / 16) * 1, (t.val % 16) * 512, (0) * 2048] : Fin 3 → ℕ) a := by
    rw [e]; fin_cases a <;> rfl
  have z : win0_7.xsize (grid0.coords t) a = (![1, 512, 2048] : Fin 3 → ℕ) a := by fin_cases a <;> rfl
  show (win0_7.index t a * win0_7.size a ≤ (i a).val ∧ (i a).val < win0_7.index t a * win0_7.size a + win0_7.xsize (grid0.coords t) a) ↔ _
  rw [o, z]

theorem cover (i : S2x8192x2048.Idx) : ∃ t : Fin cfg0.N, (cfg0.win 7).flush t = true ∧ i ∈ ((cfg0.win 7).blk t).view.set := by
  have h0 : (i 0).val < 2 := (i 0).isLt
  have h1 : (i 1).val < 8192 := (i 1).isLt
  have hN : cfg0.N = 32 := rfl
  refine ⟨⟨(i 0).val * 16 + (i 1).val / 512, by omega⟩, flush0_7 _, ?_⟩
  rw [mem_blk]
  dsimp only
  omega

/-- After the run the result array holds the out-projection of the arguments. -/
theorem final (c : Dev nD) : (dats m 0 c).arrAt 7 cfg0.N = arr m c :=
  (dats m 0 c).arrAt_eq_of_cover 7 (arr m c) (fun t _ => flushed_eq m c t) cover

end Cert.OutAbKernel
end
-- ==== Proof.OutAbRef.lean ====
module

public import proofs.«01_k».proof.Proof.Gen.OutAbRefIdeal.Read
public import proofs.«01_k».proof.Proof.OutAbKernel
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The latent stream's out-projection's reference, read at an index. -/

@[expose] public section

set_option maxRecDepth 16384

noncomputable section

namespace Cert.OutAbRef

open Cert.OutAbRefIdeal Cert.OutAbRefIdeal.Gen Cert.OutAbRefIdeal.Read Idealize.ShloMosaic
open Cert.OutAbKernel (rms low high product result)

theorem low_at (x0 : FVec Ideal S2x8192x1024 .bf16) (x1 : FVec Ideal S2x8192x1024 .f32) (b : Fin 2) (n : Fin 8192) (k : Fin 1024) :
    val_main_v1 (F := Ideal) x0 x1 (ix3 b n (low k)) = x0 (ix3 b n k) := by
  unfold val_main_v1
  have hi : ∀ a : Fin 3, ((ix3 b n k : S2x8192x1024.Idx) a).val = ((ix3 b n (low k) : S2x8192x2048.Idx) a).val := fun a => by fin_cases a <;> rfl
  refine (concatenate_pair_apply_left (t := S2x8192x2048) (s₁ := S2x8192x1024) (s₂ := S2x8192x1024) 2 (val_main_v0 (F := Ideal) x0) x1 concatenates_S2x8192x1024_S2x8192x1024_S2x8192x2048_d2 (ix3 b n (low k)) rfl (ix3 b n k) hi).trans ?_
  rw [val_main_v0_apply]
  rfl

theorem high_at (x0 : FVec Ideal S2x8192x1024 .bf16) (x1 : FVec Ideal S2x8192x1024 .f32) (b : Fin 2) (n : Fin 8192) (k : Fin 1024) :
    val_main_v1 (F := Ideal) x0 x1 (ix3 b n (high k)) = x1 (ix3 b n k) := by
  unfold val_main_v1
  have hi : ∀ a : Fin 3, a ≠ 2 → ((ix3 b n k : S2x8192x1024.Idx) a).val = ((ix3 b n (high k) : S2x8192x2048.Idx) a).val := fun a h => by
    fin_cases a
    · rfl
    · rfl
    · exact absurd rfl h
  have ha : k.val + 1024 = 1024 + k.val := Nat.add_comm _ _
  exact concatenate_pair_apply_right (t := S2x8192x2048) (s₁ := S2x8192x1024) (s₂ := S2x8192x1024) 2 (val_main_v0 (F := Ideal) x0) x1 concatenates_S2x8192x1024_S2x8192x1024_S2x8192x2048_d2 (ix3 b n (high k)) rfl rfl (ix3 b n k) hi ha

/-- A sum over all columns, half by half. -/
theorem sum_halves (f : Fin 2048 → EReal) : ∑ k, f k = (∑ k, f (low k)) + ∑ k, f (high k) :=
  Fin.sum_univ_add (a := 1024) (b := 1024) f

theorem product_at (x0 : FVec Ideal S2x8192x1024 .bf16) (x1 : FVec Ideal S2x8192x1024 .f32) (x2 : FVec Ideal S2048x2048 .f32) (b : Fin 2) (n : Fin 8192) (d : Fin 2048) :
    val_main_v2 (F := Ideal) x0 x1 x2 (ix3 b n d) = product x0 x1 x2 b n d := by
  rw [val_main_v2_apply, sum_halves]
  unfold product
  have el : ∀ k : Fin 2048, lidx_main_v2 (ix3 b n d) k = ix3 b n k := fun k => funext fun a => Fin.ext (by fin_cases a <;> rfl)
  have er : ∀ k : Fin 2048, ridx_main_v2 (ix3 b n d) k = ix2 k d := fun k => funext fun a => Fin.ext (by fin_cases a <;> rfl)
  simp only [el, er, low_at, high_at]

theorem result_at (x0 : FVec Ideal S2x8192x1024 .bf16) (x1 : FVec Ideal S2x8192x1024 .f32) (x2 : FVec Ideal S2048x2048 .f32) (x3 : FVec Ideal S2x8192x2048 .f32) (x4 : FVec Ideal S2048 .f32) (x5 : FVec Ideal S2x2048 .f32) (b : Fin 2) (n : Fin 8192) (d : Fin 2048) :
    val_main_v19 (F := Ideal) x0 x1 x2 x3 x4 x5 (ix3 b n d) = result x0 x1 x2 x3 x4 x5 b n d := by
  unfold result rms
  simp only [← product_at x0 x1 x2 b n]
  unfold val_main_v19 val_main_v18 val_main_v16 val_main_v13 val_main_v12 val_main_v11 val_main_v10 val_main_v8 val_main_v6 val_main_v5 val_main_v4
  generalize val_main_v2 (F := Ideal) x0 x1 x2 = y
  pointwise [val_main_v17, val_main_v15, val_main_v14, val_main_v9, val_main_cst_1, val_main_v7, val_main_cst_0, val_main_cst, val_main_v3]

end Cert.OutAbRef
end
-- ==== Proof.OutAbClaim.lean ====
module

public import proofs.«01_k».proof.Defs
public import proofs.«01_k».proof.Proof.OutAbKernel
public import proofs.«01_k».proof.Proof.OutAbRef
public import proofs.«01_k».proof.Proof.Gen.OutAb.Frame
public import Idealize.ShloMosaic.Lib.Quiescent

/-! The claim about the latent stream's out-projection: the kernel and the reference end with the same result. -/

@[expose] public section

set_option maxRecDepth 16384

noncomputable section

namespace Cert.OutAbClaim

open Idealize.ShloMosaic Idealize.ShloMosaic.TcCoe Idealize.SL.Sem

/-- The kernel's and the reference's results agree on every memory. -/
theorem algebraic : Cert.algebraic_OutAbIdeal_OutAbRefIdeal := by
  intro m ρ m' ρ' _ hagree
  refine ⟨fun c => Cert.OutAbKernel.arr m c, ?_, ?_⟩
  · exact (θ_run Cert.OutAbIdeal.defs _ _).mono (fun _ h c => ⟨(h c).1.trans (Cert.OutAbKernel.final m c), (h c).2⟩)
      (Cert.OutAbIdeal.Value.run_blocks (F := Ideal) m ρ)
  · refine (θ_run Cert.OutAbRefIdeal.defs _ _).mono (fun _ h c => ⟨(h c).1.trans ?_, (h c).2⟩)
      (Cert.OutAbRefIdeal.Value.run (F := Ideal) m' ρ')
    obtain ⟨h0, h1, h2, h3, h4, h5⟩ := hagree c
    rw [Cert.OutAbRefIdeal.Read.val_main_v19_eq, h0, h1, h2, h3, h4, h5]
    funext i
    have e : i = ix3 (i 0) (i 1) (i 2) := (ix3_eta i).symm
    exact (congrArg _ e).trans (Cert.OutAbRef.result_at _ _ _ _ _ _ (i 0) (i 1) (i 2))

end Cert.OutAbClaim
end
-- ==== Proof.HyInKernel.lean ====
module

public import proofs.«01_k».proof.Proof.Gen.HyInIdeal.Frame
public import proofs.«01_k».proof.Proof.Gen.HyInIdeal.Value
public import Idealize.ShloMosaic.PureOps.Ideal
public import Idealize.ShloMosaic.Lib.ValueIdx
public import Idealize.ShloMosaic.Lib.Pointwise
public import Idealize.ShloMosaic.Lib.IdealHost
public import Idealize.ShloMosaic.Lib.Pipeline.Value
public import Idealize.ShloMosaic.Lib.StableHlo.Run

/-! The in-projection with its short convolution: the call's result array after the run, as one function of the argument arrays. -/

@[expose] public section

set_option maxRecDepth 16384

noncomputable section

namespace Cert.HyInKernel

open Cert.HyInIdeal Cert.HyInIdeal.Gen Idealize.ShloMosaic Idealize.ShloMosaic.TcCoe Idealize.SL.Sem
open Idealize.ShloMosaic.Pipeline (Dat)

/-- The rows with sixteen rows of zeros before and after them. -/
def ext (h : Vec Ideal S2x8192x2048 .bf16) (b : Fin 2) (k : ℕ) (d : Fin 2048) : EReal :=
  if p : 16 ≤ k ∧ k < 8208 then h (ix3 b (⟨k - 16, by omega⟩ : Fin 8192) d) else 0

/-- The weights' column of a channel: the first 1536 columns belong to another call. -/
def chan (f : Fin 3072) : Fin 4608 := ⟨1536 + f.val, by have := f.isLt; omega⟩

/-- The projection and the convolution of a row, at a channel. -/
def mixed (h : Vec Ideal S2x8192x2048 .bf16) (w : Vec Ideal S2048x4608 .f32) (cw : Vec Ideal S3x3072 .f32) (cb : Vec Ideal S3072 .f32) (b : Fin 2) (n : ℕ) (f : Fin 3072) : EReal :=
  cw (ix2 0 f) * (∑ d, ext h b (n + 15) d * w (ix2 d (chan f))) + cw (ix2 1 f) * (∑ d, ext h b (n + 16) d * w (ix2 d (chan f)))
    + cw (ix2 2 f) * (∑ d, ext h b (n + 17) d * w (ix2 d (chan f))) + cb (ix1 f)

/-- The channel of a stream and a place in it. -/
def place (j : Fin 3) (f : Fin 1024) : Fin 3072 := ⟨j.val * 1024 + f.val, by have := f.isLt; have := j.isLt; omega⟩

theorem row_before (r : ℕ) (h : r < 512) : (16 + r + 544 - 1) % 544 = r + 15 := by omega
theorem row_at (r : ℕ) : 16 + r = r + 16 := Nat.add_comm _ _
theorem row_after (r : ℕ) (h : r < 512) : (16 + r + 544 - 543) % 544 = r + 17 := by omega

/-- A row tile between the sixteen rows before it and the sixteen after it, as the call stacks them. -/
def stacked (p q : BitVec 1) (x1 : Vec Ideal S1x16x2048 .bf16) (x0 : Vec Ideal S1x512x2048 .bf16) (x2 : Vec Ideal S1x16x2048 .bf16) : FVec Ideal S544x2048 .bf16 :=
  concatenate S544x2048 0 [⟨S16x2048, (Scalar.select p (shapeCast S16x2048 x1 shapeCasts_S1x16x2048_S16x2048) (broadcast S16x2048 (Scalar.ofBits .bf16 0x0000#16 : Ideal .bf16)) : FVec Ideal S16x2048 .bf16)⟩, ⟨S512x2048, (shapeCast S512x2048 x0 shapeCasts_S1x512x2048_S512x2048 : FVec Ideal S512x2048 .bf16)⟩, ⟨S16x2048, (Scalar.select q (shapeCast S16x2048 x2 shapeCasts_S1x16x2048_S16x2048) (broadcast S16x2048 (Scalar.ofBits .bf16 0x0000#16 : Ideal .bf16)) : FVec Ideal S16x2048 .bf16)⟩] concatenates_S16x2048_S512x2048_S16x2048_S544x2048_d0

theorem select_apply (p : BitVec 1) (x : Vec Ideal S1x16x2048 .bf16) (r : Fin 16) (d : Fin 2048) :
    (Scalar.select p (shapeCast S16x2048 x shapeCasts_S1x16x2048_S16x2048) (broadcast S16x2048 (Scalar.ofBits .bf16 0x0000#16 : Ideal .bf16)) : FVec Ideal S16x2048 .bf16) (ix2 r d)
      = if p = 1#1 then x (ix3 0 r d) else 0 := by
  have hx : (shapeCast S16x2048 x shapeCasts_S1x16x2048_S16x2048 : FVec Ideal S16x2048 .bf16) (ix2 r d) = x (ix3 0 r d) :=
    shapeCast_apply x shapeCasts_S1x16x2048_S16x2048 (ix2 r d) (ix3 0 r d) (by rw [Shape.rowMajor_val_three, Shape.rowMajor_val_two]; show (0 * 16 + r.val) * 2048 + d.val = r.val * 2048 + d.val; omega)
  by_cases hp : p = 1#1
  · rw [if_pos hp]
    exact (congrFun (if_pos hp) _).trans hx
  · rw [if_neg hp]
    exact (congrFun (if_neg hp) _).trans Ideal.ofBits_zero_bf16

theorem stacked_before (p q : BitVec 1) (x1 x0 x2) (n : Fin 544) (r : Fin 16) (d : Fin 2048) (e : n.val = r.val) :
    stacked p q x1 x0 x2 (ix2 n d) = if p = 1#1 then x1 (ix3 0 r d) else 0 := by
  have hi : ∀ b : Fin 2, b ≠ 0 → ((ix2 r d : S16x2048.Idx) b).val = ((ix2 n d : S544x2048.Idx) b).val := fun b hb => by
    fin_cases b
    · exact absurd rfl hb
    · rfl
  refine Eq.trans ?_ (select_apply p x1 r d)
  exact concatenate_apply_piece (t := S544x2048) 0 [⟨S16x2048, (Scalar.select p (shapeCast S16x2048 x1 shapeCasts_S1x16x2048_S16x2048) (broadcast S16x2048 (Scalar.ofBits .bf16 0x0000#16 : Ideal .bf16)) : FVec Ideal S16x2048 .bf16)⟩, ⟨S512x2048, (shapeCast S512x2048 x0 shapeCasts_S1x512x2048_S512x2048 : FVec Ideal S512x2048 .bf16)⟩, ⟨S16x2048, (Scalar.select q (shapeCast S16x2048 x2 shapeCasts_S1x16x2048_S16x2048) (broadcast S16x2048 (Scalar.ofBits .bf16 0x0000#16 : Ideal .bf16)) : FVec Ideal S16x2048 .bf16)⟩] concatenates_S16x2048_S512x2048_S16x2048_S544x2048_d0 (ix2 n d) 0 (by show 0 < 3; omega) S16x2048 _ rfl rfl 0 (by rfl) (ix2 r d) hi (by show 0 + r.val = n.val; omega)

theorem stacked_main (p q : BitVec 1) (x1 x0 x2) (n : Fin 544) (r : Fin 512) (d : Fin 2048) (e : n.val = 16 + r.val) :
    stacked p q x1 x0 x2 (ix2 n d) = x0 (ix3 0 r d) := by
  have hi : ∀ b : Fin 2, b ≠ 0 → ((ix2 r d : S512x2048.Idx) b).val = ((ix2 n d : S544x2048.Idx) b).val := fun b hb => by
    fin_cases b
    · exact absurd rfl hb
    · rfl
  refine Eq.trans ?_ (shapeCast_apply x0 shapeCasts_S1x512x2048_S512x2048 (ix2 r d) (ix3 0 r d) (by rw [Shape.rowMajor_val_three, Shape.rowMajor_val_two]; show (0 * 512 + r.val) * 2048 + d.val = r.val * 2048 + d.val; omega))
  exact concatenate_apply_piece (t := S544x2048) 0 [⟨S16x2048, (Scalar.select p (shapeCast S16x2048 x1 shapeCasts_S1x16x2048_S16x2048) (broadcast S16x2048 (Scalar.ofBits .bf16 0x0000#16 : Ideal .bf16)) : FVec Ideal S16x2048 .bf16)⟩, ⟨S512x2048, (shapeCast S512x2048 x0 shapeCasts_S1x512x2048_S512x2048 : FVec Ideal S512x2048 .bf16)⟩, ⟨S16x2048, (Scalar.select q (shapeCast S16x2048 x2 shapeCasts_S1x16x2048_S16x2048) (broadcast S16x2048 (Scalar.ofBits .bf16 0x0000#16 : Ideal .bf16)) : FVec Ideal S16x2048 .bf16)⟩] concatenates_S16x2048_S512x2048_S16x2048_S544x2048_d0 (ix2 n d) 1 (by show 1 < 3; omega) S512x2048 _ rfl rfl 16 (by rfl) (ix2 r d) hi (by show 16 + r.val = n.val; omega)

theorem stacked_after (p q : BitVec 1) (x1 x0 x2) (n : Fin 544) (r : Fin 16) (d : Fin 2048) (e : n.val = 528 + r.val) :
    stacked p q x1 x0 x2 (ix2 n d) = if q = 1#1 then x2 (ix3 0 r d) else 0 := by
  have hi : ∀ b : Fin 2, b ≠ 0 → ((ix2 r d : S16x2048.Idx) b).val = ((ix2 n d : S544x2048.Idx) b).val := fun b hb => by
    fin_cases b
    · exact absurd rfl hb
    · rfl
  refine Eq.trans ?_ (select_apply q x2 r d)
  exact concatenate_apply_piece (t := S544x2048) 0 [⟨S16x2048, (Scalar.select p (shapeCast S16x2048 x1 shapeCasts_S1x16x2048_S16x2048) (broadcast S16x2048 (Scalar.ofBits .bf16 0x0000#16 : Ideal .bf16)) : FVec Ideal S16x2048 .bf16)⟩, ⟨S512x2048, (shapeCast S512x2048 x0 shapeCasts_S1x512x2048_S512x2048 : FVec Ideal S512x2048 .bf16)⟩, ⟨S16x2048, (Scalar.select q (shapeCast S16x2048 x2 shapeCasts_S1x16x2048_S16x2048) (broadcast S16x2048 (Scalar.ofBits .bf16 0x0000#16 : Ideal .bf16)) : FVec Ideal S16x2048 .bf16)⟩] concatenates_S16x2048_S512x2048_S16x2048_S544x2048_d0 (ix2 n d) 2 (by show 2 < 3; omega) S16x2048 _ rfl rfl 528 (by rfl) (ix2 r d) hi (by show 528 + r.val = n.val; omega)

/-- Three neighbouring rows of the projected tile weighted, and a bias. -/
def conv (H : Fin 544 → Fin 2048 → EReal) (w : Fin 2048 → EReal) (cw : Fin 3 → EReal) (cb : EReal) (r : Fin 512) : EReal :=
  cw 0 * (∑ d, H ⟨r.val + 15, by have := r.isLt; omega⟩ d * w d) + cw 1 * (∑ d, H ⟨r.val + 16, by have := r.isLt; omega⟩ d * w d)
    + cw 2 * (∑ d, H ⟨r.val + 17, by have := r.isLt; omega⟩ d * w d) + cb

def hasBefore (i : grid0.Coords) : BitVec 1 := Scalar.cmpi .sgt (BitVec.ofNat 32 (i 2).val) 0#32
def hasAfter (i : grid0.Coords) : BitVec 1 := Scalar.cmpi .slt (BitVec.ofNat 32 (i 2).val) 15#32

theorem pay_apply (i : grid0.Coords) (x1 : Vec Ideal S1x16x2048 .bf16) (x0 : Vec Ideal S1x512x2048 .bf16) (x2 : Vec Ideal S1x16x2048 .bf16) (w : Vec Ideal S2048x1024 .bf16) (cw : Vec Ideal S3x1024 .f32) (cb : Vec Ideal S1x1024 .f32) (r : Fin 512) (f : Fin 1024) :
    k0_pay1 (k0_pay2 i x1 x0 x2 w cw cb) (ix4 0 0 r f)
      = conv (fun n d => stacked (hasBefore i) (hasAfter i) x1 x0 x2 (ix2 n d)) (fun d => w (ix2 d f)) (fun j => cw (ix2 j f)) (cb (ix2 0 f)) r := by
  have h1 := row_before r.val r.isLt
  have h3 := row_after r.val r.isLt
  unfold k0_pay2
  dsimp only
  rw [show concatenate S544x2048 0 [⟨S16x2048, (Scalar.select (Scalar.cmpi .sgt (BitVec.ofNat 32 (i 2).val) 0#32) (shapeCast S16x2048 x1 shapeCasts_S1x16x2048_S16x2048) (broadcast S16x2048 (Scalar.ofBits .bf16 0x0000#16 : Ideal .bf16)) : FVec Ideal S16x2048 .bf16)⟩, ⟨S512x2048, (shapeCast S512x2048 x0 shapeCasts_S1x512x2048_S512x2048 : FVec Ideal S512x2048 .bf16)⟩, ⟨S16x2048, (Scalar.select (Scalar.cmpi .slt (BitVec.ofNat 32 (i 2).val) 15#32) (shapeCast S16x2048 x2 shapeCasts_S1x16x2048_S16x2048) (broadcast S16x2048 (Scalar.ofBits .bf16 0x0000#16 : Ideal .bf16)) : FVec Ideal S16x2048 .bf16)⟩] concatenates_S16x2048_S512x2048_S16x2048_S544x2048_d0 = stacked (hasBefore i) (hasAfter i) x1 x0 x2 from rfl]
  generalize stacked (hasBefore i) (hasAfter i) x1 x0 x2 = H
  pointwise [k0_pay1, add_zero]
  simp only [h1, h3]
  simp only [row_at]
  rfl

theorem zeros2 : (![0, 0] : Fin 2 → ℕ) = fun _ => 0 := funext fun a => by fin_cases a <;> rfl
theorem zeros3 : (![0, 0, 0] : Fin 3 → ℕ) = fun _ => 0 := funext fun a => by fin_cases a <;> rfl
theorem zeros4 : (![0, 0, 0, 0] : Fin 4 → ℕ) = fun _ => 0 := funext fun a => by fin_cases a <;> rfl

theorem out_apply (i : grid0.Coords) (x0 : Vec Ideal S1x512x2048 .bf16) (x1 : Vec Ideal S1x16x2048 .bf16) (x2 : Vec Ideal S1x16x2048 .bf16) (w : Vec Ideal S2048x1024 .bf16) (cw : Vec Ideal S3x1024 .f32) (cb : Vec Ideal S1x1024 .f32) (r : Fin 512) (f : Fin 1024) :
    out0_6 i x0 x1 x2 w cw cb (ix4 0 0 r f)
      = conv (fun n d => stacked (hasBefore i) (hasAfter i) x1 x0 x2 (ix2 n d)) (fun d => w (ix2 d f)) (fun j => cw (ix2 j f)) (cb (ix2 0 f)) r := by
  unfold out0_6
  simp only [View.ld_unit_zero (Val := Elt Ideal) (S := S1x512x2048) (e := .bf16) (off := ![0,0,0]) zeros3, View.ld_unit_zero (Val := Elt Ideal) (S := S1x16x2048) (e := .bf16) (off := ![0,0,0]) zeros3, View.ld_unit_zero (Val := Elt Ideal) (S := S2048x1024) (e := .bf16) (off := ![0,0]) zeros2, View.ld_unit_zero (Val := Elt Ideal) (S := S3x1024) (e := .f32) (off := ![0,0]) zeros2, View.ld_unit_zero (Val := Elt Ideal) (S := S1x1024) (e := .f32) (off := ![0,0]) zeros2]
  exact (congrFun (View.canon_unit_zero (Val := Elt Ideal) (S := S1x1x512x1024) (e := .f32) zeros4 _ _) _).trans (pay_apply i x1 x0 x2 w cw cb r f)

variable (m : (ℓ : Loc nD τ sig) → Buf (Elt Ideal) ℓ)

theorem lt_N (t : Fin cfg0.N) : t.val < 96 := t.isLt

def batchAt (t : Fin cfg0.N) : Fin 2 := ⟨t.val / 16 % 2, by omega⟩
def streamAt (t : Fin cfg0.N) : Fin 3 := ⟨t.val / 32, by have := lt_N t; omega⟩
def rowAt (t : Fin cfg0.N) (r : Fin 512) : Fin 8192 := ⟨t.val % 16 * 512 + r.val, by have := r.isLt; omega⟩
def beforeRow (t : Fin cfg0.N) (r : Fin 16) : Fin 8192 := ⟨(t.val % 16 * 32 - 1) * 16 + r.val, by have := r.isLt; omega⟩
def afterRow (t : Fin cfg0.N) (r : Fin 16) : Fin 8192 := ⟨min (t.val % 16 * 32 + 32) 511 * 16 + r.val, by have := r.isLt; omega⟩

theorem before_eq : ∀ t : Fin cfg0.N, hasBefore (grid0.coords t) = if t.val % 16 = 0 then 0#1 else 1#1 := by decide +kernel
theorem after_eq : ∀ t : Fin cfg0.N, hasAfter (grid0.coords t) = if t.val % 16 = 15 then 0#1 else 1#1 := by decide +kernel

theorem index_0 : ∀ t : Fin grid0.N, win0_0.index t = ![t.val / 16 % 2, t.val % 16, 0] := by decide +kernel
theorem index_1 : ∀ t : Fin grid0.N, win0_1.index t = ![t.val / 16 % 2, t.val % 16 * 32 - 1, 0] := by decide +kernel
theorem index_2 : ∀ t : Fin grid0.N, win0_2.index t = ![t.val / 16 % 2, min (t.val % 16 * 32 + 32) 511, 0] := by decide +kernel
theorem index_3 : ∀ t : Fin grid0.N, win0_3.index t = ![0, t.val / 32] := by decide +kernel
theorem index_4 : ∀ t : Fin grid0.N, win0_4.index t = ![0, t.val / 32] := by decide +kernel
theorem index_5 : ∀ t : Fin grid0.N, win0_5.index t = ![0, t.val / 32] := by decide +kernel
theorem index_6 : ∀ t : Fin grid0.N, win0_6.index t = ![t.val / 32, t.val / 16 % 2, t.val % 16, 0] := by decide +kernel

theorem V_v1 (c : Dev nD) : V m c main_v1 = (truncf .bf16 (extractStridedSlice S2048x3072 ![0, 1536] (m ((c : Thread nD τ).loc main_arg1)) slices_S2048x4608_S2048x3072_0_1536) bitsLt_bf16_f32 : FVec Ideal S2048x3072 .bf16) := by
  show StableHlo.after hostOps0 _ _ = _
  after_results
theorem V_v2 (c : Dev nD) : V m c main_v2 = shapeCast S1x3072 (m ((c : Thread nD τ).loc main_arg3)) shapeCasts_S3072_S1x3072 := by
  show StableHlo.after hostOps0 _ _ = _
  after_results
  rfl

theorem read0 (c : Dev nD) (t : Fin cfg0.N) (r : Fin 512) (d : Fin 2048) :
    iblk m c 0 t (ix3 (0 : Fin 1) r d) = (m ((c : Thread nD τ).loc main_arg0)) (ix3 (batchAt t) (rowAt t r) d) := by
  have e := index_0 t
  have hN := lt_N t
  have h : ((cfg0.win 0).blk t).view.emb (ix3 (0 : Fin 1) r d) = (ix3 (batchAt t) (rowAt t r) d) := by
    refine funext fun a => Fin.ext ?_
    show win0_0.index t a * win0_0.size a + 1 * ((ix3 (0 : Fin 1) r d) a).val = _
    rw [e]
    fin_cases a
    · show (t.val / 16 % 2) * 1 + 1 * 0 = t.val / 16 % 2; omega
    · show (t.val % 16) * 512 + 1 * r.val = t.val % 16 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (r : Fin 16) (d : Fin 2048) :
    iblk m c 1 t (ix3 (0 : Fin 1) r d) = (m ((c : Thread nD τ).loc main_arg0)) (ix3 (batchAt t) (beforeRow t r) d) := by
  have e := index_1 t
  have hN := lt_N t
  have h : ((cfg0.win 1).blk t).view.emb (ix3 (0 : Fin 1) r d) = (ix3 (batchAt t) (beforeRow t r) d) := by
    refine funext fun a => Fin.ext ?_
    show win0_1.index t a * win0_1.size a + 1 * ((ix3 (0 : Fin 1) r d) a).val = _
    rw [e]
    fin_cases a
    · show (t.val / 16 % 2) * 1 + 1 * 0 = t.val / 16 % 2; omega
    · show (t.val % 16 * 32 - 1) * 16 + 1 * r.val = (t.val % 16 * 32 - 1) * 16 + r.val; omega
    · show (0) * 2048 + 1 * d.val = d.val; omega
  show V m c main_arg0 (((cfg0.win 1).blk t).view.emb (ix3 (0 : Fin 1) r d)) = _
  rw [h, V_main_arg0]

theorem read2 (c : Dev nD) (t : Fin cfg0.N) (r : Fin 16) (d : Fin 2048) :
    iblk m c 2 t (ix3 (0 : Fin 1) r d) = (m ((c : Thread nD τ).loc main_arg0)) (ix3 (batchAt t) (afterRow t r) d) := by
  have e := index_2 t
  have hN := lt_N t
  have h : ((cfg0.win 2).blk t).view.emb (ix3 (0 : Fin 1) r d) = (ix3 (batchAt t) (afterRow t r) d) := by
    refine funext fun a => Fin.ext ?_
    show win0_2.index t a * win0_2.size a + 1 * ((ix3 (0 : Fin 1) r d) a).val = _
    rw [e]
    fin_cases a
    · show (t.val / 16 % 2) * 1 + 1 * 0 = t.val / 16 % 2; omega
    · show (min (t.val % 16 * 32 + 32) 511) * 16 + 1 * r.val = min (t.val % 16 * 32 + 32) 511 * 16 + r.val; omega
    · show (0) * 2048 + 1 * d.val = d.val; omega
  show V m c main_arg0 (((cfg0.win 2).blk t).view.emb (ix3 (0 : Fin 1) r d)) = _
  rw [h, V_main_arg0]

theorem read3 (c : Dev nD) (t : Fin cfg0.N) (k : Fin 2048) (f : Fin 1024) :
    iblk m c 3 t (ix2 k f) = (m ((c : Thread nD τ).loc main_arg1)) (ix2 k (chan (place (streamAt t) f))) := by
  have e := index_3 t
  have hN := lt_N t
  have h : ((cfg0.win 3).blk t).view.emb (ix2 k f) = (ix2 k (place (streamAt t) f)) := by
    refine funext fun a => Fin.ext ?_
    show win0_3.index t a * win0_3.size a + 1 * ((ix2 k f) a).val = _
    rw [e]
    fin_cases a
    · show (0) * 2048 + 1 * k.val = k.val; omega
    · show (t.val / 32) * 1024 + 1 * f.val = t.val / 32 * 1024 + f.val; omega
  show V m c main_v1 (((cfg0.win 3).blk t).view.emb (ix2 k f)) = _
  rw [h, V_v1]
  exact extractStridedSlice_apply ![0, 1536] (m ((c : Thread nD τ).loc main_arg1)) slices_S2048x4608_S2048x3072_0_1536 (ix2 k (place (streamAt t) f)) (ix2 k (chan (place (streamAt t) f))) (fun a => match a with
    | ⟨0, _⟩ => by show k.val = 0 + k.val; omega
    | ⟨1, _⟩ => rfl)

theorem read4 (c : Dev nD) (t : Fin cfg0.N) (k : Fin 3) (f : Fin 1024) :
    iblk m c 4 t (ix2 k f) = (m ((c : Thread nD τ).loc main_arg2)) (ix2 k (place (streamAt t) f)) := by
  have e := index_4 t
  have hN := lt_N t
  have h : ((cfg0.win 4).blk t).view.emb (ix2 k f) = (ix2 k (place (streamAt t) f)) := by
    refine funext fun a => Fin.ext ?_
    show win0_4.index t a * win0_4.size a + 1 * ((ix2 k f) a).val = _
    rw [e]
    fin_cases a
    · show (0) * 3 + 1 * k.val = k.val; omega
    · show (t.val / 32) * 1024 + 1 * f.val = t.val / 32 * 1024 + f.val; omega
  show V m c main_arg2 (((cfg0.win 4).blk t).view.emb (ix2 k f)) = _
  rw [h, V_main_arg2]

theorem read5 (c : Dev nD) (t : Fin cfg0.N) (f : Fin 1024) :
    iblk m c 5 t (ix2 (0 : Fin 1) f) = (m ((c : Thread nD τ).loc main_arg3)) (ix1 (place (streamAt t) f)) := by
  have e := index_5 t
  have hN := lt_N t
  have h : ((cfg0.win 5).blk t).view.emb (ix2 (0 : Fin 1) f) = (ix2 (0 : Fin 1) (place (streamAt t) f)) := by
    refine funext fun a => Fin.ext ?_
    show win0_5.index t a * win0_5.size a + 1 * ((ix2 (0 : Fin 1) f) a).val = _
    rw [e]
    fin_cases a
    · show (0) * 1 + 1 * 0 = 0; omega
    · show (t.val / 32) * 1024 + 1 * f.val = t.val / 32 * 1024 + f.val; omega
  show V m c main_v2 (((cfg0.win 5).blk t).view.emb (ix2 (0 : Fin 1) f)) = _
  rw [h, V_v2, shapeCast_apply _ _ _ (ix1 (place (streamAt t) f)) (by rw [Shape.rowMajor_val_one, Shape.rowMajor_val_two]; show t.val / 32 * 1024 + f.val = 0 * 3072 + (t.val / 32 * 1024 + f.val); omega)]

theorem rows_eq (c : Dev nD) (t : Fin cfg0.N) (n : Fin 544) (d : Fin 2048) :
    stacked (hasBefore (grid0.coords t)) (hasAfter (grid0.coords t)) (iblk m c 1 t) (iblk m c 0 t) (iblk m c 2 t) (ix2 n d)
      = ext (m ((c : Thread nD τ).loc main_arg0)) (batchAt t) (t.val % 16 * 512 + n.val) d := by
  have hn := n.isLt
  have hN := lt_N t
  unfold ext
  by_cases h0 : n.val < 16
  · refine (stacked_before _ _ _ _ _ n ⟨n.val, h0⟩ d rfl).trans ?_
    rw [before_eq]
    by_cases hi : t.val % 16 = 0
    · rw [if_pos hi, if_neg (by decide), dif_neg (by omega)]
    · rw [if_neg hi, if_pos rfl, dif_pos (by omega)]
      refine (read1 m c t ⟨n.val, h0⟩ d).trans ?_
      refine congrArg (fun k => (m ((c : Thread nD τ).loc main_arg0)) (ix3 (batchAt t) k d)) (Fin.ext ?_)
      show (t.val % 16 * 32 - 1) * 16 + n.val = t.val % 16 * 512 + n.val - 16
      omega
  by_cases h1 : n.val < 528
  · refine (stacked_main _ _ _ _ _ n ⟨n.val - 16, by omega⟩ d (by show n.val = 16 + (n.val - 16); omega)).trans ?_
    rw [dif_pos (by omega)]
    refine (read0 m c t ⟨n.val - 16, by omega⟩ d).trans ?_
    refine congrArg (fun k => (m ((c : Thread nD τ).loc main_arg0)) (ix3 (batchAt t) k d)) (Fin.ext ?_)
    show t.val % 16 * 512 + (n.val - 16) = t.val % 16 * 512 + n.val - 16
    omega
  · refine (stacked_after _ _ _ _ _ n ⟨n.val - 528, by omega⟩ d (by show n.val = 528 + (n.val - 528); omega)).trans ?_
    rw [after_eq]
    by_cases hi : t.val % 16 = 15
    · rw [if_pos hi, if_neg (by decide), dif_neg (by omega)]
    · rw [if_neg hi, if_pos rfl, dif_pos (by omega)]
      refine (read2 m c t ⟨n.val - 528, by omega⟩ d).trans ?_
      refine congrArg (fun k => (m ((c : Thread nD τ).loc main_arg0)) (ix3 (batchAt t) k d)) (Fin.ext ?_)
      show min (t.val % 16 * 32 + 32) 511 * 16 + (n.val - 528) = t.val % 16 * 512 + n.val - 16
      omega

/-- The result array. -/
def arr (c : Dev nD) : Vec Ideal S3x2x8192x1024 .f32 := fun i => mixed (m ((c : Thread nD τ).loc main_arg0)) (m ((c : Thread nD τ).loc main_arg1)) (m ((c : Thread nD τ).loc main_arg2)) (m ((c : Thread nD τ).loc main_arg3)) (i 1) (i 2).val (place (i 0) (i 3))

theorem flushed_eq (c : Dev nD) (t : Fin cfg0.N) :
    (dats m 0 c).flushed 6 t = ((cfg0.win 6).blk t).view.read (Elt Ideal) (arr m c) := by
  have hN := lt_N t
  rw [Cert.HyInIdeal.Value.flushed6]
  funext x
  obtain ⟨a, b, r, f, rfl⟩ : ∃ (a b : Fin 1) (r : Fin 512) (f : Fin 1024), x = ix4 a b r f := ⟨x 0, x 1, x 2, x 3, (ix4_eta x).symm⟩
  have ha : a = (0 : Fin 1) := Fin.ext (by have := a.isLt; show a.val = 0; omega)
  have hb : b = (0 : Fin 1) := Fin.ext (by have := b.isLt; show b.val = 0; omega)
  subst ha hb
  show out0_6 _ _ _ _ _ _ _ (ix4 (0 : Fin 1) (0 : Fin 1) r f) = arr m c (((cfg0.win 6).blk t).view.emb (ix4 (0 : Fin 1) (0 : Fin 1) r f))
  have e := index_6 t
  have e0 : ((cfg0.win 6).blk t).view.emb (ix4 (0 : Fin 1) (0 : Fin 1) r f) = ix4 (streamAt t) (batchAt t) (rowAt t r) f := by
    refine funext fun a => Fin.ext ?_
    show win0_6.index t a * win0_6.size a + 1 * ((ix4 (0 : Fin 1) (0 : Fin 1) r f) a).val = _
    rw [e]
    fin_cases a
    · show (t.val / 32) * 1 + 1 * 0 = t.val / 32; omega
    · show (t.val / 16 % 2) * 1 + 1 * 0 = t.val / 16 % 2; omega
    · show (t.val % 16) * 512 + 1 * r.val = t.val % 16 * 512 + r.val; omega
    · show 0 * 1024 + 1 * f.val = f.val; omega
  rw [e0]
  refine (out_apply _ _ _ _ _ _ _ r f).trans ?_
  have k : ∀ (n : Fin 544) (q : ℕ), q = t.val % 16 * 512 + n.val →
      (∑ d, stacked (hasBefore (grid0.coords t)) (hasAfter (grid0.coords t)) (iblk m c 1 t) (iblk m c 0 t) (iblk m c 2 t) (ix2 n d) * iblk m c 3 t (ix2 d f))
        = ∑ d, ext (m ((c : Thread nD τ).loc main_arg0)) (batchAt t) q d * (m ((c : Thread nD τ).loc main_arg1)) (ix2 d (chan (place (streamAt t) f))) := fun n q hq => by
    subst hq
    exact Finset.sum_congr rfl fun d _ => congrArg₂ (· * ·) (rows_eq m c t n d) (read3 m c t d f)
  unfold conv
  show _ = mixed _ _ _ _ (batchAt t) (t.val % 16 * 512 + r.val) (place (streamAt t) f)
  unfold mixed
  exact congrArg₂ (· + ·) (congrArg₂ (· + ·) (congrArg₂ (· + ·)
    (congrArg₂ (· * ·) (read4 m c t 0 f) (k _ _ (Nat.add_assoc _ _ _)))
    (congrArg₂ (· * ·) (read4 m c t 1 f) (k _ _ (Nat.add_assoc _ _ _))))
    (congrArg₂ (· * ·) (read4 m c t 2 f) (k _ _ (Nat.add_assoc _ _ _)))) (read5 m c t f)

theorem mem_blk (t : Fin cfg0.N) (i : S3x2x8192x1024.Idx) :
    i ∈ ((cfg0.win 6).blk t).view.set ↔ t.val / 32 = (i 0).val ∧ t.val / 16 % 2 = (i 1).val ∧ t.val % 16 = (i 2).val / 512 := by
  show i ∈ ((View.whole main_v3).slice (win0_6.rect t)).set ↔ _
  rw [View.set_slice_whole, Rect.mem_set_unit]
  have e := index_6 t
  have hN := lt_N t
  have h0 : (i 0).val < 3 := (i 0).isLt
  have h1 : (i 1).val < 2 := (i 1).isLt
  have h2 : (i 2).val < 8192 := (i 2).isLt
  have h3 : (i 3).val < 1024 := (i 3).isLt
  have key : (∀ a : Fin 4, (![(t.val / 32) * 1, (t.val / 16 % 2) * 1, (t.val % 16) * 512, (0) * 1024] : Fin 4 → ℕ) a ≤ (i a).val
      ∧ (i a).val < (![(t.val / 32) * 1, (t.val / 16 % 2) * 1, (t.val % 16) * 512, (0) * 1024] : Fin 4 → ℕ) a + (![1, 1, 512, 1024] : Fin 4 → ℕ) a)
      ↔ t.val / 32 = (i 0).val ∧ t.val / 16 % 2 = (i 1).val ∧ t.val % 16 = (i 2).val / 512 := by
    constructor
    · intro h
      have k0 : (t.val / 32) * 1 ≤ (i 0).val ∧ (i 0).val < (t.val / 32) * 1 + 1 := h 0
      have k1 : (t.val / 16 % 2) * 1 ≤ (i 1).val ∧ (i 1).val < (t.val / 16 % 2) * 1 + 1 := h 1
      have k2 : (t.val % 16) * 512 ≤ (i 2).val ∧ (i 2).val < (t.val % 16) * 512 + 512 := h 2
      have k3 : (0) * 1024 ≤ (i 3).val ∧ (i 3).val < (0) * 1024 + 1024 := h 3
      omega
    · intro h a
      fin_cases a
      · show (t.val / 32) * 1 ≤ (i 0).val ∧ (i 0).val < (t.val / 32) * 1 + 1; omega
      · show (t.val / 16 % 2) * 1 ≤ (i 1).val ∧ (i 1).val < (t.val / 16 % 2) * 1 + 1; omega
      · show (t.val % 16) * 512 ≤ (i 2).val ∧ (i 2).val < (t.val % 16) * 512 + 512; omega
      · show (0) * 1024 ≤ (i 3).val ∧ (i 3).val < (0) * 1024 + 1024; omega
  rw [← key]
  refine forall_congr' fun a => ?_
  have o : win0_6.index t a * win0_6.size a = (![(t.val / 32) * 1, (t.val / 16 % 2) * 1, (t.val % 16) * 512, (0) * 1024] : Fin 4 → ℕ) a := by
    rw [e]; fin_cases a <;> rfl
  have z : win0_6.xsize (grid0.coords t) a = (![1, 1, 512, 1024] : Fin 4 → ℕ) a := by fin_cases a <;> rfl
  show (win0_6.index t a * win0_6.size a ≤ (i a).val ∧ (i a).val < win0_6.index t a * win0_6.size a + win0_6.xsize (grid0.coords t) a) ↔ _
  rw [o, z]

theorem cover (i : S3x2x8192x1024.Idx) : ∃ t : Fin cfg0.N, (cfg0.win 6).flush t = true ∧ i ∈ ((cfg0.win 6).blk t).view.set := by
  have h0 : (i 0).val < 3 := (i 0).isLt
  have h1 : (i 1).val < 2 := (i 1).isLt
  have h2 : (i 2).val < 8192 := (i 2).isLt
  have hN : cfg0.N = 96 := rfl
  refine ⟨⟨(i 0).val * 32 + (i 1).val * 16 + (i 2).val / 512, by omega⟩, flush0_6 _, ?_⟩
  rw [mem_blk]
  dsimp only
  omega

/-- After the run the result array holds the projected and convolved streams. -/
theorem final (c : Dev nD) : (dats m 0 c).arrAt 6 cfg0.N = arr m c :=
  (dats m 0 c).arrAt_eq_of_cover 6 (arr m c) (fun t _ => flushed_eq m c t) cover

end Cert.HyInKernel
end
-- ==== Proof.HyInRef.lean ====
module

public import proofs.«01_k».proof.Proof.Gen.HyInRefIdeal.Read
public import proofs.«01_k».proof.Proof.HyInKernel
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The in-projection's reference, read at an index. -/

@[expose] public section

set_option maxRecDepth 16384

noncomputable section

namespace Cert.HyInRef

open Cert.HyInRefIdeal Cert.HyInRefIdeal.Gen Cert.HyInRefIdeal.Read Idealize.ShloMosaic
open Cert.HyInKernel (ext chan mixed place)

theorem product_at (x0 : FVec Ideal S2x8192x2048 .bf16) (x1 : FVec Ideal S2048x4608 .f32) (b : Fin 2) (n : Fin 8192) (f : Fin 3072) :
    val_main_v2 (F := Ideal) x0 x1 (ix3 b n f) = ∑ d : Fin 2048, x0 (ix3 b n d) * x1 (ix2 d (chan f)) := by
  rw [val_main_v2_apply]
  refine Finset.sum_congr rfl fun k _ => congrArg₂ (· * ·) ?_ ?_
  · rw [val_main_v0_apply]
    exact congrArg x0 (funext fun a => Fin.ext (by fin_cases a <;> rfl))
  · rw [val_main_v1_apply]
    exact congrArg x1 (funext fun a => Fin.ext (by fin_cases a <;> rfl))

theorem padded_at (x0 : FVec Ideal S2x8192x2048 .bf16) (x1 : FVec Ideal S2048x4608 .f32) (b : Fin 2) (n : Fin 8194) (f : Fin 3072) :
    val_main_v3 (F := Ideal) x0 x1 (ix3 b n f) = ∑ d, ext x0 b (n.val + 15) d * x1 (ix2 d (chan f)) := by
  have hn := n.isLt
  unfold val_main_v3
  by_cases h : 1 ≤ n.val ∧ n.val < 8193
  · refine (pad_apply_of_inside _ _ _ _ _ pads_S2x8192x3072_S2x8194x3072_000_110_000 h_S_ (ix3 b n f) (ix3 b (⟨n.val - 1, by omega⟩ : Fin 8192) f) ?_).trans ?_
    · intro a
      fin_cases a
      · show b.val = 0 + b.val * (0 + 1); omega
      · show n.val = 1 + (n.val - 1) * (0 + 1); omega
      · show f.val = 0 + f.val * (0 + 1); omega
    · rw [product_at]
      refine Finset.sum_congr rfl fun d _ => ?_
      unfold HyInKernel.ext
      rw [dif_pos (by omega)]
      have e : (⟨n.val - 1, by omega⟩ : Fin 8192) = (⟨n.val + 15 - 16, by omega⟩ : Fin 8192) := Fin.ext (by show n.val - 1 = n.val + 15 - 16; omega)
      rw [e]
  · refine (pad_apply_of_not_inside _ _ _ _ _ pads_S2x8192x3072_S2x8194x3072_000_110_000 h_S_ (ix3 b n f) (1 : Fin 3) ?_).trans ?_
    · show ¬(1 ≤ n.val ∧ (n.val - 1) % (0 + 1) = 0 ∧ (n.val - 1) / (0 + 1) < 8192)
      omega
    · refine Eq.trans ?_ (Finset.sum_eq_zero fun d _ => ?_).symm
      · exact sitofp_zero (φ := .f32)
      · unfold HyInKernel.ext
        rw [dif_neg (by omega)]
        exact zero_mul _

theorem mixed_at (x0 : FVec Ideal S2x8192x2048 .bf16) (x1 : FVec Ideal S2048x4608 .f32) (x2 : FVec Ideal S3x3072 .f32) (x3 : FVec Ideal S3072 .f32) (b : Fin 2) (n : Fin 8192) (f : Fin 3072) :
    val_main_v26 (F := Ideal) x0 x1 x2 x3 (ix3 b n f) = mixed x0 x1 x2 x3 b n.val f := by
  have hn := n.isLt
  have hf := f.isLt
  have e0 : idx_main_v4 (ix3 b n f) = ix3 b (⟨n.val, by omega⟩ : Fin 8194) f := funext fun a => Fin.ext (by fin_cases a <;> rfl)
  have e1 : idx_main_v10 (ix3 b n f) = ix3 b (⟨1 + n.val, by omega⟩ : Fin 8194) f := funext fun a => Fin.ext (by fin_cases a <;> rfl)
  have e2 : idx_main_v17 (ix3 b n f) = ix3 b (⟨2 + n.val, by omega⟩ : Fin 8194) f := funext fun a => Fin.ext (by fin_cases a <;> rfl)
  have w0 : val_main_v8 (F := Ideal) x2 (ix3 b n f) = x2 (ix2 0 f) := by
    rw [val_main_v8_apply, val_main_v7_apply, val_main_v6_apply, val_main_v5_apply]
    refine congrArg x2 (funext fun a => Fin.ext ?_)
    fin_cases a
    · rfl
    · show f.val % 3072 = f.val; omega
  have w1 : val_main_v14 (F := Ideal) x2 (ix3 b n f) = x2 (ix2 1 f) := by
    rw [val_main_v14_apply, val_main_v13_apply, val_main_v12_apply, val_main_v11_apply]
    refine congrArg x2 (funext fun a => Fin.ext ?_)
    fin_cases a
    · rfl
    · show f.val % 3072 = f.val; omega
  have w2 : val_main_v21 (F := Ideal) x2 (ix3 b n f) = x2 (ix2 2 f) := by
    rw [val_main_v21_apply, val_main_v20_apply, val_main_v19_apply, val_main_v18_apply]
    refine congrArg x2 (funext fun a => Fin.ext ?_)
    fin_cases a
    · rfl
    · show f.val % 3072 = f.val; omega
  have w3 : val_main_v25 (F := Ideal) x3 (ix3 b n f) = x3 (ix1 f) := by
    rw [val_main_v25_apply, val_main_v24_apply]
    exact congrArg x3 (funext fun a => Fin.ext (by fin_cases a; rfl))
  rw [val_main_v26_apply, val_main_v23_apply, val_main_v16_apply, val_main_v9_apply, val_main_v15_apply, val_main_v22_apply,
    val_main_v4_apply, val_main_v10_apply, val_main_v17_apply, e0, e1, e2, padded_at, padded_at, padded_at, w0, w1, w2, w3]
  unfold HyInKernel.mixed
  have k0 : ∀ (c : EReal) (u v w : EReal) (p q r : EReal), u * p + v * q + w * r + c = p * u + q * v + r * w + c := by
    intro c u v w p q r
    rw [mul_comm u, mul_comm v, mul_comm w]
  have a1 : 1 + n.val + 15 = n.val + 16 := by omega
  have a2 : 2 + n.val + 15 = n.val + 17 := by omega
  dsimp only
  rw [a1, a2]
  exact k0 _ _ _ _ _ _ _

theorem stream_0 (x0 : FVec Ideal S2x8192x2048 .bf16) (x1 : FVec Ideal S2048x4608 .f32) (x2 : FVec Ideal S3x3072 .f32) (x3 : FVec Ideal S3072 .f32) (b : Fin 2) (n : Fin 8192) (f : Fin 1024) :
    val_main_v33 (F := Ideal) x0 x1 x2 x3 (ix4 0 b n f) = mixed x0 x1 x2 x3 b n.val (place 0 f) := by
  have hf := f.isLt
  have hi : ∀ a : Fin 4, a ≠ 0 → ((ix4 0 b n f : S1x2x8192x1024.Idx) a).val = ((ix4 0 b n f : S3x2x8192x1024.Idx) a).val := fun a ha => by
    fin_cases a
    · exact absurd rfl ha
    · rfl
    · rfl
    · rfl
  unfold val_main_v33
  refine (concatenate_apply_piece (t := S3x2x8192x1024) 0 [⟨S1x2x8192x1024, val_main_v30 (F := Ideal) x0 x1 x2 x3⟩, ⟨S1x2x8192x1024, val_main_v31 (F := Ideal) x0 x1 x2 x3⟩, ⟨S1x2x8192x1024, val_main_v32 (F := Ideal) x0 x1 x2 x3⟩] concatenates_S1x2x8192x1024_S1x2x8192x1024_S1x2x8192x1024_S3x2x8192x1024_d0 (ix4 0 b n f) 0 (by show 0 < 3; omega) S1x2x8192x1024 (val_main_v30 (F := Ideal) x0 x1 x2 x3) rfl rfl 0 (by rfl) (ix4 0 b n f) hi (by rfl)).trans ?_
  rw [val_main_v30_apply, val_main_v27_apply]
  refine Eq.trans (congrArg _ ?_) (mixed_at x0 x1 x2 x3 b n (place 0 f))
  refine funext fun a => Fin.ext ?_
  fin_cases a
  · rfl
  · rfl
  · show f.val = 0 * 1024 + f.val; omega

theorem stream_1 (x0 : FVec Ideal S2x8192x2048 .bf16) (x1 : FVec Ideal S2048x4608 .f32) (x2 : FVec Ideal S3x3072 .f32) (x3 : FVec Ideal S3072 .f32) (b : Fin 2) (n : Fin 8192) (f : Fin 1024) :
    val_main_v33 (F := Ideal) x0 x1 x2 x3 (ix4 1 b n f) = mixed x0 x1 x2 x3 b n.val (place 1 f) := by
  have hf := f.isLt
  have hi : ∀ a : Fin 4, a ≠ 0 → ((ix4 0 b n f : S1x2x8192x1024.Idx) a).val = ((ix4 1 b n f : S3x2x8192x1024.Idx) a).val := fun a ha => by
    fin_cases a
    · exact absurd rfl ha
    · rfl
    · rfl
    · rfl
  unfold val_main_v33
  refine (concatenate_apply_piece (t := S3x2x8192x1024) 0 [⟨S1x2x8192x1024, val_main_v30 (F := Ideal) x0 x1 x2 x3⟩, ⟨S1x2x8192x1024, val_main_v31 (F := Ideal) x0 x1 x2 x3⟩, ⟨S1x2x8192x1024, val_main_v32 (F := Ideal) x0 x1 x2 x3⟩] concatenates_S1x2x8192x1024_S1x2x8192x1024_S1x2x8192x1024_S3x2x8192x1024_d0 (ix4 1 b n f) 1 (by show 1 < 3; omega) S1x2x8192x1024 (val_main_v31 (F := Ideal) x0 x1 x2 x3) rfl rfl 1 (by rfl) (ix4 0 b n f) hi (by rfl)).trans ?_
  rw [val_main_v31_apply, val_main_v28_apply]
  refine Eq.trans (congrArg _ ?_) (mixed_at x0 x1 x2 x3 b n (place 1 f))
  refine funext fun a => Fin.ext ?_
  fin_cases a
  · rfl
  · rfl
  · show 1024 + f.val = 1 * 1024 + f.val; omega

theorem stream_2 (x0 : FVec Ideal S2x8192x2048 .bf16) (x1 : FVec Ideal S2048x4608 .f32) (x2 : FVec Ideal S3x3072 .f32) (x3 : FVec Ideal S3072 .f32) (b : Fin 2) (n : Fin 8192) (f : Fin 1024) :
    val_main_v33 (F := Ideal) x0 x1 x2 x3 (ix4 2 b n f) = mixed x0 x1 x2 x3 b n.val (place 2 f) := by
  have hf := f.isLt
  have hi : ∀ a : Fin 4, a ≠ 0 → ((ix4 0 b n f : S1x2x8192x1024.Idx) a).val = ((ix4 2 b n f : S3x2x8192x1024.Idx) a).val := fun a ha => by
    fin_cases a
    · exact absurd rfl ha
    · rfl
    · rfl
    · rfl
  unfold val_main_v33
  refine (concatenate_apply_piece (t := S3x2x8192x1024) 0 [⟨S1x2x8192x1024, val_main_v30 (F := Ideal) x0 x1 x2 x3⟩, ⟨S1x2x8192x1024, val_main_v31 (F := Ideal) x0 x1 x2 x3⟩, ⟨S1x2x8192x1024, val_main_v32 (F := Ideal) x0 x1 x2 x3⟩] concatenates_S1x2x8192x1024_S1x2x8192x1024_S1x2x8192x1024_S3x2x8192x1024_d0 (ix4 2 b n f) 2 (by show 2 < 3; omega) S1x2x8192x1024 (val_main_v32 (F := Ideal) x0 x1 x2 x3) rfl rfl 2 (by rfl) (ix4 0 b n f) hi (by rfl)).trans ?_
  rw [val_main_v32_apply, val_main_v29_apply]
  refine Eq.trans (congrArg _ ?_) (mixed_at x0 x1 x2 x3 b n (place 2 f))
  refine funext fun a => Fin.ext ?_
  fin_cases a
  · rfl
  · rfl
  · show 2048 + f.val = 2 * 1024 + f.val; omega

theorem result_at (x0 : FVec Ideal S2x8192x2048 .bf16) (x1 : FVec Ideal S2048x4608 .f32) (x2 : FVec Ideal S3x3072 .f32) (x3 : FVec Ideal S3072 .f32) (j : Fin 3) (b : Fin 2) (n : Fin 8192) (f : Fin 1024) :
    val_main_v33 (F := Ideal) x0 x1 x2 x3 (ix4 j b n f) = mixed x0 x1 x2 x3 b n.val (place j f) := by
  fin_cases j
  · exact stream_0 x0 x1 x2 x3 b n f
  · exact stream_1 x0 x1 x2 x3 b n f
  · exact stream_2 x0 x1 x2 x3 b n f

end Cert.HyInRef
end
-- ==== Proof.HyInClaim.lean ====
module

public import proofs.«01_k».proof.Defs
public import proofs.«01_k».proof.Proof.HyInKernel
public import proofs.«01_k».proof.Proof.HyInRef
public import proofs.«01_k».proof.Proof.Gen.HyIn.Frame
public import Idealize.ShloMosaic.Lib.Quiescent

/-! The claim about the in-projection with its short convolution: the kernel and the reference end with the same result. -/

@[expose] public section

set_option maxRecDepth 16384

noncomputable section

namespace Cert.HyInClaim

open Idealize.ShloMosaic Idealize.ShloMosaic.TcCoe Idealize.SL.Sem

/-- The kernel's and the reference's results agree on every memory. -/
theorem algebraic : Cert.algebraic_HyInIdeal_HyInRefIdeal := by
  intro m ρ m' ρ' _ hagree
  refine ⟨fun c => Cert.HyInKernel.arr m c, ?_, ?_⟩
  · exact (θ_run Cert.HyInIdeal.defs _ _).mono (fun _ h c => ⟨(h c).1.trans (Cert.HyInKernel.final m c), (h c).2⟩)
      (Cert.HyInIdeal.Value.run_blocks (F := Ideal) m ρ)
  · refine (θ_run Cert.HyInRefIdeal.defs _ _).mono (fun _ h c => ⟨(h c).1.trans ?_, (h c).2⟩)
      (Cert.HyInRefIdeal.Value.run (F := Ideal) m' ρ')
    obtain ⟨h0, h1, h2, h3⟩ := hagree c
    rw [Cert.HyInRefIdeal.Read.val_main_v33_eq, h0, h1, h2, h3]
    funext i
    have e : i = ix4 (i 0) (i 1) (i 2) (i 3) := (ix4_eta i).symm
    exact (congrArg _ e).trans (Cert.HyInRef.result_at _ _ _ _ (i 0) (i 1) (i 2) (i 3))

end Cert.HyInClaim
end
-- ==== Proof.ValKernel.lean ====
module

public import proofs.«01_k».proof.Proof.Gen.ValIdeal.Frame
public import proofs.«01_k».proof.Proof.Gen.ValIdeal.Value
public import Idealize.ShloMosaic.PureOps.Ideal
public import Idealize.ShloMosaic.Lib.ValueIdx
public import Idealize.ShloMosaic.Lib.Pointwise
public import Idealize.ShloMosaic.Lib.IdealHost
public import Idealize.ShloMosaic.Lib.Pipeline.Value
public import Idealize.ShloMosaic.Lib.StableHlo.Run

/-! The values' in-projection: the call's result array after the run, as one function of the argument arrays. -/

@[expose] public section

set_option maxRecDepth 16384

noncomputable section

namespace Cert.ValKernel

open Cert.ValIdeal Cert.ValIdeal.Gen Idealize.ShloMosaic Idealize.ShloMosaic.TcCoe Idealize.SL.Sem
open Idealize.ShloMosaic.Pipeline (Dat)

/-- The weights' column of a channel: the first 4096 columns belong to the queries and the keys. -/
def chan (f : Fin 2048) : Fin 6144 := ⟨4096 + f.val, by have := f.isLt; omega⟩

/-- The result: the projected rows, then rows of zeros. -/
def result (h : Vec Ideal S2x8192x2048 .bf16) (w : Vec Ideal S2048x6144 .f32) (b : Fin 2) (n : Fin 8704) (f : Fin 2048) : EReal :=
  if p : n.val < 8192 then ∑ d, h (ix3 b (⟨n.val, p⟩ : Fin 8192) d) * w (ix2 d (chan f)) else 0

/-- A tile of the product, its columns scaled. -/
def block (x0 : Vec Ideal S1x512x2048 .bf16) (x1 : Vec Ideal S2048x2048 .bf16) (x2 : Vec Ideal S1x2048 .f32) : FVec Ideal S1x512x2048 .bf16 := fun y =>
  (∑ d : Fin 2048, x0 (ix3 0 (y 1) d) * x1 (ix2 d (y 2))) * x2 (ix2 0 (y 2))

theorem block_apply (x0 : Vec Ideal S1x512x2048 .bf16) (x1 : Vec Ideal S2048x2048 .bf16) (x2 : Vec Ideal S1x2048 .f32) (r : Fin 512) (f : Fin 2048) :
    block x0 x1 x2 (ix3 0 r f) = (∑ d : Fin 2048, x0 (ix3 0 r d) * x1 (ix2 d f)) * x2 (ix2 0 f) := rfl

/-- A hundred and twenty-eight columns of the tile. -/
def col (o : ℕ) (h : S512x2048.Slices ![0, o] S512x128) (x0 : Vec Ideal S1x512x2048 .bf16) (x1 : Vec Ideal S2048x2048 .bf16) (v : Vec Ideal S1x128 .f32) : FVec Ideal S1x512x128 .bf16 :=
  shapeCast S1x512x128 (truncf .bf16 (mulf (extractStridedSlice S512x128 ![0, o] (k0_pay3 x0 x1) h) (broadcastTo S512x128 (shapeCast S1x128 v shapeCasts_S1x128_S1x128) broadcasts_S1x128_S512x128)) bitsLt_bf16_f32) shapeCasts_S512x128_S1x512x128

theorem pay3_apply (x0 : Vec Ideal S1x512x2048 .bf16) (x1 : Vec Ideal S2048x2048 .bf16) (r : Fin 512) (f : Fin 2048) :
    k0_pay3 x0 x1 (ix2 r f) = ∑ d : Fin 2048, x0 (ix3 0 r d) * x1 (ix2 d f) := by
  pointwise [k0_pay3]

theorem col_apply (o : ℕ) (h) (x0 : Vec Ideal S1x512x2048 .bf16) (x1 : Vec Ideal S2048x2048 .bf16) (v : Vec Ideal S1x128 .f32) (r : Fin 512) (l : Fin 128) (f : Fin 2048) (hf : f.val = o + l.val) :
    col o h x0 x1 v (ix3 0 r l) = (∑ d : Fin 2048, x0 (ix3 0 r d) * x1 (ix2 d f)) * v (ix2 0 l) := by
  rw [← pay3_apply x0 x1 r f]
  unfold col
  generalize k0_pay3 x0 x1 = y
  have e : extractStridedSlice S512x128 ![0, o] y h (ix2 r l) = y (ix2 r f) := by
    refine congrArg y (funext fun a => Fin.ext ?_)
    fin_cases a
    · show 0 + r.val = r.val; omega
    · show o + l.val = f.val; omega
  rw [← e]
  generalize extractStridedSlice S512x128 ![0, o] y h = z
  rw [shapeCast_apply _ _ _ (ix2 r l) (by rw [Shape.rowMajor_val_two, Shape.rowMajor_val_three]; show r.val * 128 + l.val = (0 * 512 + r.val) * 128 + l.val; omega)]
  have e2 : broadcastTo S512x128 (shapeCast S1x128 v shapeCasts_S1x128_S1x128) broadcasts_S1x128_S512x128 (ix2 r l) = v (ix2 0 l) := by
    pointwise []
  exact congrArg (z (ix2 r l) * ·) e2

theorem piece_eq (o : ℕ) (h) (x0 : Vec Ideal S1x512x2048 .bf16) (x1 : Vec Ideal S2048x2048 .bf16) (x2 : Vec Ideal S1x2048 .f32) (h1) (h2) (x : S1x512x128.Idx) :
    col o h x0 x1 (View.ld (Val := Elt Ideal) (e' := .f32) x2 (Rect.unit (s := S1x2048) ![0, o] ![1, 128] h1)) x
      = block x0 x1 x2 ((Rect.unit (s := S1x512x2048) ![0, 0, o] ![1, 512, 128] h2).emb x) := by
  have ho : o + 128 ≤ 2048 := h2 2
  have hx2 : (x 2).val < 128 := (x 2).isLt
  have hf : o + (x 2).val < 2048 := by omega
  have e : x = ix3 (0 : Fin 1) (x 1) (x 2) := by
    refine (ix3_eta x).symm.trans ?_
    have : x 0 = (0 : Fin 1) := Fin.ext (by have : (x 0).val < 1 := (x 0).isLt; show (x 0).val = 0; omega)
    rw [this]
    rfl
  have e1 : (Rect.unit (s := S1x512x2048) ![0, 0, o] ![1, 512, 128] h2).emb x 1 = x 1 :=
    Fin.ext ((Nat.zero_add _).trans (Nat.one_mul _))
  have e2 : (Rect.unit (s := S1x512x2048) ![0, 0, o] ![1, 512, 128] h2).emb x 2 = ⟨o + (x 2).val, hf⟩ :=
    Fin.ext (congrArg (o + ·) (Nat.one_mul _))
  unfold block
  rw [e1, e2]
  refine (congrArg _ e).trans ((col_apply o h x0 x1 _ (x 1) (x 2) ⟨o + (x 2).val, hf⟩ rfl).trans (congrArg (_ * ·) ?_))
  refine congrArg x2 (funext fun a => Fin.ext ?_)
  fin_cases a
  · rfl
  · exact congrArg (o + ·) (Nat.one_mul _)

theorem zeros2 : (![0, 0] : Fin 2 → ℕ) = fun _ => 0 := funext fun a => by fin_cases a <;> rfl
theorem zeros3 : (![0, 0, 0] : Fin 3 → ℕ) = fun _ => 0 := funext fun a => by fin_cases a <;> rfl

variable (m : (ℓ : Loc nD τ sig) → Buf (Elt Ideal) ℓ)

theorem lt_N (t : Fin cfg0.N) : t.val < 34 := t.isLt

set_option maxHeartbeats 1600000 in
theorem out_A (c : Dev nD) (t : Fin cfg0.N) (h0 : ¬t.val % 17 = 16) (h1 : t.val % 17 ≤ 15) :
    outsAt0 m c t.val t.isLt = block (iblk m c 0 t) (iblk m c 1 t) (iblk m c 2 t) := by
  rw [outsAt0_A m c t h0 h1]
  unfold out0_A_3
  rw [View.read_writes_eq_canon _ _ _ (cover0_A_3 c (grid0.coords t) _ _ _ _ _ _ _ _ _ _ _ _ _)]
  unfold kernelRun0_A
  dsimp only
  sl_unfold_words
  simp only [View.readAt_eq_ld, (hs0_0 t).read_unread, (hs0_1 t).read_unread, (hs0_2 t).read_unread]
  generalize iblk m c 0 t = x0
  generalize iblk m c 1 t = x1
  generalize iblk m c 2 t = x2
  simp only [View.ld_unit_zero (Val := Elt Ideal) (S := S1x512x2048) (e := .bf16) (off := ![0,0,0]) zeros3, View.ld_unit_zero (Val := Elt Ideal) (S := S2048x2048) (e := .bf16) (off := ![0,0]) zeros2]
  funext y
  refine View.canon_apply_of_pieces (Val := Elt Ideal) (e := .bf16) (block x0 x1 x2) _ ?_ y ?_
  · simp only [List.forall_mem_cons, List.not_mem_nil, false_imp_iff, implies_true, and_true]
    exact ⟨fun x => piece_eq 1920 slices_S512x2048_o0_1920_S512x128 x0 x1 x2 _ _ x,
      fun x => piece_eq 1792 slices_S512x2048_o0_1792_S512x128 x0 x1 x2 _ _ x,
      fun x => piece_eq 1664 slices_S512x2048_o0_1664_S512x128 x0 x1 x2 _ _ x,
      fun x => piece_eq 1536 slices_S512x2048_o0_1536_S512x128 x0 x1 x2 _ _ x,
      fun x => piece_eq 1408 slices_S512x2048_o0_1408_S512x128 x0 x1 x2 _ _ x,
      fun x => piece_eq 1280 slices_S512x2048_o0_1280_S512x128 x0 x1 x2 _ _ x,
      fun x => piece_eq 1152 slices_S512x2048_o0_1152_S512x128 x0 x1 x2 _ _ x,
      fun x => piece_eq 1024 slices_S512x2048_o0_1024_S512x128 x0 x1 x2 _ _ x,
      fun x => piece_eq 896 slices_S512x2048_o0_896_S512x128 x0 x1 x2 _ _ x,
      fun x => piece_eq 768 slices_S512x2048_o0_768_S512x128 x0 x1 x2 _ _ x,
      fun x => piece_eq 640 slices_S512x2048_o0_640_S512x128 x0 x1 x2 _ _ x,
      fun x => piece_eq 512 slices_S512x2048_o0_512_S512x128 x0 x1 x2 _ _ x,
      fun x => piece_eq 384 slices_S512x2048_o0_384_S512x128 x0 x1 x2 _ _ x,
      fun x => piece_eq 256 slices_S512x2048_o0_256_S512x128 x0 x1 x2 _ _ x,
      fun x => piece_eq 128 slices_S512x2048_o0_128_S512x128 x0 x1 x2 _ _ x,
      fun x => piece_eq 0 slices_S512x2048_o0_0_S512x128 x0 x1 x2 _ _ x⟩
  · have hy0 : (y 0).val < 1 := (y 0).isLt
    have hy1 : (y 1).val < 512 := (y 1).isLt
    have hy2 : (y 2).val < 2048 := (y 2).isLt
    have key : ∀ (o : ℕ) (h : ∀ a, (![0, 0, o] : Fin 3 → ℕ) a + (![1, 512, 128] : Fin 3 → ℕ) a ≤ S1x512x2048.size a), (y 2).val / 128 * 128 = o →
        y ∈ (Rect.unit (s := S1x512x2048) ![0, 0, o] ![1, 512, 128] h).set := by
      intro o h l1
      rw [Rect.mem_set_unit]
      intro a
      fin_cases a
      · exact ⟨Nat.zero_le _, by show (y 0).val < 0 + 1; omega⟩
      · exact ⟨Nat.zero_le _, by show (y 1).val < 0 + 512; omega⟩
      · exact ⟨by show o ≤ (y 2).val; omega, by show (y 2).val < o + 128; omega⟩
    rcases (by omega : (y 2).val / 128 = 0 ∨ (y 2).val / 128 = 1 ∨ (y 2).val / 128 = 2 ∨ (y 2).val / 128 = 3 ∨ (y 2).val / 128 = 4 ∨ (y 2).val / 128 = 5 ∨ (y 2).val / 128 = 6 ∨ (y 2).val / 128 = 7 ∨ (y 2).val / 128 = 8 ∨ (y 2).val / 128 = 9 ∨ (y 2).val / 128 = 10 ∨ (y 2).val / 128 = 11 ∨ (y 2).val / 128 = 12 ∨ (y 2).val / 128 = 13 ∨ (y 2).val / 128 = 14 ∨ (y 2).val / 128 = 15) with h | h | h | h | h | h | h | h | h | h | h | h | h | h | h | h
    · exact ⟨_, (.tail _ (.tail _ (.tail _ (.tail _ (.tail _ (.tail _ (.tail _ (.tail _ (.tail _ (.tail _ (.tail _ (.tail _ (.tail _ (.tail _ (.tail _ (.head _)))))))))))))))), key 0 inb_S1x512x2048_S1x512x128_0_0_0 (by omega)⟩
    · exact ⟨_, (.tail _ (.tail _ (.tail _ (.tail _ (.tail _ (.tail _ (.tail _ (.tail _ (.tail _ (.tail _ (.tail _ (.tail _ (.tail _ (.tail _ (.head _))))))))))))))), key 128 inb_S1x512x2048_S1x512x128_0_0_128 (by omega)⟩
    · exact ⟨_, (.tail _ (.tail _ (.tail _ (.tail _ (.tail _ (.tail _ (.tail _ (.tail _ (.tail _ (.tail _ (.tail _ (.tail _ (.tail _ (.head _)))))))))))))), key 256 inb_S1x512x2048_S1x512x128_0_0_256 (by omega)⟩
    · exact ⟨_, (.tail _ (.tail _ (.tail _ (.tail _ (.tail _ (.tail _ (.tail _ (.tail _ (.tail _ (.tail _ (.tail _ (.tail _ (.head _))))))))))))), key 384 inb_S1x512x2048_S1x512x128_0_0_384 (by omega)⟩
    · exact ⟨_, (.tail _ (.tail _ (.tail _ (.tail _ (.tail _ (.tail _ (.tail _ (.tail _ (.tail _ (.tail _ (.tail _ (.head _)))))))))))), key 512 inb_S1x512x2048_S1x512x128_0_0_512 (by omega)⟩
    · exact ⟨_, (.tail _ (.tail _ (.tail _ (.tail _ (.tail _ (.tail _ (.tail _ (.tail _ (.tail _ (.tail _ (.head _))))))))))), key 640 inb_S1x512x2048_S1x512x128_0_0_640 (by omega)⟩
    · exact ⟨_, (.tail _ (.tail _ (.tail _ (.tail _ (.tail _ (.tail _ (.tail _ (.tail _ (.tail _ (.head _)))))))))), key 768 inb_S1x512x2048_S1x512x128_0_0_768 (by omega)⟩
    · exact ⟨_, (.tail _ (.tail _ (.tail _ (.tail _ (.tail _ (.tail _ (.tail _ (.tail _ (.head _))))))))), key 896 inb_S1x512x2048_S1x512x128_0_0_896 (by omega)⟩
    · exact ⟨_, (.tail _ (.tail _ (.tail _ (.tail _ (.tail _ (.tail _ (.tail _ (.head _)))))))), key 1024 inb_S1x512x2048_S1x512x128_0_0_1024 (by omega)⟩
    · exact ⟨_, (.tail _ (.tail _ (.tail _ (.tail _ (.tail _ (.tail _ (.head _))))))), key 1152 inb_S1x512x2048_S1x512x128_0_0_1152 (by omega)⟩
    · exact ⟨_, (.tail _ (.tail _ (.tail _ (.tail _ (.tail _ (.head _)))))), key 1280 inb_S1x512x2048_S1x512x128_0_0_1280 (by omega)⟩
    · exact ⟨_, (.tail _ (.tail _ (.tail _ (.tail _ (.head _))))), key 1408 inb_S1x512x2048_S1x512x128_0_0_1408 (by omega)⟩
    · exact ⟨_, (.tail _ (.tail _ (.tail _ (.head _)))), key 1536 inb_S1x512x2048_S1x512x128_0_0_1536 (by omega)⟩
    · exact ⟨_, (.tail _ (.tail _ (.head _))), key 1664 inb_S1x512x2048_S1x512x128_0_0_1664 (by omega)⟩
    · exact ⟨_, (.tail _ (.head _)), key 1792 inb_S1x512x2048_S1x512x128_0_0_1792 (by omega)⟩
    · exact ⟨_, (.head _), key 1920 inb_S1x512x2048_S1x512x128_0_0_1920 (by omega)⟩

theorem pay1_apply (x : S1x512x2048.Idx) : k0_pay1 (F := Ideal) x = 0 := Ideal.ofBits_zero_bf16

theorem out_B (c : Dev nD) (t : Fin cfg0.N) (h0 : t.val % 17 = 16) (h1 : ¬t.val % 17 ≤ 15) :
    outsAt0 m c t.val t.isLt = fun _ => (0 : EReal) := by
  rw [outsAt0_B m c t h0 h1]
  unfold out0_B_3
  rw [View.read_writes_eq_canon _ _ _ (cover0_B_3 c (grid0.coords t) _ _ _ _ _ _ _ _ _ _ _ _ _)]
  unfold kernelRun0_B
  dsimp only
  sl_unfold_words
  refine (View.canon_unit_zero (Val := Elt Ideal) (S := S1x512x2048) (e := .bf16) zeros3 _ _).trans ?_
  funext x
  exact pay1_apply x

def batchAt (t : Fin cfg0.N) : Fin 2 := ⟨t.val / 17, by have := lt_N t; omega⟩
def rowAt (t : Fin cfg0.N) (r : Fin 512) : Fin 8704 := ⟨t.val % 17 * 512 + r.val, by have := r.isLt; omega⟩

theorem index_0 : ∀ t : Fin grid0.N, win0_0.index t = ![t.val / 17, min (t.val % 17) 15, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![t.val / 17, t.val % 17, 0] := by decide +kernel

theorem V_v1 (c : Dev nD) : V m c main_v1 = (truncf .bf16 (extractStridedSlice S2048x2048 ![0, 4096] (m ((c : Thread nD τ).loc main_arg1)) slices_S2048x6144_S2048x2048_0_4096) bitsLt_bf16_f32 : FVec Ideal S2048x2048 .bf16) := by
  show StableHlo.after hostOps0 _ _ = _
  after_results
theorem V_v3 (c : Dev nD) : V m c main_v3 = shapeCast S1x2048 (broadcastInDim S2048 ![] bcast_S_S2048 (constant (F := Ideal) S_ .f32 0x3F800000#32) : FVec Ideal S2048 .f32) shapeCasts_S2048_S1x2048 := by
  show StableHlo.after hostOps0 _ _ = _
  after_results
  rfl

theorem read0 (c : Dev nD) (t : Fin cfg0.N) (r : Fin 512) (d : Fin 2048) (h1 : t.val % 17 ≤ 15) :
    iblk m c 0 t (ix3 (0 : Fin 1) r d) = (m ((c : Thread nD τ).loc main_arg0)) (ix3 (batchAt t) (⟨t.val % 17 * 512 + r.val, by have := r.isLt; omega⟩ : Fin 8192) d) := by
  have e := index_0 t
  have hN := lt_N t
  have h : ((cfg0.win 0).blk t).view.emb (ix3 (0 : Fin 1) r d) = (ix3 (batchAt t) (⟨t.val % 17 * 512 + r.val, by have := r.isLt; omega⟩ : Fin 8192) d) := by
    refine funext fun a => Fin.ext ?_
    show win0_0.index t a * win0_0.size a + 1 * ((ix3 (0 : Fin 1) r d) a).val = _
    rw [e]
    fin_cases a
    · show (t.val / 17) * 1 + 1 * 0 = t.val / 17; omega
    · show (min (t.val % 17) 15) * 512 + 1 * r.val = t.val % 17 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (k d : Fin 2048) :
    iblk m c 1 t (ix2 k d) = (m ((c : Thread nD τ).loc main_arg1)) (ix2 k (chan d)) := by
  have e := index_1 t
  have hN := lt_N t
  have h : ((cfg0.win 1).blk t).view.emb (ix2 k d) = (ix2 k d) := by
    refine funext fun a => Fin.ext ?_
    show win0_1.index t a * win0_1.size a + 1 * ((ix2 k d) a).val = _
    rw [e]
    fin_cases a
    · show (0) * 2048 + 1 * k.val = k.val; omega
    · show (0) * 2048 + 1 * d.val = d.val; omega
  show V m c main_v1 (((cfg0.win 1).blk t).view.emb (ix2 k d)) = _
  rw [h, V_v1]
  refine congrArg (m ((c : Thread nD τ).loc main_arg1)) (funext fun a => Fin.ext ?_)
  fin_cases a
  · show 0 + k.val = k.val; omega
  · rfl

theorem read2 (c : Dev nD) (t : Fin cfg0.N) (d : Fin 2048) :
    iblk m c 2 t (ix2 (0 : Fin 1) d) = (1 : EReal) := by
  have e := index_2 t
  have hN := lt_N t
  have h : ((cfg0.win 2).blk t).view.emb (ix2 (0 : Fin 1) d) = (ix2 (0 : Fin 1) d) := by
    refine funext fun a => Fin.ext ?_
    show win0_2.index t a * win0_2.size a + 1 * ((ix2 (0 : Fin 1) d) a).val = _
    rw [e]
    fin_cases a
    · show (0) * 1 + 1 * 0 = 0; omega
    · show (0) * 2048 + 1 * d.val = d.val; omega
  show V m c main_v3 (((cfg0.win 2).blk t).view.emb (ix2 (0 : Fin 1) d)) = _
  rw [h, V_v3, shapeCast_apply _ _ _ (ix1 d) (by rw [Shape.rowMajor_val_one, Shape.rowMajor_val_two]; show d.val = 0 * 2048 + d.val; omega)]
  exact Ideal.ofBits_one_f32

/-- The result array. -/
def arr (c : Dev nD) : Vec Ideal S2x8704x2048 .bf16 := fun i => result (m ((c : Thread nD τ).loc main_arg0)) (m ((c : Thread nD τ).loc main_arg1)) (i 0) (i 1) (i 2)

theorem outs_apply (c : Dev nD) (t : Fin cfg0.N) (r : Fin 512) (f : Fin 2048) :
    outsAt0 m c t.val t.isLt (ix3 (0 : Fin 1) r f) = result (m ((c : Thread nD τ).loc main_arg0)) (m ((c : Thread nD τ).loc main_arg1)) (batchAt t) (rowAt t r) f := by
  have hN := lt_N t
  have hr := r.isLt
  unfold result
  by_cases h : t.val % 17 ≤ 15
  · rw [dif_pos (by show t.val % 17 * 512 + r.val < 8192; omega), out_A m c t (by omega) h]
    refine (block_apply _ _ _ r f).trans ?_
    refine (congrArg₂ (fun u v : EReal => u * v) (Finset.sum_congr rfl fun d _ => congrArg₂ (fun u v : EReal => u * v) (read0 m c t r d h) (read1 m c t d f)) (read2 m c t f)).trans ?_
    exact mul_one _
  · rw [dif_neg (by show ¬ t.val % 17 * 512 + r.val < 8192; omega), out_B m c t (by omega) h]

theorem flushed_eq (c : Dev nD) (t : Fin cfg0.N) :
    (dats m 0 c).flushed 3 t = ((cfg0.win 3).blk t).view.read (Elt Ideal) (arr m c) := by
  have hN := lt_N t
  rw [Cert.ValIdeal.Value.flushed3]
  funext x
  obtain ⟨a, r, d, rfl⟩ : ∃ (a : Fin 1) (r : Fin 512) (d : Fin 2048), x = ix3 a r d := ⟨x 0, x 1, x 2, (ix3_eta x).symm⟩
  have ha : a = (0 : Fin 1) := Fin.ext (by have := a.isLt; show a.val = 0; omega)
  subst ha
  show outsAt0 m c t.val t.isLt (ix3 (0 : Fin 1) r d) = arr m c (((cfg0.win 3).blk t).view.emb (ix3 (0 : Fin 1) r d))
  have e := index_3 t
  have e0 : ((cfg0.win 3).blk t).view.emb (ix3 (0 : Fin 1) r d) = ix3 (batchAt t) (rowAt t r) d := by
    refine funext fun a => Fin.ext ?_
    show win0_3.index t a * win0_3.size a + 1 * ((ix3 (0 : Fin 1) r d) a).val = _
    rw [e]
    fin_cases a
    · show (t.val / 17) * 1 + 1 * 0 = t.val / 17; omega
    · show (t.val % 17) * 512 + 1 * r.val = t.val % 17 * 512 + r.val; omega
    · show 0 * 2048 + 1 * d.val = d.val; omega
  rw [e0]
  exact outs_apply m c t r d

theorem mem_blk (t : Fin cfg0.N) (i : S2x8704x2048.Idx) :
    i ∈ ((cfg0.win 3).blk t).view.set ↔ t.val / 17 = (i 0).val ∧ t.val % 17 = (i 1).val / 512 := by
  show i ∈ ((View.whole main_v4).slice (win0_3.rect t)).set ↔ _
  rw [View.set_slice_whole, Rect.mem_set_unit]
  have e := index_3 t
  have hN := lt_N t
  have h0 : (i 0).val < 2 := (i 0).isLt
  have h1 : (i 1).val < 8704 := (i 1).isLt
  have h2 : (i 2).val < 2048 := (i 2).isLt
  have key : (∀ a : Fin 3, (![(t.val / 17) * 1, (t.val % 17) * 512, (0) * 2048] : Fin 3 → ℕ) a ≤ (i a).val
      ∧ (i a).val < (![(t.val / 17) * 1, (t.val % 17) * 512, (0) * 2048] : Fin 3 → ℕ) a + (![1, 512, 2048] : Fin 3 → ℕ) a)
      ↔ t.val / 17 = (i 0).val ∧ t.val % 17 = (i 1).val / 512 := by
    constructor
    · intro h
      have k0 : (t.val / 17) * 1 ≤ (i 0).val ∧ (i 0).val < (t.val / 17) * 1 + 1 := h 0
      have k1 : (t.val % 17) * 512 ≤ (i 1).val ∧ (i 1).val < (t.val % 17) * 512 + 512 := h 1
      have k2 : (0) * 2048 ≤ (i 2).val ∧ (i 2).val < (0) * 2048 + 2048 := h 2
      omega
    · intro h a
      fin_cases a
      · show (t.val / 17) * 1 ≤ (i 0).val ∧ (i 0).val < (t.val / 17) * 1 + 1; omega
      · show (t.val % 17) * 512 ≤ (i 1).val ∧ (i 1).val < (t.val % 17) * 512 + 512; omega
      · show (0) * 2048 ≤ (i 2).val ∧ (i 2).val < (0) * 2048 + 2048; omega
  rw [← key]
  refine forall_congr' fun a => ?_
  have o : win0_3.index t a * win0_3.size a = (![(t.val / 17) * 1, (t.val % 17) * 512, (0) * 2048] : Fin 3 → ℕ) a := by
    rw [e]; fin_cases a <;> rfl
  have z : win0_3.xsize (grid0.coords t) a = (![1, 512, 2048] : Fin 3 → ℕ) a := by fin_cases a <;> rfl
  show (win0_3.index t a * win0_3.size a ≤ (i a).val ∧ (i a).val < win0_3.index t a * win0_3.size a + win0_3.xsize (grid0.coords t) a) ↔ _
  rw [o, z]

theorem cover (i : S2x8704x2048.Idx) : ∃ t : Fin cfg0.N, (cfg0.win 3).flush t = true ∧ i ∈ ((cfg0.win 3).blk t).view.set := by
  have h0 : (i 0).val < 2 := (i 0).isLt
  have h1 : (i 1).val < 8704 := (i 1).isLt
  have hN : cfg0.N = 34 := rfl
  refine ⟨⟨(i 0).val * 17 + (i 1).val / 512, by omega⟩, flush0_3 _, ?_⟩
  rw [mem_blk]
  dsimp only
  omega

/-- After the run the result array holds the projection of the arguments. -/
theorem final (c : Dev nD) : (dats m 0 c).arrAt 3 cfg0.N = arr m c :=
  (dats m 0 c).arrAt_eq_of_cover 3 (arr m c) (fun t _ => flushed_eq m c t) cover

end Cert.ValKernel
end
-- ==== Proof.ValRef.lean ====
module

public import proofs.«01_k».proof.Proof.Gen.ValRefIdeal.Read
public import proofs.«01_k».proof.Proof.ValKernel
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The values' reference, read at an index. -/

@[expose] public section

set_option maxRecDepth 16384

noncomputable section

namespace Cert.ValRef

open Cert.ValRefIdeal Cert.ValRefIdeal.Gen Cert.ValRefIdeal.Read Idealize.ShloMosaic
open Cert.ValKernel (chan result)

theorem product_at (x0 : FVec Ideal S2x8192x2048 .bf16) (x1 : FVec Ideal S2048x6144 .f32) (b : Fin 2) (n : Fin 8192) (f : Fin 2048) :
    val_main_v2 (F := Ideal) x0 x1 (ix3 b n f) = ∑ d : Fin 2048, x0 (ix3 b n d) * x1 (ix2 d (chan f)) := by
  rw [val_main_v2_apply]
  refine Finset.sum_congr rfl fun k _ => congrArg₂ (· * ·) ?_ ?_
  · rw [val_main_v0_apply]
    exact congrArg x0 (funext fun a => Fin.ext (by fin_cases a <;> rfl))
  · rw [val_main_v1_apply]
    exact congrArg x1 (funext fun a => Fin.ext (by fin_cases a <;> rfl))

theorem result_at (x0 : FVec Ideal S2x8192x2048 .bf16) (x1 : FVec Ideal S2048x6144 .f32) (b : Fin 2) (n : Fin 8704) (f : Fin 2048) :
    val_main_v4 (F := Ideal) x0 x1 (ix3 b n f) = result x0 x1 b n f := by
  have hn := n.isLt
  rw [val_main_v4_apply]
  show val_main_v3 (F := Ideal) x0 x1 (ix3 b n f) = _
  unfold val_main_v3 result
  by_cases h : n.val < 8192
  · rw [dif_pos h]
    refine (pad_apply_of_inside _ _ _ _ _ pads_S2x8192x2048_S2x8704x2048_000_05120_000 h_S_ (ix3 b n f) (ix3 b (⟨n.val, h⟩ : Fin 8192) f) ?_).trans (product_at x0 x1 b _ f)
    intro a
    fin_cases a
    · show b.val = 0 + b.val * (0 + 1); omega
    · show n.val = 0 + n.val * (0 + 1); omega
    · show f.val = 0 + f.val * (0 + 1); omega
  · rw [dif_neg h]
    refine (pad_apply_of_not_inside _ _ _ _ _ pads_S2x8192x2048_S2x8704x2048_000_05120_000 h_S_ (ix3 b n f) (1 : Fin 3) ?_).trans (sitofp_zero (φ := .f32))
    show ¬(0 ≤ n.val ∧ (n.val - 0) % (0 + 1) = 0 ∧ (n.val - 0) / (0 + 1) < 8192)
    omega

end Cert.ValRef
end
-- ==== Proof.ValClaim.lean ====
module

public import proofs.«01_k».proof.Defs
public import proofs.«01_k».proof.Proof.ValKernel
public import proofs.«01_k».proof.Proof.ValRef
public import proofs.«01_k».proof.Proof.Gen.Val.Frame
public import Idealize.ShloMosaic.Lib.Quiescent

/-! The claim about the values' in-projection: the kernel and the reference end with the same result. -/

@[expose] public section

set_option maxRecDepth 16384

noncomputable section

namespace Cert.ValClaim

open Idealize.ShloMosaic Idealize.ShloMosaic.TcCoe Idealize.SL.Sem

/-- The kernel's and the reference's results agree on every memory. -/
theorem algebraic : Cert.algebraic_ValIdeal_ValRefIdeal := by
  intro m ρ m' ρ' _ hagree
  refine ⟨fun c => Cert.ValKernel.arr m c, ?_, ?_⟩
  · exact (θ_run Cert.ValIdeal.defs _ _).mono (fun _ h c => ⟨(h c).1.trans (Cert.ValKernel.final m c), (h c).2⟩)
      (Cert.ValIdeal.Value.run_blocks (F := Ideal) m ρ)
  · refine (θ_run Cert.ValRefIdeal.defs _ _).mono (fun _ h c => ⟨(h c).1.trans ?_, (h c).2⟩)
      (Cert.ValRefIdeal.Value.run (F := Ideal) m' ρ')
    obtain ⟨h0, h1⟩ := hagree c
    rw [Cert.ValRefIdeal.Read.val_main_v4_eq, h0, h1]
    funext i
    have e : i = ix3 (i 0) (i 1) (i 2) := (ix3_eta i).symm
    exact (congrArg _ e).trans (Cert.ValRef.result_at _ _ (i 0) (i 1) (i 2))

end Cert.ValClaim
end
-- ==== Proof.Rope.lean ====
module

public import Idealize.ShloMosaic.PureOps.Ideal
public import Idealize.ShloMosaic.Lib.ValueIdx
public import Idealize.ShloMosaic.Lib.IdealHost

/-! Rotary positions on one channel: the pair of columns it is made of, and the scale taken out of the rotation. -/

@[expose] public section

set_option maxRecDepth 16384

noncomputable section

namespace Cert.Rope

open Idealize.ShloMosaic

/-- The column of the first component of a channel's pair. -/
def first (f : Fin 2048) : Fin 2048 := ⟨f.val / 128 * 128 + f.val % 64 / 32 * 64 + 2 * (f.val % 32), by have := f.isLt; omega⟩

/-- The column of the second component. -/
def second (f : Fin 2048) : Fin 2048 := ⟨f.val / 128 * 128 + f.val % 64 / 32 * 64 + 2 * (f.val % 32) + 1, by have := f.isLt; omega⟩

/-- The column of a channel. -/
def src (f : Fin 2048) : Fin 2048 := ⟨f.val / 128 * 128 + f.val % 64 / 32 * 64 + 2 * (f.val % 32) + f.val % 128 / 64, by have := f.isLt; omega⟩

/-- The frequency of a channel. -/
def rot (f : Fin 2048) : Fin 32 := ⟨f.val % 32, Nat.mod_lt _ (by decide)⟩

/-- The channel's place among the 128 channels of its head. -/
def lane (f : Fin 2048) : Fin 128 := ⟨f.val % 128, Nat.mod_lt _ (by decide)⟩

/-- The channel of the other component of the pair. -/
def mirror (f : Fin 2048) : Fin 2048 := ⟨f.val / 128 * 128 + (f.val + 64) % 128, by have := f.isLt; omega⟩

theorem src_low (f : Fin 2048) (h : f.val % 128 < 64) : src f = first f := Fin.ext (by
  show f.val / 128 * 128 + f.val % 64 / 32 * 64 + 2 * (f.val % 32) + f.val % 128 / 64 = f.val / 128 * 128 + f.val % 64 / 32 * 64 + 2 * (f.val % 32); omega)
theorem src_high (f : Fin 2048) (h : ¬f.val % 128 < 64) : src f = second f := Fin.ext (by
  show f.val / 128 * 128 + f.val % 64 / 32 * 64 + 2 * (f.val % 32) + f.val % 128 / 64 = f.val / 128 * 128 + f.val % 64 / 32 * 64 + 2 * (f.val % 32) + 1; omega)
theorem mirror_low (f : Fin 2048) (h : f.val % 128 < 64) : src (mirror f) = second f := Fin.ext (by
  have e : (mirror f).val = f.val + 64 := by show f.val / 128 * 128 + (f.val + 64) % 128 = _; omega
  show (mirror f).val / 128 * 128 + (mirror f).val % 64 / 32 * 64 + 2 * ((mirror f).val % 32) + (mirror f).val % 128 / 64 = f.val / 128 * 128 + f.val % 64 / 32 * 64 + 2 * (f.val % 32) + 1
  rw [e]; omega)
theorem mirror_high (f : Fin 2048) (h : ¬f.val % 128 < 64) : src (mirror f) = first f := Fin.ext (by
  have e : (mirror f).val + 64 = f.val := by show f.val / 128 * 128 + (f.val + 64) % 128 + 64 = _; omega
  show (mirror f).val / 128 * 128 + (mirror f).val % 64 / 32 * 64 + 2 * ((mirror f).val % 32) + (mirror f).val % 128 / 64 = f.val / 128 * 128 + f.val % 64 / 32 * 64 + 2 * (f.val % 32)
  rw [← e]; omega)

/-- The rotated pair's component, from the scaled columns. -/
def turned (P : Fin 2048 → EReal) (g : EReal) (co si : Fin 32 → EReal) (f : Fin 2048) : EReal :=
  P (src f) * g * co (rot f) + P (src (mirror f)) * g * (if f.val % 128 < 64 then -si (rot f) else si (rot f))

/-- Below 64 the channel is the first component of the rotated pair, scaled afterwards. -/
theorem turned_low (P : Fin 2048 → EReal) (g : EReal) (hg : 0 ≤ g) (hg' : g ≠ ⊤) (co si : Fin 32 → EReal) (f : Fin 2048) (h : f.val % 128 < 64) :
    turned P g co si f = (P (first f) * co (rot f) - P (second f) * si (rot f)) * g := by
  unfold turned
  rw [if_pos h, src_low f h, mirror_low f h, sub_eq_add_neg, EReal.right_distrib_of_nonneg_of_ne_top hg hg', mul_right_comm (P (first f)), mul_right_comm (P (second f)), mul_neg]

theorem turned_high (P : Fin 2048 → EReal) (g : EReal) (hg : 0 ≤ g) (hg' : g ≠ ⊤) (co si : Fin 32 → EReal) (f : Fin 2048) (h : ¬f.val % 128 < 64) :
    turned P g co si f = (P (first f) * si (rot f) + P (second f) * co (rot f)) * g := by
  unfold turned
  rw [if_neg h, src_high f h, mirror_high f h, EReal.right_distrib_of_nonneg_of_ne_top hg hg', mul_right_comm (P (first f)), mul_right_comm (P (second f)), add_comm]

/-- The queries' scale is a real number that isn't negative. -/
theorem scale_eq : Ideal.ofBits FTy.f32 0x3E38AA3B#32 = (((12102203 : ℝ) / 67108864 : ℝ) : EReal) := by
  simp [Ideal.ofBits, Ideal.ieee, -EReal.coe_mul]; norm_num
theorem scale_nonneg : 0 ≤ Ideal.ofBits FTy.f32 0x3E38AA3B#32 := by
  rw [scale_eq]; exact EReal.coe_nonneg.mpr (by norm_num)
theorem scale_ne_top : Ideal.ofBits FTy.f32 0x3E38AA3B#32 ≠ ⊤ := by
  rw [scale_eq]; exact EReal.coe_ne_top _

end Cert.Rope
end
-- ==== Proof.QryKernel.lean ====
module

public import proofs.«01_k».proof.Proof.Gen.QryIdeal.Frame
public import proofs.«01_k».proof.Proof.Gen.QryIdeal.Value
public import proofs.«01_k».proof.Proof.Gen.QryRefIdeal.Read
public import proofs.«01_k».proof.Proof.Rope
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost
public import Idealize.ShloMosaic.Lib.Pipeline.Value
public import Idealize.ShloMosaic.Lib.StableHlo.Run

/-! The queries' in-projection with the rotary positions: the call's result array after the run, as one function of the argument arrays. -/

@[expose] public section

set_option maxRecDepth 16384

noncomputable section

namespace Cert.QryKernel

open Cert.QryIdeal Cert.QryIdeal.Gen Idealize.ShloMosaic Idealize.ShloMosaic.TcCoe Idealize.SL.Sem
open Idealize.ShloMosaic.Pipeline (Dat)
open Cert.Rope (first second src rot lane mirror turned)

/-- The weights' column of one of the queries' columns. -/
def chan (f : Fin 2048) : Fin 6144 := ⟨0 + f.val, by have := f.isLt; omega⟩

/-- The angles of a position. -/
def angle : FVec Ideal S8192x32 .f32 := Cert.QryRefIdeal.Read.val_main_v34 (F := Ideal)

def scale : EReal := Ideal.ofBits FTy.f32 0x3E38AA3B#32

/-- A row's product with a column. -/
def dot (h : Vec Ideal S2x8192x2048 .bf16) (w : Vec Ideal S2048x6144 .f32) (b : Fin 2) (n : Fin 8192) (k : Fin 2048) : EReal := ∑ d, h (ix3 b n d) * w (ix2 d (chan k))

/-- A projected and rotated row. -/
def row (h : Vec Ideal S2x8192x2048 .bf16) (w : Vec Ideal S2048x6144 .f32) (b : Fin 2) (n : Fin 8192) (f : Fin 2048) : EReal :=
  turned (dot h w b n) scale (fun p => Host.cos (F := Ideal) (φ := .f32) angle (ix2 n p)) (fun p => Host.sin (F := Ideal) (φ := .f32) angle (ix2 n p)) f

/-- The result. -/
def result (h : Vec Ideal S2x8192x2048 .bf16) (w : Vec Ideal S2048x6144 .f32) (b : Fin 2) (n : Fin 8192) (f : Fin 2048) : EReal := row h w b n f

/-- A tile of the product, its columns scaled. -/
def scaled (x0 : Vec Ideal S1x512x2048 .bf16) (x1 : Vec Ideal S2048x2048 .bf16) (x2 : Vec Ideal S1x2048 .f32) (r : Fin 512) (f : Fin 2048) : EReal :=
  (∑ d : Fin 2048, x0 (ix3 0 r d) * x1 (ix2 d f)) * x2 (ix2 0 f)

/-- The tile with each head's halves rotated against each other. -/
def block (x0 : Vec Ideal S1x512x2048 .bf16) (x1 : Vec Ideal S2048x2048 .bf16) (x2 : Vec Ideal S1x2048 .f32) (x3 x4 : Vec Ideal S512x128 .f32) : FVec Ideal S1x512x2048 .bf16 := fun y =>
  scaled x0 x1 x2 (y 1) (y 2) * x3 (ix2 (y 1) (lane (y 2))) + scaled x0 x1 x2 (y 1) (mirror (y 2)) * x4 (ix2 (y 1) (lane (y 2)))

theorem block_apply (x0 : Vec Ideal S1x512x2048 .bf16) (x1 : Vec Ideal S2048x2048 .bf16) (x2 : Vec Ideal S1x2048 .f32) (x3 x4 : Vec Ideal S512x128 .f32) (r : Fin 512) (f : Fin 2048) :
    block x0 x1 x2 x3 x4 (ix3 0 r f) = scaled x0 x1 x2 r f * x3 (ix2 r (lane f)) + scaled x0 x1 x2 r (mirror f) * x4 (ix2 r (lane f)) := rfl

def prod (x0 : Vec Ideal S1x512x2048 .bf16) (x1 : Vec Ideal S2048x2048 .bf16) : FVec Ideal S512x2048 .f32 :=
  matmul dot_S512x2048_S2048x2048_S512x2048_1_0_0_1_n_n none (shapeCast S512x2048 x0 shapeCasts_S1x512x2048_S512x2048 : FVec Ideal S512x2048 .bf16) (shapeCast S2048x2048 x1 shapeCasts_S2048x2048_S2048x2048 : FVec Ideal S2048x2048 .bf16) (constant S512x2048 .f32 0x00000000#32)

theorem prod_apply (x0 : Vec Ideal S1x512x2048 .bf16) (x1 : Vec Ideal S2048x2048 .bf16) (r : Fin 512) (f : Fin 2048) :
    prod x0 x1 (ix2 r f) = ∑ d : Fin 2048, x0 (ix3 0 r d) * x1 (ix2 d f) := by
  pointwise [prod]

/-- The columns of one head, scaled. -/
def part (o : ℕ) (h : S512x2048.Slices ![0, o] S512x128) (x0 : Vec Ideal S1x512x2048 .bf16) (x1 : Vec Ideal S2048x2048 .bf16) (v : Vec Ideal S1x128 .f32) : FVec Ideal S512x128 .f32 :=
  mulf (extractStridedSlice S512x128 ![0, o] (prod x0 x1) h) (broadcastTo S512x128 (shapeCast S1x128 v shapeCasts_S1x128_S1x128) broadcasts_S1x128_S512x128)

/-- The columns of one head, rotated. -/
def col (o : ℕ) (h : S512x2048.Slices ![0, o] S512x128) (x0 : Vec Ideal S1x512x2048 .bf16) (x1 : Vec Ideal S2048x2048 .bf16) (x3 x4 : Vec Ideal S512x128 .f32) (v : Vec Ideal S1x128 .f32) : FVec Ideal S1x512x128 .bf16 :=
  shapeCast S1x512x128 (truncf .bf16 (addf (mulf (part o h x0 x1 v) (shapeCast S512x128 x3 shapeCasts_S512x128_S512x128)) (mulf (dynamicRotate 1 64#32 none (part o h x0 x1 v) rotates_S512x128_d1) (shapeCast S512x128 x4 shapeCasts_S512x128_S512x128))) bitsLt_bf16_f32) shapeCasts_S512x128_S1x512x128

theorem part_apply (o : ℕ) (h) (x0 : Vec Ideal S1x512x2048 .bf16) (x1 : Vec Ideal S2048x2048 .bf16) (v : Vec Ideal S1x128 .f32) (r : Fin 512) (l : Fin 128) (f : Fin 2048) (hf : f.val = o + l.val) :
    part o h x0 x1 v (ix2 r l) = (∑ d : Fin 2048, x0 (ix3 0 r d) * x1 (ix2 d f)) * v (ix2 0 l) := by
  rw [← prod_apply x0 x1 r f]
  unfold part
  generalize prod x0 x1 = y
  have e : extractStridedSlice S512x128 ![0, o] y h (ix2 r l) = y (ix2 r f) := by
    refine congrArg y (funext fun a => Fin.ext ?_)
    fin_cases a
    · show 0 + r.val = r.val; omega
    · show o + l.val = f.val; omega
  rw [← e]
  generalize extractStridedSlice S512x128 ![0, o] y h = z
  have e2 : broadcastTo S512x128 (shapeCast S1x128 v shapeCasts_S1x128_S1x128) broadcasts_S1x128_S512x128 (ix2 r l) = v (ix2 0 l) := by
    pointwise []
  exact congrArg (z (ix2 r l) * ·) e2

theorem col_apply (o : ℕ) (h) (x0 : Vec Ideal S1x512x2048 .bf16) (x1 : Vec Ideal S2048x2048 .bf16) (x3 x4 : Vec Ideal S512x128 .f32) (v : Vec Ideal S1x128 .f32) (r : Fin 512) (l l' : Fin 128) (hl : l'.val = (l.val + 64) % 128) :
    col o h x0 x1 x3 x4 v (ix3 0 r l) = part o h x0 x1 v (ix2 r l) * x3 (ix2 r l) + part o h x0 x1 v (ix2 r l') * x4 (ix2 r l) := by
  unfold col
  generalize part o h x0 x1 v = y
  rw [shapeCast_apply _ _ _ (ix2 r l) (by rw [Shape.rowMajor_val_two, Shape.rowMajor_val_three]; show r.val * 128 + l.val = (0 * 512 + r.val) * 128 + l.val; omega)]
  have e : dynamicRotate 1 64#32 none y rotates_S512x128_d1 (ix2 r l) = y (ix2 r l') := by
    refine dynamicRotate_apply 1 64#32 y rotates_S512x128_d1 (ix2 r l) (ix2 r l') fun b => ?_
    fin_cases b
    · rfl
    · show l'.val = (l.val + 128 - 64 % 128) % 128; omega
  have e3 : shapeCast S512x128 x3 shapeCasts_S512x128_S512x128 (ix2 r l) = x3 (ix2 r l) := shapeCast_apply _ _ _ (ix2 r l) rfl
  have e4 : shapeCast S512x128 x4 shapeCasts_S512x128_S512x128 (ix2 r l) = x4 (ix2 r l) := shapeCast_apply _ _ _ (ix2 r l) rfl
  rw [← e, ← e3, ← e4]
  rfl

theorem piece_eq (o : ℕ) (ho' : o % 128 = 0) (h) (x0 : Vec Ideal S1x512x2048 .bf16) (x1 : Vec Ideal S2048x2048 .bf16) (x2 : Vec Ideal S1x2048 .f32) (x3 x4 : Vec Ideal S512x128 .f32) (h1) (h2) (x : S1x512x128.Idx) :
    col o h x0 x1 x3 x4 (View.ld (Val := Elt Ideal) (e' := .f32) x2 (Rect.unit (s := S1x2048) ![0, o] ![1, 128] h1)) x
      = block x0 x1 x2 x3 x4 ((Rect.unit (s := S1x512x2048) ![0, 0, o] ![1, 512, 128] h2).emb x) := by
  have ho : o + 128 ≤ 2048 := h2 2
  obtain ⟨a, r, l, rfl⟩ : ∃ (a : Fin 1) (r : Fin 512) (l : Fin 128), x = ix3 a r l := ⟨x 0, x 1, x 2, (ix3_eta x).symm⟩
  have ha : a = (0 : Fin 1) := Fin.ext (by have := a.isLt; show a.val = 0; omega)
  subst ha
  have hl := l.isLt
  have hf : o + l.val < 2048 := by omega
  have e0 : (Rect.unit (s := S1x512x2048) ![0, 0, o] ![1, 512, 128] h2).emb (ix3 (0 : Fin 1) r l) = ix3 (0 : Fin 1) r (⟨o + l.val, hf⟩ : Fin 2048) := by
    refine funext fun a => Fin.ext ?_
    fin_cases a
    · rfl
    · exact (Nat.zero_add _).trans (Nat.one_mul _)
    · exact congrArg (o + ·) (Nat.one_mul _)
  rw [e0, block_apply]
  have hv : ∀ l : Fin 128, ∀ hf : o + l.val < 2048, View.ld (Val := Elt Ideal) (e' := .f32) x2 (Rect.unit (s := S1x2048) ![0, o] ![1, 128] h1) (ix2 (0 : Fin 1) l) = x2 (ix2 (0 : Fin 1) (⟨o + l.val, hf⟩ : Fin 2048)) := fun l hf => by
    refine congrArg x2 (funext fun a => Fin.ext ?_)
    fin_cases a
    · rfl
    · exact congrArg (o + ·) (Nat.one_mul _)
  have hl' : (l.val + 64) % 128 < 128 := Nat.mod_lt _ (by decide)
  have hf' : o + (l.val + 64) % 128 < 2048 := by omega
  have p1 : part o h x0 x1 (View.ld (Val := Elt Ideal) (e' := .f32) x2 (Rect.unit (s := S1x2048) ![0, o] ![1, 128] h1)) (ix2 r l) = scaled x0 x1 x2 r ⟨o + l.val, hf⟩ :=
    (part_apply o h x0 x1 _ r l ⟨o + l.val, hf⟩ rfl).trans (congrArg (fun u : EReal => (∑ d : Fin 2048, x0 (ix3 0 r d) * x1 (ix2 d (⟨o + l.val, hf⟩ : Fin 2048))) * u) (hv l hf))
  have p2 : part o h x0 x1 (View.ld (Val := Elt Ideal) (e' := .f32) x2 (Rect.unit (s := S1x2048) ![0, o] ![1, 128] h1)) (ix2 r (⟨(l.val + 64) % 128, hl'⟩ : Fin 128)) = scaled x0 x1 x2 r ⟨o + (l.val + 64) % 128, hf'⟩ :=
    (part_apply o h x0 x1 _ r _ ⟨o + (l.val + 64) % 128, hf'⟩ rfl).trans (congrArg (fun u : EReal => (∑ d : Fin 2048, x0 (ix3 0 r d) * x1 (ix2 d (⟨o + (l.val + 64) % 128, hf'⟩ : Fin 2048))) * u) (hv _ hf'))
  have q1 : lane ⟨o + l.val, hf⟩ = l := Fin.ext (by show (o + l.val) % 128 = l.val; omega)
  have q2 : mirror ⟨o + l.val, hf⟩ = ⟨o + (l.val + 64) % 128, hf'⟩ := Fin.ext (by show (o + l.val) / 128 * 128 + (o + l.val + 64) % 128 = o + (l.val + 64) % 128; omega)
  rw [q1, q2, ← p1, ← p2]
  exact col_apply o h x0 x1 x3 x4 _ r l _ rfl

theorem zeros2 : (![0, 0] : Fin 2 → ℕ) = fun _ => 0 := funext fun a => by fin_cases a <;> rfl
theorem zeros3 : (![0, 0, 0] : Fin 3 → ℕ) = fun _ => 0 := funext fun a => by fin_cases a <;> rfl

set_option maxHeartbeats 1600000 in
theorem out_eq (x0 : Vec Ideal S1x512x2048 .bf16) (x1 : Vec Ideal S2048x2048 .bf16) (x2 : Vec Ideal S1x2048 .f32) (x3 x4 : Vec Ideal S512x128 .f32) :
    out0_5 x0 x1 x2 x3 x4 = block x0 x1 x2 x3 x4 := by
  unfold out0_5 k0_pay25 k0_pay26 k0_pay27
  simp only [View.ld_unit_zero (Val := Elt Ideal) (S := S1x512x2048) (e := .bf16) (off := ![0,0,0]) zeros3, View.ld_unit_zero (Val := Elt Ideal) (S := S2048x2048) (e := .bf16) (off := ![0,0]) zeros2, View.ld_unit_zero (Val := Elt Ideal) (S := S512x128) (e := .f32) (off := ![0,0]) zeros2]
  funext y
  refine View.canon_apply_of_pieces (Val := Elt Ideal) (e := .bf16) (block x0 x1 x2 x3 x4) _ ?_ y ?_
  · simp only [List.forall_mem_cons, List.not_mem_nil, false_imp_iff, implies_true, and_true]
    exact ⟨fun x => piece_eq 1920 rfl slices_S512x2048_o0_1920_S512x128 x0 x1 x2 x3 x4 _ _ x,
      fun x => piece_eq 1792 rfl slices_S512x2048_o0_1792_S512x128 x0 x1 x2 x3 x4 _ _ x,
      fun x => piece_eq 1664 rfl slices_S512x2048_o0_1664_S512x128 x0 x1 x2 x3 x4 _ _ x,
      fun x => piece_eq 1536 rfl slices_S512x2048_o0_1536_S512x128 x0 x1 x2 x3 x4 _ _ x,
      fun x => piece_eq 1408 rfl slices_S512x2048_o0_1408_S512x128 x0 x1 x2 x3 x4 _ _ x,
      fun x => piece_eq 1280 rfl slices_S512x2048_o0_1280_S512x128 x0 x1 x2 x3 x4 _ _ x,
      fun x => piece_eq 1152 rfl slices_S512x2048_o0_1152_S512x128 x0 x1 x2 x3 x4 _ _ x,
      fun x => piece_eq 1024 rfl slices_S512x2048_o0_1024_S512x128 x0 x1 x2 x3 x4 _ _ x,
      fun x => piece_eq 896 rfl slices_S512x2048_o0_896_S512x128 x0 x1 x2 x3 x4 _ _ x,
      fun x => piece_eq 768 rfl slices_S512x2048_o0_768_S512x128 x0 x1 x2 x3 x4 _ _ x,
      fun x => piece_eq 640 rfl slices_S512x2048_o0_640_S512x128 x0 x1 x2 x3 x4 _ _ x,
      fun x => piece_eq 512 rfl slices_S512x2048_o0_512_S512x128 x0 x1 x2 x3 x4 _ _ x,
      fun x => piece_eq 384 rfl slices_S512x2048_o0_384_S512x128 x0 x1 x2 x3 x4 _ _ x,
      fun x => piece_eq 256 rfl slices_S512x2048_o0_256_S512x128 x0 x1 x2 x3 x4 _ _ x,
      fun x => piece_eq 128 rfl slices_S512x2048_o0_128_S512x128 x0 x1 x2 x3 x4 _ _ x,
      fun x => piece_eq 0 rfl slices_S512x2048_o0_0_S512x128 x0 x1 x2 x3 x4 _ _ x⟩
  · have hy0 : (y 0).val < 1 := (y 0).isLt
    have hy1 : (y 1).val < 512 := (y 1).isLt
    have hy2 : (y 2).val < 2048 := (y 2).isLt
    have key : ∀ (o : ℕ) (h : ∀ a, (![0, 0, o] : Fin 3 → ℕ) a + (![1, 512, 128] : Fin 3 → ℕ) a ≤ S1x512x2048.size a), (y 2).val / 128 * 128 = o →
        y ∈ (Rect.unit (s := S1x512x2048) ![0, 0, o] ![1, 512, 128] h).set := by
      intro o h l1
      rw [Rect.mem_set_unit]
      intro a
      fin_cases a
      · exact ⟨Nat.zero_le _, by show (y 0).val < 0 + 1; omega⟩
      · exact ⟨Nat.zero_le _, by show (y 1).val < 0 + 512; omega⟩
      · exact ⟨by show o ≤ (y 2).val; omega, by show (y 2).val < o + 128; omega⟩
    rcases (by omega : (y 2).val / 128 = 0 ∨ (y 2).val / 128 = 1 ∨ (y 2).val / 128 = 2 ∨ (y 2).val / 128 = 3 ∨ (y 2).val / 128 = 4 ∨ (y 2).val / 128 = 5 ∨ (y 2).val / 128 = 6 ∨ (y 2).val / 128 = 7 ∨ (y 2).val / 128 = 8 ∨ (y 2).val / 128 = 9 ∨ (y 2).val / 128 = 10 ∨ (y 2).val / 128 = 11 ∨ (y 2).val / 128 = 12 ∨ (y 2).val / 128 = 13 ∨ (y 2).val / 128 = 14 ∨ (y 2).val / 128 = 15) with h | h | h | h | h | h | h | h | h | h | h | h | h | h | h | h
    · exact ⟨_, (.tail _ (.tail _ (.tail _ (.tail _ (.tail _ (.tail _ (.tail _ (.tail _ (.tail _ (.tail _ (.tail _ (.tail _ (.tail _ (.tail _ (.tail _ (.head _)))))))))))))))), key 0 inb_S1x512x2048_S1x512x128_0_0_0 (by omega)⟩
    · exact ⟨_, (.tail _ (.tail _ (.tail _ (.tail _ (.tail _ (.tail _ (.tail _ (.tail _ (.tail _ (.tail _ (.tail _ (.tail _ (.tail _ (.tail _ (.head _))))))))))))))), key 128 inb_S1x512x2048_S1x512x128_0_0_128 (by omega)⟩
    · exact ⟨_, (.tail _ (.tail _ (.tail _ (.tail _ (.tail _ (.tail _ (.tail _ (.tail _ (.tail _ (.tail _ (.tail _ (.tail _ (.tail _ (.head _)))))))))))))), key 256 inb_S1x512x2048_S1x512x128_0_0_256 (by omega)⟩
    · exact ⟨_, (.tail _ (.tail _ (.tail _ (.tail _ (.tail _ (.tail _ (.tail _ (.tail _ (.tail _ (.tail _ (.tail _ (.tail _ (.head _))))))))))))), key 384 inb_S1x512x2048_S1x512x128_0_0_384 (by omega)⟩
    · exact ⟨_, (.tail _ (.tail _ (.tail _ (.tail _ (.tail _ (.tail _ (.tail _ (.tail _ (.tail _ (.tail _ (.tail _ (.head _)))))))))))), key 512 inb_S1x512x2048_S1x512x128_0_0_512 (by omega)⟩
    · exact ⟨_, (.tail _ (.tail _ (.tail _ (.tail _ (.tail _ (.tail _ (.tail _ (.tail _ (.tail _ (.tail _ (.head _))))))))))), key 640 inb_S1x512x2048_S1x512x128_0_0_640 (by omega)⟩
    · exact ⟨_, (.tail _ (.tail _ (.tail _ (.tail _ (.tail _ (.tail _ (.tail _ (.tail _ (.tail _ (.head _)))))))))), key 768 inb_S1x512x2048_S1x512x128_0_0_768 (by omega)⟩
    · exact ⟨_, (.tail _ (.tail _ (.tail _ (.tail _ (.tail _ (.tail _ (.tail _ (.tail _ (.head _))))))))), key 896 inb_S1x512x2048_S1x512x128_0_0_896 (by omega)⟩
    · exact ⟨_, (.tail _ (.tail _ (.tail _ (.tail _ (.tail _ (.tail _ (.tail _ (.head _)))))))), key 1024 inb_S1x512x2048_S1x512x128_0_0_1024 (by omega)⟩
    · exact ⟨_, (.tail _ (.tail _ (.tail _ (.tail _ (.tail _ (.tail _ (.head _))))))), key 1152 inb_S1x512x2048_S1x512x128_0_0_1152 (by omega)⟩
    · exact ⟨_, (.tail _ (.tail _ (.tail _ (.tail _ (.tail _ (.head _)))))), key 1280 inb_S1x512x2048_S1x512x128_0_0_1280 (by omega)⟩
    · exact ⟨_, (.tail _ (.tail _ (.tail _ (.tail _ (.head _))))), key 1408 inb_S1x512x2048_S1x512x128_0_0_1408 (by omega)⟩
    · exact ⟨_, (.tail _ (.tail _ (.tail _ (.head _)))), key 1536 inb_S1x512x2048_S1x512x128_0_0_1536 (by omega)⟩
    · exact ⟨_, (.tail _ (.tail _ (.head _))), key 1664 inb_S1x512x2048_S1x512x128_0_0_1664 (by omega)⟩
    · exact ⟨_, (.tail _ (.head _)), key 1792 inb_S1x512x2048_S1x512x128_0_0_1792 (by omega)⟩
    · exact ⟨_, (.head _), key 1920 inb_S1x512x2048_S1x512x128_0_0_1920 (by omega)⟩

variable (m : (ℓ : Loc nD τ sig) → Buf (Elt Ideal) ℓ)

theorem lt_N (t : Fin cfg0.N) : t.val < 32 := t.isLt

def batchAt (t : Fin cfg0.N) : Fin 2 := ⟨t.val / 16, by have := lt_N t; omega⟩
def rowAt (t : Fin cfg0.N) (r : Fin 512) : Fin 8192 := ⟨t.val % 16 * 512 + r.val, by have := r.isLt; omega⟩

theorem index_0 : ∀ t : Fin grid0.N, win0_0.index t = ![t.val / 16, t.val % 16, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![t.val % 16, 0] := by decide +kernel
theorem index_4 : ∀ t : Fin grid0.N, win0_4.index t = ![t.val % 16, 0] := by decide +kernel
theorem index_5 : ∀ t : Fin grid0.N, win0_5.index t = ![t.val / 16, t.val % 16, 0] := by decide +kernel

/-- The even or the odd columns of each map, as the host code takes them. -/
def half (w : FVec Ideal S2048x2048 .f32) (e : ℕ) (h : S2048x16x2x32x2.Slices ![0, 0, 0, 0, e] S2048x16x2x32x1) : FVec Ideal S2048x16x64 .f32 :=
  shapeCast S2048x16x64 (shapeCast S2048x16x2x32 (extractStridedSlice S2048x16x2x32x1 ![0, 0, 0, 0, e] (shapeCast S2048x16x2x32x2 w shapeCasts_S2048x2048_S2048x16x2x32x2) h) shapeCasts_S2048x16x2x32x1_S2048x16x2x32) shapeCasts_S2048x16x2x32_S2048x16x64

theorem half_apply (w : FVec Ideal S2048x2048 .f32) (e : ℕ) (he : e < 2) (h) (k : Fin 2048) (a : Fin 16) (q : Fin 64) (f : Fin 2048) (hf : f.val = a.val * 128 + q.val / 32 * 64 + 2 * (q.val % 32) + e) :
    half w e h (ix3 k a q) = w (ix2 k f) := by
  have hq := q.isLt
  unfold half
  have e1 : (shapeCast S2048x16x2x32x2 w shapeCasts_S2048x2048_S2048x16x2x32x2) (ix5 k a (⟨q.val / 32, by omega⟩ : Fin 2) (⟨q.val % 32, by omega⟩ : Fin 32) (⟨e, he⟩ : Fin 2)) = w (ix2 k f) :=
    shapeCast_apply _ _ _ (ix2 k f) (by rw [Shape.rowMajor_val_two, Shape.rowMajor_val_five]; show k.val * 2048 + f.val = (((k.val * 16 + a.val) * 2 + q.val / 32) * 32 + q.val % 32) * 2 + e; omega)
  rw [← e1]
  generalize shapeCast S2048x16x2x32x2 w shapeCasts_S2048x2048_S2048x16x2x32x2 = y
  rw [shapeCast_apply _ _ _ (ix4 k a (⟨q.val / 32, by omega⟩ : Fin 2) (⟨q.val % 32, by omega⟩ : Fin 32)) (by rw [Shape.rowMajor_val_four, Shape.rowMajor_val_three]; show ((k.val * 16 + a.val) * 2 + q.val / 32) * 32 + q.val % 32 = (k.val * 16 + a.val) * 64 + q.val; omega)]
  rw [shapeCast_apply _ _ _ (ix5 k a (⟨q.val / 32, by omega⟩ : Fin 2) (⟨q.val % 32, by omega⟩ : Fin 32) (0 : Fin 1)) (by rw [Shape.rowMajor_val_five, Shape.rowMajor_val_four]; show (((k.val * 16 + a.val) * 2 + q.val / 32) * 32 + q.val % 32) * 1 + 0 = ((k.val * 16 + a.val) * 2 + q.val / 32) * 32 + q.val % 32; omega)]
  refine congrArg y (funext fun b => Fin.ext ?_)
  fin_cases b
  · show 0 + k.val = k.val; omega
  · show 0 + a.val = a.val; omega
  · show 0 + q.val / 32 = q.val / 32; omega
  · show 0 + q.val % 32 = q.val % 32; omega
  · show e + 0 = e; omega

/-- The weights with the first components of each head's pairs before the second ones. -/
def deint (w : FVec Ideal S2048x2048 .f32) : FVec Ideal S2048x2048 .f32 :=
  shapeCast S2048x2048 (concatenate S2048x16x128 2 [⟨S2048x16x64, half w 0 slices_S2048x16x2x32x2_S2048x16x2x32x1_0_0_0_0_0⟩, ⟨S2048x16x64, half w 1 slices_S2048x16x2x32x2_S2048x16x2x32x1_0_0_0_0_1⟩] concatenates_S2048x16x64_S2048x16x64_S2048x16x128_d2) shapeCasts_S2048x16x128_S2048x2048

theorem deint_apply (w : FVec Ideal S2048x2048 .f32) (k f : Fin 2048) : deint w (ix2 k f) = w (ix2 k (src f)) := by
  have hf := f.isLt
  unfold deint
  rw [shapeCast_apply _ _ _ (ix3 k (⟨f.val / 128, by omega⟩ : Fin 16) (lane f)) (by rw [Shape.rowMajor_val_three, Shape.rowMajor_val_two]; show (k.val * 16 + f.val / 128) * 128 + f.val % 128 = k.val * 2048 + f.val; omega)]
  have g0 : ∀ q : Fin 64, f.val % 128 = q.val → half w 0 slices_S2048x16x2x32x2_S2048x16x2x32x1_0_0_0_0_0 (ix3 k (⟨f.val / 128, by omega⟩ : Fin 16) q) = w (ix2 k (src f)) := fun q hq =>
    half_apply w 0 (by omega) _ k _ q (src f) (by have := q.isLt; show f.val / 128 * 128 + f.val % 64 / 32 * 64 + 2 * (f.val % 32) + f.val % 128 / 64 = f.val / 128 * 128 + q.val / 32 * 64 + 2 * (q.val % 32) + 0; omega)
  have g1 : ∀ q : Fin 64, f.val % 128 = 64 + q.val → half w 1 slices_S2048x16x2x32x2_S2048x16x2x32x1_0_0_0_0_1 (ix3 k (⟨f.val / 128, by omega⟩ : Fin 16) q) = w (ix2 k (src f)) := fun q hq =>
    half_apply w 1 (by omega) _ k _ q (src f) (by have := q.isLt; show f.val / 128 * 128 + f.val % 64 / 32 * 64 + 2 * (f.val % 32) + f.val % 128 / 64 = f.val / 128 * 128 + q.val / 32 * 64 + 2 * (q.val % 32) + 1; omega)
  generalize half w 0 slices_S2048x16x2x32x2_S2048x16x2x32x1_0_0_0_0_0 = y at g0 ⊢
  generalize half w 1 slices_S2048x16x2x32x2_S2048x16x2x32x1_0_0_0_0_1 = z at g1 ⊢
  by_cases h : f.val % 128 < 64
  · have hi : ∀ a : Fin 3, ((ix3 k (⟨f.val / 128, by omega⟩ : Fin 16) (⟨f.val % 128, h⟩ : Fin 64) : S2048x16x64.Idx) a).val = ((ix3 k (⟨f.val / 128, by omega⟩ : Fin 16) (lane f) : S2048x16x128.Idx) a).val := fun a => by fin_cases a <;> rfl
    exact (concatenate_pair_apply_left (t := S2048x16x128) (s₁ := S2048x16x64) (s₂ := S2048x16x64) 2 y z concatenates_S2048x16x64_S2048x16x64_S2048x16x128_d2 (ix3 k (⟨f.val / 128, by omega⟩ : Fin 16) (lane f)) rfl (ix3 k (⟨f.val / 128, by omega⟩ : Fin 16) (⟨f.val % 128, h⟩ : Fin 64)) hi).trans (g0 _ rfl)
  · have hi : ∀ a : Fin 3, a ≠ 2 → ((ix3 k (⟨f.val / 128, by omega⟩ : Fin 16) (⟨f.val % 128 - 64, by omega⟩ : Fin 64) : S2048x16x64.Idx) a).val = ((ix3 k (⟨f.val / 128, by omega⟩ : Fin 16) (lane f) : S2048x16x128.Idx) a).val := fun a ha => by
      fin_cases a
      · rfl
      · rfl
      · exact absurd rfl ha
    have ha : f.val % 128 - 64 + 64 = f.val % 128 := by omega
    exact (concatenate_pair_apply_right (t := S2048x16x128) (s₁ := S2048x16x64) (s₂ := S2048x16x64) 2 y z concatenates_S2048x16x64_S2048x16x64_S2048x16x128_d2 (ix3 k (⟨f.val / 128, by omega⟩ : Fin 16) (lane f)) rfl rfl (ix3 k (⟨f.val / 128, by omega⟩ : Fin 16) (⟨f.val % 128 - 64, by omega⟩ : Fin 64)) hi ha).trans (g1 _ (by show f.val % 128 = 64 + (f.val % 128 - 64); omega))

/-- A table of a position's thirty-two values, twice. -/
def tab (y : FVec Ideal S8192x32 .f32) : FVec Ideal S8192x64 .f32 :=
  shapeCast S8192x64 (broadcastInDim S1x8192x2x32 ![0, 1, 2, 3] bcast_S1x8192x1x32_S1x8192x2x32_0_1_2_3 (shapeCast S1x8192x1x32 y shapeCasts_S8192x32_S1x8192x1x32) : FVec Ideal S1x8192x2x32 .f32) shapeCasts_S1x8192x2x32_S8192x64

theorem tab_apply (y : FVec Ideal S8192x32 .f32) (n : Fin 8192) (q : Fin 64) (p : Fin 32) (hp : q.val % 32 = p.val) : tab y (ix2 n q) = y (ix2 n p) := by
  have hq := q.isLt
  unfold tab
  have e : shapeCast S1x8192x1x32 y shapeCasts_S8192x32_S1x8192x1x32 (ix4 (0 : Fin 1) n (0 : Fin 1) p) = y (ix2 n p) :=
    shapeCast_apply _ _ _ (ix2 n p) (by rw [Shape.rowMajor_val_two, Shape.rowMajor_val_four]; show n.val * 32 + p.val = ((0 * 8192 + n.val) * 1 + 0) * 32 + p.val; omega)
  rw [← e]
  generalize shapeCast S1x8192x1x32 y shapeCasts_S8192x32_S1x8192x1x32 = z
  rw [shapeCast_apply _ _ _ (ix4 (0 : Fin 1) n (⟨q.val / 32, by omega⟩ : Fin 2) p) (by rw [Shape.rowMajor_val_four, Shape.rowMajor_val_two]; show ((0 * 8192 + n.val) * 2 + q.val / 32) * 32 + p.val = n.val * 64 + q.val; omega)]
  refine broadcastInDim_apply _ _ _ _ (ix4 (0 : Fin 1) n (0 : Fin 1) p) fun a => ?_
  fin_cases a <;> rfl

def both (y z : FVec Ideal S8192x64 .f32) : FVec Ideal S8192x128 .f32 :=
  concatenate S8192x128 1 [⟨S8192x64, y⟩, ⟨S8192x64, z⟩] concatenates_S8192x64_S8192x64_S8192x128_d1

theorem both_low (y z : FVec Ideal S8192x64 .f32) (n : Fin 8192) (l : Fin 128) (h : l.val < 64) : both y z (ix2 n l) = y (ix2 n (⟨l.val, h⟩ : Fin 64)) := by
  have hi : ∀ a : Fin 2, ((ix2 n (⟨l.val, h⟩ : Fin 64) : S8192x64.Idx) a).val = ((ix2 n l : S8192x128.Idx) a).val := fun a => by fin_cases a <;> rfl
  exact concatenate_pair_apply_left (t := S8192x128) (s₁ := S8192x64) (s₂ := S8192x64) 1 y z concatenates_S8192x64_S8192x64_S8192x128_d1 (ix2 n l) rfl (ix2 n (⟨l.val, h⟩ : Fin 64)) hi

theorem both_high (y z : FVec Ideal S8192x64 .f32) (n : Fin 8192) (l : Fin 128) (h : ¬l.val < 64) : both y z (ix2 n l) = z (ix2 n (⟨l.val - 64, by have := l.isLt; omega⟩ : Fin 64)) := by
  have hl := l.isLt
  have hi : ∀ a : Fin 2, a ≠ 1 → ((ix2 n (⟨l.val - 64, by omega⟩ : Fin 64) : S8192x64.Idx) a).val = ((ix2 n l : S8192x128.Idx) a).val := fun a ha => by
    fin_cases a
    · rfl
    · exact absurd rfl ha
  have ha : l.val - 64 + 64 = l.val := by omega
  exact concatenate_pair_apply_right (t := S8192x128) (s₁ := S8192x64) (s₂ := S8192x64) 1 y z concatenates_S8192x64_S8192x64_S8192x128_d1 (ix2 n l) rfl rfl (ix2 n (⟨l.val - 64, by omega⟩ : Fin 64)) hi ha

theorem V_v10 (c : Dev nD) : V m c main_v10 = (truncf .bf16 (deint (extractStridedSlice S2048x2048 ![0, 0] (m ((c : Thread nD τ).loc main_arg1)) slices_S2048x6144_S2048x2048_0_0)) bitsLt_bf16_f32 : FVec Ideal S2048x2048 .bf16) := by
  show StableHlo.after hostOps0 _ _ = _
  after_results
  first
    | done
    | rfl
theorem V_v51 (c : Dev nD) : V m c main_v51 = both (tab (Host.cos angle)) (tab (Host.cos angle)) := by
  show StableHlo.after hostOps0 _ _ = _
  after_results
  first
    | done
    | rfl
theorem V_v53 (c : Dev nD) : V m c main_v53 = both (Host.negf (tab (Host.sin angle))) (tab (Host.sin angle)) := by
  show StableHlo.after hostOps0 _ _ = _
  after_results
  first
    | done
    | rfl
theorem V_v54 (c : Dev nD) : V m c main_v54 = shapeCast S1x2048 (broadcastInDim S2048 ![] bcast_S_S2048 (constant (F := Ideal) S_ .f32 0x3E38AA3B#32) : FVec Ideal S2048 .f32) shapeCasts_S2048_S1x2048 := by
  show StableHlo.after hostOps0 _ _ = _
  after_results
  first
    | done
    | rfl

theorem read0 (c : Dev nD) (t : Fin cfg0.N) (r : Fin 512) (d : Fin 2048) :
    iblk m c 0 t (ix3 (0 : Fin 1) r d) = (m ((c : Thread nD τ).loc main_arg0)) (ix3 (batchAt t) (⟨t.val % 16 * 512 + r.val, by have := r.isLt; omega⟩ : Fin 8192) d) := by
  have e := index_0 t
  have hN := lt_N t
  have h : ((cfg0.win 0).blk t).view.emb (ix3 (0 : Fin 1) r d) = (ix3 (batchAt t) (⟨t.val % 16 * 512 + r.val, by have := r.isLt; omega⟩ : Fin 8192) d) := by
    refine funext fun a => Fin.ext ?_
    show win0_0.index t a * win0_0.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (k d : Fin 2048) :
    iblk m c 1 t (ix2 k d) = (m ((c : Thread nD τ).loc main_arg1)) (ix2 k (chan (src d))) := by
  have e := index_1 t
  have hN := lt_N t
  have h : ((cfg0.win 1).blk t).view.emb (ix2 k d) = (ix2 k d) := by
    refine funext fun a => Fin.ext ?_
    show win0_1.index t a * win0_1.size a + 1 * ((ix2 k d) a).val = _
    rw [e]
    fin_cases a
    · show (0) * 2048 + 1 * k.val = k.val; omega
    · show (0) * 2048 + 1 * d.val = d.val; omega
  show V m c main_v10 (((cfg0.win 1).blk t).view.emb (ix2 k d)) = _
  rw [h, V_v10]
  refine (deint_apply _ k d).trans ?_
  refine congrArg (m ((c : Thread nD τ).loc main_arg1)) (funext fun a => Fin.ext ?_)
  fin_cases a
  · show 0 + k.val = k.val; omega
  · rfl

theorem read2 (c : Dev nD) (t : Fin cfg0.N) (d : Fin 2048) :
    iblk m c 2 t (ix2 (0 : Fin 1) d) = scale := by
  have e := index_2 t
  have hN := lt_N t
  have h : ((cfg0.win 2).blk t).view.emb (ix2 (0 : Fin 1) d) = (ix2 (0 : Fin 1) d) := by
    refine funext fun a => Fin.ext ?_
    show win0_2.index t a * win0_2.size a + 1 * ((ix2 (0 : Fin 1) d) a).val = _
    rw [e]
    fin_cases a
    · show (0) * 1 + 1 * 0 = 0; omega
    · show (0) * 2048 + 1 * d.val = d.val; omega
  show V m c main_v54 (((cfg0.win 2).blk t).view.emb (ix2 (0 : Fin 1) d)) = _
  rw [h, V_v54, shapeCast_apply _ _ _ (ix1 d) (by rw [Shape.rowMajor_val_one, Shape.rowMajor_val_two]; show d.val = 0 * 2048 + d.val; omega)]
  rfl

theorem read3 (c : Dev nD) (t : Fin cfg0.N) (r : Fin 512) (f : Fin 2048) :
    iblk m c 3 t (ix2 r (lane f)) = Host.cos (F := Ideal) (φ := .f32) angle (ix2 (⟨t.val % 16 * 512 + r.val, by have := r.isLt; omega⟩ : Fin 8192) (rot f)) := by
  have e := index_3 t
  have hN := lt_N t
  have h : ((cfg0.win 3).blk t).view.emb (ix2 r (lane f)) = (ix2 (⟨t.val % 16 * 512 + r.val, by have := r.isLt; omega⟩ : Fin 8192) (lane f)) := by
    refine funext fun a => Fin.ext ?_
    show win0_3.index t a * win0_3.size a + 1 * ((ix2 r (lane f)) a).val = _
    rw [e]
    fin_cases a
    · show (t.val % 16) * 512 + 1 * r.val = t.val % 16 * 512 + r.val; omega
    · show (0) * 128 + 1 * (lane f).val = (lane f).val; omega
  show V m c main_v51 (((cfg0.win 3).blk t).view.emb (ix2 r (lane f))) = _
  rw [h, V_v51]
  by_cases hl : (lane f).val < 64
  · refine (both_low _ _ _ _ hl).trans (tab_apply _ _ _ (rot f) ?_)
    show f.val % 128 % 32 = f.val % 32; omega
  · refine (both_high _ _ _ _ hl).trans (tab_apply _ _ _ (rot f) ?_)
    have hl' : ¬f.val % 128 < 64 := hl
    show (f.val % 128 - 64) % 32 = f.val % 32; omega

theorem read4 (c : Dev nD) (t : Fin cfg0.N) (r : Fin 512) (f : Fin 2048) :
    iblk m c 4 t (ix2 r (lane f)) = (if f.val % 128 < 64 then -(Host.sin (F := Ideal) (φ := .f32) angle (ix2 (⟨t.val % 16 * 512 + r.val, by have := r.isLt; omega⟩ : Fin 8192) (rot f)) : EReal) else (Host.sin (F := Ideal) (φ := .f32) angle (ix2 (⟨t.val % 16 * 512 + r.val, by have := r.isLt; omega⟩ : Fin 8192) (rot f)) : EReal)) := by
  have e := index_4 t
  have hN := lt_N t
  have h : ((cfg0.win 4).blk t).view.emb (ix2 r (lane f)) = (ix2 (⟨t.val % 16 * 512 + r.val, by have := r.isLt; omega⟩ : Fin 8192) (lane f)) := by
    refine funext fun a => Fin.ext ?_
    show win0_4.index t a * win0_4.size a + 1 * ((ix2 r (lane f)) a).val = _
    rw [e]
    fin_cases a
    · show (t.val % 16) * 512 + 1 * r.val = t.val % 16 * 512 + r.val; omega
    · show (0) * 128 + 1 * (lane f).val = (lane f).val; omega
  show V m c main_v53 (((cfg0.win 4).blk t).view.emb (ix2 r (lane f))) = _
  rw [h, V_v53]
  by_cases hl : (lane f).val < 64
  · have hl' : f.val % 128 < 64 := hl
    rw [if_pos hl']
    refine (both_low _ _ _ _ hl).trans (congrArg (fun u : EReal => -u) (tab_apply _ _ _ (rot f) ?_))
    show f.val % 128 % 32 = f.val % 32; omega
  · have hl' : ¬f.val % 128 < 64 := hl
    rw [if_neg hl']
    refine (both_high _ _ _ _ hl).trans (tab_apply _ _ _ (rot f) ?_)
    show (f.val % 128 - 64) % 32 = f.val % 32; omega

theorem scaled_at (c : Dev nD) (t : Fin cfg0.N) (r : Fin 512) (f : Fin 2048) :
    scaled (iblk m c 0 t) (iblk m c 1 t) (iblk m c 2 t) r f = dot (m ((c : Thread nD τ).loc main_arg0)) (m ((c : Thread nD τ).loc main_arg1)) (batchAt t) (⟨t.val % 16 * 512 + r.val, by have := r.isLt; omega⟩ : Fin 8192) (src f) * scale :=
  congrArg₂ (fun u v : EReal => u * v) (Finset.sum_congr rfl fun d _ => congrArg₂ (fun u v : EReal => u * v) (read0 m c t r d) (read1 m c t d f)) (read2 m c t f)

theorem block_at (c : Dev nD) (t : Fin cfg0.N) (r : Fin 512) (f : Fin 2048) :
    block (iblk m c 0 t) (iblk m c 1 t) (iblk m c 2 t) (iblk m c 3 t) (iblk m c 4 t) (ix3 (0 : Fin 1) r f) = row (m ((c : Thread nD τ).loc main_arg0)) (m ((c : Thread nD τ).loc main_arg1)) (batchAt t) (⟨t.val % 16 * 512 + r.val, by have := r.isLt; omega⟩ : Fin 8192) f :=
  (block_apply _ _ _ _ _ r f).trans (congrArg₂ (fun u v : EReal => u + v)
    (congrArg₂ (fun u v : EReal => u * v) (scaled_at m c t r f) (read3 m c t r f))
    (congrArg₂ (fun u v : EReal => u * v) (scaled_at m c t r (mirror f)) (read4 m c t r f)))

/-- The result array. -/
def arr (c : Dev nD) : Vec Ideal S2x8192x2048 .bf16 := fun i => result (m ((c : Thread nD τ).loc main_arg0)) (m ((c : Thread nD τ).loc main_arg1)) (i 0) (i 1) (i 2)

theorem outs_apply (c : Dev nD) (t : Fin cfg0.N) (r : Fin 512) (f : Fin 2048) :
    out0_5 (iblk m c 0 t) (iblk m c 1 t) (iblk m c 2 t) (iblk m c 3 t) (iblk m c 4 t) (ix3 (0 : Fin 1) r f) = result (m ((c : Thread nD τ).loc main_arg0)) (m ((c : Thread nD τ).loc main_arg1)) (batchAt t) (rowAt t r) f := by
  have hN := lt_N t
  have hr := r.isLt
  unfold result
  rw [out_eq]
  exact block_at m c t r f

theorem flushed_eq (c : Dev nD) (t : Fin cfg0.N) :
    (dats m 0 c).flushed 5 t = ((cfg0.win 5).blk t).view.read (Elt Ideal) (arr m c) := by
  have hN := lt_N t
  rw [Cert.QryIdeal.Value.flushed5]
  funext x
  obtain ⟨a, r, d, rfl⟩ : ∃ (a : Fin 1) (r : Fin 512) (d : Fin 2048), x = ix3 a r d := ⟨x 0, x 1, x 2, (ix3_eta x).symm⟩
  have ha : a = (0 : Fin 1) := Fin.ext (by have := a.isLt; show a.val = 0; omega)
  subst ha
  show out0_5 (iblk m c 0 t) (iblk m c 1 t) (iblk m c 2 t) (iblk m c 3 t) (iblk m c 4 t) (ix3 (0 : Fin 1) r d) = arr m c (((cfg0.win 5).blk t).view.emb (ix3 (0 : Fin 1) r d))
  have e := index_5 t
  have e0 : ((cfg0.win 5).blk t).view.emb (ix3 (0 : Fin 1) r d) = ix3 (batchAt t) (rowAt t r) d := by
    refine funext fun a => Fin.ext ?_
    show win0_5.index t a * win0_5.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show 0 * 2048 + 1 * d.val = d.val; omega
  rw [e0]
  exact outs_apply m c t r d

theorem mem_blk (t : Fin cfg0.N) (i : S2x8192x2048.Idx) :
    i ∈ ((cfg0.win 5).blk t).view.set ↔ t.val / 16 = (i 0).val ∧ t.val % 16 = (i 1).val / 512 := by
  show i ∈ ((View.whole main_v55).slice (win0_5.rect t)).set ↔ _
  rw [View.set_slice_whole, Rect.mem_set_unit]
  have e := index_5 t
  have hN := lt_N t
  have h0 : (i 0).val < 2 := (i 0).isLt
  have h1 : (i 1).val < 8192 := (i 1).isLt
  have h2 : (i 2).val < 2048 := (i 2).isLt
  have key : (∀ a : Fin 3, (![(t.val / 16) * 1, (t.val % 16) * 512, (0) * 2048] : Fin 3 → ℕ) a ≤ (i a).val
      ∧ (i a).val < (![(t.val / 16) * 1, (t.val % 16) * 512, (0) * 2048] : Fin 3 → ℕ) a + (![1, 512, 2048] : Fin 3 → ℕ) a)
      ↔ t.val / 16 = (i 0).val ∧ t.val % 16 = (i 1).val / 512 := by
    constructor
    · intro h
      have k0 : (t.val / 16) * 1 ≤ (i 0).val ∧ (i 0).val < (t.val / 16) * 1 + 1 := h 0
      have k1 : (t.val % 16) * 512 ≤ (i 1).val ∧ (i 1).val < (t.val % 16) * 512 + 512 := h 1
      have k2 : (0) * 2048 ≤ (i 2).val ∧ (i 2).val < (0) * 2048 + 2048 := h 2
      omega
    · intro h a
      fin_cases a
      · show (t.val / 16) * 1 ≤ (i 0).val ∧ (i 0).val < (t.val / 16) * 1 + 1; omega
      · show (t.val % 16) * 512 ≤ (i 1).val ∧ (i 1).val < (t.val % 16) * 512 + 512; omega
      · show (0) * 2048 ≤ (i 2).val ∧ (i 2).val < (0) * 2048 + 2048; omega
  rw [← key]
  refine forall_congr' fun a => ?_
  have o : win0_5.index t a * win0_5.size a = (![(t.val / 16) * 1, (t.val % 16) * 512, (0) * 2048] : Fin 3 → ℕ) a := by
    rw [e]; fin_cases a <;> rfl
  have z : win0_5.xsize (grid0.coords t) a = (![1, 512, 2048] : Fin 3 → ℕ) a := by fin_cases a <;> rfl
  show (win0_5.index t a * win0_5.size a ≤ (i a).val ∧ (i a).val < win0_5.index t a * win0_5.size a + win0_5.xsize (grid0.coords t) a) ↔ _
  rw [o, z]

theorem cover (i : S2x8192x2048.Idx) : ∃ t : Fin cfg0.N, (cfg0.win 5).flush t = true ∧ i ∈ ((cfg0.win 5).blk t).view.set := by
  have h0 : (i 0).val < 2 := (i 0).isLt
  have h1 : (i 1).val < 8192 := (i 1).isLt
  have hN : cfg0.N = 32 := rfl
  refine ⟨⟨(i 0).val * 16 + (i 1).val / 512, by omega⟩, flush0_5 _, ?_⟩
  rw [mem_blk]
  dsimp only
  omega

/-- After the run the result array holds the rotated projection of the arguments. -/
theorem final (c : Dev nD) : (dats m 0 c).arrAt 5 cfg0.N = arr m c :=
  (dats m 0 c).arrAt_eq_of_cover 5 (arr m c) (fun t _ => flushed_eq m c t) cover

end Cert.QryKernel
end
-- ==== Proof.QryRef.lean ====
module

public import proofs.«01_k».proof.Proof.Gen.QryRefIdeal.Read
public import proofs.«01_k».proof.Proof.QryKernel
public import proofs.«01_k».proof.Proof.Rope
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The queries' reference, read at an index. -/

@[expose] public section

set_option maxRecDepth 16384

noncomputable section

namespace Cert.QryRef

open Cert.QryRefIdeal Cert.QryRefIdeal.Gen Cert.QryRefIdeal.Read Idealize.ShloMosaic
open Cert.QryKernel (chan angle scale dot row result)
open Cert.Rope (first second rot turned turned_low turned_high)

theorem product_at (x0 : FVec Ideal S2x8192x2048 .bf16) (x1 : FVec Ideal S2048x6144 .f32) (b : Fin 2) (n : Fin 8192) (f : Fin 2048) :
    val_main_v2 (F := Ideal) x0 x1 (ix3 b n f) = dot x0 x1 b n f := by
  rw [val_main_v2_apply]
  refine Finset.sum_congr rfl fun k _ => congrArg₂ (· * ·) ?_ ?_
  · rw [val_main_v0_apply]
    exact congrArg x0 (funext fun a => Fin.ext (by fin_cases a <;> rfl))
  · rw [val_main_v1_apply]
    refine congrArg x1 (funext fun a => Fin.ext ?_)
    fin_cases a
    · rfl
    · show f.val = 0 + f.val; omega

theorem heads_at (x0 : FVec Ideal S2x8192x2048 .bf16) (x1 : FVec Ideal S2048x6144 .f32) (b : Fin 2) (n : Fin 8192) (a : Fin 32) (q : Fin 64) (k : Fin 2048) (hk : k.val = a.val * 64 + q.val) :
    val_main_v3 (F := Ideal) x0 x1 (ix4 b n a q) = dot x0 x1 b n k := by
  have hb := b.isLt
  have hn := n.isLt
  have ha := a.isLt
  have hq := q.isLt
  rw [val_main_v3_apply, ← product_at]
  refine congrArg _ (funext fun j => Fin.ext ?_)
  fin_cases j
  · show (((b.val * 8192 + n.val) * 32 + a.val) * 64 + q.val) / 16777216 = b.val; omega
  · show (((b.val * 8192 + n.val) * 32 + a.val) * 64 + q.val) / 2048 % 8192 = n.val; omega
  · show (((b.val * 8192 + n.val) * 32 + a.val) * 64 + q.val) % 2048 = k.val; omega

theorem even_at (x0 : FVec Ideal S2x8192x2048 .bf16) (x1 : FVec Ideal S2048x6144 .f32) (b : Fin 2) (n : Fin 8192) (a : Fin 32) (p : Fin 32) (k : Fin 2048) (hk : k.val = a.val * 64 + 2 * p.val) :
    val_main_v39 (F := Ideal) x0 x1 (ix4 b n a p) = dot x0 x1 b n k := by
  have hp := p.isLt
  unfold val_main_v39
  rw [← heads_at x0 x1 b n a (⟨2 * p.val, by omega⟩ : Fin 64) k hk]
  generalize val_main_v3 (F := Ideal) x0 x1 = y
  refine congrArg y (funext fun j => Fin.ext ?_)
  fin_cases j
  · show 0 + 1 * b.val = b.val; omega
  · show 0 + 1 * n.val = n.val; omega
  · show 0 + 1 * a.val = a.val; omega
  · show 0 + 2 * p.val = 2 * p.val; omega

theorem odd_at (x0 : FVec Ideal S2x8192x2048 .bf16) (x1 : FVec Ideal S2048x6144 .f32) (b : Fin 2) (n : Fin 8192) (a : Fin 32) (p : Fin 32) (k : Fin 2048) (hk : k.val = a.val * 64 + 2 * p.val + 1) :
    val_main_v40 (F := Ideal) x0 x1 (ix4 b n a p) = dot x0 x1 b n k := by
  have hp := p.isLt
  unfold val_main_v40
  rw [← heads_at x0 x1 b n a (⟨1 + 2 * p.val, by omega⟩ : Fin 64) k (by show k.val = a.val * 64 + (1 + 2 * p.val); omega)]
  generalize val_main_v3 (F := Ideal) x0 x1 = y
  refine congrArg y (funext fun j => Fin.ext ?_)
  fin_cases j
  · show 0 + 1 * b.val = b.val; omega
  · show 0 + 1 * n.val = n.val; omega
  · show 0 + 1 * a.val = a.val; omega
  · show 1 + 2 * p.val = 1 + 2 * p.val; omega

theorem cos_at (i : S2x8192x32x32.Idx) (n : Fin 8192) (p : Fin 32) (hn : (i 1).val = n.val) (hp : (i 3).val = p.val) :
    val_main_v41 (F := Ideal) i = Host.cos (F := Ideal) (φ := .f32) angle (ix2 n p) := by
  rw [val_main_v41_apply, val_main_v37_apply]
  unfold val_main_v35 angle
  refine congrArg (Host.cos (F := Ideal) (φ := .f32) (val_main_v34 (F := Ideal))) (funext fun j => Fin.ext ?_)
  fin_cases j
  · exact hn
  · exact hp

theorem cos_at' (i : S2x8192x32x32.Idx) (n : Fin 8192) (p : Fin 32) (hn : (i 1).val = n.val) (hp : (i 3).val = p.val) :
    val_main_v48 (F := Ideal) i = Host.cos (F := Ideal) (φ := .f32) angle (ix2 n p) := by
  rw [val_main_v48_apply, val_main_v37_apply]
  unfold val_main_v35 angle
  refine congrArg (Host.cos (F := Ideal) (φ := .f32) (val_main_v34 (F := Ideal))) (funext fun j => Fin.ext ?_)
  fin_cases j
  · exact hn
  · exact hp

theorem sin_at (i : S2x8192x32x32.Idx) (n : Fin 8192) (p : Fin 32) (hn : (i 1).val = n.val) (hp : (i 3).val = p.val) :
    val_main_v43 (F := Ideal) i = Host.sin (F := Ideal) (φ := .f32) angle (ix2 n p) := by
  rw [val_main_v43_apply, val_main_v38_apply]
  unfold val_main_v36 angle
  refine congrArg (Host.sin (F := Ideal) (φ := .f32) (val_main_v34 (F := Ideal))) (funext fun j => Fin.ext ?_)
  fin_cases j
  · exact hn
  · exact hp

theorem sin_at' (i : S2x8192x32x32.Idx) (n : Fin 8192) (p : Fin 32) (hn : (i 1).val = n.val) (hp : (i 3).val = p.val) :
    val_main_v46 (F := Ideal) i = Host.sin (F := Ideal) (φ := .f32) angle (ix2 n p) := by
  rw [val_main_v46_apply, val_main_v38_apply]
  unfold val_main_v36 angle
  refine congrArg (Host.sin (F := Ideal) (φ := .f32) (val_main_v34 (F := Ideal))) (funext fun j => Fin.ext ?_)
  fin_cases j
  · exact hn
  · exact hp

/-- The first components of the rotated pairs. -/
theorem first_at (x0 : FVec Ideal S2x8192x2048 .bf16) (x1 : FVec Ideal S2048x6144 .f32) (b : Fin 2) (n : Fin 8192) (f : Fin 2048) (a : Fin 32) (ha : a.val = 2 * (f.val / 128) + f.val % 64 / 32) :
    val_main_v53 (F := Ideal) x0 x1 (ix5 b n a (rot f) (0 : Fin 2))
      = dot x0 x1 b n (first f) * (Host.cos (F := Ideal) (φ := .f32) angle (ix2 n (rot f)) : EReal) - dot x0 x1 b n (second f) * (Host.sin (F := Ideal) (φ := .f32) angle (ix2 n (rot f)) : EReal) := by
  unfold val_main_v53
  have hi : ∀ j : Fin 5, ((ix5 b n a (rot f) (0 : Fin 1) : S2x8192x32x32x1.Idx) j).val = ((ix5 b n a (rot f) (0 : Fin 2) : S2x8192x32x32x2.Idx) j).val := fun j => by fin_cases j <;> rfl
  refine (concatenate_pair_apply_left (t := S2x8192x32x32x2) (s₁ := S2x8192x32x32x1) (s₂ := S2x8192x32x32x1) 4 (val_main_v51 (F := Ideal) x0 x1) (val_main_v52 (F := Ideal) x0 x1) concatenates_S2x8192x32x32x1_S2x8192x32x32x1_S2x8192x32x32x2_d4 (ix5 b n a (rot f) (0 : Fin 2)) rfl (ix5 b n a (rot f) (0 : Fin 1)) hi).trans ?_
  rw [val_main_v51_apply]
  have e : idx_main_v51 (ix5 b n a (rot f) (0 : Fin 1)) = ix4 b n a (rot f) := funext fun j => Fin.ext (by fin_cases j <;> rfl)
  rw [e, val_main_v45_apply, val_main_v42_apply, val_main_v44_apply,
    even_at x0 x1 b n a (rot f) (first f) (by show f.val / 128 * 128 + f.val % 64 / 32 * 64 + 2 * (f.val % 32) = a.val * 64 + 2 * (f.val % 32); omega),
    odd_at x0 x1 b n a (rot f) (second f) (by show f.val / 128 * 128 + f.val % 64 / 32 * 64 + 2 * (f.val % 32) + 1 = a.val * 64 + 2 * (f.val % 32) + 1; omega),
    cos_at _ n (rot f) rfl rfl, sin_at _ n (rot f) rfl rfl]
  rfl

/-- The second ones. -/
theorem second_at (x0 : FVec Ideal S2x8192x2048 .bf16) (x1 : FVec Ideal S2048x6144 .f32) (b : Fin 2) (n : Fin 8192) (f : Fin 2048) (a : Fin 32) (ha : a.val = 2 * (f.val / 128) + f.val % 64 / 32) :
    val_main_v53 (F := Ideal) x0 x1 (ix5 b n a (rot f) (1 : Fin 2))
      = dot x0 x1 b n (first f) * (Host.sin (F := Ideal) (φ := .f32) angle (ix2 n (rot f)) : EReal) + dot x0 x1 b n (second f) * (Host.cos (F := Ideal) (φ := .f32) angle (ix2 n (rot f)) : EReal) := by
  unfold val_main_v53
  have hi : ∀ j : Fin 5, j ≠ 4 → ((ix5 b n a (rot f) (0 : Fin 1) : S2x8192x32x32x1.Idx) j).val = ((ix5 b n a (rot f) (1 : Fin 2) : S2x8192x32x32x2.Idx) j).val := fun j hj => by
    fin_cases j
    · rfl
    · rfl
    · rfl
    · rfl
    · exact absurd rfl hj
  refine (concatenate_pair_apply_right (t := S2x8192x32x32x2) (s₁ := S2x8192x32x32x1) (s₂ := S2x8192x32x32x1) 4 (val_main_v51 (F := Ideal) x0 x1) (val_main_v52 (F := Ideal) x0 x1) concatenates_S2x8192x32x32x1_S2x8192x32x32x1_S2x8192x32x32x2_d4 (ix5 b n a (rot f) (1 : Fin 2)) rfl rfl (ix5 b n a (rot f) (0 : Fin 1)) hi rfl).trans ?_
  rw [val_main_v52_apply]
  have e : idx_main_v52 (ix5 b n a (rot f) (0 : Fin 1)) = ix4 b n a (rot f) := funext fun j => Fin.ext (by fin_cases j <;> rfl)
  rw [e, val_main_v50_apply, val_main_v47_apply, val_main_v49_apply,
    even_at x0 x1 b n a (rot f) (first f) (by show f.val / 128 * 128 + f.val % 64 / 32 * 64 + 2 * (f.val % 32) = a.val * 64 + 2 * (f.val % 32); omega),
    odd_at x0 x1 b n a (rot f) (second f) (by show f.val / 128 * 128 + f.val % 64 / 32 * 64 + 2 * (f.val % 32) + 1 = a.val * 64 + 2 * (f.val % 32) + 1; omega),
    cos_at' _ n (rot f) rfl rfl, sin_at' _ n (rot f) rfl rfl]
  rfl

/-- The order of the channels: the pair's component before the map and the frequency. -/
theorem order_at (x0 : FVec Ideal S2x8192x2048 .bf16) (x1 : FVec Ideal S2048x6144 .f32) (b : Fin 2) (n : Fin 8192) (f : Fin 2048) (a : Fin 32) (ha : a.val = 2 * (f.val / 128) + f.val % 64 / 32) (e : Fin 2) (he : f.val % 128 / 64 = e.val) :
    val_main_v58 (F := Ideal) x0 x1 (ix3 b n f) = val_main_v55 (F := Ideal) x0 x1 (ix5 b n a (rot f) e) := by
  have hb := b.isLt
  have hn := n.isLt
  have hf := f.isLt
  have hE := e.isLt
  have e1 : idx_main_v58 (ix3 b n f) = ix5 (⟨b.val * 8192 + n.val, by omega⟩ : Fin 16384) (⟨f.val / 128, by omega⟩ : Fin 16) e (⟨f.val % 64 / 32, by omega⟩ : Fin 2) (rot f) := by
    refine funext fun j => Fin.ext ?_
    fin_cases j
    · show ((b.val * 8192 + n.val) * 2048 + f.val) / 2048 = b.val * 8192 + n.val; omega
    · show ((b.val * 8192 + n.val) * 2048 + f.val) / 128 % 16 = f.val / 128; omega
    · show ((b.val * 8192 + n.val) * 2048 + f.val) / 64 % 2 = e.val; omega
    · show ((b.val * 8192 + n.val) * 2048 + f.val) / 32 % 2 = f.val % 64 / 32; omega
    · show ((b.val * 8192 + n.val) * 2048 + f.val) % 32 = f.val % 32; omega
  have e2 : idx_main_v57 (ix5 (⟨b.val * 8192 + n.val, by omega⟩ : Fin 16384) (⟨f.val / 128, by omega⟩ : Fin 16) e (⟨f.val % 64 / 32, by omega⟩ : Fin 2) (rot f))
      = ix5 (⟨b.val * 8192 + n.val, by omega⟩ : Fin 16384) (⟨f.val / 128, by omega⟩ : Fin 16) (⟨f.val % 64 / 32, by omega⟩ : Fin 2) (rot f) e := funext fun j => Fin.ext (by fin_cases j <;> rfl)
  have e3 : idx_main_v56 (ix5 (⟨b.val * 8192 + n.val, by omega⟩ : Fin 16384) (⟨f.val / 128, by omega⟩ : Fin 16) (⟨f.val % 64 / 32, by omega⟩ : Fin 2) (rot f) e) = ix5 b n a (rot f) e := by
    have hH : f.val / 128 < 16 := by omega
    have hM : f.val % 64 / 32 < 2 := by omega
    have hP : f.val % 32 < 32 := by omega
    refine funext fun j => Fin.ext ?_
    fin_cases j
    · show (((((b.val * 8192 + n.val) * 16 + f.val / 128) * 2 + f.val % 64 / 32) * 32 + f.val % 32) * 2 + e.val) / 16777216 = b.val
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) / 2048 % 8192 = n.val
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) / 64 % 32 = a.val
      rw [ha]
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) / 2 % 32 = f.val % 32
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) % 2 = e.val
      generalize f.val / 128 = H at hH ⊢; generalize f.val % 64 / 32 = M at hM ⊢; generalize f.val % 32 = P at hP ⊢; omega
  rw [val_main_v58_apply, e1, val_main_v57_apply, e2, val_main_v56_apply, e3]

theorem row_at (x0 : FVec Ideal S2x8192x2048 .bf16) (x1 : FVec Ideal S2048x6144 .f32) (b : Fin 2) (n : Fin 8192) (f : Fin 2048) :
    val_main_v58 (F := Ideal) x0 x1 (ix3 b n f) = row x0 x1 b n f := by
  have hf := f.isLt
  have a_lt : 2 * (f.val / 128) + f.val % 64 / 32 < 32 := by omega
  unfold QryKernel.row
  by_cases h : f.val % 128 < 64
  · rw [order_at x0 x1 b n f ⟨_, a_lt⟩ rfl 0 (by show f.val % 128 / 64 = 0; omega)]
    refine Eq.trans ?_ (turned_low _ _ Cert.Rope.scale_nonneg Cert.Rope.scale_ne_top _ _ f h).symm
    rw [val_main_v55_apply]
    exact congrArg (fun u : EReal => u * scale) (first_at x0 x1 b n f ⟨_, a_lt⟩ rfl)
  · rw [order_at x0 x1 b n f ⟨_, a_lt⟩ rfl 1 (by show f.val % 128 / 64 = 1; omega)]
    refine Eq.trans ?_ (turned_high _ _ Cert.Rope.scale_nonneg Cert.Rope.scale_ne_top _ _ f h).symm
    rw [val_main_v55_apply]
    exact congrArg (fun u : EReal => u * scale) (second_at x0 x1 b n f ⟨_, a_lt⟩ rfl)

theorem result_at (x0 : FVec Ideal S2x8192x2048 .bf16) (x1 : FVec Ideal S2048x6144 .f32) (b : Fin 2) (n : Fin 8192) (f : Fin 2048) :
    val_main_v59 (F := Ideal) x0 x1 (ix3 b n f) = result x0 x1 b n f := by
  rw [val_main_v59_apply]
  exact row_at x0 x1 b n f

end Cert.QryRef
end
-- ==== Proof.QryClaim.lean ====
module

public import proofs.«01_k».proof.Defs
public import proofs.«01_k».proof.Proof.QryKernel
public import proofs.«01_k».proof.Proof.QryRef
public import proofs.«01_k».proof.Proof.Gen.Qry.Frame
public import Idealize.ShloMosaic.Lib.Quiescent

/-! The claim about the queries' in-projection: the kernel and the reference end with the same result. -/

@[expose] public section

set_option maxRecDepth 16384

noncomputable section

namespace Cert.QryClaim

open Idealize.ShloMosaic Idealize.ShloMosaic.TcCoe Idealize.SL.Sem

/-- The kernel's and the reference's results agree on every memory. -/
theorem algebraic : Cert.algebraic_QryIdeal_QryRefIdeal := by
  intro m ρ m' ρ' _ hagree
  refine ⟨fun c => Cert.QryKernel.arr m c, ?_, ?_⟩
  · exact (θ_run Cert.QryIdeal.defs _ _).mono (fun _ h c => ⟨(h c).1.trans (Cert.QryKernel.final m c), (h c).2⟩)
      (Cert.QryIdeal.Value.run_blocks (F := Ideal) m ρ)
  · refine (θ_run Cert.QryRefIdeal.defs _ _).mono (fun _ h c => ⟨(h c).1.trans ?_, (h c).2⟩)
      (Cert.QryRefIdeal.Value.run (F := Ideal) m' ρ')
    obtain ⟨h0, h1⟩ := hagree c
    rw [Cert.QryRefIdeal.Read.val_main_v59_eq, h0, h1]
    funext i
    have e : i = ix3 (i 0) (i 1) (i 2) := (ix3_eta i).symm
    exact (congrArg _ e).trans (Cert.QryRef.result_at _ _ (i 0) (i 1) (i 2))

end Cert.QryClaim
end
-- ==== Proof.KeyKernel.lean ====
module

public import proofs.«01_k».proof.Proof.Gen.KeyIdeal.Frame
public import proofs.«01_k».proof.Proof.Gen.KeyIdeal.Value
public import proofs.«01_k».proof.Proof.Gen.KeyRefIdeal.Read
public import proofs.«01_k».proof.Proof.Rope
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost
public import Idealize.ShloMosaic.Lib.Pipeline.Value
public import Idealize.ShloMosaic.Lib.StableHlo.Run

/-! The keys' in-projection with the rotary positions: the call's result array after the run, as one function of the argument arrays. -/

@[expose] public section

set_option maxRecDepth 16384

noncomputable section

namespace Cert.KeyKernel

open Cert.KeyIdeal Cert.KeyIdeal.Gen Idealize.ShloMosaic Idealize.ShloMosaic.TcCoe Idealize.SL.Sem
open Idealize.ShloMosaic.Pipeline (Dat)
open Cert.Rope (first second src rot lane mirror turned)

/-- The weights' column of one of the keys' columns. -/
def chan (f : Fin 2048) : Fin 6144 := ⟨2048 + f.val, by have := f.isLt; omega⟩

/-- The angles of a position. -/
def angle : FVec Ideal S8192x32 .f32 := Cert.KeyRefIdeal.Read.val_main_v34 (F := Ideal)

def scale : EReal := Ideal.ofBits FTy.f32 0x3F800000#32

/-- A row's product with a column. -/
def dot (h : Vec Ideal S2x8192x2048 .bf16) (w : Vec Ideal S2048x6144 .f32) (b : Fin 2) (n : Fin 8192) (k : Fin 2048) : EReal := ∑ d, h (ix3 b n d) * w (ix2 d (chan k))

/-- A projected and rotated row. -/
def row (h : Vec Ideal S2x8192x2048 .bf16) (w : Vec Ideal S2048x6144 .f32) (b : Fin 2) (n : Fin 8192) (f : Fin 2048) : EReal :=
  turned (dot h w b n) scale (fun p => Host.cos (F := Ideal) (φ := .f32) angle (ix2 n p)) (fun p => Host.sin (F := Ideal) (φ := .f32) angle (ix2 n p)) f

/-- The result: the rotated rows, then rows of zeros. -/
def result (h : Vec Ideal S2x8192x2048 .bf16) (w : Vec Ideal S2048x6144 .f32) (b : Fin 2) (n : Fin 8704) (f : Fin 2048) : EReal :=
  if p : n.val < 8192 then row h w b (⟨n.val, p⟩ : Fin 8192) f else 0

/-- A tile of the product, its columns scaled. -/
def scaled (x0 : Vec Ideal S1x512x2048 .bf16) (x1 : Vec Ideal S2048x2048 .bf16) (x2 : Vec Ideal S1x2048 .f32) (r : Fin 512) (f : Fin 2048) : EReal :=
  (∑ d : Fin 2048, x0 (ix3 0 r d) * x1 (ix2 d f)) * x2 (ix2 0 f)

/-- The tile with each head's halves rotated against each other. -/
def block (x0 : Vec Ideal S1x512x2048 .bf16) (x1 : Vec Ideal S2048x2048 .bf16) (x2 : Vec Ideal S1x2048 .f32) (x3 x4 : Vec Ideal S512x128 .f32) : FVec Ideal S1x512x2048 .bf16 := fun y =>
  scaled x0 x1 x2 (y 1) (y 2) * x3 (ix2 (y 1) (lane (y 2))) + scaled x0 x1 x2 (y 1) (mirror (y 2)) * x4 (ix2 (y 1) (lane (y 2)))

theorem block_apply (x0 : Vec Ideal S1x512x2048 .bf16) (x1 : Vec Ideal S2048x2048 .bf16) (x2 : Vec Ideal S1x2048 .f32) (x3 x4 : Vec Ideal S512x128 .f32) (r : Fin 512) (f : Fin 2048) :
    block x0 x1 x2 x3 x4 (ix3 0 r f) = scaled x0 x1 x2 r f * x3 (ix2 r (lane f)) + scaled x0 x1 x2 r (mirror f) * x4 (ix2 r (lane f)) := rfl

def prod (x0 : Vec Ideal S1x512x2048 .bf16) (x1 : Vec Ideal S2048x2048 .bf16) : FVec Ideal S512x2048 .f32 :=
  matmul dot_S512x2048_S2048x2048_S512x2048_1_0_0_1_n_n none (shapeCast S512x2048 x0 shapeCasts_S1x512x2048_S512x2048 : FVec Ideal S512x2048 .bf16) (shapeCast S2048x2048 x1 shapeCasts_S2048x2048_S2048x2048 : FVec Ideal S2048x2048 .bf16) (constant S512x2048 .f32 0x00000000#32)

theorem prod_apply (x0 : Vec Ideal S1x512x2048 .bf16) (x1 : Vec Ideal S2048x2048 .bf16) (r : Fin 512) (f : Fin 2048) :
    prod x0 x1 (ix2 r f) = ∑ d : Fin 2048, x0 (ix3 0 r d) * x1 (ix2 d f) := by
  pointwise [prod]

/-- The columns of one head, scaled. -/
def part (o : ℕ) (h : S512x2048.Slices ![0, o] S512x128) (x0 : Vec Ideal S1x512x2048 .bf16) (x1 : Vec Ideal S2048x2048 .bf16) (v : Vec Ideal S1x128 .f32) : FVec Ideal S512x128 .f32 :=
  mulf (extractStridedSlice S512x128 ![0, o] (prod x0 x1) h) (broadcastTo S512x128 (shapeCast S1x128 v shapeCasts_S1x128_S1x128) broadcasts_S1x128_S512x128)

/-- The columns of one head, rotated. -/
def col (o : ℕ) (h : S512x2048.Slices ![0, o] S512x128) (x0 : Vec Ideal S1x512x2048 .bf16) (x1 : Vec Ideal S2048x2048 .bf16) (x3 x4 : Vec Ideal S512x128 .f32) (v : Vec Ideal S1x128 .f32) : FVec Ideal S1x512x128 .bf16 :=
  shapeCast S1x512x128 (truncf .bf16 (addf (mulf (part o h x0 x1 v) (shapeCast S512x128 x3 shapeCasts_S512x128_S512x128)) (mulf (dynamicRotate 1 64#32 none (part o h x0 x1 v) rotates_S512x128_d1) (shapeCast S512x128 x4 shapeCasts_S512x128_S512x128))) bitsLt_bf16_f32) shapeCasts_S512x128_S1x512x128

theorem part_apply (o : ℕ) (h) (x0 : Vec Ideal S1x512x2048 .bf16) (x1 : Vec Ideal S2048x2048 .bf16) (v : Vec Ideal S1x128 .f32) (r : Fin 512) (l : Fin 128) (f : Fin 2048) (hf : f.val = o + l.val) :
    part o h x0 x1 v (ix2 r l) = (∑ d : Fin 2048, x0 (ix3 0 r d) * x1 (ix2 d f)) * v (ix2 0 l) := by
  rw [← prod_apply x0 x1 r f]
  unfold part
  generalize prod x0 x1 = y
  have e : extractStridedSlice S512x128 ![0, o] y h (ix2 r l) = y (ix2 r f) := by
    refine congrArg y (funext fun a => Fin.ext ?_)
    fin_cases a
    · show 0 + r.val = r.val; omega
    · show o + l.val = f.val; omega
  rw [← e]
  generalize extractStridedSlice S512x128 ![0, o] y h = z
  have e2 : broadcastTo S512x128 (shapeCast S1x128 v shapeCasts_S1x128_S1x128) broadcasts_S1x128_S512x128 (ix2 r l) = v (ix2 0 l) := by
    pointwise []
  exact congrArg (z (ix2 r l) * ·) e2

theorem col_apply (o : ℕ) (h) (x0 : Vec Ideal S1x512x2048 .bf16) (x1 : Vec Ideal S2048x2048 .bf16) (x3 x4 : Vec Ideal S512x128 .f32) (v : Vec Ideal S1x128 .f32) (r : Fin 512) (l l' : Fin 128) (hl : l'.val = (l.val + 64) % 128) :
    col o h x0 x1 x3 x4 v (ix3 0 r l) = part o h x0 x1 v (ix2 r l) * x3 (ix2 r l) + part o h x0 x1 v (ix2 r l') * x4 (ix2 r l) := by
  unfold col
  generalize part o h x0 x1 v = y
  rw [shapeCast_apply _ _ _ (ix2 r l) (by rw [Shape.rowMajor_val_two, Shape.rowMajor_val_three]; show r.val * 128 + l.val = (0 * 512 + r.val) * 128 + l.val; omega)]
  have e : dynamicRotate 1 64#32 none y rotates_S512x128_d1 (ix2 r l) = y (ix2 r l') := by
    refine dynamicRotate_apply 1 64#32 y rotates_S512x128_d1 (ix2 r l) (ix2 r l') fun b => ?_
    fin_cases b
    · rfl
    · show l'.val = (l.val + 128 - 64 % 128) % 128; omega
  have e3 : shapeCast S512x128 x3 shapeCasts_S512x128_S512x128 (ix2 r l) = x3 (ix2 r l) := shapeCast_apply _ _ _ (ix2 r l) rfl
  have e4 : shapeCast S512x128 x4 shapeCasts_S512x128_S512x128 (ix2 r l) = x4 (ix2 r l) := shapeCast_apply _ _ _ (ix2 r l) rfl
  rw [← e, ← e3, ← e4]
  rfl

theorem piece_eq (o : ℕ) (ho' : o % 128 = 0) (h) (x0 : Vec Ideal S1x512x2048 .bf16) (x1 : Vec Ideal S2048x2048 .bf16) (x2 : Vec Ideal S1x2048 .f32) (x3 x4 : Vec Ideal S512x128 .f32) (h1) (h2) (x : S1x512x128.Idx) :
    col o h x0 x1 x3 x4 (View.ld (Val := Elt Ideal) (e' := .f32) x2 (Rect.unit (s := S1x2048) ![0, o] ![1, 128] h1)) x
      = block x0 x1 x2 x3 x4 ((Rect.unit (s := S1x512x2048) ![0, 0, o] ![1, 512, 128] h2).emb x) := by
  have ho : o + 128 ≤ 2048 := h2 2
  obtain ⟨a, r, l, rfl⟩ : ∃ (a : Fin 1) (r : Fin 512) (l : Fin 128), x = ix3 a r l := ⟨x 0, x 1, x 2, (ix3_eta x).symm⟩
  have ha : a = (0 : Fin 1) := Fin.ext (by have := a.isLt; show a.val = 0; omega)
  subst ha
  have hl := l.isLt
  have hf : o + l.val < 2048 := by omega
  have e0 : (Rect.unit (s := S1x512x2048) ![0, 0, o] ![1, 512, 128] h2).emb (ix3 (0 : Fin 1) r l) = ix3 (0 : Fin 1) r (⟨o + l.val, hf⟩ : Fin 2048) := by
    refine funext fun a => Fin.ext ?_
    fin_cases a
    · rfl
    · exact (Nat.zero_add _).trans (Nat.one_mul _)
    · exact congrArg (o + ·) (Nat.one_mul _)
  rw [e0, block_apply]
  have hv : ∀ l : Fin 128, ∀ hf : o + l.val < 2048, View.ld (Val := Elt Ideal) (e' := .f32) x2 (Rect.unit (s := S1x2048) ![0, o] ![1, 128] h1) (ix2 (0 : Fin 1) l) = x2 (ix2 (0 : Fin 1) (⟨o + l.val, hf⟩ : Fin 2048)) := fun l hf => by
    refine congrArg x2 (funext fun a => Fin.ext ?_)
    fin_cases a
    · rfl
    · exact congrArg (o + ·) (Nat.one_mul _)
  have hl' : (l.val + 64) % 128 < 128 := Nat.mod_lt _ (by decide)
  have hf' : o + (l.val + 64) % 128 < 2048 := by omega
  have p1 : part o h x0 x1 (View.ld (Val := Elt Ideal) (e' := .f32) x2 (Rect.unit (s := S1x2048) ![0, o] ![1, 128] h1)) (ix2 r l) = scaled x0 x1 x2 r ⟨o + l.val, hf⟩ :=
    (part_apply o h x0 x1 _ r l ⟨o + l.val, hf⟩ rfl).trans (congrArg (fun u : EReal => (∑ d : Fin 2048, x0 (ix3 0 r d) * x1 (ix2 d (⟨o + l.val, hf⟩ : Fin 2048))) * u) (hv l hf))
  have p2 : part o h x0 x1 (View.ld (Val := Elt Ideal) (e' := .f32) x2 (Rect.unit (s := S1x2048) ![0, o] ![1, 128] h1)) (ix2 r (⟨(l.val + 64) % 128, hl'⟩ : Fin 128)) = scaled x0 x1 x2 r ⟨o + (l.val + 64) % 128, hf'⟩ :=
    (part_apply o h x0 x1 _ r _ ⟨o + (l.val + 64) % 128, hf'⟩ rfl).trans (congrArg (fun u : EReal => (∑ d : Fin 2048, x0 (ix3 0 r d) * x1 (ix2 d (⟨o + (l.val + 64) % 128, hf'⟩ : Fin 2048))) * u) (hv _ hf'))
  have q1 : lane ⟨o + l.val, hf⟩ = l := Fin.ext (by show (o + l.val) % 128 = l.val; omega)
  have q2 : mirror ⟨o + l.val, hf⟩ = ⟨o + (l.val + 64) % 128, hf'⟩ := Fin.ext (by show (o + l.val) / 128 * 128 + (o + l.val + 64) % 128 = o + (l.val + 64) % 128; omega)
  rw [q1, q2, ← p1, ← p2]
  exact col_apply o h x0 x1 x3 x4 _ r l _ rfl

theorem zeros2 : (![0, 0] : Fin 2 → ℕ) = fun _ => 0 := funext fun a => by fin_cases a <;> rfl
theorem zeros3 : (![0, 0, 0] : Fin 3 → ℕ) = fun _ => 0 := funext fun a => by fin_cases a <;> rfl

variable (m : (ℓ : Loc nD τ sig) → Buf (Elt Ideal) ℓ)

theorem lt_N (t : Fin cfg0.N) : t.val < 34 := t.isLt

set_option maxHeartbeats 1600000 in
theorem out_A (c : Dev nD) (t : Fin cfg0.N) (h0 : ¬t.val % 17 = 16) (h1 : t.val % 17 ≤ 15) :
    outsAt0 m c t.val t.isLt = block (iblk m c 0 t) (iblk m c 1 t) (iblk m c 2 t) (iblk m c 3 t) (iblk m c 4 t) := by
  rw [outsAt0_A m c t h0 h1]
  unfold out0_A_5
  rw [View.read_writes_eq_canon _ _ _ (cover0_A_5 c (grid0.coords t) _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  generalize iblk m c 0 t = x0
  generalize iblk m c 1 t = x1
  generalize iblk m c 2 t = x2
  generalize iblk m c 3 t = x3
  generalize iblk m c 4 t = x4
  simp only [View.ld_unit_zero (Val := Elt Ideal) (S := S1x512x2048) (e := .bf16) (off := ![0,0,0]) zeros3, View.ld_unit_zero (Val := Elt Ideal) (S := S2048x2048) (e := .bf16) (off := ![0,0]) zeros2, View.ld_unit_zero (Val := Elt Ideal) (S := S512x128) (e := .f32) (off := ![0,0]) zeros2]
  funext y
  refine View.canon_apply_of_pieces (Val := Elt Ideal) (e := .bf16) (block x0 x1 x2 x3 x4) _ ?_ y ?_
  · simp only [List.forall_mem_cons, List.not_mem_nil, false_imp_iff, implies_true, and_true]
    exact ⟨fun x => piece_eq 1920 rfl slices_S512x2048_o0_1920_S512x128 x0 x1 x2 x3 x4 _ _ x,
      fun x => piece_eq 1792 rfl slices_S512x2048_o0_1792_S512x128 x0 x1 x2 x3 x4 _ _ x,
      fun x => piece_eq 1664 rfl slices_S512x2048_o0_1664_S512x128 x0 x1 x2 x3 x4 _ _ x,
      fun x => piece_eq 1536 rfl slices_S512x2048_o0_1536_S512x128 x0 x1 x2 x3 x4 _ _ x,
      fun x => piece_eq 1408 rfl slices_S512x2048_o0_1408_S512x128 x0 x1 x2 x3 x4 _ _ x,
      fun x => piece_eq 1280 rfl slices_S512x2048_o0_1280_S512x128 x0 x1 x2 x3 x4 _ _ x,
      fun x => piece_eq 1152 rfl slices_S512x2048_o0_1152_S512x128 x0 x1 x2 x3 x4 _ _ x,
      fun x => piece_eq 1024 rfl slices_S512x2048_o0_1024_S512x128 x0 x1 x2 x3 x4 _ _ x,
      fun x => piece_eq 896 rfl slices_S512x2048_o0_896_S512x128 x0 x1 x2 x3 x4 _ _ x,
      fun x => piece_eq 768 rfl slices_S512x2048_o0_768_S512x128 x0 x1 x2 x3 x4 _ _ x,
      fun x => piece_eq 640 rfl slices_S512x2048_o0_640_S512x128 x0 x1 x2 x3 x4 _ _ x,
      fun x => piece_eq 512 rfl slices_S512x2048_o0_512_S512x128 x0 x1 x2 x3 x4 _ _ x,
      fun x => piece_eq 384 rfl slices_S512x2048_o0_384_S512x128 x0 x1 x2 x3 x4 _ _ x,
      fun x => piece_eq 256 rfl slices_S512x2048_o0_256_S512x128 x0 x1 x2 x3 x4 _ _ x,
      fun x => piece_eq 128 rfl slices_S512x2048_o0_128_S512x128 x0 x1 x2 x3 x4 _ _ x,
      fun x => piece_eq 0 rfl slices_S512x2048_o0_0_S512x128 x0 x1 x2 x3 x4 _ _ x⟩
  · have hy0 : (y 0).val < 1 := (y 0).isLt
    have hy1 : (y 1).val < 512 := (y 1).isLt
    have hy2 : (y 2).val < 2048 := (y 2).isLt
    have key : ∀ (o : ℕ) (h : ∀ a, (![0, 0, o] : Fin 3 → ℕ) a + (![1, 512, 128] : Fin 3 → ℕ) a ≤ S1x512x2048.size a), (y 2).val / 128 * 128 = o →
        y ∈ (Rect.unit (s := S1x512x2048) ![0, 0, o] ![1, 512, 128] h).set := by
      intro o h l1
      rw [Rect.mem_set_unit]
      intro a
      fin_cases a
      · exact ⟨Nat.zero_le _, by show (y 0).val < 0 + 1; omega⟩
      · exact ⟨Nat.zero_le _, by show (y 1).val < 0 + 512; omega⟩
      · exact ⟨by show o ≤ (y 2).val; omega, by show (y 2).val < o + 128; omega⟩
    rcases (by omega : (y 2).val / 128 = 0 ∨ (y 2).val / 128 = 1 ∨ (y 2).val / 128 = 2 ∨ (y 2).val / 128 = 3 ∨ (y 2).val / 128 = 4 ∨ (y 2).val / 128 = 5 ∨ (y 2).val / 128 = 6 ∨ (y 2).val / 128 = 7 ∨ (y 2).val / 128 = 8 ∨ (y 2).val / 128 = 9 ∨ (y 2).val / 128 = 10 ∨ (y 2).val / 128 = 11 ∨ (y 2).val / 128 = 12 ∨ (y 2).val / 128 = 13 ∨ (y 2).val / 128 = 14 ∨ (y 2).val / 128 = 15) with h | h | h | h | h | h | h | h | h | h | h | h | h | h | h | h
    · exact ⟨_, (.tail _ (.tail _ (.tail _ (.tail _ (.tail _ (.tail _ (.tail _ (.tail _ (.tail _ (.tail _ (.tail _ (.tail _ (.tail _ (.tail _ (.tail _ (.head _)))))))))))))))), key 0 inb_S1x512x2048_S1x512x128_0_0_0 (by omega)⟩
    · exact ⟨_, (.tail _ (.tail _ (.tail _ (.tail _ (.tail _ (.tail _ (.tail _ (.tail _ (.tail _ (.tail _ (.tail _ (.tail _ (.tail _ (.tail _ (.head _))))))))))))))), key 128 inb_S1x512x2048_S1x512x128_0_0_128 (by omega)⟩
    · exact ⟨_, (.tail _ (.tail _ (.tail _ (.tail _ (.tail _ (.tail _ (.tail _ (.tail _ (.tail _ (.tail _ (.tail _ (.tail _ (.tail _ (.head _)))))))))))))), key 256 inb_S1x512x2048_S1x512x128_0_0_256 (by omega)⟩
    · exact ⟨_, (.tail _ (.tail _ (.tail _ (.tail _ (.tail _ (.tail _ (.tail _ (.tail _ (.tail _ (.tail _ (.tail _ (.tail _ (.head _))))))))))))), key 384 inb_S1x512x2048_S1x512x128_0_0_384 (by omega)⟩
    · exact ⟨_, (.tail _ (.tail _ (.tail _ (.tail _ (.tail _ (.tail _ (.tail _ (.tail _ (.tail _ (.tail _ (.tail _ (.head _)))))))))))), key 512 inb_S1x512x2048_S1x512x128_0_0_512 (by omega)⟩
    · exact ⟨_, (.tail _ (.tail _ (.tail _ (.tail _ (.tail _ (.tail _ (.tail _ (.tail _ (.tail _ (.tail _ (.head _))))))))))), key 640 inb_S1x512x2048_S1x512x128_0_0_640 (by omega)⟩
    · exact ⟨_, (.tail _ (.tail _ (.tail _ (.tail _ (.tail _ (.tail _ (.tail _ (.tail _ (.tail _ (.head _)))))))))), key 768 inb_S1x512x2048_S1x512x128_0_0_768 (by omega)⟩
    · exact ⟨_, (.tail _ (.tail _ (.tail _ (.tail _ (.tail _ (.tail _ (.tail _ (.tail _ (.head _))))))))), key 896 inb_S1x512x2048_S1x512x128_0_0_896 (by omega)⟩
    · exact ⟨_, (.tail _ (.tail _ (.tail _ (.tail _ (.tail _ (.tail _ (.tail _ (.head _)))))))), key 1024 inb_S1x512x2048_S1x512x128_0_0_1024 (by omega)⟩
    · exact ⟨_, (.tail _ (.tail _ (.tail _ (.tail _ (.tail _ (.tail _ (.head _))))))), key 1152 inb_S1x512x2048_S1x512x128_0_0_1152 (by omega)⟩
    · exact ⟨_, (.tail _ (.tail _ (.tail _ (.tail _ (.tail _ (.head _)))))), key 1280 inb_S1x512x2048_S1x512x128_0_0_1280 (by omega)⟩
    · exact ⟨_, (.tail _ (.tail _ (.tail _ (.tail _ (.head _))))), key 1408 inb_S1x512x2048_S1x512x128_0_0_1408 (by omega)⟩
    · exact ⟨_, (.tail _ (.tail _ (.tail _ (.head _)))), key 1536 inb_S1x512x2048_S1x512x128_0_0_1536 (by omega)⟩
    · exact ⟨_, (.tail _ (.tail _ (.head _))), key 1664 inb_S1x512x2048_S1x512x128_0_0_1664 (by omega)⟩
    · exact ⟨_, (.tail _ (.head _)), key 1792 inb_S1x512x2048_S1x512x128_0_0_1792 (by omega)⟩
    · exact ⟨_, (.head _), key 1920 inb_S1x512x2048_S1x512x128_0_0_1920 (by omega)⟩

theorem pay1_apply (x : S1x512x2048.Idx) : k0_pay1 (F := Ideal) x = 0 := Ideal.ofBits_zero_bf16

theorem out_B (c : Dev nD) (t : Fin cfg0.N) (h0 : t.val % 17 = 16) (h1 : ¬t.val % 17 ≤ 15) :
    outsAt0 m c t.val t.isLt = fun _ => (0 : EReal) := by
  rw [outsAt0_B m c t h0 h1]
  unfold out0_B_5
  rw [View.read_writes_eq_canon _ _ _ (cover0_B_5 c (grid0.coords t) _ _ _ _ _ _ _ _ _ _ _ _ _ _ _ _ _ _ _)]
  unfold kernelRun0_B
  dsimp only
  sl_unfold_words
  refine (View.canon_unit_zero (Val := Elt Ideal) (S := S1x512x2048) (e := .bf16) zeros3 _ _).trans ?_
  funext x
  exact pay1_apply x

def batchAt (t : Fin cfg0.N) : Fin 2 := ⟨t.val / 17, by have := lt_N t; omega⟩
def rowAt (t : Fin cfg0.N) (r : Fin 512) : Fin 8704 := ⟨t.val % 17 * 512 + r.val, by have := r.isLt; omega⟩

theorem index_0 : ∀ t : Fin grid0.N, win0_0.index t = ![t.val / 17, min (t.val % 17) 15, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![min (t.val % 17) 15, 0] := by decide +kernel
theorem index_4 : ∀ t : Fin grid0.N, win0_4.index t = ![min (t.val % 17) 15, 0] := by decide +kernel
theorem index_5 : ∀ t : Fin grid0.N, win0_5.index t = ![t.val / 17, t.val % 17, 0] := by decide +kernel

/-- The even or the odd columns of each map, as the host code takes them. -/
def half (w : FVec Ideal S2048x2048 .f32) (e : ℕ) (h : S2048x16x2x32x2.Slices ![0, 0, 0, 0, e] S2048x16x2x32x1) : FVec Ideal S2048x16x64 .f32 :=
  shapeCast S2048x16x64 (shapeCast S2048x16x2x32 (extractStridedSlice S2048x16x2x32x1 ![0, 0, 0, 0, e] (shapeCast S2048x16x2x32x2 w shapeCasts_S2048x2048_S2048x16x2x32x2) h) shapeCasts_S2048x16x2x32x1_S2048x16x2x32) shapeCasts_S2048x16x2x32_S2048x16x64

theorem half_apply (w : FVec Ideal S2048x2048 .f32) (e : ℕ) (he : e < 2) (h) (k : Fin 2048) (a : Fin 16) (q : Fin 64) (f : Fin 2048) (hf : f.val = a.val * 128 + q.val / 32 * 64 + 2 * (q.val % 32) + e) :
    half w e h (ix3 k a q) = w (ix2 k f) := by
  have hq := q.isLt
  unfold half
  have e1 : (shapeCast S2048x16x2x32x2 w shapeCasts_S2048x2048_S2048x16x2x32x2) (ix5 k a (⟨q.val / 32, by omega⟩ : Fin 2) (⟨q.val % 32, by omega⟩ : Fin 32) (⟨e, he⟩ : Fin 2)) = w (ix2 k f) :=
    shapeCast_apply _ _ _ (ix2 k f) (by rw [Shape.rowMajor_val_two, Shape.rowMajor_val_five]; show k.val * 2048 + f.val = (((k.val * 16 + a.val) * 2 + q.val / 32) * 32 + q.val % 32) * 2 + e; omega)
  rw [← e1]
  generalize shapeCast S2048x16x2x32x2 w shapeCasts_S2048x2048_S2048x16x2x32x2 = y
  rw [shapeCast_apply _ _ _ (ix4 k a (⟨q.val / 32, by omega⟩ : Fin 2) (⟨q.val % 32, by omega⟩ : Fin 32)) (by rw [Shape.rowMajor_val_four, Shape.rowMajor_val_three]; show ((k.val * 16 + a.val) * 2 + q.val / 32) * 32 + q.val % 32 = (k.val * 16 + a.val) * 64 + q.val; omega)]
  rw [shapeCast_apply _ _ _ (ix5 k a (⟨q.val / 32, by omega⟩ : Fin 2) (⟨q.val % 32, by omega⟩ : Fin 32) (0 : Fin 1)) (by rw [Shape.rowMajor_val_five, Shape.rowMajor_val_four]; show (((k.val * 16 + a.val) * 2 + q.val / 32) * 32 + q.val % 32) * 1 + 0 = ((k.val * 16 + a.val) * 2 + q.val / 32) * 32 + q.val % 32; omega)]
  refine congrArg y (funext fun b => Fin.ext ?_)
  fin_cases b
  · show 0 + k.val = k.val; omega
  · show 0 + a.val = a.val; omega
  · show 0 + q.val / 32 = q.val / 32; omega
  · show 0 + q.val % 32 = q.val % 32; omega
  · show e + 0 = e; omega

/-- The weights with the first components of each head's pairs before the second ones. -/
def deint (w : FVec Ideal S2048x2048 .f32) : FVec Ideal S2048x2048 .f32 :=
  shapeCast S2048x2048 (concatenate S2048x16x128 2 [⟨S2048x16x64, half w 0 slices_S2048x16x2x32x2_S2048x16x2x32x1_0_0_0_0_0⟩, ⟨S2048x16x64, half w 1 slices_S2048x16x2x32x2_S2048x16x2x32x1_0_0_0_0_1⟩] concatenates_S2048x16x64_S2048x16x64_S2048x16x128_d2) shapeCasts_S2048x16x128_S2048x2048

theorem deint_apply (w : FVec Ideal S2048x2048 .f32) (k f : Fin 2048) : deint w (ix2 k f) = w (ix2 k (src f)) := by
  have hf := f.isLt
  unfold deint
  rw [shapeCast_apply _ _ _ (ix3 k (⟨f.val / 128, by omega⟩ : Fin 16) (lane f)) (by rw [Shape.rowMajor_val_three, Shape.rowMajor_val_two]; show (k.val * 16 + f.val / 128) * 128 + f.val % 128 = k.val * 2048 + f.val; omega)]
  have g0 : ∀ q : Fin 64, f.val % 128 = q.val → half w 0 slices_S2048x16x2x32x2_S2048x16x2x32x1_0_0_0_0_0 (ix3 k (⟨f.val / 128, by omega⟩ : Fin 16) q) = w (ix2 k (src f)) := fun q hq =>
    half_apply w 0 (by omega) _ k _ q (src f) (by have := q.isLt; show f.val / 128 * 128 + f.val % 64 / 32 * 64 + 2 * (f.val % 32) + f.val % 128 / 64 = f.val / 128 * 128 + q.val / 32 * 64 + 2 * (q.val % 32) + 0; omega)
  have g1 : ∀ q : Fin 64, f.val % 128 = 64 + q.val → half w 1 slices_S2048x16x2x32x2_S2048x16x2x32x1_0_0_0_0_1 (ix3 k (⟨f.val / 128, by omega⟩ : Fin 16) q) = w (ix2 k (src f)) := fun q hq =>
    half_apply w 1 (by omega) _ k _ q (src f) (by have := q.isLt; show f.val / 128 * 128 + f.val % 64 / 32 * 64 + 2 * (f.val % 32) + f.val % 128 / 64 = f.val / 128 * 128 + q.val / 32 * 64 + 2 * (q.val % 32) + 1; omega)
  generalize half w 0 slices_S2048x16x2x32x2_S2048x16x2x32x1_0_0_0_0_0 = y at g0 ⊢
  generalize half w 1 slices_S2048x16x2x32x2_S2048x16x2x32x1_0_0_0_0_1 = z at g1 ⊢
  by_cases h : f.val % 128 < 64
  · have hi : ∀ a : Fin 3, ((ix3 k (⟨f.val / 128, by omega⟩ : Fin 16) (⟨f.val % 128, h⟩ : Fin 64) : S2048x16x64.Idx) a).val = ((ix3 k (⟨f.val / 128, by omega⟩ : Fin 16) (lane f) : S2048x16x128.Idx) a).val := fun a => by fin_cases a <;> rfl
    exact (concatenate_pair_apply_left (t := S2048x16x128) (s₁ := S2048x16x64) (s₂ := S2048x16x64) 2 y z concatenates_S2048x16x64_S2048x16x64_S2048x16x128_d2 (ix3 k (⟨f.val / 128, by omega⟩ : Fin 16) (lane f)) rfl (ix3 k (⟨f.val / 128, by omega⟩ : Fin 16) (⟨f.val % 128, h⟩ : Fin 64)) hi).trans (g0 _ rfl)
  · have hi : ∀ a : Fin 3, a ≠ 2 → ((ix3 k (⟨f.val / 128, by omega⟩ : Fin 16) (⟨f.val % 128 - 64, by omega⟩ : Fin 64) : S2048x16x64.Idx) a).val = ((ix3 k (⟨f.val / 128, by omega⟩ : Fin 16) (lane f) : S2048x16x128.Idx) a).val := fun a ha => by
      fin_cases a
      · rfl
      · rfl
      · exact absurd rfl ha
    have ha : f.val % 128 - 64 + 64 = f.val % 128 := by omega
    exact (concatenate_pair_apply_right (t := S2048x16x128) (s₁ := S2048x16x64) (s₂ := S2048x16x64) 2 y z concatenates_S2048x16x64_S2048x16x64_S2048x16x128_d2 (ix3 k (⟨f.val / 128, by omega⟩ : Fin 16) (lane f)) rfl rfl (ix3 k (⟨f.val / 128, by omega⟩ : Fin 16) (⟨f.val % 128 - 64, by omega⟩ : Fin 64)) hi ha).trans (g1 _ (by show f.val % 128 = 64 + (f.val % 128 - 64); omega))

/-- A table of a position's thirty-two values, twice. -/
def tab (y : FVec Ideal S8192x32 .f32) : FVec Ideal S8192x64 .f32 :=
  shapeCast S8192x64 (broadcastInDim S1x8192x2x32 ![0, 1, 2, 3] bcast_S1x8192x1x32_S1x8192x2x32_0_1_2_3 (shapeCast S1x8192x1x32 y shapeCasts_S8192x32_S1x8192x1x32) : FVec Ideal S1x8192x2x32 .f32) shapeCasts_S1x8192x2x32_S8192x64

theorem tab_apply (y : FVec Ideal S8192x32 .f32) (n : Fin 8192) (q : Fin 64) (p : Fin 32) (hp : q.val % 32 = p.val) : tab y (ix2 n q) = y (ix2 n p) := by
  have hq := q.isLt
  unfold tab
  have e : shapeCast S1x8192x1x32 y shapeCasts_S8192x32_S1x8192x1x32 (ix4 (0 : Fin 1) n (0 : Fin 1) p) = y (ix2 n p) :=
    shapeCast_apply _ _ _ (ix2 n p) (by rw [Shape.rowMajor_val_two, Shape.rowMajor_val_four]; show n.val * 32 + p.val = ((0 * 8192 + n.val) * 1 + 0) * 32 + p.val; omega)
  rw [← e]
  generalize shapeCast S1x8192x1x32 y shapeCasts_S8192x32_S1x8192x1x32 = z
  rw [shapeCast_apply _ _ _ (ix4 (0 : Fin 1) n (⟨q.val / 32, by omega⟩ : Fin 2) p) (by rw [Shape.rowMajor_val_four, Shape.rowMajor_val_two]; show ((0 * 8192 + n.val) * 2 + q.val / 32) * 32 + p.val = n.val * 64 + q.val; omega)]
  refine broadcastInDim_apply _ _ _ _ (ix4 (0 : Fin 1) n (0 : Fin 1) p) fun a => ?_
  fin_cases a <;> rfl

def both (y z : FVec Ideal S8192x64 .f32) : FVec Ideal S8192x128 .f32 :=
  concatenate S8192x128 1 [⟨S8192x64, y⟩, ⟨S8192x64, z⟩] concatenates_S8192x64_S8192x64_S8192x128_d1

theorem both_low (y z : FVec Ideal S8192x64 .f32) (n : Fin 8192) (l : Fin 128) (h : l.val < 64) : both y z (ix2 n l) = y (ix2 n (⟨l.val, h⟩ : Fin 64)) := by
  have hi : ∀ a : Fin 2, ((ix2 n (⟨l.val, h⟩ : Fin 64) : S8192x64.Idx) a).val = ((ix2 n l : S8192x128.Idx) a).val := fun a => by fin_cases a <;> rfl
  exact concatenate_pair_apply_left (t := S8192x128) (s₁ := S8192x64) (s₂ := S8192x64) 1 y z concatenates_S8192x64_S8192x64_S8192x128_d1 (ix2 n l) rfl (ix2 n (⟨l.val, h⟩ : Fin 64)) hi

theorem both_high (y z : FVec Ideal S8192x64 .f32) (n : Fin 8192) (l : Fin 128) (h : ¬l.val < 64) : both y z (ix2 n l) = z (ix2 n (⟨l.val - 64, by have := l.isLt; omega⟩ : Fin 64)) := by
  have hl := l.isLt
  have hi : ∀ a : Fin 2, a ≠ 1 → ((ix2 n (⟨l.val - 64, by omega⟩ : Fin 64) : S8192x64.Idx) a).val = ((ix2 n l : S8192x128.Idx) a).val := fun a ha => by
    fin_cases a
    · rfl
    · exact absurd rfl ha
  have ha : l.val - 64 + 64 = l.val := by omega
  exact concatenate_pair_apply_right (t := S8192x128) (s₁ := S8192x64) (s₂ := S8192x64) 1 y z concatenates_S8192x64_S8192x64_S8192x128_d1 (ix2 n l) rfl rfl (ix2 n (⟨l.val - 64, by omega⟩ : Fin 64)) hi ha

theorem V_v10 (c : Dev nD) : V m c main_v10 = (truncf .bf16 (deint (extractStridedSlice S2048x2048 ![0, 2048] (m ((c : Thread nD τ).loc main_arg1)) slices_S2048x6144_S2048x2048_0_2048)) bitsLt_bf16_f32 : FVec Ideal S2048x2048 .bf16) := by
  show StableHlo.after hostOps0 _ _ = _
  after_results
  first
    | done
    | rfl
theorem V_v51 (c : Dev nD) : V m c main_v51 = both (tab (Host.cos angle)) (tab (Host.cos angle)) := by
  show StableHlo.after hostOps0 _ _ = _
  after_results
  first
    | done
    | rfl
theorem V_v53 (c : Dev nD) : V m c main_v53 = both (Host.negf (tab (Host.sin angle))) (tab (Host.sin angle)) := by
  show StableHlo.after hostOps0 _ _ = _
  after_results
  first
    | done
    | rfl
theorem V_v54 (c : Dev nD) : V m c main_v54 = shapeCast S1x2048 (broadcastInDim S2048 ![] bcast_S_S2048 (constant (F := Ideal) S_ .f32 0x3F800000#32) : FVec Ideal S2048 .f32) shapeCasts_S2048_S1x2048 := by
  show StableHlo.after hostOps0 _ _ = _
  after_results
  first
    | done
    | rfl

theorem read0 (c : Dev nD) (t : Fin cfg0.N) (r : Fin 512) (d : Fin 2048) (hr : t.val % 17 ≤ 15) :
    iblk m c 0 t (ix3 (0 : Fin 1) r d) = (m ((c : Thread nD τ).loc main_arg0)) (ix3 (batchAt t) (⟨t.val % 17 * 512 + r.val, by have := r.isLt; omega⟩ : Fin 8192) d) := by
  have e := index_0 t
  have hN := lt_N t
  have h : ((cfg0.win 0).blk t).view.emb (ix3 (0 : Fin 1) r d) = (ix3 (batchAt t) (⟨t.val % 17 * 512 + r.val, by have := r.isLt; omega⟩ : Fin 8192) d) := by
    refine funext fun a => Fin.ext ?_
    show win0_0.index t a * win0_0.size a + 1 * ((ix3 (0 : Fin 1) r d) a).val = _
    rw [e]
    fin_cases a
    · show (t.val / 17) * 1 + 1 * 0 = t.val / 17; omega
    · show (min (t.val % 17) 15) * 512 + 1 * r.val = t.val % 17 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (k d : Fin 2048) :
    iblk m c 1 t (ix2 k d) = (m ((c : Thread nD τ).loc main_arg1)) (ix2 k (chan (src d))) := by
  have e := index_1 t
  have hN := lt_N t
  have h : ((cfg0.win 1).blk t).view.emb (ix2 k d) = (ix2 k d) := by
    refine funext fun a => Fin.ext ?_
    show win0_1.index t a * win0_1.size a + 1 * ((ix2 k d) a).val = _
    rw [e]
    fin_cases a
    · show (0) * 2048 + 1 * k.val = k.val; omega
    · show (0) * 2048 + 1 * d.val = d.val; omega
  show V m c main_v10 (((cfg0.win 1).blk t).view.emb (ix2 k d)) = _
  rw [h, V_v10]
  refine (deint_apply _ k d).trans ?_
  refine congrArg (m ((c : Thread nD τ).loc main_arg1)) (funext fun a => Fin.ext ?_)
  fin_cases a
  · show 0 + k.val = k.val; omega
  · rfl

theorem read2 (c : Dev nD) (t : Fin cfg0.N) (d : Fin 2048) :
    iblk m c 2 t (ix2 (0 : Fin 1) d) = scale := by
  have e := index_2 t
  have hN := lt_N t
  have h : ((cfg0.win 2).blk t).view.emb (ix2 (0 : Fin 1) d) = (ix2 (0 : Fin 1) d) := by
    refine funext fun a => Fin.ext ?_
    show win0_2.index t a * win0_2.size a + 1 * ((ix2 (0 : Fin 1) d) a).val = _
    rw [e]
    fin_cases a
    · show (0) * 1 + 1 * 0 = 0; omega
    · show (0) * 2048 + 1 * d.val = d.val; omega
  show V m c main_v54 (((cfg0.win 2).blk t).view.emb (ix2 (0 : Fin 1) d)) = _
  rw [h, V_v54, shapeCast_apply _ _ _ (ix1 d) (by rw [Shape.rowMajor_val_one, Shape.rowMajor_val_two]; show d.val = 0 * 2048 + d.val; omega)]
  rfl

theorem read3 (c : Dev nD) (t : Fin cfg0.N) (r : Fin 512) (f : Fin 2048) (hr : t.val % 17 ≤ 15) :
    iblk m c 3 t (ix2 r (lane f)) = Host.cos (F := Ideal) (φ := .f32) angle (ix2 (⟨t.val % 17 * 512 + r.val, by have := r.isLt; omega⟩ : Fin 8192) (rot f)) := by
  have e := index_3 t
  have hN := lt_N t
  have h : ((cfg0.win 3).blk t).view.emb (ix2 r (lane f)) = (ix2 (⟨t.val % 17 * 512 + r.val, by have := r.isLt; omega⟩ : Fin 8192) (lane f)) := by
    refine funext fun a => Fin.ext ?_
    show win0_3.index t a * win0_3.size a + 1 * ((ix2 r (lane f)) a).val = _
    rw [e]
    fin_cases a
    · show (min (t.val % 17) 15) * 512 + 1 * r.val = t.val % 17 * 512 + r.val; omega
    · show (0) * 128 + 1 * (lane f).val = (lane f).val; omega
  show V m c main_v51 (((cfg0.win 3).blk t).view.emb (ix2 r (lane f))) = _
  rw [h, V_v51]
  by_cases hl : (lane f).val < 64
  · refine (both_low _ _ _ _ hl).trans (tab_apply _ _ _ (rot f) ?_)
    show f.val % 128 % 32 = f.val % 32; omega
  · refine (both_high _ _ _ _ hl).trans (tab_apply _ _ _ (rot f) ?_)
    have hl' : ¬f.val % 128 < 64 := hl
    show (f.val % 128 - 64) % 32 = f.val % 32; omega

theorem read4 (c : Dev nD) (t : Fin cfg0.N) (r : Fin 512) (f : Fin 2048) (hr : t.val % 17 ≤ 15) :
    iblk m c 4 t (ix2 r (lane f)) = (if f.val % 128 < 64 then -(Host.sin (F := Ideal) (φ := .f32) angle (ix2 (⟨t.val % 17 * 512 + r.val, by have := r.isLt; omega⟩ : Fin 8192) (rot f)) : EReal) else (Host.sin (F := Ideal) (φ := .f32) angle (ix2 (⟨t.val % 17 * 512 + r.val, by have := r.isLt; omega⟩ : Fin 8192) (rot f)) : EReal)) := by
  have e := index_4 t
  have hN := lt_N t
  have h : ((cfg0.win 4).blk t).view.emb (ix2 r (lane f)) = (ix2 (⟨t.val % 17 * 512 + r.val, by have := r.isLt; omega⟩ : Fin 8192) (lane f)) := by
    refine funext fun a => Fin.ext ?_
    show win0_4.index t a * win0_4.size a + 1 * ((ix2 r (lane f)) a).val = _
    rw [e]
    fin_cases a
    · show (min (t.val % 17) 15) * 512 + 1 * r.val = t.val % 17 * 512 + r.val; omega
    · show (0) * 128 + 1 * (lane f).val = (lane f).val; omega
  show V m c main_v53 (((cfg0.win 4).blk t).view.emb (ix2 r (lane f))) = _
  rw [h, V_v53]
  by_cases hl : (lane f).val < 64
  · have hl' : f.val % 128 < 64 := hl
    rw [if_pos hl']
    refine (both_low _ _ _ _ hl).trans (congrArg (fun u : EReal => -u) (tab_apply _ _ _ (rot f) ?_))
    show f.val % 128 % 32 = f.val % 32; omega
  · have hl' : ¬f.val % 128 < 64 := hl
    rw [if_neg hl']
    refine (both_high _ _ _ _ hl).trans (tab_apply _ _ _ (rot f) ?_)
    show (f.val % 128 - 64) % 32 = f.val % 32; omega

theorem scaled_at (c : Dev nD) (t : Fin cfg0.N) (r : Fin 512) (f : Fin 2048) (h : t.val % 17 ≤ 15) :
    scaled (iblk m c 0 t) (iblk m c 1 t) (iblk m c 2 t) r f = dot (m ((c : Thread nD τ).loc main_arg0)) (m ((c : Thread nD τ).loc main_arg1)) (batchAt t) (⟨t.val % 17 * 512 + r.val, by have := r.isLt; omega⟩ : Fin 8192) (src f) * scale :=
  congrArg₂ (fun u v : EReal => u * v) (Finset.sum_congr rfl fun d _ => congrArg₂ (fun u v : EReal => u * v) (read0 m c t r d h) (read1 m c t d f)) (read2 m c t f)

theorem block_at (c : Dev nD) (t : Fin cfg0.N) (r : Fin 512) (f : Fin 2048) (h : t.val % 17 ≤ 15) :
    block (iblk m c 0 t) (iblk m c 1 t) (iblk m c 2 t) (iblk m c 3 t) (iblk m c 4 t) (ix3 (0 : Fin 1) r f) = row (m ((c : Thread nD τ).loc main_arg0)) (m ((c : Thread nD τ).loc main_arg1)) (batchAt t) (⟨t.val % 17 * 512 + r.val, by have := r.isLt; omega⟩ : Fin 8192) f :=
  (block_apply _ _ _ _ _ r f).trans (congrArg₂ (fun u v : EReal => u + v)
    (congrArg₂ (fun u v : EReal => u * v) (scaled_at m c t r f h) (read3 m c t r f h))
    (congrArg₂ (fun u v : EReal => u * v) (scaled_at m c t r (mirror f) h) (read4 m c t r f h)))

/-- The result array. -/
def arr (c : Dev nD) : Vec Ideal S2x8704x2048 .bf16 := fun i => result (m ((c : Thread nD τ).loc main_arg0)) (m ((c : Thread nD τ).loc main_arg1)) (i 0) (i 1) (i 2)

theorem outs_apply (c : Dev nD) (t : Fin cfg0.N) (r : Fin 512) (f : Fin 2048) :
    outsAt0 m c t.val t.isLt (ix3 (0 : Fin 1) r f) = result (m ((c : Thread nD τ).loc main_arg0)) (m ((c : Thread nD τ).loc main_arg1)) (batchAt t) (rowAt t r) f := by
  have hN := lt_N t
  have hr := r.isLt
  unfold result
  by_cases h : t.val % 17 ≤ 15
  · rw [dif_pos (by show t.val % 17 * 512 + r.val < 8192; omega), out_A m c t (by omega) h]
    exact block_at m c t r f h
  · rw [dif_neg (by show ¬ t.val % 17 * 512 + r.val < 8192; omega), out_B m c t (by omega) h]

theorem flushed_eq (c : Dev nD) (t : Fin cfg0.N) :
    (dats m 0 c).flushed 5 t = ((cfg0.win 5).blk t).view.read (Elt Ideal) (arr m c) := by
  have hN := lt_N t
  rw [Cert.KeyIdeal.Value.flushed5]
  funext x
  obtain ⟨a, r, d, rfl⟩ : ∃ (a : Fin 1) (r : Fin 512) (d : Fin 2048), x = ix3 a r d := ⟨x 0, x 1, x 2, (ix3_eta x).symm⟩
  have ha : a = (0 : Fin 1) := Fin.ext (by have := a.isLt; show a.val = 0; omega)
  subst ha
  show outsAt0 m c t.val t.isLt (ix3 (0 : Fin 1) r d) = arr m c (((cfg0.win 5).blk t).view.emb (ix3 (0 : Fin 1) r d))
  have e := index_5 t
  have e0 : ((cfg0.win 5).blk t).view.emb (ix3 (0 : Fin 1) r d) = ix3 (batchAt t) (rowAt t r) d := by
    refine funext fun a => Fin.ext ?_
    show win0_5.index t a * win0_5.size a + 1 * ((ix3 (0 : Fin 1) r d) a).val = _
    rw [e]
    fin_cases a
    · show (t.val / 17) * 1 + 1 * 0 = t.val / 17; omega
    · show (t.val % 17) * 512 + 1 * r.val = t.val % 17 * 512 + r.val; omega
    · show 0 * 2048 + 1 * d.val = d.val; omega
  rw [e0]
  exact outs_apply m c t r d

theorem mem_blk (t : Fin cfg0.N) (i : S2x8704x2048.Idx) :
    i ∈ ((cfg0.win 5).blk t).view.set ↔ t.val / 17 = (i 0).val ∧ t.val % 17 = (i 1).val / 512 := by
  show i ∈ ((View.whole main_v55).slice (win0_5.rect t)).set ↔ _
  rw [View.set_slice_whole, Rect.mem_set_unit]
  have e := index_5 t
  have hN := lt_N t
  have h0 : (i 0).val < 2 := (i 0).isLt
  have h1 : (i 1).val < 8704 := (i 1).isLt
  have h2 : (i 2).val < 2048 := (i 2).isLt
  have key : (∀ a : Fin 3, (![(t.val / 17) * 1, (t.val % 17) * 512, (0) * 2048] : Fin 3 → ℕ) a ≤ (i a).val
      ∧ (i a).val < (![(t.val / 17) * 1, (t.val % 17) * 512, (0) * 2048] : Fin 3 → ℕ) a + (![1, 512, 2048] : Fin 3 → ℕ) a)
      ↔ t.val / 17 = (i 0).val ∧ t.val % 17 = (i 1).val / 512 := by
    constructor
    · intro h
      have k0 : (t.val / 17) * 1 ≤ (i 0).val ∧ (i 0).val < (t.val / 17) * 1 + 1 := h 0
      have k1 : (t.val % 17) * 512 ≤ (i 1).val ∧ (i 1).val < (t.val % 17) * 512 + 512 := h 1
      have k2 : (0) * 2048 ≤ (i 2).val ∧ (i 2).val < (0) * 2048 + 2048 := h 2
      omega
    · intro h a
      fin_cases a
      · show (t.val / 17) * 1 ≤ (i 0).val ∧ (i 0).val < (t.val / 17) * 1 + 1; omega
      · show (t.val % 17) * 512 ≤ (i 1).val ∧ (i 1).val < (t.val % 17) * 512 + 512; omega
      · show (0) * 2048 ≤ (i 2).val ∧ (i 2).val < (0) * 2048 + 2048; omega
  rw [← key]
  refine forall_congr' fun a => ?_
  have o : win0_5.index t a * win0_5.size a = (![(t.val / 17) * 1, (t.val % 17) * 512, (0) * 2048] : Fin 3 → ℕ) a := by
    rw [e]; fin_cases a <;> rfl
  have z : win0_5.xsize (grid0.coords t) a = (![1, 512, 2048] : Fin 3 → ℕ) a := by fin_cases a <;> rfl
  show (win0_5.index t a * win0_5.size a ≤ (i a).val ∧ (i a).val < win0_5.index t a * win0_5.size a + win0_5.xsize (grid0.coords t) a) ↔ _
  rw [o, z]

theorem cover (i : S2x8704x2048.Idx) : ∃ t : Fin cfg0.N, (cfg0.win 5).flush t = true ∧ i ∈ ((cfg0.win 5).blk t).view.set := by
  have h0 : (i 0).val < 2 := (i 0).isLt
  have h1 : (i 1).val < 8704 := (i 1).isLt
  have hN : cfg0.N = 34 := rfl
  refine ⟨⟨(i 0).val * 17 + (i 1).val / 512, by omega⟩, flush0_5 _, ?_⟩
  rw [mem_blk]
  dsimp only
  omega

/-- After the run the result array holds the rotated projection of the arguments. -/
theorem final (c : Dev nD) : (dats m 0 c).arrAt 5 cfg0.N = arr m c :=
  (dats m 0 c).arrAt_eq_of_cover 5 (arr m c) (fun t _ => flushed_eq m c t) cover

end Cert.KeyKernel
end
-- ==== Proof.KeyRef.lean ====
module

public import proofs.«01_k».proof.Proof.Gen.KeyRefIdeal.Read
public import proofs.«01_k».proof.Proof.KeyKernel
public import proofs.«01_k».proof.Proof.Rope
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The keys' reference, read at an index. -/

@[expose] public section

set_option maxRecDepth 16384

noncomputable section

namespace Cert.KeyRef

open Cert.KeyRefIdeal Cert.KeyRefIdeal.Gen Cert.KeyRefIdeal.Read Idealize.ShloMosaic
open Cert.KeyKernel (chan angle scale dot row result)
open Cert.Rope (first second rot turned turned_low turned_high)

theorem scale_eq : scale = 1 := Ideal.ofBits_one_f32
theorem scale_nonneg : 0 ≤ scale := by rw [scale_eq]; exact zero_le_one
theorem scale_ne_top : scale ≠ ⊤ := by rw [scale_eq]; exact EReal.coe_ne_top 1

theorem product_at (x0 : FVec Ideal S2x8192x2048 .bf16) (x1 : FVec Ideal S2048x6144 .f32) (b : Fin 2) (n : Fin 8192) (f : Fin 2048) :
    val_main_v2 (F := Ideal) x0 x1 (ix3 b n f) = dot x0 x1 b n f := by
  rw [val_main_v2_apply]
  refine Finset.sum_congr rfl fun k _ => congrArg₂ (· * ·) ?_ ?_
  · rw [val_main_v0_apply]
    exact congrArg x0 (funext fun a => Fin.ext (by fin_cases a <;> rfl))
  · rw [val_main_v1_apply]
    refine congrArg x1 (funext fun a => Fin.ext ?_)
    fin_cases a
    · rfl
    · rfl

theorem heads_at (x0 : FVec Ideal S2x8192x2048 .bf16) (x1 : FVec Ideal S2048x6144 .f32) (b : Fin 2) (n : Fin 8192) (a : Fin 32) (q : Fin 64) (k : Fin 2048) (hk : k.val = a.val * 64 + q.val) :
    val_main_v3 (F := Ideal) x0 x1 (ix4 b n a q) = dot x0 x1 b n k := by
  have hb := b.isLt
  have hn := n.isLt
  have ha := a.isLt
  have hq := q.isLt
  rw [val_main_v3_apply, ← product_at]
  refine congrArg _ (funext fun j => Fin.ext ?_)
  fin_cases j
  · show (((b.val * 8192 + n.val) * 32 + a.val) * 64 + q.val) / 16777216 = b.val; omega
  · show (((b.val * 8192 + n.val) * 32 + a.val) * 64 + q.val) / 2048 % 8192 = n.val; omega
  · show (((b.val * 8192 + n.val) * 32 + a.val) * 64 + q.val) % 2048 = k.val; omega

theorem even_at (x0 : FVec Ideal S2x8192x2048 .bf16) (x1 : FVec Ideal S2048x6144 .f32) (b : Fin 2) (n : Fin 8192) (a : Fin 32) (p : Fin 32) (k : Fin 2048) (hk : k.val = a.val * 64 + 2 * p.val) :
    val_main_v39 (F := Ideal) x0 x1 (ix4 b n a p) = dot x0 x1 b n k := by
  have hp := p.isLt
  unfold val_main_v39
  rw [← heads_at x0 x1 b n a (⟨2 * p.val, by omega⟩ : Fin 64) k hk]
  generalize val_main_v3 (F := Ideal) x0 x1 = y
  refine congrArg y (funext fun j => Fin.ext ?_)
  fin_cases j
  · show 0 + 1 * b.val = b.val; omega
  · show 0 + 1 * n.val = n.val; omega
  · show 0 + 1 * a.val = a.val; omega
  · show 0 + 2 * p.val = 2 * p.val; omega

theorem odd_at (x0 : FVec Ideal S2x8192x2048 .bf16) (x1 : FVec Ideal S2048x6144 .f32) (b : Fin 2) (n : Fin 8192) (a : Fin 32) (p : Fin 32) (k : Fin 2048) (hk : k.val = a.val * 64 + 2 * p.val + 1) :
    val_main_v40 (F := Ideal) x0 x1 (ix4 b n a p) = dot x0 x1 b n k := by
  have hp := p.isLt
  unfold val_main_v40
  rw [← heads_at x0 x1 b n a (⟨1 + 2 * p.val, by omega⟩ : Fin 64) k (by show k.val = a.val * 64 + (1 + 2 * p.val); omega)]
  generalize val_main_v3 (F := Ideal) x0 x1 = y
  refine congrArg y (funext fun j => Fin.ext ?_)
  fin_cases j
  · show 0 + 1 * b.val = b.val; omega
  · show 0 + 1 * n.val = n.val; omega
  · show 0 + 1 * a.val = a.val; omega
  · show 1 + 2 * p.val = 1 + 2 * p.val; omega

theorem cos_at (i : S2x8192x32x32.Idx) (n : Fin 8192) (p : Fin 32) (hn : (i 1).val = n.val) (hp : (i 3).val = p.val) :
    val_main_v41 (F := Ideal) i = Host.cos (F := Ideal) (φ := .f32) angle (ix2 n p) := by
  rw [val_main_v41_apply, val_main_v37_apply]
  unfold val_main_v35 angle
  refine congrArg (Host.cos (F := Ideal) (φ := .f32) (val_main_v34 (F := Ideal))) (funext fun j => Fin.ext ?_)
  fin_cases j
  · exact hn
  · exact hp

theorem cos_at' (i : S2x8192x32x32.Idx) (n : Fin 8192) (p : Fin 32) (hn : (i 1).val = n.val) (hp : (i 3).val = p.val) :
    val_main_v48 (F := Ideal) i = Host.cos (F := Ideal) (φ := .f32) angle (ix2 n p) := by
  rw [val_main_v48_apply, val_main_v37_apply]
  unfold val_main_v35 angle
  refine congrArg (Host.cos (F := Ideal) (φ := .f32) (val_main_v34 (F := Ideal))) (funext fun j => Fin.ext ?_)
  fin_cases j
  · exact hn
  · exact hp

theorem sin_at (i : S2x8192x32x32.Idx) (n : Fin 8192) (p : Fin 32) (hn : (i 1).val = n.val) (hp : (i 3).val = p.val) :
    val_main_v43 (F := Ideal) i = Host.sin (F := Ideal) (φ := .f32) angle (ix2 n p) := by
  rw [val_main_v43_apply, val_main_v38_apply]
  unfold val_main_v36 angle
  refine congrArg (Host.sin (F := Ideal) (φ := .f32) (val_main_v34 (F := Ideal))) (funext fun j => Fin.ext ?_)
  fin_cases j
  · exact hn
  · exact hp

theorem sin_at' (i : S2x8192x32x32.Idx) (n : Fin 8192) (p : Fin 32) (hn : (i 1).val = n.val) (hp : (i 3).val = p.val) :
    val_main_v46 (F := Ideal) i = Host.sin (F := Ideal) (φ := .f32) angle (ix2 n p) := by
  rw [val_main_v46_apply, val_main_v38_apply]
  unfold val_main_v36 angle
  refine congrArg (Host.sin (F := Ideal) (φ := .f32) (val_main_v34 (F := Ideal))) (funext fun j => Fin.ext ?_)
  fin_cases j
  · exact hn
  · exact hp

/-- The first components of the rotated pairs. -/
theorem first_at (x0 : FVec Ideal S2x8192x2048 .bf16) (x1 : FVec Ideal S2048x6144 .f32) (b : Fin 2) (n : Fin 8192) (f : Fin 2048) (a : Fin 32) (ha : a.val = 2 * (f.val / 128) + f.val % 64 / 32) :
    val_main_v53 (F := Ideal) x0 x1 (ix5 b n a (rot f) (0 : Fin 2))
      = dot x0 x1 b n (first f) * (Host.cos (F := Ideal) (φ := .f32) angle (ix2 n (rot f)) : EReal) - dot x0 x1 b n (second f) * (Host.sin (F := Ideal) (φ := .f32) angle (ix2 n (rot f)) : EReal) := by
  unfold val_main_v53
  have hi : ∀ j : Fin 5, ((ix5 b n a (rot f) (0 : Fin 1) : S2x8192x32x32x1.Idx) j).val = ((ix5 b n a (rot f) (0 : Fin 2) : S2x8192x32x32x2.Idx) j).val := fun j => by fin_cases j <;> rfl
  refine (concatenate_pair_apply_left (t := S2x8192x32x32x2) (s₁ := S2x8192x32x32x1) (s₂ := S2x8192x32x32x1) 4 (val_main_v51 (F := Ideal) x0 x1) (val_main_v52 (F := Ideal) x0 x1) concatenates_S2x8192x32x32x1_S2x8192x32x32x1_S2x8192x32x32x2_d4 (ix5 b n a (rot f) (0 : Fin 2)) rfl (ix5 b n a (rot f) (0 : Fin 1)) hi).trans ?_
  rw [val_main_v51_apply]
  have e : idx_main_v51 (ix5 b n a (rot f) (0 : Fin 1)) = ix4 b n a (rot f) := funext fun j => Fin.ext (by fin_cases j <;> rfl)
  rw [e, val_main_v45_apply, val_main_v42_apply, val_main_v44_apply,
    even_at x0 x1 b n a (rot f) (first f) (by show f.val / 128 * 128 + f.val % 64 / 32 * 64 + 2 * (f.val % 32) = a.val * 64 + 2 * (f.val % 32); omega),
    odd_at x0 x1 b n a (rot f) (second f) (by show f.val / 128 * 128 + f.val % 64 / 32 * 64 + 2 * (f.val % 32) + 1 = a.val * 64 + 2 * (f.val % 32) + 1; omega),
    cos_at _ n (rot f) rfl rfl, sin_at _ n (rot f) rfl rfl]
  rfl

/-- The second ones. -/
theorem second_at (x0 : FVec Ideal S2x8192x2048 .bf16) (x1 : FVec Ideal S2048x6144 .f32) (b : Fin 2) (n : Fin 8192) (f : Fin 2048) (a : Fin 32) (ha : a.val = 2 * (f.val / 128) + f.val % 64 / 32) :
    val_main_v53 (F := Ideal) x0 x1 (ix5 b n a (rot f) (1 : Fin 2))
      = dot x0 x1 b n (first f) * (Host.sin (F := Ideal) (φ := .f32) angle (ix2 n (rot f)) : EReal) + dot x0 x1 b n (second f) * (Host.cos (F := Ideal) (φ := .f32) angle (ix2 n (rot f)) : EReal) := by
  unfold val_main_v53
  have hi : ∀ j : Fin 5, j ≠ 4 → ((ix5 b n a (rot f) (0 : Fin 1) : S2x8192x32x32x1.Idx) j).val = ((ix5 b n a (rot f) (1 : Fin 2) : S2x8192x32x32x2.Idx) j).val := fun j hj => by
    fin_cases j
    · rfl
    · rfl
    · rfl
    · rfl
    · exact absurd rfl hj
  refine (concatenate_pair_apply_right (t := S2x8192x32x32x2) (s₁ := S2x8192x32x32x1) (s₂ := S2x8192x32x32x1) 4 (val_main_v51 (F := Ideal) x0 x1) (val_main_v52 (F := Ideal) x0 x1) concatenates_S2x8192x32x32x1_S2x8192x32x32x1_S2x8192x32x32x2_d4 (ix5 b n a (rot f) (1 : Fin 2)) rfl rfl (ix5 b n a (rot f) (0 : Fin 1)) hi rfl).trans ?_
  rw [val_main_v52_apply]
  have e : idx_main_v52 (ix5 b n a (rot f) (0 : Fin 1)) = ix4 b n a (rot f) := funext fun j => Fin.ext (by fin_cases j <;> rfl)
  rw [e, val_main_v50_apply, val_main_v47_apply, val_main_v49_apply,
    even_at x0 x1 b n a (rot f) (first f) (by show f.val / 128 * 128 + f.val % 64 / 32 * 64 + 2 * (f.val % 32) = a.val * 64 + 2 * (f.val % 32); omega),
    odd_at x0 x1 b n a (rot f) (second f) (by show f.val / 128 * 128 + f.val % 64 / 32 * 64 + 2 * (f.val % 32) + 1 = a.val * 64 + 2 * (f.val % 32) + 1; omega),
    cos_at' _ n (rot f) rfl rfl, sin_at' _ n (rot f) rfl rfl]
  rfl

/-- The order of the channels: the pair's component before the map and the frequency. -/
theorem order_at (x0 : FVec Ideal S2x8192x2048 .bf16) (x1 : FVec Ideal S2048x6144 .f32) (b : Fin 2) (n : Fin 8192) (f : Fin 2048) (a : Fin 32) (ha : a.val = 2 * (f.val / 128) + f.val % 64 / 32) (e : Fin 2) (he : f.val % 128 / 64 = e.val) :
    val_main_v56 (F := Ideal) x0 x1 (ix3 b n f) = val_main_v53 (F := Ideal) x0 x1 (ix5 b n a (rot f) e) := by
  have hb := b.isLt
  have hn := n.isLt
  have hf := f.isLt
  have hE := e.isLt
  have e1 : idx_main_v56 (ix3 b n f) = ix5 (⟨b.val * 8192 + n.val, by omega⟩ : Fin 16384) (⟨f.val / 128, by omega⟩ : Fin 16) e (⟨f.val % 64 / 32, by omega⟩ : Fin 2) (rot f) := by
    refine funext fun j => Fin.ext ?_
    fin_cases j
    · show ((b.val * 8192 + n.val) * 2048 + f.val) / 2048 = b.val * 8192 + n.val; omega
    · show ((b.val * 8192 + n.val) * 2048 + f.val) / 128 % 16 = f.val / 128; omega
    · show ((b.val * 8192 + n.val) * 2048 + f.val) / 64 % 2 = e.val; omega
    · show ((b.val * 8192 + n.val) * 2048 + f.val) / 32 % 2 = f.val % 64 / 32; omega
    · show ((b.val * 8192 + n.val) * 2048 + f.val) % 32 = f.val % 32; omega
  have e2 : idx_main_v55 (ix5 (⟨b.val * 8192 + n.val, by omega⟩ : Fin 16384) (⟨f.val / 128, by omega⟩ : Fin 16) e (⟨f.val % 64 / 32, by omega⟩ : Fin 2) (rot f))
      = ix5 (⟨b.val * 8192 + n.val, by omega⟩ : Fin 16384) (⟨f.val / 128, by omega⟩ : Fin 16) (⟨f.val % 64 / 32, by omega⟩ : Fin 2) (rot f) e := funext fun j => Fin.ext (by fin_cases j <;> rfl)
  have e3 : idx_main_v54 (ix5 (⟨b.val * 8192 + n.val, by omega⟩ : Fin 16384) (⟨f.val / 128, by omega⟩ : Fin 16) (⟨f.val % 64 / 32, by omega⟩ : Fin 2) (rot f) e) = ix5 b n a (rot f) e := by
    have hH : f.val / 128 < 16 := by omega
    have hM : f.val % 64 / 32 < 2 := by omega
    have hP : f.val % 32 < 32 := by omega
    refine funext fun j => Fin.ext ?_
    fin_cases j
    · show (((((b.val * 8192 + n.val) * 16 + f.val / 128) * 2 + f.val % 64 / 32) * 32 + f.val % 32) * 2 + e.val) / 16777216 = b.val
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) / 2048 % 8192 = n.val
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) / 64 % 32 = a.val
      rw [ha]
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) / 2 % 32 = f.val % 32
      generalize f.val / 128 = H at hH ⊢; generalize f.val % 64 / 32 = M at hM ⊢; generalize f.val % 32 = P at hP ⊢; omega
    · show (((((b.val * 8192 + n.val) * 16 + f.val / 128) * 2 + f.val % 64 / 32) * 32 + f.val % 32) * 2 + e.val) % 2 = e.val
      generalize f.val / 128 = H at hH ⊢; generalize f.val % 64 / 32 = M at hM ⊢; generalize f.val % 32 = P at hP ⊢; omega
  rw [val_main_v56_apply, e1, val_main_v55_apply, e2, val_main_v54_apply, e3]

theorem row_at (x0 : FVec Ideal S2x8192x2048 .bf16) (x1 : FVec Ideal S2048x6144 .f32) (b : Fin 2) (n : Fin 8192) (f : Fin 2048) :
    val_main_v56 (F := Ideal) x0 x1 (ix3 b n f) = row x0 x1 b n f := by
  have hf := f.isLt
  have a_lt : 2 * (f.val / 128) + f.val % 64 / 32 < 32 := by omega
  unfold KeyKernel.row
  by_cases h : f.val % 128 < 64
  · rw [order_at x0 x1 b n f ⟨_, a_lt⟩ rfl 0 (by show f.val % 128 / 64 = 0; omega)]
    refine Eq.trans ?_ (turned_low _ _ scale_nonneg scale_ne_top _ _ f h).symm
    rw [scale_eq, mul_one]
    exact first_at x0 x1 b n f ⟨_, a_lt⟩ rfl
  · rw [order_at x0 x1 b n f ⟨_, a_lt⟩ rfl 1 (by show f.val % 128 / 64 = 1; omega)]
    refine Eq.trans ?_ (turned_high _ _ scale_nonneg scale_ne_top _ _ f h).symm
    rw [scale_eq, mul_one]
    exact second_at x0 x1 b n f ⟨_, a_lt⟩ rfl

theorem result_at (x0 : FVec Ideal S2x8192x2048 .bf16) (x1 : FVec Ideal S2048x6144 .f32) (b : Fin 2) (n : Fin 8704) (f : Fin 2048) :
    val_main_v58 (F := Ideal) x0 x1 (ix3 b n f) = result x0 x1 b n f := by
  have hn := n.isLt
  rw [val_main_v58_apply]
  show val_main_v57 (F := Ideal) x0 x1 (ix3 b n f) = _
  unfold val_main_v57 KeyKernel.result
  by_cases h : n.val < 8192
  · rw [dif_pos h]
    refine (pad_apply_of_inside _ _ _ _ _ pads_S2x8192x2048_S2x8704x2048_000_05120_000 h_S_ (ix3 b n f) (ix3 b (⟨n.val, h⟩ : Fin 8192) f) ?_).trans (row_at x0 x1 b _ f)
    intro a
    fin_cases a
    · show b.val = 0 + b.val * (0 + 1); omega
    · show n.val = 0 + n.val * (0 + 1); omega
    · show f.val = 0 + f.val * (0 + 1); omega
  · rw [dif_neg h]
    refine (pad_apply_of_not_inside _ _ _ _ _ pads_S2x8192x2048_S2x8704x2048_000_05120_000 h_S_ (ix3 b n f) (1 : Fin 3) ?_).trans (sitofp_zero (φ := .f32))
    show ¬(0 ≤ n.val ∧ (n.val - 0) % (0 + 1) = 0 ∧ (n.val - 0) / (0 + 1) < 8192)
    omega

end Cert.KeyRef
end
-- ==== Proof.KeyClaim.lean ====
module

public import proofs.«01_k».proof.Defs
public import proofs.«01_k».proof.Proof.KeyKernel
public import proofs.«01_k».proof.Proof.KeyRef
public import proofs.«01_k».proof.Proof.Gen.Key.Frame
public import Idealize.ShloMosaic.Lib.Quiescent

/-! The claim about the keys' in-projection: the kernel and the reference end with the same result. -/

@[expose] public section

set_option maxRecDepth 16384

noncomputable section

namespace Cert.KeyClaim

open Idealize.ShloMosaic Idealize.ShloMosaic.TcCoe Idealize.SL.Sem

/-- The kernel's and the reference's results agree on every memory. -/
theorem algebraic : Cert.algebraic_KeyIdeal_KeyRefIdeal := by
  intro m ρ m' ρ' _ hagree
  refine ⟨fun c => Cert.KeyKernel.arr m c, ?_, ?_⟩
  · exact (θ_run Cert.KeyIdeal.defs _ _).mono (fun _ h c => ⟨(h c).1.trans (Cert.KeyKernel.final m c), (h c).2⟩)
      (Cert.KeyIdeal.Value.run_blocks (F := Ideal) m ρ)
  · refine (θ_run Cert.KeyRefIdeal.defs _ _).mono (fun _ h c => ⟨(h c).1.trans ?_, (h c).2⟩)
      (Cert.KeyRefIdeal.Value.run (F := Ideal) m' ρ')
    obtain ⟨h0, h1⟩ := hagree c
    rw [Cert.KeyRefIdeal.Read.val_main_v58_eq, h0, h1]
    funext i
    have e : i = ix3 (i 0) (i 1) (i 2) := (ix3_eta i).symm
    exact (congrArg _ e).trans (Cert.KeyRef.result_at _ _ (i 0) (i 1) (i 2))

end Cert.KeyClaim
end
-- ==== Proof.ValAKernel.lean ====
module

public import proofs.«01_k».proof.Proof.Gen.ValAIdeal.Frame
public import proofs.«01_k».proof.Proof.Gen.ValAIdeal.Value
public import Idealize.ShloMosaic.PureOps.Ideal
public import Idealize.ShloMosaic.Lib.ValueIdx
public import Idealize.ShloMosaic.Lib.Pointwise
public import Idealize.ShloMosaic.Lib.IdealHost
public import Idealize.ShloMosaic.Lib.Pipeline.Value
public import Idealize.ShloMosaic.Lib.StableHlo.Run

/-! The first attention's values' in-projection: the call's result array after the run, as one function of the argument arrays. -/

@[expose] public section

set_option maxRecDepth 16384

noncomputable section

namespace Cert.ValAKernel

open Cert.ValAIdeal Cert.ValAIdeal.Gen Idealize.ShloMosaic Idealize.ShloMosaic.TcCoe Idealize.SL.Sem
open Idealize.ShloMosaic.Pipeline (Dat)

/-- The weights' column of a channel: the first 1280 columns belong to the queries and the keys. -/
def chan (f : Fin 256) : Fin 4608 := ⟨1280 + f.val, by have := f.isLt; omega⟩

/-- The result: the projected rows, then rows of zeros. -/
def result (h : Vec Ideal S2x8192x2048 .bf16) (w : Vec Ideal S2048x4608 .f32) (b : Fin 2) (n : Fin 8704) (f : Fin 256) : EReal :=
  if p : n.val < 8192 then ∑ d, h (ix3 b (⟨n.val, p⟩ : Fin 8192) d) * w (ix2 d (chan f)) else 0

/-- A tile of the product, its columns scaled. -/
def block (x0 : Vec Ideal S1x512x2048 .bf16) (x1 : Vec Ideal S2048x256 .bf16) (x2 : Vec Ideal S1x256 .f32) : FVec Ideal S1x512x256 .bf16 := fun y =>
  (∑ d : Fin 2048, x0 (ix3 0 (y 1) d) * x1 (ix2 d (y 2))) * x2 (ix2 0 (y 2))

theorem block_apply (x0 : Vec Ideal S1x512x2048 .bf16) (x1 : Vec Ideal S2048x256 .bf16) (x2 : Vec Ideal S1x256 .f32) (r : Fin 512) (f : Fin 256) :
    block x0 x1 x2 (ix3 0 r f) = (∑ d : Fin 2048, x0 (ix3 0 r d) * x1 (ix2 d f)) * x2 (ix2 0 f) := rfl

/-- A hundred and twenty-eight columns of the tile. -/
def col (o : ℕ) (h : S512x256.Slices ![0, o] S512x128) (x0 : Vec Ideal S1x512x2048 .bf16) (x1 : Vec Ideal S2048x256 .bf16) (v : Vec Ideal S1x128 .f32) : FVec Ideal S1x512x128 .bf16 :=
  shapeCast S1x512x128 (truncf .bf16 (mulf (extractStridedSlice S512x128 ![0, o] (k0_pay2 x0 x1) h) (broadcastTo S512x128 (shapeCast S1x128 v shapeCasts_S1x128_S1x128) broadcasts_S1x128_S512x128)) bitsLt_bf16_f32) shapeCasts_S512x128_S1x512x128

theorem pay2_apply (x0 : Vec Ideal S1x512x2048 .bf16) (x1 : Vec Ideal S2048x256 .bf16) (r : Fin 512) (f : Fin 256) :
    k0_pay2 x0 x1 (ix2 r f) = ∑ d : Fin 2048, x0 (ix3 0 r d) * x1 (ix2 d f) := by
  pointwise [k0_pay2]

theorem col_apply (o : ℕ) (h) (x0 : Vec Ideal S1x512x2048 .bf16) (x1 : Vec Ideal S2048x256 .bf16) (v : Vec Ideal S1x128 .f32) (r : Fin 512) (l : Fin 128) (f : Fin 256) (hf : f.val = o + l.val) :
    col o h x0 x1 v (ix3 0 r l) = (∑ d : Fin 2048, x0 (ix3 0 r d) * x1 (ix2 d f)) * v (ix2 0 l) := by
  rw [← pay2_apply x0 x1 r f]
  unfold col
  generalize k0_pay2 x0 x1 = y
  have e : extractStridedSlice S512x128 ![0, o] y h (ix2 r l) = y (ix2 r f) := by
    refine congrArg y (funext fun a => Fin.ext ?_)
    fin_cases a
    · show 0 + r.val = r.val; omega
    · show o + l.val = f.val; omega
  rw [← e]
  generalize extractStridedSlice S512x128 ![0, o] y h = z
  rw [shapeCast_apply _ _ _ (ix2 r l) (by rw [Shape.rowMajor_val_two, Shape.rowMajor_val_three]; show r.val * 128 + l.val = (0 * 512 + r.val) * 128 + l.val; omega)]
  have e2 : broadcastTo S512x128 (shapeCast S1x128 v shapeCasts_S1x128_S1x128) broadcasts_S1x128_S512x128 (ix2 r l) = v (ix2 0 l) := by
    pointwise []
  exact congrArg (z (ix2 r l) * ·) e2

theorem piece_eq (o : ℕ) (h) (x0 : Vec Ideal S1x512x2048 .bf16) (x1 : Vec Ideal S2048x256 .bf16) (x2 : Vec Ideal S1x256 .f32) (h1) (h2) (x : S1x512x128.Idx) :
    col o h x0 x1 (View.ld (Val := Elt Ideal) (e' := .f32) x2 (Rect.unit (s := S1x256) ![0, o] ![1, 128] h1)) x
      = block x0 x1 x2 ((Rect.unit (s := S1x512x256) ![0, 0, o] ![1, 512, 128] h2).emb x) := by
  have ho : o + 128 ≤ 256 := h2 2
  have hx2 : (x 2).val < 128 := (x 2).isLt
  have hf : o + (x 2).val < 256 := by omega
  have e : x = ix3 (0 : Fin 1) (x 1) (x 2) := by
    refine (ix3_eta x).symm.trans ?_
    have : x 0 = (0 : Fin 1) := Fin.ext (by have : (x 0).val < 1 := (x 0).isLt; show (x 0).val = 0; omega)
    rw [this]
    rfl
  have e1 : (Rect.unit (s := S1x512x256) ![0, 0, o] ![1, 512, 128] h2).emb x 1 = x 1 :=
    Fin.ext ((Nat.zero_add _).trans (Nat.one_mul _))
  have e2 : (Rect.unit (s := S1x512x256) ![0, 0, o] ![1, 512, 128] h2).emb x 2 = ⟨o + (x 2).val, hf⟩ :=
    Fin.ext (congrArg (o + ·) (Nat.one_mul _))
  unfold block
  rw [e1, e2]
  refine (congrArg _ e).trans ((col_apply o h x0 x1 _ (x 1) (x 2) ⟨o + (x 2).val, hf⟩ rfl).trans (congrArg (_ * ·) ?_))
  refine congrArg x2 (funext fun a => Fin.ext ?_)
  fin_cases a
  · rfl
  · exact congrArg (o + ·) (Nat.one_mul _)

theorem zeros2 : (![0, 0] : Fin 2 → ℕ) = fun _ => 0 := funext fun a => by fin_cases a <;> rfl
theorem zeros3 : (![0, 0, 0] : Fin 3 → ℕ) = fun _ => 0 := funext fun a => by fin_cases a <;> rfl

variable (m : (ℓ : Loc nD τ sig) → Buf (Elt Ideal) ℓ)

theorem lt_N (t : Fin cfg0.N) : t.val < 34 := t.isLt

set_option maxHeartbeats 1600000 in
theorem out_A (c : Dev nD) (t : Fin cfg0.N) (h0 : ¬t.val % 17 = 16) (h1 : t.val % 17 ≤ 15) :
    outsAt0 m c t.val t.isLt = block (iblk m c 0 t) (iblk m c 1 t) (iblk m c 2 t) := by
  rw [outsAt0_A m c t h0 h1]
  unfold out0_A_3
  rw [View.read_writes_eq_canon _ _ _ (cover0_A_3 c (grid0.coords t) _ _ _ _ _ _ _ _ _ _ _ _ _)]
  unfold kernelRun0_A
  dsimp only
  sl_unfold_words
  simp only [View.readAt_eq_ld, (hs0_0 t).read_unread, (hs0_1 t).read_unread, (hs0_2 t).read_unread]
  generalize iblk m c 0 t = x0
  generalize iblk m c 1 t = x1
  generalize iblk m c 2 t = x2
  simp only [View.ld_unit_zero (Val := Elt Ideal) (S := S1x512x2048) (e := .bf16) (off := ![0,0,0]) zeros3, View.ld_unit_zero (Val := Elt Ideal) (S := S2048x256) (e := .bf16) (off := ![0,0]) zeros2]
  funext y
  refine View.canon_apply_of_pieces (Val := Elt Ideal) (e := .bf16) (block x0 x1 x2) _ ?_ y ?_
  · simp only [List.forall_mem_cons, List.not_mem_nil, false_imp_iff, implies_true, and_true]
    exact ⟨fun x => piece_eq 128 slices_S512x256_o0_128_S512x128 x0 x1 x2 _ _ x,
      fun x => piece_eq 0 slices_S512x256_o0_0_S512x128 x0 x1 x2 _ _ x⟩
  · have hy0 : (y 0).val < 1 := (y 0).isLt
    have hy1 : (y 1).val < 512 := (y 1).isLt
    have hy2 : (y 2).val < 256 := (y 2).isLt
    have key : ∀ (o : ℕ) (h : ∀ a, (![0, 0, o] : Fin 3 → ℕ) a + (![1, 512, 128] : Fin 3 → ℕ) a ≤ S1x512x256.size a), (y 2).val / 128 * 128 = o →
        y ∈ (Rect.unit (s := S1x512x256) ![0, 0, o] ![1, 512, 128] h).set := by
      intro o h l1
      rw [Rect.mem_set_unit]
      intro a
      fin_cases a
      · exact ⟨Nat.zero_le _, by show (y 0).val < 0 + 1; omega⟩
      · exact ⟨Nat.zero_le _, by show (y 1).val < 0 + 512; omega⟩
      · exact ⟨by show o ≤ (y 2).val; omega, by show (y 2).val < o + 128; omega⟩
    rcases (by omega : (y 2).val / 128 = 0 ∨ (y 2).val / 128 = 1) with h | h
    · exact ⟨_, (.tail _ (.head _)), key 0 inb_S1x512x256_S1x512x128_0_0_0 (by omega)⟩
    · exact ⟨_, (.head _), key 128 inb_S1x512x256_S1x512x128_0_0_128 (by omega)⟩

theorem pay1_apply (x : S1x512x256.Idx) : k0_pay1 (F := Ideal) x = 0 := Ideal.ofBits_zero_bf16

theorem out_B (c : Dev nD) (t : Fin cfg0.N) (h0 : t.val % 17 = 16) (h1 : ¬t.val % 17 ≤ 15) :
    outsAt0 m c t.val t.isLt = fun _ => (0 : EReal) := by
  rw [outsAt0_B m c t h0 h1]
  unfold out0_B_3
  rw [View.read_writes_eq_canon _ _ _ (cover0_B_3 c (grid0.coords t) _ _ _ _ _ _ _ _ _ _ _ _ _)]
  unfold kernelRun0_B
  dsimp only
  sl_unfold_words
  refine (View.canon_unit_zero (Val := Elt Ideal) (S := S1x512x256) (e := .bf16) zeros3 _ _).trans ?_
  funext x
  exact pay1_apply x

def batchAt (t : Fin cfg0.N) : Fin 2 := ⟨t.val / 17, by have := lt_N t; omega⟩
def rowAt (t : Fin cfg0.N) (r : Fin 512) : Fin 8704 := ⟨t.val % 17 * 512 + r.val, by have := r.isLt; omega⟩

theorem index_0 : ∀ t : Fin grid0.N, win0_0.index t = ![t.val / 17, min (t.val % 17) 15, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![t.val / 17, t.val % 17, 0] := by decide +kernel

theorem V_v1 (c : Dev nD) : V m c main_v1 = (truncf .bf16 (extractStridedSlice S2048x256 ![0, 1280] (m ((c : Thread nD τ).loc main_arg1)) slices_S2048x4608_S2048x256_0_1280) bitsLt_bf16_f32 : FVec Ideal S2048x256 .bf16) := by
  show StableHlo.after hostOps0 _ _ = _
  after_results
theorem V_v3 (c : Dev nD) : V m c main_v3 = shapeCast S1x256 (broadcastInDim S256 ![] bcast_S_S256 (constant (F := Ideal) S_ .f32 0x3F800000#32) : FVec Ideal S256 .f32) shapeCasts_S256_S1x256 := by
  show StableHlo.after hostOps0 _ _ = _
  after_results
  rfl

theorem read0 (c : Dev nD) (t : Fin cfg0.N) (r : Fin 512) (d : Fin 2048) (h1 : t.val % 17 ≤ 15) :
    iblk m c 0 t (ix3 (0 : Fin 1) r d) = (m ((c : Thread nD τ).loc main_arg0)) (ix3 (batchAt t) (⟨t.val % 17 * 512 + r.val, by have := r.isLt; omega⟩ : Fin 8192) d) := by
  have e := index_0 t
  have hN := lt_N t
  have h : ((cfg0.win 0).blk t).view.emb (ix3 (0 : Fin 1) r d) = (ix3 (batchAt t) (⟨t.val % 17 * 512 + r.val, by have := r.isLt; omega⟩ : Fin 8192) d) := by
    refine funext fun a => Fin.ext ?_
    show win0_0.index t a * win0_0.size a + 1 * ((ix3 (0 : Fin 1) r d) a).val = _
    rw [e]
    fin_cases a
    · show (t.val / 17) * 1 + 1 * 0 = t.val / 17; omega
    · show (min (t.val % 17) 15) * 512 + 1 * r.val = t.val % 17 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (k : Fin 2048) (d : Fin 256) :
    iblk m c 1 t (ix2 k d) = (m ((c : Thread nD τ).loc main_arg1)) (ix2 k (chan d)) := by
  have e := index_1 t
  have hN := lt_N t
  have h : ((cfg0.win 1).blk t).view.emb (ix2 k d) = (ix2 k d) := by
    refine funext fun a => Fin.ext ?_
    show win0_1.index t a * win0_1.size a + 1 * ((ix2 k d) a).val = _
    rw [e]
    fin_cases a
    · show (0) * 2048 + 1 * k.val = k.val; omega
    · show (0) * 256 + 1 * d.val = d.val; omega
  show V m c main_v1 (((cfg0.win 1).blk t).view.emb (ix2 k d)) = _
  rw [h, V_v1]
  refine congrArg (m ((c : Thread nD τ).loc main_arg1)) (funext fun a => Fin.ext ?_)
  fin_cases a
  · show 0 + k.val = k.val; omega
  · rfl

theorem read2 (c : Dev nD) (t : Fin cfg0.N) (d : Fin 256) :
    iblk m c 2 t (ix2 (0 : Fin 1) d) = (1 : EReal) := by
  have e := index_2 t
  have hN := lt_N t
  have h : ((cfg0.win 2).blk t).view.emb (ix2 (0 : Fin 1) d) = (ix2 (0 : Fin 1) d) := by
    refine funext fun a => Fin.ext ?_
    show win0_2.index t a * win0_2.size a + 1 * ((ix2 (0 : Fin 1) d) a).val = _
    rw [e]
    fin_cases a
    · show (0) * 1 + 1 * 0 = 0; omega
    · show (0) * 256 + 1 * d.val = d.val; omega
  show V m c main_v3 (((cfg0.win 2).blk t).view.emb (ix2 (0 : Fin 1) d)) = _
  rw [h, V_v3, shapeCast_apply _ _ _ (ix1 d) (by rw [Shape.rowMajor_val_one, Shape.rowMajor_val_two]; show d.val = 0 * 256 + d.val; omega)]
  exact Ideal.ofBits_one_f32

/-- The result array. -/
def arr (c : Dev nD) : Vec Ideal S2x8704x256 .bf16 := fun i => result (m ((c : Thread nD τ).loc main_arg0)) (m ((c : Thread nD τ).loc main_arg1)) (i 0) (i 1) (i 2)

theorem outs_apply (c : Dev nD) (t : Fin cfg0.N) (r : Fin 512) (f : Fin 256) :
    outsAt0 m c t.val t.isLt (ix3 (0 : Fin 1) r f) = result (m ((c : Thread nD τ).loc main_arg0)) (m ((c : Thread nD τ).loc main_arg1)) (batchAt t) (rowAt t r) f := by
  have hN := lt_N t
  have hr := r.isLt
  unfold result
  by_cases h : t.val % 17 ≤ 15
  · rw [dif_pos (by show t.val % 17 * 512 + r.val < 8192; omega), out_A m c t (by omega) h]
    refine (block_apply _ _ _ r f).trans ?_
    refine (congrArg₂ (fun u v : EReal => u * v) (Finset.sum_congr rfl fun d _ => congrArg₂ (fun u v : EReal => u * v) (read0 m c t r d h) (read1 m c t d f)) (read2 m c t f)).trans ?_
    exact mul_one _
  · rw [dif_neg (by show ¬ t.val % 17 * 512 + r.val < 8192; omega), out_B m c t (by omega) h]

theorem flushed_eq (c : Dev nD) (t : Fin cfg0.N) :
    (dats m 0 c).flushed 3 t = ((cfg0.win 3).blk t).view.read (Elt Ideal) (arr m c) := by
  have hN := lt_N t
  rw [Cert.ValAIdeal.Value.flushed3]
  funext x
  obtain ⟨a, r, d, rfl⟩ : ∃ (a : Fin 1) (r : Fin 512) (d : Fin 256), x = ix3 a r d := ⟨x 0, x 1, x 2, (ix3_eta x).symm⟩
  have ha : a = (0 : Fin 1) := Fin.ext (by have := a.isLt; show a.val = 0; omega)
  subst ha
  show outsAt0 m c t.val t.isLt (ix3 (0 : Fin 1) r d) = arr m c (((cfg0.win 3).blk t).view.emb (ix3 (0 : Fin 1) r d))
  have e := index_3 t
  have e0 : ((cfg0.win 3).blk t).view.emb (ix3 (0 : Fin 1) r d) = ix3 (batchAt t) (rowAt t r) d := by
    refine funext fun a => Fin.ext ?_
    show win0_3.index t a * win0_3.size a + 1 * ((ix3 (0 : Fin 1) r d) a).val = _
    rw [e]
    fin_cases a
    · show (t.val / 17) * 1 + 1 * 0 = t.val / 17; omega
    · show (t.val % 17) * 512 + 1 * r.val = t.val % 17 * 512 + r.val; omega
    · show 0 * 256 + 1 * d.val = d.val; omega
  rw [e0]
  exact outs_apply m c t r d

theorem mem_blk (t : Fin cfg0.N) (i : S2x8704x256.Idx) :
    i ∈ ((cfg0.win 3).blk t).view.set ↔ t.val / 17 = (i 0).val ∧ t.val % 17 = (i 1).val / 512 := by
  show i ∈ ((View.whole main_v4).slice (win0_3.rect t)).set ↔ _
  rw [View.set_slice_whole, Rect.mem_set_unit]
  have e := index_3 t
  have hN := lt_N t
  have h0 : (i 0).val < 2 := (i 0).isLt
  have h1 : (i 1).val < 8704 := (i 1).isLt
  have h2 : (i 2).val < 256 := (i 2).isLt
  have key : (∀ a : Fin 3, (![(t.val / 17) * 1, (t.val % 17) * 512, (0) * 256] : Fin 3 → ℕ) a ≤ (i a).val
      ∧ (i a).val < (![(t.val / 17) * 1, (t.val % 17) * 512, (0) * 256] : Fin 3 → ℕ) a + (![1, 512, 256] : Fin 3 → ℕ) a)
      ↔ t.val / 17 = (i 0).val ∧ t.val % 17 = (i 1).val / 512 := by
    constructor
    · intro h
      have k0 : (t.val / 17) * 1 ≤ (i 0).val ∧ (i 0).val < (t.val / 17) * 1 + 1 := h 0
      have k1 : (t.val % 17) * 512 ≤ (i 1).val ∧ (i 1).val < (t.val % 17) * 512 + 512 := h 1
      have k2 : (0) * 256 ≤ (i 2).val ∧ (i 2).val < (0) * 256 + 256 := h 2
      omega
    · intro h a
      fin_cases a
      · show (t.val / 17) * 1 ≤ (i 0).val ∧ (i 0).val < (t.val / 17) * 1 + 1; omega
      · show (t.val % 17) * 512 ≤ (i 1).val ∧ (i 1).val < (t.val % 17) * 512 + 512; omega
      · show (0) * 256 ≤ (i 2).val ∧ (i 2).val < (0) * 256 + 256; omega
  rw [← key]
  refine forall_congr' fun a => ?_
  have o : win0_3.index t a * win0_3.size a = (![(t.val / 17) * 1, (t.val % 17) * 512, (0) * 256] : Fin 3 → ℕ) a := by
    rw [e]; fin_cases a <;> rfl
  have z : win0_3.xsize (grid0.coords t) a = (![1, 512, 256] : Fin 3 → ℕ) a := by fin_cases a <;> rfl
  show (win0_3.index t a * win0_3.size a ≤ (i a).val ∧ (i a).val < win0_3.index t a * win0_3.size a + win0_3.xsize (grid0.coords t) a) ↔ _
  rw [o, z]

theorem cover (i : S2x8704x256.Idx) : ∃ t : Fin cfg0.N, (cfg0.win 3).flush t = true ∧ i ∈ ((cfg0.win 3).blk t).view.set := by
  have h0 : (i 0).val < 2 := (i 0).isLt
  have h1 : (i 1).val < 8704 := (i 1).isLt
  have hN : cfg0.N = 34 := rfl
  refine ⟨⟨(i 0).val * 17 + (i 1).val / 512, by omega⟩, flush0_3 _, ?_⟩
  rw [mem_blk]
  dsimp only
  omega

/-- After the run the result array holds the projection of the arguments. -/
theorem final (c : Dev nD) : (dats m 0 c).arrAt 3 cfg0.N = arr m c :=
  (dats m 0 c).arrAt_eq_of_cover 3 (arr m c) (fun t _ => flushed_eq m c t) cover

end Cert.ValAKernel
end
-- ==== Proof.ValARef.lean ====
module

public import proofs.«01_k».proof.Proof.Gen.ValARefIdeal.Read
public import proofs.«01_k».proof.Proof.ValAKernel
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The first attention's values' reference, read at an index. -/

@[expose] public section

set_option maxRecDepth 16384

noncomputable section

namespace Cert.ValARef

open Cert.ValARefIdeal Cert.ValARefIdeal.Gen Cert.ValARefIdeal.Read Idealize.ShloMosaic
open Cert.ValAKernel (chan result)

theorem product_at (x0 : FVec Ideal S2x8192x2048 .bf16) (x1 : FVec Ideal S2048x4608 .f32) (b : Fin 2) (n : Fin 8192) (f : Fin 256) :
    val_main_v2 (F := Ideal) x0 x1 (ix3 b n f) = ∑ d : Fin 2048, x0 (ix3 b n d) * x1 (ix2 d (chan f)) := by
  rw [val_main_v2_apply]
  refine Finset.sum_congr rfl fun k _ => congrArg₂ (· * ·) ?_ ?_
  · rw [val_main_v0_apply]
    exact congrArg x0 (funext fun a => Fin.ext (by fin_cases a <;> rfl))
  · rw [val_main_v1_apply]
    exact congrArg x1 (funext fun a => Fin.ext (by fin_cases a <;> rfl))

theorem result_at (x0 : FVec Ideal S2x8192x2048 .bf16) (x1 : FVec Ideal S2048x4608 .f32) (b : Fin 2) (n : Fin 8704) (f : Fin 256) :
    val_main_v4 (F := Ideal) x0 x1 (ix3 b n f) = result x0 x1 b n f := by
  have hn := n.isLt
  rw [val_main_v4_apply]
  show val_main_v3 (F := Ideal) x0 x1 (ix3 b n f) = _
  unfold val_main_v3 result
  by_cases h : n.val < 8192
  · rw [dif_pos h]
    refine (pad_apply_of_inside _ _ _ _ _ pads_S2x8192x256_S2x8704x256_000_05120_000 h_S_ (ix3 b n f) (ix3 b (⟨n.val, h⟩ : Fin 8192) f) ?_).trans (product_at x0 x1 b _ f)
    intro a
    fin_cases a
    · show b.val = 0 + b.val * (0 + 1); omega
    · show n.val = 0 + n.val * (0 + 1); omega
    · show f.val = 0 + f.val * (0 + 1); omega
  · rw [dif_neg h]
    refine (pad_apply_of_not_inside _ _ _ _ _ pads_S2x8192x256_S2x8704x256_000_05120_000 h_S_ (ix3 b n f) (1 : Fin 3) ?_).trans (sitofp_zero (φ := .f32))
    show ¬(0 ≤ n.val ∧ (n.val - 0) % (0 + 1) = 0 ∧ (n.val - 0) / (0 + 1) < 8192)
    omega

end Cert.ValARef
end
-- ==== Proof.ValAClaim.lean ====
module

public import proofs.«01_k».proof.Defs
public import proofs.«01_k».proof.Proof.ValAKernel
public import proofs.«01_k».proof.Proof.ValARef
public import proofs.«01_k».proof.Proof.Gen.ValA.Frame
public import Idealize.ShloMosaic.Lib.Quiescent

/-! The claim about the first attention's values' in-projection: the kernel and the reference end with the same result. -/

@[expose] public section

set_option maxRecDepth 16384

noncomputable section

namespace Cert.ValAClaim

open Idealize.ShloMosaic Idealize.ShloMosaic.TcCoe Idealize.SL.Sem

/-- The kernel's and the reference's results agree on every memory. -/
theorem algebraic : Cert.algebraic_ValAIdeal_ValARefIdeal := by
  intro m ρ m' ρ' _ hagree
  refine ⟨fun c => Cert.ValAKernel.arr m c, ?_, ?_⟩
  · exact (θ_run Cert.ValAIdeal.defs _ _).mono (fun _ h c => ⟨(h c).1.trans (Cert.ValAKernel.final m c), (h c).2⟩)
      (Cert.ValAIdeal.Value.run_blocks (F := Ideal) m ρ)
  · refine (θ_run Cert.ValARefIdeal.defs _ _).mono (fun _ h c => ⟨(h c).1.trans ?_, (h c).2⟩)
      (Cert.ValARefIdeal.Value.run (F := Ideal) m' ρ')
    obtain ⟨h0, h1⟩ := hagree c
    rw [Cert.ValARefIdeal.Read.val_main_v4_eq, h0, h1]
    funext i
    have e : i = ix3 (i 0) (i 1) (i 2) := (ix3_eta i).symm
    exact (congrArg _ e).trans (Cert.ValARef.result_at _ _ (i 0) (i 1) (i 2))

end Cert.ValAClaim
end
-- ==== Proof.ModKernel.lean ====
module

public import proofs.«01_k».proof.Proof.Gen.ModIdeal.Frame
public import proofs.«01_k».proof.Proof.Gen.ModIdeal.Value
public import Idealize.ShloMosaic.PureOps.Ideal
public import Idealize.ShloMosaic.Lib.ValueIdx
public import Idealize.ShloMosaic.Lib.Pointwise
public import Idealize.ShloMosaic.Lib.IdealHost
public import Idealize.ShloMosaic.Lib.Pipeline.Value
public import Idealize.ShloMosaic.Lib.StableHlo.Run

/-! The normalisation and modulation of the residual rows: the call's result array after the run, as one function of the argument arrays. -/

@[expose] public section

set_option maxRecDepth 16384

noncomputable section

namespace Cert.ModKernel

open Cert.ModIdeal Cert.ModIdeal.Gen Idealize.ShloMosaic Idealize.ShloMosaic.TcCoe Idealize.SL.Sem
open Idealize.ShloMosaic.Pipeline (Dat)

/-- A row divided by its root mean square, times weights. -/
def rms (x g : Fin 2048 → EReal) (d : Fin 2048) : EReal :=
  x d * Ideal.rsqrt (Ideal.div (∑ e, x e * x e) (Ideal.ofBits FTy.f32 0x45000000#32) + Ideal.ofBits FTy.f32 0x358637BD#32) * g d

/-- The result: the normalised row, scaled by one plus the modulation's scale, plus its shift. -/
def result (x : Vec Ideal S2x8192x2048 .f32) (g : Vec Ideal S2048 .f32) (sc sh : Vec Ideal S2x2048 .f32)
    (b : Fin 2) (n : Fin 8192) (d : Fin 2048) : EReal :=
  rms (fun e => x (ix3 b n e)) (fun e => g (ix1 e)) d * (Ideal.ofBits FTy.f32 0x3F800000#32 + sc (ix2 b d)) + sh (ix2 b d)

theorem pay_apply (x : Vec Ideal S1x512x2048 .f32) (g : Vec Ideal S1x2048 .f32) (sc sh : Vec Ideal S1x1x2048 .f32) (r : Fin 512) (d : Fin 2048) :
    k0_pay1 x g sc sh (ix3 0 r d)
      = rms (fun e => x (ix3 0 r e)) (fun e => g (ix2 0 e)) d * (Ideal.ofBits FTy.f32 0x3F800000#32 + sc (ix3 0 0 d)) + sh (ix3 0 0 d) := by
  pointwise [k0_pay1, rms, add_zero]

theorem zeros2 : (![0, 0] : Fin 2 → ℕ) = fun _ => 0 := funext fun a => by fin_cases a <;> rfl
theorem zeros3 : (![0, 0, 0] : Fin 3 → ℕ) = fun _ => 0 := funext fun a => by fin_cases a <;> rfl

theorem out_apply (x : Vec Ideal S1x512x2048 .f32) (g : Vec Ideal S1x2048 .f32) (sc sh : Vec Ideal S1x1x2048 .f32) (r : Fin 512) (d : Fin 2048) :
    out0_4 x g sc sh (ix3 0 r d)
      = rms (fun e => x (ix3 0 r e)) (fun e => g (ix2 0 e)) d * (Ideal.ofBits FTy.f32 0x3F800000#32 + sc (ix3 0 0 d)) + sh (ix3 0 0 d) := by
  unfold out0_4
  simp only [View.ld_unit_zero (Val := Elt Ideal) (S := S1x512x2048) (e := .f32) (off := ![0,0,0]) zeros3, View.ld_unit_zero (Val := Elt Ideal) (S := S1x2048) (e := .f32) (off := ![0,0]) zeros2, View.ld_unit_zero (Val := Elt Ideal) (S := S1x1x2048) (e := .f32) (off := ![0,0,0]) zeros3]
  exact (congrFun (View.canon_unit_zero (Val := Elt Ideal) (S := S1x512x2048) (e := .bf16) zeros3 _ _) _).trans (pay_apply x g sc sh r d)

variable (m : (ℓ : Loc nD τ sig) → Buf (Elt Ideal) ℓ)

theorem lt_N (t : Fin cfg0.N) : t.val < 32 := t.isLt

def batchAt (t : Fin cfg0.N) : Fin 2 := ⟨t.val / 16, by have := lt_N t; omega⟩
def rowAt (t : Fin cfg0.N) (r : Fin 512) : Fin 8192 := ⟨t.val % 16 * 512 + r.val, by have := r.isLt; omega⟩

theorem index_0 : ∀ t : Fin grid0.N, win0_0.index t = ![t.val / 16, t.val % 16, 0] := by decide +kernel
theorem index_1 : ∀ t : Fin grid0.N, win0_1.index t = ![0, 0] := by decide +kernel
theorem index_2 : ∀ t : Fin grid0.N, win0_2.index t = ![t.val / 16, 0, 0] := by decide +kernel
theorem index_3 : ∀ t : Fin grid0.N, win0_3.index t = ![t.val / 16, 0, 0] := by decide +kernel
theorem index_4 : ∀ t : Fin grid0.N, win0_4.index t = ![t.val / 16, t.val % 16, 0] := by decide +kernel

theorem V_v0 (c : Dev nD) : V m c main_v0 = shapeCast S1x2048 (m ((c : Thread nD τ).loc main_arg1)) shapeCasts_S2048_S1x2048 := by
  show StableHlo.after hostOps0 _ _ = _
  after_results
  rfl
theorem V_v1 (c : Dev nD) : V m c main_v1 = shapeCast S2x1x2048 (m ((c : Thread nD τ).loc main_arg2)) shapeCasts_S2x2048_S2x1x2048 := by
  show StableHlo.after hostOps0 _ _ = _
  after_results
  rfl
theorem V_v2 (c : Dev nD) : V m c main_v2 = shapeCast S2x1x2048 (m ((c : Thread nD τ).loc main_arg3)) shapeCasts_S2x2048_S2x1x2048 := by
  show StableHlo.after hostOps0 _ _ = _
  after_results
  rfl

theorem read0 (c : Dev nD) (t : Fin cfg0.N) (r : Fin 512) (d : Fin 2048) :
    iblk m c 0 t (ix3 (0 : Fin 1) r d) = (m ((c : Thread nD τ).loc main_arg0)) (ix3 (batchAt t) (rowAt t r) d) := by
  have e := index_0 t
  have hN := lt_N t
  have h : ((cfg0.win 0).blk t).view.emb (ix3 (0 : Fin 1) r d) = (ix3 (batchAt t) (rowAt t r) d) := by
    refine funext fun a => Fin.ext ?_
    show win0_0.index t a * win0_0.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (d : Fin 2048) :
    iblk m c 1 t (ix2 (0 : Fin 1) d) = (m ((c : Thread nD τ).loc main_arg1)) (ix1 d) := by
  have e := index_1 t
  have hN := lt_N t
  have h : ((cfg0.win 1).blk t).view.emb (ix2 (0 : Fin 1) d) = (ix2 (0 : Fin 1) d) := by
    refine funext fun a => Fin.ext ?_
    show win0_1.index t a * win0_1.size a + 1 * ((ix2 (0 : Fin 1) d) a).val = _
    rw [e]
    fin_cases a
    · show (0) * 1 + 1 * 0 = 0; omega
    · show (0) * 2048 + 1 * d.val = d.val; omega
  show V m c main_v0 (((cfg0.win 1).blk t).view.emb (ix2 (0 : Fin 1) d)) = _
  rw [h, V_v0, shapeCast_apply _ _ _ (ix1 d) (by rw [Shape.rowMajor_val_one, Shape.rowMajor_val_two]; show d.val = 0 * 2048 + d.val; omega)]

theorem read2 (c : Dev nD) (t : Fin cfg0.N) (d : Fin 2048) :
    iblk m c 2 t (ix3 (0 : Fin 1) (0 : Fin 1) d) = (m ((c : Thread nD τ).loc main_arg2)) (ix2 (batchAt t) d) := by
  have e := index_2 t
  have hN := lt_N t
  have h : ((cfg0.win 2).blk t).view.emb (ix3 (0 : Fin 1) (0 : Fin 1) d) = (ix3 (batchAt t) (0 : Fin 1) d) := by
    refine funext fun a => Fin.ext ?_
    show win0_2.index t a * win0_2.size a + 1 * ((ix3 (0 : Fin 1) (0 : Fin 1) d) a).val = _
    rw [e]
    fin_cases a
    · show (t.val / 16) * 1 + 1 * 0 = t.val / 16; omega
    · show (0) * 1 + 1 * 0 = 0; omega
    · show (0) * 2048 + 1 * d.val = d.val; omega
  show V m c main_v1 (((cfg0.win 2).blk t).view.emb (ix3 (0 : Fin 1) (0 : Fin 1) d)) = _
  rw [h, V_v1, shapeCast_apply _ _ _ (ix2 (batchAt t) d) (by rw [Shape.rowMajor_val_two, Shape.rowMajor_val_three]; show t.val / 16 * 2048 + d.val = (t.val / 16 * 1 + 0) * 2048 + d.val; omega)]

theorem read3 (c : Dev nD) (t : Fin cfg0.N) (d : Fin 2048) :
    iblk m c 3 t (ix3 (0 : Fin 1) (0 : Fin 1) d) = (m ((c : Thread nD τ).loc main_arg3)) (ix2 (batchAt t) d) := by
  have e := index_3 t
  have hN := lt_N t
  have h : ((cfg0.win 3).blk t).view.emb (ix3 (0 : Fin 1) (0 : Fin 1) d) = (ix3 (batchAt t) (0 : Fin 1) d) := by
    refine funext fun a => Fin.ext ?_
    show win0_3.index t a * win0_3.size a + 1 * ((ix3 (0 : Fin 1) (0 : Fin 1) d) a).val = _
    rw [e]
    fin_cases a
    · show (t.val / 16) * 1 + 1 * 0 = t.val / 16; omega
    · show (0) * 1 + 1 * 0 = 0; omega
    · show (0) * 2048 + 1 * d.val = d.val; omega
  show V m c main_v2 (((cfg0.win 3).blk t).view.emb (ix3 (0 : Fin 1) (0 : Fin 1) d)) = _
  rw [h, V_v2, shapeCast_apply _ _ _ (ix2 (batchAt t) d) (by rw [Shape.rowMajor_val_two, Shape.rowMajor_val_three]; show t.val / 16 * 2048 + d.val = (t.val / 16 * 1 + 0) * 2048 + d.val; omega)]

/-- The result array. -/
def arr (c : Dev nD) : Vec Ideal S2x8192x2048 .bf16 := fun i => result (m ((c : Thread nD τ).loc main_arg0)) (m ((c : Thread nD τ).loc main_arg1)) (m ((c : Thread nD τ).loc main_arg2)) (m ((c : Thread nD τ).loc main_arg3)) (i 0) (i 1) (i 2)

theorem flushed_eq (c : Dev nD) (t : Fin cfg0.N) :
    (dats m 0 c).flushed 4 t = ((cfg0.win 4).blk t).view.read (Elt Ideal) (arr m c) := by
  have hN := lt_N t
  rw [Cert.ModIdeal.Value.flushed4]
  funext x
  obtain ⟨a, r, d, rfl⟩ : ∃ (a : Fin 1) (r : Fin 512) (d : Fin 2048), x = ix3 a r d := ⟨x 0, x 1, x 2, (ix3_eta x).symm⟩
  have ha : a = (0 : Fin 1) := Fin.ext (by have := a.isLt; show a.val = 0; omega)
  subst ha
  show out0_4 _ _ _ _ (ix3 (0 : Fin 1) r d) = arr m c (((cfg0.win 4).blk t).view.emb (ix3 (0 : Fin 1) r d))
  have e := index_4 t
  have e0 : ((cfg0.win 4).blk t).view.emb (ix3 (0 : Fin 1) r d) = ix3 (batchAt t) (rowAt t r) d := by
    refine funext fun a => Fin.ext ?_
    show win0_4.index t a * win0_4.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show 0 * 2048 + 1 * d.val = d.val; omega
  rw [e0]
  refine (out_apply _ _ _ _ r d).trans ?_
  exact congrArg₂ (fun u v : EReal => u + v) (congrArg₂ (fun u v : EReal => u * v)
    (congrArg₂ (fun u w => rms u w d) (funext fun e => read0 m c t r e) (funext fun e => read1 m c t e))
    (congrArg (fun u : EReal => Ideal.ofBits FTy.f32 0x3F800000#32 + u) (read2 m c t d))) (read3 m c t d)

theorem mem_blk (t : Fin cfg0.N) (i : S2x8192x2048.Idx) :
    i ∈ ((cfg0.win 4).blk t).view.set ↔ t.val / 16 = (i 0).val ∧ t.val % 16 = (i 1).val / 512 := by
  show i ∈ ((View.whole main_v3).slice (win0_4.rect t)).set ↔ _
  rw [View.set_slice_whole, Rect.mem_set_unit]
  have e := index_4 t
  have hN := lt_N t
  have h0 : (i 0).val < 2 := (i 0).isLt
  have h1 : (i 1).val < 8192 := (i 1).isLt
  have h2 : (i 2).val < 2048 := (i 2).isLt
  have key : (∀ a : Fin 3, (![(t.val / 16) * 1, (t.val % 16) * 512, (0) * 2048] : Fin 3 → ℕ) a ≤ (i a).val
      ∧ (i a).val < (![(t.val / 16) * 1, (t.val % 16) * 512, (0) * 2048] : Fin 3 → ℕ) a + (![1, 512, 2048] : Fin 3 → ℕ) a)
      ↔ t.val / 16 = (i 0).val ∧ t.val % 16 = (i 1).val / 512 := by
    constructor
    · intro h
      have k0 : (t.val / 16) * 1 ≤ (i 0).val ∧ (i 0).val < (t.val / 16) * 1 + 1 := h 0
      have k1 : (t.val % 16) * 512 ≤ (i 1).val ∧ (i 1).val < (t.val % 16) * 512 + 512 := h 1
      have k2 : (0) * 2048 ≤ (i 2).val ∧ (i 2).val < (0) * 2048 + 2048 := h 2
      omega
    · intro h a
      fin_cases a
      · show (t.val / 16) * 1 ≤ (i 0).val ∧ (i 0).val < (t.val / 16) * 1 + 1; omega
      · show (t.val % 16) * 512 ≤ (i 1).val ∧ (i 1).val < (t.val % 16) * 512 + 512; omega
      · show (0) * 2048 ≤ (i 2).val ∧ (i 2).val < (0) * 2048 + 2048; omega
  rw [← key]
  refine forall_congr' fun a => ?_
  have o : win0_4.index t a * win0_4.size a = (![(t.val / 16) * 1, (t.val % 16) * 512, (0) * 2048] : Fin 3 → ℕ) a := by
    rw [e]; fin_cases a <;> rfl
  have z : win0_4.xsize (grid0.coords t) a = (![1, 512, 2048] : Fin 3 → ℕ) a := by fin_cases a <;> rfl
  show (win0_4.index t a * win0_4.size a ≤ (i a).val ∧ (i a).val < win0_4.index t a * win0_4.size a + win0_4.xsize (grid0.coords t) a) ↔ _
  rw [o, z]

theorem cover (i : S2x8192x2048.Idx) : ∃ t : Fin cfg0.N, (cfg0.win 4).flush t = true ∧ i ∈ ((cfg0.win 4).blk t).view.set := by
  have h0 : (i 0).val < 2 := (i 0).isLt
  have h1 : (i 1).val < 8192 := (i 1).isLt
  have hN : cfg0.N = 32 := rfl
  refine ⟨⟨(i 0).val * 16 + (i 1).val / 512, by omega⟩, flush0_4 _, ?_⟩
  rw [mem_blk]
  dsimp only
  omega

/-- After the run the result array holds the modulated rows. -/
theorem final (c : Dev nD) : (dats m 0 c).arrAt 4 cfg0.N = arr m c :=
  (dats m 0 c).arrAt_eq_of_cover 4 (arr m c) (fun t _ => flushed_eq m c t) cover

end Cert.ModKernel
end
-- ==== Proof.ModRef.lean ====
module

public import proofs.«01_k».proof.Proof.Gen.ModRefIdeal.Read
public import proofs.«01_k».proof.Proof.ModKernel
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The modulation's reference, read at an index. -/

@[expose] public section

set_option maxRecDepth 16384

noncomputable section

namespace Cert.ModRef

open Cert.ModRefIdeal Cert.ModRefIdeal.Gen Cert.ModRefIdeal.Read Idealize.ShloMosaic
open Cert.ModKernel (rms result)

theorem result_at (x0 : FVec Ideal S2x8192x2048 .f32) (x1 : FVec Ideal S2048 .f32) (x2 x3 : FVec Ideal S2x2048 .f32) (b : Fin 2) (n : Fin 8192) (d : Fin 2048) :
    val_main_v21 (F := Ideal) x0 x1 x2 x3 (ix3 b n d) = result x0 x1 x2 x3 b n d := by
  unfold result rms
  unfold val_main_v21 val_main_v20 val_main_v17 val_main_v12 val_main_v9 val_main_v8 val_main_v7 val_main_v6 val_main_v4 val_main_v2 val_main_v1 val_main_v0
  pointwise [val_main_v19, val_main_v18, val_main_v16, val_main_v15, val_main_v14, val_main_v13, val_main_v11, val_main_v10, val_main_v5, val_main_cst_1, val_main_v3, val_main_cst_0, val_main_cst_2, val_main_cst]

end Cert.ModRef
end
-- ==== Proof.ModClaim.lean ====
module

public import proofs.«01_k».proof.Defs
public import proofs.«01_k».proof.Proof.ModKernel
public import proofs.«01_k».proof.Proof.ModRef
public import proofs.«01_k».proof.Proof.Gen.Mod.Frame
public import Idealize.ShloMosaic.Lib.Quiescent

/-! The claim about the normalisation and modulation: the kernel and the reference end with the same result. -/

@[expose] public section

set_option maxRecDepth 16384

noncomputable section

namespace Cert.ModClaim

open Idealize.ShloMosaic Idealize.ShloMosaic.TcCoe Idealize.SL.Sem

/-- The kernel's and the reference's results agree on every memory. -/
theorem algebraic : Cert.algebraic_ModIdeal_ModRefIdeal := by
  intro m ρ m' ρ' _ hagree
  refine ⟨fun c => Cert.ModKernel.arr m c, ?_, ?_⟩
  · exact (θ_run Cert.ModIdeal.defs _ _).mono (fun _ h c => ⟨(h c).1.trans (Cert.ModKernel.final m c), (h c).2⟩)
      (Cert.ModIdeal.Value.run_blocks (F := Ideal) m ρ)
  · refine (θ_run Cert.ModRefIdeal.defs _ _).mono (fun _ h c => ⟨(h c).1.trans ?_, (h c).2⟩)
      (Cert.ModRefIdeal.Value.run (F := Ideal) m' ρ')
    obtain ⟨h0, h1, h2, h3⟩ := hagree c
    rw [Cert.ModRefIdeal.Read.val_main_v21_eq, h0, h1, h2, h3]
    funext i
    have e : i = ix3 (i 0) (i 1) (i 2) := (ix3_eta i).symm
    exact (congrArg _ e).trans (Cert.ModRef.result_at _ _ _ _ (i 0) (i 1) (i 2))

end Cert.ModClaim
end
-- ==== Proof.RopeA.lean ====
module

public import Idealize.ShloMosaic.PureOps.Ideal
public import Idealize.ShloMosaic.Lib.ValueIdx
public import Idealize.ShloMosaic.Lib.IdealHost

/-! One head's normalisation and rotary positions: the channels paired by a permutation of the head, and the scale taken out of the rotation. -/

@[expose] public section

set_option maxRecDepth 16384

noncomputable section

namespace Cert.RopeA

open Idealize.ShloMosaic

/-- The channel of the first component of a lane's pair. -/
def first (l : Fin 128) : Fin 128 := ⟨2 * (l.val % 64), by have := l.isLt; omega⟩

/-- The channel of the second component. -/
def second (l : Fin 128) : Fin 128 := ⟨2 * (l.val % 64) + 1, by have := l.isLt; omega⟩

/-- The channel of a lane. -/
def src (l : Fin 128) : Fin 128 := ⟨2 * (l.val % 64) + l.val / 64, by have := l.isLt; omega⟩

/-- The frequency of a lane. -/
def rot (l : Fin 128) : Fin 64 := ⟨l.val % 64, Nat.mod_lt _ (by decide)⟩

/-- The lane of the other component of the pair. -/
def mirror (l : Fin 128) : Fin 128 := ⟨(l.val + 64) % 128, Nat.mod_lt _ (by decide)⟩

theorem src_low (l : Fin 128) (h : l.val < 64) : src l = first l := Fin.ext (by
  show 2 * (l.val % 64) + l.val / 64 = 2 * (l.val % 64); omega)
theorem src_high (l : Fin 128) (h : ¬l.val < 64) : src l = second l := Fin.ext (by
  have := l.isLt
  show 2 * (l.val % 64) + l.val / 64 = 2 * (l.val % 64) + 1; omega)
theorem mirror_low (l : Fin 128) (h : l.val < 64) : src (mirror l) = second l := Fin.ext (by
  have e : (mirror l).val = l.val + 64 := by show (l.val + 64) % 128 = _; omega
  show 2 * ((mirror l).val % 64) + (mirror l).val / 64 = 2 * (l.val % 64) + 1
  rw [e]; omega)
theorem mirror_high (l : Fin 128) (h : ¬l.val < 64) : src (mirror l) = first l := Fin.ext (by
  have := l.isLt
  have e : (mirror l).val + 64 = l.val := by show (l.val + 64) % 128 + 64 = _; omega
  show 2 * ((mirror l).val % 64) + (mirror l).val / 64 = 2 * (l.val % 64)
  rw [← e]; omega)

theorem src_injective : Function.Injective src := fun a b h => Fin.ext (by
  have e : 2 * (a.val % 64) + a.val / 64 = 2 * (b.val % 64) + b.val / 64 := congrArg Fin.val h
  have := a.isLt
  have := b.isLt
  omega)

/-- A sum over a head's channels in the lanes' order. -/
theorem sum_src (F : Fin 128 → EReal) : ∑ l, F (src l) = ∑ k, F k :=
  Function.Bijective.sum_comp (Finite.injective_iff_bijective.mp src_injective) F

/-- A channel of a head divided by the head's root mean square. -/
def unit (P : Fin 128 → EReal) (k : Fin 128) : EReal :=
  P k * Ideal.rsqrt (Ideal.div (∑ e, P e * P e) (Ideal.ofBits FTy.f32 0x43000000#32) + Ideal.ofBits FTy.f32 0x358637BD#32)

/-- The same, with the sum over the lanes. -/
theorem unit_src (P : Fin 128 → EReal) (l : Fin 128) :
    P (src l) * Ideal.rsqrt (Ideal.div (∑ e, P (src e) * P (src e)) (Ideal.ofBits FTy.f32 0x43000000#32) + Ideal.ofBits FTy.f32 0x358637BD#32) = unit P (src l) :=
  congrArg (fun u : EReal => P (src l) * Ideal.rsqrt (Ideal.div u (Ideal.ofBits FTy.f32 0x43000000#32) + Ideal.ofBits FTy.f32 0x358637BD#32)) (sum_src fun k => P k * P k)

/-- The rotated pair's component, from the scaled channels. -/
def turned (Q : Fin 128 → EReal) (g : EReal) (co si : Fin 64 → EReal) (l : Fin 128) : EReal :=
  Q (src l) * g * co (rot l) + Q (src (mirror l)) * g * (if l.val < 64 then -si (rot l) else si (rot l))

/-- Below 64 the lane is the first component of the rotated pair, scaled afterwards. -/
theorem turned_low (Q : Fin 128 → EReal) (g : EReal) (hg : 0 ≤ g) (hg' : g ≠ ⊤) (co si : Fin 64 → EReal) (l : Fin 128) (h : l.val < 64) :
    turned Q g co si l = (Q (first l) * co (rot l) - Q (second l) * si (rot l)) * g := by
  unfold turned
  rw [if_pos h, src_low l h, mirror_low l h, sub_eq_add_neg, EReal.right_distrib_of_nonneg_of_ne_top hg hg', mul_right_comm (Q (first l)), mul_right_comm (Q (second l)), mul_neg]

theorem turned_high (Q : Fin 128 → EReal) (g : EReal) (hg : 0 ≤ g) (hg' : g ≠ ⊤) (co si : Fin 64 → EReal) (l : Fin 128) (h : ¬l.val < 64) :
    turned Q g co si l = (Q (first l) * si (rot l) + Q (second l) * co (rot l)) * g := by
  unfold turned
  rw [if_neg h, src_high l h, mirror_high l h, EReal.right_distrib_of_nonneg_of_ne_top hg hg', mul_right_comm (Q (first l)), mul_right_comm (Q (second l)), add_comm]

/-- The queries' scale is a real number that isn't negative. -/
theorem scale_eq : Ideal.ofBits FTy.f32 0x3E0293EE#32 = (((4278775 : ℝ) / 33554432 : ℝ) : EReal) := by
  simp [Ideal.ofBits, Ideal.ieee, -EReal.coe_mul]; norm_num
theorem scale_nonneg : 0 ≤ Ideal.ofBits FTy.f32 0x3E0293EE#32 := by
  rw [scale_eq]; exact EReal.coe_nonneg.mpr (by norm_num)
theorem scale_ne_top : Ideal.ofBits FTy.f32 0x3E0293EE#32 ≠ ⊤ := by
  rw [scale_eq]; exact EReal.coe_ne_top _

end Cert.RopeA
end
-- ==== Proof.QryAKernel.lean ====
module

public import proofs.«01_k».proof.Proof.Gen.QryAIdeal.Frame
public import proofs.«01_k».proof.Proof.Gen.QryAIdeal.Value
public import proofs.«01_k».proof.Proof.Gen.QryARefIdeal.Read
public import proofs.«01_k».proof.Proof.RopeA
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost
public import Idealize.ShloMosaic.Lib.Pipeline.Value
public import Idealize.ShloMosaic.Lib.StableHlo.Run

/-! The first attention's queries' in-projection with the heads' normalisation and the rotary positions: the call's result array after the run, as one function of the argument arrays. -/

@[expose] public section

set_option maxRecDepth 16384

noncomputable section

namespace Cert.QryAKernel

open Cert.QryAIdeal Cert.QryAIdeal.Gen Idealize.ShloMosaic Idealize.ShloMosaic.TcCoe Idealize.SL.Sem
open Idealize.ShloMosaic.Pipeline (Dat)
open Cert.RopeA (first second src rot mirror turned)

/-- A column's head and its lane there. -/
def head (f : Fin 1024) : Fin 8 := ⟨f.val / 128, by have := f.isLt; omega⟩
def lane (f : Fin 1024) : Fin 128 := ⟨f.val % 128, Nat.mod_lt _ (by decide)⟩

/-- The column of another lane of the same head. -/
def at_ (f : Fin 1024) (l : Fin 128) : Fin 1024 := ⟨f.val / 128 * 128 + l.val, by have := f.isLt; have := l.isLt; omega⟩

theorem head_at (f : Fin 1024) (l : Fin 128) : head (at_ f l) = head f := Fin.ext (by
  have := l.isLt
  show (f.val / 128 * 128 + l.val) / 128 = f.val / 128; omega)
theorem lane_at (f : Fin 1024) (l : Fin 128) : lane (at_ f l) = l := Fin.ext (by
  have := l.isLt
  show (f.val / 128 * 128 + l.val) % 128 = l.val; omega)

/-- The weights' column of a head's channel. -/
def chan (a : Fin 8) (k : Fin 128) : Fin 4608 := ⟨0 + (a.val * 128 + k.val), by have := a.isLt; have := k.isLt; omega⟩

/-- The angles of a position. -/
def angle : FVec Ideal S8192x64 .f32 := Cert.QryARefIdeal.Read.val_main_v49 (F := Ideal)

def scale : EReal := Ideal.ofBits FTy.f32 0x3E0293EE#32

/-- A row's product with the columns of a head. -/
def dot (h : Vec Ideal S2x8192x2048 .bf16) (w : Vec Ideal S2048x4608 .f32) (b : Fin 2) (n : Fin 8192) (a : Fin 8) (k : Fin 128) : EReal := ∑ d, h (ix3 b n d) * w (ix2 d (chan a k))

/-- The head normalised, times the gain. -/
def normed (h : Vec Ideal S2x8192x2048 .bf16) (w : Vec Ideal S2048x4608 .f32) (g : Vec Ideal S2x128 .f32) (b : Fin 2) (n : Fin 8192) (a : Fin 8) (k : Fin 128) : EReal :=
  Cert.RopeA.unit (dot h w b n a) k * g (ix2 (0 : Fin 2) k)

/-- A projected, normalised and rotated row. -/
def row (h : Vec Ideal S2x8192x2048 .bf16) (w : Vec Ideal S2048x4608 .f32) (g : Vec Ideal S2x128 .f32) (b : Fin 2) (n : Fin 8192) (f : Fin 1024) : EReal :=
  turned (normed h w g b n (head f)) scale (fun p => Host.cos (F := Ideal) (φ := .f32) angle (ix2 n p)) (fun p => Host.sin (F := Ideal) (φ := .f32) angle (ix2 n p)) (lane f)

/-- The result. -/
def result (h : Vec Ideal S2x8192x2048 .bf16) (w : Vec Ideal S2048x4608 .f32) (g : Vec Ideal S2x128 .f32) (b : Fin 2) (n : Fin 8192) (f : Fin 1024) : EReal := row h w g b n f

/-- A tile of the product. -/
def tile (x0 : Vec Ideal S1x512x2048 .bf16) (x1 : Vec Ideal S2048x1024 .bf16) (r : Fin 512) (f : Fin 1024) : EReal := ∑ d : Fin 2048, x0 (ix3 0 r d) * x1 (ix2 d f)

/-- The tile, each head divided by its root mean square, times the gain. -/
def scaled (x0 : Vec Ideal S1x512x2048 .bf16) (x1 : Vec Ideal S2048x1024 .bf16) (x2 : Vec Ideal S1x1024 .f32) (r : Fin 512) (f : Fin 1024) : EReal :=
  tile x0 x1 r f * Ideal.rsqrt (Ideal.div (∑ e : Fin 128, tile x0 x1 r (at_ f e) * tile x0 x1 r (at_ f e)) (Ideal.ofBits FTy.f32 0x43000000#32) + Ideal.ofBits FTy.f32 0x358637BD#32) * x2 (ix2 0 f)

/-- The tile with each head's halves rotated against each other. -/
def block (x0 : Vec Ideal S1x512x2048 .bf16) (x1 : Vec Ideal S2048x1024 .bf16) (x2 : Vec Ideal S1x1024 .f32) (x3 x4 : Vec Ideal S512x128 .f32) : FVec Ideal S1x512x1024 .bf16 := fun y =>
  scaled x0 x1 x2 (y 1) (y 2) * x3 (ix2 (y 1) (lane (y 2))) + scaled x0 x1 x2 (y 1) (at_ (y 2) (mirror (lane (y 2)))) * x4 (ix2 (y 1) (lane (y 2)))

theorem block_apply (x0 : Vec Ideal S1x512x2048 .bf16) (x1 : Vec Ideal S2048x1024 .bf16) (x2 : Vec Ideal S1x1024 .f32) (x3 x4 : Vec Ideal S512x128 .f32) (r : Fin 512) (f : Fin 1024) :
    block x0 x1 x2 x3 x4 (ix3 0 r f) = scaled x0 x1 x2 r f * x3 (ix2 r (lane f)) + scaled x0 x1 x2 r (at_ f (mirror (lane f))) * x4 (ix2 r (lane f)) := rfl

def prod (x0 : Vec Ideal S1x512x2048 .bf16) (x1 : Vec Ideal S2048x1024 .bf16) : FVec Ideal S512x1024 .f32 :=
  matmul dot_S512x2048_S2048x1024_S512x1024_1_0_0_1_n_n none (shapeCast S512x2048 x0 shapeCasts_S1x512x2048_S512x2048 : FVec Ideal S512x2048 .bf16) (shapeCast S2048x1024 x1 shapeCasts_S2048x1024_S2048x1024 : FVec Ideal S2048x1024 .bf16) (constant S512x1024 .f32 0x00000000#32)

theorem prod_apply (x0 : Vec Ideal S1x512x2048 .bf16) (x1 : Vec Ideal S2048x1024 .bf16) (r : Fin 512) (f : Fin 1024) : prod x0 x1 (ix2 r f) = tile x0 x1 r f := by
  pointwise [prod, tile]

/-- A head's rows divided by their root mean squares, times the gain. -/
def norm (z : FVec Ideal S512x128 .f32) (v : Vec Ideal S1x128 .f32) : FVec Ideal S512x128 .f32 :=
  mulf (mulf z (broadcastTo S512x128 (rsqrt (addf (divf (shapeCast S512x1 (multiReduction .add [1] S512 (mulf z z) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 (shapeCast S1x128 v shapeCasts_S1x128_S1x128) broadcasts_S1x128_S512x128)

theorem norm_apply (z : FVec Ideal S512x128 .f32) (v : Vec Ideal S1x128 .f32) (r : Fin 512) (l : Fin 128) :
    norm z v (ix2 r l) = z (ix2 r l) * Ideal.rsqrt (Ideal.div (∑ e : Fin 128, z (ix2 r e) * z (ix2 r e)) (Ideal.ofBits FTy.f32 0x43000000#32) + Ideal.ofBits FTy.f32 0x358637BD#32) * v (ix2 0 l) := by
  pointwise [norm, add_zero]

/-- The columns of one head, normalised. -/
def part (o : ℕ) (h : S512x1024.Slices ![0, o] S512x128) (x0 : Vec Ideal S1x512x2048 .bf16) (x1 : Vec Ideal S2048x1024 .bf16) (v : Vec Ideal S1x128 .f32) : FVec Ideal S512x128 .f32 :=
  norm (extractStridedSlice S512x128 ![0, o] (prod x0 x1) h) v

/-- The columns of one head, rotated. -/
def col (o : ℕ) (h : S512x1024.Slices ![0, o] S512x128) (x0 : Vec Ideal S1x512x2048 .bf16) (x1 : Vec Ideal S2048x1024 .bf16) (x3 x4 : Vec Ideal S512x128 .f32) (v : Vec Ideal S1x128 .f32) : FVec Ideal S1x512x128 .bf16 :=
  shapeCast S1x512x128 (truncf .bf16 (addf (mulf (part o h x0 x1 v) (shapeCast S512x128 x3 shapeCasts_S512x128_S512x128)) (mulf (dynamicRotate 1 64#32 none (part o h x0 x1 v) rotates_S512x128_d1) (shapeCast S512x128 x4 shapeCasts_S512x128_S512x128))) bitsLt_bf16_f32) shapeCasts_S512x128_S1x512x128

theorem part_apply (o : ℕ) (h) (x0 : Vec Ideal S1x512x2048 .bf16) (x1 : Vec Ideal S2048x1024 .bf16) (v : Vec Ideal S1x128 .f32) (r : Fin 512) (l : Fin 128) (F : Fin 128 → Fin 1024) (hF : ∀ l, (F l).val = o + l.val) :
    part o h x0 x1 v (ix2 r l) = tile x0 x1 r (F l) * Ideal.rsqrt (Ideal.div (∑ e : Fin 128, tile x0 x1 r (F e) * tile x0 x1 r (F e)) (Ideal.ofBits FTy.f32 0x43000000#32) + Ideal.ofBits FTy.f32 0x358637BD#32) * v (ix2 0 l) := by
  have e : ∀ l, extractStridedSlice S512x128 ![0, o] (prod x0 x1) h (ix2 r l) = tile x0 x1 r (F l) := fun l => by
    rw [← prod_apply x0 x1 r (F l)]
    refine congrArg (prod x0 x1) (funext fun a => Fin.ext ?_)
    fin_cases a
    · show 0 + r.val = r.val; omega
    · show o + l.val = (F l).val; rw [hF]
  unfold part
  rw [norm_apply]
  simp only [e]

theorem col_apply (o : ℕ) (h) (x0 : Vec Ideal S1x512x2048 .bf16) (x1 : Vec Ideal S2048x1024 .bf16) (x3 x4 : Vec Ideal S512x128 .f32) (v : Vec Ideal S1x128 .f32) (r : Fin 512) (l l' : Fin 128) (hl : l'.val = (l.val + 64) % 128) :
    col o h x0 x1 x3 x4 v (ix3 0 r l) = part o h x0 x1 v (ix2 r l) * x3 (ix2 r l) + part o h x0 x1 v (ix2 r l') * x4 (ix2 r l) := by
  unfold col
  generalize part o h x0 x1 v = y
  rw [shapeCast_apply _ _ _ (ix2 r l) (by rw [Shape.rowMajor_val_two, Shape.rowMajor_val_three]; show r.val * 128 + l.val = (0 * 512 + r.val) * 128 + l.val; omega)]
  have e : dynamicRotate 1 64#32 none y rotates_S512x128_d1 (ix2 r l) = y (ix2 r l') := by
    refine dynamicRotate_apply 1 64#32 y rotates_S512x128_d1 (ix2 r l) (ix2 r l') fun b => ?_
    fin_cases b
    · rfl
    · show l'.val = (l.val + 128 - 64 % 128) % 128; omega
  have e3 : shapeCast S512x128 x3 shapeCasts_S512x128_S512x128 (ix2 r l) = x3 (ix2 r l) := shapeCast_apply _ _ _ (ix2 r l) rfl
  have e4 : shapeCast S512x128 x4 shapeCasts_S512x128_S512x128 (ix2 r l) = x4 (ix2 r l) := shapeCast_apply _ _ _ (ix2 r l) rfl
  rw [← e, ← e3, ← e4]
  rfl

theorem piece_eq (o : ℕ) (ho' : o % 128 = 0) (h) (x0 : Vec Ideal S1x512x2048 .bf16) (x1 : Vec Ideal S2048x1024 .bf16) (x2 : Vec Ideal S1x1024 .f32) (x3 x4 : Vec Ideal S512x128 .f32) (h1) (h2) (x : S1x512x128.Idx) :
    col o h x0 x1 x3 x4 (View.ld (Val := Elt Ideal) (e' := .f32) x2 (Rect.unit (s := S1x1024) ![0, o] ![1, 128] h1)) x
      = block x0 x1 x2 x3 x4 ((Rect.unit (s := S1x512x1024) ![0, 0, o] ![1, 512, 128] h2).emb x) := by
  have ho : o + 128 ≤ 1024 := h2 2
  obtain ⟨a, r, l, rfl⟩ : ∃ (a : Fin 1) (r : Fin 512) (l : Fin 128), x = ix3 a r l := ⟨x 0, x 1, x 2, (ix3_eta x).symm⟩
  have ha : a = (0 : Fin 1) := Fin.ext (by have := a.isLt; show a.val = 0; omega)
  subst ha
  have hl := l.isLt
  have hf : o + l.val < 1024 := by omega
  have e0 : (Rect.unit (s := S1x512x1024) ![0, 0, o] ![1, 512, 128] h2).emb (ix3 (0 : Fin 1) r l) = ix3 (0 : Fin 1) r (⟨o + l.val, hf⟩ : Fin 1024) := by
    refine funext fun a => Fin.ext ?_
    fin_cases a
    · rfl
    · exact (Nat.zero_add _).trans (Nat.one_mul _)
    · exact congrArg (o + ·) (Nat.one_mul _)
  rw [e0, block_apply]
  generalize hk : (⟨o + l.val, hf⟩ : Fin 1024) = f
  have hfv : f.val = o + l.val := by rw [← hk]
  have hF : ∀ e : Fin 128, (at_ f e).val = o + e.val := fun e => by
    have := e.isLt
    show f.val / 128 * 128 + e.val = o + e.val; omega
  have hv : ∀ e : Fin 128, View.ld (Val := Elt Ideal) (e' := .f32) x2 (Rect.unit (s := S1x1024) ![0, o] ![1, 128] h1) (ix2 (0 : Fin 1) e) = x2 (ix2 (0 : Fin 1) (at_ f e)) := fun e => by
    refine congrArg x2 (funext fun a => Fin.ext ?_)
    fin_cases a
    · rfl
    · exact (congrArg (o + ·) (Nat.one_mul _)).trans (hF e).symm
  have aa : ∀ e e' : Fin 128, at_ (at_ f e) e' = at_ f e' := fun e e' => Fin.ext (by
    have := e.isLt
    show (f.val / 128 * 128 + e.val) / 128 * 128 + e'.val = f.val / 128 * 128 + e'.val; omega)
  have p : ∀ e : Fin 128, part o h x0 x1 (View.ld (Val := Elt Ideal) (e' := .f32) x2 (Rect.unit (s := S1x1024) ![0, o] ![1, 128] h1)) (ix2 r e) = scaled x0 x1 x2 r (at_ f e) := fun e => by
    unfold scaled
    simp only [aa]
    exact (part_apply o h x0 x1 _ r e (at_ f) hF).trans (congrArg (fun u : EReal => _ * u) (hv e))
  have q1 : lane f = l := Fin.ext (by show f.val % 128 = l.val; omega)
  have q2 : at_ f l = f := Fin.ext (by rw [hF, hfv])
  rw [q1, ← p]
  refine (col_apply o h x0 x1 x3 x4 _ r l (mirror l) rfl).trans ?_
  rw [p l, q2]

theorem zeros2 : (![0, 0] : Fin 2 → ℕ) = fun _ => 0 := funext fun a => by fin_cases a <;> rfl
theorem zeros3 : (![0, 0, 0] : Fin 3 → ℕ) = fun _ => 0 := funext fun a => by fin_cases a <;> rfl

set_option maxHeartbeats 1600000 in
theorem out_eq (x0 : Vec Ideal S1x512x2048 .bf16) (x1 : Vec Ideal S2048x1024 .bf16) (x2 : Vec Ideal S1x1024 .f32) (x3 x4 : Vec Ideal S512x128 .f32) :
    out0_5 x0 x1 x2 x3 x4 = block x0 x1 x2 x3 x4 := by
  unfold out0_5 k0_pay16 k0_pay17 k0_pay18
  simp only [View.ld_unit_zero (Val := Elt Ideal) (S := S1x512x2048) (e := .bf16) (off := ![0,0,0]) zeros3, View.ld_unit_zero (Val := Elt Ideal) (S := S2048x1024) (e := .bf16) (off := ![0,0]) zeros2, View.ld_unit_zero (Val := Elt Ideal) (S := S512x128) (e := .f32) (off := ![0,0]) zeros2]
  funext y
  refine View.canon_apply_of_pieces (Val := Elt Ideal) (e := .bf16) (block x0 x1 x2 x3 x4) _ ?_ y ?_
  · simp only [List.forall_mem_cons, List.not_mem_nil, false_imp_iff, implies_true, and_true]
    exact ⟨fun x => piece_eq 896 rfl slices_S512x1024_o0_896_S512x128 x0 x1 x2 x3 x4 _ _ x,
      fun x => piece_eq 768 rfl slices_S512x1024_o0_768_S512x128 x0 x1 x2 x3 x4 _ _ x,
      fun x => piece_eq 640 rfl slices_S512x1024_o0_640_S512x128 x0 x1 x2 x3 x4 _ _ x,
      fun x => piece_eq 512 rfl slices_S512x1024_o0_512_S512x128 x0 x1 x2 x3 x4 _ _ x,
      fun x => piece_eq 384 rfl slices_S512x1024_o0_384_S512x128 x0 x1 x2 x3 x4 _ _ x,
      fun x => piece_eq 256 rfl slices_S512x1024_o0_256_S512x128 x0 x1 x2 x3 x4 _ _ x,
      fun x => piece_eq 128 rfl slices_S512x1024_o0_128_S512x128 x0 x1 x2 x3 x4 _ _ x,
      fun x => piece_eq 0 rfl slices_S512x1024_o0_0_S512x128 x0 x1 x2 x3 x4 _ _ x⟩
  · have hy0 : (y 0).val < 1 := (y 0).isLt
    have hy1 : (y 1).val < 512 := (y 1).isLt
    have hy2 : (y 2).val < 1024 := (y 2).isLt
    have key : ∀ (o : ℕ) (h : ∀ a, (![0, 0, o] : Fin 3 → ℕ) a + (![1, 512, 128] : Fin 3 → ℕ) a ≤ S1x512x1024.size a), (y 2).val / 128 * 128 = o →
        y ∈ (Rect.unit (s := S1x512x1024) ![0, 0, o] ![1, 512, 128] h).set := by
      intro o h l1
      rw [Rect.mem_set_unit]
      intro a
      fin_cases a
      · exact ⟨Nat.zero_le _, by show (y 0).val < 0 + 1; omega⟩
      · exact ⟨Nat.zero_le _, by show (y 1).val < 0 + 512; omega⟩
      · exact ⟨by show o ≤ (y 2).val; omega, by show (y 2).val < o + 128; omega⟩
    rcases (by omega : (y 2).val / 128 = 0 ∨ (y 2).val / 128 = 1 ∨ (y 2).val / 128 = 2 ∨ (y 2).val / 128 = 3 ∨ (y 2).val / 128 = 4 ∨ (y 2).val / 128 = 5 ∨ (y 2).val / 128 = 6 ∨ (y 2).val / 128 = 7) with h | h | h | h | h | h | h | h
    · exact ⟨_, (.tail _ (.tail _ (.tail _ (.tail _ (.tail _ (.tail _ (.tail _ (.head _)))))))), key 0 inb_S1x512x1024_S1x512x128_0_0_0 (by omega)⟩
    · exact ⟨_, (.tail _ (.tail _ (.tail _ (.tail _ (.tail _ (.tail _ (.head _))))))), key 128 inb_S1x512x1024_S1x512x128_0_0_128 (by omega)⟩
    · exact ⟨_, (.tail _ (.tail _ (.tail _ (.tail _ (.tail _ (.head _)))))), key 256 inb_S1x512x1024_S1x512x128_0_0_256 (by omega)⟩
    · exact ⟨_, (.tail _ (.tail _ (.tail _ (.tail _ (.head _))))), key 384 inb_S1x512x1024_S1x512x128_0_0_384 (by omega)⟩
    · exact ⟨_, (.tail _ (.tail _ (.tail _ (.head _)))), key 512 inb_S1x512x1024_S1x512x128_0_0_512 (by omega)⟩
    · exact ⟨_, (.tail _ (.tail _ (.head _))), key 640 inb_S1x512x1024_S1x512x128_0_0_640 (by omega)⟩
    · exact ⟨_, (.tail _ (.head _)), key 768 inb_S1x512x1024_S1x512x128_0_0_768 (by omega)⟩
    · exact ⟨_, (.head _), key 896 inb_S1x512x1024_S1x512x128_0_0_896 (by omega)⟩

variable (m : (ℓ : Loc nD τ sig) → Buf (Elt Ideal) ℓ)

theorem lt_N (t : Fin cfg0.N) : t.val < 32 := t.isLt

def batchAt (t : Fin cfg0.N) : Fin 2 := ⟨t.val / 16, by have := lt_N t; omega⟩
def rowAt (t : Fin cfg0.N) (r : Fin 512) : Fin 8192 := ⟨t.val % 16 * 512 + r.val, by have := r.isLt; omega⟩

theorem index_0 : ∀ t : Fin grid0.N, win0_0.index t = ![t.val / 16, t.val % 16, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![t.val % 16, 0] := by decide +kernel
theorem index_4 : ∀ t : Fin grid0.N, win0_4.index t = ![t.val % 16, 0] := by decide +kernel
theorem index_5 : ∀ t : Fin grid0.N, win0_5.index t = ![t.val / 16, t.val % 16, 0] := by decide +kernel

/-- The even or the odd columns of each head, as the host code takes them. -/
def half (w : FVec Ideal S2048x1024 .f32) (e : ℕ) (h : S2048x8x1x64x2.Slices ![0, 0, 0, 0, e] S2048x8x1x64x1) : FVec Ideal S2048x8x64 .f32 :=
  shapeCast S2048x8x64 (shapeCast S2048x8x1x64 (extractStridedSlice S2048x8x1x64x1 ![0, 0, 0, 0, e] (shapeCast S2048x8x1x64x2 w shapeCasts_S2048x1024_S2048x8x1x64x2) h) shapeCasts_S2048x8x1x64x1_S2048x8x1x64) shapeCasts_S2048x8x1x64_S2048x8x64

theorem half_apply (w : FVec Ideal S2048x1024 .f32) (e : ℕ) (he : e < 2) (h) (k : Fin 2048) (a : Fin 8) (q : Fin 64) (f : Fin 1024) (hf : f.val = a.val * 128 + 2 * q.val + e) :
    half w e h (ix3 k a q) = w (ix2 k f) := by
  have hq := q.isLt
  unfold half
  have e1 : (shapeCast S2048x8x1x64x2 w shapeCasts_S2048x1024_S2048x8x1x64x2) (ix5 k a (0 : Fin 1) q (⟨e, he⟩ : Fin 2)) = w (ix2 k f) :=
    shapeCast_apply _ _ _ (ix2 k f) (by rw [Shape.rowMajor_val_two, Shape.rowMajor_val_five]; show k.val * 1024 + f.val = (((k.val * 8 + a.val) * 1 + 0) * 64 + q.val) * 2 + e; omega)
  rw [← e1]
  generalize shapeCast S2048x8x1x64x2 w shapeCasts_S2048x1024_S2048x8x1x64x2 = y
  rw [shapeCast_apply _ _ _ (ix4 k a (0 : Fin 1) q) (by rw [Shape.rowMajor_val_four, Shape.rowMajor_val_three]; show ((k.val * 8 + a.val) * 1 + 0) * 64 + q.val = (k.val * 8 + a.val) * 64 + q.val; omega)]
  rw [shapeCast_apply _ _ _ (ix5 k a (0 : Fin 1) q (0 : Fin 1)) (by rw [Shape.rowMajor_val_five, Shape.rowMajor_val_four]; show (((k.val * 8 + a.val) * 1 + 0) * 64 + q.val) * 1 + 0 = ((k.val * 8 + a.val) * 1 + 0) * 64 + q.val; omega)]
  refine congrArg y (funext fun b => Fin.ext ?_)
  fin_cases b
  · show 0 + k.val = k.val; omega
  · show 0 + a.val = a.val; omega
  · rfl
  · show 0 + q.val = q.val; omega
  · show e + 0 = e; omega

/-- The weights with the first components of each head's pairs before the second ones. -/
def deint (w : FVec Ideal S2048x1024 .f32) : FVec Ideal S2048x1024 .f32 :=
  shapeCast S2048x1024 (concatenate S2048x8x128 2 [⟨S2048x8x64, half w 0 slices_S2048x8x1x64x2_S2048x8x1x64x1_0_0_0_0_0⟩, ⟨S2048x8x64, half w 1 slices_S2048x8x1x64x2_S2048x8x1x64x1_0_0_0_0_1⟩] concatenates_S2048x8x64_S2048x8x64_S2048x8x128_d2) shapeCasts_S2048x8x128_S2048x1024

theorem deint_apply (w : FVec Ideal S2048x1024 .f32) (k : Fin 2048) (f : Fin 1024) : deint w (ix2 k f) = w (ix2 k (at_ f (src (lane f)))) := by
  have hf := f.isLt
  unfold deint
  rw [shapeCast_apply _ _ _ (ix3 k (head f) (lane f)) (by rw [Shape.rowMajor_val_three, Shape.rowMajor_val_two]; show (k.val * 8 + f.val / 128) * 128 + f.val % 128 = k.val * 1024 + f.val; omega)]
  have hs : (at_ f (src (lane f))).val = f.val / 128 * 128 + (2 * (f.val % 128 % 64) + f.val % 128 / 64) := rfl
  have g0 : ∀ q : Fin 64, f.val % 128 = q.val → half w 0 slices_S2048x8x1x64x2_S2048x8x1x64x1_0_0_0_0_0 (ix3 k (head f) q) = w (ix2 k (at_ f (src (lane f)))) := fun q hq =>
    half_apply w 0 (by omega) _ k _ q _ (by have := q.isLt; rw [hs]; show _ = f.val / 128 * 128 + 2 * q.val + 0; omega)
  have g1 : ∀ q : Fin 64, f.val % 128 = 64 + q.val → half w 1 slices_S2048x8x1x64x2_S2048x8x1x64x1_0_0_0_0_1 (ix3 k (head f) q) = w (ix2 k (at_ f (src (lane f)))) := fun q hq =>
    half_apply w 1 (by omega) _ k _ q _ (by have := q.isLt; rw [hs]; show _ = f.val / 128 * 128 + 2 * q.val + 1; omega)
  generalize half w 0 slices_S2048x8x1x64x2_S2048x8x1x64x1_0_0_0_0_0 = y at g0 ⊢
  generalize half w 1 slices_S2048x8x1x64x2_S2048x8x1x64x1_0_0_0_0_1 = z at g1 ⊢
  by_cases h : f.val % 128 < 64
  · have hi : ∀ a : Fin 3, ((ix3 k (head f) (⟨f.val % 128, h⟩ : Fin 64) : S2048x8x64.Idx) a).val = ((ix3 k (head f) (lane f) : S2048x8x128.Idx) a).val := fun a => by fin_cases a <;> rfl
    exact (concatenate_pair_apply_left (t := S2048x8x128) (s₁ := S2048x8x64) (s₂ := S2048x8x64) 2 y z concatenates_S2048x8x64_S2048x8x64_S2048x8x128_d2 (ix3 k (head f) (lane f)) rfl (ix3 k (head f) (⟨f.val % 128, h⟩ : Fin 64)) hi).trans (g0 _ rfl)
  · have hi : ∀ a : Fin 3, a ≠ 2 → ((ix3 k (head f) (⟨f.val % 128 - 64, by omega⟩ : Fin 64) : S2048x8x64.Idx) a).val = ((ix3 k (head f) (lane f) : S2048x8x128.Idx) a).val := fun a ha => by
      fin_cases a
      · rfl
      · rfl
      · exact absurd rfl ha
    have ha : f.val % 128 - 64 + 64 = f.val % 128 := by omega
    exact (concatenate_pair_apply_right (t := S2048x8x128) (s₁ := S2048x8x64) (s₂ := S2048x8x64) 2 y z concatenates_S2048x8x64_S2048x8x64_S2048x8x128_d2 (ix3 k (head f) (lane f)) rfl rfl (ix3 k (head f) (⟨f.val % 128 - 64, by omega⟩ : Fin 64)) hi ha).trans (g1 _ (by show f.val % 128 = 64 + (f.val % 128 - 64); omega))

/-- The even or the odd entries of the gain. -/
def ghalf (w : FVec Ideal S128 .f32) (e : ℕ) (h : S1x1x64x2.Slices ![0, 0, 0, e] S1x1x64x1) : FVec Ideal S1x64 .f32 :=
  shapeCast S1x64 (shapeCast S1x1x64 (extractStridedSlice S1x1x64x1 ![0, 0, 0, e] (shapeCast S1x1x64x2 w shapeCasts_S128_S1x1x64x2) h) shapeCasts_S1x1x64x1_S1x1x64) shapeCasts_S1x1x64_S1x64

theorem ghalf_apply (w : FVec Ideal S128 .f32) (e : ℕ) (he : e < 2) (h) (q : Fin 64) (k : Fin 128) (hk : k.val = 2 * q.val + e) :
    ghalf w e h (ix2 (0 : Fin 1) q) = w (ix1 k) := by
  have hq := q.isLt
  unfold ghalf
  have e1 : (shapeCast S1x1x64x2 w shapeCasts_S128_S1x1x64x2) (ix4 (0 : Fin 1) (0 : Fin 1) q (⟨e, he⟩ : Fin 2)) = w (ix1 k) :=
    shapeCast_apply _ _ _ (ix1 k) (by rw [Shape.rowMajor_val_one, Shape.rowMajor_val_four]; show k.val = ((0 * 1 + 0) * 64 + q.val) * 2 + e; omega)
  rw [← e1]
  generalize shapeCast S1x1x64x2 w shapeCasts_S128_S1x1x64x2 = y
  rw [shapeCast_apply _ _ _ (ix3 (0 : Fin 1) (0 : Fin 1) q) (by rw [Shape.rowMajor_val_three, Shape.rowMajor_val_two]; show (0 * 1 + 0) * 64 + q.val = 0 * 64 + q.val; omega)]
  rw [shapeCast_apply _ _ _ (ix4 (0 : Fin 1) (0 : Fin 1) q (0 : Fin 1)) (by rw [Shape.rowMajor_val_four, Shape.rowMajor_val_three]; show ((0 * 1 + 0) * 64 + q.val) * 1 + 0 = (0 * 1 + 0) * 64 + q.val; omega)]
  refine congrArg y (funext fun b => Fin.ext ?_)
  fin_cases b
  · rfl
  · rfl
  · show 0 + q.val = q.val; omega
  · show e + 0 = e; omega

/-- The gain in the lanes' order. -/
def gde (w : FVec Ideal S128 .f32) : FVec Ideal S128 .f32 :=
  shapeCast S128 (concatenate S1x128 1 [⟨S1x64, ghalf w 0 slices_S1x1x64x2_S1x1x64x1_0_0_0_0⟩, ⟨S1x64, ghalf w 1 slices_S1x1x64x2_S1x1x64x1_0_0_0_1⟩] concatenates_S1x64_S1x64_S1x128_d1) shapeCasts_S1x128_S128

theorem gde_apply (w : FVec Ideal S128 .f32) (l : Fin 128) : gde w (ix1 l) = w (ix1 (src l)) := by
  have hl := l.isLt
  unfold gde
  rw [shapeCast_apply _ _ _ (ix2 (0 : Fin 1) l) (by rw [Shape.rowMajor_val_two, Shape.rowMajor_val_one]; show 0 * 128 + l.val = l.val; omega)]
  have g0 : ∀ q : Fin 64, l.val = q.val → ghalf w 0 slices_S1x1x64x2_S1x1x64x1_0_0_0_0 (ix2 (0 : Fin 1) q) = w (ix1 (src l)) := fun q hq =>
    ghalf_apply w 0 (by omega) _ q _ (by have := q.isLt; show 2 * (l.val % 64) + l.val / 64 = 2 * q.val + 0; omega)
  have g1 : ∀ q : Fin 64, l.val = 64 + q.val → ghalf w 1 slices_S1x1x64x2_S1x1x64x1_0_0_0_1 (ix2 (0 : Fin 1) q) = w (ix1 (src l)) := fun q hq =>
    ghalf_apply w 1 (by omega) _ q _ (by have := q.isLt; show 2 * (l.val % 64) + l.val / 64 = 2 * q.val + 1; omega)
  generalize ghalf w 0 slices_S1x1x64x2_S1x1x64x1_0_0_0_0 = y at g0 ⊢
  generalize ghalf w 1 slices_S1x1x64x2_S1x1x64x1_0_0_0_1 = z at g1 ⊢
  by_cases h : l.val < 64
  · have hi : ∀ a : Fin 2, ((ix2 (0 : Fin 1) (⟨l.val, h⟩ : Fin 64) : S1x64.Idx) a).val = ((ix2 (0 : Fin 1) l : S1x128.Idx) a).val := fun a => by fin_cases a <;> rfl
    exact (concatenate_pair_apply_left (t := S1x128) (s₁ := S1x64) (s₂ := S1x64) 1 y z concatenates_S1x64_S1x64_S1x128_d1 (ix2 (0 : Fin 1) l) rfl (ix2 (0 : Fin 1) (⟨l.val, h⟩ : Fin 64)) hi).trans (g0 _ rfl)
  · have hi : ∀ a : Fin 2, a ≠ 1 → ((ix2 (0 : Fin 1) (⟨l.val - 64, by omega⟩ : Fin 64) : S1x64.Idx) a).val = ((ix2 (0 : Fin 1) l : S1x128.Idx) a).val := fun a ha => by
      fin_cases a
      · rfl
      · exact absurd rfl ha
    have ha : l.val - 64 + 64 = l.val := by omega
    exact (concatenate_pair_apply_right (t := S1x128) (s₁ := S1x64) (s₂ := S1x64) 1 y z concatenates_S1x64_S1x64_S1x128_d1 (ix2 (0 : Fin 1) l) rfl rfl (ix2 (0 : Fin 1) (⟨l.val - 64, by omega⟩ : Fin 64)) hi ha).trans (g1 _ (by show l.val = 64 + (l.val - 64); omega))

/-- One head's gain for every head. -/
def every (w : FVec Ideal S128 .f32) : FVec Ideal S1x1024 .f32 :=
  shapeCast S1x1024 (shapeCast S1024 (broadcastInDim S8x128 ![0, 1] bcast_S1x128_S8x128_0_1 (shapeCast S1x128 w shapeCasts_S128_S1x128) : FVec Ideal S8x128 .f32) shapeCasts_S8x128_S1024) shapeCasts_S1024_S1x1024

theorem every_apply (w : FVec Ideal S128 .f32) (f : Fin 1024) : every w (ix2 (0 : Fin 1) f) = w (ix1 (lane f)) := by
  have hf := f.isLt
  unfold every
  have e : shapeCast S1x128 w shapeCasts_S128_S1x128 (ix2 (0 : Fin 1) (lane f)) = w (ix1 (lane f)) :=
    shapeCast_apply _ _ _ (ix1 (lane f)) (by rw [Shape.rowMajor_val_one, Shape.rowMajor_val_two]; show f.val % 128 = 0 * 128 + f.val % 128; omega)
  rw [← e]
  generalize shapeCast S1x128 w shapeCasts_S128_S1x128 = z
  rw [shapeCast_apply _ _ _ (ix1 f) (by rw [Shape.rowMajor_val_one, Shape.rowMajor_val_two]; show f.val = 0 * 1024 + f.val; omega)]
  rw [shapeCast_apply _ _ _ (ix2 (head f) (lane f)) (by rw [Shape.rowMajor_val_two, Shape.rowMajor_val_one]; show f.val / 128 * 128 + f.val % 128 = f.val; omega)]
  refine broadcastInDim_apply _ _ _ _ (ix2 (0 : Fin 1) (lane f)) fun a => ?_
  fin_cases a <;> rfl

/-- The gain's row. -/
def gain (x : FVec Ideal S2x128 .f32) : FVec Ideal S128 .f32 :=
  shapeCast S128 (extractStridedSlice S1x128 ![0, 0] x slices_S2x128_S1x128_0_0) shapeCasts_S1x128_S128

theorem gain_apply (x : FVec Ideal S2x128 .f32) (k : Fin 128) : gain x (ix1 k) = x (ix2 (0 : Fin 2) k) := by
  unfold gain
  rw [shapeCast_apply _ _ _ (ix2 (0 : Fin 1) k) (by rw [Shape.rowMajor_val_two, Shape.rowMajor_val_one]; show 0 * 128 + k.val = k.val; omega)]
  refine congrArg x (funext fun a => Fin.ext ?_)
  fin_cases a
  · rfl
  · show 0 + k.val = k.val; omega

/-- A table of a position's values, as the host code repeats it. -/
def tab (y : FVec Ideal S8192x64 .f32) : FVec Ideal S8192x64 .f32 :=
  shapeCast S8192x64 (broadcastInDim S1x8192x1x64 ![0, 1, 2, 3] bcast_S1x8192x1x64_S1x8192x1x64_0_1_2_3 (shapeCast S1x8192x1x64 y shapeCasts_S8192x64_S1x8192x1x64) : FVec Ideal S1x8192x1x64 .f32) shapeCasts_S1x8192x1x64_S8192x64

theorem tab_apply (y : FVec Ideal S8192x64 .f32) (n : Fin 8192) (q p : Fin 64) (hp : q.val = p.val) : tab y (ix2 n q) = y (ix2 n p) := by
  have hqp : q = p := Fin.ext hp
  subst hqp
  unfold tab
  have e : shapeCast S1x8192x1x64 y shapeCasts_S8192x64_S1x8192x1x64 (ix4 (0 : Fin 1) n (0 : Fin 1) q) = y (ix2 n q) :=
    shapeCast_apply _ _ _ (ix2 n q) (by rw [Shape.rowMajor_val_two, Shape.rowMajor_val_four]; show n.val * 64 + q.val = ((0 * 8192 + n.val) * 1 + 0) * 64 + q.val; omega)
  rw [← e]
  generalize shapeCast S1x8192x1x64 y shapeCasts_S8192x64_S1x8192x1x64 = z
  rw [shapeCast_apply _ _ _ (ix4 (0 : Fin 1) n (0 : Fin 1) q) (by rw [Shape.rowMajor_val_four, Shape.rowMajor_val_two]; show ((0 * 8192 + n.val) * 1 + 0) * 64 + q.val = n.val * 64 + q.val; omega)]
  refine broadcastInDim_apply _ _ _ _ (ix4 (0 : Fin 1) n (0 : Fin 1) q) fun a => ?_
  fin_cases a <;> rfl

def both (y z : FVec Ideal S8192x64 .f32) : FVec Ideal S8192x128 .f32 :=
  concatenate S8192x128 1 [⟨S8192x64, y⟩, ⟨S8192x64, z⟩] concatenates_S8192x64_S8192x64_S8192x128_d1

theorem both_low (y z : FVec Ideal S8192x64 .f32) (n : Fin 8192) (l : Fin 128) (h : l.val < 64) : both y z (ix2 n l) = y (ix2 n (⟨l.val, h⟩ : Fin 64)) := by
  have hi : ∀ a : Fin 2, ((ix2 n (⟨l.val, h⟩ : Fin 64) : S8192x64.Idx) a).val = ((ix2 n l : S8192x128.Idx) a).val := fun a => by fin_cases a <;> rfl
  exact concatenate_pair_apply_left (t := S8192x128) (s₁ := S8192x64) (s₂ := S8192x64) 1 y z concatenates_S8192x64_S8192x64_S8192x128_d1 (ix2 n l) rfl (ix2 n (⟨l.val, h⟩ : Fin 64)) hi

theorem both_high (y z : FVec Ideal S8192x64 .f32) (n : Fin 8192) (l : Fin 128) (h : ¬l.val < 64) : both y z (ix2 n l) = z (ix2 n (⟨l.val - 64, by have := l.isLt; omega⟩ : Fin 64)) := by
  have hl := l.isLt
  have hi : ∀ a : Fin 2, a ≠ 1 → ((ix2 n (⟨l.val - 64, by omega⟩ : Fin 64) : S8192x64.Idx) a).val = ((ix2 n l : S8192x128.Idx) a).val := fun a ha => by
    fin_cases a
    · rfl
    · exact absurd rfl ha
  have ha : l.val - 64 + 64 = l.val := by omega
  exact concatenate_pair_apply_right (t := S8192x128) (s₁ := S8192x64) (s₂ := S8192x64) 1 y z concatenates_S8192x64_S8192x64_S8192x128_d1 (ix2 n l) rfl rfl (ix2 n (⟨l.val - 64, by omega⟩ : Fin 64)) hi ha

theorem V_v10 (c : Dev nD) : V m c main_v10 = (truncf .bf16 (deint (extractStridedSlice S2048x1024 ![0, 0] (m ((c : Thread nD τ).loc main_arg1)) slices_S2048x4608_S2048x1024_0_0)) bitsLt_bf16_f32 : FVec Ideal S2048x1024 .bf16) := by
  show StableHlo.after hostOps0 _ _ = _
  after_results
  first
    | done
    | rfl
theorem V_v66 (c : Dev nD) : V m c main_v66 = both (tab (Host.cos angle)) (tab (Host.cos angle)) := by
  show StableHlo.after hostOps0 _ _ = _
  after_results
  first
    | done
    | rfl
theorem V_v68 (c : Dev nD) : V m c main_v68 = both (Host.negf (tab (Host.sin angle))) (tab (Host.sin angle)) := by
  show StableHlo.after hostOps0 _ _ = _
  after_results
  first
    | done
    | rfl
theorem V_v69 (c : Dev nD) : V m c main_v69 = every (mulf (gde (gain (m ((c : Thread nD τ).loc main_arg2)))) (broadcastInDim S128 ![] bcast_S_S128 (constant (F := Ideal) S_ .f32 0x3E0293EE#32) : FVec Ideal S128 .f32)) := by
  show StableHlo.after hostOps0 _ _ = _
  after_results
  first
    | done
    | rfl

theorem read0 (c : Dev nD) (t : Fin cfg0.N) (r : Fin 512) (d : Fin 2048) :
    iblk m c 0 t (ix3 (0 : Fin 1) r d) = (m ((c : Thread nD τ).loc main_arg0)) (ix3 (batchAt t) (⟨t.val % 16 * 512 + r.val, by have := r.isLt; omega⟩ : Fin 8192) d) := by
  have e := index_0 t
  have hN := lt_N t
  have h : ((cfg0.win 0).blk t).view.emb (ix3 (0 : Fin 1) r d) = (ix3 (batchAt t) (⟨t.val % 16 * 512 + r.val, by have := r.isLt; omega⟩ : Fin 8192) d) := by
    refine funext fun a => Fin.ext ?_
    show win0_0.index t a * win0_0.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (k : Fin 2048) (d : Fin 1024) :
    iblk m c 1 t (ix2 k d) = (m ((c : Thread nD τ).loc main_arg1)) (ix2 k (chan (head d) (src (lane d)))) := by
  have e := index_1 t
  have hN := lt_N t
  have h : ((cfg0.win 1).blk t).view.emb (ix2 k d) = (ix2 k d) := by
    refine funext fun a => Fin.ext ?_
    show win0_1.index t a * win0_1.size a + 1 * ((ix2 k d) a).val = _
    rw [e]
    fin_cases a
    · show (0) * 2048 + 1 * k.val = k.val; omega
    · show (0) * 1024 + 1 * d.val = d.val; omega
  show V m c main_v10 (((cfg0.win 1).blk t).view.emb (ix2 k d)) = _
  rw [h, V_v10]
  refine (deint_apply _ k d).trans ?_
  refine congrArg (m ((c : Thread nD τ).loc main_arg1)) (funext fun a => Fin.ext ?_)
  fin_cases a
  · show 0 + k.val = k.val; omega
  · rfl

/-- The gain times the queries' scale. -/
def gained (x : FVec Ideal S2x128 .f32) (k : Fin 128) : EReal := x (ix2 (0 : Fin 2) k) * scale

theorem read2 (c : Dev nD) (t : Fin cfg0.N) (d : Fin 1024) :
    iblk m c 2 t (ix2 (0 : Fin 1) d) = gained (m ((c : Thread nD τ).loc main_arg2)) (src (lane d)) := by
  have e := index_2 t
  have hN := lt_N t
  have h : ((cfg0.win 2).blk t).view.emb (ix2 (0 : Fin 1) d) = (ix2 (0 : Fin 1) d) := by
    refine funext fun a => Fin.ext ?_
    show win0_2.index t a * win0_2.size a + 1 * ((ix2 (0 : Fin 1) d) a).val = _
    rw [e]
    fin_cases a
    · show (0) * 1 + 1 * 0 = 0; omega
    · show (0) * 1024 + 1 * d.val = d.val; omega
  show V m c main_v69 (((cfg0.win 2).blk t).view.emb (ix2 (0 : Fin 1) d)) = _
  rw [h, V_v69, every_apply]
  refine Eq.trans ?_ (congrArg (fun u : EReal => u * scale) ((gde_apply _ (lane d)).trans (gain_apply _ _)))
  rfl

theorem read3 (c : Dev nD) (t : Fin cfg0.N) (r : Fin 512) (l : Fin 128) :
    iblk m c 3 t (ix2 r l) = Host.cos (F := Ideal) (φ := .f32) angle (ix2 (⟨t.val % 16 * 512 + r.val, by have := r.isLt; omega⟩ : Fin 8192) (rot l)) := by
  have e := index_3 t
  have hN := lt_N t
  have h : ((cfg0.win 3).blk t).view.emb (ix2 r l) = (ix2 (⟨t.val % 16 * 512 + r.val, by have := r.isLt; omega⟩ : Fin 8192) l) := by
    refine funext fun a => Fin.ext ?_
    show win0_3.index t a * win0_3.size a + 1 * ((ix2 r l) a).val = _
    rw [e]
    fin_cases a
    · show (t.val % 16) * 512 + 1 * r.val = t.val % 16 * 512 + r.val; omega
    · show (0) * 128 + 1 * l.val = l.val; omega
  show V m c main_v66 (((cfg0.win 3).blk t).view.emb (ix2 r l)) = _
  rw [h, V_v66]
  by_cases hl : l.val < 64
  · refine (both_low _ _ _ _ hl).trans (tab_apply _ _ _ (rot l) ?_)
    show l.val = l.val % 64; omega
  · refine (both_high _ _ _ _ hl).trans (tab_apply _ _ _ (rot l) ?_)
    have := l.isLt
    show l.val - 64 = l.val % 64; omega

theorem read4 (c : Dev nD) (t : Fin cfg0.N) (r : Fin 512) (l : Fin 128) :
    iblk m c 4 t (ix2 r l) = (if l.val < 64 then -(Host.sin (F := Ideal) (φ := .f32) angle (ix2 (⟨t.val % 16 * 512 + r.val, by have := r.isLt; omega⟩ : Fin 8192) (rot l)) : EReal) else (Host.sin (F := Ideal) (φ := .f32) angle (ix2 (⟨t.val % 16 * 512 + r.val, by have := r.isLt; omega⟩ : Fin 8192) (rot l)) : EReal)) := by
  have e := index_4 t
  have hN := lt_N t
  have h : ((cfg0.win 4).blk t).view.emb (ix2 r l) = (ix2 (⟨t.val % 16 * 512 + r.val, by have := r.isLt; omega⟩ : Fin 8192) l) := by
    refine funext fun a => Fin.ext ?_
    show win0_4.index t a * win0_4.size a + 1 * ((ix2 r l) a).val = _
    rw [e]
    fin_cases a
    · show (t.val % 16) * 512 + 1 * r.val = t.val % 16 * 512 + r.val; omega
    · show (0) * 128 + 1 * l.val = l.val; omega
  show V m c main_v68 (((cfg0.win 4).blk t).view.emb (ix2 r l)) = _
  rw [h, V_v68]
  by_cases hl : l.val < 64
  · rw [if_pos hl]
    refine (both_low _ _ _ _ hl).trans (congrArg (fun u : EReal => -u) (tab_apply _ _ _ (rot l) ?_))
    show l.val = l.val % 64; omega
  · rw [if_neg hl]
    refine (both_high _ _ _ _ hl).trans (tab_apply _ _ _ (rot l) ?_)
    have := l.isLt
    show l.val - 64 = l.val % 64; omega

theorem tile_at (c : Dev nD) (t : Fin cfg0.N) (r : Fin 512) (f : Fin 1024) :
    tile (iblk m c 0 t) (iblk m c 1 t) r f = dot (m ((c : Thread nD τ).loc main_arg0)) (m ((c : Thread nD τ).loc main_arg1)) (batchAt t) (⟨t.val % 16 * 512 + r.val, by have := r.isLt; omega⟩ : Fin 8192) (head f) (src (lane f)) :=
  Finset.sum_congr rfl fun d _ => congrArg₂ (fun u v : EReal => u * v) (read0 m c t r d) (read1 m c t d f)

theorem scaled_at (c : Dev nD) (t : Fin cfg0.N) (r : Fin 512) (f : Fin 1024) :
    scaled (iblk m c 0 t) (iblk m c 1 t) (iblk m c 2 t) r f = normed (m ((c : Thread nD τ).loc main_arg0)) (m ((c : Thread nD τ).loc main_arg1)) (m ((c : Thread nD τ).loc main_arg2)) (batchAt t) (⟨t.val % 16 * 512 + r.val, by have := r.isLt; omega⟩ : Fin 8192) (head f) (src (lane f)) * scale := by
  have e0 := tile_at m c t r f
  have e : ∀ l : Fin 128, tile (iblk m c 0 t) (iblk m c 1 t) r (at_ f l) = dot (m ((c : Thread nD τ).loc main_arg0)) (m ((c : Thread nD τ).loc main_arg1)) (batchAt t) (⟨t.val % 16 * 512 + r.val, by have := r.isLt; omega⟩ : Fin 8192) (head f) (src l) := fun l => by
    have := tile_at m c t r (at_ f l)
    rw [head_at, lane_at] at this
    exact this
  unfold scaled normed
  rw [e0]
  simp only [e]
  generalize dot (m ((c : Thread nD τ).loc main_arg0)) (m ((c : Thread nD τ).loc main_arg1)) (batchAt t) (⟨t.val % 16 * 512 + r.val, by have := r.isLt; omega⟩ : Fin 8192) (head f) = P
  have U := Cert.RopeA.unit_src P (lane f)
  rw [U]
  exact (congrArg (fun u : EReal => Cert.RopeA.unit P (src (lane f)) * u) (read2 m c t f)).trans (mul_assoc _ _ _).symm

theorem block_at (c : Dev nD) (t : Fin cfg0.N) (r : Fin 512) (f : Fin 1024) :
    block (iblk m c 0 t) (iblk m c 1 t) (iblk m c 2 t) (iblk m c 3 t) (iblk m c 4 t) (ix3 (0 : Fin 1) r f) = row (m ((c : Thread nD τ).loc main_arg0)) (m ((c : Thread nD τ).loc main_arg1)) (m ((c : Thread nD τ).loc main_arg2)) (batchAt t) (⟨t.val % 16 * 512 + r.val, by have := r.isLt; omega⟩ : Fin 8192) f := by
  have e := scaled_at m c t r (at_ f (mirror (lane f)))
  rw [head_at, lane_at] at e
  exact (block_apply _ _ _ _ _ r f).trans (congrArg₂ (fun u v : EReal => u + v)
    (congrArg₂ (fun u v : EReal => u * v) (scaled_at m c t r f) (read3 m c t r (lane f)))
    (congrArg₂ (fun u v : EReal => u * v) e (read4 m c t r (lane f))))

/-- The result array. -/
def arr (c : Dev nD) : Vec Ideal S2x8192x1024 .bf16 := fun i => result (m ((c : Thread nD τ).loc main_arg0)) (m ((c : Thread nD τ).loc main_arg1)) (m ((c : Thread nD τ).loc main_arg2)) (i 0) (i 1) (i 2)

theorem outs_apply (c : Dev nD) (t : Fin cfg0.N) (r : Fin 512) (f : Fin 1024) :
    out0_5 (iblk m c 0 t) (iblk m c 1 t) (iblk m c 2 t) (iblk m c 3 t) (iblk m c 4 t) (ix3 (0 : Fin 1) r f) = result (m ((c : Thread nD τ).loc main_arg0)) (m ((c : Thread nD τ).loc main_arg1)) (m ((c : Thread nD τ).loc main_arg2)) (batchAt t) (rowAt t r) f := by
  have hN := lt_N t
  have hr := r.isLt
  unfold result
  rw [out_eq]
  exact block_at m c t r f

theorem flushed_eq (c : Dev nD) (t : Fin cfg0.N) :
    (dats m 0 c).flushed 5 t = ((cfg0.win 5).blk t).view.read (Elt Ideal) (arr m c) := by
  have hN := lt_N t
  rw [Cert.QryAIdeal.Value.flushed5]
  funext x
  obtain ⟨a, r, d, rfl⟩ : ∃ (a : Fin 1) (r : Fin 512) (d : Fin 1024), x = ix3 a r d := ⟨x 0, x 1, x 2, (ix3_eta x).symm⟩
  have ha : a = (0 : Fin 1) := Fin.ext (by have := a.isLt; show a.val = 0; omega)
  subst ha
  show out0_5 (iblk m c 0 t) (iblk m c 1 t) (iblk m c 2 t) (iblk m c 3 t) (iblk m c 4 t) (ix3 (0 : Fin 1) r d) = arr m c (((cfg0.win 5).blk t).view.emb (ix3 (0 : Fin 1) r d))
  have e := index_5 t
  have e0 : ((cfg0.win 5).blk t).view.emb (ix3 (0 : Fin 1) r d) = ix3 (batchAt t) (rowAt t r) d := by
    refine funext fun a => Fin.ext ?_
    show win0_5.index t a * win0_5.size a + 1 * ((ix3 (0 : Fin 1) r d) a).val = _
    rw [e]
    fin_cases a
    · show (t.val / 16) * 1 + 1 * 0 = t.val / 16; omega
    · show (t.val % 16) * 512 + 1 * r.val = t.val % 16 * 512 + r.val; omega
    · show 0 * 1024 + 1 * d.val = d.val; omega
  rw [e0]
  exact outs_apply m c t r d

theorem mem_blk (t : Fin cfg0.N) (i : S2x8192x1024.Idx) :
    i ∈ ((cfg0.win 5).blk t).view.set ↔ t.val / 16 = (i 0).val ∧ t.val % 16 = (i 1).val / 512 := by
  show i ∈ ((View.whole main_v70).slice (win0_5.rect t)).set ↔ _
  rw [View.set_slice_whole, Rect.mem_set_unit]
  have e := index_5 t
  have hN := lt_N t
  have h0 : (i 0).val < 2 := (i 0).isLt
  have h1 : (i 1).val < 8192 := (i 1).isLt
  have h2 : (i 2).val < 1024 := (i 2).isLt
  have key : (∀ a : Fin 3, (![(t.val / 16) * 1, (t.val % 16) * 512, (0) * 1024] : Fin 3 → ℕ) a ≤ (i a).val
      ∧ (i a).val < (![(t.val / 16) * 1, (t.val % 16) * 512, (0) * 1024] : Fin 3 → ℕ) a + (![1, 512, 1024] : Fin 3 → ℕ) a)
      ↔ t.val / 16 = (i 0).val ∧ t.val % 16 = (i 1).val / 512 := by
    constructor
    · intro h
      have k0 : (t.val / 16) * 1 ≤ (i 0).val ∧ (i 0).val < (t.val / 16) * 1 + 1 := h 0
      have k1 : (t.val % 16) * 512 ≤ (i 1).val ∧ (i 1).val < (t.val % 16) * 512 + 512 := h 1
      have k2 : (0) * 1024 ≤ (i 2).val ∧ (i 2).val < (0) * 1024 + 1024 := h 2
      omega
    · intro h a
      fin_cases a
      · show (t.val / 16) * 1 ≤ (i 0).val ∧ (i 0).val < (t.val / 16) * 1 + 1; omega
      · show (t.val % 16) * 512 ≤ (i 1).val ∧ (i 1).val < (t.val % 16) * 512 + 512; omega
      · show (0) * 1024 ≤ (i 2).val ∧ (i 2).val < (0) * 1024 + 1024; omega
  rw [← key]
  refine forall_congr' fun a => ?_
  have o : win0_5.index t a * win0_5.size a = (![(t.val / 16) * 1, (t.val % 16) * 512, (0) * 1024] : Fin 3 → ℕ) a := by
    rw [e]; fin_cases a <;> rfl
  have z : win0_5.xsize (grid0.coords t) a = (![1, 512, 1024] : Fin 3 → ℕ) a := by fin_cases a <;> rfl
  show (win0_5.index t a * win0_5.size a ≤ (i a).val ∧ (i a).val < win0_5.index t a * win0_5.size a + win0_5.xsize (grid0.coords t) a) ↔ _
  rw [o, z]

theorem cover (i : S2x8192x1024.Idx) : ∃ t : Fin cfg0.N, (cfg0.win 5).flush t = true ∧ i ∈ ((cfg0.win 5).blk t).view.set := by
  have h0 : (i 0).val < 2 := (i 0).isLt
  have h1 : (i 1).val < 8192 := (i 1).isLt
  have hN : cfg0.N = 32 := rfl
  refine ⟨⟨(i 0).val * 16 + (i 1).val / 512, by omega⟩, flush0_5 _, ?_⟩
  rw [mem_blk]
  dsimp only
  omega

/-- After the run the result array holds the rotated projection of the arguments. -/
theorem final (c : Dev nD) : (dats m 0 c).arrAt 5 cfg0.N = arr m c :=
  (dats m 0 c).arrAt_eq_of_cover 5 (arr m c) (fun t _ => flushed_eq m c t) cover

end Cert.QryAKernel
end
-- ==== Proof.QryARef.lean ====
module

public import proofs.«01_k».proof.Proof.Gen.QryARefIdeal.Read
public import proofs.«01_k».proof.Proof.QryAKernel
public import proofs.«01_k».proof.Proof.RopeA
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The first attention's queries' reference, read at an index. -/

@[expose] public section

set_option maxRecDepth 16384

noncomputable section

namespace Cert.QryARef

open Cert.QryARefIdeal Cert.QryARefIdeal.Gen Cert.QryARefIdeal.Read Idealize.ShloMosaic
open Cert.QryAKernel (head lane chan angle scale dot normed row result)
open Cert.RopeA (first second rot turned turned_low turned_high)

theorem product_at (x0 : FVec Ideal S2x8192x2048 .bf16) (x1 : FVec Ideal S2048x4608 .f32) (b : Fin 2) (n : Fin 8192) (a : Fin 8) (k : Fin 128) (f : Fin 1024) (hf : f.val = a.val * 128 + k.val) :
    val_main_v2 (F := Ideal) x0 x1 (ix3 b n f) = dot x0 x1 b n a k := by
  rw [val_main_v2_apply]
  refine Finset.sum_congr rfl fun d _ => congrArg₂ (fun u v : EReal => u * v) ?_ ?_
  · rw [val_main_v0_apply]
    exact congrArg x0 (funext fun a => Fin.ext (by fin_cases a <;> rfl))
  · rw [val_main_v1_apply]
    refine congrArg x1 (funext fun j => Fin.ext ?_)
    fin_cases j
    · rfl
    · show f.val = 0 + (a.val * 128 + k.val); omega

theorem heads_at (x0 : FVec Ideal S2x8192x2048 .bf16) (x1 : FVec Ideal S2048x4608 .f32) (b : Fin 2) (n : Fin 8192) (a : Fin 8) (k : Fin 128) :
    val_main_v3 (F := Ideal) x0 x1 (ix4 b n a k) = dot x0 x1 b n a k := by
  have hb := b.isLt
  have hn := n.isLt
  have ha := a.isLt
  have hk := k.isLt
  rw [val_main_v3_apply, ← product_at x0 x1 b n a k (⟨a.val * 128 + k.val, by omega⟩ : Fin 1024) rfl]
  refine congrArg _ (funext fun j => Fin.ext ?_)
  fin_cases j
  · show (((b.val * 8192 + n.val) * 8 + a.val) * 128 + k.val) / 8388608 = b.val; omega
  · show (((b.val * 8192 + n.val) * 8 + a.val) * 128 + k.val) / 1024 % 8192 = n.val; omega
  · show (((b.val * 8192 + n.val) * 8 + a.val) * 128 + k.val) % 1024 = a.val * 128 + k.val; omega

theorem unit_at (x0 : FVec Ideal S2x8192x2048 .bf16) (x1 : FVec Ideal S2048x4608 .f32) (b : Fin 2) (n : Fin 8192) (a : Fin 8) (k : Fin 128) :
    val_main_v15 (F := Ideal) x0 x1 (ix4 b n a k) = Cert.RopeA.unit (dot x0 x1 b n a) k := by
  unfold Cert.RopeA.unit
  simp only [← heads_at x0 x1 b n a]
  unfold val_main_v15 val_main_v14 val_main_v13 val_main_v12 val_main_v10 val_main_v8 val_main_v7 val_main_v6
  generalize val_main_v3 (F := Ideal) x0 x1 = y
  pointwise [val_main_v11, val_main_cst_1, val_main_v9, val_main_cst_0, val_main_cst]

theorem gain_at (x2 : FVec Ideal S2x128 .f32) (b : Fin 2) (n : Fin 8192) (a : Fin 8) (k : Fin 128) :
    val_main_v17 (F := Ideal) x2 (ix4 b n a k) = x2 (ix2 (0 : Fin 2) k) := by
  have hk := k.isLt
  rw [val_main_v17_apply, val_main_v16_apply, val_main_v5_apply, val_main_v4_apply]
  refine congrArg x2 (funext fun j => Fin.ext ?_)
  fin_cases j
  · rfl
  · first
      | rfl
      | (show k.val % 128 = k.val; omega)

theorem normed_at (x0 : FVec Ideal S2x8192x2048 .bf16) (x1 : FVec Ideal S2048x4608 .f32) (x2 : FVec Ideal S2x128 .f32) (b : Fin 2) (n : Fin 8192) (a : Fin 8) (k : Fin 128) :
    val_main_v18 (F := Ideal) x0 x1 x2 (ix4 b n a k) = normed x0 x1 x2 b n a k := by
  rw [val_main_v18_apply, unit_at, gain_at]
  rfl

theorem even_at (x0 : FVec Ideal S2x8192x2048 .bf16) (x1 : FVec Ideal S2048x4608 .f32) (x2 : FVec Ideal S2x128 .f32) (b : Fin 2) (n : Fin 8192) (a : Fin 8) (p : Fin 64) (k : Fin 128) (hk : k.val = 0 + 2 * p.val) :
    val_main_v54 (F := Ideal) x0 x1 x2 (ix4 b n a p) = normed x0 x1 x2 b n a k := by
  unfold val_main_v54
  rw [← normed_at x0 x1 x2 b n a k]
  generalize val_main_v18 (F := Ideal) x0 x1 x2 = y
  refine congrArg y (funext fun j => Fin.ext ?_)
  fin_cases j
  · show 0 + 1 * b.val = b.val; omega
  · show 0 + 1 * n.val = n.val; omega
  · show 0 + 1 * a.val = a.val; omega
  · show 0 + 2 * p.val = k.val; omega

theorem odd_at (x0 : FVec Ideal S2x8192x2048 .bf16) (x1 : FVec Ideal S2048x4608 .f32) (x2 : FVec Ideal S2x128 .f32) (b : Fin 2) (n : Fin 8192) (a : Fin 8) (p : Fin 64) (k : Fin 128) (hk : k.val = 1 + 2 * p.val) :
    val_main_v55 (F := Ideal) x0 x1 x2 (ix4 b n a p) = normed x0 x1 x2 b n a k := by
  unfold val_main_v55
  rw [← normed_at x0 x1 x2 b n a k]
  generalize val_main_v18 (F := Ideal) x0 x1 x2 = y
  refine congrArg y (funext fun j => Fin.ext ?_)
  fin_cases j
  · show 0 + 1 * b.val = b.val; omega
  · show 0 + 1 * n.val = n.val; omega
  · show 0 + 1 * a.val = a.val; omega
  · show 1 + 2 * p.val = k.val; omega

theorem cos_at (i : S2x8192x8x64.Idx) (n : Fin 8192) (p : Fin 64) (hn : (i 1).val = n.val) (hp : (i 3).val = p.val) :
    val_main_v56 (F := Ideal) i = Host.cos (F := Ideal) (φ := .f32) angle (ix2 n p) := by
  rw [val_main_v56_apply, val_main_v52_apply]
  unfold val_main_v50 angle
  refine congrArg (Host.cos (F := Ideal) (φ := .f32) (val_main_v49 (F := Ideal))) (funext fun j => Fin.ext ?_)
  fin_cases j
  · exact hn
  · exact hp

theorem cos_at' (i : S2x8192x8x64.Idx) (n : Fin 8192) (p : Fin 64) (hn : (i 1).val = n.val) (hp : (i 3).val = p.val) :
    val_main_v63 (F := Ideal) i = Host.cos (F := Ideal) (φ := .f32) angle (ix2 n p) := by
  rw [val_main_v63_apply, val_main_v52_apply]
  unfold val_main_v50 angle
  refine congrArg (Host.cos (F := Ideal) (φ := .f32) (val_main_v49 (F := Ideal))) (funext fun j => Fin.ext ?_)
  fin_cases j
  · exact hn
  · exact hp

theorem sin_at (i : S2x8192x8x64.Idx) (n : Fin 8192) (p : Fin 64) (hn : (i 1).val = n.val) (hp : (i 3).val = p.val) :
    val_main_v58 (F := Ideal) i = Host.sin (F := Ideal) (φ := .f32) angle (ix2 n p) := by
  rw [val_main_v58_apply, val_main_v53_apply]
  unfold val_main_v51 angle
  refine congrArg (Host.sin (F := Ideal) (φ := .f32) (val_main_v49 (F := Ideal))) (funext fun j => Fin.ext ?_)
  fin_cases j
  · exact hn
  · exact hp

theorem sin_at' (i : S2x8192x8x64.Idx) (n : Fin 8192) (p : Fin 64) (hn : (i 1).val = n.val) (hp : (i 3).val = p.val) :
    val_main_v61 (F := Ideal) i = Host.sin (F := Ideal) (φ := .f32) angle (ix2 n p) := by
  rw [val_main_v61_apply, val_main_v53_apply]
  unfold val_main_v51 angle
  refine congrArg (Host.sin (F := Ideal) (φ := .f32) (val_main_v49 (F := Ideal))) (funext fun j => Fin.ext ?_)
  fin_cases j
  · exact hn
  · exact hp

/-- The first components of the rotated pairs. -/
theorem first_at (x0 : FVec Ideal S2x8192x2048 .bf16) (x1 : FVec Ideal S2048x4608 .f32) (x2 : FVec Ideal S2x128 .f32) (b : Fin 2) (n : Fin 8192) (a : Fin 8) (l : Fin 128) :
    val_main_v68 (F := Ideal) x0 x1 x2 (ix5 b n a (rot l) (0 : Fin 2))
      = normed x0 x1 x2 b n a (first l) * (Host.cos (F := Ideal) (φ := .f32) angle (ix2 n (rot l)) : EReal) - normed x0 x1 x2 b n a (second l) * (Host.sin (F := Ideal) (φ := .f32) angle (ix2 n (rot l)) : EReal) := by
  unfold val_main_v68
  have hi : ∀ j : Fin 5, ((ix5 b n a (rot l) (0 : Fin 1) : S2x8192x8x64x1.Idx) j).val = ((ix5 b n a (rot l) (0 : Fin 2) : S2x8192x8x64x2.Idx) j).val := fun j => by fin_cases j <;> rfl
  refine (concatenate_pair_apply_left (t := S2x8192x8x64x2) (s₁ := S2x8192x8x64x1) (s₂ := S2x8192x8x64x1) 4 (val_main_v66 (F := Ideal) x0 x1 x2) (val_main_v67 (F := Ideal) x0 x1 x2) concatenates_S2x8192x8x64x1_S2x8192x8x64x1_S2x8192x8x64x2_d4 (ix5 b n a (rot l) (0 : Fin 2)) rfl (ix5 b n a (rot l) (0 : Fin 1)) hi).trans ?_
  rw [val_main_v66_apply]
  have e : idx_main_v66 (ix5 b n a (rot l) (0 : Fin 1)) = ix4 b n a (rot l) := funext fun j => Fin.ext (by fin_cases j <;> rfl)
  rw [e, val_main_v60_apply, val_main_v57_apply, val_main_v59_apply,
    even_at x0 x1 x2 b n a (rot l) (first l) (by show 2 * (l.val % 64) = 0 + 2 * (l.val % 64); omega),
    odd_at x0 x1 x2 b n a (rot l) (second l) (by show 2 * (l.val % 64) + 1 = 1 + 2 * (l.val % 64); omega),
    cos_at _ n (rot l) rfl rfl, sin_at _ n (rot l) rfl rfl]
  rfl

/-- The second ones. -/
theorem second_at (x0 : FVec Ideal S2x8192x2048 .bf16) (x1 : FVec Ideal S2048x4608 .f32) (x2 : FVec Ideal S2x128 .f32) (b : Fin 2) (n : Fin 8192) (a : Fin 8) (l : Fin 128) :
    val_main_v68 (F := Ideal) x0 x1 x2 (ix5 b n a (rot l) (1 : Fin 2))
      = normed x0 x1 x2 b n a (first l) * (Host.sin (F := Ideal) (φ := .f32) angle (ix2 n (rot l)) : EReal) + normed x0 x1 x2 b n a (second l) * (Host.cos (F := Ideal) (φ := .f32) angle (ix2 n (rot l)) : EReal) := by
  unfold val_main_v68
  have hi : ∀ j : Fin 5, j ≠ 4 → ((ix5 b n a (rot l) (0 : Fin 1) : S2x8192x8x64x1.Idx) j).val = ((ix5 b n a (rot l) (1 : Fin 2) : S2x8192x8x64x2.Idx) j).val := fun j hj => by
    fin_cases j
    · rfl
    · rfl
    · rfl
    · rfl
    · exact absurd rfl hj
  refine (concatenate_pair_apply_right (t := S2x8192x8x64x2) (s₁ := S2x8192x8x64x1) (s₂ := S2x8192x8x64x1) 4 (val_main_v66 (F := Ideal) x0 x1 x2) (val_main_v67 (F := Ideal) x0 x1 x2) concatenates_S2x8192x8x64x1_S2x8192x8x64x1_S2x8192x8x64x2_d4 (ix5 b n a (rot l) (1 : Fin 2)) rfl rfl (ix5 b n a (rot l) (0 : Fin 1)) hi rfl).trans ?_
  rw [val_main_v67_apply]
  have e : idx_main_v67 (ix5 b n a (rot l) (0 : Fin 1)) = ix4 b n a (rot l) := funext fun j => Fin.ext (by fin_cases j <;> rfl)
  rw [e, val_main_v65_apply, val_main_v62_apply, val_main_v64_apply,
    even_at x0 x1 x2 b n a (rot l) (first l) (by show 2 * (l.val % 64) = 0 + 2 * (l.val % 64); omega),
    odd_at x0 x1 x2 b n a (rot l) (second l) (by show 2 * (l.val % 64) + 1 = 1 + 2 * (l.val % 64); omega),
    cos_at' _ n (rot l) rfl rfl, sin_at' _ n (rot l) rfl rfl]
  rfl

/-- The order of the channels: the pair's component before the frequency. -/
theorem order_at (x0 : FVec Ideal S2x8192x2048 .bf16) (x1 : FVec Ideal S2048x4608 .f32) (x2 : FVec Ideal S2x128 .f32) (b : Fin 2) (n : Fin 8192) (f : Fin 1024) (e : Fin 2) (he : f.val % 128 / 64 = e.val) :
    val_main_v73 (F := Ideal) x0 x1 x2 (ix3 b n f) = val_main_v70 (F := Ideal) x0 x1 x2 (ix5 b n (head f) (rot (lane f)) e) := by
  have hb := b.isLt
  have hn := n.isLt
  have hf := f.isLt
  have hE := e.isLt
  have e1 : idx_main_v73 (ix3 b n f) = ix4 (⟨b.val * 8192 + n.val, by omega⟩ : Fin 16384) (head f) e (rot (lane f)) := by
    refine funext fun j => Fin.ext ?_
    fin_cases j
    · show ((b.val * 8192 + n.val) * 1024 + f.val) / 1024 = b.val * 8192 + n.val; omega
    · show ((b.val * 8192 + n.val) * 1024 + f.val) / 128 % 8 = f.val / 128; omega
    · show ((b.val * 8192 + n.val) * 1024 + f.val) / 64 % 2 = e.val; omega
    · show ((b.val * 8192 + n.val) * 1024 + f.val) % 64 = f.val % 128 % 64; omega
  have e2 : idx_main_v72 (ix4 (⟨b.val * 8192 + n.val, by omega⟩ : Fin 16384) (head f) e (rot (lane f)))
      = ix4 (⟨b.val * 8192 + n.val, by omega⟩ : Fin 16384) (head f) (rot (lane f)) e := funext fun j => Fin.ext (by fin_cases j <;> rfl)
  have e3 : idx_main_v71 (ix4 (⟨b.val * 8192 + n.val, by omega⟩ : Fin 16384) (head f) (rot (lane f)) e) = ix5 b n (head f) (rot (lane f)) e := by
    have hH : f.val / 128 < 8 := by omega
    have hP : f.val % 128 % 64 < 64 := by omega
    refine funext fun j => Fin.ext ?_
    fin_cases j
    · show ((((b.val * 8192 + n.val) * 8 + f.val / 128) * 64 + f.val % 128 % 64) * 2 + e.val) / 8388608 = b.val
      generalize f.val / 128 = Q at hH ⊢; generalize f.val % 128 % 64 = P at hP ⊢; omega
    · show ((((b.val * 8192 + n.val) * 8 + f.val / 128) * 64 + f.val % 128 % 64) * 2 + e.val) / 1024 % 8192 = n.val
      generalize f.val / 128 = Q at hH ⊢; generalize f.val % 128 % 64 = P at hP ⊢; omega
    · show ((((b.val * 8192 + n.val) * 8 + f.val / 128) * 64 + f.val % 128 % 64) * 2 + e.val) / 128 % 8 = f.val / 128
      generalize f.val / 128 = Q at hH ⊢; generalize f.val % 128 % 64 = P at hP ⊢; omega
    · show ((((b.val * 8192 + n.val) * 8 + f.val / 128) * 64 + f.val % 128 % 64) * 2 + e.val) / 2 % 64 = f.val % 128 % 64
      generalize f.val / 128 = Q at hH ⊢; generalize f.val % 128 % 64 = P at hP ⊢; omega
    · show ((((b.val * 8192 + n.val) * 8 + f.val / 128) * 64 + f.val % 128 % 64) * 2 + e.val) % 2 = e.val
      generalize f.val / 128 = Q at hH ⊢; generalize f.val % 128 % 64 = P at hP ⊢; omega
  rw [val_main_v73_apply, e1, val_main_v72_apply, e2, val_main_v71_apply, e3]

theorem row_at (x0 : FVec Ideal S2x8192x2048 .bf16) (x1 : FVec Ideal S2048x4608 .f32) (x2 : FVec Ideal S2x128 .f32) (b : Fin 2) (n : Fin 8192) (f : Fin 1024) :
    val_main_v73 (F := Ideal) x0 x1 x2 (ix3 b n f) = row x0 x1 x2 b n f := by
  have hf := f.isLt
  unfold QryAKernel.row
  by_cases h : f.val % 128 < 64
  · rw [order_at x0 x1 x2 b n f 0 (by show f.val % 128 / 64 = 0; omega)]
    refine Eq.trans ?_ (turned_low _ _ Cert.RopeA.scale_nonneg Cert.RopeA.scale_ne_top _ _ (lane f) h).symm
    rw [val_main_v70_apply]
    exact congrArg (fun u : EReal => u * scale) (first_at x0 x1 x2 b n (head f) (lane f))
  · rw [order_at x0 x1 x2 b n f 1 (by show f.val % 128 / 64 = 1; omega)]
    refine Eq.trans ?_ (turned_high _ _ Cert.RopeA.scale_nonneg Cert.RopeA.scale_ne_top _ _ (lane f) h).symm
    rw [val_main_v70_apply]
    exact congrArg (fun u : EReal => u * scale) (second_at x0 x1 x2 b n (head f) (lane f))

theorem result_at (x0 : FVec Ideal S2x8192x2048 .bf16) (x1 : FVec Ideal S2048x4608 .f32) (x2 : FVec Ideal S2x128 .f32) (b : Fin 2) (n : Fin 8192) (f : Fin 1024) :
    val_main_v74 (F := Ideal) x0 x1 x2 (ix3 b n f) = result x0 x1 x2 b n f := by
  rw [val_main_v74_apply]
  exact row_at x0 x1 x2 b n f

end Cert.QryARef
end
-- ==== Proof.QryAClaim.lean ====
module

public import proofs.«01_k».proof.Defs
public import proofs.«01_k».proof.Proof.QryAKernel
public import proofs.«01_k».proof.Proof.QryARef
public import proofs.«01_k».proof.Proof.Gen.QryA.Frame
public import Idealize.ShloMosaic.Lib.Quiescent

/-! The claim about the first attention's queries' in-projection: the kernel and the reference end with the same result. -/

@[expose] public section

set_option maxRecDepth 16384

noncomputable section

namespace Cert.QryAClaim

open Idealize.ShloMosaic Idealize.ShloMosaic.TcCoe Idealize.SL.Sem

/-- The kernel's and the reference's results agree on every memory. -/
theorem algebraic : Cert.algebraic_QryAIdeal_QryARefIdeal := by
  intro m ρ m' ρ' _ hagree
  refine ⟨fun c => Cert.QryAKernel.arr m c, ?_, ?_⟩
  · exact (θ_run Cert.QryAIdeal.defs _ _).mono (fun _ h c => ⟨(h c).1.trans (Cert.QryAKernel.final m c), (h c).2⟩)
      (Cert.QryAIdeal.Value.run_blocks (F := Ideal) m ρ)
  · refine (θ_run Cert.QryARefIdeal.defs _ _).mono (fun _ h c => ⟨(h c).1.trans ?_, (h c).2⟩)
      (Cert.QryARefIdeal.Value.run (F := Ideal) m' ρ')
    obtain ⟨h0, h1, h2⟩ := hagree c
    rw [Cert.QryARefIdeal.Read.val_main_v74_eq, h0, h1, h2]
    funext i
    have e : i = ix3 (i 0) (i 1) (i 2) := (ix3_eta i).symm
    exact (congrArg _ e).trans (Cert.QryARef.result_at _ _ _ (i 0) (i 1) (i 2))

end Cert.QryAClaim
end
-- ==== Proof.KeyAKernel.lean ====
module

public import proofs.«01_k».proof.Proof.Gen.KeyAIdeal.Frame
public import proofs.«01_k».proof.Proof.Gen.KeyAIdeal.Value
public import proofs.«01_k».proof.Proof.Gen.KeyARefIdeal.Read
public import proofs.«01_k».proof.Proof.RopeA
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost
public import Idealize.ShloMosaic.Lib.Pipeline.Value
public import Idealize.ShloMosaic.Lib.StableHlo.Run

/-! The first attention's keys' in-projection with the heads' normalisation and the rotary positions: the call's result array after the run, as one function of the argument arrays. -/

@[expose] public section

set_option maxRecDepth 16384

noncomputable section

namespace Cert.KeyAKernel

open Cert.KeyAIdeal Cert.KeyAIdeal.Gen Idealize.ShloMosaic Idealize.ShloMosaic.TcCoe Idealize.SL.Sem
open Idealize.ShloMosaic.Pipeline (Dat)
open Cert.RopeA (first second src rot mirror turned)

/-- A column's head and its lane there. -/
def head (f : Fin 256) : Fin 2 := ⟨f.val / 128, by have := f.isLt; omega⟩
def lane (f : Fin 256) : Fin 128 := ⟨f.val % 128, Nat.mod_lt _ (by decide)⟩

/-- The column of another lane of the same head. -/
def at_ (f : Fin 256) (l : Fin 128) : Fin 256 := ⟨f.val / 128 * 128 + l.val, by have := f.isLt; have := l.isLt; omega⟩

theorem head_at (f : Fin 256) (l : Fin 128) : head (at_ f l) = head f := Fin.ext (by
  have := l.isLt
  show (f.val / 128 * 128 + l.val) / 128 = f.val / 128; omega)
theorem lane_at (f : Fin 256) (l : Fin 128) : lane (at_ f l) = l := Fin.ext (by
  have := l.isLt
  show (f.val / 128 * 128 + l.val) % 128 = l.val; omega)

/-- The weights' column of a head's channel. -/
def chan (a : Fin 2) (k : Fin 128) : Fin 4608 := ⟨1024 + (a.val * 128 + k.val), by have := a.isLt; have := k.isLt; omega⟩

/-- The angles of a position. -/
def angle : FVec Ideal S8192x64 .f32 := Cert.KeyARefIdeal.Read.val_main_v49 (F := Ideal)

def scale : EReal := Ideal.ofBits FTy.f32 0x3F800000#32

/-- A row's product with the columns of a head. -/
def dot (h : Vec Ideal S2x8192x2048 .bf16) (w : Vec Ideal S2048x4608 .f32) (b : Fin 2) (n : Fin 8192) (a : Fin 2) (k : Fin 128) : EReal := ∑ d, h (ix3 b n d) * w (ix2 d (chan a k))

/-- The head normalised, times the gain. -/
def normed (h : Vec Ideal S2x8192x2048 .bf16) (w : Vec Ideal S2048x4608 .f32) (g : Vec Ideal S2x128 .f32) (b : Fin 2) (n : Fin 8192) (a : Fin 2) (k : Fin 128) : EReal :=
  Cert.RopeA.unit (dot h w b n a) k * g (ix2 (1 : Fin 2) k)

/-- A projected, normalised and rotated row. -/
def row (h : Vec Ideal S2x8192x2048 .bf16) (w : Vec Ideal S2048x4608 .f32) (g : Vec Ideal S2x128 .f32) (b : Fin 2) (n : Fin 8192) (f : Fin 256) : EReal :=
  turned (normed h w g b n (head f)) scale (fun p => Host.cos (F := Ideal) (φ := .f32) angle (ix2 n p)) (fun p => Host.sin (F := Ideal) (φ := .f32) angle (ix2 n p)) (lane f)

/-- The result: the rotated rows, then rows of zeros. -/
def result (h : Vec Ideal S2x8192x2048 .bf16) (w : Vec Ideal S2048x4608 .f32) (g : Vec Ideal S2x128 .f32) (b : Fin 2) (n : Fin 8704) (f : Fin 256) : EReal :=
  if p : n.val < 8192 then row h w g b (⟨n.val, p⟩ : Fin 8192) f else 0

/-- A tile of the product. -/
def tile (x0 : Vec Ideal S1x512x2048 .bf16) (x1 : Vec Ideal S2048x256 .bf16) (r : Fin 512) (f : Fin 256) : EReal := ∑ d : Fin 2048, x0 (ix3 0 r d) * x1 (ix2 d f)

/-- The tile, each head divided by its root mean square, times the gain. -/
def scaled (x0 : Vec Ideal S1x512x2048 .bf16) (x1 : Vec Ideal S2048x256 .bf16) (x2 : Vec Ideal S1x256 .f32) (r : Fin 512) (f : Fin 256) : EReal :=
  tile x0 x1 r f * Ideal.rsqrt (Ideal.div (∑ e : Fin 128, tile x0 x1 r (at_ f e) * tile x0 x1 r (at_ f e)) (Ideal.ofBits FTy.f32 0x43000000#32) + Ideal.ofBits FTy.f32 0x358637BD#32) * x2 (ix2 0 f)

/-- The tile with each head's halves rotated against each other. -/
def block (x0 : Vec Ideal S1x512x2048 .bf16) (x1 : Vec Ideal S2048x256 .bf16) (x2 : Vec Ideal S1x256 .f32) (x3 x4 : Vec Ideal S512x128 .f32) : FVec Ideal S1x512x256 .bf16 := fun y =>
  scaled x0 x1 x2 (y 1) (y 2) * x3 (ix2 (y 1) (lane (y 2))) + scaled x0 x1 x2 (y 1) (at_ (y 2) (mirror (lane (y 2)))) * x4 (ix2 (y 1) (lane (y 2)))

theorem block_apply (x0 : Vec Ideal S1x512x2048 .bf16) (x1 : Vec Ideal S2048x256 .bf16) (x2 : Vec Ideal S1x256 .f32) (x3 x4 : Vec Ideal S512x128 .f32) (r : Fin 512) (f : Fin 256) :
    block x0 x1 x2 x3 x4 (ix3 0 r f) = scaled x0 x1 x2 r f * x3 (ix2 r (lane f)) + scaled x0 x1 x2 r (at_ f (mirror (lane f))) * x4 (ix2 r (lane f)) := rfl

def prod (x0 : Vec Ideal S1x512x2048 .bf16) (x1 : Vec Ideal S2048x256 .bf16) : FVec Ideal S512x256 .f32 :=
  matmul dot_S512x2048_S2048x256_S512x256_1_0_0_1_n_n none (shapeCast S512x2048 x0 shapeCasts_S1x512x2048_S512x2048 : FVec Ideal S512x2048 .bf16) (shapeCast S2048x256 x1 shapeCasts_S2048x256_S2048x256 : FVec Ideal S2048x256 .bf16) (constant S512x256 .f32 0x00000000#32)

theorem prod_apply (x0 : Vec Ideal S1x512x2048 .bf16) (x1 : Vec Ideal S2048x256 .bf16) (r : Fin 512) (f : Fin 256) : prod x0 x1 (ix2 r f) = tile x0 x1 r f := by
  pointwise [prod, tile]

/-- A head's rows divided by their root mean squares, times the gain. -/
def norm (z : FVec Ideal S512x128 .f32) (v : Vec Ideal S1x128 .f32) : FVec Ideal S512x128 .f32 :=
  mulf (mulf z (broadcastTo S512x128 (rsqrt (addf (divf (shapeCast S512x1 (multiReduction .add [1] S512 (mulf z z) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 (shapeCast S1x128 v shapeCasts_S1x128_S1x128) broadcasts_S1x128_S512x128)

theorem norm_apply (z : FVec Ideal S512x128 .f32) (v : Vec Ideal S1x128 .f32) (r : Fin 512) (l : Fin 128) :
    norm z v (ix2 r l) = z (ix2 r l) * Ideal.rsqrt (Ideal.div (∑ e : Fin 128, z (ix2 r e) * z (ix2 r e)) (Ideal.ofBits FTy.f32 0x43000000#32) + Ideal.ofBits FTy.f32 0x358637BD#32) * v (ix2 0 l) := by
  pointwise [norm, add_zero]

/-- The columns of one head, normalised. -/
def part (o : ℕ) (h : S512x256.Slices ![0, o] S512x128) (x0 : Vec Ideal S1x512x2048 .bf16) (x1 : Vec Ideal S2048x256 .bf16) (v : Vec Ideal S1x128 .f32) : FVec Ideal S512x128 .f32 :=
  norm (extractStridedSlice S512x128 ![0, o] (prod x0 x1) h) v

/-- The columns of one head, rotated. -/
def col (o : ℕ) (h : S512x256.Slices ![0, o] S512x128) (x0 : Vec Ideal S1x512x2048 .bf16) (x1 : Vec Ideal S2048x256 .bf16) (x3 x4 : Vec Ideal S512x128 .f32) (v : Vec Ideal S1x128 .f32) : FVec Ideal S1x512x128 .bf16 :=
  shapeCast S1x512x128 (truncf .bf16 (addf (mulf (part o h x0 x1 v) (shapeCast S512x128 x3 shapeCasts_S512x128_S512x128)) (mulf (dynamicRotate 1 64#32 none (part o h x0 x1 v) rotates_S512x128_d1) (shapeCast S512x128 x4 shapeCasts_S512x128_S512x128))) bitsLt_bf16_f32) shapeCasts_S512x128_S1x512x128

theorem part_apply (o : ℕ) (h) (x0 : Vec Ideal S1x512x2048 .bf16) (x1 : Vec Ideal S2048x256 .bf16) (v : Vec Ideal S1x128 .f32) (r : Fin 512) (l : Fin 128) (F : Fin 128 → Fin 256) (hF : ∀ l, (F l).val = o + l.val) :
    part o h x0 x1 v (ix2 r l) = tile x0 x1 r (F l) * Ideal.rsqrt (Ideal.div (∑ e : Fin 128, tile x0 x1 r (F e) * tile x0 x1 r (F e)) (Ideal.ofBits FTy.f32 0x43000000#32) + Ideal.ofBits FTy.f32 0x358637BD#32) * v (ix2 0 l) := by
  have e : ∀ l, extractStridedSlice S512x128 ![0, o] (prod x0 x1) h (ix2 r l) = tile x0 x1 r (F l) := fun l => by
    rw [← prod_apply x0 x1 r (F l)]
    refine congrArg (prod x0 x1) (funext fun a => Fin.ext ?_)
    fin_cases a
    · show 0 + r.val = r.val; omega
    · show o + l.val = (F l).val; rw [hF]
  unfold part
  rw [norm_apply]
  simp only [e]

theorem col_apply (o : ℕ) (h) (x0 : Vec Ideal S1x512x2048 .bf16) (x1 : Vec Ideal S2048x256 .bf16) (x3 x4 : Vec Ideal S512x128 .f32) (v : Vec Ideal S1x128 .f32) (r : Fin 512) (l l' : Fin 128) (hl : l'.val = (l.val + 64) % 128) :
    col o h x0 x1 x3 x4 v (ix3 0 r l) = part o h x0 x1 v (ix2 r l) * x3 (ix2 r l) + part o h x0 x1 v (ix2 r l') * x4 (ix2 r l) := by
  unfold col
  generalize part o h x0 x1 v = y
  rw [shapeCast_apply _ _ _ (ix2 r l) (by rw [Shape.rowMajor_val_two, Shape.rowMajor_val_three]; show r.val * 128 + l.val = (0 * 512 + r.val) * 128 + l.val; omega)]
  have e : dynamicRotate 1 64#32 none y rotates_S512x128_d1 (ix2 r l) = y (ix2 r l') := by
    refine dynamicRotate_apply 1 64#32 y rotates_S512x128_d1 (ix2 r l) (ix2 r l') fun b => ?_
    fin_cases b
    · rfl
    · show l'.val = (l.val + 128 - 64 % 128) % 128; omega
  have e3 : shapeCast S512x128 x3 shapeCasts_S512x128_S512x128 (ix2 r l) = x3 (ix2 r l) := shapeCast_apply _ _ _ (ix2 r l) rfl
  have e4 : shapeCast S512x128 x4 shapeCasts_S512x128_S512x128 (ix2 r l) = x4 (ix2 r l) := shapeCast_apply _ _ _ (ix2 r l) rfl
  rw [← e, ← e3, ← e4]
  rfl

theorem piece_eq (o : ℕ) (ho' : o % 128 = 0) (h) (x0 : Vec Ideal S1x512x2048 .bf16) (x1 : Vec Ideal S2048x256 .bf16) (x2 : Vec Ideal S1x256 .f32) (x3 x4 : Vec Ideal S512x128 .f32) (h1) (h2) (x : S1x512x128.Idx) :
    col o h x0 x1 x3 x4 (View.ld (Val := Elt Ideal) (e' := .f32) x2 (Rect.unit (s := S1x256) ![0, o] ![1, 128] h1)) x
      = block x0 x1 x2 x3 x4 ((Rect.unit (s := S1x512x256) ![0, 0, o] ![1, 512, 128] h2).emb x) := by
  have ho : o + 128 ≤ 256 := h2 2
  obtain ⟨a, r, l, rfl⟩ : ∃ (a : Fin 1) (r : Fin 512) (l : Fin 128), x = ix3 a r l := ⟨x 0, x 1, x 2, (ix3_eta x).symm⟩
  have ha : a = (0 : Fin 1) := Fin.ext (by have := a.isLt; show a.val = 0; omega)
  subst ha
  have hl := l.isLt
  have hf : o + l.val < 256 := by omega
  have e0 : (Rect.unit (s := S1x512x256) ![0, 0, o] ![1, 512, 128] h2).emb (ix3 (0 : Fin 1) r l) = ix3 (0 : Fin 1) r (⟨o + l.val, hf⟩ : Fin 256) := by
    refine funext fun a => Fin.ext ?_
    fin_cases a
    · rfl
    · exact (Nat.zero_add _).trans (Nat.one_mul _)
    · exact congrArg (o + ·) (Nat.one_mul _)
  rw [e0, block_apply]
  generalize hk : (⟨o + l.val, hf⟩ : Fin 256) = f
  have hfv : f.val = o + l.val := by rw [← hk]
  have hF : ∀ e : Fin 128, (at_ f e).val = o + e.val := fun e => by
    have := e.isLt
    show f.val / 128 * 128 + e.val = o + e.val; omega
  have hv : ∀ e : Fin 128, View.ld (Val := Elt Ideal) (e' := .f32) x2 (Rect.unit (s := S1x256) ![0, o] ![1, 128] h1) (ix2 (0 : Fin 1) e) = x2 (ix2 (0 : Fin 1) (at_ f e)) := fun e => by
    refine congrArg x2 (funext fun a => Fin.ext ?_)
    fin_cases a
    · rfl
    · exact (congrArg (o + ·) (Nat.one_mul _)).trans (hF e).symm
  have aa : ∀ e e' : Fin 128, at_ (at_ f e) e' = at_ f e' := fun e e' => Fin.ext (by
    have := e.isLt
    show (f.val / 128 * 128 + e.val) / 128 * 128 + e'.val = f.val / 128 * 128 + e'.val; omega)
  have p : ∀ e : Fin 128, part o h x0 x1 (View.ld (Val := Elt Ideal) (e' := .f32) x2 (Rect.unit (s := S1x256) ![0, o] ![1, 128] h1)) (ix2 r e) = scaled x0 x1 x2 r (at_ f e) := fun e => by
    unfold scaled
    simp only [aa]
    exact (part_apply o h x0 x1 _ r e (at_ f) hF).trans (congrArg (fun u : EReal => _ * u) (hv e))
  have q1 : lane f = l := Fin.ext (by show f.val % 128 = l.val; omega)
  have q2 : at_ f l = f := Fin.ext (by rw [hF, hfv])
  rw [q1, ← p]
  refine (col_apply o h x0 x1 x3 x4 _ r l (mirror l) rfl).trans ?_
  rw [p l, q2]

theorem zeros2 : (![0, 0] : Fin 2 → ℕ) = fun _ => 0 := funext fun a => by fin_cases a <;> rfl
theorem zeros3 : (![0, 0, 0] : Fin 3 → ℕ) = fun _ => 0 := funext fun a => by fin_cases a <;> rfl

variable (m : (ℓ : Loc nD τ sig) → Buf (Elt Ideal) ℓ)

theorem lt_N (t : Fin cfg0.N) : t.val < 34 := t.isLt

set_option maxHeartbeats 1600000 in
theorem out_A (c : Dev nD) (t : Fin cfg0.N) (h0 : ¬t.val % 17 = 16) (h1 : t.val % 17 ≤ 15) :
    outsAt0 m c t.val t.isLt = block (iblk m c 0 t) (iblk m c 1 t) (iblk m c 2 t) (iblk m c 3 t) (iblk m c 4 t) := by
  rw [outsAt0_A m c t h0 h1]
  unfold out0_A_5
  rw [View.read_writes_eq_canon _ _ _ (cover0_A_5 c (grid0.coords t) _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  generalize iblk m c 0 t = x0
  generalize iblk m c 1 t = x1
  generalize iblk m c 2 t = x2
  generalize iblk m c 3 t = x3
  generalize iblk m c 4 t = x4
  simp only [View.ld_unit_zero (Val := Elt Ideal) (S := S1x512x2048) (e := .bf16) (off := ![0,0,0]) zeros3, View.ld_unit_zero (Val := Elt Ideal) (S := S2048x256) (e := .bf16) (off := ![0,0]) zeros2, View.ld_unit_zero (Val := Elt Ideal) (S := S512x128) (e := .f32) (off := ![0,0]) zeros2]
  funext y
  refine View.canon_apply_of_pieces (Val := Elt Ideal) (e := .bf16) (block x0 x1 x2 x3 x4) _ ?_ y ?_
  · simp only [List.forall_mem_cons, List.not_mem_nil, false_imp_iff, implies_true, and_true]
    exact ⟨fun x => piece_eq 128 rfl slices_S512x256_o0_128_S512x128 x0 x1 x2 x3 x4 _ _ x,
      fun x => piece_eq 0 rfl slices_S512x256_o0_0_S512x128 x0 x1 x2 x3 x4 _ _ x⟩
  · have hy0 : (y 0).val < 1 := (y 0).isLt
    have hy1 : (y 1).val < 512 := (y 1).isLt
    have hy2 : (y 2).val < 256 := (y 2).isLt
    have key : ∀ (o : ℕ) (h : ∀ a, (![0, 0, o] : Fin 3 → ℕ) a + (![1, 512, 128] : Fin 3 → ℕ) a ≤ S1x512x256.size a), (y 2).val / 128 * 128 = o →
        y ∈ (Rect.unit (s := S1x512x256) ![0, 0, o] ![1, 512, 128] h).set := by
      intro o h l1
      rw [Rect.mem_set_unit]
      intro a
      fin_cases a
      · exact ⟨Nat.zero_le _, by show (y 0).val < 0 + 1; omega⟩
      · exact ⟨Nat.zero_le _, by show (y 1).val < 0 + 512; omega⟩
      · exact ⟨by show o ≤ (y 2).val; omega, by show (y 2).val < o + 128; omega⟩
    rcases (by omega : (y 2).val / 128 = 0 ∨ (y 2).val / 128 = 1) with h | h
    · exact ⟨_, (.tail _ (.head _)), key 0 inb_S1x512x256_S1x512x128_0_0_0 (by omega)⟩
    · exact ⟨_, (.head _), key 128 inb_S1x512x256_S1x512x128_0_0_128 (by omega)⟩

theorem pay1_apply (x : S1x512x256.Idx) : k0_pay1 (F := Ideal) x = 0 := Ideal.ofBits_zero_bf16

theorem out_B (c : Dev nD) (t : Fin cfg0.N) (h0 : t.val % 17 = 16) (h1 : ¬t.val % 17 ≤ 15) :
    outsAt0 m c t.val t.isLt = fun _ => (0 : EReal) := by
  rw [outsAt0_B m c t h0 h1]
  unfold out0_B_5
  rw [View.read_writes_eq_canon _ _ _ (cover0_B_5 c (grid0.coords t) _ _ _ _ _ _ _ _ _ _ _ _ _ _ _ _ _ _ _)]
  unfold kernelRun0_B
  dsimp only
  sl_unfold_words
  refine (View.canon_unit_zero (Val := Elt Ideal) (S := S1x512x256) (e := .bf16) zeros3 _ _).trans ?_
  funext x
  exact pay1_apply x

def batchAt (t : Fin cfg0.N) : Fin 2 := ⟨t.val / 17, by have := lt_N t; omega⟩
def rowAt (t : Fin cfg0.N) (r : Fin 512) : Fin 8704 := ⟨t.val % 17 * 512 + r.val, by have := r.isLt; omega⟩

theorem index_0 : ∀ t : Fin grid0.N, win0_0.index t = ![t.val / 17, min (t.val % 17) 15, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![min (t.val % 17) 15, 0] := by decide +kernel
theorem index_4 : ∀ t : Fin grid0.N, win0_4.index t = ![min (t.val % 17) 15, 0] := by decide +kernel
theorem index_5 : ∀ t : Fin grid0.N, win0_5.index t = ![t.val / 17, t.val % 17, 0] := by decide +kernel

/-- The even or the odd columns of each head, as the host code takes them. -/
def half (w : FVec Ideal S2048x256 .f32) (e : ℕ) (h : S2048x2x1x64x2.Slices ![0, 0, 0, 0, e] S2048x2x1x64x1) : FVec Ideal S2048x2x64 .f32 :=
  shapeCast S2048x2x64 (shapeCast S2048x2x1x64 (extractStridedSlice S2048x2x1x64x1 ![0, 0, 0, 0, e] (shapeCast S2048x2x1x64x2 w shapeCasts_S2048x256_S2048x2x1x64x2) h) shapeCasts_S2048x2x1x64x1_S2048x2x1x64) shapeCasts_S2048x2x1x64_S2048x2x64

theorem half_apply (w : FVec Ideal S2048x256 .f32) (e : ℕ) (he : e < 2) (h) (k : Fin 2048) (a : Fin 2) (q : Fin 64) (f : Fin 256) (hf : f.val = a.val * 128 + 2 * q.val + e) :
    half w e h (ix3 k a q) = w (ix2 k f) := by
  have hq := q.isLt
  unfold half
  have e1 : (shapeCast S2048x2x1x64x2 w shapeCasts_S2048x256_S2048x2x1x64x2) (ix5 k a (0 : Fin 1) q (⟨e, he⟩ : Fin 2)) = w (ix2 k f) :=
    shapeCast_apply _ _ _ (ix2 k f) (by rw [Shape.rowMajor_val_two, Shape.rowMajor_val_five]; show k.val * 256 + f.val = (((k.val * 2 + a.val) * 1 + 0) * 64 + q.val) * 2 + e; omega)
  rw [← e1]
  generalize shapeCast S2048x2x1x64x2 w shapeCasts_S2048x256_S2048x2x1x64x2 = y
  rw [shapeCast_apply _ _ _ (ix4 k a (0 : Fin 1) q) (by rw [Shape.rowMajor_val_four, Shape.rowMajor_val_three]; show ((k.val * 2 + a.val) * 1 + 0) * 64 + q.val = (k.val * 2 + a.val) * 64 + q.val; omega)]
  rw [shapeCast_apply _ _ _ (ix5 k a (0 : Fin 1) q (0 : Fin 1)) (by rw [Shape.rowMajor_val_five, Shape.rowMajor_val_four]; show (((k.val * 2 + a.val) * 1 + 0) * 64 + q.val) * 1 + 0 = ((k.val * 2 + a.val) * 1 + 0) * 64 + q.val; omega)]
  refine congrArg y (funext fun b => Fin.ext ?_)
  fin_cases b
  · show 0 + k.val = k.val; omega
  · show 0 + a.val = a.val; omega
  · rfl
  · show 0 + q.val = q.val; omega
  · show e + 0 = e; omega

/-- The weights with the first components of each head's pairs before the second ones. -/
def deint (w : FVec Ideal S2048x256 .f32) : FVec Ideal S2048x256 .f32 :=
  shapeCast S2048x256 (concatenate S2048x2x128 2 [⟨S2048x2x64, half w 0 slices_S2048x2x1x64x2_S2048x2x1x64x1_0_0_0_0_0⟩, ⟨S2048x2x64, half w 1 slices_S2048x2x1x64x2_S2048x2x1x64x1_0_0_0_0_1⟩] concatenates_S2048x2x64_S2048x2x64_S2048x2x128_d2) shapeCasts_S2048x2x128_S2048x256

theorem deint_apply (w : FVec Ideal S2048x256 .f32) (k : Fin 2048) (f : Fin 256) : deint w (ix2 k f) = w (ix2 k (at_ f (src (lane f)))) := by
  have hf := f.isLt
  unfold deint
  rw [shapeCast_apply _ _ _ (ix3 k (head f) (lane f)) (by rw [Shape.rowMajor_val_three, Shape.rowMajor_val_two]; show (k.val * 2 + f.val / 128) * 128 + f.val % 128 = k.val * 256 + f.val; omega)]
  have hs : (at_ f (src (lane f))).val = f.val / 128 * 128 + (2 * (f.val % 128 % 64) + f.val % 128 / 64) := rfl
  have g0 : ∀ q : Fin 64, f.val % 128 = q.val → half w 0 slices_S2048x2x1x64x2_S2048x2x1x64x1_0_0_0_0_0 (ix3 k (head f) q) = w (ix2 k (at_ f (src (lane f)))) := fun q hq =>
    half_apply w 0 (by omega) _ k _ q _ (by have := q.isLt; rw [hs]; show _ = f.val / 128 * 128 + 2 * q.val + 0; omega)
  have g1 : ∀ q : Fin 64, f.val % 128 = 64 + q.val → half w 1 slices_S2048x2x1x64x2_S2048x2x1x64x1_0_0_0_0_1 (ix3 k (head f) q) = w (ix2 k (at_ f (src (lane f)))) := fun q hq =>
    half_apply w 1 (by omega) _ k _ q _ (by have := q.isLt; rw [hs]; show _ = f.val / 128 * 128 + 2 * q.val + 1; omega)
  generalize half w 0 slices_S2048x2x1x64x2_S2048x2x1x64x1_0_0_0_0_0 = y at g0 ⊢
  generalize half w 1 slices_S2048x2x1x64x2_S2048x2x1x64x1_0_0_0_0_1 = z at g1 ⊢
  by_cases h : f.val % 128 < 64
  · have hi : ∀ a : Fin 3, ((ix3 k (head f) (⟨f.val % 128, h⟩ : Fin 64) : S2048x2x64.Idx) a).val = ((ix3 k (head f) (lane f) : S2048x2x128.Idx) a).val := fun a => by fin_cases a <;> rfl
    exact (concatenate_pair_apply_left (t := S2048x2x128) (s₁ := S2048x2x64) (s₂ := S2048x2x64) 2 y z concatenates_S2048x2x64_S2048x2x64_S2048x2x128_d2 (ix3 k (head f) (lane f)) rfl (ix3 k (head f) (⟨f.val % 128, h⟩ : Fin 64)) hi).trans (g0 _ rfl)
  · have hi : ∀ a : Fin 3, a ≠ 2 → ((ix3 k (head f) (⟨f.val % 128 - 64, by omega⟩ : Fin 64) : S2048x2x64.Idx) a).val = ((ix3 k (head f) (lane f) : S2048x2x128.Idx) a).val := fun a ha => by
      fin_cases a
      · rfl
      · rfl
      · exact absurd rfl ha
    have ha : f.val % 128 - 64 + 64 = f.val % 128 := by omega
    exact (concatenate_pair_apply_right (t := S2048x2x128) (s₁ := S2048x2x64) (s₂ := S2048x2x64) 2 y z concatenates_S2048x2x64_S2048x2x64_S2048x2x128_d2 (ix3 k (head f) (lane f)) rfl rfl (ix3 k (head f) (⟨f.val % 128 - 64, by omega⟩ : Fin 64)) hi ha).trans (g1 _ (by show f.val % 128 = 64 + (f.val % 128 - 64); omega))

/-- The even or the odd entries of the gain. -/
def ghalf (w : FVec Ideal S128 .f32) (e : ℕ) (h : S1x1x64x2.Slices ![0, 0, 0, e] S1x1x64x1) : FVec Ideal S1x64 .f32 :=
  shapeCast S1x64 (shapeCast S1x1x64 (extractStridedSlice S1x1x64x1 ![0, 0, 0, e] (shapeCast S1x1x64x2 w shapeCasts_S128_S1x1x64x2) h) shapeCasts_S1x1x64x1_S1x1x64) shapeCasts_S1x1x64_S1x64

theorem ghalf_apply (w : FVec Ideal S128 .f32) (e : ℕ) (he : e < 2) (h) (q : Fin 64) (k : Fin 128) (hk : k.val = 2 * q.val + e) :
    ghalf w e h (ix2 (0 : Fin 1) q) = w (ix1 k) := by
  have hq := q.isLt
  unfold ghalf
  have e1 : (shapeCast S1x1x64x2 w shapeCasts_S128_S1x1x64x2) (ix4 (0 : Fin 1) (0 : Fin 1) q (⟨e, he⟩ : Fin 2)) = w (ix1 k) :=
    shapeCast_apply _ _ _ (ix1 k) (by rw [Shape.rowMajor_val_one, Shape.rowMajor_val_four]; show k.val = ((0 * 1 + 0) * 64 + q.val) * 2 + e; omega)
  rw [← e1]
  generalize shapeCast S1x1x64x2 w shapeCasts_S128_S1x1x64x2 = y
  rw [shapeCast_apply _ _ _ (ix3 (0 : Fin 1) (0 : Fin 1) q) (by rw [Shape.rowMajor_val_three, Shape.rowMajor_val_two]; show (0 * 1 + 0) * 64 + q.val = 0 * 64 + q.val; omega)]
  rw [shapeCast_apply _ _ _ (ix4 (0 : Fin 1) (0 : Fin 1) q (0 : Fin 1)) (by rw [Shape.rowMajor_val_four, Shape.rowMajor_val_three]; show ((0 * 1 + 0) * 64 + q.val) * 1 + 0 = (0 * 1 + 0) * 64 + q.val; omega)]
  refine congrArg y (funext fun b => Fin.ext ?_)
  fin_cases b
  · rfl
  · rfl
  · show 0 + q.val = q.val; omega
  · show e + 0 = e; omega

/-- The gain in the lanes' order. -/
def gde (w : FVec Ideal S128 .f32) : FVec Ideal S128 .f32 :=
  shapeCast S128 (concatenate S1x128 1 [⟨S1x64, ghalf w 0 slices_S1x1x64x2_S1x1x64x1_0_0_0_0⟩, ⟨S1x64, ghalf w 1 slices_S1x1x64x2_S1x1x64x1_0_0_0_1⟩] concatenates_S1x64_S1x64_S1x128_d1) shapeCasts_S1x128_S128

theorem gde_apply (w : FVec Ideal S128 .f32) (l : Fin 128) : gde w (ix1 l) = w (ix1 (src l)) := by
  have hl := l.isLt
  unfold gde
  rw [shapeCast_apply _ _ _ (ix2 (0 : Fin 1) l) (by rw [Shape.rowMajor_val_two, Shape.rowMajor_val_one]; show 0 * 128 + l.val = l.val; omega)]
  have g0 : ∀ q : Fin 64, l.val = q.val → ghalf w 0 slices_S1x1x64x2_S1x1x64x1_0_0_0_0 (ix2 (0 : Fin 1) q) = w (ix1 (src l)) := fun q hq =>
    ghalf_apply w 0 (by omega) _ q _ (by have := q.isLt; show 2 * (l.val % 64) + l.val / 64 = 2 * q.val + 0; omega)
  have g1 : ∀ q : Fin 64, l.val = 64 + q.val → ghalf w 1 slices_S1x1x64x2_S1x1x64x1_0_0_0_1 (ix2 (0 : Fin 1) q) = w (ix1 (src l)) := fun q hq =>
    ghalf_apply w 1 (by omega) _ q _ (by have := q.isLt; show 2 * (l.val % 64) + l.val / 64 = 2 * q.val + 1; omega)
  generalize ghalf w 0 slices_S1x1x64x2_S1x1x64x1_0_0_0_0 = y at g0 ⊢
  generalize ghalf w 1 slices_S1x1x64x2_S1x1x64x1_0_0_0_1 = z at g1 ⊢
  by_cases h : l.val < 64
  · have hi : ∀ a : Fin 2, ((ix2 (0 : Fin 1) (⟨l.val, h⟩ : Fin 64) : S1x64.Idx) a).val = ((ix2 (0 : Fin 1) l : S1x128.Idx) a).val := fun a => by fin_cases a <;> rfl
    exact (concatenate_pair_apply_left (t := S1x128) (s₁ := S1x64) (s₂ := S1x64) 1 y z concatenates_S1x64_S1x64_S1x128_d1 (ix2 (0 : Fin 1) l) rfl (ix2 (0 : Fin 1) (⟨l.val, h⟩ : Fin 64)) hi).trans (g0 _ rfl)
  · have hi : ∀ a : Fin 2, a ≠ 1 → ((ix2 (0 : Fin 1) (⟨l.val - 64, by omega⟩ : Fin 64) : S1x64.Idx) a).val = ((ix2 (0 : Fin 1) l : S1x128.Idx) a).val := fun a ha => by
      fin_cases a
      · rfl
      · exact absurd rfl ha
    have ha : l.val - 64 + 64 = l.val := by omega
    exact (concatenate_pair_apply_right (t := S1x128) (s₁ := S1x64) (s₂ := S1x64) 1 y z concatenates_S1x64_S1x64_S1x128_d1 (ix2 (0 : Fin 1) l) rfl rfl (ix2 (0 : Fin 1) (⟨l.val - 64, by omega⟩ : Fin 64)) hi ha).trans (g1 _ (by show l.val = 64 + (l.val - 64); omega))

/-- One head's gain for every head. -/
def every (w : FVec Ideal S128 .f32) : FVec Ideal S1x256 .f32 :=
  shapeCast S1x256 (shapeCast S256 (broadcastInDim S2x128 ![0, 1] bcast_S1x128_S2x128_0_1 (shapeCast S1x128 w shapeCasts_S128_S1x128) : FVec Ideal S2x128 .f32) shapeCasts_S2x128_S256) shapeCasts_S256_S1x256

theorem every_apply (w : FVec Ideal S128 .f32) (f : Fin 256) : every w (ix2 (0 : Fin 1) f) = w (ix1 (lane f)) := by
  have hf := f.isLt
  unfold every
  have e : shapeCast S1x128 w shapeCasts_S128_S1x128 (ix2 (0 : Fin 1) (lane f)) = w (ix1 (lane f)) :=
    shapeCast_apply _ _ _ (ix1 (lane f)) (by rw [Shape.rowMajor_val_one, Shape.rowMajor_val_two]; show f.val % 128 = 0 * 128 + f.val % 128; omega)
  rw [← e]
  generalize shapeCast S1x128 w shapeCasts_S128_S1x128 = z
  rw [shapeCast_apply _ _ _ (ix1 f) (by rw [Shape.rowMajor_val_one, Shape.rowMajor_val_two]; show f.val = 0 * 256 + f.val; omega)]
  rw [shapeCast_apply _ _ _ (ix2 (head f) (lane f)) (by rw [Shape.rowMajor_val_two, Shape.rowMajor_val_one]; show f.val / 128 * 128 + f.val % 128 = f.val; omega)]
  refine broadcastInDim_apply _ _ _ _ (ix2 (0 : Fin 1) (lane f)) fun a => ?_
  fin_cases a <;> rfl

/-- The gain's row. -/
def gain (x : FVec Ideal S2x128 .f32) : FVec Ideal S128 .f32 :=
  shapeCast S128 (extractStridedSlice S1x128 ![1, 0] x slices_S2x128_S1x128_1_0) shapeCasts_S1x128_S128

theorem gain_apply (x : FVec Ideal S2x128 .f32) (k : Fin 128) : gain x (ix1 k) = x (ix2 (1 : Fin 2) k) := by
  unfold gain
  rw [shapeCast_apply _ _ _ (ix2 (0 : Fin 1) k) (by rw [Shape.rowMajor_val_two, Shape.rowMajor_val_one]; show 0 * 128 + k.val = k.val; omega)]
  refine congrArg x (funext fun a => Fin.ext ?_)
  fin_cases a
  · rfl
  · show 0 + k.val = k.val; omega

/-- A table of a position's values, as the host code repeats it. -/
def tab (y : FVec Ideal S8192x64 .f32) : FVec Ideal S8192x64 .f32 :=
  shapeCast S8192x64 (broadcastInDim S1x8192x1x64 ![0, 1, 2, 3] bcast_S1x8192x1x64_S1x8192x1x64_0_1_2_3 (shapeCast S1x8192x1x64 y shapeCasts_S8192x64_S1x8192x1x64) : FVec Ideal S1x8192x1x64 .f32) shapeCasts_S1x8192x1x64_S8192x64

theorem tab_apply (y : FVec Ideal S8192x64 .f32) (n : Fin 8192) (q p : Fin 64) (hp : q.val = p.val) : tab y (ix2 n q) = y (ix2 n p) := by
  have hqp : q = p := Fin.ext hp
  subst hqp
  unfold tab
  have e : shapeCast S1x8192x1x64 y shapeCasts_S8192x64_S1x8192x1x64 (ix4 (0 : Fin 1) n (0 : Fin 1) q) = y (ix2 n q) :=
    shapeCast_apply _ _ _ (ix2 n q) (by rw [Shape.rowMajor_val_two, Shape.rowMajor_val_four]; show n.val * 64 + q.val = ((0 * 8192 + n.val) * 1 + 0) * 64 + q.val; omega)
  rw [← e]
  generalize shapeCast S1x8192x1x64 y shapeCasts_S8192x64_S1x8192x1x64 = z
  rw [shapeCast_apply _ _ _ (ix4 (0 : Fin 1) n (0 : Fin 1) q) (by rw [Shape.rowMajor_val_four, Shape.rowMajor_val_two]; show ((0 * 8192 + n.val) * 1 + 0) * 64 + q.val = n.val * 64 + q.val; omega)]
  refine broadcastInDim_apply _ _ _ _ (ix4 (0 : Fin 1) n (0 : Fin 1) q) fun a => ?_
  fin_cases a <;> rfl

def both (y z : FVec Ideal S8192x64 .f32) : FVec Ideal S8192x128 .f32 :=
  concatenate S8192x128 1 [⟨S8192x64, y⟩, ⟨S8192x64, z⟩] concatenates_S8192x64_S8192x64_S8192x128_d1

theorem both_low (y z : FVec Ideal S8192x64 .f32) (n : Fin 8192) (l : Fin 128) (h : l.val < 64) : both y z (ix2 n l) = y (ix2 n (⟨l.val, h⟩ : Fin 64)) := by
  have hi : ∀ a : Fin 2, ((ix2 n (⟨l.val, h⟩ : Fin 64) : S8192x64.Idx) a).val = ((ix2 n l : S8192x128.Idx) a).val := fun a => by fin_cases a <;> rfl
  exact concatenate_pair_apply_left (t := S8192x128) (s₁ := S8192x64) (s₂ := S8192x64) 1 y z concatenates_S8192x64_S8192x64_S8192x128_d1 (ix2 n l) rfl (ix2 n (⟨l.val, h⟩ : Fin 64)) hi

theorem both_high (y z : FVec Ideal S8192x64 .f32) (n : Fin 8192) (l : Fin 128) (h : ¬l.val < 64) : both y z (ix2 n l) = z (ix2 n (⟨l.val - 64, by have := l.isLt; omega⟩ : Fin 64)) := by
  have hl := l.isLt
  have hi : ∀ a : Fin 2, a ≠ 1 → ((ix2 n (⟨l.val - 64, by omega⟩ : Fin 64) : S8192x64.Idx) a).val = ((ix2 n l : S8192x128.Idx) a).val := fun a ha => by
    fin_cases a
    · rfl
    · exact absurd rfl ha
  have ha : l.val - 64 + 64 = l.val := by omega
  exact concatenate_pair_apply_right (t := S8192x128) (s₁ := S8192x64) (s₂ := S8192x64) 1 y z concatenates_S8192x64_S8192x64_S8192x128_d1 (ix2 n l) rfl rfl (ix2 n (⟨l.val - 64, by omega⟩ : Fin 64)) hi ha

theorem V_v10 (c : Dev nD) : V m c main_v10 = (truncf .bf16 (deint (extractStridedSlice S2048x256 ![0, 1024] (m ((c : Thread nD τ).loc main_arg1)) slices_S2048x4608_S2048x256_0_1024)) bitsLt_bf16_f32 : FVec Ideal S2048x256 .bf16) := by
  show StableHlo.after hostOps0 _ _ = _
  after_results
  first
    | done
    | rfl
theorem V_v64 (c : Dev nD) : V m c main_v64 = both (tab (Host.cos angle)) (tab (Host.cos angle)) := by
  show StableHlo.after hostOps0 _ _ = _
  after_results
  first
    | done
    | rfl
theorem V_v66 (c : Dev nD) : V m c main_v66 = both (Host.negf (tab (Host.sin angle))) (tab (Host.sin angle)) := by
  show StableHlo.after hostOps0 _ _ = _
  after_results
  first
    | done
    | rfl
theorem V_v67 (c : Dev nD) : V m c main_v67 = every (gde (gain (m ((c : Thread nD τ).loc main_arg2)))) := by
  show StableHlo.after hostOps0 _ _ = _
  after_results
  first
    | done
    | rfl

theorem read0 (c : Dev nD) (t : Fin cfg0.N) (r : Fin 512) (d : Fin 2048) (hr : t.val % 17 ≤ 15) :
    iblk m c 0 t (ix3 (0 : Fin 1) r d) = (m ((c : Thread nD τ).loc main_arg0)) (ix3 (batchAt t) (⟨t.val % 17 * 512 + r.val, by have := r.isLt; omega⟩ : Fin 8192) d) := by
  have e := index_0 t
  have hN := lt_N t
  have h : ((cfg0.win 0).blk t).view.emb (ix3 (0 : Fin 1) r d) = (ix3 (batchAt t) (⟨t.val % 17 * 512 + r.val, by have := r.isLt; omega⟩ : Fin 8192) d) := by
    refine funext fun a => Fin.ext ?_
    show win0_0.index t a * win0_0.size a + 1 * ((ix3 (0 : Fin 1) r d) a).val = _
    rw [e]
    fin_cases a
    · show (t.val / 17) * 1 + 1 * 0 = t.val / 17; omega
    · show (min (t.val % 17) 15) * 512 + 1 * r.val = t.val % 17 * 512 + r.val; omega
    · show (0) * 2048 + 1 * d.val = d.val; omega
  show V m c main_arg0 (((cfg0.win 0).blk t).view.emb (ix3 (0 : Fin 1) r d)) = _
  rw [h, V_main_arg0]

theorem read1 (c : Dev nD) (t : Fin cfg0.N) (k : Fin 2048) (d : Fin 256) :
    iblk m c 1 t (ix2 k d) = (m ((c : Thread nD τ).loc main_arg1)) (ix2 k (chan (head d) (src (lane d)))) := by
  have e := index_1 t
  have hN := lt_N t
  have h : ((cfg0.win 1).blk t).view.emb (ix2 k d) = (ix2 k d) := by
    refine funext fun a => Fin.ext ?_
    show win0_1.index t a * win0_1.size a + 1 * ((ix2 k d) a).val = _
    rw [e]
    fin_cases a
    · show (0) * 2048 + 1 * k.val = k.val; omega
    · show (0) * 256 + 1 * d.val = d.val; omega
  show V m c main_v10 (((cfg0.win 1).blk t).view.emb (ix2 k d)) = _
  rw [h, V_v10]
  refine (deint_apply _ k d).trans ?_
  refine congrArg (m ((c : Thread nD τ).loc main_arg1)) (funext fun a => Fin.ext ?_)
  fin_cases a
  · show 0 + k.val = k.val; omega
  · rfl

theorem read2 (c : Dev nD) (t : Fin cfg0.N) (d : Fin 256) :
    iblk m c 2 t (ix2 (0 : Fin 1) d) = (m ((c : Thread nD τ).loc main_arg2)) (ix2 (1 : Fin 2) (src (lane d))) := by
  have e := index_2 t
  have hN := lt_N t
  have h : ((cfg0.win 2).blk t).view.emb (ix2 (0 : Fin 1) d) = (ix2 (0 : Fin 1) d) := by
    refine funext fun a => Fin.ext ?_
    show win0_2.index t a * win0_2.size a + 1 * ((ix2 (0 : Fin 1) d) a).val = _
    rw [e]
    fin_cases a
    · show (0) * 1 + 1 * 0 = 0; omega
    · show (0) * 256 + 1 * d.val = d.val; omega
  show V m c main_v67 (((cfg0.win 2).blk t).view.emb (ix2 (0 : Fin 1) d)) = _
  rw [h, V_v67, every_apply, gde_apply, gain_apply]

theorem read3 (c : Dev nD) (t : Fin cfg0.N) (r : Fin 512) (l : Fin 128) (hr : t.val % 17 ≤ 15) :
    iblk m c 3 t (ix2 r l) = Host.cos (F := Ideal) (φ := .f32) angle (ix2 (⟨t.val % 17 * 512 + r.val, by have := r.isLt; omega⟩ : Fin 8192) (rot l)) := by
  have e := index_3 t
  have hN := lt_N t
  have h : ((cfg0.win 3).blk t).view.emb (ix2 r l) = (ix2 (⟨t.val % 17 * 512 + r.val, by have := r.isLt; omega⟩ : Fin 8192) l) := by
    refine funext fun a => Fin.ext ?_
    show win0_3.index t a * win0_3.size a + 1 * ((ix2 r l) a).val = _
    rw [e]
    fin_cases a
    · show (min (t.val % 17) 15) * 512 + 1 * r.val = t.val % 17 * 512 + r.val; omega
    · show (0) * 128 + 1 * l.val = l.val; omega
  show V m c main_v64 (((cfg0.win 3).blk t).view.emb (ix2 r l)) = _
  rw [h, V_v64]
  by_cases hl : l.val < 64
  · refine (both_low _ _ _ _ hl).trans (tab_apply _ _ _ (rot l) ?_)
    show l.val = l.val % 64; omega
  · refine (both_high _ _ _ _ hl).trans (tab_apply _ _ _ (rot l) ?_)
    have := l.isLt
    show l.val - 64 = l.val % 64; omega

theorem read4 (c : Dev nD) (t : Fin cfg0.N) (r : Fin 512) (l : Fin 128) (hr : t.val % 17 ≤ 15) :
    iblk m c 4 t (ix2 r l) = (if l.val < 64 then -(Host.sin (F := Ideal) (φ := .f32) angle (ix2 (⟨t.val % 17 * 512 + r.val, by have := r.isLt; omega⟩ : Fin 8192) (rot l)) : EReal) else (Host.sin (F := Ideal) (φ := .f32) angle (ix2 (⟨t.val % 17 * 512 + r.val, by have := r.isLt; omega⟩ : Fin 8192) (rot l)) : EReal)) := by
  have e := index_4 t
  have hN := lt_N t
  have h : ((cfg0.win 4).blk t).view.emb (ix2 r l) = (ix2 (⟨t.val % 17 * 512 + r.val, by have := r.isLt; omega⟩ : Fin 8192) l) := by
    refine funext fun a => Fin.ext ?_
    show win0_4.index t a * win0_4.size a + 1 * ((ix2 r l) a).val = _
    rw [e]
    fin_cases a
    · show (min (t.val % 17) 15) * 512 + 1 * r.val = t.val % 17 * 512 + r.val; omega
    · show (0) * 128 + 1 * l.val = l.val; omega
  show V m c main_v66 (((cfg0.win 4).blk t).view.emb (ix2 r l)) = _
  rw [h, V_v66]
  by_cases hl : l.val < 64
  · rw [if_pos hl]
    refine (both_low _ _ _ _ hl).trans (congrArg (fun u : EReal => -u) (tab_apply _ _ _ (rot l) ?_))
    show l.val = l.val % 64; omega
  · rw [if_neg hl]
    refine (both_high _ _ _ _ hl).trans (tab_apply _ _ _ (rot l) ?_)
    have := l.isLt
    show l.val - 64 = l.val % 64; omega

theorem scale_eq : scale = 1 := Ideal.ofBits_one_f32

theorem tile_at (c : Dev nD) (t : Fin cfg0.N) (r : Fin 512) (f : Fin 256) (h : t.val % 17 ≤ 15) :
    tile (iblk m c 0 t) (iblk m c 1 t) r f = dot (m ((c : Thread nD τ).loc main_arg0)) (m ((c : Thread nD τ).loc main_arg1)) (batchAt t) (⟨t.val % 17 * 512 + r.val, by have := r.isLt; omega⟩ : Fin 8192) (head f) (src (lane f)) :=
  Finset.sum_congr rfl fun d _ => congrArg₂ (fun u v : EReal => u * v) (read0 m c t r d h) (read1 m c t d f)

theorem scaled_at (c : Dev nD) (t : Fin cfg0.N) (r : Fin 512) (f : Fin 256) (h : t.val % 17 ≤ 15) :
    scaled (iblk m c 0 t) (iblk m c 1 t) (iblk m c 2 t) r f = normed (m ((c : Thread nD τ).loc main_arg0)) (m ((c : Thread nD τ).loc main_arg1)) (m ((c : Thread nD τ).loc main_arg2)) (batchAt t) (⟨t.val % 17 * 512 + r.val, by have := r.isLt; omega⟩ : Fin 8192) (head f) (src (lane f)) * scale := by
  have e0 := tile_at m c t r f h
  have e : ∀ l : Fin 128, tile (iblk m c 0 t) (iblk m c 1 t) r (at_ f l) = dot (m ((c : Thread nD τ).loc main_arg0)) (m ((c : Thread nD τ).loc main_arg1)) (batchAt t) (⟨t.val % 17 * 512 + r.val, by have := r.isLt; omega⟩ : Fin 8192) (head f) (src l) := fun l => by
    have := tile_at m c t r (at_ f l) h
    rw [head_at, lane_at] at this
    exact this
  unfold scaled normed
  rw [e0]
  simp only [e]
  generalize dot (m ((c : Thread nD τ).loc main_arg0)) (m ((c : Thread nD τ).loc main_arg1)) (batchAt t) (⟨t.val % 17 * 512 + r.val, by have := r.isLt; omega⟩ : Fin 8192) (head f) = P
  have U := Cert.RopeA.unit_src P (lane f)
  rw [U, scale_eq, mul_one]
  exact congrArg (fun u : EReal => Cert.RopeA.unit P (src (lane f)) * u) (read2 m c t f)

theorem block_at (c : Dev nD) (t : Fin cfg0.N) (r : Fin 512) (f : Fin 256) (h : t.val % 17 ≤ 15) :
    block (iblk m c 0 t) (iblk m c 1 t) (iblk m c 2 t) (iblk m c 3 t) (iblk m c 4 t) (ix3 (0 : Fin 1) r f) = row (m ((c : Thread nD τ).loc main_arg0)) (m ((c : Thread nD τ).loc main_arg1)) (m ((c : Thread nD τ).loc main_arg2)) (batchAt t) (⟨t.val % 17 * 512 + r.val, by have := r.isLt; omega⟩ : Fin 8192) f := by
  have e := scaled_at m c t r (at_ f (mirror (lane f))) h
  rw [head_at, lane_at] at e
  exact (block_apply _ _ _ _ _ r f).trans (congrArg₂ (fun u v : EReal => u + v)
    (congrArg₂ (fun u v : EReal => u * v) (scaled_at m c t r f h) (read3 m c t r (lane f) h))
    (congrArg₂ (fun u v : EReal => u * v) e (read4 m c t r (lane f) h)))

/-- The result array. -/
def arr (c : Dev nD) : Vec Ideal S2x8704x256 .bf16 := fun i => result (m ((c : Thread nD τ).loc main_arg0)) (m ((c : Thread nD τ).loc main_arg1)) (m ((c : Thread nD τ).loc main_arg2)) (i 0) (i 1) (i 2)

theorem outs_apply (c : Dev nD) (t : Fin cfg0.N) (r : Fin 512) (f : Fin 256) :
    outsAt0 m c t.val t.isLt (ix3 (0 : Fin 1) r f) = result (m ((c : Thread nD τ).loc main_arg0)) (m ((c : Thread nD τ).loc main_arg1)) (m ((c : Thread nD τ).loc main_arg2)) (batchAt t) (rowAt t r) f := by
  have hN := lt_N t
  have hr := r.isLt
  unfold result
  by_cases h : t.val % 17 ≤ 15
  · rw [dif_pos (by show t.val % 17 * 512 + r.val < 8192; omega), out_A m c t (by omega) h]
    exact block_at m c t r f h
  · rw [dif_neg (by show ¬ t.val % 17 * 512 + r.val < 8192; omega), out_B m c t (by omega) h]

theorem flushed_eq (c : Dev nD) (t : Fin cfg0.N) :
    (dats m 0 c).flushed 5 t = ((cfg0.win 5).blk t).view.read (Elt Ideal) (arr m c) := by
  have hN := lt_N t
  rw [Cert.KeyAIdeal.Value.flushed5]
  funext x
  obtain ⟨a, r, d, rfl⟩ : ∃ (a : Fin 1) (r : Fin 512) (d : Fin 256), x = ix3 a r d := ⟨x 0, x 1, x 2, (ix3_eta x).symm⟩
  have ha : a = (0 : Fin 1) := Fin.ext (by have := a.isLt; show a.val = 0; omega)
  subst ha
  show outsAt0 m c t.val t.isLt (ix3 (0 : Fin 1) r d) = arr m c (((cfg0.win 5).blk t).view.emb (ix3 (0 : Fin 1) r d))
  have e := index_5 t
  have e0 : ((cfg0.win 5).blk t).view.emb (ix3 (0 : Fin 1) r d) = ix3 (batchAt t) (rowAt t r) d := by
    refine funext fun a => Fin.ext ?_
    show win0_5.index t a * win0_5.size a + 1 * ((ix3 (0 : Fin 1) r d) a).val = _
    rw [e]
    fin_cases a
    · show (t.val / 17) * 1 + 1 * 0 = t.val / 17; omega
    · show (t.val % 17) * 512 + 1 * r.val = t.val % 17 * 512 + r.val; omega
    · show 0 * 256 + 1 * d.val = d.val; omega
  rw [e0]
  exact outs_apply m c t r d

theorem mem_blk (t : Fin cfg0.N) (i : S2x8704x256.Idx) :
    i ∈ ((cfg0.win 5).blk t).view.set ↔ t.val / 17 = (i 0).val ∧ t.val % 17 = (i 1).val / 512 := by
  show i ∈ ((View.whole main_v68).slice (win0_5.rect t)).set ↔ _
  rw [View.set_slice_whole, Rect.mem_set_unit]
  have e := index_5 t
  have hN := lt_N t
  have h0 : (i 0).val < 2 := (i 0).isLt
  have h1 : (i 1).val < 8704 := (i 1).isLt
  have h2 : (i 2).val < 256 := (i 2).isLt
  have key : (∀ a : Fin 3, (![(t.val / 17) * 1, (t.val % 17) * 512, (0) * 256] : Fin 3 → ℕ) a ≤ (i a).val
      ∧ (i a).val < (![(t.val / 17) * 1, (t.val % 17) * 512, (0) * 256] : Fin 3 → ℕ) a + (![1, 512, 256] : Fin 3 → ℕ) a)
      ↔ t.val / 17 = (i 0).val ∧ t.val % 17 = (i 1).val / 512 := by
    constructor
    · intro h
      have k0 : (t.val / 17) * 1 ≤ (i 0).val ∧ (i 0).val < (t.val / 17) * 1 + 1 := h 0
      have k1 : (t.val % 17) * 512 ≤ (i 1).val ∧ (i 1).val < (t.val % 17) * 512 + 512 := h 1
      have k2 : (0) * 256 ≤ (i 2).val ∧ (i 2).val < (0) * 256 + 256 := h 2
      omega
    · intro h a
      fin_cases a
      · show (t.val / 17) * 1 ≤ (i 0).val ∧ (i 0).val < (t.val / 17) * 1 + 1; omega
      · show (t.val % 17) * 512 ≤ (i 1).val ∧ (i 1).val < (t.val % 17) * 512 + 512; omega
      · show (0) * 256 ≤ (i 2).val ∧ (i 2).val < (0) * 256 + 256; omega
  rw [← key]
  refine forall_congr' fun a => ?_
  have o : win0_5.index t a * win0_5.size a = (![(t.val / 17) * 1, (t.val % 17) * 512, (0) * 256] : Fin 3 → ℕ) a := by
    rw [e]; fin_cases a <;> rfl
  have z : win0_5.xsize (grid0.coords t) a = (![1, 512, 256] : Fin 3 → ℕ) a := by fin_cases a <;> rfl
  show (win0_5.index t a * win0_5.size a ≤ (i a).val ∧ (i a).val < win0_5.index t a * win0_5.size a + win0_5.xsize (grid0.coords t) a) ↔ _
  rw [o, z]

theorem cover (i : S2x8704x256.Idx) : ∃ t : Fin cfg0.N, (cfg0.win 5).flush t = true ∧ i ∈ ((cfg0.win 5).blk t).view.set := by
  have h0 : (i 0).val < 2 := (i 0).isLt
  have h1 : (i 1).val < 8704 := (i 1).isLt
  have hN : cfg0.N = 34 := rfl
  refine ⟨⟨(i 0).val * 17 + (i 1).val / 512, by omega⟩, flush0_5 _, ?_⟩
  rw [mem_blk]
  dsimp only
  omega

/-- After the run the result array holds the rotated projection of the arguments. -/
theorem final (c : Dev nD) : (dats m 0 c).arrAt 5 cfg0.N = arr m c :=
  (dats m 0 c).arrAt_eq_of_cover 5 (arr m c) (fun t _ => flushed_eq m c t) cover

end Cert.KeyAKernel
end
-- ==== Proof.KeyARef.lean ====
module

public import proofs.«01_k».proof.Proof.Gen.KeyARefIdeal.Read
public import proofs.«01_k».proof.Proof.KeyAKernel
public import proofs.«01_k».proof.Proof.RopeA
public import Idealize.ShloMosaic.PureOps.Ideal
public import Idealize.ShloMosaic.Lib.ValueIdx
public import Idealize.ShloMosaic.Lib.Pointwise
public import Idealize.ShloMosaic.Lib.IdealHost
public import Idealize.ShloMosaic.Lib.KernelVsHost

/-! The first attention's keys' reference, read at an index. -/

@[expose] public section

set_option maxRecDepth 16384

noncomputable section

namespace Cert.KeyARef

open Cert.KeyARefIdeal Cert.KeyARefIdeal.Gen Cert.KeyARefIdeal.Read Idealize.ShloMosaic
open Cert.KeyAKernel (head lane chan angle scale dot normed row result)
open Cert.RopeA (first second rot turned turned_low turned_high)

theorem scale_nonneg : 0 ≤ scale := by rw [KeyAKernel.scale_eq]; exact zero_le_one
theorem scale_ne_top : scale ≠ ⊤ := by rw [KeyAKernel.scale_eq]; exact EReal.coe_ne_top 1

theorem product_at (x0 : FVec Ideal S2x8192x2048 .bf16) (x1 : FVec Ideal S2048x4608 .f32) (b : Fin 2) (n : Fin 8192) (a : Fin 2) (k : Fin 128) (f : Fin 256) (hf : f.val = a.val * 128 + k.val) :
    val_main_v2 (F := Ideal) x0 x1 (ix3 b n f) = dot x0 x1 b n a k := by
  rw [val_main_v2_apply]
  refine Finset.sum_congr rfl fun d _ => congrArg₂ (fun u v : EReal => u * v) ?_ ?_
  · rw [val_main_v0_apply]
    exact congrArg x0 (funext fun a => Fin.ext (by fin_cases a <;> rfl))
  · rw [val_main_v1_apply]
    refine congrArg x1 (funext fun j => Fin.ext ?_)
    fin_cases j
    · rfl
    · show 1024 + f.val = 1024 + (a.val * 128 + k.val); omega

theorem heads_at (x0 : FVec Ideal S2x8192x2048 .bf16) (x1 : FVec Ideal S2048x4608 .f32) (b : Fin 2) (n : Fin 8192) (a : Fin 2) (k : Fin 128) :
    val_main_v3 (F := Ideal) x0 x1 (ix4 b n a k) = dot x0 x1 b n a k := by
  have hb := b.isLt
  have hn := n.isLt
  have ha := a.isLt
  have hk := k.isLt
  rw [val_main_v3_apply, ← product_at x0 x1 b n a k (⟨a.val * 128 + k.val, by omega⟩ : Fin 256) rfl]
  refine congrArg _ (funext fun j => Fin.ext ?_)
  fin_cases j
  · show (((b.val * 8192 + n.val) * 2 + a.val) * 128 + k.val) / 2097152 = b.val; omega
  · show (((b.val * 8192 + n.val) * 2 + a.val) * 128 + k.val) / 256 % 8192 = n.val; omega
  · show (((b.val * 8192 + n.val) * 2 + a.val) * 128 + k.val) % 256 = a.val * 128 + k.val; omega

theorem unit_at (x0 : FVec Ideal S2x8192x2048 .bf16) (x1 : FVec Ideal S2048x4608 .f32) (b : Fin 2) (n : Fin 8192) (a : Fin 2) (k : Fin 128) :
    val_main_v15 (F := Ideal) x0 x1 (ix4 b n a k) = Cert.RopeA.unit (dot x0 x1 b n a) k := by
  unfold Cert.RopeA.unit
  simp only [← heads_at x0 x1 b n a]
  unfold val_main_v15 val_main_v14 val_main_v13 val_main_v12 val_main_v10 val_main_v8 val_main_v7 val_main_v6
  generalize val_main_v3 (F := Ideal) x0 x1 = y
  pointwise [val_main_v11, val_main_cst_1, val_main_v9, val_main_cst_0, val_main_cst]

theorem gain_at (x2 : FVec Ideal S2x128 .f32) (b : Fin 2) (n : Fin 8192) (a : Fin 2) (k : Fin 128) :
    val_main_v17 (F := Ideal) x2 (ix4 b n a k) = x2 (ix2 (1 : Fin 2) k) := by
  have hk := k.isLt
  rw [val_main_v17_apply, val_main_v16_apply, val_main_v5_apply, val_main_v4_apply]
  refine congrArg x2 (funext fun j => Fin.ext ?_)
  fin_cases j
  · rfl
  · first
      | rfl
      | (show k.val % 128 = k.val; omega)

theorem normed_at (x0 : FVec Ideal S2x8192x2048 .bf16) (x1 : FVec Ideal S2048x4608 .f32) (x2 : FVec Ideal S2x128 .f32) (b : Fin 2) (n : Fin 8192) (a : Fin 2) (k : Fin 128) :
    val_main_v18 (F := Ideal) x0 x1 x2 (ix4 b n a k) = normed x0 x1 x2 b n a k := by
  rw [val_main_v18_apply, unit_at, gain_at]
  rfl

theorem even_at (x0 : FVec Ideal S2x8192x2048 .bf16) (x1 : FVec Ideal S2048x4608 .f32) (x2 : FVec Ideal S2x128 .f32) (b : Fin 2) (n : Fin 8192) (a : Fin 2) (p : Fin 64) (k : Fin 128) (hk : k.val = 0 + 2 * p.val) :
    val_main_v54 (F := Ideal) x0 x1 x2 (ix4 b n a p) = normed x0 x1 x2 b n a k := by
  unfold val_main_v54
  rw [← normed_at x0 x1 x2 b n a k]
  generalize val_main_v18 (F := Ideal) x0 x1 x2 = y
  refine congrArg y (funext fun j => Fin.ext ?_)
  fin_cases j
  · show 0 + 1 * b.val = b.val; omega
  · show 0 + 1 * n.val = n.val; omega
  · show 0 + 1 * a.val = a.val; omega
  · show 0 + 2 * p.val = k.val; omega

theorem odd_at (x0 : FVec Ideal S2x8192x2048 .bf16) (x1 : FVec Ideal S2048x4608 .f32) (x2 : FVec Ideal S2x128 .f32) (b : Fin 2) (n : Fin 8192) (a : Fin 2) (p : Fin 64) (k : Fin 128) (hk : k.val = 1 + 2 * p.val) :
    val_main_v55 (F := Ideal) x0 x1 x2 (ix4 b n a p) = normed x0 x1 x2 b n a k := by
  unfold val_main_v55
  rw [← normed_at x0 x1 x2 b n a k]
  generalize val_main_v18 (F := Ideal) x0 x1 x2 = y
  refine congrArg y (funext fun j => Fin.ext ?_)
  fin_cases j
  · show 0 + 1 * b.val = b.val; omega
  · show 0 + 1 * n.val = n.val; omega
  · show 0 + 1 * a.val = a.val; omega
  · show 1 + 2 * p.val = k.val; omega

theorem cos_at (i : S2x8192x2x64.Idx) (n : Fin 8192) (p : Fin 64) (hn : (i 1).val = n.val) (hp : (i 3).val = p.val) :
    val_main_v56 (F := Ideal) i = Host.cos (F := Ideal) (φ := .f32) angle (ix2 n p) := by
  rw [val_main_v56_apply, val_main_v52_apply]
  unfold val_main_v50 angle
  refine congrArg (Host.cos (F := Ideal) (φ := .f32) (val_main_v49 (F := Ideal))) (funext fun j => Fin.ext ?_)
  fin_cases j
  · exact hn
  · exact hp

theorem cos_at' (i : S2x8192x2x64.Idx) (n : Fin 8192) (p : Fin 64) (hn : (i 1).val = n.val) (hp : (i 3).val = p.val) :
    val_main_v63 (F := Ideal) i = Host.cos (F := Ideal) (φ := .f32) angle (ix2 n p) := by
  rw [val_main_v63_apply, val_main_v52_apply]
  unfold val_main_v50 angle
  refine congrArg (Host.cos (F := Ideal) (φ := .f32) (val_main_v49 (F := Ideal))) (funext fun j => Fin.ext ?_)
  fin_cases j
  · exact hn
  · exact hp

theorem sin_at (i : S2x8192x2x64.Idx) (n : Fin 8192) (p : Fin 64) (hn : (i 1).val = n.val) (hp : (i 3).val = p.val) :
    val_main_v58 (F := Ideal) i = Host.sin (F := Ideal) (φ := .f32) angle (ix2 n p) := by
  rw [val_main_v58_apply, val_main_v53_apply]
  unfold val_main_v51 angle
  refine congrArg (Host.sin (F := Ideal) (φ := .f32) (val_main_v49 (F := Ideal))) (funext fun j => Fin.ext ?_)
  fin_cases j
  · exact hn
  · exact hp

theorem sin_at' (i : S2x8192x2x64.Idx) (n : Fin 8192) (p : Fin 64) (hn : (i 1).val = n.val) (hp : (i 3).val = p.val) :
    val_main_v61 (F := Ideal) i = Host.sin (F := Ideal) (φ := .f32) angle (ix2 n p) := by
  rw [val_main_v61_apply, val_main_v53_apply]
  unfold val_main_v51 angle
  refine congrArg (Host.sin (F := Ideal) (φ := .f32) (val_main_v49 (F := Ideal))) (funext fun j => Fin.ext ?_)
  fin_cases j
  · exact hn
  · exact hp

/-- The first components of the rotated pairs. -/
theorem first_at (x0 : FVec Ideal S2x8192x2048 .bf16) (x1 : FVec Ideal S2048x4608 .f32) (x2 : FVec Ideal S2x128 .f32) (b : Fin 2) (n : Fin 8192) (a : Fin 2) (l : Fin 128) :
    val_main_v68 (F := Ideal) x0 x1 x2 (ix5 b n a (rot l) (0 : Fin 2))
      = normed x0 x1 x2 b n a (first l) * (Host.cos (F := Ideal) (φ := .f32) angle (ix2 n (rot l)) : EReal) - normed x0 x1 x2 b n a (second l) * (Host.sin (F := Ideal) (φ := .f32) angle (ix2 n (rot l)) : EReal) := by
  unfold val_main_v68
  have hi : ∀ j : Fin 5, ((ix5 b n a (rot l) (0 : Fin 1) : S2x8192x2x64x1.Idx) j).val = ((ix5 b n a (rot l) (0 : Fin 2) : S2x8192x2x64x2.Idx) j).val := fun j => by fin_cases j <;> rfl
  refine (concatenate_pair_apply_left (t := S2x8192x2x64x2) (s₁ := S2x8192x2x64x1) (s₂ := S2x8192x2x64x1) 4 (val_main_v66 (F := Ideal) x0 x1 x2) (val_main_v67 (F := Ideal) x0 x1 x2) concatenates_S2x8192x2x64x1_S2x8192x2x64x1_S2x8192x2x64x2_d4 (ix5 b n a (rot l) (0 : Fin 2)) rfl (ix5 b n a (rot l) (0 : Fin 1)) hi).trans ?_
  rw [val_main_v66_apply]
  have e : idx_main_v66 (ix5 b n a (rot l) (0 : Fin 1)) = ix4 b n a (rot l) := funext fun j => Fin.ext (by fin_cases j <;> rfl)
  rw [e, val_main_v60_apply, val_main_v57_apply, val_main_v59_apply,
    even_at x0 x1 x2 b n a (rot l) (first l) (by show 2 * (l.val % 64) = 0 + 2 * (l.val % 64); omega),
    odd_at x0 x1 x2 b n a (rot l) (second l) (by show 2 * (l.val % 64) + 1 = 1 + 2 * (l.val % 64); omega),
    cos_at _ n (rot l) rfl rfl, sin_at _ n (rot l) rfl rfl]
  rfl

/-- The second ones. -/
theorem second_at (x0 : FVec Ideal S2x8192x2048 .bf16) (x1 : FVec Ideal S2048x4608 .f32) (x2 : FVec Ideal S2x128 .f32) (b : Fin 2) (n : Fin 8192) (a : Fin 2) (l : Fin 128) :
    val_main_v68 (F := Ideal) x0 x1 x2 (ix5 b n a (rot l) (1 : Fin 2))
      = normed x0 x1 x2 b n a (first l) * (Host.sin (F := Ideal) (φ := .f32) angle (ix2 n (rot l)) : EReal) + normed x0 x1 x2 b n a (second l) * (Host.cos (F := Ideal) (φ := .f32) angle (ix2 n (rot l)) : EReal) := by
  unfold val_main_v68
  have hi : ∀ j : Fin 5, j ≠ 4 → ((ix5 b n a (rot l) (0 : Fin 1) : S2x8192x2x64x1.Idx) j).val = ((ix5 b n a (rot l) (1 : Fin 2) : S2x8192x2x64x2.Idx) j).val := fun j hj => by
    fin_cases j
    · rfl
    · rfl
    · rfl
    · rfl
    · exact absurd rfl hj
  refine (concatenate_pair_apply_right (t := S2x8192x2x64x2) (s₁ := S2x8192x2x64x1) (s₂ := S2x8192x2x64x1) 4 (val_main_v66 (F := Ideal) x0 x1 x2) (val_main_v67 (F := Ideal) x0 x1 x2) concatenates_S2x8192x2x64x1_S2x8192x2x64x1_S2x8192x2x64x2_d4 (ix5 b n a (rot l) (1 : Fin 2)) rfl rfl (ix5 b n a (rot l) (0 : Fin 1)) hi rfl).trans ?_
  rw [val_main_v67_apply]
  have e : idx_main_v67 (ix5 b n a (rot l) (0 : Fin 1)) = ix4 b n a (rot l) := funext fun j => Fin.ext (by fin_cases j <;> rfl)
  rw [e, val_main_v65_apply, val_main_v62_apply, val_main_v64_apply,
    even_at x0 x1 x2 b n a (rot l) (first l) (by show 2 * (l.val % 64) = 0 + 2 * (l.val % 64); omega),
    odd_at x0 x1 x2 b n a (rot l) (second l) (by show 2 * (l.val % 64) + 1 = 1 + 2 * (l.val % 64); omega),
    cos_at' _ n (rot l) rfl rfl, sin_at' _ n (rot l) rfl rfl]
  rfl

/-- The order of the channels: the pair's component before the frequency. -/
theorem order_at (x0 : FVec Ideal S2x8192x2048 .bf16) (x1 : FVec Ideal S2048x4608 .f32) (x2 : FVec Ideal S2x128 .f32) (b : Fin 2) (n : Fin 8192) (f : Fin 256) (e : Fin 2) (he : f.val % 128 / 64 = e.val) :
    val_main_v71 (F := Ideal) x0 x1 x2 (ix3 b n f) = val_main_v68 (F := Ideal) x0 x1 x2 (ix5 b n (head f) (rot (lane f)) e) := by
  have hb := b.isLt
  have hn := n.isLt
  have hf := f.isLt
  have hE := e.isLt
  have e1 : idx_main_v71 (ix3 b n f) = ix4 (⟨b.val * 8192 + n.val, by omega⟩ : Fin 16384) (head f) e (rot (lane f)) := by
    refine funext fun j => Fin.ext ?_
    fin_cases j
    · show ((b.val * 8192 + n.val) * 256 + f.val) / 256 = b.val * 8192 + n.val; omega
    · show ((b.val * 8192 + n.val) * 256 + f.val) / 128 % 2 = f.val / 128; omega
    · show ((b.val * 8192 + n.val) * 256 + f.val) / 64 % 2 = e.val; omega
    · show ((b.val * 8192 + n.val) * 256 + f.val) % 64 = f.val % 128 % 64; omega
  have e2 : idx_main_v70 (ix4 (⟨b.val * 8192 + n.val, by omega⟩ : Fin 16384) (head f) e (rot (lane f)))
      = ix4 (⟨b.val * 8192 + n.val, by omega⟩ : Fin 16384) (head f) (rot (lane f)) e := funext fun j => Fin.ext (by fin_cases j <;> rfl)
  have e3 : idx_main_v69 (ix4 (⟨b.val * 8192 + n.val, by omega⟩ : Fin 16384) (head f) (rot (lane f)) e) = ix5 b n (head f) (rot (lane f)) e := by
    have hH : f.val / 128 < 2 := by omega
    have hP : f.val % 128 % 64 < 64 := by omega
    refine funext fun j => Fin.ext ?_
    fin_cases j
    · show ((((b.val * 8192 + n.val) * 2 + f.val / 128) * 64 + f.val % 128 % 64) * 2 + e.val) / 2097152 = b.val
      generalize f.val / 128 = Q at hH ⊢; generalize f.val % 128 % 64 = P at hP ⊢; omega
    · show ((((b.val * 8192 + n.val) * 2 + f.val / 128) * 64 + f.val % 128 % 64) * 2 + e.val) / 256 % 8192 = n.val
      generalize f.val / 128 = Q at hH ⊢; generalize f.val % 128 % 64 = P at hP ⊢; omega
    · show ((((b.val * 8192 + n.val) * 2 + f.val / 128) * 64 + f.val % 128 % 64) * 2 + e.val) / 128 % 2 = f.val / 128
      generalize f.val / 128 = Q at hH ⊢; generalize f.val % 128 % 64 = P at hP ⊢; omega
    · show ((((b.val * 8192 + n.val) * 2 + f.val / 128) * 64 + f.val % 128 % 64) * 2 + e.val) / 2 % 64 = f.val % 128 % 64
      generalize f.val / 128 = Q at hH ⊢; generalize f.val % 128 % 64 = P at hP ⊢; omega
    · show ((((b.val * 8192 + n.val) * 2 + f.val / 128) * 64 + f.val % 128 % 64) * 2 + e.val) % 2 = e.val
      generalize f.val / 128 = Q at hH ⊢; generalize f.val % 128 % 64 = P at hP ⊢; omega
  rw [val_main_v71_apply, e1, val_main_v70_apply, e2, val_main_v69_apply, e3]

theorem row_at (x0 : FVec Ideal S2x8192x2048 .bf16) (x1 : FVec Ideal S2048x4608 .f32) (x2 : FVec Ideal S2x128 .f32) (b : Fin 2) (n : Fin 8192) (f : Fin 256) :
    val_main_v71 (F := Ideal) x0 x1 x2 (ix3 b n f) = row x0 x1 x2 b n f := by
  have hf := f.isLt
  unfold KeyAKernel.row
  by_cases h : f.val % 128 < 64
  · rw [order_at x0 x1 x2 b n f 0 (by show f.val % 128 / 64 = 0; omega)]
    refine Eq.trans ?_ (turned_low _ _ scale_nonneg scale_ne_top _ _ (lane f) h).symm
    rw [KeyAKernel.scale_eq, mul_one]
    exact first_at x0 x1 x2 b n (head f) (lane f)
  · rw [order_at x0 x1 x2 b n f 1 (by show f.val % 128 / 64 = 1; omega)]
    refine Eq.trans ?_ (turned_high _ _ scale_nonneg scale_ne_top _ _ (lane f) h).symm
    rw [KeyAKernel.scale_eq, mul_one]
    exact second_at x0 x1 x2 b n (head f) (lane f)

theorem result_at (x0 : FVec Ideal S2x8192x2048 .bf16) (x1 : FVec Ideal S2048x4608 .f32) (x2 : FVec Ideal S2x128 .f32) (b : Fin 2) (n : Fin 8704) (f : Fin 256) :
    val_main_v73 (F := Ideal) x0 x1 x2 (ix3 b n f) = result x0 x1 x2 b n f := by
  have hn := n.isLt
  rw [val_main_v73_apply]
  show val_main_v72 (F := Ideal) x0 x1 x2 (ix3 b n f) = _
  unfold val_main_v72 KeyAKernel.result
  by_cases h : n.val < 8192
  · rw [dif_pos h]
    refine (pad_apply_of_inside _ _ _ _ _ pads_S2x8192x256_S2x8704x256_000_05120_000 h_S_ (ix3 b n f) (ix3 b (⟨n.val, h⟩ : Fin 8192) f) ?_).trans (row_at x0 x1 x2 b _ f)
    intro a
    fin_cases a
    · show b.val = 0 + b.val * (0 + 1); omega
    · show n.val = 0 + n.val * (0 + 1); omega
    · show f.val = 0 + f.val * (0 + 1); omega
  · rw [dif_neg h]
    refine (pad_apply_of_not_inside _ _ _ _ _ pads_S2x8192x256_S2x8704x256_000_05120_000 h_S_ (ix3 b n f) (1 : Fin 3) ?_).trans (sitofp_zero (φ := .f32))
    show ¬(0 ≤ n.val ∧ (n.val - 0) % (0 + 1) = 0 ∧ (n.val - 0) / (0 + 1) < 8192)
    omega

end Cert.KeyARef
end
-- ==== Proof.KeyAClaim.lean ====
module

public import proofs.«01_k».proof.Defs
public import proofs.«01_k».proof.Proof.KeyAKernel
public import proofs.«01_k».proof.Proof.KeyARef
public import proofs.«01_k».proof.Proof.Gen.KeyA.Frame
public import Idealize.ShloMosaic.Lib.Quiescent

/-! The claim about the first attention's keys' in-projection: the kernel and the reference end with the same result. -/

@[expose] public section

set_option maxRecDepth 16384

noncomputable section

namespace Cert.KeyAClaim

open Idealize.ShloMosaic Idealize.ShloMosaic.TcCoe Idealize.SL.Sem

/-- The kernel's and the reference's results agree on every memory. -/
theorem algebraic : Cert.algebraic_KeyAIdeal_KeyARefIdeal := by
  intro m ρ m' ρ' _ hagree
  refine ⟨fun c => Cert.KeyAKernel.arr m c, ?_, ?_⟩
  · exact (θ_run Cert.KeyAIdeal.defs _ _).mono (fun _ h c => ⟨(h c).1.trans (Cert.KeyAKernel.final m c), (h c).2⟩)
      (Cert.KeyAIdeal.Value.run_blocks (F := Ideal) m ρ)
  · refine (θ_run Cert.KeyARefIdeal.defs _ _).mono (fun _ h c => ⟨(h c).1.trans ?_, (h c).2⟩)
      (Cert.KeyARefIdeal.Value.run (F := Ideal) m' ρ')
    obtain ⟨h0, h1, h2⟩ := hagree c
    rw [Cert.KeyARefIdeal.Read.val_main_v73_eq, h0, h1, h2]
    funext i
    have e : i = ix3 (i 0) (i 1) (i 2) := (ix3_eta i).symm
    exact (congrArg _ e).trans (Cert.KeyARef.result_at _ _ _ (i 0) (i 1) (i 2))

end Cert.KeyAClaim
end
-- ==== Proof.lean ====
module

public import proofs.«01_k».proof.Defs
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.DiffRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.OutC
public import proofs.«01_k».proof.Proof.Gen.OutC.Skeleton
public import proofs.«01_k».proof.Proof.Gen.OutC.Launch
public import proofs.«01_k».proof.Proof.Gen.OutC.Points
public import proofs.«01_k».proof.Proof.Gen.OutC.Frame
public import proofs.«01_k».proof.Proof.Gen.OutCIdeal
public import proofs.«01_k».proof.Proof.Gen.OutCIdeal.Skeleton
public import proofs.«01_k».proof.Proof.Gen.OutCIdeal.Launch
public import proofs.«01_k».proof.Proof.Gen.OutCIdeal.Points
public import proofs.«01_k».proof.Proof.Gen.OutCIdeal.Frame
public import proofs.«01_k».proof.Proof.Gen.OutCIdeal.Value
public import proofs.«01_k».proof.Proof.Gen.OutCRefIdeal
public import proofs.«01_k».proof.Proof.Gen.OutCRefIdeal.Run
public import proofs.«01_k».proof.Proof.Gen.OutCRefIdeal.Read
public import proofs.«01_k».proof.Proof.Gen.OutAb
public import proofs.«01_k».proof.Proof.Gen.OutAb.Skeleton
public import proofs.«01_k».proof.Proof.Gen.OutAb.Launch
public import proofs.«01_k».proof.Proof.Gen.OutAb.Points
public import proofs.«01_k».proof.Proof.Gen.OutAb.Frame
public import proofs.«01_k».proof.Proof.Gen.OutAbIdeal
public import proofs.«01_k».proof.Proof.Gen.OutAbIdeal.Skeleton
public import proofs.«01_k».proof.Proof.Gen.OutAbIdeal.Launch
public import proofs.«01_k».proof.Proof.Gen.OutAbIdeal.Points
public import proofs.«01_k».proof.Proof.Gen.OutAbIdeal.Frame
public import proofs.«01_k».proof.Proof.Gen.OutAbIdeal.Value
public import proofs.«01_k».proof.Proof.Gen.OutAbRefIdeal
public import proofs.«01_k».proof.Proof.Gen.OutAbRefIdeal.Run
public import proofs.«01_k».proof.Proof.Gen.OutAbRefIdeal.Read
public import proofs.«01_k».proof.Proof.Gen.HyIn
public import proofs.«01_k».proof.Proof.Gen.HyIn.Skeleton
public import proofs.«01_k».proof.Proof.Gen.HyIn.Launch
public import proofs.«01_k».proof.Proof.Gen.HyIn.Points
public import proofs.«01_k».proof.Proof.Gen.HyIn.Frame
public import proofs.«01_k».proof.Proof.Gen.HyInIdeal
public import proofs.«01_k».proof.Proof.Gen.HyInIdeal.Skeleton
public import proofs.«01_k».proof.Proof.Gen.HyInIdeal.Launch
public import proofs.«01_k».proof.Proof.Gen.HyInIdeal.Points
public import proofs.«01_k».proof.Proof.Gen.HyInIdeal.Frame
public import proofs.«01_k».proof.Proof.Gen.HyInIdeal.Value
public import proofs.«01_k».proof.Proof.Gen.HyInRefIdeal
public import proofs.«01_k».proof.Proof.Gen.HyInRefIdeal.Run
public import proofs.«01_k».proof.Proof.Gen.HyInRefIdeal.Read
public import proofs.«01_k».proof.Proof.Gen.Val
public import proofs.«01_k».proof.Proof.Gen.Val.Skeleton
public import proofs.«01_k».proof.Proof.Gen.Val.Launch
public import proofs.«01_k».proof.Proof.Gen.Val.Points
public import proofs.«01_k».proof.Proof.Gen.Val.Frame
public import proofs.«01_k».proof.Proof.Gen.ValIdeal
public import proofs.«01_k».proof.Proof.Gen.ValIdeal.Skeleton
public import proofs.«01_k».proof.Proof.Gen.ValIdeal.Launch
public import proofs.«01_k».proof.Proof.Gen.ValIdeal.Points
public import proofs.«01_k».proof.Proof.Gen.ValIdeal.Frame
public import proofs.«01_k».proof.Proof.Gen.ValIdeal.Value
public import proofs.«01_k».proof.Proof.Gen.ValRefIdeal
public import proofs.«01_k».proof.Proof.Gen.ValRefIdeal.Run
public import proofs.«01_k».proof.Proof.Gen.ValRefIdeal.Read
public import proofs.«01_k».proof.Proof.Gen.Qry
public import proofs.«01_k».proof.Proof.Gen.Qry.Skeleton
public import proofs.«01_k».proof.Proof.Gen.Qry.Launch
public import proofs.«01_k».proof.Proof.Gen.Qry.Points
public import proofs.«01_k».proof.Proof.Gen.Qry.Frame
public import proofs.«01_k».proof.Proof.Gen.QryIdeal
public import proofs.«01_k».proof.Proof.Gen.QryIdeal.Skeleton
public import proofs.«01_k».proof.Proof.Gen.QryIdeal.Launch
public import proofs.«01_k».proof.Proof.Gen.QryIdeal.Points
public import proofs.«01_k».proof.Proof.Gen.QryIdeal.Frame
public import proofs.«01_k».proof.Proof.Gen.QryIdeal.Value
public import proofs.«01_k».proof.Proof.Gen.QryRefIdeal
public import proofs.«01_k».proof.Proof.Gen.QryRefIdeal.Run
public import proofs.«01_k».proof.Proof.Gen.QryRefIdeal.Read
public import proofs.«01_k».proof.Proof.Gen.Key
public import proofs.«01_k».proof.Proof.Gen.Key.Skeleton
public import proofs.«01_k».proof.Proof.Gen.Key.Launch
public import proofs.«01_k».proof.Proof.Gen.Key.Points
public import proofs.«01_k».proof.Proof.Gen.Key.Frame
public import proofs.«01_k».proof.Proof.Gen.KeyIdeal
public import proofs.«01_k».proof.Proof.Gen.KeyIdeal.Skeleton
public import proofs.«01_k».proof.Proof.Gen.KeyIdeal.Launch
public import proofs.«01_k».proof.Proof.Gen.KeyIdeal.Points
public import proofs.«01_k».proof.Proof.Gen.KeyIdeal.Frame
public import proofs.«01_k».proof.Proof.Gen.KeyIdeal.Value
public import proofs.«01_k».proof.Proof.Gen.KeyRefIdeal
public import proofs.«01_k».proof.Proof.Gen.KeyRefIdeal.Run
public import proofs.«01_k».proof.Proof.Gen.KeyRefIdeal.Read
public import proofs.«01_k».proof.Proof.Gen.ValA
public import proofs.«01_k».proof.Proof.Gen.ValA.Skeleton
public import proofs.«01_k».proof.Proof.Gen.ValA.Launch
public import proofs.«01_k».proof.Proof.Gen.ValA.Points
public import proofs.«01_k».proof.Proof.Gen.ValA.Frame
public import proofs.«01_k».proof.Proof.Gen.ValAIdeal
public import proofs.«01_k».proof.Proof.Gen.ValAIdeal.Skeleton
public import proofs.«01_k».proof.Proof.Gen.ValAIdeal.Launch
public import proofs.«01_k».proof.Proof.Gen.ValAIdeal.Points
public import proofs.«01_k».proof.Proof.Gen.ValAIdeal.Frame
public import proofs.«01_k».proof.Proof.Gen.ValAIdeal.Value
public import proofs.«01_k».proof.Proof.Gen.ValARefIdeal
public import proofs.«01_k».proof.Proof.Gen.ValARefIdeal.Run
public import proofs.«01_k».proof.Proof.Gen.ValARefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.QryA
public import proofs.«01_k».proof.Proof.Gen.QryA.Skeleton
public import proofs.«01_k».proof.Proof.Gen.QryA.Launch
public import proofs.«01_k».proof.Proof.Gen.QryA.Points
public import proofs.«01_k».proof.Proof.Gen.QryA.Frame
public import proofs.«01_k».proof.Proof.Gen.QryAIdeal
public import proofs.«01_k».proof.Proof.Gen.QryAIdeal.Skeleton
public import proofs.«01_k».proof.Proof.Gen.QryAIdeal.Launch
public import proofs.«01_k».proof.Proof.Gen.QryAIdeal.Points
public import proofs.«01_k».proof.Proof.Gen.QryAIdeal.Frame
public import proofs.«01_k».proof.Proof.Gen.QryAIdeal.Value
public import proofs.«01_k».proof.Proof.Gen.QryARefIdeal
public import proofs.«01_k».proof.Proof.Gen.QryARefIdeal.Run
public import proofs.«01_k».proof.Proof.Gen.QryARefIdeal.Read
public import proofs.«01_k».proof.Proof.Gen.KeyA
public import proofs.«01_k».proof.Proof.Gen.KeyA.Skeleton
public import proofs.«01_k».proof.Proof.Gen.KeyA.Launch
public import proofs.«01_k».proof.Proof.Gen.KeyA.Points
public import proofs.«01_k».proof.Proof.Gen.KeyA.Frame
public import proofs.«01_k».proof.Proof.Gen.KeyAIdeal
public import proofs.«01_k».proof.Proof.Gen.KeyAIdeal.Skeleton
public import proofs.«01_k».proof.Proof.Gen.KeyAIdeal.Launch
public import proofs.«01_k».proof.Proof.Gen.KeyAIdeal.Points
public import proofs.«01_k».proof.Proof.Gen.KeyAIdeal.Frame
public import proofs.«01_k».proof.Proof.Gen.KeyAIdeal.Value
public import proofs.«01_k».proof.Proof.Gen.KeyARefIdeal
public import proofs.«01_k».proof.Proof.Gen.KeyARefIdeal.Run
public import proofs.«01_k».proof.Proof.Gen.KeyARefIdeal.Read
public import proofs.«01_k».proof.Proof.DiffClaim
public import proofs.«01_k».proof.Proof.FfnClaim
public import proofs.«01_k».proof.Proof.GqaClaim
public import proofs.«01_k».proof.Proof.OutCClaim
public import proofs.«01_k».proof.Proof.OutAbClaim
public import proofs.«01_k».proof.Proof.HyInClaim
public import proofs.«01_k».proof.Proof.ValClaim
public import proofs.«01_k».proof.Proof.QryClaim
public import proofs.«01_k».proof.Proof.KeyClaim
public import proofs.«01_k».proof.Proof.ValAClaim
public import proofs.«01_k».proof.Proof.ModClaim
public import proofs.«01_k».proof.Proof.QryAClaim
public import proofs.«01_k».proof.Proof.KeyAClaim
public import Idealize.ShloMosaic.Adequacy
public import Idealize.ShloMosaic.Init
public import Idealize.ShloMosaic.Lib.Quiescent

@[expose] public section

noncomputable section

namespace Cert.Proof

open Idealize.ShloMosaic Idealize.SL.Sem

/-- The reference `DiffRefIdeal` runs, keeps its arguments, and ends with every semaphore counter zero. -/
theorem frame_DiffRef : Cert.quiescent_DiffRefIdeal := fun m ρ _ =>
  (θ_run Cert.DiffRefIdeal.defs _ _).mono (fun r h => ⟨fun c => (h c).2, sem_eq_zero_of_no_sems (by decide) r.2⟩)
    (Cert.DiffRefIdeal.Value.run (F := Ideal) m ρ)

/-- The reference `FfnRefIdeal` runs, keeps its arguments, and ends with every semaphore counter zero. -/
theorem frame_FfnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference `GqaRefIdeal` runs, keeps its arguments, and ends with every semaphore counter zero. -/
theorem frame_GqaRef : Cert.quiescent_GqaRefIdeal := fun m ρ _ =>
  (θ_run Cert.GqaRefIdeal.defs _ _).mono (fun r h => ⟨fun c => (h c).2, sem_eq_zero_of_no_sems (by decide) r.2⟩)
    (Cert.GqaRefIdeal.Value.run (F := Ideal) m ρ)

/-- The reference `OutCRefIdeal` runs, keeps its arguments, and ends with every semaphore counter zero. -/
theorem frame_OutCRef : Cert.quiescent_OutCRefIdeal := fun m ρ _ =>
  (θ_run Cert.OutCRefIdeal.defs _ _).mono (fun r h => ⟨fun c => (h c).2, sem_eq_zero_of_no_sems (by decide) r.2⟩)
    (Cert.OutCRefIdeal.Value.run (F := Ideal) m ρ)

/-- The reference `OutAbRefIdeal` runs, keeps its arguments, and ends with every semaphore counter zero. -/
theorem frame_OutAbRef : Cert.quiescent_OutAbRefIdeal := fun m ρ _ =>
  (θ_run Cert.OutAbRefIdeal.defs _ _).mono (fun r h => ⟨fun c => (h c).2, sem_eq_zero_of_no_sems (by decide) r.2⟩)
    (Cert.OutAbRefIdeal.Value.run (F := Ideal) m ρ)

/-- The reference `HyInRefIdeal` runs, keeps its arguments, and ends with every semaphore counter zero. -/
theorem frame_HyInRef : Cert.quiescent_HyInRefIdeal := fun m ρ _ =>
  (θ_run Cert.HyInRefIdeal.defs _ _).mono (fun r h => ⟨fun c => (h c).2, sem_eq_zero_of_no_sems (by decide) r.2⟩)
    (Cert.HyInRefIdeal.Value.run (F := Ideal) m ρ)

/-- The reference `ValRefIdeal` runs, keeps its arguments, and ends with every semaphore counter zero. -/
theorem frame_ValRef : Cert.quiescent_ValRefIdeal := fun m ρ _ =>
  (θ_run Cert.ValRefIdeal.defs _ _).mono (fun r h => ⟨fun c => (h c).2, sem_eq_zero_of_no_sems (by decide) r.2⟩)
    (Cert.ValRefIdeal.Value.run (F := Ideal) m ρ)

/-- The reference `QryRefIdeal` runs, keeps its arguments, and ends with every semaphore counter zero. -/
theorem frame_QryRef : Cert.quiescent_QryRefIdeal := fun m ρ _ =>
  (θ_run Cert.QryRefIdeal.defs _ _).mono (fun r h => ⟨fun c => (h c).2, sem_eq_zero_of_no_sems (by decide) r.2⟩)
    (Cert.QryRefIdeal.Value.run (F := Ideal) m ρ)

/-- The reference `KeyRefIdeal` runs, keeps its arguments, and ends with every semaphore counter zero. -/
theorem frame_KeyRef : Cert.quiescent_KeyRefIdeal := fun m ρ _ =>
  (θ_run Cert.KeyRefIdeal.defs _ _).mono (fun r h => ⟨fun c => (h c).2, sem_eq_zero_of_no_sems (by decide) r.2⟩)
    (Cert.KeyRefIdeal.Value.run (F := Ideal) m ρ)

/-- The reference `ValARefIdeal` runs, keeps its arguments, and ends with every semaphore counter zero. -/
theorem frame_ValARef : Cert.quiescent_ValARefIdeal := fun m ρ _ =>
  (θ_run Cert.ValARefIdeal.defs _ _).mono (fun r h => ⟨fun c => (h c).2, sem_eq_zero_of_no_sems (by decide) r.2⟩)
    (Cert.ValARefIdeal.Value.run (F := Ideal) m ρ)

/-- The reference `ModRefIdeal` runs, keeps its arguments, and ends with every semaphore counter zero. -/
theorem frame_ModRef : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The reference `QryARefIdeal` runs, keeps its arguments, and ends with every semaphore counter zero. -/
theorem frame_QryARef : Cert.quiescent_QryARefIdeal := fun m ρ _ =>
  (θ_run Cert.QryARefIdeal.defs _ _).mono (fun r h => ⟨fun c => (h c).2, sem_eq_zero_of_no_sems (by decide) r.2⟩)
    (Cert.QryARefIdeal.Value.run (F := Ideal) m ρ)

/-- The reference `KeyARefIdeal` runs, keeps its arguments, and ends with every semaphore counter zero. -/
theorem frame_KeyARef : Cert.quiescent_KeyARefIdeal := fun m ρ _ =>
  (θ_run Cert.KeyARefIdeal.defs _ _).mono (fun r h => ⟨fun c => (h c).2, sem_eq_zero_of_no_sems (by decide) r.2⟩)
    (Cert.KeyARefIdeal.Value.run (F := Ideal) m ρ)

/-- Every claim that `Defs` states. -/
theorem claim : Cert.Claim :=
  ⟨Cert.Diff.Gen.facts, Cert.DiffIdeal.Gen.facts, Cert.DiffRefIdeal.Gen.facts, Cert.Ffn.Gen.facts, Cert.FfnIdeal.Gen.facts, Cert.FfnRefIdeal.Gen.facts, Cert.Gqa.Gen.facts, Cert.GqaIdeal.Gen.facts, Cert.GqaRefIdeal.Gen.facts, Cert.OutC.Gen.facts, Cert.OutCIdeal.Gen.facts, Cert.OutCRefIdeal.Gen.facts, Cert.OutAb.Gen.facts, Cert.OutAbIdeal.Gen.facts, Cert.OutAbRefIdeal.Gen.facts, Cert.HyIn.Gen.facts, Cert.HyInIdeal.Gen.facts, Cert.HyInRefIdeal.Gen.facts, Cert.Val.Gen.facts, Cert.ValIdeal.Gen.facts, Cert.ValRefIdeal.Gen.facts, Cert.Qry.Gen.facts, Cert.QryIdeal.Gen.facts, Cert.QryRefIdeal.Gen.facts, Cert.Key.Gen.facts, Cert.KeyIdeal.Gen.facts, Cert.KeyRefIdeal.Gen.facts, Cert.ValA.Gen.facts, Cert.ValAIdeal.Gen.facts, Cert.ValARefIdeal.Gen.facts, Cert.Mod.Gen.facts, Cert.ModIdeal.Gen.facts, Cert.ModRefIdeal.Gen.facts, Cert.QryA.Gen.facts, Cert.QryAIdeal.Gen.facts, Cert.QryARefIdeal.Gen.facts, Cert.KeyA.Gen.facts, Cert.KeyAIdeal.Gen.facts, Cert.KeyARefIdeal.Gen.facts, Cert.DiffClaim.preFacts, Cert.GqaClaim.preFacts,
   fun m ρ _ => Cert.Diff.Gen.frame m ρ,
   fun m ρ _ => Cert.DiffIdeal.Gen.frame m ρ,
   fun m ρ _ => Cert.DiffIdeal.Gen.frame m ρ,
   frame_DiffRef,
   fun m ρ _ => frame_DiffRef m ρ trivial,
   fun m ρ _ => Cert.Ffn.Gen.frame m ρ,
   fun m ρ _ => Cert.FfnIdeal.Gen.frame m ρ,
   frame_FfnRef,
   fun m ρ _ => Cert.Gqa.Gen.frame m ρ,
   fun m ρ _ => Cert.GqaIdeal.Gen.frame m ρ,
   fun m ρ _ => Cert.GqaIdeal.Gen.frame m ρ,
   frame_GqaRef,
   fun m ρ _ => frame_GqaRef m ρ trivial,
   fun m ρ _ => Cert.OutC.Gen.frame m ρ,
   fun m ρ _ => Cert.OutCIdeal.Gen.frame m ρ,
   frame_OutCRef,
   fun m ρ _ => Cert.OutAb.Gen.frame m ρ,
   fun m ρ _ => Cert.OutAbIdeal.Gen.frame m ρ,
   frame_OutAbRef,
   fun m ρ _ => Cert.HyIn.Gen.frame m ρ,
   fun m ρ _ => Cert.HyInIdeal.Gen.frame m ρ,
   frame_HyInRef,
   fun m ρ _ => Cert.Val.Gen.frame m ρ,
   fun m ρ _ => Cert.ValIdeal.Gen.frame m ρ,
   frame_ValRef,
   fun m ρ _ => Cert.Qry.Gen.frame m ρ,
   fun m ρ _ => Cert.QryIdeal.Gen.frame m ρ,
   frame_QryRef,
   fun m ρ _ => Cert.Key.Gen.frame m ρ,
   fun m ρ _ => Cert.KeyIdeal.Gen.frame m ρ,
   frame_KeyRef,
   fun m ρ _ => Cert.ValA.Gen.frame m ρ,
   fun m ρ _ => Cert.ValAIdeal.Gen.frame m ρ,
   frame_ValARef,
   fun m ρ _ => Cert.Mod.Gen.frame m ρ,
   fun m ρ _ => Cert.ModIdeal.Gen.frame m ρ,
   frame_ModRef,
   fun m ρ _ => Cert.QryA.Gen.frame m ρ,
   fun m ρ _ => Cert.QryAIdeal.Gen.frame m ρ,
   frame_QryARef,
   fun m ρ _ => Cert.KeyA.Gen.frame m ρ,
   fun m ρ _ => Cert.KeyAIdeal.Gen.frame m ρ,
   frame_KeyARef,
   trivial,
   Cert.DiffClaim.algebraic,
   trivial,
   Cert.FfnClaim.algebraic,
   trivial,
   Cert.GqaClaim.algebraic,
   trivial,
   Cert.OutCClaim.algebraic,
   trivial,
   Cert.OutAbClaim.algebraic,
   trivial,
   Cert.HyInClaim.algebraic,
   trivial,
   Cert.ValClaim.algebraic,
   trivial,
   Cert.QryClaim.algebraic,
   trivial,
   Cert.KeyClaim.algebraic,
   trivial,
   Cert.ValAClaim.algebraic,
   trivial,
   Cert.ModClaim.algebraic,
   trivial,
   Cert.QryAClaim.algebraic,
   trivial,
   Cert.KeyAClaim.algebraic⟩

end Cert.Proof

end
